-- ==== Defs.lean ====
def Pre_Kernel [hPre_ids : Cert.Pre_ids.Facts] (m : (ℓ : Loc Cert.Kernel.nD Cert.Kernel.τ Cert.Kernel.sig) → Buf (Elt Bits) ℓ) : Prop :=
  ∀ c : Dev Cert.Kernel.nD,
    (Cert.Pre_ids.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_ids : Cert.Pre_ids.Facts] (m : (ℓ : Loc Cert.KernelIdeal.nD Cert.KernelIdeal.τ Cert.KernelIdeal.sig) → Buf (Elt Ideal) ℓ) : Prop :=
  ∀ c : Dev Cert.KernelIdeal.nD,
    (Cert.Pre_ids.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_KernelIdeal_pre [hPre_pre : Cert.Pre_pre.Facts] (m : (ℓ : Loc Cert.KernelIdeal.nD Cert.KernelIdeal.τ Cert.KernelIdeal.sig) → Buf (Elt Ideal) ℓ) : Prop :=
  ∀ c : Dev Cert.KernelIdeal.nD,
    (Cert.Pre_pre.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_pre [hPre_pre : Cert.Pre_pre.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pre.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Dense (m : (ℓ : Loc Cert.Dense.nD Cert.Dense.τ Cert.Dense.sig) → Buf (Elt Bits) ℓ) : Prop :=
  True

def Pre_DenseIdeal (m : (ℓ : Loc Cert.DenseIdeal.nD Cert.DenseIdeal.τ Cert.DenseIdeal.sig) → Buf (Elt Ideal) ℓ) : Prop :=
  True

def Pre_DenseReferenceIdeal (m : (ℓ : Loc Cert.DenseReferenceIdeal.nD Cert.DenseReferenceIdeal.τ Cert.DenseReferenceIdeal.sig) → Buf (Elt Ideal) ℓ) : Prop :=
  True

def quiescent_Kernel [hKernel : Cert.Kernel.Facts] [hPre_ids : Cert.Pre_ids.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] [hPre_ids : Cert.Pre_ids.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_pre [hKernelIdeal : Cert.KernelIdeal.Facts] [hPre_pre : Cert.Pre_pre.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pre m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_pre [hReferenceIdeal : Cert.ReferenceIdeal.Facts] [hPre_pre : Cert.Pre_pre.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pre m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Dense [hDense : Cert.Dense.Facts] : Prop :=
  ∀ (m : (ℓ : Loc Cert.Dense.nD Cert.Dense.τ Cert.Dense.sig) → Buf (Elt Bits) ℓ) (g : Dev Cert.Dense.nD → PrngReg), Pre_Dense m →
    θ_run (Cert.Dense.defs (F := Bits)) (onTc (τ := Cert.Dense.τ) (Cert.Dense.main (F := Bits))) ⟨m, fun _ => 0, g⟩ (fun r => (∀ c : Dev Cert.Dense.nD,
      r.2.mem ((c.tc : Thread Cert.Dense.nD Cert.Dense.τ).loc Cert.Dense.main_arg0) = m ((c.tc : Thread Cert.Dense.nD Cert.Dense.τ).loc Cert.Dense.main_arg0)
      ∧ r.2.mem ((c.tc : Thread Cert.Dense.nD Cert.Dense.τ).loc Cert.Dense.main_arg1) = m ((c.tc : Thread Cert.Dense.nD Cert.Dense.τ).loc Cert.Dense.main_arg1)
      ∧ r.2.mem ((c.tc : Thread Cert.Dense.nD Cert.Dense.τ).loc Cert.Dense.main_arg2) = m ((c.tc : Thread Cert.Dense.nD Cert.Dense.τ).loc Cert.Dense.main_arg2))
      ∧ r.2.sem = fun _ => 0)

def quiescent_DenseIdeal [hDenseIdeal : Cert.DenseIdeal.Facts] : Prop :=
  ∀ (m : (ℓ : Loc Cert.DenseIdeal.nD Cert.DenseIdeal.τ Cert.DenseIdeal.sig) → Buf (Elt Ideal) ℓ) (g : Dev Cert.DenseIdeal.nD → PrngReg), Pre_DenseIdeal m →
    θ_run (Cert.DenseIdeal.defs (F := Ideal)) (onTc (τ := Cert.DenseIdeal.τ) (Cert.DenseIdeal.main (F := Ideal))) ⟨m, fun _ => 0, g⟩ (fun r => (∀ c : Dev Cert.DenseIdeal.nD,
      r.2.mem ((c.tc : Thread Cert.DenseIdeal.nD Cert.DenseIdeal.τ).loc Cert.DenseIdeal.main_arg0) = m ((c.tc : Thread Cert.DenseIdeal.nD Cert.DenseIdeal.τ).loc Cert.DenseIdeal.main_arg0)
      ∧ r.2.mem ((c.tc : Thread Cert.DenseIdeal.nD Cert.DenseIdeal.τ).loc Cert.DenseIdeal.main_arg1) = m ((c.tc : Thread Cert.DenseIdeal.nD Cert.DenseIdeal.τ).loc Cert.DenseIdeal.main_arg1)
      ∧ r.2.mem ((c.tc : Thread Cert.DenseIdeal.nD Cert.DenseIdeal.τ).loc Cert.DenseIdeal.main_arg2) = m ((c.tc : Thread Cert.DenseIdeal.nD Cert.DenseIdeal.τ).loc Cert.DenseIdeal.main_arg2))
      ∧ r.2.sem = fun _ => 0)

def quiescent_DenseReferenceIdeal [hDenseReferenceIdeal : Cert.DenseReferenceIdeal.Facts] : Prop :=
  ∀ (m : (ℓ : Loc Cert.DenseReferenceIdeal.nD Cert.DenseReferenceIdeal.τ Cert.DenseReferenceIdeal.sig) → Buf (Elt Ideal) ℓ) (g : Dev Cert.DenseReferenceIdeal.nD → PrngReg), Pre_DenseReferenceIdeal m →
    θ_run (Cert.DenseReferenceIdeal.defs (F := Ideal)) (onTc (τ := Cert.DenseReferenceIdeal.τ) (Cert.DenseReferenceIdeal.main (F := Ideal))) ⟨m, fun _ => 0, g⟩ (fun r => (∀ c : Dev Cert.DenseReferenceIdeal.nD,
      r.2.mem ((c.tc : Thread Cert.DenseReferenceIdeal.nD Cert.DenseReferenceIdeal.τ).loc Cert.DenseReferenceIdeal.main_arg0) = m ((c.tc : Thread Cert.DenseReferenceIdeal.nD Cert.DenseReferenceIdeal.τ).loc Cert.DenseReferenceIdeal.main_arg0)
      ∧ r.2.mem ((c.tc : Thread Cert.DenseReferenceIdeal.nD Cert.DenseReferenceIdeal.τ).loc Cert.DenseReferenceIdeal.main_arg1) = m ((c.tc : Thread Cert.DenseReferenceIdeal.nD Cert.DenseReferenceIdeal.τ).loc Cert.DenseReferenceIdeal.main_arg1)
      ∧ r.2.mem ((c.tc : Thread Cert.DenseReferenceIdeal.nD Cert.DenseReferenceIdeal.τ).loc Cert.DenseReferenceIdeal.main_arg2) = m ((c.tc : Thread Cert.DenseReferenceIdeal.nD Cert.DenseReferenceIdeal.τ).loc Cert.DenseReferenceIdeal.main_arg2))
      ∧ r.2.sem = fun _ => 0)

def preserves_Kernel_KernelIdeal : Prop :=
  True

def algebraic_KernelIdeal_ReferenceIdeal_pre_pre [hKernelIdeal : Cert.KernelIdeal.Facts] [hReferenceIdeal : Cert.ReferenceIdeal.Facts] [hPre_pre : Cert.Pre_pre.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pre m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v75) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Dense_DenseIdeal : Prop :=
  True

def algebraic_DenseIdeal_DenseReferenceIdeal [hDenseIdeal : Cert.DenseIdeal.Facts] [hDenseReferenceIdeal : Cert.DenseReferenceIdeal.Facts] : Prop :=
  ∀ (m : (ℓ : Loc Cert.DenseIdeal.nD Cert.DenseIdeal.τ Cert.DenseIdeal.sig) → Buf (Elt Ideal) ℓ) (g : Dev Cert.DenseIdeal.nD → PrngReg)
    (m' : (ℓ : Loc Cert.DenseReferenceIdeal.nD Cert.DenseReferenceIdeal.τ Cert.DenseReferenceIdeal.sig) → Buf (Elt Ideal) ℓ) (g' : Dev Cert.DenseReferenceIdeal.nD → PrngReg), Pre_DenseIdeal m →
    (∀ c : Dev Cert.DenseIdeal.nD,
      m' ((c.tc : Thread Cert.DenseReferenceIdeal.nD Cert.DenseReferenceIdeal.τ).loc Cert.DenseReferenceIdeal.main_arg0) = m ((c.tc : Thread Cert.DenseIdeal.nD Cert.DenseIdeal.τ).loc Cert.DenseIdeal.main_arg0)
      ∧ m' ((c.tc : Thread Cert.DenseReferenceIdeal.nD Cert.DenseReferenceIdeal.τ).loc Cert.DenseReferenceIdeal.main_arg1) = m ((c.tc : Thread Cert.DenseIdeal.nD Cert.DenseIdeal.τ).loc Cert.DenseIdeal.main_arg1)
      ∧ m' ((c.tc : Thread Cert.DenseReferenceIdeal.nD Cert.DenseReferenceIdeal.τ).loc Cert.DenseReferenceIdeal.main_arg2) = m ((c.tc : Thread Cert.DenseIdeal.nD Cert.DenseIdeal.τ).loc Cert.DenseIdeal.main_arg2)) →
    ∃ (v0 : (c : Dev Cert.DenseIdeal.nD) → Buf (Elt Ideal) ((c.tc : Thread Cert.DenseIdeal.nD Cert.DenseIdeal.τ).loc Cert.DenseIdeal.main_v3_0)) (v1 : (c : Dev Cert.DenseIdeal.nD) → Buf (Elt Ideal) ((c.tc : Thread Cert.DenseIdeal.nD Cert.DenseIdeal.τ).loc Cert.DenseIdeal.main_v3_1)) (v2 : (c : Dev Cert.DenseIdeal.nD) → Buf (Elt Ideal) ((c.tc : Thread Cert.DenseIdeal.nD Cert.DenseIdeal.τ).loc Cert.DenseIdeal.main_v3_2)) (v3 : (c : Dev Cert.DenseIdeal.nD) → Buf (Elt Ideal) ((c.tc : Thread Cert.DenseIdeal.nD Cert.DenseIdeal.τ).loc Cert.DenseIdeal.main_v3_3)) (v4 : (c : Dev Cert.DenseIdeal.nD) → Buf (Elt Ideal) ((c.tc : Thread Cert.DenseIdeal.nD Cert.DenseIdeal.τ).loc Cert.DenseIdeal.main_v3_4)) (v5 : (c : Dev Cert.DenseIdeal.nD) → Buf (Elt Ideal) ((c.tc : Thread Cert.DenseIdeal.nD Cert.DenseIdeal.τ).loc Cert.DenseIdeal.main_v3_5)),
      θ_run (Cert.DenseIdeal.defs (F := Ideal)) (onTc (τ := Cert.DenseIdeal.τ) (Cert.DenseIdeal.main (F := Ideal))) ⟨m, fun _ => 0, g⟩ (fun r => ∀ c : Dev Cert.DenseIdeal.nD,
          r.2.mem ((c.tc : Thread Cert.DenseIdeal.nD Cert.DenseIdeal.τ).loc Cert.DenseIdeal.main_v3_0) = v0 c
          ∧ r.2.mem ((c.tc : Thread Cert.DenseIdeal.nD Cert.DenseIdeal.τ).loc Cert.DenseIdeal.main_v3_1) = v1 c
          ∧ r.2.mem ((c.tc : Thread Cert.DenseIdeal.nD Cert.DenseIdeal.τ).loc Cert.DenseIdeal.main_v3_2) = v2 c
          ∧ r.2.mem ((c.tc : Thread Cert.DenseIdeal.nD Cert.DenseIdeal.τ).loc Cert.DenseIdeal.main_v3_3) = v3 c
          ∧ r.2.mem ((c.tc : Thread Cert.DenseIdeal.nD Cert.DenseIdeal.τ).loc Cert.DenseIdeal.main_v3_4) = v4 c
          ∧ r.2.mem ((c.tc : Thread Cert.DenseIdeal.nD Cert.DenseIdeal.τ).loc Cert.DenseIdeal.main_v3_5) = v5 c
          ∧ r.2.mem ((c.tc : Thread Cert.DenseIdeal.nD Cert.DenseIdeal.τ).loc Cert.DenseIdeal.main_arg0) = m ((c.tc : Thread Cert.DenseIdeal.nD Cert.DenseIdeal.τ).loc Cert.DenseIdeal.main_arg0)
          ∧ r.2.mem ((c.tc : Thread Cert.DenseIdeal.nD Cert.DenseIdeal.τ).loc Cert.DenseIdeal.main_arg1) = m ((c.tc : Thread Cert.DenseIdeal.nD Cert.DenseIdeal.τ).loc Cert.DenseIdeal.main_arg1)
          ∧ r.2.mem ((c.tc : Thread Cert.DenseIdeal.nD Cert.DenseIdeal.τ).loc Cert.DenseIdeal.main_arg2) = m ((c.tc : Thread Cert.DenseIdeal.nD Cert.DenseIdeal.τ).loc Cert.DenseIdeal.main_arg2))
      ∧ θ_run (Cert.DenseReferenceIdeal.defs (F := Ideal)) (onTc (τ := Cert.DenseReferenceIdeal.τ) (Cert.DenseReferenceIdeal.main (F := Ideal))) ⟨m', fun _ => 0, g'⟩ (fun r => ∀ c : Dev Cert.DenseReferenceIdeal.nD,
          r.2.mem ((c.tc : Thread Cert.DenseReferenceIdeal.nD Cert.DenseReferenceIdeal.τ).loc Cert.DenseReferenceIdeal.main_v77) = v0 c
          ∧ r.2.mem ((c.tc : Thread Cert.DenseReferenceIdeal.nD Cert.DenseReferenceIdeal.τ).loc Cert.DenseReferenceIdeal.main_v69) = v1 c
          ∧ r.2.mem ((c.tc : Thread Cert.DenseReferenceIdeal.nD Cert.DenseReferenceIdeal.τ).loc Cert.DenseReferenceIdeal.main_v71) = v2 c
          ∧ r.2.mem ((c.tc : Thread Cert.DenseReferenceIdeal.nD Cert.DenseReferenceIdeal.τ).loc Cert.DenseReferenceIdeal.main_v73) = v3 c
          ∧ r.2.mem ((c.tc : Thread Cert.DenseReferenceIdeal.nD Cert.DenseReferenceIdeal.τ).loc Cert.DenseReferenceIdeal.main_v75) = v4 c
          ∧ r.2.mem ((c.tc : Thread Cert.DenseReferenceIdeal.nD Cert.DenseReferenceIdeal.τ).loc Cert.DenseReferenceIdeal.main_v80) = v5 c
          ∧ r.2.mem ((c.tc : Thread Cert.DenseReferenceIdeal.nD Cert.DenseReferenceIdeal.τ).loc Cert.DenseReferenceIdeal.main_arg0) = m' ((c.tc : Thread Cert.DenseReferenceIdeal.nD Cert.DenseReferenceIdeal.τ).loc Cert.DenseReferenceIdeal.main_arg0)
          ∧ r.2.mem ((c.tc : Thread Cert.DenseReferenceIdeal.nD Cert.DenseReferenceIdeal.τ).loc Cert.DenseReferenceIdeal.main_arg1) = m' ((c.tc : Thread Cert.DenseReferenceIdeal.nD Cert.DenseReferenceIdeal.τ).loc Cert.DenseReferenceIdeal.main_arg1)
          ∧ r.2.mem ((c.tc : Thread Cert.DenseReferenceIdeal.nD Cert.DenseReferenceIdeal.τ).loc Cert.DenseReferenceIdeal.main_arg2) = m' ((c.tc : Thread Cert.DenseReferenceIdeal.nD Cert.DenseReferenceIdeal.τ).loc Cert.DenseReferenceIdeal.main_arg2))

def Claim : Prop :=
  ∃ (hKernel : Cert.Kernel.Facts) (hKernelIdeal : Cert.KernelIdeal.Facts) (hReferenceIdeal : Cert.ReferenceIdeal.Facts) (hDense : Cert.Dense.Facts) (hDenseIdeal : Cert.DenseIdeal.Facts) (hDenseReferenceIdeal : Cert.DenseReferenceIdeal.Facts) (hPre_ids : Cert.Pre_ids.Facts) (hPre_pre : Cert.Pre_pre.Facts),
    quiescent_Kernel (hKernel := hKernel) (hPre_ids := hPre_ids)
    ∧ quiescent_KernelIdeal (hKernelIdeal := hKernelIdeal) (hPre_ids := hPre_ids)
    ∧ quiescent_KernelIdeal_pre_pre (hKernelIdeal := hKernelIdeal) (hPre_pre := hPre_pre)
    ∧ quiescent_ReferenceIdeal (hReferenceIdeal := hReferenceIdeal)
    ∧ quiescent_ReferenceIdeal_pre_pre (hReferenceIdeal := hReferenceIdeal) (hPre_pre := hPre_pre)
    ∧ quiescent_Dense (hDense := hDense)
    ∧ quiescent_DenseIdeal (hDenseIdeal := hDenseIdeal)
    ∧ quiescent_DenseReferenceIdeal (hDenseReferenceIdeal := hDenseReferenceIdeal)
    ∧ preserves_Kernel_KernelIdeal
    ∧ algebraic_KernelIdeal_ReferenceIdeal_pre_pre (hKernelIdeal := hKernelIdeal) (hReferenceIdeal := hReferenceIdeal) (hPre_pre := hPre_pre)
    ∧ preserves_Dense_DenseIdeal
    ∧ algebraic_DenseIdeal_DenseReferenceIdeal (hDenseIdeal := hDenseIdeal) (hDenseReferenceIdeal := hDenseReferenceIdeal)
-- ==== Pre_ids.lean ====
abbrev S8x1000 : Shape := ⟨2, ![8, 1000]⟩
abbrev S8x1000x4 : Shape := ⟨3, ![8, 1000, 4]⟩
abbrev S_ : Shape := ⟨0, ![]⟩

class Facts : Prop where
  bcast_S_S8x1000 : S_.BroadcastsInDim S8x1000 (![] : Fin 0 → Fin S8x1000.rank)
  reducesTo_S8x1000_S_d0_1 : S8x1000.ReducesTo [0, 1] S_
  h_S_ : 0 < S_.numel

variable [Facts]

def fn {F : FTy → Type} [FloatOps F] (main_arg0 : FVec F S8x1000 .f32) (main_arg1 : FVec F S8x1000x4 .f32) (main_arg2 : IVec S8x1000 32) : IVec S_ 1 :=
  let main_c : IVec S_ 32 := constantI S_ 32 0#32
  let main_v0 : IVec S8x1000 32 := broadcastInDim S8x1000 ![] bcast_S_S8x1000 main_c
  let main_v1 : IVec S8x1000 1 := cmpi .sge main_arg2 main_v0
  let main_c_0 : IVec S_ 32 := constantI S_ 32 81#32
  let main_v2 : IVec S8x1000 32 := broadcastInDim S8x1000 ![] bcast_S_S8x1000 main_c_0
  let main_v3 : IVec S8x1000 1 := cmpi .slt main_arg2 main_v2
  let main_v4 : IVec S8x1000 1 := andi main_v1 main_v3
  let main_c_1 : IVec S_ 1 := constantI S_ 1 1#1
  let main_v5 : IVec S_ 1 := (fun x v => Host.reduce IntOp.andi x v reducesTo_S8x1000_S_d0_1 h_S_) main_v4 main_c_1
  main_v5
-- ==== Pre_pre.lean ====
abbrev S8x1000 : Shape := ⟨2, ![8, 1000]⟩
abbrev S8x1000x4 : Shape := ⟨3, ![8, 1000, 4]⟩
abbrev S_ : Shape := ⟨0, ![]⟩

class Facts : Prop where
  bcast_S_S8x1000 : S_.BroadcastsInDim S8x1000 (![] : Fin 0 → Fin S8x1000.rank)
  reducesTo_S8x1000_S_d0_1 : S8x1000.ReducesTo [0, 1] S_
  h_S_ : 0 < S_.numel
  bcast_S_S8x1000x4 : S_.BroadcastsInDim S8x1000x4 (![] : Fin 0 → Fin S8x1000x4.rank)
  reducesTo_S8x1000x4_S_d0_1_2 : S8x1000x4.ReducesTo [0, 1, 2] S_

variable [Facts]

def fn {F : FTy → Type} [FloatOps F] (main_arg0 : FVec F S8x1000 .f32) (main_arg1 : FVec F S8x1000x4 .f32) (main_arg2 : IVec S8x1000 32) : IVec S_ 1 :=
  let main_c : IVec S_ 32 := constantI S_ 32 0#32
  let main_v0 : IVec S8x1000 32 := broadcastInDim S8x1000 ![] bcast_S_S8x1000 main_c
  let main_v1 : IVec S8x1000 1 := cmpi .sge main_arg2 main_v0
  let main_c_0 : IVec S_ 32 := constantI S_ 32 81#32
  let main_v2 : IVec S8x1000 32 := broadcastInDim S8x1000 ![] bcast_S_S8x1000 main_c_0
  let main_v3 : IVec S8x1000 1 := cmpi .slt main_arg2 main_v2
  let main_v4 : IVec S8x1000 1 := andi main_v1 main_v3
  let main_c_1 : IVec S_ 1 := constantI S_ 1 1#1
  let main_v5 : IVec S_ 1 := (fun x v => Host.reduce IntOp.andi x v reducesTo_S8x1000_S_d0_1 h_S_) main_v4 main_c_1
  let main_cst : FVec F S_ .f32 := constant S_ .f32 0x00000000#32
  let main_v6 : FVec F S8x1000x4 .f32 := broadcastInDim S8x1000x4 ![] bcast_S_S8x1000x4 main_cst
  let main_v7 : IVec S8x1000x4 1 := cmpf .oge main_arg1 main_v6
  let main_cst_2 : FVec F S_ .f32 := constant S_ .f32 0x3F800000#32
  let main_v8 : FVec F S8x1000x4 .f32 := broadcastInDim S8x1000x4 ![] bcast_S_S8x1000x4 main_cst_2
  let main_v9 : IVec S8x1000x4 1 := cmpf .ole main_arg1 main_v8
  let main_v10 : IVec S8x1000x4 1 := andi main_v7 main_v9
  let main_c_3 : IVec S_ 1 := constantI S_ 1 1#1
  let main_v11 : IVec S_ 1 := (fun x v => Host.reduce IntOp.andi x v reducesTo_S8x1000x4_S_d0_1_2 h_S_) main_v10 main_c_3
  let main_v12 : IVec S_ 1 := andi main_v5 main_v11
  main_v12
-- ==== Kernel.lean ====
abbrev S8x1000 : Shape := ⟨2, ![8, 1000]⟩
abbrev S8x1000x4 : Shape := ⟨3, ![8, 1000, 4]⟩
abbrev S_ : Shape := ⟨0, ![]⟩
abbrev S8x24 : Shape := ⟨2, ![8, 24]⟩
abbrev S8x1024 : Shape := ⟨2, ![8, 1024]⟩
abbrev S8192 : Shape := ⟨1, ![8192]⟩
abbrev S8x1000x1 : Shape := ⟨3, ![8, 1000, 1]⟩
abbrev S8x1600 : Shape := ⟨2, ![8, 1600]⟩
abbrev S1024 : Shape := ⟨1, ![1024]⟩
abbrev S96 : Shape := ⟨1, ![96]⟩
abbrev S64 : Shape := ⟨1, ![64]⟩
abbrev S1600 : Shape := ⟨1, ![1600]⟩
abbrev S16 : Shape := ⟨1, ![16]⟩
abbrev S1 : Shape := ⟨1, ![1]⟩
abbrev S1x1600 : Shape := ⟨2, ![1, 1600]⟩
abbrev S8x100x16 : Shape := ⟨3, ![8, 100, 16]⟩
abbrev S8x100x6 : Shape := ⟨3, ![8, 100, 6]⟩

abbrev nBuf : Table → Nat
  | .hbm => 39
  | .local .scVector .vmem => 22
  | _ => 0

abbrev bufTy : (tb : Table) → Fin (nBuf tb) → BufTy
  | .hbm, ⟨0, _⟩ => ⟨S8x1000, .f32⟩
  | .hbm, ⟨1, _⟩ => ⟨S8x1000x4, .f32⟩
  | .hbm, ⟨2, _⟩ => ⟨S8x1000, .i32⟩
  | .hbm, ⟨3, _⟩ => ⟨S_, .f32⟩
  | .hbm, ⟨4, _⟩ => ⟨S8x24, .f32⟩
  | .hbm, ⟨5, _⟩ => ⟨S8x1024, .f32⟩
  | .hbm, ⟨6, _⟩ => ⟨S8192, .f32⟩
  | .hbm, ⟨7, _⟩ => ⟨S8x1000x1, .f32⟩
  | .hbm, ⟨8, _⟩ => ⟨S8x1000, .f32⟩
  | .hbm, ⟨9, _⟩ => ⟨S_, .f32⟩
  | .hbm, ⟨10, _⟩ => ⟨S8x24, .f32⟩
  | .hbm, ⟨11, _⟩ => ⟨S8x1024, .f32⟩
  | .hbm, ⟨12, _⟩ => ⟨S8192, .f32⟩
  | .hbm, ⟨13, _⟩ => ⟨S8x1000x1, .f32⟩
  | .hbm, ⟨14, _⟩ => ⟨S8x1000, .f32⟩
  | .hbm, ⟨15, _⟩ => ⟨S_, .f32⟩
  | .hbm, ⟨16, _⟩ => ⟨S8x24, .f32⟩
  | .hbm, ⟨17, _⟩ => ⟨S8x1024, .f32⟩
  | .hbm, ⟨18, _⟩ => ⟨S8192, .f32⟩
  | .hbm, ⟨19, _⟩ => ⟨S8x1000x1, .f32⟩
  | .hbm, ⟨20, _⟩ => ⟨S8x1000, .f32⟩
  | .hbm, ⟨21, _⟩ => ⟨S_, .f32⟩
  | .hbm, ⟨22, _⟩ => ⟨S8x24, .f32⟩
  | .hbm, ⟨23, _⟩ => ⟨S8x1024, .f32⟩
  | .hbm, ⟨24, _⟩ => ⟨S8192, .f32⟩
  | .hbm, ⟨25, _⟩ => ⟨S8x1000x1, .f32⟩
  | .hbm, ⟨26, _⟩ => ⟨S8x1000, .f32⟩
  | .hbm, ⟨27, _⟩ => ⟨S_, .f32⟩
  | .hbm, ⟨28, _⟩ => ⟨S8x24, .f32⟩
  | .hbm, ⟨29, _⟩ => ⟨S8x1024, .f32⟩
  | .hbm, ⟨30, _⟩ => ⟨S8192, .f32⟩
  | .hbm, ⟨31, _⟩ => ⟨S8x1000, .f32⟩
  | .hbm, ⟨32, _⟩ => ⟨S_, .f32⟩
  | .hbm, ⟨33, _⟩ => ⟨S8x24, .f32⟩
  | .hbm, ⟨34, _⟩ => ⟨S8x1024, .f32⟩
  | .hbm, ⟨35, _⟩ => ⟨S8192, .f32⟩
  | .hbm, ⟨36, _⟩ => ⟨S8x1600, .f32⟩
  | .hbm, ⟨37, _⟩ => ⟨S8x100x16, .f32⟩
  | .hbm, ⟨38, _⟩ => ⟨S8x100x6, .f32⟩
  | .local .scVector .vmem, ⟨0, _⟩ => ⟨S1024, .f32⟩
  | .local .scVector .vmem, ⟨1, _⟩ => ⟨S1024, .f32⟩
  | .local .scVector .vmem, ⟨2, _⟩ => ⟨S1024, .f32⟩
  | .local .scVector .vmem, ⟨3, _⟩ => ⟨S1024, .f32⟩
  | .local .scVector .vmem, ⟨4, _⟩ => ⟨S1024, .f32⟩
  | .local .scVector .vmem, ⟨5, _⟩ => ⟨S1024, .f32⟩
  | .local .scVector .vmem, ⟨6, _⟩ => ⟨S1024, .i32⟩
  | .local .scVector .vmem, ⟨7, _⟩ => ⟨S1024, .i32⟩
  | .local .scVector .vmem, ⟨8, _⟩ => ⟨S1024, .i32⟩
  | .local .scVector .vmem, ⟨9, _⟩ => ⟨S1024, .f32⟩
  | .local .scVector .vmem, ⟨10, _⟩ => ⟨S1024, .f32⟩
  | .local .scVector .vmem, ⟨11, _⟩ => ⟨S1024, .f32⟩
  | .local .scVector .vmem, ⟨12, _⟩ => ⟨S1024, .f32⟩
  | .local .scVector .vmem, ⟨13, _⟩ => ⟨S1024, .f32⟩
  | .local .scVector .vmem, ⟨14, _⟩ => ⟨S1024, .f32⟩
  | .local .scVector .vmem, ⟨15, _⟩ => ⟨S1024, .i32⟩
  | .local .scVector .vmem, ⟨16, _⟩ => ⟨S96, .i32⟩
  | .local .scVector .vmem, ⟨17, _⟩ => ⟨S96, .i32⟩
  | .local .scVector .vmem, ⟨18, _⟩ => ⟨S96, .i32⟩
  | .local .scVector .vmem, ⟨19, _⟩ => ⟨S64, .f32⟩
  | .local .scVector .vmem, ⟨20, _⟩ => ⟨S64, .i32⟩
  | .local .scVector .vmem, ⟨21, _⟩ => ⟨S1600, .f32⟩
  | _, _ => ⟨S8x1000, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 2 → Bool
  | ⟨0, _⟩ => false
  | ⟨1, _⟩ => false
  | _ => false

abbrev sig : RefSig :=
  ofTables nBuf rfl bufTy 4 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_3 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_4 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v2_scv : Ref sig .scVector := ⟨.hbm, 6, rfl⟩
abbrev main_v7_scv : Ref sig .scVector := ⟨.hbm, 12, rfl⟩
abbrev main_v12_scv : Ref sig .scVector := ⟨.hbm, 18, rfl⟩
abbrev main_v17_scv : Ref sig .scVector := ⟨.hbm, 24, rfl⟩
abbrev main_v22_scv : Ref sig .scVector := ⟨.hbm, 30, rfl⟩
abbrev main_v26_scv : Ref sig .scVector := ⟨.hbm, 35, rfl⟩
abbrev main_v27_scv : Ref sig .scVector := ⟨.hbm, 36, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev cc0_scratch7 : Ref sig .scVector := ⟨.vmem, 7, rfl⟩
abbrev cc0_scratch8 : Ref sig .scVector := ⟨.vmem, 8, rfl⟩
abbrev cc0_scratch9 : Ref sig .scVector := ⟨.vmem, 9, rfl⟩
abbrev cc0_scratch10 : Ref sig .scVector := ⟨.vmem, 10, rfl⟩
abbrev cc0_scratch11 : Ref sig .scVector := ⟨.vmem, 11, rfl⟩
abbrev cc0_scratch12 : Ref sig .scVector := ⟨.vmem, 12, rfl⟩
abbrev cc0_scratch13 : Ref sig .scVector := ⟨.vmem, 13, rfl⟩
abbrev cc0_scratch14 : Ref sig .scVector := ⟨.vmem, 14, rfl⟩
abbrev cc0_scratch15 : Ref sig .scVector := ⟨.vmem, 15, rfl⟩
abbrev cc0_scratch16 : Ref sig .scVector := ⟨.vmem, 16, rfl⟩
abbrev cc0_scratch17 : Ref sig .scVector := ⟨.vmem, 17, rfl⟩
abbrev cc0_scratch18 : Ref sig .scVector := ⟨.vmem, 18, rfl⟩
abbrev cc0_scratch19 : Ref sig .scVector := ⟨.vmem, 19, rfl⟩
abbrev cc0_scratch20 : Ref sig .scVector := ⟨.vmem, 20, rfl⟩
abbrev cc0_scratch21 : Ref sig .scVector := ⟨.vmem, 21, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_cond1 (i : grid0.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 1 := Scalar.cmpi .slt v1 c8_i32
  let v3 : BitVec 32 := Scalar.extui v2
  let c0_i32 : BitVec 32 := 0#32
  let v4 : BitVec 1 := Scalar.cmpi .ne v3 c0_i32
  v4

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v5 : BitVec 32 := Scalar.muli v1 c1024_i32
  ![v5.toNat]
@[reducible] def k0_t1_loop : Scf.Loop 32 :=
  let c0_i32_2 : BitVec 32 := 0#32
  let c64_i32 : BitVec 32 := 64#32
  let v39 : BitVec 32 := Scalar.addi c0_i32_2 c64_i32
  let c1_i32 : BitVec 32 := 1#32
  ⟨c0_i32_2, v39, c1_i32⟩
def k0_off2 (k0_t1 : Fin k0_t1_loop.trips) : Fin 1 → Nat :=
  let c0_i32_2 : BitVec 32 := 0#32
  let c1_i32 : BitVec 32 := 1#32
  let arg32 : BitVec 32 := Scf.iv c0_i32_2 c1_i32 k0_t1
  let c16_i32 : BitVec 32 := 16#32
  let v197 : BitVec 32 := Scalar.muli arg32 c16_i32
  let v198 : Index := Scalar.indexCast v197
  ![v198.toNat]

def k0_chk1 (i : grid0.Coords) (v200 : IVec S16 32) : Prop :=
  (∀ (k0_h1 : k0_cond1 i = 1#1), ∀ a x, ((![v200] : Fin 1 → IVec S16 32) a x).toNat < S96.size a)
theorem k0_idx1_inb : ∀ (i : grid0.Coords) (v200 : IVec S16 32) (k0_hw1 : k0_chk1 i v200), ∀ (k0_h1 : k0_cond1 i = 1#1), ∀ a x, ((![v200] : Fin 1 → IVec S16 32) a x).toNat < S96.size a := fun i v200 k0_hw1 k0_h1 => k0_hw1 k0_h1
@[reducible] def k0_t2_loop : Scf.Loop 32 :=
  let c0_i32_41 : BitVec 32 := 0#32
  let c64_i32_42 : BitVec 32 := 64#32
  let v130 : BitVec 32 := Scalar.addi c0_i32_41 c64_i32_42
  let c1_i32_43 : BitVec 32 := 1#32
  ⟨c0_i32_41, v130, c1_i32_43⟩
def k0_off3 (k0_t2 : Fin k0_t2_loop.trips) : Fin 1 → Nat :=
  let c0_i32_41 : BitVec 32 := 0#32
  let c1_i32_43 : BitVec 32 := 1#32
  let arg32 : BitVec 32 := Scf.iv c0_i32_41 c1_i32_43 k0_t2
  let c16_i32 : BitVec 32 := 16#32
  let v197 : BitVec 32 := Scalar.muli arg32 c16_i32
  let v198 : Index := Scalar.indexCast v197
  ![v198.toNat]
def k0_off4 (k0_t2 : Fin k0_t2_loop.trips) : Fin 1 → Nat :=
  let c0_i32_41 : BitVec 32 := 0#32
  let c1_i32_43 : BitVec 32 := 1#32
  let arg32 : BitVec 32 := Scf.iv c0_i32_41 c1_i32_43 k0_t2
  let c16_i32 : BitVec 32 := 16#32
  let v197 : BitVec 32 := Scalar.muli arg32 c16_i32
  let v208 : Index := Scalar.indexCast v197
  ![v208.toNat]
def k0_off5 (k0_t2 : Fin k0_t2_loop.trips) : Fin 1 → Nat :=
  let c0_i32_41 : BitVec 32 := 0#32
  let c1_i32_43 : BitVec 32 := 1#32
  let arg32 : BitVec 32 := Scf.iv c0_i32_41 c1_i32_43 k0_t2
  let c16_i32 : BitVec 32 := 16#32
  let v197 : BitVec 32 := Scalar.muli arg32 c16_i32
  let v210 : Index := Scalar.indexCast v197
  ![v210.toNat]

def k0_chk3 (i : grid0.Coords) (v207 : IVec S16 32) : Prop :=
  (∀ (k0_h1 : k0_cond1 i = 1#1), ∀ a x, ((![v207] : Fin 1 → IVec S16 32) a x).toNat < S1024.size a) ∧
  (∀ (k0_h1 : k0_cond1 i = 1#1), ∀ a x, ((![v207] : Fin 1 → IVec S16 32) a x).toNat < S1024.size a) ∧
  (∀ (k0_h1 : k0_cond1 i = 1#1), ∀ a x, ((![v207] : Fin 1 → IVec S16 32) a x).toNat < S1024.size a) ∧
  (∀ (k0_h1 : k0_cond1 i = 1#1), ∀ a x, ((![v207] : Fin 1 → IVec S16 32) a x).toNat < S1024.size a) ∧
  (∀ (k0_h1 : k0_cond1 i = 1#1), ∀ a x, ((![v207] : Fin 1 → IVec S16 32) a x).toNat < S1024.size a) ∧
  (∀ (k0_h1 : k0_cond1 i = 1#1), ∀ a x, ((![v207] : Fin 1 → IVec S16 32) a x).toNat < S1024.size a) ∧
  (∀ (k0_h1 : k0_cond1 i = 1#1), ∀ a x, ((![v207] : Fin 1 → IVec S16 32) a x).toNat < S1024.size a)
theorem k0_idx3_inb : ∀ (i : grid0.Coords) (v207 : IVec S16 32) (k0_hw3 : k0_chk3 i v207), ∀ (k0_h1 : k0_cond1 i = 1#1), ∀ a x, ((![v207] : Fin 1 → IVec S16 32) a x).toNat < S1024.size a := fun i v207 k0_hw3 k0_h1 => k0_hw3.1 k0_h1
theorem k0_idx4_inb : ∀ (i : grid0.Coords) (v207 : IVec S16 32) (k0_hw3 : k0_chk3 i v207), ∀ (k0_h1 : k0_cond1 i = 1#1), ∀ a x, ((![v207] : Fin 1 → IVec S16 32) a x).toNat < S1024.size a := fun i v207 k0_hw3 k0_h1 => k0_hw3.2.1 k0_h1
theorem k0_idx5_inb : ∀ (i : grid0.Coords) (v207 : IVec S16 32) (k0_hw3 : k0_chk3 i v207), ∀ (k0_h1 : k0_cond1 i = 1#1), ∀ a x, ((![v207] : Fin 1 → IVec S16 32) a x).toNat < S1024.size a := fun i v207 k0_hw3 k0_h1 => k0_hw3.2.2.1 k0_h1
theorem k0_idx6_inb : ∀ (i : grid0.Coords) (v207 : IVec S16 32) (k0_hw3 : k0_chk3 i v207), ∀ (k0_h1 : k0_cond1 i = 1#1), ∀ a x, ((![v207] : Fin 1 → IVec S16 32) a x).toNat < S1024.size a := fun i v207 k0_hw3 k0_h1 => k0_hw3.2.2.2.1 k0_h1
theorem k0_idx7_inb : ∀ (i : grid0.Coords) (v207 : IVec S16 32) (k0_hw3 : k0_chk3 i v207), ∀ (k0_h1 : k0_cond1 i = 1#1), ∀ a x, ((![v207] : Fin 1 → IVec S16 32) a x).toNat < S1024.size a := fun i v207 k0_hw3 k0_h1 => k0_hw3.2.2.2.2.1 k0_h1
theorem k0_idx8_inb : ∀ (i : grid0.Coords) (v207 : IVec S16 32) (k0_hw3 : k0_chk3 i v207), ∀ (k0_h1 : k0_cond1 i = 1#1), ∀ a x, ((![v207] : Fin 1 → IVec S16 32) a x).toNat < S1024.size a := fun i v207 k0_hw3 k0_h1 => k0_hw3.2.2.2.2.2.1 k0_h1
theorem k0_idx9_inb : ∀ (i : grid0.Coords) (v207 : IVec S16 32) (k0_hw3 : k0_chk3 i v207), ∀ (k0_h1 : k0_cond1 i = 1#1), ∀ a x, ((![v207] : Fin 1 → IVec S16 32) a x).toNat < S1024.size a := fun i v207 k0_hw3 k0_h1 => k0_hw3.2.2.2.2.2.2 k0_h1

def k0_chk2 (i : grid0.Coords) (v199 : IVec S16 32) : Prop :=
  (∀ (k0_h1 : k0_cond1 i = 1#1), ∀ a x, ((![v199] : Fin 1 → IVec S16 32) a x).toNat < S96.size a) ∧
  (∀ (k0_h1 : k0_cond1 i = 1#1), ∀ a x, ((![v199] : Fin 1 → IVec S16 32) a x).toNat < S96.size a)
theorem k0_idx2_inb : ∀ (i : grid0.Coords) (v199 : IVec S16 32) (k0_hw2 : k0_chk2 i v199), ∀ (k0_h1 : k0_cond1 i = 1#1), ∀ a x, ((![v199] : Fin 1 → IVec S16 32) a x).toNat < S96.size a := fun i v199 k0_hw2 k0_h1 => k0_hw2.1 k0_h1
theorem k0_idx10_inb : ∀ (i : grid0.Coords) (v199 : IVec S16 32) (k0_hw2 : k0_chk2 i v199), ∀ (k0_h1 : k0_cond1 i = 1#1), ∀ a x, ((![v199] : Fin 1 → IVec S16 32) a x).toNat < S96.size a := fun i v199 k0_hw2 k0_h1 => k0_hw2.2 k0_h1
@[reducible] def k0_t3_loop : Scf.Loop 32 :=
  let c0_i32_46 : BitVec 32 := 0#32
  let c64_i32_47 : BitVec 32 := 64#32
  let v131 : BitVec 32 := Scalar.addi c0_i32_46 c64_i32_47
  let c1_i32_48 : BitVec 32 := 1#32
  ⟨c0_i32_46, v131, c1_i32_48⟩
def k0_off6 (k0_t3 : Fin k0_t3_loop.trips) : Fin 1 → Nat :=
  let c0_i32_46 : BitVec 32 := 0#32
  let c1_i32_48 : BitVec 32 := 1#32
  let arg32 : BitVec 32 := Scf.iv c0_i32_46 c1_i32_48 k0_t3
  let c16_i32 : BitVec 32 := 16#32
  let v197 : BitVec 32 := Scalar.muli arg32 c16_i32
  let v198 : Index := Scalar.indexCast v197
  ![v198.toNat]

def k0_chk4 (i : grid0.Coords) (v261 : IVec S16 32) : Prop :=
  (∀ (k0_h1 : k0_cond1 i = 1#1), ∀ a x, ((![v261] : Fin 1 → IVec S16 32) a x).toNat < S64.size a) ∧
  (∀ (k0_h1 : k0_cond1 i = 1#1), ∀ a x, ((![v261] : Fin 1 → IVec S16 32) a x).toNat < S64.size a)
theorem k0_idx11_inb : ∀ (i : grid0.Coords) (v261 : IVec S16 32) (k0_hw4 : k0_chk4 i v261), ∀ (k0_h1 : k0_cond1 i = 1#1), ∀ a x, ((![v261] : Fin 1 → IVec S16 32) a x).toNat < S64.size a := fun i v261 k0_hw4 k0_h1 => k0_hw4.1 k0_h1
theorem k0_idx12_inb : ∀ (i : grid0.Coords) (v261 : IVec S16 32) (k0_hw4 : k0_chk4 i v261), ∀ (k0_h1 : k0_cond1 i = 1#1), ∀ a x, ((![v261] : Fin 1 → IVec S16 32) a x).toNat < S64.size a := fun i v261 k0_hw4 k0_h1 => k0_hw4.2 k0_h1
@[reducible] def k0_t4_loop : Scf.Loop 32 :=
  let c0_i32_59 : BitVec 32 := 0#32
  let c100_i32 : BitVec 32 := 100#32
  let v190 : BitVec 32 := Scalar.addi c0_i32_59 c100_i32
  let c1_i32_60 : BitVec 32 := 1#32
  ⟨c0_i32_59, v190, c1_i32_60⟩
def k0_off7 (v263 : BitVec 32) : Fin 1 → Nat :=
  let c63_i32 : BitVec 32 := 63#32
  let c0_i32_74 : BitVec 32 := 0#32
  let v264 : BitVec 32 := Scalar.maxsi c0_i32_74 v263
  let v265 : BitVec 32 := Scalar.minsi c63_i32 v264
  let c16_i32_75 : BitVec 32 := 16#32
  let v266 : BitVec 32 := Scalar.muli v265 c16_i32_75
  let v267 : Index := Scalar.indexCast v266
  ![v267.toNat]
def k0_cond2 (arg33 : BitVec 32) (v198 : BitVec 1) : BitVec 1 :=
  let c100_i32_67 : BitVec 32 := 100#32
  let v197 : BitVec 1 := Scalar.cmpi .slt arg33 c100_i32_67
  let v199 : BitVec 1 := Scalar.andi v197 v198
  let v200 : BitVec 32 := Scalar.extui v199
  let c0_i32_69 : BitVec 32 := 0#32
  let v201 : BitVec 1 := Scalar.cmpi .ne v200 c0_i32_69
  v201

def k0_chk5 (i : grid0.Coords) (arg33 : BitVec 32) (v198 : BitVec 1) (v263 : BitVec 32) : Prop :=
  (∀ (k0_h1 : k0_cond1 i = 1#1), ∀ (k0_h2 : k0_cond2 arg33 v198 = 1#1), ∀ a, (k0_off7 v263) a + S16.size a ≤ S1024.size a)
theorem k0_off7_inb : ∀ (i : grid0.Coords) (arg33 : BitVec 32) (v198 : BitVec 1) (v263 : BitVec 32) (k0_hw5 : k0_chk5 i arg33 v198 v263), ∀ (k0_h1 : k0_cond1 i = 1#1), ∀ (k0_h2 : k0_cond2 arg33 v198 = 1#1), ∀ a, (k0_off7 v263) a + S16.size a ≤ S1024.size a := fun i arg33 v198 v263 k0_hw5 k0_h1 k0_h2 => k0_hw5 k0_h1 k0_h2

def k0_off8 (arg33 : BitVec 32) : Fin 1 → Nat :=
  let c16_i32_84 : BitVec 32 := 16#32
  let v322 : BitVec 32 := Scalar.muli arg33 c16_i32_84
  let v323 : Index := Scalar.indexCast v322
  ![v323.toNat]

def k0_chk7 (i : grid0.Coords) (arg33 : BitVec 32) (v198 : BitVec 1) : Prop :=
  (∀ (k0_h1 : k0_cond1 i = 1#1), ∀ (k0_h2 : k0_cond2 arg33 v198 = 1#1), ∀ a, (k0_off8 arg33) a + S16.size a ≤ S1600.size a)
theorem k0_off8_inb : ∀ (i : grid0.Coords) (arg33 : BitVec 32) (v198 : BitVec 1) (k0_hw7 : k0_chk7 i arg33 v198), ∀ (k0_h1 : k0_cond1 i = 1#1), ∀ (k0_h2 : k0_cond2 arg33 v198 = 1#1), ∀ a, (k0_off8 arg33) a + S16.size a ≤ S1600.size a := fun i arg33 v198 k0_hw7 k0_h1 k0_h2 => k0_hw7 k0_h1 k0_h2

def k0_chk8 (i : grid0.Coords) (arg33 : BitVec 32) (v198 : BitVec 1) (v329 : IVec S16 32) : Prop :=
  (∀ (k0_h1 : k0_cond1 i = 1#1), ∀ (k0_h2 : k0_cond2 arg33 v198 = 1#1), ∀ a x, ((![v329] : Fin 1 → IVec S16 32) a x).toNat < S96.size a) ∧
  (∀ (k0_h1 : k0_cond1 i = 1#1), ∀ (k0_h2 : k0_cond2 arg33 v198 = 1#1), ∀ a x, ((![v329] : Fin 1 → IVec S16 32) a x).toNat < S96.size a)
theorem k0_idx18_inb : ∀ (i : grid0.Coords) (arg33 : BitVec 32) (v198 : BitVec 1) (v329 : IVec S16 32) (k0_hw8 : k0_chk8 i arg33 v198 v329), ∀ (k0_h1 : k0_cond1 i = 1#1), ∀ (k0_h2 : k0_cond2 arg33 v198 = 1#1), ∀ a x, ((![v329] : Fin 1 → IVec S16 32) a x).toNat < S96.size a := fun i arg33 v198 v329 k0_hw8 k0_h1 k0_h2 => k0_hw8.1 k0_h1 k0_h2
theorem k0_idx19_inb : ∀ (i : grid0.Coords) (arg33 : BitVec 32) (v198 : BitVec 1) (v329 : IVec S16 32) (k0_hw8 : k0_chk8 i arg33 v198 v329), ∀ (k0_h1 : k0_cond1 i = 1#1), ∀ (k0_h2 : k0_cond2 arg33 v198 = 1#1), ∀ a x, ((![v329] : Fin 1 → IVec S16 32) a x).toNat < S96.size a := fun i arg33 v198 v329 k0_hw8 k0_h1 k0_h2 => k0_hw8.2 k0_h1 k0_h2

def k0_chk6 (i : grid0.Coords) (arg33 : BitVec 32) (v198 : BitVec 1) (v285 : IVec S16 32) : Prop :=
  (∀ (k0_h1 : k0_cond1 i = 1#1), ∀ (k0_h2 : k0_cond2 arg33 v198 = 1#1), ∀ a x, ((![v285] : Fin 1 → IVec S16 32) a x).toNat < S1024.size a) ∧
  (∀ (k0_h1 : k0_cond1 i = 1#1), ∀ (k0_h2 : k0_cond2 arg33 v198 = 1#1), ∀ a x, ((![v285] : Fin 1 → IVec S16 32) a x).toNat < S1024.size a) ∧
  (∀ (k0_h1 : k0_cond1 i = 1#1), ∀ (k0_h2 : k0_cond2 arg33 v198 = 1#1), ∀ a x, ((![v285] : Fin 1 → IVec S16 32) a x).toNat < S1024.size a) ∧
  (∀ (k0_h1 : k0_cond1 i = 1#1), ∀ (k0_h2 : k0_cond2 arg33 v198 = 1#1), ∀ a x, ((![v285] : Fin 1 → IVec S16 32) a x).toNat < S1024.size a) ∧
  (∀ (k0_h1 : k0_cond1 i = 1#1), ∀ (k0_h2 : k0_cond2 arg33 v198 = 1#1), ∀ a x, ((![v285] : Fin 1 → IVec S16 32) a x).toNat < S1024.size a) ∧
  (∀ (k0_h1 : k0_cond1 i = 1#1), ∀ (k0_h2 : k0_cond2 arg33 v198 = 1#1), ∀ a x, ((![v285] : Fin 1 → IVec S16 32) a x).toNat < S1024.size a)
theorem k0_idx13_inb : ∀ (i : grid0.Coords) (arg33 : BitVec 32) (v198 : BitVec 1) (v285 : IVec S16 32) (k0_hw6 : k0_chk6 i arg33 v198 v285), ∀ (k0_h1 : k0_cond1 i = 1#1), ∀ (k0_h2 : k0_cond2 arg33 v198 = 1#1), ∀ a x, ((![v285] : Fin 1 → IVec S16 32) a x).toNat < S1024.size a := fun i arg33 v198 v285 k0_hw6 k0_h1 k0_h2 => k0_hw6.1 k0_h1 k0_h2
theorem k0_idx14_inb : ∀ (i : grid0.Coords) (arg33 : BitVec 32) (v198 : BitVec 1) (v285 : IVec S16 32) (k0_hw6 : k0_chk6 i arg33 v198 v285), ∀ (k0_h1 : k0_cond1 i = 1#1), ∀ (k0_h2 : k0_cond2 arg33 v198 = 1#1), ∀ a x, ((![v285] : Fin 1 → IVec S16 32) a x).toNat < S1024.size a := fun i arg33 v198 v285 k0_hw6 k0_h1 k0_h2 => k0_hw6.2.1 k0_h1 k0_h2
theorem k0_idx15_inb : ∀ (i : grid0.Coords) (arg33 : BitVec 32) (v198 : BitVec 1) (v285 : IVec S16 32) (k0_hw6 : k0_chk6 i arg33 v198 v285), ∀ (k0_h1 : k0_cond1 i = 1#1), ∀ (k0_h2 : k0_cond2 arg33 v198 = 1#1), ∀ a x, ((![v285] : Fin 1 → IVec S16 32) a x).toNat < S1024.size a := fun i arg33 v198 v285 k0_hw6 k0_h1 k0_h2 => k0_hw6.2.2.1 k0_h1 k0_h2
theorem k0_idx16_inb : ∀ (i : grid0.Coords) (arg33 : BitVec 32) (v198 : BitVec 1) (v285 : IVec S16 32) (k0_hw6 : k0_chk6 i arg33 v198 v285), ∀ (k0_h1 : k0_cond1 i = 1#1), ∀ (k0_h2 : k0_cond2 arg33 v198 = 1#1), ∀ a x, ((![v285] : Fin 1 → IVec S16 32) a x).toNat < S1024.size a := fun i arg33 v198 v285 k0_hw6 k0_h1 k0_h2 => k0_hw6.2.2.2.1 k0_h1 k0_h2
theorem k0_idx17_inb : ∀ (i : grid0.Coords) (arg33 : BitVec 32) (v198 : BitVec 1) (v285 : IVec S16 32) (k0_hw6 : k0_chk6 i arg33 v198 v285), ∀ (k0_h1 : k0_cond1 i = 1#1), ∀ (k0_h2 : k0_cond2 arg33 v198 = 1#1), ∀ a x, ((![v285] : Fin 1 → IVec S16 32) a x).toNat < S1024.size a := fun i arg33 v198 v285 k0_hw6 k0_h1 k0_h2 => k0_hw6.2.2.2.2.1 k0_h1 k0_h2
theorem k0_idx20_inb : ∀ (i : grid0.Coords) (arg33 : BitVec 32) (v198 : BitVec 1) (v285 : IVec S16 32) (k0_hw6 : k0_chk6 i arg33 v198 v285), ∀ (k0_h1 : k0_cond1 i = 1#1), ∀ (k0_h2 : k0_cond2 arg33 v198 = 1#1), ∀ a x, ((![v285] : Fin 1 → IVec S16 32) a x).toNat < S1024.size a := fun i arg33 v198 v285 k0_hw6 k0_h1 k0_h2 => k0_hw6.2.2.2.2.2 k0_h1 k0_h2
def k0_off9 (v336 : BitVec 32) : Fin 1 → Nat :=
  let c63_i32_93 : BitVec 32 := 63#32
  let c0_i32_92 : BitVec 32 := 0#32
  let c16_i32_91 : BitVec 32 := 16#32
  let v346 : BitVec 32 := Scalar.divsi v336 c16_i32_91
  let v347 : BitVec 32 := Scalar.maxsi c0_i32_92 v346
  let v348 : BitVec 32 := Scalar.minsi c63_i32_93 v347
  let c16_i32_98 : BitVec 32 := 16#32
  let v353 : BitVec 32 := Scalar.muli v348 c16_i32_98
  let v356 : Index := Scalar.indexCast v353
  ![v356.toNat]

def k0_off10 (v336 : BitVec 32) : Fin 1 → Nat :=
  let c63_i32_93 : BitVec 32 := 63#32
  let c0_i32_92 : BitVec 32 := 0#32
  let c16_i32_91 : BitVec 32 := 16#32
  let v346 : BitVec 32 := Scalar.divsi v336 c16_i32_91
  let v347 : BitVec 32 := Scalar.maxsi c0_i32_92 v346
  let v348 : BitVec 32 := Scalar.minsi c63_i32_93 v347
  let c1_i32_111 : BitVec 32 := 1#32
  let v497 : BitVec 32 := Scalar.addi v348 c1_i32_111
  let c63_i32_112 : BitVec 32 := 63#32
  let v498 : BitVec 32 := Scalar.minsi v497 c63_i32_112
  let c16_i32_113 : BitVec 32 := 16#32
  let v499 : BitVec 32 := Scalar.muli v498 c16_i32_113
  let v502 : Index := Scalar.indexCast v499
  ![v502.toNat]

def k0_chk9 (i : grid0.Coords) (arg33 : BitVec 32) (v198 : BitVec 1) (v336 : BitVec 32) : Prop :=
  (∀ (k0_h1 : k0_cond1 i = 1#1), ∀ (k0_h2 : k0_cond2 arg33 v198 = 1#1), ∀ a, (k0_off9 v336) a + S16.size a ≤ S1024.size a) ∧
  (∀ (k0_h1 : k0_cond1 i = 1#1), ∀ (k0_h2 : k0_cond2 arg33 v198 = 1#1), ∀ a, (k0_off10 v336) a + S16.size a ≤ S1024.size a)
theorem k0_off9_inb : ∀ (i : grid0.Coords) (arg33 : BitVec 32) (v198 : BitVec 1) (v336 : BitVec 32) (k0_hw9 : k0_chk9 i arg33 v198 v336), ∀ (k0_h1 : k0_cond1 i = 1#1), ∀ (k0_h2 : k0_cond2 arg33 v198 = 1#1), ∀ a, (k0_off9 v336) a + S16.size a ≤ S1024.size a := fun i arg33 v198 v336 k0_hw9 k0_h1 k0_h2 => k0_hw9.1 k0_h1 k0_h2
theorem k0_off10_inb : ∀ (i : grid0.Coords) (arg33 : BitVec 32) (v198 : BitVec 1) (v336 : BitVec 32) (k0_hw9 : k0_chk9 i arg33 v198 v336), ∀ (k0_h1 : k0_cond1 i = 1#1), ∀ (k0_h2 : k0_cond2 arg33 v198 = 1#1), ∀ a, (k0_off10 v336) a + S16.size a ≤ S1024.size a := fun i arg33 v198 v336 k0_hw9 k0_h1 k0_h2 => k0_hw9.2 k0_h1 k0_h2

@[reducible] def k0_t5_loop (v336 : BitVec 32) (v343 : BitVec 32) : Scf.Loop 32 :=
  let c63_i32_93 : BitVec 32 := 63#32
  let c0_i32_92 : BitVec 32 := 0#32
  let c16_i32_91 : BitVec 32 := 16#32
  let v346 : BitVec 32 := Scalar.divsi v336 c16_i32_91
  let v347 : BitVec 32 := Scalar.maxsi c0_i32_92 v346
  let v348 : BitVec 32 := Scalar.minsi c63_i32_93 v347
  let c2_i32_126 : BitVec 32 := 2#32
  let v643 : BitVec 32 := Scalar.addi v348 c2_i32_126
  let c64_i32_97 : BitVec 32 := 64#32
  let c0_i32_96 : BitVec 32 := 0#32
  let v344 : BitVec 32 := Scalar.addi v336 v343
  let c15_i32_94 : BitVec 32 := 15#32
  let v349 : BitVec 32 := Scalar.addi v344 c15_i32_94
  let c16_i32_95 : BitVec 32 := 16#32
  let v350 : BitVec 32 := Scalar.divsi v349 c16_i32_95
  let v351 : BitVec 32 := Scalar.maxsi c0_i32_96 v350
  let v352 : BitVec 32 := Scalar.minsi c64_i32_97 v351
  let v644 : BitVec 32 := Scalar.subi v352 v643
  let c1_i32_127 : BitVec 32 := 1#32
  let v646 : BitVec 32 := Scalar.divsi v644 c1_i32_127
  let v647 : BitVec 32 := Scalar.muli v646 c1_i32_127
  let v648 : BitVec 32 := Scalar.addi v643 v647
  let c1_i32_128 : BitVec 32 := 1#32
  ⟨v643, v648, c1_i32_128⟩

def k0_off11 (v336 : BitVec 32) (v343 : BitVec 32) (k0_t5 : Fin (k0_t5_loop v336 v343).trips) : Fin 1 → Nat :=
  let c63_i32_93 : BitVec 32 := 63#32
  let c0_i32_92 : BitVec 32 := 0#32
  let c16_i32_91 : BitVec 32 := 16#32
  let v346 : BitVec 32 := Scalar.divsi v336 c16_i32_91
  let v347 : BitVec 32 := Scalar.maxsi c0_i32_92 v346
  let v348 : BitVec 32 := Scalar.minsi c63_i32_93 v347
  let c2_i32_126 : BitVec 32 := 2#32
  let v643 : BitVec 32 := Scalar.addi v348 c2_i32_126
  let c1_i32_128 : BitVec 32 := 1#32
  let arg43 : BitVec 32 := Scf.iv v643 c1_i32_128 k0_t5
  let c16_i32_131 : BitVec 32 := 16#32
  let v702 : BitVec 32 := Scalar.muli arg43 c16_i32_131
  let v705 : Index := Scalar.indexCast v702
  ![v705.toNat]
@[reducible] def k0_t6_loop (v336 : BitVec 32) (v343 : BitVec 32) : Scf.Loop 32 :=
  let c63_i32_93 : BitVec 32 := 63#32
  let c0_i32_92 : BitVec 32 := 0#32
  let c16_i32_91 : BitVec 32 := 16#32
  let v346 : BitVec 32 := Scalar.divsi v336 c16_i32_91
  let v347 : BitVec 32 := Scalar.maxsi c0_i32_92 v346
  let v348 : BitVec 32 := Scalar.minsi c63_i32_93 v347
  let c2_i32_126 : BitVec 32 := 2#32
  let v643 : BitVec 32 := Scalar.addi v348 c2_i32_126
  let c64_i32_97 : BitVec 32 := 64#32
  let c0_i32_96 : BitVec 32 := 0#32
  let v344 : BitVec 32 := Scalar.addi v336 v343
  let c15_i32_94 : BitVec 32 := 15#32
  let v349 : BitVec 32 := Scalar.addi v344 c15_i32_94
  let c16_i32_95 : BitVec 32 := 16#32
  let v350 : BitVec 32 := Scalar.divsi v349 c16_i32_95
  let v351 : BitVec 32 := Scalar.maxsi c0_i32_96 v350
  let v352 : BitVec 32 := Scalar.minsi c64_i32_97 v351
  let v644 : BitVec 32 := Scalar.subi v352 v643
  let c1_i32_127 : BitVec 32 := 1#32
  let v646 : BitVec 32 := Scalar.divsi v644 c1_i32_127
  let v647 : BitVec 32 := Scalar.muli v646 c1_i32_127
  let v648 : BitVec 32 := Scalar.addi v643 v647
  let v645 : BitVec 32 := Scalar.addi v643 v644
  let c1_i32_129 : BitVec 32 := 1#32
  ⟨v648, v645, c1_i32_129⟩
def k0_off12 (v336 : BitVec 32) (v343 : BitVec 32) (k0_t6 : Fin (k0_t6_loop v336 v343).trips) : Fin 1 → Nat :=
  let c63_i32_93 : BitVec 32 := 63#32
  let c0_i32_92 : BitVec 32 := 0#32
  let c16_i32_91 : BitVec 32 := 16#32
  let v346 : BitVec 32 := Scalar.divsi v336 c16_i32_91
  let v347 : BitVec 32 := Scalar.maxsi c0_i32_92 v346
  let v348 : BitVec 32 := Scalar.minsi c63_i32_93 v347
  let c2_i32_126 : BitVec 32 := 2#32
  let v643 : BitVec 32 := Scalar.addi v348 c2_i32_126
  let c64_i32_97 : BitVec 32 := 64#32
  let c0_i32_96 : BitVec 32 := 0#32
  let v344 : BitVec 32 := Scalar.addi v336 v343
  let c15_i32_94 : BitVec 32 := 15#32
  let v349 : BitVec 32 := Scalar.addi v344 c15_i32_94
  let c16_i32_95 : BitVec 32 := 16#32
  let v350 : BitVec 32 := Scalar.divsi v349 c16_i32_95
  let v351 : BitVec 32 := Scalar.maxsi c0_i32_96 v350
  let v352 : BitVec 32 := Scalar.minsi c64_i32_97 v351
  let v644 : BitVec 32 := Scalar.subi v352 v643
  let c1_i32_127 : BitVec 32 := 1#32
  let v646 : BitVec 32 := Scalar.divsi v644 c1_i32_127
  let v647 : BitVec 32 := Scalar.muli v646 c1_i32_127
  let v648 : BitVec 32 := Scalar.addi v643 v647
  let c1_i32_129 : BitVec 32 := 1#32
  let arg43 : BitVec 32 := Scf.iv v648 c1_i32_129 k0_t6
  let c16_i32_131 : BitVec 32 := 16#32
  let v702 : BitVec 32 := Scalar.muli arg43 c16_i32_131
  let v705 : Index := Scalar.indexCast v702
  ![v705.toNat]

def k0_chk10 (i : grid0.Coords) (arg33 : BitVec 32) (v198 : BitVec 1) (v336 : BitVec 32) (v343 : BitVec 32) : Prop :=
  (∀ (k0_h1 : k0_cond1 i = 1#1), ∀ (k0_h2 : k0_cond2 arg33 v198 = 1#1), (k0_t5_loop v336 v343).OK) ∧
  (∀ k0_t5 : Fin (k0_t5_loop v336 v343).trips, ∀ (k0_h1 : k0_cond1 i = 1#1), ∀ (k0_h2 : k0_cond2 arg33 v198 = 1#1), ∀ a, (k0_off11 v336 v343 k0_t5) a + S16.size a ≤ S1024.size a) ∧
  (∀ (k0_h1 : k0_cond1 i = 1#1), ∀ (k0_h2 : k0_cond2 arg33 v198 = 1#1), (k0_t6_loop v336 v343).OK) ∧
  (∀ k0_t6 : Fin (k0_t6_loop v336 v343).trips, ∀ (k0_h1 : k0_cond1 i = 1#1), ∀ (k0_h2 : k0_cond2 arg33 v198 = 1#1), ∀ a, (k0_off12 v336 v343 k0_t6) a + S16.size a ≤ S1024.size a)
theorem k0_t5_ok : ∀ (i : grid0.Coords) (arg33 : BitVec 32) (v198 : BitVec 1) (v336 : BitVec 32) (v343 : BitVec 32) (k0_hw10 : k0_chk10 i arg33 v198 v336 v343), ∀ (k0_h1 : k0_cond1 i = 1#1), ∀ (k0_h2 : k0_cond2 arg33 v198 = 1#1), (k0_t5_loop v336 v343).OK := fun i arg33 v198 v336 v343 k0_hw10 k0_h1 k0_h2 => k0_hw10.1 k0_h1 k0_h2
theorem k0_off11_inb : ∀ (i : grid0.Coords) (arg33 : BitVec 32) (v198 : BitVec 1) (v336 : BitVec 32) (v343 : BitVec 32) (k0_hw10 : k0_chk10 i arg33 v198 v336 v343) (k0_t5 : Fin (k0_t5_loop v336 v343).trips), ∀ (k0_h1 : k0_cond1 i = 1#1), ∀ (k0_h2 : k0_cond2 arg33 v198 = 1#1), ∀ a, (k0_off11 v336 v343 k0_t5) a + S16.size a ≤ S1024.size a := fun i arg33 v198 v336 v343 k0_hw10 k0_t5 k0_h1 k0_h2 => k0_hw10.2.1 k0_t5 k0_h1 k0_h2
theorem k0_t6_ok : ∀ (i : grid0.Coords) (arg33 : BitVec 32) (v198 : BitVec 1) (v336 : BitVec 32) (v343 : BitVec 32) (k0_hw10 : k0_chk10 i arg33 v198 v336 v343), ∀ (k0_h1 : k0_cond1 i = 1#1), ∀ (k0_h2 : k0_cond2 arg33 v198 = 1#1), (k0_t6_loop v336 v343).OK := fun i arg33 v198 v336 v343 k0_hw10 k0_h1 k0_h2 => k0_hw10.2.2.1 k0_h1 k0_h2
theorem k0_off12_inb : ∀ (i : grid0.Coords) (arg33 : BitVec 32) (v198 : BitVec 1) (v336 : BitVec 32) (v343 : BitVec 32) (k0_hw10 : k0_chk10 i arg33 v198 v336 v343) (k0_t6 : Fin (k0_t6_loop v336 v343).trips), ∀ (k0_h1 : k0_cond1 i = 1#1), ∀ (k0_h2 : k0_cond2 arg33 v198 = 1#1), ∀ a, (k0_off12 v336 v343 k0_t6) a + S16.size a ≤ S1024.size a := fun i arg33 v198 v336 v343 k0_hw10 k0_t6 k0_h1 k0_h2 => k0_hw10.2.2.2 k0_t6 k0_h1 k0_h2

@[reducible] def k0_t7_loop (v191_0 : BitVec 32) : Scf.Loop 32 :=
  let c100_i32_63 : BitVec 32 := 100#32
  let v192 : BitVec 32 := Scalar.subi c100_i32_63 v191_0
  let c1_i32_64 : BitVec 32 := 1#32
  let v194 : BitVec 32 := Scalar.divsi v192 c1_i32_64
  let v195 : BitVec 32 := Scalar.muli v194 c1_i32_64
  let v196 : BitVec 32 := Scalar.addi v191_0 v195
  let c1_i32_65 : BitVec 32 := 1#32
  ⟨v191_0, v196, c1_i32_65⟩

def k0_off13 (v191_0 : BitVec 32) (k0_t7 : Fin (k0_t7_loop v191_0).trips) : Fin 1 → Nat :=
  let c1_i32_65 : BitVec 32 := 1#32
  let arg32 : BitVec 32 := Scf.iv v191_0 c1_i32_65 k0_t7
  let c16_i32 : BitVec 32 := 16#32
  let v197 : BitVec 32 := Scalar.muli arg32 c16_i32
  let v198 : Index := Scalar.indexCast v197
  ![v198.toNat]
@[reducible] def k0_t8_loop (v191_0 : BitVec 32) : Scf.Loop 32 :=
  let c100_i32_63 : BitVec 32 := 100#32
  let v192 : BitVec 32 := Scalar.subi c100_i32_63 v191_0
  let c1_i32_64 : BitVec 32 := 1#32
  let v194 : BitVec 32 := Scalar.divsi v192 c1_i32_64
  let v195 : BitVec 32 := Scalar.muli v194 c1_i32_64
  let v196 : BitVec 32 := Scalar.addi v191_0 v195
  let v193 : BitVec 32 := Scalar.addi v191_0 v192
  let c1_i32_66 : BitVec 32 := 1#32
  ⟨v196, v193, c1_i32_66⟩
def k0_off14 (v191_0 : BitVec 32) (k0_t8 : Fin (k0_t8_loop v191_0).trips) : Fin 1 → Nat :=
  let c100_i32_63 : BitVec 32 := 100#32
  let v192 : BitVec 32 := Scalar.subi c100_i32_63 v191_0
  let c1_i32_64 : BitVec 32 := 1#32
  let v194 : BitVec 32 := Scalar.divsi v192 c1_i32_64
  let v195 : BitVec 32 := Scalar.muli v194 c1_i32_64
  let v196 : BitVec 32 := Scalar.addi v191_0 v195
  let c1_i32_66 : BitVec 32 := 1#32
  let arg32 : BitVec 32 := Scf.iv v196 c1_i32_66 k0_t8
  let c16_i32 : BitVec 32 := 16#32
  let v197 : BitVec 32 := Scalar.muli arg32 c16_i32
  let v198 : Index := Scalar.indexCast v197
  ![v198.toNat]

def k0_chk11 (i : grid0.Coords) (v191_0 : BitVec 32) : Prop :=
  (∀ (k0_h1 : k0_cond1 i = 1#1), (k0_t7_loop v191_0).OK) ∧
  (∀ k0_t7 : Fin (k0_t7_loop v191_0).trips, ∀ (k0_h1 : k0_cond1 i = 1#1), ∀ a, (k0_off13 v191_0 k0_t7) a + S16.size a ≤ S1600.size a) ∧
  (∀ (k0_h1 : k0_cond1 i = 1#1), (k0_t8_loop v191_0).OK) ∧
  (∀ k0_t8 : Fin (k0_t8_loop v191_0).trips, ∀ (k0_h1 : k0_cond1 i = 1#1), ∀ a, (k0_off14 v191_0 k0_t8) a + S16.size a ≤ S1600.size a)
theorem k0_t7_ok : ∀ (i : grid0.Coords) (v191_0 : BitVec 32) (k0_hw11 : k0_chk11 i v191_0), ∀ (k0_h1 : k0_cond1 i = 1#1), (k0_t7_loop v191_0).OK := fun i v191_0 k0_hw11 k0_h1 => k0_hw11.1 k0_h1
theorem k0_off13_inb : ∀ (i : grid0.Coords) (v191_0 : BitVec 32) (k0_hw11 : k0_chk11 i v191_0) (k0_t7 : Fin (k0_t7_loop v191_0).trips), ∀ (k0_h1 : k0_cond1 i = 1#1), ∀ a, (k0_off13 v191_0 k0_t7) a + S16.size a ≤ S1600.size a := fun i v191_0 k0_hw11 k0_t7 k0_h1 => k0_hw11.2.1 k0_t7 k0_h1
theorem k0_t8_ok : ∀ (i : grid0.Coords) (v191_0 : BitVec 32) (k0_hw11 : k0_chk11 i v191_0), ∀ (k0_h1 : k0_cond1 i = 1#1), (k0_t8_loop v191_0).OK := fun i v191_0 k0_hw11 k0_h1 => k0_hw11.2.2.1 k0_h1
theorem k0_off14_inb : ∀ (i : grid0.Coords) (v191_0 : BitVec 32) (k0_hw11 : k0_chk11 i v191_0) (k0_t8 : Fin (k0_t8_loop v191_0).trips), ∀ (k0_h1 : k0_cond1 i = 1#1), ∀ a, (k0_off14 v191_0 k0_t8) a + S16.size a ≤ S1600.size a := fun i v191_0 k0_hw11 k0_t8 k0_h1 => k0_hw11.2.2.2 k0_t8 k0_h1

def k0_off15 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_67_r0 : BitVec 32 := 0#32
  ![v1.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S8x1000 : Shape := ⟨2, ![8, 1000]⟩
abbrev S8x1000x4 : Shape := ⟨3, ![8, 1000, 4]⟩
abbrev S8x1000x1 : Shape := ⟨3, ![8, 1000, 1]⟩
abbrev S_ : Shape := ⟨0, ![]⟩
abbrev S1 : Shape := ⟨1, ![1]⟩
abbrev S1x1x1 : Shape := ⟨3, ![1, 1, 1]⟩
abbrev S8x1x1000 : Shape := ⟨3, ![8, 1, 1000]⟩
abbrev S8x1000x1000 : Shape := ⟨3, ![8, 1000, 1000]⟩
abbrev S1000 : Shape := ⟨1, ![1000]⟩
abbrev S8x1 : Shape := ⟨2, ![8, 1]⟩
abbrev S8 : Shape := ⟨1, ![8]⟩
abbrev S1x1000 : Shape := ⟨2, ![1, 1000]⟩
abbrev S8x100 : Shape := ⟨2, ![8, 100]⟩
abbrev S8x100x1 : Shape := ⟨3, ![8, 100, 1]⟩
abbrev S8x100x4 : Shape := ⟨3, ![8, 100, 4]⟩
abbrev S8x100x6 : Shape := ⟨3, ![8, 100, 6]⟩

abbrev nBuf : Space → Nat
  | .hbm => 288
  | .vmem => 0
  | .smem => 0
  | _ => 0

abbrev hbmTy0_0 (i : Nat) : BufTy := match i % 128 with
  | 0 => ⟨S8x1000, .f32⟩
  | 1 => ⟨S8x1000x4, .f32⟩
  | 2 => ⟨S8x1000, .i32⟩
  | 3 => ⟨S8x1000, .f32⟩
  | 4 => ⟨S8x1000, .i32⟩
  | 5 => ⟨S8x1000, .f32⟩
  | 6 => ⟨S8x1000, .i32⟩
  | 7 => ⟨S8x1000x1, .i32⟩
  | 8 => ⟨S_, .i32⟩
  | 9 => ⟨S8x1000x1, .i32⟩
  | 10 => ⟨S8x1000x1, .i1⟩
  | 11 => ⟨S_, .i32⟩
  | 12 => ⟨S8x1000x1, .i32⟩
  | 13 => ⟨S8x1000x1, .i32⟩
  | 14 => ⟨S8x1000x1, .i32⟩
  | 15 => ⟨S1, .i32⟩
  | 16 => ⟨S_, .i32⟩
  | 17 => ⟨S8x1000x1, .i32⟩
  | 18 => ⟨S8x1000x1, .i1⟩
  | 19 => ⟨S1x1x1, .i32⟩
  | 20 => ⟨S8x1000x1, .i32⟩
  | 21 => ⟨S8x1000x1, .i1⟩
  | 22 => ⟨S8x1000x1, .i1⟩
  | 23 => ⟨S_, .i1⟩
  | 24 => ⟨S8x1000, .i1⟩
  | 25 => ⟨S8x1000x4, .f32⟩
  | 26 => ⟨S8x1000x4, .i1⟩
  | 27 => ⟨S_, .f32⟩
  | 28 => ⟨S8x1000x4, .f32⟩
  | 29 => ⟨S8x1000x4, .f32⟩
  | 30 => ⟨S_, .i32⟩
  | 31 => ⟨S8x1000, .i32⟩
  | 32 => ⟨S8x1000, .i1⟩
  | 33 => ⟨S_, .i32⟩
  | 34 => ⟨S8x1000, .i32⟩
  | 35 => ⟨S8x1000, .i32⟩
  | 36 => ⟨S8x1000, .i32⟩
  | 37 => ⟨S8x1000x1, .i32⟩
  | 38 => ⟨S1, .i32⟩
  | 39 => ⟨S_, .i32⟩
  | 40 => ⟨S8x1000x1, .i32⟩
  | 41 => ⟨S8x1000x1, .i1⟩
  | 42 => ⟨S1x1x1, .i32⟩
  | 43 => ⟨S8x1000x1, .i32⟩
  | 44 => ⟨S8x1000x1, .i1⟩
  | 45 => ⟨S8x1000x1, .i1⟩
  | 46 => ⟨S_, .i1⟩
  | 47 => ⟨S8x1000, .i1⟩
  | 48 => ⟨S8x1000, .f32⟩
  | 49 => ⟨S_, .f32⟩
  | 50 => ⟨S8x1000, .f32⟩
  | 51 => ⟨S8x1000, .f32⟩
  | 52 => ⟨S_, .i32⟩
  | 53 => ⟨S8x1000, .i32⟩
  | 54 => ⟨S8x1000, .i1⟩
  | 55 => ⟨S_, .i32⟩
  | 56 => ⟨S8x1000, .i32⟩
  | 57 => ⟨S8x1000, .i32⟩
  | 58 => ⟨S8x1000, .i32⟩
  | 59 => ⟨S8x1000x1, .i32⟩
  | 60 => ⟨S1, .i32⟩
  | 61 => ⟨S_, .i32⟩
  | 62 => ⟨S8x1000x1, .i32⟩
  | 63 => ⟨S8x1000x1, .i1⟩
  | 64 => ⟨S1x1x1, .i32⟩
  | 65 => ⟨S8x1000x1, .i32⟩
  | 66 => ⟨S8x1000x1, .i1⟩
  | 67 => ⟨S8x1000x1, .i1⟩
  | 68 => ⟨S_, .i1⟩
  | 69 => ⟨S8x1000, .i1⟩
  | 70 => ⟨S8x1000, .i32⟩
  | 71 => ⟨S_, .i32⟩
  | 72 => ⟨S8x1000, .i32⟩
  | 73 => ⟨S8x1000, .i32⟩
  | 74 => ⟨S8x1000, .f32⟩
  | 75 => ⟨S8x1000x1, .f32⟩
  | 76 => ⟨S_, .f32⟩
  | 77 => ⟨S8x1000x1, .f32⟩
  | 78 => ⟨S8x1000x1, .f32⟩
  | 79 => ⟨S8x1000x4, .f32⟩
  | 80 => ⟨S8x1000x4, .f32⟩
  | 81 => ⟨S8x1000x1, .f32⟩
  | 82 => ⟨S8x1000, .f32⟩
  | 83 => ⟨S8x1000x1, .f32⟩
  | 84 => ⟨S8x1000, .f32⟩
  | 85 => ⟨S8x1000x1, .f32⟩
  | 86 => ⟨S8x1000, .f32⟩
  | 87 => ⟨S8x1000x1, .f32⟩
  | 88 => ⟨S8x1000, .f32⟩
  | 89 => ⟨S8x1000, .f32⟩
  | 90 => ⟨S8x1000, .f32⟩
  | 91 => ⟨S8x1000, .f32⟩
  | 92 => ⟨S8x1000x1, .f32⟩
  | 93 => ⟨S8x1x1000, .f32⟩
  | 94 => ⟨S8x1000x1000, .f32⟩
  | 95 => ⟨S8x1000x1000, .f32⟩
  | 96 => ⟨S8x1000x1000, .f32⟩
  | 97 => ⟨S8x1000x1, .f32⟩
  | 98 => ⟨S8x1x1000, .f32⟩
  | 99 => ⟨S8x1000x1000, .f32⟩
  | 100 => ⟨S8x1000x1000, .f32⟩
  | 101 => ⟨S8x1000x1000, .f32⟩
  | 102 => ⟨S8x1000x1, .f32⟩
  | 103 => ⟨S8x1x1000, .f32⟩
  | 104 => ⟨S8x1000x1000, .f32⟩
  | 105 => ⟨S8x1000x1000, .f32⟩
  | 106 => ⟨S8x1000x1000, .f32⟩
  | 107 => ⟨S8x1000x1, .f32⟩
  | 108 => ⟨S8x1x1000, .f32⟩
  | 109 => ⟨S8x1000x1000, .f32⟩
  | 110 => ⟨S8x1000x1000, .f32⟩
  | 111 => ⟨S8x1000x1000, .f32⟩
  | 112 => ⟨S8x1000x1000, .f32⟩
  | 113 => ⟨S_, .f32⟩
  | 114 => ⟨S8x1000x1000, .f32⟩
  | 115 => ⟨S8x1000x1000, .f32⟩
  | 116 => ⟨S8x1000x1000, .f32⟩
  | 117 => ⟨S_, .f32⟩
  | 118 => ⟨S8x1000x1000, .f32⟩
  | 119 => ⟨S8x1000x1000, .f32⟩
  | 120 => ⟨S8x1000x1000, .f32⟩
  | 121 => ⟨S8x1000x1, .f32⟩
  | 122 => ⟨S8x1x1000, .f32⟩
  | 123 => ⟨S8x1000x1000, .f32⟩
  | 124 => ⟨S8x1000x1000, .f32⟩
  | 125 => ⟨S8x1000x1000, .f32⟩
  | 126 => ⟨S8x1000x1000, .f32⟩
  | 127 => ⟨S_, .f32⟩
  | _ => ⟨S8x1000, .f32⟩

abbrev hbmTy0_1 (i : Nat) : BufTy := match i % 128 with
  | 0 => ⟨S8x1000x1000, .f32⟩
  | 1 => ⟨S8x1000x1000, .f32⟩
  | 2 => ⟨S8x1000x1000, .f32⟩
  | 3 => ⟨S_, .f32⟩
  | 4 => ⟨S8x1000, .f32⟩
  | 5 => ⟨S8x1000, .i1⟩
  | 6 => ⟨S1000, .i32⟩
  | 7 => ⟨S_, .i32⟩
  | 8 => ⟨S_, .i32⟩
  | 9 => ⟨S8x1000x1000, .f32⟩
  | 10 => ⟨S1000, .i32⟩
  | 11 => ⟨S_, .i32⟩
  | 12 => ⟨S_, .i32⟩
  | 13 => ⟨S8x1000, .i1⟩
  | 14 => ⟨S_, .i32⟩
  | 15 => ⟨S_, .i1⟩
  | 16 => ⟨S_, .i32⟩
  | 17 => ⟨S_, .i32⟩
  | 18 => ⟨S_, .i32⟩
  | 19 => ⟨S_, .i32⟩
  | 20 => ⟨S_, .i32⟩
  | 21 => ⟨S_, .i1⟩
  | 22 => ⟨S_, .i32⟩
  | 23 => ⟨S_, .i32⟩
  | 24 => ⟨S_, .i32⟩
  | 25 => ⟨S_, .i32⟩
  | 26 => ⟨S_, .i32⟩
  | 27 => ⟨S_, .i32⟩
  | 28 => ⟨S_, .i1⟩
  | 29 => ⟨S_, .i32⟩
  | 30 => ⟨S_, .i32⟩
  | 31 => ⟨S_, .i32⟩
  | 32 => ⟨S_, .i32⟩
  | 33 => ⟨S_, .i32⟩
  | 34 => ⟨S_, .i1⟩
  | 35 => ⟨S_, .i32⟩
  | 36 => ⟨S_, .i32⟩
  | 37 => ⟨S_, .i32⟩
  | 38 => ⟨S_, .i32⟩
  | 39 => ⟨S_, .i32⟩
  | 40 => ⟨S8x1x1000, .f32⟩
  | 41 => ⟨S8x1000, .f32⟩
  | 42 => ⟨S_, .f32⟩
  | 43 => ⟨S8x1000, .f32⟩
  | 44 => ⟨S8x1000, .i1⟩
  | 45 => ⟨S_, .i32⟩
  | 46 => ⟨S_, .i32⟩
  | 47 => ⟨S_, .i32⟩
  | 48 => ⟨S_, .i1⟩
  | 49 => ⟨S_, .i32⟩
  | 50 => ⟨S_, .i32⟩
  | 51 => ⟨S_, .i32⟩
  | 52 => ⟨S_, .i32⟩
  | 53 => ⟨S_, .i32⟩
  | 54 => ⟨S_, .i32⟩
  | 55 => ⟨S_, .i1⟩
  | 56 => ⟨S_, .i32⟩
  | 57 => ⟨S_, .i32⟩
  | 58 => ⟨S_, .i32⟩
  | 59 => ⟨S8x1, .i1⟩
  | 60 => ⟨S8, .i1⟩
  | 61 => ⟨S8x1, .i1⟩
  | 62 => ⟨S8x1000, .i1⟩
  | 63 => ⟨S8x1000, .i1⟩
  | 64 => ⟨S_, .i32⟩
  | 65 => ⟨S1000, .i32⟩
  | 66 => ⟨S1000, .i1⟩
  | 67 => ⟨S1x1000, .i1⟩
  | 68 => ⟨S8x1000, .i1⟩
  | 69 => ⟨S8x1000, .i1⟩
  | 70 => ⟨S8x1000, .i1⟩
  | 71 => ⟨S8x1000, .i1⟩
  | 72 => ⟨S_, .i32⟩
  | 73 => ⟨S_, .i32⟩
  | 74 => ⟨S_, .f32⟩
  | 75 => ⟨S_, .f32⟩
  | 76 => ⟨S8x1000, .f32⟩
  | 77 => ⟨S8x1000, .f32⟩
  | 78 => ⟨S8x100, .f32⟩
  | 79 => ⟨S8x100, .i32⟩
  | 80 => ⟨S8x100x1, .i32⟩
  | 81 => ⟨S_, .i32⟩
  | 82 => ⟨S8x100x1, .i32⟩
  | 83 => ⟨S8x100x1, .i1⟩
  | 84 => ⟨S_, .i32⟩
  | 85 => ⟨S8x100x1, .i32⟩
  | 86 => ⟨S8x100x1, .i32⟩
  | 87 => ⟨S8x100x1, .i32⟩
  | 88 => ⟨S1, .i32⟩
  | 89 => ⟨S_, .i32⟩
  | 90 => ⟨S8x100x1, .i32⟩
  | 91 => ⟨S8x100x1, .i1⟩
  | 92 => ⟨S1x1x1, .i32⟩
  | 93 => ⟨S8x100x1, .i32⟩
  | 94 => ⟨S8x100x1, .i1⟩
  | 95 => ⟨S8x100x1, .i1⟩
  | 96 => ⟨S_, .i1⟩
  | 97 => ⟨S8x100, .i1⟩
  | 98 => ⟨S8x100x4, .f32⟩
  | 99 => ⟨S8x100x4, .i1⟩
  | 100 => ⟨S_, .f32⟩
  | 101 => ⟨S8x100x4, .f32⟩
  | 102 => ⟨S8x100x4, .f32⟩
  | 103 => ⟨S_, .i32⟩
  | 104 => ⟨S8x100, .i32⟩
  | 105 => ⟨S8x100, .i1⟩
  | 106 => ⟨S_, .i32⟩
  | 107 => ⟨S8x100, .i32⟩
  | 108 => ⟨S8x100, .i32⟩
  | 109 => ⟨S8x100, .i32⟩
  | 110 => ⟨S8x100x1, .i32⟩
  | 111 => ⟨S1, .i32⟩
  | 112 => ⟨S_, .i32⟩
  | 113 => ⟨S8x100x1, .i32⟩
  | 114 => ⟨S8x100x1, .i1⟩
  | 115 => ⟨S1x1x1, .i32⟩
  | 116 => ⟨S8x100x1, .i32⟩
  | 117 => ⟨S8x100x1, .i1⟩
  | 118 => ⟨S8x100x1, .i1⟩
  | 119 => ⟨S_, .i1⟩
  | 120 => ⟨S8x100, .i1⟩
  | 121 => ⟨S8x100, .i32⟩
  | 122 => ⟨S_, .i32⟩
  | 123 => ⟨S8x100, .i32⟩
  | 124 => ⟨S8x100, .i32⟩
  | 125 => ⟨S8x100, .f32⟩
  | 126 => ⟨S_, .i32⟩
  | 127 => ⟨S8x100, .i32⟩
  | _ => ⟨S8x1000, .f32⟩

abbrev hbmTy0_2 (i : Nat) : BufTy := match i % 128 with
  | 0 => ⟨S8x100, .i1⟩
  | 1 => ⟨S_, .i32⟩
  | 2 => ⟨S8x100, .i32⟩
  | 3 => ⟨S8x100, .i32⟩
  | 4 => ⟨S8x100, .i32⟩
  | 5 => ⟨S8x100x1, .i32⟩
  | 6 => ⟨S1, .i32⟩
  | 7 => ⟨S_, .i32⟩
  | 8 => ⟨S8x100x1, .i32⟩
  | 9 => ⟨S8x100x1, .i1⟩
  | 10 => ⟨S1x1x1, .i32⟩
  | 11 => ⟨S8x100x1, .i32⟩
  | 12 => ⟨S8x100x1, .i1⟩
  | 13 => ⟨S8x100x1, .i1⟩
  | 14 => ⟨S_, .i1⟩
  | 15 => ⟨S8x100, .i1⟩
  | 16 => ⟨S8x100, .f32⟩
  | 17 => ⟨S_, .f32⟩
  | 18 => ⟨S8x100, .f32⟩
  | 19 => ⟨S8x100, .f32⟩
  | 20 => ⟨S8x100x1, .f32⟩
  | 21 => ⟨S8x100x1, .f32⟩
  | 22 => ⟨S8x100x6, .f32⟩
  | 23 => ⟨S_, .f32⟩
  | 24 => ⟨S8x100, .f32⟩
  | 25 => ⟨S8x100, .i1⟩
  | 26 => ⟨S8x100x1, .i1⟩
  | 27 => ⟨S_, .f32⟩
  | 28 => ⟨S_, .f32⟩
  | 29 => ⟨S8x100x6, .i1⟩
  | 30 => ⟨S8x100x6, .f32⟩
  | 31 => ⟨S8x100x6, .f32⟩
  | _ => ⟨S8x1000, .f32⟩

abbrev hbmTy (i : Nat) : BufTy := match i / 128 with
  | 0 => hbmTy0_0 i
  | 1 => hbmTy0_1 i
  | 2 => hbmTy0_2 i
  | _ => ⟨S8x1000, .f32⟩

abbrev bufTy : (tb : Table) → Fin (tcTables nBuf tb) → BufTy
  | .hbm, ⟨i, _⟩ => hbmTy i
  | _, _ => ⟨S8x1000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_v0 : Ref sig .tc := ⟨.hbm, 4, rfl⟩
abbrev main_call0_v1_0 : Ref sig .tc := ⟨.hbm, 5, rfl⟩
abbrev main_v1 : Ref sig .tc := ⟨.hbm, 6, rfl⟩
abbrev main_v2 : Ref sig .tc := ⟨.hbm, 7, rfl⟩
abbrev main_call1_c : Ref sig .tc := ⟨.hbm, 8, rfl⟩
abbrev main_call1_v0 : Ref sig .tc := ⟨.hbm, 9, rfl⟩
abbrev main_call1_v1 : Ref sig .tc := ⟨.hbm, 10, rfl⟩
abbrev main_call1_c_0 : Ref sig .tc := ⟨.hbm, 11, rfl⟩
abbrev main_call1_v2 : Ref sig .tc := ⟨.hbm, 12, rfl⟩
abbrev main_call1_v3 : Ref sig .tc := ⟨.hbm, 13, rfl⟩
abbrev main_call1_v4 : Ref sig .tc := ⟨.hbm, 14, rfl⟩
abbrev main_call1_c_1 : Ref sig .tc := ⟨.hbm, 15, rfl⟩
abbrev main_call1_c_2 : Ref sig .tc := ⟨.hbm, 16, rfl⟩
abbrev main_call1_v5 : Ref sig .tc := ⟨.hbm, 17, rfl⟩
abbrev main_call1_v6 : Ref sig .tc := ⟨.hbm, 18, rfl⟩
abbrev main_call1_v7 : Ref sig .tc := ⟨.hbm, 19, rfl⟩
abbrev main_call1_v8 : Ref sig .tc := ⟨.hbm, 20, rfl⟩
abbrev main_call1_v9 : Ref sig .tc := ⟨.hbm, 21, rfl⟩
abbrev main_call1_v10 : Ref sig .tc := ⟨.hbm, 22, rfl⟩
abbrev main_call1_c_3 : Ref sig .tc := ⟨.hbm, 23, rfl⟩
abbrev main_call1_v11 : Ref sig .tc := ⟨.hbm, 24, rfl⟩
abbrev main_call1_v12 : Ref sig .tc := ⟨.hbm, 25, rfl⟩
abbrev main_call1_v13 : Ref sig .tc := ⟨.hbm, 26, rfl⟩
abbrev main_call1_cst : Ref sig .tc := ⟨.hbm, 27, rfl⟩
abbrev main_call1_v14 : Ref sig .tc := ⟨.hbm, 28, rfl⟩
abbrev main_v3 : Ref sig .tc := ⟨.hbm, 29, rfl⟩
abbrev main_call2_c : Ref sig .tc := ⟨.hbm, 30, rfl⟩
abbrev main_call2_v0 : Ref sig .tc := ⟨.hbm, 31, rfl⟩
abbrev main_call2_v1 : Ref sig .tc := ⟨.hbm, 32, rfl⟩
abbrev main_call2_c_0 : Ref sig .tc := ⟨.hbm, 33, rfl⟩
abbrev main_call2_v2 : Ref sig .tc := ⟨.hbm, 34, rfl⟩
abbrev main_call2_v3 : Ref sig .tc := ⟨.hbm, 35, rfl⟩
abbrev main_call2_v4 : Ref sig .tc := ⟨.hbm, 36, rfl⟩
abbrev main_call2_v5 : Ref sig .tc := ⟨.hbm, 37, rfl⟩
abbrev main_call2_c_1 : Ref sig .tc := ⟨.hbm, 38, rfl⟩
abbrev main_call2_c_2 : Ref sig .tc := ⟨.hbm, 39, rfl⟩
abbrev main_call2_v6 : Ref sig .tc := ⟨.hbm, 40, rfl⟩
abbrev main_call2_v7 : Ref sig .tc := ⟨.hbm, 41, rfl⟩
abbrev main_call2_v8 : Ref sig .tc := ⟨.hbm, 42, rfl⟩
abbrev main_call2_v9 : Ref sig .tc := ⟨.hbm, 43, rfl⟩
abbrev main_call2_v10 : Ref sig .tc := ⟨.hbm, 44, rfl⟩
abbrev main_call2_v11 : Ref sig .tc := ⟨.hbm, 45, rfl⟩
abbrev main_call2_c_3 : Ref sig .tc := ⟨.hbm, 46, rfl⟩
abbrev main_call2_v12 : Ref sig .tc := ⟨.hbm, 47, rfl⟩
abbrev main_call2_v13 : Ref sig .tc := ⟨.hbm, 48, rfl⟩
abbrev main_call2_cst : Ref sig .tc := ⟨.hbm, 49, rfl⟩
abbrev main_call2_v14 : Ref sig .tc := ⟨.hbm, 50, rfl⟩
abbrev main_v4 : Ref sig .tc := ⟨.hbm, 51, rfl⟩
abbrev main_call3_c : Ref sig .tc := ⟨.hbm, 52, rfl⟩
abbrev main_call3_v0 : Ref sig .tc := ⟨.hbm, 53, rfl⟩
abbrev main_call3_v1 : Ref sig .tc := ⟨.hbm, 54, rfl⟩
abbrev main_call3_c_0 : Ref sig .tc := ⟨.hbm, 55, rfl⟩
abbrev main_call3_v2 : Ref sig .tc := ⟨.hbm, 56, rfl⟩
abbrev main_call3_v3 : Ref sig .tc := ⟨.hbm, 57, rfl⟩
abbrev main_call3_v4 : Ref sig .tc := ⟨.hbm, 58, rfl⟩
abbrev main_call3_v5 : Ref sig .tc := ⟨.hbm, 59, rfl⟩
abbrev main_call3_c_1 : Ref sig .tc := ⟨.hbm, 60, rfl⟩
abbrev main_call3_c_2 : Ref sig .tc := ⟨.hbm, 61, rfl⟩
abbrev main_call3_v6 : Ref sig .tc := ⟨.hbm, 62, rfl⟩
abbrev main_call3_v7 : Ref sig .tc := ⟨.hbm, 63, rfl⟩
abbrev main_call3_v8 : Ref sig .tc := ⟨.hbm, 64, rfl⟩
abbrev main_call3_v9 : Ref sig .tc := ⟨.hbm, 65, rfl⟩
abbrev main_call3_v10 : Ref sig .tc := ⟨.hbm, 66, rfl⟩
abbrev main_call3_v11 : Ref sig .tc := ⟨.hbm, 67, rfl⟩
abbrev main_call3_c_3 : Ref sig .tc := ⟨.hbm, 68, rfl⟩
abbrev main_call3_v12 : Ref sig .tc := ⟨.hbm, 69, rfl⟩
abbrev main_call3_v13 : Ref sig .tc := ⟨.hbm, 70, rfl⟩
abbrev main_call3_c_4 : Ref sig .tc := ⟨.hbm, 71, rfl⟩
abbrev main_call3_v14 : Ref sig .tc := ⟨.hbm, 72, rfl⟩
abbrev main_v5 : Ref sig .tc := ⟨.hbm, 73, rfl⟩
abbrev main_v6 : Ref sig .tc := ⟨.hbm, 74, rfl⟩
abbrev main_v7 : Ref sig .tc := ⟨.hbm, 75, rfl⟩
abbrev main_cst : Ref sig .tc := ⟨.hbm, 76, rfl⟩
abbrev main_v8 : Ref sig .tc := ⟨.hbm, 77, rfl⟩
abbrev main_v9 : Ref sig .tc := ⟨.hbm, 78, rfl⟩
abbrev main_v10 : Ref sig .tc := ⟨.hbm, 79, rfl⟩
abbrev main_v11 : Ref sig .tc := ⟨.hbm, 80, rfl⟩
abbrev main_v12 : Ref sig .tc := ⟨.hbm, 81, rfl⟩
abbrev main_v13 : Ref sig .tc := ⟨.hbm, 82, rfl⟩
abbrev main_v14 : Ref sig .tc := ⟨.hbm, 83, rfl⟩
abbrev main_v15 : Ref sig .tc := ⟨.hbm, 84, rfl⟩
abbrev main_v16 : Ref sig .tc := ⟨.hbm, 85, rfl⟩
abbrev main_v17 : Ref sig .tc := ⟨.hbm, 86, rfl⟩
abbrev main_v18 : Ref sig .tc := ⟨.hbm, 87, rfl⟩
abbrev main_v19 : Ref sig .tc := ⟨.hbm, 88, rfl⟩
abbrev main_v20 : Ref sig .tc := ⟨.hbm, 89, rfl⟩
abbrev main_v21 : Ref sig .tc := ⟨.hbm, 90, rfl⟩
abbrev main_v22 : Ref sig .tc := ⟨.hbm, 91, rfl⟩
abbrev main_v23 : Ref sig .tc := ⟨.hbm, 92, rfl⟩
abbrev main_v24 : Ref sig .tc := ⟨.hbm, 93, rfl⟩
abbrev main_v25 : Ref sig .tc := ⟨.hbm, 94, rfl⟩
abbrev main_v26 : Ref sig .tc := ⟨.hbm, 95, rfl⟩
abbrev main_v27 : Ref sig .tc := ⟨.hbm, 96, rfl⟩
abbrev main_v28 : Ref sig .tc := ⟨.hbm, 97, rfl⟩
abbrev main_v29 : Ref sig .tc := ⟨.hbm, 98, rfl⟩
abbrev main_v30 : Ref sig .tc := ⟨.hbm, 99, rfl⟩
abbrev main_v31 : Ref sig .tc := ⟨.hbm, 100, rfl⟩
abbrev main_v32 : Ref sig .tc := ⟨.hbm, 101, rfl⟩
abbrev main_v33 : Ref sig .tc := ⟨.hbm, 102, rfl⟩
abbrev main_v34 : Ref sig .tc := ⟨.hbm, 103, rfl⟩
abbrev main_v35 : Ref sig .tc := ⟨.hbm, 104, rfl⟩
abbrev main_v36 : Ref sig .tc := ⟨.hbm, 105, rfl⟩
abbrev main_v37 : Ref sig .tc := ⟨.hbm, 106, rfl⟩
abbrev main_v38 : Ref sig .tc := ⟨.hbm, 107, rfl⟩
abbrev main_v39 : Ref sig .tc := ⟨.hbm, 108, rfl⟩
abbrev main_v40 : Ref sig .tc := ⟨.hbm, 109, rfl⟩
abbrev main_v41 : Ref sig .tc := ⟨.hbm, 110, rfl⟩
abbrev main_v42 : Ref sig .tc := ⟨.hbm, 111, rfl⟩
abbrev main_v43 : Ref sig .tc := ⟨.hbm, 112, rfl⟩
abbrev main_cst_0 : Ref sig .tc := ⟨.hbm, 113, rfl⟩
abbrev main_v44 : Ref sig .tc := ⟨.hbm, 114, rfl⟩
abbrev main_v45 : Ref sig .tc := ⟨.hbm, 115, rfl⟩
abbrev main_v46 : Ref sig .tc := ⟨.hbm, 116, rfl⟩
abbrev main_cst_1 : Ref sig .tc := ⟨.hbm, 117, rfl⟩
abbrev main_v47 : Ref sig .tc := ⟨.hbm, 118, rfl⟩
abbrev main_v48 : Ref sig .tc := ⟨.hbm, 119, rfl⟩
abbrev main_v49 : Ref sig .tc := ⟨.hbm, 120, rfl⟩
abbrev main_v50 : Ref sig .tc := ⟨.hbm, 121, rfl⟩
abbrev main_v51 : Ref sig .tc := ⟨.hbm, 122, rfl⟩
abbrev main_v52 : Ref sig .tc := ⟨.hbm, 123, rfl⟩
abbrev main_v53 : Ref sig .tc := ⟨.hbm, 124, rfl⟩
abbrev main_v54 : Ref sig .tc := ⟨.hbm, 125, rfl⟩
abbrev main_v55 : Ref sig .tc := ⟨.hbm, 126, rfl⟩
abbrev main_cst_2 : Ref sig .tc := ⟨.hbm, 127, rfl⟩
abbrev main_v56 : Ref sig .tc := ⟨.hbm, 128, rfl⟩
abbrev main_v57 : Ref sig .tc := ⟨.hbm, 129, rfl⟩
abbrev main_v58 : Ref sig .tc := ⟨.hbm, 130, rfl⟩
abbrev main_cst_3 : Ref sig .tc := ⟨.hbm, 131, rfl⟩
abbrev main_v59 : Ref sig .tc := ⟨.hbm, 132, rfl⟩
abbrev main_v60 : Ref sig .tc := ⟨.hbm, 133, rfl⟩
abbrev main_v61 : Ref sig .tc := ⟨.hbm, 134, rfl⟩
abbrev main_c : Ref sig .tc := ⟨.hbm, 135, rfl⟩
abbrev main_c_4 : Ref sig .tc := ⟨.hbm, 136, rfl⟩
abbrev main_v62_0 : Ref sig .tc := ⟨.hbm, 137, rfl⟩
abbrev main_v62_1 : Ref sig .tc := ⟨.hbm, 138, rfl⟩
abbrev main_v62_2 : Ref sig .tc := ⟨.hbm, 139, rfl⟩
abbrev main_v62_3 : Ref sig .tc := ⟨.hbm, 140, rfl⟩
abbrev main_v62_4 : Ref sig .tc := ⟨.hbm, 141, rfl⟩
abbrev main_while0c_c_12 : Ref sig .tc := ⟨.hbm, 142, rfl⟩
abbrev main_while0c_v76 : Ref sig .tc := ⟨.hbm, 143, rfl⟩
abbrev main_while0b_c_12 : Ref sig .tc := ⟨.hbm, 144, rfl⟩
abbrev main_while0b_v76 : Ref sig .tc := ⟨.hbm, 145, rfl⟩
abbrev main_while0b_v77 : Ref sig .tc := ⟨.hbm, 146, rfl⟩
abbrev main_while0b_c_13 : Ref sig .tc := ⟨.hbm, 147, rfl⟩
abbrev main_while0b_c_14 : Ref sig .tc := ⟨.hbm, 148, rfl⟩
abbrev main_while0b_v78 : Ref sig .tc := ⟨.hbm, 149, rfl⟩
abbrev main_while0b_c_15 : Ref sig .tc := ⟨.hbm, 150, rfl⟩
abbrev main_while0b_c_16 : Ref sig .tc := ⟨.hbm, 151, rfl⟩
abbrev main_while0b_v79 : Ref sig .tc := ⟨.hbm, 152, rfl⟩
abbrev main_while0b_c_17 : Ref sig .tc := ⟨.hbm, 153, rfl⟩
abbrev main_while0b_v80 : Ref sig .tc := ⟨.hbm, 154, rfl⟩
abbrev main_while0b_c_18 : Ref sig .tc := ⟨.hbm, 155, rfl⟩
abbrev main_while0b_v81 : Ref sig .tc := ⟨.hbm, 156, rfl⟩
abbrev main_while0b_c_19 : Ref sig .tc := ⟨.hbm, 157, rfl⟩
abbrev main_while0b_v82 : Ref sig .tc := ⟨.hbm, 158, rfl⟩
abbrev main_while0b_v83 : Ref sig .tc := ⟨.hbm, 159, rfl⟩
abbrev main_while0b_c_20 : Ref sig .tc := ⟨.hbm, 160, rfl⟩
abbrev main_while0b_c_21 : Ref sig .tc := ⟨.hbm, 161, rfl⟩
abbrev main_while0b_v84 : Ref sig .tc := ⟨.hbm, 162, rfl⟩
abbrev main_while0b_c_22 : Ref sig .tc := ⟨.hbm, 163, rfl⟩
abbrev main_while0b_c_23 : Ref sig .tc := ⟨.hbm, 164, rfl⟩
abbrev main_while0b_v85 : Ref sig .tc := ⟨.hbm, 165, rfl⟩
abbrev main_while0b_c_24 : Ref sig .tc := ⟨.hbm, 166, rfl⟩
abbrev main_while0b_v86 : Ref sig .tc := ⟨.hbm, 167, rfl⟩
abbrev main_while0b_v87 : Ref sig .tc := ⟨.hbm, 168, rfl⟩
abbrev main_while0b_v88 : Ref sig .tc := ⟨.hbm, 169, rfl⟩
abbrev main_while0b_cst_25 : Ref sig .tc := ⟨.hbm, 170, rfl⟩
abbrev main_while0b_v89 : Ref sig .tc := ⟨.hbm, 171, rfl⟩
abbrev main_while0b_v90 : Ref sig .tc := ⟨.hbm, 172, rfl⟩
abbrev main_while0b_v91 : Ref sig .tc := ⟨.hbm, 173, rfl⟩
abbrev main_while0b_c_26 : Ref sig .tc := ⟨.hbm, 174, rfl⟩
abbrev main_while0b_c_27 : Ref sig .tc := ⟨.hbm, 175, rfl⟩
abbrev main_while0b_v92 : Ref sig .tc := ⟨.hbm, 176, rfl⟩
abbrev main_while0b_c_28 : Ref sig .tc := ⟨.hbm, 177, rfl⟩
abbrev main_while0b_c_29 : Ref sig .tc := ⟨.hbm, 178, rfl⟩
abbrev main_while0b_v93 : Ref sig .tc := ⟨.hbm, 179, rfl⟩
abbrev main_while0b_c_30 : Ref sig .tc := ⟨.hbm, 180, rfl⟩
abbrev main_while0b_v94 : Ref sig .tc := ⟨.hbm, 181, rfl⟩
abbrev main_while0b_c_31 : Ref sig .tc := ⟨.hbm, 182, rfl⟩
abbrev main_while0b_v95 : Ref sig .tc := ⟨.hbm, 183, rfl⟩
abbrev main_while0b_c_32 : Ref sig .tc := ⟨.hbm, 184, rfl⟩
abbrev main_while0b_v96 : Ref sig .tc := ⟨.hbm, 185, rfl⟩
abbrev main_while0b_v97 : Ref sig .tc := ⟨.hbm, 186, rfl⟩
abbrev main_while0b_v98 : Ref sig .tc := ⟨.hbm, 187, rfl⟩
abbrev main_while0b_v99 : Ref sig .tc := ⟨.hbm, 188, rfl⟩
abbrev main_while0b_v100 : Ref sig .tc := ⟨.hbm, 189, rfl⟩
abbrev main_while0b_v101 : Ref sig .tc := ⟨.hbm, 190, rfl⟩
abbrev main_while0b_v102 : Ref sig .tc := ⟨.hbm, 191, rfl⟩
abbrev main_while0b_v103 : Ref sig .tc := ⟨.hbm, 192, rfl⟩
abbrev main_while0b_v104 : Ref sig .tc := ⟨.hbm, 193, rfl⟩
abbrev main_while0b_v105 : Ref sig .tc := ⟨.hbm, 194, rfl⟩
abbrev main_while0b_v106 : Ref sig .tc := ⟨.hbm, 195, rfl⟩
abbrev main_while0b_v107 : Ref sig .tc := ⟨.hbm, 196, rfl⟩
abbrev main_while0b_v108 : Ref sig .tc := ⟨.hbm, 197, rfl⟩
abbrev main_while0b_v109 : Ref sig .tc := ⟨.hbm, 198, rfl⟩
abbrev main_while0b_v110 : Ref sig .tc := ⟨.hbm, 199, rfl⟩
abbrev main_while0b_c_33 : Ref sig .tc := ⟨.hbm, 200, rfl⟩
abbrev main_while0b_v111 : Ref sig .tc := ⟨.hbm, 201, rfl⟩
abbrev main_cst_5 : Ref sig .tc := ⟨.hbm, 202, rfl⟩
abbrev main_call4_v0 : Ref sig .tc := ⟨.hbm, 203, rfl⟩
abbrev main_call4_v1 : Ref sig .tc := ⟨.hbm, 204, rfl⟩
abbrev main_v63 : Ref sig .tc := ⟨.hbm, 205, rfl⟩
abbrev main_values : Ref sig .tc := ⟨.hbm, 206, rfl⟩
abbrev main_indices : Ref sig .tc := ⟨.hbm, 207, rfl⟩
abbrev main_v64 : Ref sig .tc := ⟨.hbm, 208, rfl⟩
abbrev main_call5_c : Ref sig .tc := ⟨.hbm, 209, rfl⟩
abbrev main_call5_v0 : Ref sig .tc := ⟨.hbm, 210, rfl⟩
abbrev main_call5_v1 : Ref sig .tc := ⟨.hbm, 211, rfl⟩
abbrev main_call5_c_0 : Ref sig .tc := ⟨.hbm, 212, rfl⟩
abbrev main_call5_v2 : Ref sig .tc := ⟨.hbm, 213, rfl⟩
abbrev main_call5_v3 : Ref sig .tc := ⟨.hbm, 214, rfl⟩
abbrev main_call5_v4 : Ref sig .tc := ⟨.hbm, 215, rfl⟩
abbrev main_call5_c_1 : Ref sig .tc := ⟨.hbm, 216, rfl⟩
abbrev main_call5_c_2 : Ref sig .tc := ⟨.hbm, 217, rfl⟩
abbrev main_call5_v5 : Ref sig .tc := ⟨.hbm, 218, rfl⟩
abbrev main_call5_v6 : Ref sig .tc := ⟨.hbm, 219, rfl⟩
abbrev main_call5_v7 : Ref sig .tc := ⟨.hbm, 220, rfl⟩
abbrev main_call5_v8 : Ref sig .tc := ⟨.hbm, 221, rfl⟩
abbrev main_call5_v9 : Ref sig .tc := ⟨.hbm, 222, rfl⟩
abbrev main_call5_v10 : Ref sig .tc := ⟨.hbm, 223, rfl⟩
abbrev main_call5_c_3 : Ref sig .tc := ⟨.hbm, 224, rfl⟩
abbrev main_call5_v11 : Ref sig .tc := ⟨.hbm, 225, rfl⟩
abbrev main_call5_v12 : Ref sig .tc := ⟨.hbm, 226, rfl⟩
abbrev main_call5_v13 : Ref sig .tc := ⟨.hbm, 227, rfl⟩
abbrev main_call5_cst : Ref sig .tc := ⟨.hbm, 228, rfl⟩
abbrev main_call5_v14 : Ref sig .tc := ⟨.hbm, 229, rfl⟩
abbrev main_v65 : Ref sig .tc := ⟨.hbm, 230, rfl⟩
abbrev main_call6_c : Ref sig .tc := ⟨.hbm, 231, rfl⟩
abbrev main_call6_v0 : Ref sig .tc := ⟨.hbm, 232, rfl⟩
abbrev main_call6_v1 : Ref sig .tc := ⟨.hbm, 233, rfl⟩
abbrev main_call6_c_0 : Ref sig .tc := ⟨.hbm, 234, rfl⟩
abbrev main_call6_v2 : Ref sig .tc := ⟨.hbm, 235, rfl⟩
abbrev main_call6_v3 : Ref sig .tc := ⟨.hbm, 236, rfl⟩
abbrev main_call6_v4 : Ref sig .tc := ⟨.hbm, 237, rfl⟩
abbrev main_call6_v5 : Ref sig .tc := ⟨.hbm, 238, rfl⟩
abbrev main_call6_c_1 : Ref sig .tc := ⟨.hbm, 239, rfl⟩
abbrev main_call6_c_2 : Ref sig .tc := ⟨.hbm, 240, rfl⟩
abbrev main_call6_v6 : Ref sig .tc := ⟨.hbm, 241, rfl⟩
abbrev main_call6_v7 : Ref sig .tc := ⟨.hbm, 242, rfl⟩
abbrev main_call6_v8 : Ref sig .tc := ⟨.hbm, 243, rfl⟩
abbrev main_call6_v9 : Ref sig .tc := ⟨.hbm, 244, rfl⟩
abbrev main_call6_v10 : Ref sig .tc := ⟨.hbm, 245, rfl⟩
abbrev main_call6_v11 : Ref sig .tc := ⟨.hbm, 246, rfl⟩
abbrev main_call6_c_3 : Ref sig .tc := ⟨.hbm, 247, rfl⟩
abbrev main_call6_v12 : Ref sig .tc := ⟨.hbm, 248, rfl⟩
abbrev main_call6_v13 : Ref sig .tc := ⟨.hbm, 249, rfl⟩
abbrev main_call6_c_4 : Ref sig .tc := ⟨.hbm, 250, rfl⟩
abbrev main_call6_v14 : Ref sig .tc := ⟨.hbm, 251, rfl⟩
abbrev main_v66 : Ref sig .tc := ⟨.hbm, 252, rfl⟩
abbrev main_v67 : Ref sig .tc := ⟨.hbm, 253, rfl⟩
abbrev main_call7_c : Ref sig .tc := ⟨.hbm, 254, rfl⟩
abbrev main_call7_v0 : Ref sig .tc := ⟨.hbm, 255, rfl⟩
abbrev main_call7_v1 : Ref sig .tc := ⟨.hbm, 256, rfl⟩
abbrev main_call7_c_0 : Ref sig .tc := ⟨.hbm, 257, rfl⟩
abbrev main_call7_v2 : Ref sig .tc := ⟨.hbm, 258, rfl⟩
abbrev main_call7_v3 : Ref sig .tc := ⟨.hbm, 259, rfl⟩
abbrev main_call7_v4 : Ref sig .tc := ⟨.hbm, 260, rfl⟩
abbrev main_call7_v5 : Ref sig .tc := ⟨.hbm, 261, rfl⟩
abbrev main_call7_c_1 : Ref sig .tc := ⟨.hbm, 262, rfl⟩
abbrev main_call7_c_2 : Ref sig .tc := ⟨.hbm, 263, rfl⟩
abbrev main_call7_v6 : Ref sig .tc := ⟨.hbm, 264, rfl⟩
abbrev main_call7_v7 : Ref sig .tc := ⟨.hbm, 265, rfl⟩
abbrev main_call7_v8 : Ref sig .tc := ⟨.hbm, 266, rfl⟩
abbrev main_call7_v9 : Ref sig .tc := ⟨.hbm, 267, rfl⟩
abbrev main_call7_v10 : Ref sig .tc := ⟨.hbm, 268, rfl⟩
abbrev main_call7_v11 : Ref sig .tc := ⟨.hbm, 269, rfl⟩
abbrev main_call7_c_3 : Ref sig .tc := ⟨.hbm, 270, rfl⟩
abbrev main_call7_v12 : Ref sig .tc := ⟨.hbm, 271, rfl⟩
abbrev main_call7_v13 : Ref sig .tc := ⟨.hbm, 272, rfl⟩
abbrev main_call7_cst : Ref sig .tc := ⟨.hbm, 273, rfl⟩
abbrev main_call7_v14 : Ref sig .tc := ⟨.hbm, 274, rfl⟩
abbrev main_v68 : Ref sig .tc := ⟨.hbm, 275, rfl⟩
abbrev main_v69 : Ref sig .tc := ⟨.hbm, 276, rfl⟩
abbrev main_v70 : Ref sig .tc := ⟨.hbm, 277, rfl⟩
abbrev main_v71 : Ref sig .tc := ⟨.hbm, 278, rfl⟩
abbrev main_cst_6 : Ref sig .tc := ⟨.hbm, 279, rfl⟩
abbrev main_v72 : Ref sig .tc := ⟨.hbm, 280, rfl⟩
abbrev main_v73 : Ref sig .tc := ⟨.hbm, 281, rfl⟩
abbrev main_v74 : Ref sig .tc := ⟨.hbm, 282, rfl⟩
abbrev main_cst_7 : Ref sig .tc := ⟨.hbm, 283, rfl⟩
abbrev main_call8_v0 : Ref sig .tc := ⟨.hbm, 284, rfl⟩
abbrev main_call8_v1 : Ref sig .tc := ⟨.hbm, 285, rfl⟩
abbrev main_call8_v2 : Ref sig .tc := ⟨.hbm, 286, rfl⟩
abbrev main_v75 : Ref sig .tc := ⟨.hbm, 287, rfl⟩

abbrev nD : Nat := 1
abbrev τ : Topo := Topo.v7x

variable {F : FTy → Type} [FloatOps F]

abbrev main_while0_count : Scf.Loop 32 := ⟨0#32, 1000#32, 1#32⟩
-- ==== Dense.lean ====
abbrev S8x1000x4 : Shape := ⟨3, ![8, 1000, 4]⟩
abbrev S8x1000x81 : Shape := ⟨3, ![8, 1000, 81]⟩
abbrev S8x1000x81x4 : Shape := ⟨4, ![8, 1000, 81, 4]⟩
abbrev S8x4x1000 : Shape := ⟨3, ![8, 4, 1000]⟩
abbrev S81x8x1000 : Shape := ⟨3, ![81, 8, 1000]⟩
abbrev S8x81x4x1000 : Shape := ⟨4, ![8, 81, 4, 1000]⟩
abbrev S8192 : Shape := ⟨1, ![8192]⟩
abbrev S1x4x1000 : Shape := ⟨3, ![1, 4, 1000]⟩
abbrev S4x1000 : Shape := ⟨2, ![4, 1000]⟩
abbrev S81x1x1000 : Shape := ⟨3, ![81, 1, 1000]⟩
abbrev S81x1000 : Shape := ⟨2, ![81, 1000]⟩
abbrev S1x81x4x1000 : Shape := ⟨4, ![1, 81, 4, 1000]⟩
abbrev S81x4x1000 : Shape := ⟨3, ![81, 4, 1000]⟩
abbrev S1000 : Shape := ⟨1, ![1000]⟩
abbrev S1x1000 : Shape := ⟨2, ![1, 1000]⟩
abbrev S40x4x1000 : Shape := ⟨3, ![40, 4, 1000]⟩
abbrev S39x4x1000 : Shape := ⟨3, ![39, 4, 1000]⟩
abbrev S20x4x1000 : Shape := ⟨3, ![20, 4, 1000]⟩
abbrev S10x4x1000 : Shape := ⟨3, ![10, 4, 1000]⟩
abbrev S5x4x1000 : Shape := ⟨3, ![5, 4, 1000]⟩
abbrev S2x4x1000 : Shape := ⟨3, ![2, 4, 1000]⟩
abbrev S24 : Shape := ⟨1, ![24]⟩
abbrev S1024 : Shape := ⟨1, ![1024]⟩

abbrev nBuf : Space → Nat
  | .hbm => 12
  | .vmem => 9
  | .smem => 0
  | _ => 0

abbrev bufTy : (tb : Table) → Fin (tcTables nBuf tb) → BufTy
  | .hbm, ⟨0, _⟩ => ⟨S8x1000x4, .f32⟩
  | .hbm, ⟨1, _⟩ => ⟨S8x1000x81, .f32⟩
  | .hbm, ⟨2, _⟩ => ⟨S8x1000x81x4, .f32⟩
  | .hbm, ⟨3, _⟩ => ⟨S8x4x1000, .f32⟩
  | .hbm, ⟨4, _⟩ => ⟨S81x8x1000, .f32⟩
  | .hbm, ⟨5, _⟩ => ⟨S8x81x4x1000, .f32⟩
  | .hbm, ⟨6, _⟩ => ⟨S8192, .f32⟩
  | .hbm, ⟨7, _⟩ => ⟨S8192, .f32⟩
  | .hbm, ⟨8, _⟩ => ⟨S8192, .f32⟩
  | .hbm, ⟨9, _⟩ => ⟨S8192, .f32⟩
  | .hbm, ⟨10, _⟩ => ⟨S8192, .f32⟩
  | .hbm, ⟨11, _⟩ => ⟨S8192, .f32⟩
  | .local _ .vmem, ⟨0, _⟩ => ⟨S8x4x1000, .f32⟩
  | .local _ .vmem, ⟨1, _⟩ => ⟨S81x8x1000, .f32⟩
  | .local _ .vmem, ⟨2, _⟩ => ⟨S8x81x4x1000, .f32⟩
  | .local _ .vmem, ⟨3, _⟩ => ⟨S8192, .f32⟩
  | .local _ .vmem, ⟨4, _⟩ => ⟨S8192, .f32⟩
  | .local _ .vmem, ⟨5, _⟩ => ⟨S8192, .f32⟩
  | .local _ .vmem, ⟨6, _⟩ => ⟨S8192, .f32⟩
  | .local _ .vmem, ⟨7, _⟩ => ⟨S8192, .f32⟩
  | .local _ .vmem, ⟨8, _⟩ => ⟨S8192, .f32⟩
  | _, _ => ⟨S8x1000x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v3_2 : Ref sig .tc := ⟨.hbm, 8, rfl⟩
abbrev main_v3_3 : Ref sig .tc := ⟨.hbm, 9, rfl⟩
abbrev main_v3_4 : Ref sig .tc := ⟨.hbm, 10, rfl⟩
abbrev main_v3_5 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S8x4x1000 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S81x8x1000 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x81x4x1000 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8192 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8192 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S8192 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S8192 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== DenseReferenceIdeal.lean ====
abbrev S8x1000x4 : Shape := ⟨3, ![8, 1000, 4]⟩
abbrev S8x1000x81 : Shape := ⟨3, ![8, 1000, 81]⟩
abbrev S8x1000x81x4 : Shape := ⟨4, ![8, 1000, 81, 4]⟩
abbrev S4 : Shape := ⟨1, ![4]⟩
abbrev S_ : Shape := ⟨0, ![]⟩
abbrev S8x1000 : Shape := ⟨2, ![8, 1000]⟩
abbrev S8x1000x1 : Shape := ⟨3, ![8, 1000, 1]⟩
abbrev S8x1000x1x1 : Shape := ⟨4, ![8, 1000, 1, 1]⟩
abbrev S1 : Shape := ⟨1, ![1]⟩
abbrev S1x1x1x1 : Shape := ⟨4, ![1, 1, 1, 1]⟩
abbrev S8x1000x1x4 : Shape := ⟨4, ![8, 1000, 1, 4]⟩
abbrev S1x1x4 : Shape := ⟨3, ![1, 1, 4]⟩
abbrev S8x1024 : Shape := ⟨2, ![8, 1024]⟩
abbrev S8192 : Shape := ⟨1, ![8192]⟩

abbrev nBuf : Space → Nat
  | .hbm => 182
  | .vmem => 0
  | .smem => 0
  | _ => 0

abbrev hbmTy0_0 (i : Nat) : BufTy := match i % 128 with
  | 0 => ⟨S8x1000x4, .f32⟩
  | 1 => ⟨S8x1000x81, .f32⟩
  | 2 => ⟨S8x1000x81x4, .f32⟩
  | 3 => ⟨S4, .f32⟩
  | 4 => ⟨S8x1000x81, .i32⟩
  | 5 => ⟨S_, .f32⟩
  | 6 => ⟨S_, .i32⟩
  | 7 => ⟨S8x1000, .f32⟩
  | 8 => ⟨S8x1000, .i32⟩
  | 9 => ⟨S8x1000x1, .i32⟩
  | 10 => ⟨S_, .i32⟩
  | 11 => ⟨S8x1000x1, .i32⟩
  | 12 => ⟨S8x1000x1, .i1⟩
  | 13 => ⟨S_, .i32⟩
  | 14 => ⟨S8x1000x1, .i32⟩
  | 15 => ⟨S8x1000x1, .i32⟩
  | 16 => ⟨S8x1000x1, .i32⟩
  | 17 => ⟨S8x1000x1x1, .i32⟩
  | 18 => ⟨S1, .i32⟩
  | 19 => ⟨S_, .i32⟩
  | 20 => ⟨S8x1000x1x1, .i32⟩
  | 21 => ⟨S8x1000x1x1, .i1⟩
  | 22 => ⟨S1x1x1x1, .i32⟩
  | 23 => ⟨S8x1000x1x1, .i32⟩
  | 24 => ⟨S8x1000x1x1, .i1⟩
  | 25 => ⟨S8x1000x1x1, .i1⟩
  | 26 => ⟨S_, .i1⟩
  | 27 => ⟨S8x1000x1, .i1⟩
  | 28 => ⟨S8x1000x1, .f32⟩
  | 29 => ⟨S_, .f32⟩
  | 30 => ⟨S8x1000x1, .f32⟩
  | 31 => ⟨S8x1000x1, .f32⟩
  | 32 => ⟨S8x1000, .f32⟩
  | 33 => ⟨S8x1000x1x1, .i32⟩
  | 34 => ⟨S_, .i32⟩
  | 35 => ⟨S8x1000x1x1, .i32⟩
  | 36 => ⟨S8x1000x1x1, .i1⟩
  | 37 => ⟨S_, .i32⟩
  | 38 => ⟨S8x1000x1x1, .i32⟩
  | 39 => ⟨S8x1000x1x1, .i32⟩
  | 40 => ⟨S8x1000x1x1, .i32⟩
  | 41 => ⟨S1, .i32⟩
  | 42 => ⟨S_, .i32⟩
  | 43 => ⟨S8x1000x1x1, .i32⟩
  | 44 => ⟨S8x1000x1x1, .i1⟩
  | 45 => ⟨S1x1x1x1, .i32⟩
  | 46 => ⟨S8x1000x1x1, .i32⟩
  | 47 => ⟨S8x1000x1x1, .i1⟩
  | 48 => ⟨S8x1000x1x1, .i1⟩
  | 49 => ⟨S_, .i1⟩
  | 50 => ⟨S8x1000x1, .i1⟩
  | 51 => ⟨S8x1000x1x4, .f32⟩
  | 52 => ⟨S8x1000x1x4, .i1⟩
  | 53 => ⟨S_, .f32⟩
  | 54 => ⟨S8x1000x1x4, .f32⟩
  | 55 => ⟨S8x1000x1x4, .f32⟩
  | 56 => ⟨S8x1000x4, .f32⟩
  | 57 => ⟨S1x1x4, .f32⟩
  | 58 => ⟨S8x1000x4, .f32⟩
  | 59 => ⟨S8x1000x4, .f32⟩
  | 60 => ⟨S8x1000x1, .f32⟩
  | 61 => ⟨S8x1000, .f32⟩
  | 62 => ⟨S8x1000x1, .f32⟩
  | 63 => ⟨S8x1000, .f32⟩
  | 64 => ⟨S8x1000, .f32⟩
  | 65 => ⟨S8x1000x1, .f32⟩
  | 66 => ⟨S8x1000, .f32⟩
  | 67 => ⟨S8x1000x1, .f32⟩
  | 68 => ⟨S8x1000, .f32⟩
  | 69 => ⟨S8x1000, .f32⟩
  | 70 => ⟨S8x1000x1, .f32⟩
  | 71 => ⟨S8x1000, .f32⟩
  | 72 => ⟨S_, .f32⟩
  | 73 => ⟨S8x1000, .f32⟩
  | 74 => ⟨S8x1000, .f32⟩
  | 75 => ⟨S8x1000, .f32⟩
  | 76 => ⟨S8x1000x1, .f32⟩
  | 77 => ⟨S8x1000, .f32⟩
  | 78 => ⟨S_, .f32⟩
  | 79 => ⟨S8x1000, .f32⟩
  | 80 => ⟨S8x1000, .f32⟩
  | 81 => ⟨S8x1000, .f32⟩
  | 82 => ⟨S8x1000x1, .f32⟩
  | 83 => ⟨S8x1000, .f32⟩
  | 84 => ⟨S8x1000, .f32⟩
  | 85 => ⟨S8x1000, .f32⟩
  | 86 => ⟨S8x1000x1, .f32⟩
  | 87 => ⟨S8x1000, .f32⟩
  | 88 => ⟨S8x1000, .f32⟩
  | 89 => ⟨S8x1000, .f32⟩
  | 90 => ⟨S8x1000x1, .f32⟩
  | 91 => ⟨S8x1000, .f32⟩
  | 92 => ⟨S8x1000, .f32⟩
  | 93 => ⟨S8x1000, .f32⟩
  | 94 => ⟨S8x1000x1, .f32⟩
  | 95 => ⟨S8x1000, .f32⟩
  | 96 => ⟨S8x1000, .f32⟩
  | 97 => ⟨S8x1000, .f32⟩
  | 98 => ⟨S_, .f32⟩
  | 99 => ⟨S8x1000, .f32⟩
  | 100 => ⟨S8x1000, .f32⟩
  | 101 => ⟨S8x1000, .f32⟩
  | 102 => ⟨S_, .f32⟩
  | 103 => ⟨S8x1000, .f32⟩
  | 104 => ⟨S8x1000, .f32⟩
  | 105 => ⟨S8x1000, .f32⟩
  | 106 => ⟨S_, .f32⟩
  | 107 => ⟨S8x1000, .f32⟩
  | 108 => ⟨S8x1000, .f32⟩
  | 109 => ⟨S8x1000, .f32⟩
  | 110 => ⟨S_, .f32⟩
  | 111 => ⟨S8x1000, .f32⟩
  | 112 => ⟨S8x1000, .f32⟩
  | 113 => ⟨S8x1000, .f32⟩
  | 114 => ⟨S_, .f32⟩
  | 115 => ⟨S_, .f32⟩
  | 116 => ⟨S_, .f32⟩
  | 117 => ⟨S8x1000, .f32⟩
  | 118 => ⟨S8x1000, .f32⟩
  | 119 => ⟨S_, .f32⟩
  | 120 => ⟨S8x1000, .f32⟩
  | 121 => ⟨S8x1000, .f32⟩
  | 122 => ⟨S_, .f32⟩
  | 123 => ⟨S_, .f32⟩
  | 124 => ⟨S_, .f32⟩
  | 125 => ⟨S8x1000, .f32⟩
  | 126 => ⟨S8x1000, .f32⟩
  | 127 => ⟨S_, .f32⟩
  | _ => ⟨S8x1000x4, .f32⟩

abbrev hbmTy0_1 (i : Nat) : BufTy := match i % 128 with
  | 0 => ⟨S8x1000, .f32⟩
  | 1 => ⟨S8x1000, .f32⟩
  | 2 => ⟨S_, .f32⟩
  | 3 => ⟨S_, .f32⟩
  | 4 => ⟨S_, .f32⟩
  | 5 => ⟨S8x1000, .f32⟩
  | 6 => ⟨S8x1000, .f32⟩
  | 7 => ⟨S_, .f32⟩
  | 8 => ⟨S8x1000, .f32⟩
  | 9 => ⟨S8x1000, .f32⟩
  | 10 => ⟨S_, .f32⟩
  | 11 => ⟨S_, .f32⟩
  | 12 => ⟨S_, .f32⟩
  | 13 => ⟨S8x1000, .f32⟩
  | 14 => ⟨S8x1000, .f32⟩
  | 15 => ⟨S_, .f32⟩
  | 16 => ⟨S8x1000, .f32⟩
  | 17 => ⟨S8x1000, .f32⟩
  | 18 => ⟨S_, .i32⟩
  | 19 => ⟨S8x1000, .i32⟩
  | 20 => ⟨S8x1000, .i1⟩
  | 21 => ⟨S_, .f32⟩
  | 22 => ⟨S8x1000, .f32⟩
  | 23 => ⟨S8x1000, .i1⟩
  | 24 => ⟨S8x1000, .i1⟩
  | 25 => ⟨S_, .f32⟩
  | 26 => ⟨S_, .f32⟩
  | 27 => ⟨S8x1000, .f32⟩
  | 28 => ⟨S8x1000, .f32⟩
  | 29 => ⟨S_, .f32⟩
  | 30 => ⟨S_, .f32⟩
  | 31 => ⟨S8x1024, .f32⟩
  | 32 => ⟨S8192, .f32⟩
  | 33 => ⟨S_, .f32⟩
  | 34 => ⟨S_, .f32⟩
  | 35 => ⟨S8x1024, .f32⟩
  | 36 => ⟨S8192, .f32⟩
  | 37 => ⟨S_, .f32⟩
  | 38 => ⟨S_, .f32⟩
  | 39 => ⟨S8x1024, .f32⟩
  | 40 => ⟨S8192, .f32⟩
  | 41 => ⟨S_, .f32⟩
  | 42 => ⟨S_, .f32⟩
  | 43 => ⟨S8x1024, .f32⟩
  | 44 => ⟨S8192, .f32⟩
  | 45 => ⟨S_, .f32⟩
  | 46 => ⟨S_, .f32⟩
  | 47 => ⟨S8x1024, .f32⟩
  | 48 => ⟨S8192, .f32⟩
  | 49 => ⟨S8x1000, .f32⟩
  | 50 => ⟨S_, .f32⟩
  | 51 => ⟨S_, .f32⟩
  | 52 => ⟨S8x1024, .f32⟩
  | 53 => ⟨S8192, .f32⟩
  | _ => ⟨S8x1000x4, .f32⟩

abbrev hbmTy (i : Nat) : BufTy := match i / 128 with
  | 0 => hbmTy0_0 i
  | 1 => hbmTy0_1 i
  | _ => ⟨S8x1000x4, .f32⟩

abbrev bufTy : (tb : Table) → Fin (tcTables nBuf tb) → BufTy
  | .hbm, ⟨i, _⟩ => hbmTy i
  | _, _ => ⟨S8x1000x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_call0_v0 : Ref sig .tc := ⟨.hbm, 4, rfl⟩
abbrev main_call0_cst : Ref sig .tc := ⟨.hbm, 5, rfl⟩
abbrev main_call0_c : Ref sig .tc := ⟨.hbm, 6, rfl⟩
abbrev main_call0_v1_0 : Ref sig .tc := ⟨.hbm, 7, rfl⟩
abbrev main_v0 : Ref sig .tc := ⟨.hbm, 8, rfl⟩
abbrev main_v1 : Ref sig .tc := ⟨.hbm, 9, rfl⟩
abbrev main_call1_c : Ref sig .tc := ⟨.hbm, 10, rfl⟩
abbrev main_call1_v0 : Ref sig .tc := ⟨.hbm, 11, rfl⟩
abbrev main_call1_v1 : Ref sig .tc := ⟨.hbm, 12, rfl⟩
abbrev main_call1_c_0 : Ref sig .tc := ⟨.hbm, 13, rfl⟩
abbrev main_call1_v2 : Ref sig .tc := ⟨.hbm, 14, rfl⟩
abbrev main_call1_v3 : Ref sig .tc := ⟨.hbm, 15, rfl⟩
abbrev main_call1_v4 : Ref sig .tc := ⟨.hbm, 16, rfl⟩
abbrev main_call1_v5 : Ref sig .tc := ⟨.hbm, 17, rfl⟩
abbrev main_call1_c_1 : Ref sig .tc := ⟨.hbm, 18, rfl⟩
abbrev main_call1_c_2 : Ref sig .tc := ⟨.hbm, 19, rfl⟩
abbrev main_call1_v6 : Ref sig .tc := ⟨.hbm, 20, rfl⟩
abbrev main_call1_v7 : Ref sig .tc := ⟨.hbm, 21, rfl⟩
abbrev main_call1_v8 : Ref sig .tc := ⟨.hbm, 22, rfl⟩
abbrev main_call1_v9 : Ref sig .tc := ⟨.hbm, 23, rfl⟩
abbrev main_call1_v10 : Ref sig .tc := ⟨.hbm, 24, rfl⟩
abbrev main_call1_v11 : Ref sig .tc := ⟨.hbm, 25, rfl⟩
abbrev main_call1_c_3 : Ref sig .tc := ⟨.hbm, 26, rfl⟩
abbrev main_call1_v12 : Ref sig .tc := ⟨.hbm, 27, rfl⟩
abbrev main_call1_v13 : Ref sig .tc := ⟨.hbm, 28, rfl⟩
abbrev main_call1_cst : Ref sig .tc := ⟨.hbm, 29, rfl⟩
abbrev main_call1_v14 : Ref sig .tc := ⟨.hbm, 30, rfl⟩
abbrev main_v2 : Ref sig .tc := ⟨.hbm, 31, rfl⟩
abbrev main_v3 : Ref sig .tc := ⟨.hbm, 32, rfl⟩
abbrev main_v4 : Ref sig .tc := ⟨.hbm, 33, rfl⟩
abbrev main_call2_c : Ref sig .tc := ⟨.hbm, 34, rfl⟩
abbrev main_call2_v0 : Ref sig .tc := ⟨.hbm, 35, rfl⟩
abbrev main_call2_v1 : Ref sig .tc := ⟨.hbm, 36, rfl⟩
abbrev main_call2_c_0 : Ref sig .tc := ⟨.hbm, 37, rfl⟩
abbrev main_call2_v2 : Ref sig .tc := ⟨.hbm, 38, rfl⟩
abbrev main_call2_v3 : Ref sig .tc := ⟨.hbm, 39, rfl⟩
abbrev main_call2_v4 : Ref sig .tc := ⟨.hbm, 40, rfl⟩
abbrev main_call2_c_1 : Ref sig .tc := ⟨.hbm, 41, rfl⟩
abbrev main_call2_c_2 : Ref sig .tc := ⟨.hbm, 42, rfl⟩
abbrev main_call2_v5 : Ref sig .tc := ⟨.hbm, 43, rfl⟩
abbrev main_call2_v6 : Ref sig .tc := ⟨.hbm, 44, rfl⟩
abbrev main_call2_v7 : Ref sig .tc := ⟨.hbm, 45, rfl⟩
abbrev main_call2_v8 : Ref sig .tc := ⟨.hbm, 46, rfl⟩
abbrev main_call2_v9 : Ref sig .tc := ⟨.hbm, 47, rfl⟩
abbrev main_call2_v10 : Ref sig .tc := ⟨.hbm, 48, rfl⟩
abbrev main_call2_c_3 : Ref sig .tc := ⟨.hbm, 49, rfl⟩
abbrev main_call2_v11 : Ref sig .tc := ⟨.hbm, 50, rfl⟩
abbrev main_call2_v12 : Ref sig .tc := ⟨.hbm, 51, rfl⟩
abbrev main_call2_v13 : Ref sig .tc := ⟨.hbm, 52, rfl⟩
abbrev main_call2_cst : Ref sig .tc := ⟨.hbm, 53, rfl⟩
abbrev main_call2_v14 : Ref sig .tc := ⟨.hbm, 54, rfl⟩
abbrev main_v5 : Ref sig .tc := ⟨.hbm, 55, rfl⟩
abbrev main_v6 : Ref sig .tc := ⟨.hbm, 56, rfl⟩
abbrev main_v7 : Ref sig .tc := ⟨.hbm, 57, rfl⟩
abbrev main_v8 : Ref sig .tc := ⟨.hbm, 58, rfl⟩
abbrev main_v9 : Ref sig .tc := ⟨.hbm, 59, rfl⟩
abbrev main_v10 : Ref sig .tc := ⟨.hbm, 60, rfl⟩
abbrev main_v11 : Ref sig .tc := ⟨.hbm, 61, rfl⟩
abbrev main_v12 : Ref sig .tc := ⟨.hbm, 62, rfl⟩
abbrev main_v13 : Ref sig .tc := ⟨.hbm, 63, rfl⟩
abbrev main_v14 : Ref sig .tc := ⟨.hbm, 64, rfl⟩
abbrev main_v15 : Ref sig .tc := ⟨.hbm, 65, rfl⟩
abbrev main_v16 : Ref sig .tc := ⟨.hbm, 66, rfl⟩
abbrev main_v17 : Ref sig .tc := ⟨.hbm, 67, rfl⟩
abbrev main_v18 : Ref sig .tc := ⟨.hbm, 68, rfl⟩
abbrev main_v19 : Ref sig .tc := ⟨.hbm, 69, rfl⟩
abbrev main_v20 : Ref sig .tc := ⟨.hbm, 70, rfl⟩
abbrev main_v21 : Ref sig .tc := ⟨.hbm, 71, rfl⟩
abbrev main_cst_0 : Ref sig .tc := ⟨.hbm, 72, rfl⟩
abbrev main_v22 : Ref sig .tc := ⟨.hbm, 73, rfl⟩
abbrev main_v23 : Ref sig .tc := ⟨.hbm, 74, rfl⟩
abbrev main_v24 : Ref sig .tc := ⟨.hbm, 75, rfl⟩
abbrev main_v25 : Ref sig .tc := ⟨.hbm, 76, rfl⟩
abbrev main_v26 : Ref sig .tc := ⟨.hbm, 77, rfl⟩
abbrev main_cst_1 : Ref sig .tc := ⟨.hbm, 78, rfl⟩
abbrev main_v27 : Ref sig .tc := ⟨.hbm, 79, rfl⟩
abbrev main_v28 : Ref sig .tc := ⟨.hbm, 80, rfl⟩
abbrev main_v29 : Ref sig .tc := ⟨.hbm, 81, rfl⟩
abbrev main_v30 : Ref sig .tc := ⟨.hbm, 82, rfl⟩
abbrev main_v31 : Ref sig .tc := ⟨.hbm, 83, rfl⟩
abbrev main_v32 : Ref sig .tc := ⟨.hbm, 84, rfl⟩
abbrev main_v33 : Ref sig .tc := ⟨.hbm, 85, rfl⟩
abbrev main_v34 : Ref sig .tc := ⟨.hbm, 86, rfl⟩
abbrev main_v35 : Ref sig .tc := ⟨.hbm, 87, rfl⟩
abbrev main_v36 : Ref sig .tc := ⟨.hbm, 88, rfl⟩
abbrev main_v37 : Ref sig .tc := ⟨.hbm, 89, rfl⟩
abbrev main_v38 : Ref sig .tc := ⟨.hbm, 90, rfl⟩
abbrev main_v39 : Ref sig .tc := ⟨.hbm, 91, rfl⟩
abbrev main_v40 : Ref sig .tc := ⟨.hbm, 92, rfl⟩
abbrev main_v41 : Ref sig .tc := ⟨.hbm, 93, rfl⟩
abbrev main_v42 : Ref sig .tc := ⟨.hbm, 94, rfl⟩
abbrev main_v43 : Ref sig .tc := ⟨.hbm, 95, rfl⟩
abbrev main_v44 : Ref sig .tc := ⟨.hbm, 96, rfl⟩
abbrev main_v45 : Ref sig .tc := ⟨.hbm, 97, rfl⟩
abbrev main_cst_2 : Ref sig .tc := ⟨.hbm, 98, rfl⟩
abbrev main_v46 : Ref sig .tc := ⟨.hbm, 99, rfl⟩
abbrev main_v47 : Ref sig .tc := ⟨.hbm, 100, rfl⟩
abbrev main_v48 : Ref sig .tc := ⟨.hbm, 101, rfl⟩
abbrev main_cst_3 : Ref sig .tc := ⟨.hbm, 102, rfl⟩
abbrev main_v49 : Ref sig .tc := ⟨.hbm, 103, rfl⟩
abbrev main_v50 : Ref sig .tc := ⟨.hbm, 104, rfl⟩
abbrev main_v51 : Ref sig .tc := ⟨.hbm, 105, rfl⟩
abbrev main_cst_4 : Ref sig .tc := ⟨.hbm, 106, rfl⟩
abbrev main_v52 : Ref sig .tc := ⟨.hbm, 107, rfl⟩
abbrev main_v53 : Ref sig .tc := ⟨.hbm, 108, rfl⟩
abbrev main_v54 : Ref sig .tc := ⟨.hbm, 109, rfl⟩
abbrev main_cst_5 : Ref sig .tc := ⟨.hbm, 110, rfl⟩
abbrev main_v55 : Ref sig .tc := ⟨.hbm, 111, rfl⟩
abbrev main_v56 : Ref sig .tc := ⟨.hbm, 112, rfl⟩
abbrev main_v57 : Ref sig .tc := ⟨.hbm, 113, rfl⟩
abbrev main_cst_6 : Ref sig .tc := ⟨.hbm, 114, rfl⟩
abbrev main_cst_7 : Ref sig .tc := ⟨.hbm, 115, rfl⟩
abbrev main_call3_v0 : Ref sig .tc := ⟨.hbm, 116, rfl⟩
abbrev main_call3_v1 : Ref sig .tc := ⟨.hbm, 117, rfl⟩
abbrev main_call3_v2 : Ref sig .tc := ⟨.hbm, 118, rfl⟩
abbrev main_call3_v3 : Ref sig .tc := ⟨.hbm, 119, rfl⟩
abbrev main_call3_v4 : Ref sig .tc := ⟨.hbm, 120, rfl⟩
abbrev main_v58 : Ref sig .tc := ⟨.hbm, 121, rfl⟩
abbrev main_cst_8 : Ref sig .tc := ⟨.hbm, 122, rfl⟩
abbrev main_cst_9 : Ref sig .tc := ⟨.hbm, 123, rfl⟩
abbrev main_call4_v0 : Ref sig .tc := ⟨.hbm, 124, rfl⟩
abbrev main_call4_v1 : Ref sig .tc := ⟨.hbm, 125, rfl⟩
abbrev main_call4_v2 : Ref sig .tc := ⟨.hbm, 126, rfl⟩
abbrev main_call4_v3 : Ref sig .tc := ⟨.hbm, 127, rfl⟩
abbrev main_call4_v4 : Ref sig .tc := ⟨.hbm, 128, rfl⟩
abbrev main_v59 : Ref sig .tc := ⟨.hbm, 129, rfl⟩
abbrev main_cst_10 : Ref sig .tc := ⟨.hbm, 130, rfl⟩
abbrev main_cst_11 : Ref sig .tc := ⟨.hbm, 131, rfl⟩
abbrev main_call5_v0 : Ref sig .tc := ⟨.hbm, 132, rfl⟩
abbrev main_call5_v1 : Ref sig .tc := ⟨.hbm, 133, rfl⟩
abbrev main_call5_v2 : Ref sig .tc := ⟨.hbm, 134, rfl⟩
abbrev main_call5_v3 : Ref sig .tc := ⟨.hbm, 135, rfl⟩
abbrev main_call5_v4 : Ref sig .tc := ⟨.hbm, 136, rfl⟩
abbrev main_v60 : Ref sig .tc := ⟨.hbm, 137, rfl⟩
abbrev main_cst_12 : Ref sig .tc := ⟨.hbm, 138, rfl⟩
abbrev main_cst_13 : Ref sig .tc := ⟨.hbm, 139, rfl⟩
abbrev main_call6_v0 : Ref sig .tc := ⟨.hbm, 140, rfl⟩
abbrev main_call6_v1 : Ref sig .tc := ⟨.hbm, 141, rfl⟩
abbrev main_call6_v2 : Ref sig .tc := ⟨.hbm, 142, rfl⟩
abbrev main_call6_v3 : Ref sig .tc := ⟨.hbm, 143, rfl⟩
abbrev main_call6_v4 : Ref sig .tc := ⟨.hbm, 144, rfl⟩
abbrev main_v61 : Ref sig .tc := ⟨.hbm, 145, rfl⟩
abbrev main_c : Ref sig .tc := ⟨.hbm, 146, rfl⟩
abbrev main_v62 : Ref sig .tc := ⟨.hbm, 147, rfl⟩
abbrev main_v63 : Ref sig .tc := ⟨.hbm, 148, rfl⟩
abbrev main_cst_14 : Ref sig .tc := ⟨.hbm, 149, rfl⟩
abbrev main_v64 : Ref sig .tc := ⟨.hbm, 150, rfl⟩
abbrev main_v65 : Ref sig .tc := ⟨.hbm, 151, rfl⟩
abbrev main_v66 : Ref sig .tc := ⟨.hbm, 152, rfl⟩
abbrev main_cst_15 : Ref sig .tc := ⟨.hbm, 153, rfl⟩
abbrev main_call7_v0 : Ref sig .tc := ⟨.hbm, 154, rfl⟩
abbrev main_call7_v1 : Ref sig .tc := ⟨.hbm, 155, rfl⟩
abbrev main_v67 : Ref sig .tc := ⟨.hbm, 156, rfl⟩
abbrev main_cst_16 : Ref sig .tc := ⟨.hbm, 157, rfl⟩
abbrev main_call8_v0 : Ref sig .tc := ⟨.hbm, 158, rfl⟩
abbrev main_v68 : Ref sig .tc := ⟨.hbm, 159, rfl⟩
abbrev main_v69 : Ref sig .tc := ⟨.hbm, 160, rfl⟩
abbrev main_cst_17 : Ref sig .tc := ⟨.hbm, 161, rfl⟩
abbrev main_call9_v0 : Ref sig .tc := ⟨.hbm, 162, rfl⟩
abbrev main_v70 : Ref sig .tc := ⟨.hbm, 163, rfl⟩
abbrev main_v71 : Ref sig .tc := ⟨.hbm, 164, rfl⟩
abbrev main_cst_18 : Ref sig .tc := ⟨.hbm, 165, rfl⟩
abbrev main_call10_v0 : Ref sig .tc := ⟨.hbm, 166, rfl⟩
abbrev main_v72 : Ref sig .tc := ⟨.hbm, 167, rfl⟩
abbrev main_v73 : Ref sig .tc := ⟨.hbm, 168, rfl⟩
abbrev main_cst_19 : Ref sig .tc := ⟨.hbm, 169, rfl⟩
abbrev main_call11_v0 : Ref sig .tc := ⟨.hbm, 170, rfl⟩
abbrev main_v74 : Ref sig .tc := ⟨.hbm, 171, rfl⟩
abbrev main_v75 : Ref sig .tc := ⟨.hbm, 172, rfl⟩
abbrev main_cst_20 : Ref sig .tc := ⟨.hbm, 173, rfl⟩
abbrev main_call12_v0 : Ref sig .tc := ⟨.hbm, 174, rfl⟩
abbrev main_v76 : Ref sig .tc := ⟨.hbm, 175, rfl⟩
abbrev main_v77 : Ref sig .tc := ⟨.hbm, 176, rfl⟩
abbrev main_v78 : Ref sig .tc := ⟨.hbm, 177, rfl⟩
abbrev main_cst_21 : Ref sig .tc := ⟨.hbm, 178, rfl⟩
abbrev main_call13_v0 : Ref sig .tc := ⟨.hbm, 179, rfl⟩
abbrev main_v79 : Ref sig .tc := ⟨.hbm, 180, rfl⟩
abbrev main_v80 : Ref sig .tc := ⟨.hbm, 181, rfl⟩

abbrev nD : Nat := 1
abbrev τ : Topo := Topo.v7x

variable {F : FTy → Type} [FloatOps F]
-- ==== Proof.Pwp.lean ====
/-
  A weakest precondition without resources, for the stretches of a subcore's program that only load and store its own
  buffers: the state is the contents of every buffer the processor names, a load reads it, a store updates it, a check
  asks for its proposition. `pwp_sound` carries it into the logic: holding the buffers of a set `B` at such a state, a
  program whose accesses stay in `B` runs to a value and a state its postcondition holds of.
-/
module

public import Idealize.ShloMosaic.Rules
public import Idealize.ShloMosaic.Lib.Scf
public import Idealize.ShloMosaic.Lib.SparseCore.Ops
public import Idealize.ShloMosaic.Lib.Tactic

@[expose] public section

noncomputable section

namespace Cert.Proof.Pwp

open Idealize.ShloMosaic
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Val : EltTy → Type} {Λ : Labels}

/-- The contents of every buffer a kind of processor names. -/
abbrev Heap (sig : RefSig) (Val : EltTy → Type) (κ : Kind) : Type := (b : Ref sig κ) → b.ty.Contents Val

section Def

variable {p : Proc τ} (B : Finset (Ref sig p.kind))

/-- What one effect asks, and what it hands on. -/
def pwpE {β : Type} (e : TpuEff nD τ sig Val Λ p β) (k : β → Heap sig Val p.kind → Prop) (σ : Heap sig Val p.kind) : Prop :=
  match e, k with
  | .load m r _, k => m.view.ref ∈ B ∧ k (m.view.readAt Val r (σ m.view.ref)) σ
  | .store m r w M _ _, k =>
    m.view.ref ∈ B ∧ k ⟨⟩ (Function.update σ m.view.ref ((m.access r).write Val (σ m.view.ref) w M))
  | .assume P _, k => ∃ h : P, k ⟨h⟩ σ
  | _, _ => False

/-- What a program asks of a state for `Q` to hold of its value and its last state. -/
def pwp {α : Type} : Prog (TpuEff nD τ sig Val Λ p) α → (α → Heap sig Val p.kind → Prop) → Heap sig Val p.kind → Prop
  | .ret a, Q => Q a
  | .op e k, Q => pwpE B e fun x => pwp (k x) Q

variable {α β : Type} {Q : α → Heap sig Val p.kind → Prop} {σ : Heap sig Val p.kind}

theorem pwp_ret (a : α) : pwp (nD := nD) (Λ := Λ) B (.ret a) Q σ ↔ Q a σ := Iff.rfl

theorem pwp_load {cs : CoreSpace} {s : Shape} {e : EltTy} {m : Memref sig p.kind cs s e} {r : LoadRect s}
    {h : m.view.LoadsAt r} {k : (r.shape.Idx → Val e) → Prog (TpuEff nD τ sig Val Λ p) α} :
    pwp B (.op (.load m r h) k) Q σ ↔ m.view.ref ∈ B ∧ pwp B (k (m.view.readAt Val r (σ m.view.ref))) Q σ := Iff.rfl

theorem pwp_store {cs : CoreSpace} {s : Shape} {e : EltTy} {m : Memref sig p.kind cs s e} {r : Rect s}
    {w : r.shape.Idx → Val e} {M : Finset r.shape.Idx} {h : (m.access r).Stores M}
    {hm : M = Finset.univ ∨ ∀ a, r.stride a = 1} {k : PUnit → Prog (TpuEff nD τ sig Val Λ p) α} :
    pwp B (.op (.store m r w M h hm) k) Q σ
      ↔ m.view.ref ∈ B ∧ pwp B (k ⟨⟩) Q (Function.update σ m.view.ref ((m.access r).write Val (σ m.view.ref) w M)) := Iff.rfl

theorem pwp_assume {P : Prop} {dec : Decidable P} {k : PLift P → Prog (TpuEff nD τ sig Val Λ p) α} :
    pwp B (.op (.assume P dec) k) Q σ ↔ ∃ h : P, pwp B (k ⟨h⟩) Q σ := Iff.rfl

theorem pwpE_mono {e : TpuEff nD τ sig Val Λ p β} {k k' : β → Heap sig Val p.kind → Prop}
    (h : ∀ x σ, k x σ → k' x σ) {σ : Heap sig Val p.kind} : pwpE B e k σ → pwpE B e k' σ := by
  cases e <;> simp only [pwpE, imp_self] <;> first
    | exact fun H => ⟨H.1, h _ _ H.2⟩
    | exact fun ⟨hP, H⟩ => ⟨hP, h _ _ H⟩

/-- A program is followed by another. -/
theorem pwp_bind (q : Prog (TpuEff nD τ sig Val Λ p) β) (k : β → Prog (TpuEff nD τ sig Val Λ p) α) :
    ∀ {σ : Heap sig Val p.kind}, pwp B q (fun x σ' => pwp B (k x) Q σ') σ → pwp B (q >>= k) Q σ := by
  induction q with
  | ret a => exact fun h => h
  | op e c ih => exact fun h => pwpE_mono B (fun x σ' hx => ih x hx) h

theorem pwp_mono (q : Prog (TpuEff nD τ sig Val Λ p) α) {Q' : α → Heap sig Val p.kind → Prop}
    (hQ : ∀ a σ, Q a σ → Q' a σ) : ∀ {σ : Heap sig Val p.kind}, pwp B q Q σ → pwp B q Q' σ := by
  induction q with
  | ret a => exact fun h => hQ a _ h
  | op e c ih => exact fun h => pwpE_mono B (fun x σ' hx => ih x hx) h

/-- A program followed by another, through what holds between them. -/
theorem pwp_seq {q : Prog (TpuEff nD τ sig Val Λ p) β} {k : β → Prog (TpuEff nD τ sig Val Λ p) α}
    {R : β → Heap sig Val p.kind → Prop} (h : pwp B q R σ) (hk : ∀ x σ', R x σ' → pwp B (k x) Q σ') :
    pwp B (q >>= k) Q σ :=
  pwp_bind B q k (pwp_mono B q hk h)

/-- A loop by an invariant over the iterations done. -/
theorem pwp_forFrom {δ : Type} {n : ℕ} (body : Fin n → δ → Prog (TpuEff nD τ sig Val Λ p) δ)
    (I : ℕ → δ → Heap sig Val p.kind → Prop)
    (hb : ∀ (t : Fin n) a σ, I t.val a σ → pwp B (body t a) (I (t.val + 1)) σ) :
    ∀ (j : ℕ) (hj : j ≤ n) a (σ : Heap sig Val p.kind), I j a σ →
      pwp B (Scf.forFrom body ((List.finRange n).drop j) a) (I n) σ := by
  intro j hj
  induction hk : n - j generalizing j with
  | zero =>
    intro a σ h
    have hjn : j = n := by omega
    subst hjn
    rw [List.drop_eq_nil_of_le (by simp)]
    exact h
  | succ k ih =>
    intro a σ h
    have hlt : j < n := by omega
    rw [List.drop_eq_getElem_cons (by simpa using hlt)]
    refine pwp_seq B (R := I (j + 1)) ?_ ?_
    · have := hb ⟨j, hlt⟩ a σ h
      simpa using this
    · exact fun x σ' hx => ih (j + 1) hlt (by omega) x σ' hx

/-- A printed loop by an invariant over the iterations done. -/
theorem pwp_loop {δ : Type} (l : Scf.Loop 32) (hok : Scf.OK l.lb l.ub l.st) (init : δ)
    (body : Fin l.trips → δ → Prog (TpuEff nD τ sig Val Λ p) δ)
    (I : ℕ → δ → Heap sig Val p.kind → Prop)
    (hb : ∀ (t : Fin l.trips) a σ, I t.val a σ → pwp B (body t a) (I (t.val + 1)) σ) {σ : Heap sig Val p.kind} (h0 : I 0 init σ) :
    pwp B (Scf.Loop.for l hok init body) (I l.trips) σ := by
  have := pwp_forFrom B body I hb 0 (Nat.zero_le _) init σ h0
  rw [List.drop_zero] at this
  show pwp B (Scf.for l.lb l.ub l.st hok init body) _ σ
  rw [Scf.for_eq]
  exact this

/-! ### One step of a printed program -/

variable {Q : α → Heap sig Val p.kind → Prop} {σ : Heap sig Val p.kind}

theorem step_load {sp : CoreSpace} {s : Shape} {e : EltTy} {m : Memref sig p.kind sp s e} {r : LoadRect s} {h : m.view.LoadsAt r}
    {k : (r.shape.Idx → Val e) → Prog (TpuEff nD τ sig Val Λ p) α} (hB : m.view.ref ∈ B)
    (H : pwp B (k (m.view.readAt Val r (σ m.view.ref))) Q σ) : pwp B (Prog.lift (.load m r h) >>= k) Q σ := ⟨hB, H⟩

theorem step_store {sp : CoreSpace} {s : Shape} {e : EltTy} {m : Memref sig p.kind sp s e} {r : Rect s} {w : r.shape.Idx → Val e}
    {M : Finset r.shape.Idx} {h : (m.access r).Stores M} {hm : M = Finset.univ ∨ ∀ a, r.stride a = 1}
    {k : PUnit → Prog (TpuEff nD τ sig Val Λ p) α} (hB : m.view.ref ∈ B)
    (H : ∀ σ' : Heap sig Val p.kind, (∀ b, b ≠ m.view.ref → σ' b = σ b) →
      σ' m.view.ref = (m.access r).write Val (σ m.view.ref) w M → pwp B (k ⟨⟩) Q σ') :
    pwp B (Prog.lift (.store m r w M h hm) >>= k) Q σ :=
  ⟨hB, H _ (fun _ hb => Function.update_of_ne hb _ _) (Function.update_self _ _ _)⟩

theorem step_assume {P : Prop} {dec : Decidable P} {k : PLift P → Prog (TpuEff nD τ sig Val Λ p) α} (hP : P)
    (H : pwp B (k ⟨hP⟩) Q σ) : pwp B (Prog.lift (.assume P dec) >>= k) Q σ := ⟨hP, H⟩

theorem step_pure {a : α} (H : Q a σ) : pwp B (pure a : Prog (TpuEff nD τ sig Val Λ p) α) Q σ := H

end Def

section Idx

variable {F : FTy → Type} [FloatOps F] {p : Proc τ} {α : Type} (B : Finset (Ref sig p.kind))
  {Q : α → Heap sig (Elt F) p.kind → Prop} {σ : Heap sig (Elt F) p.kind}

omit [FloatOps F] in
theorem step_loadIdx {s t : Shape} {e : EltTy} {m : Memref sig p.kind .vmem s e} {idxs : Fin s.rank → IVec t 32}
    {h : ∀ a x, (idxs a x).toNat < s.size a} {hl : m.view.Loads} {k : Vec F t e → Prog (TpuEff nD τ sig (Elt F) Λ p) α}
    (hB : m.view.ref ∈ B) (H : pwp B (k (loadIdx (m.view.readAt (Elt F) (.whole s) (σ m.view.ref)) idxs h)) Q σ) :
    pwp B (SparseCore.vectorLoadIdx m idxs h hl >>= k) Q σ := ⟨hB, H⟩

theorem step_storeIdx {s : Shape} {e : EltTy} {d : Fin 1 → Nat} {m : Memref sig p.kind .vmem s e} {idxs : Fin s.rank → IVec ⟨1, d⟩ 32}
    {v : Vec F ⟨1, d⟩ e} {mask : IVec ⟨1, d⟩ 1} {add : Bool} {h : ∀ a x, (idxs a x).toNat < s.size a}
    {hs : (m.access (.whole s)).Stores Finset.univ} {k : PUnit → Prog (TpuEff nD τ sig (Elt F) Λ p) α}
    (hB : m.view.ref ∈ B)
    (H : ∀ σ' : Heap sig (Elt F) p.kind, (∀ b, b ≠ m.view.ref → σ' b = σ b) →
      σ' m.view.ref = (m.access (.whole s)).write (Elt F) (σ m.view.ref)
        (storeIdx (m.view.readAt (Elt F) (.whole s) (σ m.view.ref)) idxs v mask add h) Finset.univ → pwp B (k ⟨⟩) Q σ') :
    pwp B (SparseCore.vectorStoreIdx m idxs v mask add h hs >>= k) Q σ :=
  ⟨hB, hB, H _ (fun _ hb => Function.update_of_ne hb _ _) (Function.update_self _ _ _)⟩

end Idx

section Sound

variable {Ix : Type} [DecidableEq Ix] {Name : Type} [DecidableEq Name] {U : Type} [URA U] {Lvl : Type} [Preorder Lvl]
local notation "𝕄" => MT nD τ sig Ix Val Name U Lvl

variable {defs : Defs nD τ sig Val Λ} (𝒱 : Variants) (c : Thread nD τ) (bd : Option 𝒱.V) {Γ : PendingWaitsCtx sig Ix}
  (E : Set Name) (B : Finset (Ref sig c.2.kind))

/-- The buffers of `B`, whole, at a state. -/
abbrev own (σ : Heap sig Val c.2.kind) : sProp 𝕄 := bigSep B fun b => (c.loc b ↦{fullShare} σ b : sProp 𝕄)

theorem own_take {b : Ref sig c.2.kind} (hb : b ∈ B) (σ : Heap sig Val c.2.kind) :
    (own c B σ : sProp 𝕄) = iprop((c.loc b ↦{fullShare} σ b) ∗ bigSep (B.erase b) fun b => (c.loc b ↦{fullShare} σ b : sProp 𝕄)) := by
  conv_lhs => rw [own, ← Finset.insert_erase hb]
  rw [bigSep_insert (Finset.notMem_erase b B)]
  rfl

theorem own_put {b : Ref sig c.2.kind} (hb : b ∈ B) (σ : Heap sig Val c.2.kind) (f : b.ty.Contents Val) :
    iprop((c.loc b ↦{fullShare} f) ∗ bigSep (B.erase b) fun b => (c.loc b ↦{fullShare} σ b : sProp 𝕄))
      = (own c B (Function.update σ b f) : sProp 𝕄) := by
  rw [own_take c B hb, Function.update_self]
  congr 1
  refine bigSep_congr fun x hx => ?_
  rw [Function.update_of_ne (Finset.ne_of_mem_erase hx)]

theorem pwp_sound {α : Type} (q : Prog (TpuEff nD τ sig Val Λ c.2) α) (Q : α → Heap sig Val c.2.kind → Prop) :
    ∀ σ : Heap sig Val c.2.kind, pwp B q Q σ →
      (own c B σ : sProp 𝕄) ⊢ wp frame (wpE' defs 𝒱 c bd Γ) E q fun a => iprop(∃ σ', ⌜Q a σ'⌝ ∗ own c B σ') := by
  induction q with
  | ret a =>
    intro σ h
    rw [wp_ret]
    iintro H
    imodintro
    iexists σ
    isplitr
    · ipureintro; exact h
    · iexact H
  | op e k ih =>
    intro σ h
    cases e with
    | load m r hl =>
      rw [own_take c B h.1]
      iintro ⟨Hb, Hr⟩
      iapply (wp_load 𝒱 c bd E (m := m) (r := r) (f := σ m.view.ref) (S := Finset.univ) (Finset.subset_univ _)) $$ Hb
      iintro Hb
      iapply (ih _ σ h.2)
      rw [own_take c B h.1]
      isplitl [Hb]
      · iexact Hb
      · iexact Hr
    | store m r w M hx hm =>
      rw [own_take c B h.1]
      iintro ⟨Hb, Hr⟩
      iapply (wp_store 𝒱 c bd E (m := m) (r := r) (f := σ m.view.ref) (S := Finset.univ) (Finset.subset_univ _)) $$ Hb
      iintro Hb
      iapply (ih _ _ h.2)
      rw [← own_put c B h.1]
      isplitl [Hb]
      · iexact Hb
      · iexact Hr
    | assume P dec =>
      obtain ⟨hP, h⟩ := h
      exact (ih _ σ h).trans (wp_assume 𝒱 c bd E hP)
    | _ => exact absurd h id

end Sound

end Cert.Proof.Pwp
-- ==== Proof.Lanes.lean ====
/-
  Facts about the sixteen-lane vectors and the one-dimensional buffers of a vector subcore: what an aligned vector load
  and store of a whole buffer read and leave, what an indexed store leaves when its lanes name distinct places, what the
  duplicate count of a vector is, and what the running sums, maxima and minima of small numbers are.
-/
module

public import Idealize.ShloMosaic.Rules
public import Idealize.ShloMosaic.Lib.Scf
public import Idealize.ShloMosaic.Lib.SparseCore.Ops
public import Idealize.ShloMosaic.Lib.ValueIdxCore
public import Idealize.ShloMosaic.Lib.ValueIdxRank1
public import Mathlib.Data.Nat.Count

@[expose] public section

noncomputable section

namespace Cert.Proof.Lanes

open Idealize.ShloMosaic Idealize.ShloMosaic.ValueIdx

/-! ## Aligned loads and stores of a whole buffer -/

section Whole

variable {sig : RefSig} {κ : Kind} {Val : EltTy → Type}

/-- A load of a rectangle of a whole buffer reads the buffer at the shifted place. -/
theorem rd_at (b : Ref sig κ) (off size : Fin b.ty.shape.rank → Nat) (inb : ∀ a, off a + size a ≤ b.ty.shape.size a)
    (f : b.ty.Contents Val) (x : (Rect.unit off size inb).shape.Idx) (y : b.ty.Idx) (h : ∀ a, (y a).val = off a + (x a).val) :
    (Memref.whole b : Memref sig κ _ _ _).view.readAt Val (Rect.unit off size inb).toLoadRect f x = f y := by
  show f _ = f y
  congr 1
  funext a
  apply Fin.ext
  rw [h a]
  show off a + 1 * (x a).val = _
  omega

/-- A place inside the rectangle holds what was stored. -/
theorem wr_hit (b : Ref sig κ) (off size : Fin b.ty.shape.rank → Nat) (inb : ∀ a, off a + size a ≤ b.ty.shape.size a)
    (f : b.ty.Contents Val) (w : (Rect.unit off size inb).shape.Idx → Val b.ty.elt) (x : (Rect.unit off size inb).shape.Idx)
    (y : b.ty.Idx) (h : ∀ a, (y a).val = off a + (x a).val) :
    ((Memref.whole b : Memref sig κ _ _ _).access (Rect.unit off size inb)).write Val f w Finset.univ y = w x := by
  have e : y = ((Memref.whole b : Memref sig κ _ _ _).access (Rect.unit off size inb)).emb x := by
    funext a
    apply Fin.ext
    rw [h a]
    show _ = off a + 1 * (x a).val
    omega
  rw [e, View.write_emb_of_mem _ _ (Finset.mem_univ _)]
  rfl

/-- A place outside keeps its value. -/
theorem wr_miss (b : Ref sig κ) (off size : Fin b.ty.shape.rank → Nat) (inb : ∀ a, off a + size a ≤ b.ty.shape.size a)
    (f : b.ty.Contents Val) (w : (Rect.unit off size inb).shape.Idx → Val b.ty.elt)
    (y : b.ty.Idx) (h : ∃ a, (y a).val < off a ∨ off a + size a ≤ (y a).val) :
    ((Memref.whole b : Memref sig κ _ _ _).access (Rect.unit off size inb)).write Val f w Finset.univ y = f y := by
  rw [View.write_of_not_mem]
  intro hm
  obtain ⟨a, ha⟩ := h
  simp only [View.setOn, Finset.mem_map, Finset.mem_univ, true_and] at hm
  obtain ⟨x, rfl⟩ := hm
  have e : ((((Memref.whole b : Memref sig κ _ _ _).access (Rect.unit off size inb)).emb x) a).val = off a + 1 * (x a).val := rfl
  have := (x a).isLt
  have h2 : (x a).val < size a := this
  omega

/-- Where a lane of an aligned block lies. -/
theorem lane_off {m n : ℕ} (o : Fin 1 → ℕ) (ho : o = ![n]) (x : Fin 16) (y : (⟨1, ![m]⟩ : Shape).Idx) (hy : (y 0).val = n + x.val) :
    ∀ a : Fin 1, (y a).val = o a + ((ix1 x : (⟨1, ![16]⟩ : Shape).Idx) a).val := by
  intro a
  match a with
  | ⟨0, _⟩ => rw [ho]; exact hy

theorem lane_out {m n : ℕ} (o : Fin 1 → ℕ) (ho : o = ![n]) (y : (⟨1, ![m]⟩ : Shape).Idx) (hy : (y 0).val < n ∨ n + 16 ≤ (y 0).val) :
    ∃ a : Fin 1, (y a).val < o a ∨ o a + (![16] : Fin 1 → ℕ) a ≤ (y a).val := by
  refine ⟨0, ?_⟩
  rw [ho]
  exact hy

end Whole

/-- An indexed store of a whole buffer leaves the stored contents. -/
theorem whole_storeIdx {sig : RefSig} {κ : Kind} {F : FTy → Type} [FloatOps F] {d : Fin 1 → ℕ} (b : Ref sig κ) (f : b.ty.Contents (Elt F))
    (idxs : Fin b.ty.shape.rank → IVec ⟨1, d⟩ 32) (v : Vec F ⟨1, d⟩ b.ty.elt) (mask : IVec ⟨1, d⟩ 1) (add : Bool)
    (h : ∀ a x, (idxs a x).toNat < b.ty.shape.size a) :
    ((Memref.whole b : Memref sig κ _ _ _).access (.whole _)).write (Elt F) f
      (storeIdx ((Memref.whole b : Memref sig κ _ _ _).view.readAt (Elt F) (LoadRect.whole _) f) idxs v mask add h) Finset.univ
      = storeIdx f idxs v mask add h := by
  rw [Memref.write_access_whole_univ, Memref.readAt_whole]

/-! ## Indexed stores -/

section Store

variable {F : FTy → Type} [FloatOps F] {e : EltTy} {n : ℕ}

theorem foldl_store (f : Vec F ⟨1, ![n]⟩ e) (ix : Fin 1 → IVec ⟨1, ![16]⟩ 32) (v : Vec F ⟨1, ![16]⟩ e)
    (mask : IVec ⟨1, ![16]⟩ 1) (add : Bool) (h : ∀ a x, (ix a x).toNat < (⟨1, ![n]⟩ : Shape).size a)
    (hinj : ∀ k k' : Fin 16, mask (ix1 k) = 1 → mask (ix1 k') = 1 → ix 0 (ix1 k) = ix 0 (ix1 k') → k = k')
    (j : (⟨1, ![n]⟩ : Shape).Idx) (l : List (Fin 16)) (hl : l.Nodup) :
    (∀ k ∈ l, mask (ix1 k) = 1 → (ix 0 (ix1 k)).toNat = (j 0).val →
      (l.foldl (fun (g : Vec F ⟨1, ![n]⟩ e) k =>
        if mask (ix1 k) = 1 then
          fun j => if (∀ a, (j a).val = (idxAt ix h (ix1 k) a).val) then
            (if add then Elt.idxAdd e (g (idxAt ix h (ix1 k))) (v (ix1 k)) else v (ix1 k)) else g j
        else g) f) j = if add then Elt.idxAdd e (f j) (v (ix1 k)) else v (ix1 k)) ∧
    ((∀ k ∈ l, mask (ix1 k) = 1 → (ix 0 (ix1 k)).toNat ≠ (j 0).val) →
      (l.foldl (fun (g : Vec F ⟨1, ![n]⟩ e) k =>
        if mask (ix1 k) = 1 then
          fun j => if (∀ a, (j a).val = (idxAt ix h (ix1 k) a).val) then
            (if add then Elt.idxAdd e (g (idxAt ix h (ix1 k))) (v (ix1 k)) else v (ix1 k)) else g j
        else g) f) j = f j) := by
  have key : ∀ (g : Vec F ⟨1, ![n]⟩ e) (k : Fin 16), ((fun (g : Vec F ⟨1, ![n]⟩ e) (k : Fin 16) =>
        if mask (ix1 k) = 1 then
          fun j => if (∀ a, (j a).val = (idxAt ix h (ix1 k) a).val) then
            (if add then Elt.idxAdd e (g (idxAt ix h (ix1 k))) (v (ix1 k)) else v (ix1 k)) else g j
        else g) g k) j = if mask (ix1 k) = 1 ∧ (ix 0 (ix1 k)).toNat = (j 0).val then
          (if add then Elt.idxAdd e (g j) (v (ix1 k)) else v (ix1 k)) else g j := by
    intro g k
    by_cases hm : mask (ix1 k) = 1
    · simp only [hm, if_true, true_and]
      have hiff : (∀ a, (j a).val = (idxAt ix h (ix1 k) a).val) ↔ (ix 0 (ix1 k)).toNat = (j 0).val := by
        constructor
        · intro H; exact (H 0).symm
        · intro H a
          have ha : a = 0 := Subsingleton.elim _ _
          subst ha
          exact H.symm
      by_cases hj : (ix 0 (ix1 k)).toNat = (j 0).val
      · have hji : j = idxAt ix h (ix1 k) := by
          funext a
          exact Fin.ext (hiff.2 hj a)
        rw [if_pos (hiff.2 hj), if_pos hj, ← hji]
      · rw [if_neg (fun H => hj (hiff.1 H)), if_neg hj]
    · simp only [hm, false_and, if_false]
  beta_reduce at key
  induction l generalizing f with
  | nil => exact ⟨fun k hk => absurd hk List.not_mem_nil, fun _ => rfl⟩
  | cons k0 l ih =>
    obtain ⟨hk0, hl'⟩ := List.nodup_cons.1 hl
    rw [List.foldl_cons]
    refine ⟨?_, ?_⟩
    · intro k hk hmk hjk
      rcases List.mem_cons.1 hk with rfl | hk
      · have hnone : ∀ k' ∈ l, mask (ix1 k') = 1 → (ix 0 (ix1 k')).toNat ≠ (j 0).val := by
          intro k' hk' hm' hj'
          have := hinj k k' hmk hm' (BitVec.eq_of_toNat_eq (hjk.trans hj'.symm))
          exact hk0 (this ▸ hk')
        rw [(ih _ hl').2 hnone, key, if_pos ⟨hmk, hjk⟩]
      · have hne : ¬ (mask (ix1 k0) = 1 ∧ (ix 0 (ix1 k0)).toNat = (j 0).val) := by
          intro ⟨hm, hj⟩
          have := hinj k k0 hmk hm (BitVec.eq_of_toNat_eq (hjk.trans hj.symm))
          exact hk0 (this ▸ hk)
        rw [(ih _ hl').1 k hk hmk hjk, key, if_neg hne]
    · intro H
      rw [(ih _ hl').2 fun k hk => H k (List.mem_cons_of_mem _ hk), key, if_neg]
      exact fun ⟨a, b⟩ => H k0 (List.mem_cons_self) a b

theorem ofLane_eq (k : Fin 16) : (Shape.ofLane k : (⟨1, ![16]⟩ : Shape).Idx) = ix1 k := by
  funext a
  match a with | ⟨0, _⟩ => rfl

/-- What an indexed store leaves at a place that one set lane names. -/
theorem storeIdx_hit (f : Vec F ⟨1, ![n]⟩ e) (ix : Fin 1 → IVec ⟨1, ![16]⟩ 32) (v : Vec F ⟨1, ![16]⟩ e)
    (mask : IVec ⟨1, ![16]⟩ 1) (add : Bool) (h : ∀ a x, (ix a x).toNat < (⟨1, ![n]⟩ : Shape).size a)
    (hinj : ∀ k k' : Fin 16, mask (ix1 k) = 1 → mask (ix1 k') = 1 → ix 0 (ix1 k) = ix 0 (ix1 k') → k = k')
    (j : (⟨1, ![n]⟩ : Shape).Idx) (k : Fin 16) (hm : mask (ix1 k) = 1) (hj : (ix 0 (ix1 k)).toNat = (j 0).val) :
    storeIdx f ix v mask add h j = if add then Elt.idxAdd e (f j) (v (ix1 k)) else v (ix1 k) := by
  have := (foldl_store f ix v mask add h hinj j (List.finRange 16) (List.nodup_finRange 16)).1 k (List.mem_finRange k) hm hj
  rw [← this]
  unfold storeIdx
  simp only [← ofLane_eq]
  rfl

/-- and at a place that no set lane names. -/
theorem storeIdx_miss (f : Vec F ⟨1, ![n]⟩ e) (ix : Fin 1 → IVec ⟨1, ![16]⟩ 32) (v : Vec F ⟨1, ![16]⟩ e)
    (mask : IVec ⟨1, ![16]⟩ 1) (add : Bool) (h : ∀ a x, (ix a x).toNat < (⟨1, ![n]⟩ : Shape).size a)
    (hinj : ∀ k k' : Fin 16, mask (ix1 k) = 1 → mask (ix1 k') = 1 → ix 0 (ix1 k) = ix 0 (ix1 k') → k = k')
    (j : (⟨1, ![n]⟩ : Shape).Idx) (hj : ∀ k : Fin 16, mask (ix1 k) = 1 → (ix 0 (ix1 k)).toNat ≠ (j 0).val) :
    storeIdx f ix v mask add h j = f j := by
  have := (foldl_store f ix v mask add h hinj j (List.finRange 16) (List.nodup_finRange 16)).2 fun k _ => hj k
  conv_rhs => rw [← this]
  unfold storeIdx
  simp only [← ofLane_eq]
  rfl

end Store

/-! ## The duplicate count -/

/-- The lane's count of duplicates: how many lanes up to this one hold its word. -/
theorem scanCount_snd (v : IVec ⟨1, ![16]⟩ 32) (mask : IVec ⟨1, ![16]⟩ 1) (hmask : ∀ x, mask x = 1) (u : ℕ → ℕ)
    (hu : ∀ x : Fin 16, (v (ix1 x)).toNat = u x) (x : Fin 16) :
    (scanCount mask v).2 (ix1 x) = BitVec.ofNat 32 (Nat.count (fun y => u y = u x) (x + 1)) := by
  have hu' : ∀ j : (⟨1, ![16]⟩ : Shape).Idx, (v j).toNat = u (j 0).val := fun j => by
    conv_lhs => rw [eq_ix1 j]
    exact hu (j 0)
  unfold scanCount
  simp only [hmask, if_true, true_and, Shape.rowMajor_val_one]
  congr 1
  rw [Nat.count_eq_card_filter_range]
  refine Finset.card_bij (fun j _ => (j 0).val) ?_ ?_ ?_
  · intro j hj
    rw [Finset.mem_filter] at hj
    rw [Finset.mem_filter, Finset.mem_range]
    refine ⟨Nat.lt_succ_of_le hj.2.1, ?_⟩
    have h2 := hj.2.2
    have := congrArg BitVec.toNat h2
    rwa [hu', hu'] at this
  · intro a _ b _ hab
    rw [eq_ix1 a, eq_ix1 b]
    exact congrArg ix1 (Fin.ext hab)
  · intro b hb
    rw [Finset.mem_filter, Finset.mem_range] at hb
    have hx := x.isLt
    refine ⟨ix1 ⟨b, by omega⟩, ?_, rfl⟩
    rw [Finset.mem_filter]
    refine ⟨Finset.mem_univ _, Nat.le_of_lt_succ hb.1, ?_⟩
    apply BitVec.eq_of_toNat_eq
    rw [hu, hu]
    exact hb.2

/-- The lane's flag: no later lane holds its word. -/
theorem scanCount_fst (v : IVec ⟨1, ![16]⟩ 32) (mask : IVec ⟨1, ![16]⟩ 1) (hmask : ∀ x, mask x = 1) (u : ℕ → ℕ)
    (hu : ∀ x : Fin 16, (v (ix1 x)).toNat = u x) (x : Fin 16) :
    (scanCount mask v).1 (ix1 x) = 1 ↔ ∀ y, x.val < y → y < 16 → u y ≠ u x := by
  have hu' : ∀ j : (⟨1, ![16]⟩ : Shape).Idx, (v j).toNat = u (j 0).val := fun j => by
    conv_lhs => rw [eq_ix1 j]
    exact hu (j 0)
  unfold scanCount
  simp only [hmask, true_and, Shape.rowMajor_val_one]
  constructor
  · intro H y hxy hy hc
    by_contra
    rw [if_neg] at H
    · exact absurd H (by decide)
    · intro H'
      refine H' (ix1 ⟨y, hy⟩) hxy (BitVec.eq_of_toNat_eq ?_)
      rw [hu, hu]
      exact hc
  · intro H
    rw [if_pos]
    intro j hj hv
    have := congrArg BitVec.toNat hv
    rw [hu', hu'] at this
    exact H _ hj (j 0).isLt this

/-! ## Running sums, maxima and minima -/

section Scan

theorem foldl_mem_list {α : Type} (l : List (Fin 16)) (P : α → α → Prop) (hrefl : ∀ a, P a a)
    (htr : ∀ a b c, P a b → P b c → P a c) (st : α → α → α) (hs : ∀ a b, P a (st a b) ∧ P b (st a b) ∧ (st a b = a ∨ st a b = b))
    (v : Fin 16 → α) (a : α) :
    P a (l.foldl (fun r k => st r (v k)) a) ∧ (∀ k ∈ l, P (v k) (l.foldl (fun r k => st r (v k)) a)) ∧
      (l.foldl (fun r k => st r (v k)) a = a ∨ ∃ k, l.foldl (fun r k => st r (v k)) a = v k) := by
  induction l generalizing a with
  | nil => exact ⟨hrefl a, fun k hk => absurd hk List.not_mem_nil, .inl rfl⟩
  | cons k0 l ih =>
    rw [List.foldl_cons]
    obtain ⟨h1, h2, h3⟩ := ih (st a (v k0))
    obtain ⟨s1, s2, s3⟩ := hs a (v k0)
    refine ⟨htr _ _ _ s1 h1, ?_, ?_⟩
    · intro k hk
      rcases List.mem_cons.1 hk with rfl | hk
      · exact htr _ _ _ s2 h1
      · exact h2 k hk
    · rcases h3 with h3 | h3
      · rcases s3 with s3 | s3
        · exact .inl (h3.trans s3)
        · exact .inr ⟨k0, h3.trans s3⟩
      · exact .inr h3

theorem toNat_xor_top (w : BitVec 32) (h : w.toNat < 2 ^ 31) : (w ^^^ 2147483648#32).toNat = w.toNat + 2 ^ 31 := by
  rw [BitVec.toNat_xor]
  show w.toNat ^^^ 2 ^ 31 = _
  apply Nat.eq_of_testBit_eq
  intro i
  rw [Nat.testBit_xor, add_comm w.toNat]
  rcases lt_trichotomy i 31 with hi | rfl | hi
  · rw [Nat.testBit_two_pow_add_gt hi, Nat.testBit_two_pow_of_ne (by omega)]
    simp
  · rw [Nat.testBit_two_pow_add_eq, Nat.testBit_two_pow_self]
    simp
  · have h1 : 2 ^ 31 + w.toNat < 2 ^ i :=
      lt_of_lt_of_le (by omega : _ < 2 ^ 32) (Nat.pow_le_pow_right (by norm_num) hi)
    rw [Nat.testBit_lt_two_pow h1, Nat.testBit_two_pow_of_ne (by omega), Nat.testBit_lt_two_pow (by omega)]
    rfl

/-- A running selection's last lane is one of the lanes, and the selected one. -/
theorem scan_select (kind : ScanKind) (P : BitVec 32 → BitVec 32 → Prop) (hrefl : ∀ a, P a a)
    (htr : ∀ a b c, P a b → P b c → P a c)
    (hs : ∀ a b, P a (kind.step a b) ∧ P b (kind.step a b) ∧ (kind.step a b = a ∨ kind.step a b = b))
    (v : IVec ⟨1, ![16]⟩ 32) :
    ∃ x : Fin 16, scan kind v (ix1 15) = v (ix1 x) ∧ ∀ y : Fin 16, P (v (ix1 y)) (v (ix1 x)) := by
  obtain ⟨h1, h2, h3⟩ := foldl_mem_list ((List.finRange 16).filter fun k => decide (0 < k.val ∧ k.val ≤ 15))
    P hrefl htr kind.step hs (fun k => v (ix1 k)) (v (ix1 0))
  have hval : scan kind v (ix1 15) = ((List.finRange 16).filter fun k => decide (0 < k.val ∧ k.val ≤ 15)).foldl
      (fun r k => kind.step r (v (ix1 k))) (v (ix1 0)) := by
    simp only [← ofLane_eq]
    rfl
  have h2' : ∀ y : Fin 16, P (v (ix1 y)) (scan kind v (ix1 15)) := by
    intro y
    rw [hval]
    by_cases hy : y = 0
    · subst hy; exact h1
    · refine h2 y ?_
      rw [List.mem_filter]
      refine ⟨List.mem_finRange y, ?_⟩
      have h0 : y.val ≠ 0 := fun h => hy (Fin.ext h)
      have := y.isLt
      simp; omega
  rcases h3 with h3 | ⟨k, h3⟩
  · exact ⟨0, hval.trans h3, fun y => by rw [← hval.trans h3]; exact h2' y⟩
  · exact ⟨k, hval.trans h3, fun y => by rw [← hval.trans h3]; exact h2' y⟩

/-- The last lane of the running maximum, signs flipped before and after, is the largest of the lanes. -/
theorem max15 (v : IVec ⟨1, ![16]⟩ 32) (hv : ∀ x, (v x).toNat < 2 ^ 31) :
    ∃ x : Fin 16, xori (scan .max (xori v (broadcast ⟨1, ![16]⟩ 2147483648#32))) (broadcast ⟨1, ![16]⟩ 2147483648#32) (ix1 15) = v (ix1 x) ∧
      ∀ y : Fin 16, (v (ix1 y)).toNat ≤ (v (ix1 x)).toNat := by
  obtain ⟨x, hx, hy⟩ := scan_select .max (fun a b => a.toNat ≤ b.toNat) (fun _ => le_rfl) (fun _ _ _ => le_trans)
    (fun a b => by
      show a.toNat ≤ (IntOp.maxui a b).toNat ∧ b.toNat ≤ (IntOp.maxui a b).toNat ∧ (IntOp.maxui a b = a ∨ IntOp.maxui a b = b)
      unfold IntOp.maxui
      simp only [BitVec.ult]
      by_cases h : b.toNat < a.toNat
      · simp only [h, decide_true, if_true]; exact ⟨le_rfl, h.le, .inl trivial⟩
      · simp only [h, decide_false, Bool.false_eq_true, if_false]; exact ⟨not_lt.1 h, le_rfl, .inr trivial⟩)
    (xori v (broadcast ⟨1, ![16]⟩ 2147483648#32))
  refine ⟨x, ?_, fun y => ?_⟩
  · show scan .max (xori v (broadcast ⟨1, ![16]⟩ 2147483648#32)) (ix1 15) ^^^ 2147483648#32 = _
    rw [hx]
    show v (ix1 x) ^^^ 2147483648#32 ^^^ 2147483648#32 = _
    rw [BitVec.xor_assoc, BitVec.xor_self, BitVec.xor_zero]
  · have := hy y
    change (v (ix1 y) ^^^ 2147483648#32).toNat ≤ (v (ix1 x) ^^^ 2147483648#32).toNat at this
    rw [toNat_xor_top _ (hv _), toNat_xor_top _ (hv _)] at this
    omega

/-- The last lane of the running minimum, signs flipped before and after, is the smallest of the lanes. -/
theorem min15 (v : IVec ⟨1, ![16]⟩ 32) (hv : ∀ x, (v x).toNat < 2 ^ 31) :
    ∃ x : Fin 16, xori (scan .min (xori v (broadcast ⟨1, ![16]⟩ 2147483648#32))) (broadcast ⟨1, ![16]⟩ 2147483648#32) (ix1 15) = v (ix1 x) ∧
      ∀ y : Fin 16, (v (ix1 x)).toNat ≤ (v (ix1 y)).toNat := by
  obtain ⟨x, hx, hy⟩ := scan_select .min (fun a b => b.toNat ≤ a.toNat) (fun _ => le_rfl) (fun _ _ _ h h' => le_trans h' h)
    (fun a b => by
      show (IntOp.minui a b).toNat ≤ a.toNat ∧ (IntOp.minui a b).toNat ≤ b.toNat ∧ (IntOp.minui a b = a ∨ IntOp.minui a b = b)
      unfold IntOp.minui
      simp only [BitVec.ult]
      by_cases h : a.toNat < b.toNat
      · simp only [h, decide_true, if_true]; exact ⟨le_rfl, h.le, .inl trivial⟩
      · simp only [h, decide_false, Bool.false_eq_true, if_false]; exact ⟨not_lt.1 h, le_rfl, .inr trivial⟩)
    (xori v (broadcast ⟨1, ![16]⟩ 2147483648#32))
  refine ⟨x, ?_, fun y => ?_⟩
  · show scan .min (xori v (broadcast ⟨1, ![16]⟩ 2147483648#32)) (ix1 15) ^^^ 2147483648#32 = _
    rw [hx]
    show v (ix1 x) ^^^ 2147483648#32 ^^^ 2147483648#32 = _
    rw [BitVec.xor_assoc, BitVec.xor_self, BitVec.xor_zero]
  · have := hy y
    change (v (ix1 x) ^^^ 2147483648#32).toNat ≤ (v (ix1 y) ^^^ 2147483648#32).toNat at this
    rw [toNat_xor_top _ (hv _), toNat_xor_top _ (hv _)] at this
    omega

/-- A lane of the running sum of words is the word of the sum of the numbers. -/
theorem sum_at (v : IVec ⟨1, ![16]⟩ 32) (u : ℕ → ℕ) (hu : ∀ x : Fin 16, v (ix1 x) = BitVec.ofNat 32 (u x)) (x : Fin 16) :
    scan .sum v (ix1 x) = BitVec.ofNat 32 (∑ y ∈ Finset.range (x + 1), u y) := by
  have hf : ∀ (l : List (Fin 16)) (a : ℕ), l.foldl (fun r k => ScanKind.step .sum r (v (ix1 k))) (BitVec.ofNat 32 a)
      = BitVec.ofNat 32 (a + (l.map fun k => u k.val).sum) := by
    intro l
    induction l with
    | nil => intro a; simp
    | cons k l ih =>
      intro a
      rw [List.foldl_cons, List.map_cons, List.sum_cons, ← add_assoc]
      have : ScanKind.step .sum (BitVec.ofNat 32 a) (v (ix1 k)) = BitVec.ofNat 32 (a + u k) := by
        rw [hu k]
        show BitVec.ofNat 32 a + BitVec.ofNat 32 (u k) = _
        rw [← BitVec.ofNat_add]
      rw [this, ih]
  have h0 := hf ((List.finRange 16).filter fun k => decide (0 < k.val ∧ k.val ≤ x.val)) (u 0)
  have e : scan .sum v (ix1 x) = ((List.finRange 16).filter fun k => decide (0 < k.val ∧ k.val ≤ x.val)).foldl
      (fun r k => ScanKind.step .sum r (v (ix1 k))) (BitVec.ofNat 32 (u 0)) := by
    rw [show BitVec.ofNat 32 (u 0) = v (ix1 0) from (hu 0).symm]
    simp only [← ofLane_eq]
    rfl
  rw [e, h0]
  congr 1
  have hnd : ((List.finRange 16).filter fun k => decide (0 < k.val ∧ k.val ≤ x.val)).Nodup := (List.nodup_finRange 16).filter _
  rw [← List.sum_toFinset _ hnd, Finset.sum_range_succ', add_comm]
  congr 1
  refine Finset.sum_bij (fun k _ => k.val - 1) ?_ ?_ ?_ ?_
  · intro k hk
    simp at hk
    rw [Finset.mem_range]
    omega
  · intro a ha b hb hab
    simp at ha hb
    exact Fin.ext (by omega)
  · intro b hb
    rw [Finset.mem_range] at hb
    have hx := x.isLt
    exact ⟨⟨b + 1, by omega⟩, List.mem_toFinset.2 (List.mem_filter.2 ⟨List.mem_finRange _, decide_eq_true ⟨Nat.succ_pos b, hb⟩⟩), by simp⟩
  · intro k hk
    simp at hk
    congr 1
    omega

end Scan

end Cert.Proof.Lanes
-- ==== Proof.Counting.lean ====
/-
  The arithmetic of a counting sort: a place for each item from the number of items of a smaller class and the number of
  earlier items of its own class. The places of the first `n` items are exactly the numbers below `n`, and the places of
  one class are a range.
-/
module

public import Mathlib.Data.Nat.Count
public import Mathlib.Algebra.BigOperators.Intervals
public import Mathlib.Data.Fintype.Card

@[expose] public section

namespace Cert.Proof.Counting

variable (cl : ℕ → ℕ)

/-- How many of the first `t` items have class `c`. -/
def cnt (t c : ℕ) : ℕ := Nat.count (fun j => cl j = c) t

/-- How many of the first `n` items have a class below `c`. -/
def base (n c : ℕ) : ℕ := Nat.count (fun j => cl j < c) n

/-- The place of item `j` among `n`. -/
def pos (n j : ℕ) : ℕ := base cl n (cl j) + cnt cl j (cl j)

theorem cnt_succ (t c : ℕ) : cnt cl (t + 1) c = cnt cl t c + if cl t = c then 1 else 0 := by
  unfold cnt; rw [Nat.count_succ]

theorem cnt_le (t c : ℕ) : cnt cl t c ≤ t := Nat.count_le _

theorem base_le (n c : ℕ) : base cl n c ≤ n := Nat.count_le _

theorem cnt_mono (c : ℕ) {s t : ℕ} (h : s ≤ t) : cnt cl s c ≤ cnt cl t c := Nat.count_monotone _ h

theorem base_succ (n c : ℕ) : base cl n (c + 1) = base cl n c + cnt cl n c := by
  induction n with
  | zero => simp [base, cnt]
  | succ n ih =>
    have h1 : base cl (n + 1) (c + 1) = base cl n (c + 1) + if cl n < c + 1 then 1 else 0 := by
      unfold base; rw [Nat.count_succ]
    have h2 : base cl (n + 1) c = base cl n c + if cl n < c then 1 else 0 := by
      unfold base; rw [Nat.count_succ]
    rw [h1, h2, cnt_succ, ih]
    rcases lt_trichotomy (cl n) c with h | h | h
    · rw [if_pos (by omega), if_pos h, if_neg (by omega)]; omega
    · rw [if_pos (by omega), if_neg (by omega), if_pos h]; omega
    · rw [if_neg (by omega), if_neg (by omega), if_neg (by omega)]; omega

theorem base_zero (n : ℕ) : base cl n 0 = 0 := by
  induction n with
  | zero => rfl
  | succ n ih => unfold base at *; rw [Nat.count_succ, ih]; simp

theorem base_eq_sum (n c : ℕ) : base cl n c = ∑ d ∈ Finset.range c, cnt cl n d := by
  induction c with
  | zero => rw [base_zero]; simp
  | succ c ih => rw [base_succ, Finset.sum_range_succ, ih]

theorem base_mono (n : ℕ) {c d : ℕ} (h : c ≤ d) : base cl n c ≤ base cl n d :=
  Nat.count_mono_left (fun _ _ hj => lt_of_lt_of_le hj h)

/-- A block of lanes adds its own duplicates. -/
theorem cnt_add (t x c : ℕ) : cnt cl (t + x) c = cnt cl t c + Nat.count (fun y => cl (t + y) = c) x := by
  unfold cnt; rw [Nat.count_add]

theorem cnt_lt {n j : ℕ} (h : j < n) : cnt cl j (cl j) < cnt cl n (cl j) := by
  have h1 := cnt_mono cl (cl j) (Nat.succ_le_of_lt h)
  rw [Nat.succ_eq_add_one, cnt_succ, if_pos rfl] at h1
  omega

theorem pos_lt_end {n j : ℕ} (h : j < n) : pos cl n j < base cl n (cl j) + cnt cl n (cl j) := by
  have := cnt_lt cl h
  unfold pos; omega

theorem base_le_pos (n j : ℕ) : base cl n (cl j) ≤ pos cl n j := Nat.le_add_right _ _

theorem pos_lt {n j : ℕ} (h : j < n) : pos cl n j < n := by
  have := pos_lt_end cl h
  rw [← base_succ] at this
  exact lt_of_lt_of_le this (base_le cl n _)

theorem pos_inj {n i j : ℕ} (hi : i < n) (hj : j < n) (h : pos cl n i = pos cl n j) : i = j := by
  have key : ∀ {i j : ℕ}, i < n → j < n → cl i < cl j → pos cl n i < pos cl n j := by
    intro i j hi _ hc
    have h1 := pos_lt_end cl hi
    rw [← base_succ] at h1
    exact lt_of_lt_of_le h1 ((base_mono cl n hc).trans (base_le_pos cl n j))
  rcases lt_trichotomy (cl i) (cl j) with hc | hc | hc
  · exact absurd h (key hi hj hc).ne
  · by_contra hne
    rcases Nat.lt_or_gt_of_ne hne with hlt | hlt
    · have := cnt_lt cl hlt
      unfold pos at h; rw [hc] at h this; omega
    · have := cnt_lt cl hlt
      unfold pos at h; rw [← hc] at h this; omega
  · exact absurd h.symm (key hj hi hc).ne

/-- Every place is some item's. -/
theorem pos_surj {n p : ℕ} (hp : p < n) : ∃ j, j < n ∧ pos cl n j = p := by
  have hinj : Function.Injective (fun j : Fin n => (⟨pos cl n j, pos_lt cl j.isLt⟩ : Fin n)) := by
    intro a b hab
    exact Fin.ext (pos_inj cl a.isLt b.isLt (Fin.mk.inj_iff.1 hab))
  obtain ⟨j, hj⟩ := (Finite.injective_iff_surjective.1 hinj) ⟨p, hp⟩
  exact ⟨j, j.isLt, Fin.mk.inj_iff.1 hj⟩

/-- A place lies in a class's range exactly when its item has that class. -/
theorem pos_mem_iff {n j : ℕ} (h : j < n) (c : ℕ) :
    (base cl n c ≤ pos cl n j ∧ pos cl n j < base cl n c + cnt cl n c) ↔ cl j = c := by
  constructor
  · rintro ⟨h1, h2⟩
    have h3 := pos_lt_end cl h
    have h4 := base_le_pos cl n j
    rw [← base_succ] at h2 h3
    rcases lt_trichotomy (cl j) c with hc | hc | hc
    · have := base_mono cl n (Nat.succ_le_of_lt hc)
      rw [Nat.succ_eq_add_one] at this; omega
    · exact hc
    · have := base_mono cl n (Nat.succ_le_of_lt hc)
      rw [Nat.succ_eq_add_one] at this; omega
  · rintro rfl
    exact ⟨base_le_pos cl n j, pos_lt_end cl h⟩

/-- The last lane of a class, if it has one. -/
theorem exists_last (u : ℕ → ℕ) (c : ℕ) : ∀ n : ℕ, (∃ y, y < n ∧ u y = c) →
    ∃ k, k < n ∧ u k = c ∧ ∀ y, k < y → y < n → u y ≠ c := by
  intro n
  induction n with
  | zero => rintro ⟨y, hy, _⟩; exact absurd hy (Nat.not_lt_zero y)
  | succ n ih =>
    rintro ⟨y, hy, hc⟩
    by_cases hn : u n = c
    · exact ⟨n, Nat.lt_succ_self n, hn, fun z h1 h2 => absurd h2 (by omega)⟩
    · have hyn : y ≠ n := fun h => hn (h ▸ hc)
      obtain ⟨k, hk, hkc, hl⟩ := ih ⟨y, by omega, hc⟩
      refine ⟨k, by omega, hkc, fun z h1 h2 => ?_⟩
      by_cases hz : z = n
      · exact hz ▸ hn
      · exact hl z h1 (by omega)

/-- The count up to a class's last lane is the whole count. -/
theorem count_last (u : ℕ → ℕ) (c k : ℕ) : ∀ n, k < n → (∀ y, k < y → y < n → u y ≠ c) →
    Nat.count (fun y => u y = c) n = Nat.count (fun y => u y = c) (k + 1) := by
  intro n
  induction n with
  | zero => exact fun h => absurd h (Nat.not_lt_zero k)
  | succ n ih =>
    intro hk hl
    by_cases hkn : k = n
    · rw [hkn]
    · rw [Nat.count_succ, if_neg (hl n (by omega) (by omega)), Nat.add_zero]
      exact ih (by omega) fun y h1 h2 => hl y h1 (by omega)

theorem count_none (u : ℕ → ℕ) (c : ℕ) : ∀ n, (∀ y, y < n → u y ≠ c) → Nat.count (fun y => u y = c) n = 0 := by
  intro n
  induction n with
  | zero => exact fun _ => rfl
  | succ n ih =>
    intro h
    rw [Nat.count_succ, if_neg (h n (by omega)), ih fun y hy => h y (by omega)]

end Cert.Proof.Counting
-- ==== Proof.Sort.lean ====
/-
  The counting sort of one subcore: the four passes before the main loop, each as a statement about the subcore's buffers.
-/
module

public import proofs.«01_k».proof.Proof.Gen.KernelIdeal.Skeleton
public import proofs.«01_k».proof.Proof.Pwp
public import proofs.«01_k».proof.Proof.Lanes
public import proofs.«01_k».proof.Proof.Counting

@[expose] public section

noncomputable section

namespace Cert.Proof.Sort

open Cert.KernelIdeal Cert.KernelIdeal.Gen
open Idealize.ShloMosaic Idealize.ShloMosaic.ValueIdx Idealize.SL.Sem
open Cert.Proof.Pwp Cert.Proof.Lanes Cert.Proof.Counting

variable {F : FTy → Type} [FloatOps F]

/-- A subcore's own buffers. -/
def scr : Finset (Ref sig .scVector) :=
  {cc0_scratch0, cc0_scratch1, cc0_scratch2, cc0_scratch3, cc0_scratch4, cc0_scratch5, cc0_scratch6, cc0_scratch7, cc0_scratch8,
    cc0_scratch9, cc0_scratch10, cc0_scratch11, cc0_scratch12, cc0_scratch13, cc0_scratch14, cc0_scratch15, cc0_scratch16,
    cc0_scratch17, cc0_scratch18, cc0_scratch19, cc0_scratch20, cc0_scratch21}

theorem mem_scr : ∀ b : Ref sig .scVector, b.space = .vmem → b ∈ scr := by decide

/-- The processor at a point of the grid. -/
abbrev pr (i : grid0.Coords) : Proc τ := .scVector ((i 0).castLE hcore0) ((i 1).castLE hsub0)

/-- The contents of a subcore's buffers. -/
abbrev H (F : FTy → Type) : Type := Heap sig (Elt F) .scVector

variable (i : grid0.Coords) (sm rs : DmaSems sig S_) (h1 : k0_cond1 i = 1#1)

/-- The pass that counts the classes, at the subcore's own buffers. -/
abbrev t1B (z : IVec S16 32) : Fin k0_t1_loop.trips → Unit → Prog (TpuEff nD τ sig (Elt F) Λ₀ (pr i)) Unit :=
  k0_t1_body (F := F) i
    (Memref.whole main_v2_scv) (Memref.isWhole_whole _) (Memref.whole main_v7_scv) (Memref.isWhole_whole _) (Memref.whole main_v12_scv)
    (Memref.isWhole_whole _) (Memref.whole main_v17_scv) (Memref.isWhole_whole _) (Memref.whole main_v22_scv) (Memref.isWhole_whole _)
    (Memref.whole main_v26_scv) (Memref.isWhole_whole _) (Memref.whole main_v27_scv) (Memref.isWhole_whole _) (Memref.whole
    cc0_scratch0) (Memref.isWhole_whole _) (Memref.whole cc0_scratch1) (Memref.isWhole_whole _) (Memref.whole cc0_scratch2)
    (Memref.isWhole_whole _) (Memref.whole cc0_scratch3) (Memref.isWhole_whole _) (Memref.whole cc0_scratch4) (Memref.isWhole_whole _)
    (Memref.whole cc0_scratch5) (Memref.isWhole_whole _) (Memref.whole cc0_scratch6) (Memref.isWhole_whole _) (Memref.whole
    cc0_scratch7) (Memref.isWhole_whole _) (Memref.whole cc0_scratch8) (Memref.isWhole_whole _) (Memref.whole cc0_scratch9)
    (Memref.isWhole_whole _) (Memref.whole cc0_scratch10) (Memref.isWhole_whole _) (Memref.whole cc0_scratch11) (Memref.isWhole_whole _)
    (Memref.whole cc0_scratch12) (Memref.isWhole_whole _) (Memref.whole cc0_scratch13) (Memref.isWhole_whole _) (Memref.whole
    cc0_scratch14) (Memref.isWhole_whole _) (Memref.whole cc0_scratch15) (Memref.isWhole_whole _) (Memref.whole cc0_scratch16)
    (Memref.isWhole_whole _) (Memref.whole cc0_scratch17) (Memref.isWhole_whole _) (Memref.whole cc0_scratch18) (Memref.isWhole_whole _)
    (Memref.whole cc0_scratch19) (Memref.isWhole_whole _) (Memref.whole cc0_scratch20) (Memref.isWhole_whole _) (Memref.whole
    cc0_scratch21) (Memref.isWhole_whole _) sm rs h1 z

/-! ## The items' classes -/

/-- The class word of item `j`. -/
def cw (d : S1024.Idx → F .f32) (j : ℕ) : BitVec 32 := if h : j < 1024 then FloatOps.fptosi 32 (d (ix1 ⟨j, h⟩)) else 0#32

/-- The class of item `j`. -/
def cl (d : S1024.Idx → F .f32) (j : ℕ) : ℕ := (cw d j).toNat

/-- Lane `x` of chunk `t`. -/
abbrev at16 (t : ℕ) (ht : t < 64) (x : Fin 16) : S1024.Idx := ix1 ⟨16 * t + x.val, by omega⟩

theorem cw_at (d : S1024.Idx → F .f32) (t : ℕ) (ht : t < 64) (x : Fin 16) :
    cw d (16 * t + x.val) = FloatOps.fptosi 32 (d (at16 t ht x)) := by
  unfold cw
  rw [dif_pos (by omega)]

/-- Every item is in some chunk. -/
theorem eq_at16 (j : S1024.Idx) : ∃ (t : ℕ) (ht : t < 64) (x : Fin 16), j = at16 t ht x ∧ (j 0).val = 16 * t + x.val := by
  have hj : (j 0).val < 1024 := (j 0).isLt
  refine ⟨(j 0).val / 16, by omega, ⟨(j 0).val % 16, by omega⟩, ?_, ?_⟩
  · funext a
    match a with
    | ⟨0, _⟩ => exact Fin.ext (by show (j 0).val = 16 * ((j 0).val / 16) + (j 0).val % 16; omega)
  · show (j 0).val = 16 * ((j 0).val / 16) + (j 0).val % 16
    omega

/-! ## Counting the classes -/

/-- What holds after `t` chunks of the first pass. -/
structure I1 (d : S1024.Idx → F .f32) (σ₀ : H F) (t : ℕ) (σ : H F) : Prop where
  keep : ∀ b, b ≠ cc0_scratch6 → b ≠ cc0_scratch7 → b ≠ cc0_scratch8 → b ≠ cc0_scratch16 → σ b = σ₀ b
  cls : ∀ s (hs : s < 64) (x : Fin 16), s < t → σ cc0_scratch6 (at16 s hs x) = cw d (16 * s + x)
  rnk : ∀ s (hs : s < 64) (x : Fin 16), s < t → σ cc0_scratch7 (at16 s hs x)
    = BitVec.ofNat 32 (Nat.count (fun y => cl d (16 * s + y) = cl d (16 * s + x)) x)
  lst : ∀ s (hs : s < 64) (x : Fin 16), s < t → (σ cc0_scratch8 (at16 s hs x) = 1#32 ↔
    ∀ y, x.val < y → y < 16 → cl d (16 * s + y) ≠ cl d (16 * s + x))
  cnts : ∀ c : Fin 96, σ cc0_scratch16 (ix1 c) = BitVec.ofNat 32 (cnt (cl d) (16 * t) c)

theorem t1_step (z : IVec S16 32) (d : S1024.Idx → F .f32) (hd : ∀ j, cl d j < 96) (σ₀ : H F) (hσ₀ : σ₀ cc0_scratch5 = d)
    (t : Fin k0_t1_loop.trips) (σ : H F) (hI : I1 d σ₀ t σ) :
    pwp scr (t1B i sm rs h1 z t ()) (fun _ => I1 d σ₀ (t + 1)) σ := by
  have ht : t.val < 64 := Nat.lt_of_lt_of_le t.isLt k0_t1_abs.2.1
  have e5 : σ cc0_scratch5 = d := (hI.keep _ (by decide) (by decide) (by decide) (by decide)).trans hσ₀
  unfold t1B k0_t1_body
  refine step_load _ ?hB ?_; case hB => exact mem_scr _ rfl
  generalize hv : fptosi (F := F) (s := S16) (φ := .f32) 32 _ = v
  have hvx : ∀ x : Fin 16, v (ix1 x) = cw d (16 * t + x) := by
    intro x
    rw [← hv, cw_at d t ht x, ← e5]
    exact congrArg (FloatOps.fptosi 32) (rd_at cc0_scratch5 _ _ _ (σ cc0_scratch5) (ix1 x) (at16 t ht x)
      (lane_off _ (k0_off2_eq t) x _ rfl))
  have hvn : ∀ x : Fin 16, (v (ix1 x)).toNat = cl d (16 * t + x) := fun x => congrArg BitVec.toNat (hvx x)
  refine step_assume _ ?_ ?_
  · intro _ a x
    match a with
    | ⟨0, _⟩ =>
      show (v x).toNat < 96
      rw [eq_ix1 x]
      exact (hvn (x 0)).trans_lt (hd _)
  refine step_load _ ?hB ?_; case hB => exact mem_scr _ rfl
  refine step_store _ ?hB fun σ1 (f1 : ∀ b, b ≠ cc0_scratch6 → σ1 b = σ b) e1 => ?_; case hB => exact mem_scr _ rfl
  refine step_load _ ?hB ?_; case hB => exact mem_scr _ rfl
  refine step_store _ ?hB fun σ2 (f2 : ∀ b, b ≠ cc0_scratch7 → σ2 b = σ1 b) e2 => ?_; case hB => exact mem_scr _ rfl
  refine step_load _ ?hB ?_; case hB => exact mem_scr _ rfl
  refine step_store _ ?hB fun σ3 (f3 : ∀ b, b ≠ cc0_scratch8 → σ3 b = σ2 b) e3 => ?_; case hB => exact mem_scr _ rfl
  refine step_storeIdx _ ?hB fun σ4 (f4 : ∀ b, b ≠ cc0_scratch16 → σ4 b = σ3 b) e4 => ?_; case hB => exact mem_scr _ rfl
  refine step_pure _ ?_
  have hout : ∀ (s : ℕ) (x : Fin 16), s < t.val → 16 * s + x.val < 16 * t.val ∨ 16 * t.val + 16 ≤ 16 * s + x.val := by
    intro s x h; omega
  have hm : ∀ x : S16.Idx, k0_pay102 x = 1 := fun _ => rfl
  have hcount := scanCount_snd v k0_pay102 hm (fun y => cl d (16 * t + y)) hvn
  have hlast := scanCount_fst v k0_pay102 hm (fun y => cl d (16 * t + y)) hvn
  have e4' : σ4 cc0_scratch16 = storeIdx (σ3 cc0_scratch16) ![v] (k0_pay104 v) (k0_pay103 v) true _ :=
    e4.trans (whole_storeIdx cc0_scratch16 _ _ _ _ _ _)
  refine ⟨?_, ?_, ?_, ?_, ?_⟩
  · intro b h6 h7 h8 h16
    rw [f4 b h16, f3 b h8, f2 b h7, f1 b h6]
    exact hI.keep b h6 h7 h8 h16
  · intro s hs x hst
    rw [f4 _ (by decide), f3 _ (by decide), f2 _ (by decide)]
    by_cases hse : s = t.val
    · subst hse
      exact ((congrFun e1 _).trans (wr_hit cc0_scratch6 _ _ _ _ _ (ix1 x) _ (lane_off _ (k0_off2_eq t) x _ rfl))).trans (hvx x)
    · exact ((congrFun e1 _).trans (wr_miss cc0_scratch6 _ _ _ _ _ _ (lane_out _ (k0_off2_eq t) _ (hout s x (by omega))))).trans (hI.cls s hs x (by omega))
  · intro s hs x hst
    rw [f4 _ (by decide), f3 _ (by decide)]
    by_cases hse : s = t.val
    · subst hse
      refine ((congrFun e2 _).trans (wr_hit cc0_scratch7 _ _ _ _ _ (ix1 x) _ (lane_off _ (k0_off2_eq t) x _ rfl))).trans ?_
      show (scanCount k0_pay102 v).2 (ix1 x) - 1#32 = _
      rw [hcount x, Nat.count_succ, if_pos rfl, BitVec.ofNat_add]
      exact BitVec.add_sub_cancel _ _
    · refine ((congrFun e2 _).trans (wr_miss cc0_scratch7 _ _ _ _ _ _ (lane_out _ (k0_off2_eq t) _ (hout s x (by omega))))).trans ?_
      show σ1 cc0_scratch7 _ = _
      rw [f1 _ (by decide)]
      exact hI.rnk s hs x (by omega)
  · intro s hs x hst
    rw [f4 _ (by decide)]
    by_cases hse : s = t.val
    · subst hse
      rw [show σ3 cc0_scratch8 (at16 t hs x) = k0_pay106 v (ix1 x) from
        (congrFun e3 _).trans (wr_hit cc0_scratch8 _ _ _ _ _ (ix1 x) _ (lane_off _ (k0_off2_eq t) x _ rfl))]
      rw [← hlast x]
      show (if (scanCount k0_pay102 v).1 (ix1 x) = 1 then (1#32 : BitVec 32) else 0#32) = 1#32 ↔ _
      by_cases hc : (scanCount k0_pay102 v).1 (ix1 x) = 1
      · simp [hc]
      · simp [hc]
    · rw [show σ3 cc0_scratch8 (at16 s hs x) = σ2 cc0_scratch8 (at16 s hs x) from
        (congrFun e3 _).trans (wr_miss cc0_scratch8 _ _ _ _ _ _ (lane_out _ (k0_off2_eq t) _ (hout s x (by omega)))), f2 _ (by decide), f1 _ (by decide)]
      exact hI.lst s hs x (by omega)
  · intro c
    have hinj : ∀ k k' : Fin 16, k0_pay103 v (ix1 k) = 1 → k0_pay103 v (ix1 k') = 1 →
        (![v] : Fin 1 → IVec S16 32) 0 (ix1 k) = (![v] : Fin 1 → IVec S16 32) 0 (ix1 k') → k = k' := by
      intro k k' hk hk' hv
      have hv' : cl d (16 * t + k) = cl d (16 * t + k') := by
        rw [← hvn, ← hvn]; exact congrArg BitVec.toNat hv
      have h1 := (hlast k).1 hk
      have h2 := (hlast k').1 hk'
      rcases lt_trichotomy k.val k'.val with h | h | h
      · exact absurd hv'.symm (h1 _ h k'.isLt)
      · exact Fin.ext h
      · exact absurd hv' (h2 _ h k.isLt)
    have hold : σ3 cc0_scratch16 (ix1 c) = BitVec.ofNat 32 (cnt (cl d) (16 * t) c) := by
      rw [f3 _ (by decide), f2 _ (by decide), f1 _ (by decide)]
      exact hI.cnts c
    rw [e4', show 16 * (t.val + 1) = 16 * t.val + 16 by omega, cnt_add]
    by_cases hex : ∃ y, y < 16 ∧ cl d (16 * t + y) = c.val
    · obtain ⟨k, hk, hkc, hkl⟩ := exists_last (fun y => cl d (16 * t + y)) c.val 16 hex
      have hset : k0_pay103 v (ix1 ⟨k, hk⟩) = 1 := (hlast ⟨k, hk⟩).2 fun y h1 h2 => fun h => hkl y h1 h2 (h.trans hkc)
      rw [storeIdx_hit _ _ _ _ _ _ hinj _ ⟨k, hk⟩ hset ((hvn ⟨k, hk⟩).trans hkc)]
      rw [if_pos rfl, BitVec.ofNat_add]
      refine congrArg₂ (fun a b : BitVec 32 => a + b) hold ?_
      refine (hcount ⟨k, hk⟩).trans ?_
      congr 1
      rw [count_last (fun y => cl d (16 * t + y)) c.val k 16 hk hkl]
      show Nat.count (fun y => cl d (16 * t + y) = cl d (16 * t + k)) (k + 1) = _
      simp only [show cl d (16 * t + k) = c.val from hkc]
    · rw [storeIdx_miss _ _ _ _ _ _ hinj (ix1 c) (fun k _ hkc => hex ⟨k.val, k.isLt, (hvn k).symm.trans (show (v (ix1 k)).toNat = c.val from hkc)⟩), hold,
        count_none (fun y => cl d (16 * t + y)) c.val 16 (fun y h1 h2 => hex ⟨y, h1, h2⟩)]
      rfl

end Cert.Proof.Sort
-- ==== Proof.Sort2.lean ====
/-
  The counting sort of one subcore, continued: the classes' bases, and the pass that moves every item to its place.
-/
module

public import proofs.«01_k».proof.Proof.Sort

@[expose] public section

noncomputable section

namespace Cert.Proof.Sort

open Cert.KernelIdeal Cert.KernelIdeal.Gen
open Idealize.ShloMosaic Idealize.ShloMosaic.ValueIdx Idealize.SL.Sem
open Cert.Proof.Pwp Cert.Proof.Lanes Cert.Proof.Counting

variable {F : FTy → Type} [FloatOps F]
variable (i : grid0.Coords) (sm rs : DmaSems sig S_) (h1 : k0_cond1 i = 1#1)

/-! ## The classes' bases -/

/-- The exclusive prefix sums of a block of counts, from the sum before it. -/
abbrev blkPay (run : BitVec 32) (v : IVec S16 32) : IVec S16 32 := addi (subi (scan .sum v) v) (broadcast S16 run)

/-- The sum after a block of counts. -/
abbrev blkNext (run : BitVec 32) (v : IVec S16 32) : BitVec 32 :=
  Scalar.addi run (extractAt ![15] (xori (scan .max (xori (scan .sum v) (broadcast S16 2147483648#32))) (broadcast S16 2147483648#32)) inpos_S16_p15)

theorem blkPay_at (c : ℕ → ℕ) (N n : ℕ) (v : IVec S16 32) (hv : ∀ x : Fin 16, v (ix1 x) = BitVec.ofNat 32 (cnt c N (n + x)))
    (x : Fin 16) : blkPay (BitVec.ofNat 32 (base c N n)) v (ix1 x) = BitVec.ofNat 32 (base c N (n + x)) := by
  show scan .sum v (ix1 x) - v (ix1 x) + BitVec.ofNat 32 (base c N n) = _
  rw [sum_at v (fun y => cnt c N (n + y)) hv x, hv x, Finset.sum_range_succ, BitVec.ofNat_add, BitVec.add_sub_cancel, ← BitVec.ofNat_add]
  congr 1
  rw [base_eq_sum, base_eq_sum, Finset.sum_range_add, add_comm]

/-- The last of growing words, as their maximum. -/
theorem max_last (w : IVec S16 32) (S : ℕ → ℕ) (hw : ∀ x : Fin 16, w (ix1 x) = BitVec.ofNat 32 (S x)) (hS : ∀ m, m < 16 → S m ≤ 1024)
    (hm : ∀ m, m < 16 → S m ≤ S 15) :
    extractAt ![15] (xori (scan .max (xori w (broadcast S16 2147483648#32))) (broadcast S16 2147483648#32)) inpos_S16_p15
      = BitVec.ofNat 32 (S 15) := by
  have hn : ∀ x : Fin 16, (w (ix1 x)).toNat = S x := by
    intro x
    rw [hw x, BitVec.toNat_ofNat]
    exact Nat.mod_eq_of_lt (lt_of_le_of_lt (hS x x.isLt) (by norm_num))
  have hw' : ∀ x, (w x).toNat < 2 ^ 31 := by
    intro x
    exact ((congrArg (fun y => (w y).toNat) (eq_ix1 x)).trans (hn (x 0))).trans_lt (lt_of_le_of_lt (hS _ (x 0).isLt) (by norm_num))
  obtain ⟨x, hx, hy⟩ := max15 w hw'
  have hidx : (fun a => ⟨(![15] : Fin 1 → ℕ) a, inpos_S16_p15 a⟩ : S16.Idx) = ix1 15 := eq_ix1 _
  unfold extractAt
  rw [hidx]
  refine hx.trans ?_
  rw [hw x]
  congr 1
  have h2 := hy 15
  rw [hn, hn] at h2
  exact le_antisymm (hm _ x.isLt) h2

theorem blkNext_eq (c : ℕ → ℕ) (N n : ℕ) (hN : N ≤ 1024) (v : IVec S16 32) (hv : ∀ x : Fin 16, v (ix1 x) = BitVec.ofNat 32 (cnt c N (n + x))) :
    blkNext (BitVec.ofNat 32 (base c N n)) v = BitVec.ofNat 32 (base c N (n + 16)) := by
  have hs := sum_at v (fun y => cnt c N (n + y)) hv
  have hle : ∀ m, m ≤ 16 → (∑ y ∈ Finset.range m, cnt c N (n + y)) ≤ 1024 := by
    intro m _
    have h1 := base_le c N (n + m)
    rw [base_eq_sum, Finset.sum_range_add] at h1
    omega
  have key := max_last (scan .sum v) (fun x => ∑ y ∈ Finset.range (x + 1), cnt c N (n + y)) hs (fun m h => hle _ (by omega))
    (fun m h => Finset.sum_le_sum_of_subset (Finset.range_mono (by omega)))
  refine (congrArg (fun w => Scalar.addi (BitVec.ofNat 32 (base c N n)) w) key).trans ?_
  refine (BitVec.ofNat_add _ _ ).symm.trans (congrArg (BitVec.ofNat 32) ?_)
  have h16 : base c N (n + 16) = base c N n + ∑ y ∈ Finset.range 16, cnt c N (n + y) := by
    rw [base_eq_sum, base_eq_sum c N n, Finset.sum_range_add]
  exact h16.symm

/-- The counts of all the items. -/
def CO (d : S1024.Idx → F .f32) (σ : H F) : Prop :=
  ∀ c : Fin 96, σ cc0_scratch16 (ix1 c) = BitVec.ofNat 32 (cnt (cl d) 1024 c)

/-- The bases of the first `n` classes, in both tables. -/
def Bs (d : S1024.Idx → F .f32) (n : ℕ) (σ : H F) : Prop :=
  ∀ c : Fin 96, c.val < n → σ cc0_scratch17 (ix1 c) = BitVec.ofNat 32 (base (cl d) 1024 c) ∧
    σ cc0_scratch18 (ix1 c) = BitVec.ofNat 32 (base (cl d) 1024 c)

theorem co_read (d : S1024.Idx → F .f32) (σ : H F) (h : CO d σ) (n : ℕ) (hn : n + 16 ≤ 96)
    (inb : ∀ a, (![n] : Fin 1 → ℕ) a + S16.size a ≤ S96.size a) (x : Fin 16) :
    (Memref.whole cc0_scratch16 : Memref sig _ _ _ _).view.readAt (Elt F) (Rect.unit (s := S96) ![n] S16.size inb).toLoadRect
      (σ cc0_scratch16) (ix1 x) = BitVec.ofNat 32 (cnt (cl d) 1024 (n + x)) :=
  (rd_at cc0_scratch16 _ _ _ (σ cc0_scratch16) (ix1 x) (ix1 ⟨n + x.val, by omega⟩) (lane_off _ rfl x _ rfl)).trans (h _)

/-- Storing a block of bases in both tables. -/
theorem block {α : Type} (d : S1024.Idx → F .f32) (n : ℕ) (hn : n + 16 ≤ 96)
    (inb : ∀ a, (![n] : Fin 1 → ℕ) a + S16.size a ≤ S96.size a) (w : Vec F S16 .i32)
    (hw : ∀ x : Fin 16, w (ix1 x) = BitVec.ofNat 32 (base (cl d) 1024 (n + x)))
    {σ : H F} (hσ : Bs d n σ) {Q : α → H F → Prop} {a1 a2 a3 a4 a5 a6}
    {K : Prog (TpuEff nD τ sig (Elt F) Λ₀ (pr i)) α}
    (HK : ∀ σ' : H F, (∀ b, b ≠ cc0_scratch17 → b ≠ cc0_scratch18 → σ' b = σ b) → Bs d (n + 16) σ' → pwp scr K Q σ') :
    pwp (p := pr i) scr (do
      let _v : Vec F S16 .i32 ← Prog.lift (.load (Memref.whole cc0_scratch17) (Rect.unit (s := S96) ![n] S16.size inb).toLoadRect a1)
      Prog.lift (.store (Memref.whole cc0_scratch17) (Rect.unit (s := S96) ![n] S16.size inb) w Finset.univ a2 a3)
      let _v : Vec F S16 .i32 ← Prog.lift (.load (Memref.whole cc0_scratch18) (Rect.unit (s := S96) ![n] S16.size inb).toLoadRect a4)
      Prog.lift (.store (Memref.whole cc0_scratch18) (Rect.unit (s := S96) ![n] S16.size inb) w Finset.univ a5 a6)
      K) Q σ := by
  refine step_load _ ?hB ?_; case hB => exact mem_scr _ rfl
  refine step_store _ ?hB fun σ1 (f1 : ∀ b, b ≠ cc0_scratch17 → σ1 b = σ b) e1 => ?_; case hB => exact mem_scr _ rfl
  refine step_load _ ?hB ?_; case hB => exact mem_scr _ rfl
  refine step_store _ ?hB fun σ2 (f2 : ∀ b, b ≠ cc0_scratch18 → σ2 b = σ1 b) e2 => ?_; case hB => exact mem_scr _ rfl
  refine HK σ2 (fun b h17 h18 => (f2 b h18).trans (f1 b h17)) fun c hc => ?_
  have e18 : σ1 cc0_scratch18 = σ cc0_scratch18 := f1 _ (by decide)
  rw [f2 cc0_scratch17 (by decide)]
  by_cases hcn : c.val < n
  · constructor
    · exact ((congrFun e1 _).trans (wr_miss cc0_scratch17 _ _ _ _ _ _ (lane_out _ rfl (ix1 c) (.inl hcn)))).trans (hσ c hcn).1
    · refine ((congrFun e2 _).trans (wr_miss cc0_scratch18 _ _ _ _ _ _ (lane_out _ rfl (ix1 c) (.inl hcn)))).trans ?_
      exact (congrFun e18 _).trans (hσ c hcn).2
  · have hx : c.val - n < 16 := by omega
    have hc' : base (cl d) 1024 c = base (cl d) 1024 (n + (⟨c.val - n, hx⟩ : Fin 16).val) := by
      congr 1
      show c.val = n + (c.val - n)
      omega
    rw [hc']
    constructor
    · exact ((congrFun e1 _).trans (wr_hit cc0_scratch17 _ _ _ _ _ (ix1 ⟨c.val - n, hx⟩) _ (lane_off _ rfl _ (ix1 c)
        (by show c.val = n + (c.val - n); omega)))).trans (hw _)
    · exact ((congrFun e2 _).trans (wr_hit cc0_scratch18 _ _ _ _ _ (ix1 ⟨c.val - n, hx⟩) _ (lane_off _ rfl _ (ix1 c)
        (by show c.val = n + (c.val - n); omega)))).trans (hw _)

/-- What the first pass leaves: every item's class, its rank among the equal classes of its chunk, and whether it is the
    last of them. -/
structure Ranks (d : S1024.Idx → F .f32) (σ : H F) : Prop where
  cls : ∀ s (hs : s < 64) (x : Fin 16), σ cc0_scratch6 (at16 s hs x) = cw d (16 * s + x)
  rnk : ∀ s (hs : s < 64) (x : Fin 16), σ cc0_scratch7 (at16 s hs x)
    = BitVec.ofNat 32 (Nat.count (fun y => cl d (16 * s + y) = cl d (16 * s + x)) x)
  lst : ∀ s (hs : s < 64) (x : Fin 16), (σ cc0_scratch8 (at16 s hs x) = 1#32 ↔
    ∀ y, x.val < y → y < 16 → cl d (16 * s + y) ≠ cl d (16 * s + x))

/-- The state between the first pass and the second, with the bases of `n` classes. -/
structure Mid (d : S1024.Idx → F .f32) (σ₀ : H F) (n : ℕ) (σ : H F) : Prop where
  keep : ∀ b, b ≠ cc0_scratch6 → b ≠ cc0_scratch7 → b ≠ cc0_scratch8 → b ≠ cc0_scratch16 → b ≠ cc0_scratch17 → b ≠ cc0_scratch18 →
    σ b = σ₀ b
  ranks : Ranks d σ
  co : CO d σ
  bs : Bs d n σ

theorem Mid.step {d : S1024.Idx → F .f32} {σ₀ σ σ' : H F} {n m : ℕ} (h : Mid d σ₀ n σ)
    (hk : ∀ b, b ≠ cc0_scratch17 → b ≠ cc0_scratch18 → σ' b = σ b) (hb : Bs d m σ') : Mid d σ₀ m σ' where
  keep b h6 h7 h8 h16 h17 h18 := (hk b h17 h18).trans (h.keep b h6 h7 h8 h16 h17 h18)
  ranks := ⟨fun s hs x => by rw [hk _ (by decide) (by decide)]; exact h.ranks.cls s hs x,
    fun s hs x => by rw [hk _ (by decide) (by decide)]; exact h.ranks.rnk s hs x,
    fun s hs x => by rw [hk _ (by decide) (by decide)]; exact h.ranks.lst s hs x⟩
  co c := by rw [hk _ (by decide) (by decide)]; exact h.co c
  bs := hb

theorem trips1 : k0_t1_loop.trips = 64 := by decide +kernel

/-- The first stretch: the counting pass and the first two blocks of bases. -/
theorem part16_spec (z : IVec S16 32) (hz : ∀ x, z x = 0#32) (d : S1024.Idx → F .f32) (hd : ∀ j, cl d j < 96) (σ₀ σ : H F)
    (h5 : σ cc0_scratch5 = d) (hz16 : ∀ c : Fin 96, c.val < 80 → σ cc0_scratch16 (ix1 c) = 0#32)
    (hk : ∀ b, b ≠ cc0_scratch16 → σ b = σ₀ b) :
    pwp (p := pr i) scr (k0_part16 (F := F) i
      (Memref.whole main_v2_scv) (Memref.isWhole_whole _) (Memref.whole main_v7_scv) (Memref.isWhole_whole _) (Memref.whole
      main_v12_scv) (Memref.isWhole_whole _) (Memref.whole main_v17_scv) (Memref.isWhole_whole _) (Memref.whole main_v22_scv)
      (Memref.isWhole_whole _) (Memref.whole main_v26_scv) (Memref.isWhole_whole _) (Memref.whole main_v27_scv) (Memref.isWhole_whole _)
      (Memref.whole cc0_scratch0) (Memref.isWhole_whole _) (Memref.whole cc0_scratch1) (Memref.isWhole_whole _) (Memref.whole
      cc0_scratch2) (Memref.isWhole_whole _) (Memref.whole cc0_scratch3) (Memref.isWhole_whole _) (Memref.whole cc0_scratch4)
      (Memref.isWhole_whole _) (Memref.whole cc0_scratch5) (Memref.isWhole_whole _) (Memref.whole cc0_scratch6) (Memref.isWhole_whole _)
      (Memref.whole cc0_scratch7) (Memref.isWhole_whole _) (Memref.whole cc0_scratch8) (Memref.isWhole_whole _) (Memref.whole
      cc0_scratch9) (Memref.isWhole_whole _) (Memref.whole cc0_scratch10) (Memref.isWhole_whole _) (Memref.whole cc0_scratch11)
      (Memref.isWhole_whole _) (Memref.whole cc0_scratch12) (Memref.isWhole_whole _) (Memref.whole cc0_scratch13) (Memref.isWhole_whole
      _) (Memref.whole cc0_scratch14) (Memref.isWhole_whole _) (Memref.whole cc0_scratch15) (Memref.isWhole_whole _) (Memref.whole
      cc0_scratch16) (Memref.isWhole_whole _) (Memref.whole cc0_scratch17) (Memref.isWhole_whole _) (Memref.whole cc0_scratch18)
      (Memref.isWhole_whole _) (Memref.whole cc0_scratch19) (Memref.isWhole_whole _) (Memref.whole cc0_scratch20) (Memref.isWhole_whole
      _) (Memref.whole cc0_scratch21) (Memref.isWhole_whole _) sm rs h1 z)
      (fun r σ' => Mid d σ₀ 32 σ' ∧ r.1 = BitVec.ofNat 32 (base (cl d) 1024 32) ∧
        ∀ x : Fin 16, r.2 (ix1 x) = BitVec.ofNat 32 (cnt (cl d) 1024 (32 + x))) σ := by
  rw [k0_part16_eq_skeleton]
  unfold k0_part16_skel
  refine step_store _ ?hB fun σ1 (f1 : ∀ b, b ≠ cc0_scratch16 → σ1 b = σ b) e1 => ?_; case hB => exact mem_scr _ rfl
  have h5' : σ1 cc0_scratch5 = d := (f1 _ (by decide)).trans h5
  have hz1 : ∀ c : Fin 96, σ1 cc0_scratch16 (ix1 c) = 0#32 := by
    intro c
    by_cases hc : c.val < 80
    · exact ((congrFun e1 _).trans (wr_miss cc0_scratch16 _ _ _ _ _ _ (lane_out _ rfl (ix1 c) (.inl hc)))).trans (hz16 c hc)
    · exact ((congrFun e1 _).trans (wr_hit cc0_scratch16 _ _ _ _ _ (ix1 ⟨c.val - 80, by omega⟩) _ (lane_off _ rfl _ (ix1 c)
        (by show c.val = 80 + (c.val - 80); omega)))).trans (hz _)
  refine pwp_seq (p := pr i) scr (R := fun _ (σ' : H F) => I1 d σ1 64 σ') ?_ fun _ σ2 hI => ?_
  · have := pwp_loop scr k0_t1_loop (k0_t1_ok i h1) () (t1B (F := F) i sm rs h1 z) (fun t _ σ' => I1 d σ1 t σ')
      (fun t a σ' h => t1_step i sm rs h1 z d hd σ1 h5' t σ' h) (σ := σ1)
      ⟨fun _ _ _ _ _ => rfl, fun _ _ _ h => absurd h (Nat.not_lt_zero _), fun _ _ _ h => absurd h (Nat.not_lt_zero _),
        fun _ _ _ h => absurd h (Nat.not_lt_zero _), fun c => (hz1 c).trans rfl⟩
    rw [trips1] at this
    exact this
  have hM : Mid d σ₀ 0 σ2 := {
    keep := fun b h6 h7 h8 h16 _ _ => ((hI.keep b h6 h7 h8 h16).trans (f1 b h16)).trans (hk b h16)
    ranks := ⟨fun s hs x => hI.cls s hs x hs, fun s hs x => hI.rnk s hs x hs, fun s hs x => hI.lst s hs x hs⟩
    co := hI.cnts
    bs := fun c h => absurd h (Nat.not_lt_zero _) }
  refine step_load _ ?hB ?_; case hB => exact mem_scr _ rfl
  have hv1 := co_read d σ2 hM.co 0 (by omega) inb_S96_S16_0
  generalize (Memref.whole cc0_scratch16 : Memref sig _ _ _ _).view.readAt (Elt F) (Rect.unit (s := S96) ![0] S16.size inb_S96_S16_0).toLoadRect (σ2 cc0_scratch16) = v1 at hv1
  refine block i d 0 (by omega) inb_S96_S16_0 _ ?_ hM.bs fun σ3 k3 b3 => ?_
  · intro x
    have := blkPay_at (cl d) 1024 0 v1 hv1 x
    rw [base_zero] at this
    exact this
  have hM3 := hM.step k3 b3
  refine step_load _ ?hB ?_; case hB => exact mem_scr _ rfl
  have hv2 := co_read d σ3 hM3.co 16 (by omega) inb_S96_S16_16
  generalize (Memref.whole cc0_scratch16 : Memref sig _ _ _ _).view.readAt (Elt F) (Rect.unit (s := S96) ![16] S16.size inb_S96_S16_16).toLoadRect (σ3 cc0_scratch16) = v2 at hv2
  have hr1 : blkNext 0#32 v1 = BitVec.ofNat 32 (base (cl d) 1024 16) := by
    have := blkNext_eq (cl d) 1024 0 le_rfl v1 hv1
    rw [base_zero] at this
    exact this
  refine block i d 16 (by omega) inb_S96_S16_16 _ ?_ hM3.bs fun σ4 k4 b4 => ?_
  · intro x
    have := blkPay_at (cl d) 1024 16 v2 hv2 x
    rw [← hr1] at this
    exact this
  have hM4 := hM3.step k4 b4
  refine step_load _ ?hB ?_; case hB => exact mem_scr _ rfl
  refine step_pure _ ⟨hM4, ?_, co_read d σ4 hM4.co 32 (by omega) inb_S96_S16_32⟩
  have := blkNext_eq (cl d) 1024 16 le_rfl v2 hv2
  rw [← hr1] at this
  exact this

/-- The second stretch: the bases of three more blocks. -/
theorem part17_spec (d : S1024.Idx → F .f32) (σ₀ σ : H F) (hM : Mid d σ₀ 32 σ) (run : BitVec 32)
    (hrun : run = BitVec.ofNat 32 (base (cl d) 1024 32)) (v1 : Vec F S16 .i32)
    (hv1 : ∀ x : Fin 16, v1 (ix1 x) = BitVec.ofNat 32 (cnt (cl d) 1024 (32 + x))) :
    pwp (p := pr i) scr (k0_part17 (F := F) i
      (Memref.whole main_v2_scv) (Memref.isWhole_whole _) (Memref.whole main_v7_scv) (Memref.isWhole_whole _) (Memref.whole
      main_v12_scv) (Memref.isWhole_whole _) (Memref.whole main_v17_scv) (Memref.isWhole_whole _) (Memref.whole main_v22_scv)
      (Memref.isWhole_whole _) (Memref.whole main_v26_scv) (Memref.isWhole_whole _) (Memref.whole main_v27_scv) (Memref.isWhole_whole _)
      (Memref.whole cc0_scratch0) (Memref.isWhole_whole _) (Memref.whole cc0_scratch1) (Memref.isWhole_whole _) (Memref.whole
      cc0_scratch2) (Memref.isWhole_whole _) (Memref.whole cc0_scratch3) (Memref.isWhole_whole _) (Memref.whole cc0_scratch4)
      (Memref.isWhole_whole _) (Memref.whole cc0_scratch5) (Memref.isWhole_whole _) (Memref.whole cc0_scratch6) (Memref.isWhole_whole _)
      (Memref.whole cc0_scratch7) (Memref.isWhole_whole _) (Memref.whole cc0_scratch8) (Memref.isWhole_whole _) (Memref.whole
      cc0_scratch9) (Memref.isWhole_whole _) (Memref.whole cc0_scratch10) (Memref.isWhole_whole _) (Memref.whole cc0_scratch11)
      (Memref.isWhole_whole _) (Memref.whole cc0_scratch12) (Memref.isWhole_whole _) (Memref.whole cc0_scratch13) (Memref.isWhole_whole
      _) (Memref.whole cc0_scratch14) (Memref.isWhole_whole _) (Memref.whole cc0_scratch15) (Memref.isWhole_whole _) (Memref.whole
      cc0_scratch16) (Memref.isWhole_whole _) (Memref.whole cc0_scratch17) (Memref.isWhole_whole _) (Memref.whole cc0_scratch18)
      (Memref.isWhole_whole _) (Memref.whole cc0_scratch19) (Memref.isWhole_whole _) (Memref.whole cc0_scratch20) (Memref.isWhole_whole
      _) (Memref.whole cc0_scratch21) (Memref.isWhole_whole _) sm rs run v1)
      (fun r σ' => Mid d σ₀ 80 σ' ∧ r.1 = BitVec.ofNat 32 (base (cl d) 1024 64) ∧ r.2.2 = broadcast S16 2147483648#32 ∧
        ∃ v : IVec S16 32, r.2.1 = scan .sum v ∧ ∀ x : Fin 16, v (ix1 x) = BitVec.ofNat 32 (cnt (cl d) 1024 (64 + x))) σ := by
  rw [k0_part17_eq_skeleton]
  unfold k0_part17_skel
  subst hrun
  refine block i d 32 (by omega) inb_S96_S16_32 _ (blkPay_at (cl d) 1024 32 v1 hv1) hM.bs fun σ3 k3 b3 => ?_
  have hM3 := hM.step k3 b3
  refine step_load _ ?hB ?_; case hB => exact mem_scr _ rfl
  have hv2 := co_read d σ3 hM3.co 48 (by omega) inb_S96_S16_48
  generalize (Memref.whole cc0_scratch16 : Memref sig _ _ _ _).view.readAt (Elt F) (Rect.unit (s := S96) ![48] S16.size inb_S96_S16_48).toLoadRect (σ3 cc0_scratch16) = v2 at hv2
  have hr1 := blkNext_eq (cl d) 1024 32 le_rfl v1 hv1
  refine block i d 48 (by omega) inb_S96_S16_48 _ ?_ hM3.bs fun σ4 k4 b4 => ?_
  · intro x
    have := blkPay_at (cl d) 1024 48 v2 hv2 x
    rw [← hr1] at this
    exact this
  have hM4 := hM3.step k4 b4
  refine step_load _ ?hB ?_; case hB => exact mem_scr _ rfl
  have hv3 := co_read d σ4 hM4.co 64 (by omega) inb_S96_S16_64
  generalize (Memref.whole cc0_scratch16 : Memref sig _ _ _ _).view.readAt (Elt F) (Rect.unit (s := S96) ![64] S16.size inb_S96_S16_64).toLoadRect (σ4 cc0_scratch16) = v3 at hv3
  have hr2 := blkNext_eq (cl d) 1024 48 le_rfl v2 hv2
  rw [← hr1] at hr2
  refine block i d 64 (by omega) inb_S96_S16_64 _ ?_ hM4.bs fun σ5 k5 b5 => ?_
  · intro x
    have := blkPay_at (cl d) 1024 64 v3 hv3 x
    rw [← hr2] at this
    exact this
  exact step_pure _ ⟨hM4.step k5 b5, hr2, rfl, v3, rfl, hv3⟩

end Cert.Proof.Sort
-- ==== Proof.Sort3.lean ====
/-
  The counting sort of one subcore, ended: every item in its place, and the tables of each chunk's maximum.
-/
module

public import proofs.«01_k».proof.Proof.Sort2

@[expose] public section

noncomputable section

namespace Cert.Proof.Sort

open Cert.KernelIdeal Cert.KernelIdeal.Gen
open Idealize.ShloMosaic Idealize.ShloMosaic.ValueIdx Idealize.SL.Sem
open Cert.Proof.Pwp Cert.Proof.Lanes Cert.Proof.Counting

variable {F : FTy → Type} [FloatOps F]
variable (i : grid0.Coords) (sm rs : DmaSems sig S_) (h1 : k0_cond1 i = 1#1)

/-- What an indexed load reads at a lane. -/
theorem gat (b : Ref sig .scVector) {t : Shape} (f : b.ty.Contents (Elt F)) (idxs : Fin b.ty.shape.rank → IVec t 32)
    (h : ∀ a x, (idxs a x).toNat < b.ty.shape.size a) (x : t.Idx) (y : b.ty.Idx) (hy : ∀ a, (y a).val = (idxs a x).toNat) :
    loadIdx ((Memref.whole b : Memref sig .scVector _ _ _).view.readAt (Elt F) (LoadRect.whole _) f) idxs h x = f y := by
  rw [Memref.readAt_whole]
  exact congrArg f (funext fun a => Fin.ext (hy a).symm)

/-! ## Moving the items to their places -/

/-- The first `t` chunks of items `T` stand in `f` at their places. -/
def Put {V : Type} (c : ℕ → ℕ) (t : ℕ) (f T : S1024.Idx → V) : Prop :=
  ∀ q p : S1024.Idx, (q 0).val < 16 * t → (p 0).val = pos c 1024 (q 0).val → f p = T q

theorem scat {e : EltTy} (c : ℕ → ℕ) (t : ℕ) (ht : t < 64) (f T : Vec F S1024 e) (v : IVec S16 32)
    (hv : ∀ x : Fin 16, (v (ix1 x)).toNat = pos c 1024 (16 * t + x)) (w : Vec F S16 e)
    (hw : ∀ x : Fin 16, w (ix1 x) = T (at16 t ht x)) (h) (hP : Put c t f T) :
    Put c (t + 1) (storeIdx (F := F) f ![v] w (fun _ => 1#1) false h) T := by
  have hinj : ∀ k k' : Fin 16, (fun _ : S16.Idx => 1#1) (ix1 k) = 1 → (fun _ : S16.Idx => 1#1) (ix1 k') = 1 →
      (![v] : Fin 1 → IVec S16 32) 0 (ix1 k) = (![v] : Fin 1 → IVec S16 32) 0 (ix1 k') → k = k' := by
    intro k k' _ _ hk
    have h2 : (v (ix1 k)).toNat = (v (ix1 k')).toNat := congrArg BitVec.toNat hk
    rw [hv, hv] at h2
    have := pos_inj c (by omega) (by omega) h2
    exact Fin.ext (by omega)
  intro q p hq hp
  by_cases hqt : (q 0).val < 16 * t
  · rw [storeIdx_miss f _ w _ _ h hinj p]
    · exact hP q p hqt hp
    · intro k _ hk
      have hk' : (v (ix1 k)).toNat = (p 0).val := hk
      rw [hv, hp] at hk'
      have h1024 : (q 0).val < 1024 := (q 0).isLt
      have := pos_inj c (by omega) h1024 hk'
      omega
  · have hx : (q 0).val - 16 * t < 16 := by omega
    have hqe : q = at16 t ht ⟨(q 0).val - 16 * t, hx⟩ := by
      funext a
      match a with
      | ⟨0, _⟩ => exact Fin.ext (by show (q 0).val = 16 * t + ((q 0).val - 16 * t); omega)
    rw [storeIdx_hit f _ w _ _ h hinj p ⟨(q 0).val - 16 * t, hx⟩ rfl]
    · rw [if_neg (by decide), hw, ← hqe]
    · refine (hv _).trans ?_
      rw [hp]
      congr 1
      show 16 * t + ((q 0).val - 16 * t) = (q 0).val
      omega

/-- A subcore's six arrays. -/
structure Items (F : FTy → Type) where
  /-- the scores -/
  sc : S1024.Idx → F .f32
  /-- the boxes' lower rows -/
  y1 : S1024.Idx → F .f32
  /-- the boxes' lower columns -/
  x1 : S1024.Idx → F .f32
  /-- the boxes' upper rows -/
  y2 : S1024.Idx → F .f32
  /-- the boxes' upper columns -/
  x2 : S1024.Idx → F .f32
  /-- the classes -/
  cl : S1024.Idx → F .f32

/-- The item's own number, as a word. -/
def numW (q : S1024.Idx) : BitVec 32 := BitVec.ofNat 32 (q 0).val

/-- The arrays a subcore has been handed. -/
structure Given (D : Items F) (σ : H F) : Prop where
  e0 : σ cc0_scratch0 = D.sc
  e1 : σ cc0_scratch1 = D.y1
  e2 : σ cc0_scratch2 = D.x1
  e3 : σ cc0_scratch3 = D.y2
  e4 : σ cc0_scratch4 = D.x2
  e5 : σ cc0_scratch5 = D.cl

/-- What holds after `t` chunks of the second pass. -/
structure I2 (D : Items F) (σ₀ : H F) (t : ℕ) (σ : H F) : Prop where
  keep : ∀ b, b ≠ cc0_scratch9 → b ≠ cc0_scratch10 → b ≠ cc0_scratch11 → b ≠ cc0_scratch12 → b ≠ cc0_scratch13 →
    b ≠ cc0_scratch14 → b ≠ cc0_scratch15 → b ≠ cc0_scratch18 → σ b = σ₀ b
  p9 : Put (cl D.cl) t (σ cc0_scratch9) D.sc
  p10 : Put (cl D.cl) t (σ cc0_scratch10) D.y1
  p11 : Put (cl D.cl) t (σ cc0_scratch11) D.x1
  p12 : Put (cl D.cl) t (σ cc0_scratch12) D.y2
  p13 : Put (cl D.cl) t (σ cc0_scratch13) D.x2
  p14 : Put (cl D.cl) t (σ cc0_scratch14) D.cl
  p15 : Put (cl D.cl) t (σ cc0_scratch15) numW
  wb : ∀ c : Fin 96, σ cc0_scratch18 (ix1 c) = BitVec.ofNat 32 (base (cl D.cl) 1024 c + cnt (cl D.cl) (16 * t) c)

/-- The pass that moves the items, at the subcore's own buffers. -/
abbrev t2B (z : IVec S16 32) (a : BitVec 32) (b c : IVec S16 32) :
    Fin k0_t2_loop.trips → Unit → Prog (TpuEff nD τ sig (Elt F) Λ₀ (pr i)) Unit :=
  k0_t2_body (F := F) i
    (Memref.whole main_v2_scv) (Memref.isWhole_whole _) (Memref.whole main_v7_scv) (Memref.isWhole_whole _) (Memref.whole main_v12_scv)
    (Memref.isWhole_whole _) (Memref.whole main_v17_scv) (Memref.isWhole_whole _) (Memref.whole main_v22_scv) (Memref.isWhole_whole _)
    (Memref.whole main_v26_scv) (Memref.isWhole_whole _) (Memref.whole main_v27_scv) (Memref.isWhole_whole _) (Memref.whole
    cc0_scratch0) (Memref.isWhole_whole _) (Memref.whole cc0_scratch1) (Memref.isWhole_whole _) (Memref.whole cc0_scratch2)
    (Memref.isWhole_whole _) (Memref.whole cc0_scratch3) (Memref.isWhole_whole _) (Memref.whole cc0_scratch4) (Memref.isWhole_whole _)
    (Memref.whole cc0_scratch5) (Memref.isWhole_whole _) (Memref.whole cc0_scratch6) (Memref.isWhole_whole _) (Memref.whole
    cc0_scratch7) (Memref.isWhole_whole _) (Memref.whole cc0_scratch8) (Memref.isWhole_whole _) (Memref.whole cc0_scratch9)
    (Memref.isWhole_whole _) (Memref.whole cc0_scratch10) (Memref.isWhole_whole _) (Memref.whole cc0_scratch11) (Memref.isWhole_whole _)
    (Memref.whole cc0_scratch12) (Memref.isWhole_whole _) (Memref.whole cc0_scratch13) (Memref.isWhole_whole _) (Memref.whole
    cc0_scratch14) (Memref.isWhole_whole _) (Memref.whole cc0_scratch15) (Memref.isWhole_whole _) (Memref.whole cc0_scratch16)
    (Memref.isWhole_whole _) (Memref.whole cc0_scratch17) (Memref.isWhole_whole _) (Memref.whole cc0_scratch18) (Memref.isWhole_whole _)
    (Memref.whole cc0_scratch19) (Memref.isWhole_whole _) (Memref.whole cc0_scratch20) (Memref.isWhole_whole _) (Memref.whole
    cc0_scratch21) (Memref.isWhole_whole _) sm rs h1 z a b c

set_option maxHeartbeats 1000000 in
theorem t2_step (a : BitVec 32) (b c : IVec S16 32) (D : Items F) (hd : ∀ j, cl D.cl j < 96) (σ₀ : H F)
    (hG : Given D σ₀) (hR : Ranks D.cl σ₀)
    (t : Fin k0_t2_loop.trips) (σ : H F) (hI : I2 D σ₀ t σ) :
    pwp scr (t2B i sm rs h1 (iota .scVector S16 32 [0] (by decide)) a b c t ()) (fun _ => I2 D σ₀ (t + 1)) σ := by
  have ht : t.val < 64 := Nat.lt_of_lt_of_le t.isLt k0_t2_abs.2.1
  have E : ∀ b : Ref sig .scVector, b ≠ cc0_scratch9 → b ≠ cc0_scratch10 → b ≠ cc0_scratch11 → b ≠ cc0_scratch12 → b ≠ cc0_scratch13 →
    b ≠ cc0_scratch14 → b ≠ cc0_scratch15 → b ≠ cc0_scratch18 → σ b = σ₀ b := hI.keep
  unfold t2B k0_t2_body
  refine step_load _ ?hB ?_; case hB => exact mem_scr _ rfl
  generalize hv : (Memref.whole cc0_scratch6 : Memref sig _ _ _ _).view.readAt (Elt F) _ _ = v
  change IVec S16 32 at v
  have hvx : ∀ x : Fin 16, v (ix1 x) = cw D.cl (16 * t + x) := by
    intro x
    rw [← hv, ← hR.cls t ht x, ← E cc0_scratch6 (by decide) (by decide) (by decide) (by decide) (by decide) (by decide) (by decide) (by decide)]
    exact rd_at cc0_scratch6 _ _ _ (σ cc0_scratch6) (ix1 x) (at16 t ht x) (lane_off _ (k0_off3_eq t) x _ rfl)
  have hvn : ∀ x : Fin 16, (v (ix1 x)).toNat = cl D.cl (16 * t + x) := fun x => congrArg BitVec.toNat (hvx x)
  have hv96 : ∀ x, (v x).toNat < 96 := fun x => ((congrArg (fun y => (v y).toNat) (eq_ix1 x)).trans (hvn (x 0))).trans_lt (hd _)
  refine step_assume _ ⟨fun _ a x => ?_, fun _ a x => ?_⟩ ?_
  · match a with | ⟨0, _⟩ => exact hv96 x
  · match a with | ⟨0, _⟩ => exact hv96 x
  refine step_load _ ?hB ?_; case hB => exact mem_scr _ rfl
  generalize hr : (Memref.whole cc0_scratch7 : Memref sig _ _ _ _).view.readAt (Elt F) _ _ = r
  change IVec S16 32 at r
  have hrx : ∀ x : Fin 16, r (ix1 x) = BitVec.ofNat 32 (Nat.count (fun y => cl D.cl (16 * t + y) = cl D.cl (16 * t + x)) x) := by
    intro x
    rw [← hr, ← hR.rnk t ht x, ← E cc0_scratch7 (by decide) (by decide) (by decide) (by decide) (by decide) (by decide) (by decide) (by decide)]
    exact rd_at cc0_scratch7 _ _ _ (σ cc0_scratch7) (ix1 x) (at16 t ht x) (lane_off _ (k0_off3_eq t) x _ rfl)
  refine step_load _ ?hB ?_; case hB => exact mem_scr _ rfl
  generalize hl : (Memref.whole cc0_scratch8 : Memref sig _ _ _ _).view.readAt (Elt F) _ _ = l
  change IVec S16 32 at l
  have hlx : ∀ x : Fin 16, (l (ix1 x) = 1#32 ↔ ∀ y, x.val < y → y < 16 → cl D.cl (16 * t + y) ≠ cl D.cl (16 * t + x)) := by
    intro x
    rw [← hl, ← hR.lst t ht x, ← E cc0_scratch8 (by decide) (by decide) (by decide) (by decide) (by decide) (by decide) (by decide) (by decide)]
    exact iff_of_eq (congrArg (fun w : BitVec 32 => w = 1#32)
      (rd_at cc0_scratch8 _ _ _ (σ cc0_scratch8) (ix1 x) (at16 t ht x) (lane_off _ (k0_off3_eq t) x _ rfl)))
  refine step_loadIdx _ ?hB ?_; case hB => exact mem_scr _ rfl
  generalize hp : addi _ _ = p
  have hpx : ∀ x : Fin 16, (p (ix1 x)).toNat = pos (cl D.cl) 1024 (16 * t + x) := by
    intro x
    have hc : cl D.cl (16 * t + x) < 96 := hd _
    have e1 : p (ix1 x) = BitVec.add (σ cc0_scratch18 (ix1 ⟨cl D.cl (16 * t + x), hc⟩)) (r (ix1 x)) := by
      rw [← hp]
      refine congrArg (fun w => BitVec.add w (r (ix1 x))) (gat cc0_scratch18 (σ cc0_scratch18) _ _ (ix1 x) _ fun a => ?_)
      match a with | ⟨0, _⟩ => exact (hvn x).symm
    rw [e1, hI.wb, hrx]
    show (BitVec.ofNat 32 _ + BitVec.ofNat 32 _).toNat = _
    rw [← BitVec.ofNat_add, BitVec.toNat_ofNat]
    have e2 : base (cl D.cl) 1024 (cl D.cl (16 * t + x)) + cnt (cl D.cl) (16 * t) (cl D.cl (16 * t + x))
        + Nat.count (fun y => cl D.cl (16 * t + y) = cl D.cl (16 * t + x)) x = pos (cl D.cl) 1024 (16 * t + x) := by
      unfold pos
      rw [cnt_add, add_assoc]
    rw [show (⟨cl D.cl (16 * t + x), hc⟩ : Fin 96).val = cl D.cl (16 * t + x) from rfl, e2]
    exact Nat.mod_eq_of_lt ((pos_lt (cl D.cl) (show 16 * t.val + x.val < 1024 by omega)).trans (by norm_num))
  have hp1024 : ∀ x, (p x).toNat < 1024 := fun x => ((congrArg (fun y => (p y).toNat) (eq_ix1 x)).trans (hpx (x 0))).trans_lt
    (pos_lt _ (by have h : (x 0).val < 16 := (x 0).isLt; omega))
  have hp' : ∀ (a : Fin 1) x, ((![p] : Fin 1 → IVec S16 32) a x).toNat < S1024.size a := by
    intro a x
    match a with | ⟨0, _⟩ => exact hp1024 x
  refine step_assume _ ⟨fun _ => hp', fun _ => hp', fun _ => hp', fun _ => hp', fun _ => hp', fun _ => hp', fun _ => hp'⟩ ?_
  refine step_load _ ?hB ?_; case hB => exact mem_scr _ rfl
  refine step_storeIdx _ ?hB fun σ1 (f1 : ∀ b, b ≠ cc0_scratch9 → σ1 b = σ b) e1 => ?_; case hB => exact mem_scr _ rfl
  refine step_load _ ?hB ?_; case hB => exact mem_scr _ rfl
  refine step_storeIdx _ ?hB fun σ2 (f2 : ∀ b, b ≠ cc0_scratch10 → σ2 b = σ1 b) e2 => ?_; case hB => exact mem_scr _ rfl
  refine step_load _ ?hB ?_; case hB => exact mem_scr _ rfl
  refine step_storeIdx _ ?hB fun σ3 (f3 : ∀ b, b ≠ cc0_scratch11 → σ3 b = σ2 b) e3 => ?_; case hB => exact mem_scr _ rfl
  refine step_load _ ?hB ?_; case hB => exact mem_scr _ rfl
  refine step_storeIdx _ ?hB fun σ4 (f4 : ∀ b, b ≠ cc0_scratch12 → σ4 b = σ3 b) e4 => ?_; case hB => exact mem_scr _ rfl
  refine step_load _ ?hB ?_; case hB => exact mem_scr _ rfl
  refine step_storeIdx _ ?hB fun σ5 (f5 : ∀ b, b ≠ cc0_scratch13 → σ5 b = σ4 b) e5 => ?_; case hB => exact mem_scr _ rfl
  refine step_load _ ?hB ?_; case hB => exact mem_scr _ rfl
  refine step_storeIdx _ ?hB fun σ6 (f6 : ∀ b, b ≠ cc0_scratch14 → σ6 b = σ5 b) e6 => ?_; case hB => exact mem_scr _ rfl
  refine step_storeIdx _ ?hB fun σ7 (f7 : ∀ b, b ≠ cc0_scratch15 → σ7 b = σ6 b) e7 => ?_; case hB => exact mem_scr _ rfl
  refine step_storeIdx _ ?hB fun σ8 (f8 : ∀ b, b ≠ cc0_scratch18 → σ8 b = σ7 b) e8 => ?_; case hB => exact mem_scr _ rfl
  refine step_pure _ ?_
  have a1 : ∀ b, b ≠ cc0_scratch9 → σ1 b = σ b := f1
  have a2 : ∀ b, b ≠ cc0_scratch9 → b ≠ cc0_scratch10 → σ2 b = σ b := fun b h9 h10 => (f2 b h10).trans (a1 b h9)
  have a3 : ∀ b, b ≠ cc0_scratch9 → b ≠ cc0_scratch10 → b ≠ cc0_scratch11 → σ3 b = σ b :=
    fun b h9 h10 h11 => (f3 b h11).trans (a2 b h9 h10)
  have a4 : ∀ b, b ≠ cc0_scratch9 → b ≠ cc0_scratch10 → b ≠ cc0_scratch11 → b ≠ cc0_scratch12 → σ4 b = σ b :=
    fun b h9 h10 h11 h12 => (f4 b h12).trans (a3 b h9 h10 h11)
  have a5 : ∀ b, b ≠ cc0_scratch9 → b ≠ cc0_scratch10 → b ≠ cc0_scratch11 → b ≠ cc0_scratch12 → b ≠ cc0_scratch13 → σ5 b = σ b :=
    fun b h9 h10 h11 h12 h13 => (f5 b h13).trans (a4 b h9 h10 h11 h12)
  have a6 : ∀ b, b ≠ cc0_scratch9 → b ≠ cc0_scratch10 → b ≠ cc0_scratch11 → b ≠ cc0_scratch12 → b ≠ cc0_scratch13 →
      b ≠ cc0_scratch14 → σ6 b = σ b :=
    fun b h9 h10 h11 h12 h13 h14 => (f6 b h14).trans (a5 b h9 h10 h11 h12 h13)
  have a7 : ∀ b, b ≠ cc0_scratch9 → b ≠ cc0_scratch10 → b ≠ cc0_scratch11 → b ≠ cc0_scratch12 → b ≠ cc0_scratch13 →
      b ≠ cc0_scratch14 → b ≠ cc0_scratch15 → σ7 b = σ b :=
    fun b h9 h10 h11 h12 h13 h14 h15 => (f7 b h15).trans (a6 b h9 h10 h11 h12 h13 h14)
  have g0 : σ cc0_scratch0 = D.sc := (E _ (by decide) (by decide) (by decide) (by decide) (by decide) (by decide) (by decide) (by decide)).trans hG.e0
  have g1 : σ1 cc0_scratch1 = D.y1 := (a1 _ (by decide)).trans
    ((E _ (by decide) (by decide) (by decide) (by decide) (by decide) (by decide) (by decide) (by decide)).trans hG.e1)
  have g2 : σ2 cc0_scratch2 = D.x1 := (a2 _ (by decide) (by decide)).trans
    ((E _ (by decide) (by decide) (by decide) (by decide) (by decide) (by decide) (by decide) (by decide)).trans hG.e2)
  have g3 : σ3 cc0_scratch3 = D.y2 := (a3 _ (by decide) (by decide) (by decide)).trans
    ((E _ (by decide) (by decide) (by decide) (by decide) (by decide) (by decide) (by decide) (by decide)).trans hG.e3)
  have g4 : σ4 cc0_scratch4 = D.x2 := (a4 _ (by decide) (by decide) (by decide) (by decide)).trans
    ((E _ (by decide) (by decide) (by decide) (by decide) (by decide) (by decide) (by decide) (by decide)).trans hG.e4)
  have g5 : σ5 cc0_scratch5 = D.cl := (a5 _ (by decide) (by decide) (by decide) (by decide) (by decide)).trans
    ((E _ (by decide) (by decide) (by decide) (by decide) (by decide) (by decide) (by decide) (by decide)).trans hG.e5)
  refine ⟨?_, ?_, ?_, ?_, ?_, ?_, ?_, ?_, ?_⟩
  · intro b h9 h10 h11 h12 h13 h14 h15 h18
    rw [f8 b h18, a7 b h9 h10 h11 h12 h13 h14 h15]
    exact hI.keep b h9 h10 h11 h12 h13 h14 h15 h18
  · rw [f8 _ (by decide), f7 _ (by decide), f6 _ (by decide), f5 _ (by decide), f4 _ (by decide), f3 _ (by decide), f2 _ (by decide),
      show σ1 cc0_scratch9 = _ from e1.trans (whole_storeIdx cc0_scratch9 _ _ _ _ _ _)]
    refine scat _ t ht (σ cc0_scratch9) D.sc p hpx _ (fun x => ?_) _ hI.p9
    rw [← g0]
    exact rd_at cc0_scratch0 _ _ _ (σ cc0_scratch0) (ix1 x) (at16 t ht x) (lane_off _ (k0_off4_eq t) x _ rfl)
  · rw [f8 _ (by decide), f7 _ (by decide), f6 _ (by decide), f5 _ (by decide), f4 _ (by decide), f3 _ (by decide),
      show σ2 cc0_scratch10 = _ from e2.trans (whole_storeIdx cc0_scratch10 _ _ _ _ _ _)]
    refine scat _ t ht (σ1 cc0_scratch10) D.y1 p hpx _ (fun x => ?_) _ (by rw [a1 _ (by decide)]; exact hI.p10)
    rw [← g1]
    exact rd_at cc0_scratch1 _ _ _ (σ1 cc0_scratch1) (ix1 x) (at16 t ht x) (lane_off _ (k0_off5_eq t) x _ rfl)
  · rw [f8 _ (by decide), f7 _ (by decide), f6 _ (by decide), f5 _ (by decide), f4 _ (by decide),
      show σ3 cc0_scratch11 = _ from e3.trans (whole_storeIdx cc0_scratch11 _ _ _ _ _ _)]
    refine scat _ t ht (σ2 cc0_scratch11) D.x1 p hpx _ (fun x => ?_) _ (by rw [a2 _ (by decide) (by decide)]; exact hI.p11)
    rw [← g2]
    exact rd_at cc0_scratch2 _ _ _ (σ2 cc0_scratch2) (ix1 x) (at16 t ht x) (lane_off _ (k0_off5_eq t) x _ rfl)
  · rw [f8 _ (by decide), f7 _ (by decide), f6 _ (by decide), f5 _ (by decide),
      show σ4 cc0_scratch12 = _ from e4.trans (whole_storeIdx cc0_scratch12 _ _ _ _ _ _)]
    refine scat _ t ht (σ3 cc0_scratch12) D.y2 p hpx _ (fun x => ?_) _ (by rw [a3 _ (by decide) (by decide) (by decide)]; exact hI.p12)
    rw [← g3]
    exact rd_at cc0_scratch3 _ _ _ (σ3 cc0_scratch3) (ix1 x) (at16 t ht x) (lane_off _ (k0_off5_eq t) x _ rfl)
  · rw [f8 _ (by decide), f7 _ (by decide), f6 _ (by decide),
      show σ5 cc0_scratch13 = _ from e5.trans (whole_storeIdx cc0_scratch13 _ _ _ _ _ _)]
    refine scat _ t ht (σ4 cc0_scratch13) D.x2 p hpx _ (fun x => ?_) _ (by rw [a4 _ (by decide) (by decide) (by decide) (by decide)]; exact hI.p13)
    rw [← g4]
    exact rd_at cc0_scratch4 _ _ _ (σ4 cc0_scratch4) (ix1 x) (at16 t ht x) (lane_off _ (k0_off5_eq t) x _ rfl)
  · rw [f8 _ (by decide), f7 _ (by decide),
      show σ6 cc0_scratch14 = _ from e6.trans (whole_storeIdx cc0_scratch14 _ _ _ _ _ _)]
    refine scat _ t ht (σ5 cc0_scratch14) D.cl p hpx _ (fun x => ?_) _
      (by rw [a5 _ (by decide) (by decide) (by decide) (by decide) (by decide)]; exact hI.p14)
    rw [← g5]
    exact rd_at cc0_scratch5 _ _ _ (σ5 cc0_scratch5) (ix1 x) (at16 t ht x) (lane_off _ (k0_off5_eq t) x _ rfl)
  · rw [f8 _ (by decide),
      show σ7 cc0_scratch15 = _ from e7.trans (whole_storeIdx cc0_scratch15 _ _ _ _ _ _)]
    refine scat (F := F) (e := .i32) _ t ht (σ6 cc0_scratch15) numW p hpx _ (fun x => ?_) _
      (by rw [a6 _ (by decide) (by decide) (by decide) (by decide) (by decide) (by decide)]; exact hI.p15)
    show Scalar.muli (Scf.iv 0#32 1#32 t) 16#32 + BitVec.ofNat 32 _ = BitVec.ofNat 32 (16 * t.val + x.val)
    have hm : Scalar.muli (Scf.iv 0#32 1#32 t) 16#32 = BitVec.ofNat 32 (16 * t.val) := by
      show (0#32 + BitVec.ofNat 32 t.val * 1#32) * 16#32 = _
      rw [BitVec.zero_add, BitVec.mul_one, mul_comm 16]
      exact (BitVec.ofNat_mul _ _).symm
    rw [hm, ← BitVec.ofNat_add]
    congr 1
    show _ + (0 * 16 + x.val) = _
    omega
  · intro c
    have hinj : ∀ k k' : Fin 16, k0_pay123 (F := F) l (ix1 k) = 1 → k0_pay123 (F := F) l (ix1 k') = 1 →
        (![v] : Fin 1 → IVec S16 32) 0 (ix1 k) = (![v] : Fin 1 → IVec S16 32) 0 (ix1 k') → k = k' := by
      intro k k' hk hk' hv
      have hv' : cl D.cl (16 * t + k) = cl D.cl (16 * t + k') := by
        rw [← hvn, ← hvn]; exact congrArg BitVec.toNat hv
      have hone : ∀ x : Fin 16, k0_pay123 (F := F) l (ix1 x) = 1 → l (ix1 x) = 1#32 := by
        intro x h
        by_contra hne
        have : k0_pay123 (F := F) l (ix1 x) = 0#1 := by
          show BitVec.ofBool (l (ix1 x) == 1#32) = 0#1
          rw [beq_eq_false_iff_ne.2 hne]; rfl
        rw [this] at h
        exact absurd h (by decide)
      have h1 := (hlx k).1 (hone k hk)
      have h2 := (hlx k').1 (hone k' hk')
      rcases lt_trichotomy k.val k'.val with h | h | h
      · exact absurd hv'.symm (h1 _ h k'.isLt)
      · exact Fin.ext h
      · exact absurd hv' (h2 _ h k.isLt)
    have hold : σ7 cc0_scratch18 (ix1 c) = BitVec.ofNat 32 (base (cl D.cl) 1024 c + cnt (cl D.cl) (16 * t) c) := by
      rw [a7 _ (by decide) (by decide) (by decide) (by decide) (by decide) (by decide) (by decide)]
      exact hI.wb c
    have e8' : σ8 cc0_scratch18 = storeIdx (σ7 cc0_scratch18) ![v] (k0_pay125 (F := F) r) (k0_pay123 (F := F) l) true _ :=
      e8.trans (whole_storeIdx cc0_scratch18 _ _ _ _ _ _)
    rw [e8', show 16 * (t.val + 1) = 16 * t.val + 16 by omega, cnt_add, ← add_assoc]
    by_cases hex : ∃ y, y < 16 ∧ cl D.cl (16 * t + y) = c.val
    · obtain ⟨k, hk, hkc, hkl⟩ := exists_last (fun y => cl D.cl (16 * t + y)) c.val 16 hex
      have hset : k0_pay123 (F := F) l (ix1 ⟨k, hk⟩) = 1 := by
        show BitVec.ofBool (l (ix1 ⟨k, hk⟩) == 1#32) = 1
        rw [(hlx ⟨k, hk⟩).2 fun y h1 h2 => fun h => hkl y h1 h2 (h.trans hkc)]
        rfl
      rw [storeIdx_hit _ _ _ _ _ _ hinj _ ⟨k, hk⟩ hset ((hvn ⟨k, hk⟩).trans hkc)]
      rw [if_pos rfl, BitVec.ofNat_add (_ + _)]
      refine congrArg₂ (fun a b : BitVec 32 => a + b) hold ?_
      show r (ix1 ⟨k, hk⟩) + 1#32 = _
      rw [hrx, ← BitVec.ofNat_add]
      congr 1
      rw [count_last (fun y => cl D.cl (16 * t + y)) c.val k 16 hk hkl, Nat.count_succ, if_pos hkc]
      show Nat.count (fun y => cl D.cl (16 * t + y) = cl D.cl (16 * t + k)) k + 1 = _
      simp only [show cl D.cl (16 * t + k) = c.val from hkc]
    · rw [storeIdx_miss _ _ _ _ _ _ hinj (ix1 c) (fun k _ hkc => hex ⟨k.val, k.isLt, (hvn k).symm.trans (show (v (ix1 k)).toNat = c.val from hkc)⟩), hold,
        count_none (fun y => cl D.cl (16 * t + y)) c.val 16 (fun y h1 h2 => hex ⟨y, h1, h2⟩)]
      rfl

end Cert.Proof.Sort
-- ==== Proof.Sort4.lean ====
/-
  The counting sort of one subcore, ended: the arrays in class order, and the tables of each chunk's maximum.
-/
module

public import proofs.«01_k».proof.Proof.Sort3

@[expose] public section

noncomputable section

namespace Cert.Proof.Sort

open Cert.KernelIdeal Cert.KernelIdeal.Gen
open Idealize.ShloMosaic Idealize.ShloMosaic.ValueIdx Idealize.SL.Sem
open Cert.Proof.Pwp Cert.Proof.Lanes Cert.Proof.Counting

variable {F : FTy → Type} [FloatOps F]
variable (i : grid0.Coords) (sm rs : DmaSems sig S_) (h1 : k0_cond1 i = 1#1)

/-! ## The arrays in class order -/

/-- The item that stands at place `p`. -/
def item (c : ℕ → ℕ) (p : S1024.Idx) : S1024.Idx :=
  ix1 ⟨(pos_surj c (p 0).isLt).choose, (pos_surj c (p 0).isLt).choose_spec.1⟩

theorem pos_item (c : ℕ → ℕ) (p : S1024.Idx) : pos c 1024 ((item c p) 0).val = (p 0).val :=
  (pos_surj c (p 0).isLt).choose_spec.2

theorem put_all {V : Type} (c : ℕ → ℕ) (f T : S1024.Idx → V) (h : Put c 64 f T) : f = fun p => T (item c p) := by
  funext p
  exact h (item c p) p ((item c p) 0).isLt (pos_item c p).symm

/-- The six arrays in class order. -/
def srt (D : Items F) : Items F where
  sc p := D.sc (item (cl D.cl) p)
  y1 p := D.y1 (item (cl D.cl) p)
  x1 p := D.x1 (item (cl D.cl) p)
  y2 p := D.y2 (item (cl D.cl) p)
  x2 p := D.x2 (item (cl D.cl) p)
  cl p := D.cl (item (cl D.cl) p)

/-- The items' numbers in class order. -/
def nbr (D : Items F) (p : S1024.Idx) : BitVec 32 := numW (item (cl D.cl) p)

/-- Chunk `q` of an array. -/
def chk {V : Type} (f : S1024.Idx → V) (q : ℕ) (x : S16.Idx) : V := f (ix1 ⟨(16 * q + (x 0).val) % 1024, Nat.mod_lt _ (by omega)⟩)

/-- Sixteen entries of a table. -/
def quarter {V : Type} (f : S64.Idx → V) (k : ℕ) (x : S16.Idx) : V := f (ix1 ⟨(16 * k + (x 0).val) % 64, Nat.mod_lt _ (by omega)⟩)

/-- The least number among the lanes that hold the maximum, from the lanes' candidates. -/
def tieW (v : IVec S16 32) : BitVec 32 :=
  extractAt ![15] (xori (scan .min (xori v (broadcast S16 2147483648#32))) (broadcast S16 2147483648#32)) inpos_S16_p15

/-- Each chunk's maximum. -/
def tcA (s : S1024.Idx → F .f32) (q : S64.Idx) : F .f32 := k0_pay1 (chk s (q 0).val)

/-- The least number among each chunk's maxima. -/
def ttA (s : S1024.Idx → F .f32) (nb : S1024.Idx → BitVec 32) (q : S64.Idx) : BitVec 32 :=
  tieW (k0_pay2 (chk s (q 0).val) (chk nb (q 0).val))

theorem chk_at {V : Type} (f : S1024.Idx → V) (q : ℕ) (hq : q < 64) (x : Fin 16) : chk f q (ix1 x) = f (at16 q hq x) := by
  unfold chk
  refine congrArg f (funext fun a => ?_)
  match a with
  | ⟨0, _⟩ => exact Fin.ext (Nat.mod_eq_of_lt (show 16 * q + x.val < 1024 by omega))

theorem chk_ext {V : Type} (f : S1024.Idx → V) (q : ℕ) (hq : q < 64) (v : S16.Idx → V) (hv : ∀ x : Fin 16, v (ix1 x) = f (at16 q hq x)) :
    v = chk f q := by
  funext x
  exact (congrArg v (eq_ix1 x)).trans ((hv _).trans ((chk_at f q hq _).symm.trans (congrArg (chk f q) (eq_ix1 x).symm)))

theorem quarter_ext {V : Type} (f : S64.Idx → V) (k : ℕ) (hk : k < 4) (v : S16.Idx → V)
    (hv : ∀ x : Fin 16, v (ix1 x) = f (ix1 ⟨16 * k + x.val, by omega⟩)) : v = quarter f k := by
  funext x
  refine (congrArg v (eq_ix1 x)).trans ((hv _).trans (congrArg f (funext fun a => ?_)))
  match a with
  | ⟨0, _⟩ => exact Fin.ext (Nat.mod_eq_of_lt (show 16 * k + (x 0).val < 64 by have h : (x 0).val < 16 := (x 0).isLt; omega)).symm

/-- What the main loop finds: the arrays in class order, the counts and the bases. -/
structure Ready (D : Items F) (σ : H F) : Prop where
  e9 : σ cc0_scratch9 = (srt D).sc
  e10 : σ cc0_scratch10 = (srt D).y1
  e11 : σ cc0_scratch11 = (srt D).x1
  e12 : σ cc0_scratch12 = (srt D).y2
  e13 : σ cc0_scratch13 = (srt D).x2
  e14 : σ cc0_scratch14 = (srt D).cl
  e15 : σ cc0_scratch15 = nbr D
  cn : ∀ c : Fin 96, σ cc0_scratch16 (ix1 c) = BitVec.ofNat 32 (cnt (cl D.cl) 1024 c)
  bs : ∀ c : Fin 96, σ cc0_scratch17 (ix1 c) = BitVec.ofNat 32 (base (cl D.cl) 1024 c)

theorem Ready.of_frame {D : Items F} {σ σ' : H F} (h : Ready D σ) (k : ∀ b, b ≠ cc0_scratch19 → b ≠ cc0_scratch20 → σ' b = σ b) :
    Ready D σ' where
  e9 := (k _ (by decide) (by decide)).trans h.e9
  e10 := (k _ (by decide) (by decide)).trans h.e10
  e11 := (k _ (by decide) (by decide)).trans h.e11
  e12 := (k _ (by decide) (by decide)).trans h.e12
  e13 := (k _ (by decide) (by decide)).trans h.e13
  e14 := (k _ (by decide) (by decide)).trans h.e14
  e15 := (k _ (by decide) (by decide)).trans h.e15
  cn c := (congrFun (k cc0_scratch16 (by decide) (by decide)) _).trans (h.cn c)
  bs c := (congrFun (k cc0_scratch17 (by decide) (by decide)) _).trans (h.bs c)

/-! ## The tables -/

/-- The pass that makes the tables, at the subcore's own buffers. -/
abbrev t3B (z : IVec S16 32) (a : BitVec 32) (b c : IVec S16 32) :
    Fin k0_t3_loop.trips → Unit → Prog (TpuEff nD τ sig (Elt F) Λ₀ (pr i)) Unit :=
  k0_t3_body (F := F) i
    (Memref.whole main_v2_scv) (Memref.isWhole_whole _) (Memref.whole main_v7_scv) (Memref.isWhole_whole _) (Memref.whole main_v12_scv)
    (Memref.isWhole_whole _) (Memref.whole main_v17_scv) (Memref.isWhole_whole _) (Memref.whole main_v22_scv) (Memref.isWhole_whole _)
    (Memref.whole main_v26_scv) (Memref.isWhole_whole _) (Memref.whole main_v27_scv) (Memref.isWhole_whole _) (Memref.whole
    cc0_scratch0) (Memref.isWhole_whole _) (Memref.whole cc0_scratch1) (Memref.isWhole_whole _) (Memref.whole cc0_scratch2)
    (Memref.isWhole_whole _) (Memref.whole cc0_scratch3) (Memref.isWhole_whole _) (Memref.whole cc0_scratch4) (Memref.isWhole_whole _)
    (Memref.whole cc0_scratch5) (Memref.isWhole_whole _) (Memref.whole cc0_scratch6) (Memref.isWhole_whole _) (Memref.whole
    cc0_scratch7) (Memref.isWhole_whole _) (Memref.whole cc0_scratch8) (Memref.isWhole_whole _) (Memref.whole cc0_scratch9)
    (Memref.isWhole_whole _) (Memref.whole cc0_scratch10) (Memref.isWhole_whole _) (Memref.whole cc0_scratch11) (Memref.isWhole_whole _)
    (Memref.whole cc0_scratch12) (Memref.isWhole_whole _) (Memref.whole cc0_scratch13) (Memref.isWhole_whole _) (Memref.whole
    cc0_scratch14) (Memref.isWhole_whole _) (Memref.whole cc0_scratch15) (Memref.isWhole_whole _) (Memref.whole cc0_scratch16)
    (Memref.isWhole_whole _) (Memref.whole cc0_scratch17) (Memref.isWhole_whole _) (Memref.whole cc0_scratch18) (Memref.isWhole_whole _)
    (Memref.whole cc0_scratch19) (Memref.isWhole_whole _) (Memref.whole cc0_scratch20) (Memref.isWhole_whole _) (Memref.whole
    cc0_scratch21) (Memref.isWhole_whole _) sm rs h1 z a b c

theorem trips2 : k0_t2_loop.trips = 64 := by decide +kernel
theorem trips3 : k0_t3_loop.trips = 64 := by decide +kernel

/-- A word stored by the first lane alone. -/
theorem store1 {n : ℕ} {e : EltTy} (f : Vec F ⟨1, ![n]⟩ e) (w : IVec S16 32) (v : Vec F S16 e) (m : IVec S16 1) (h)
    (hm : ∀ x : Fin 16, m (ix1 x) = 1 ↔ x = 0) (g : Fin n) (hw : (w (ix1 0)).toNat = g.val) (j : (⟨1, ![n]⟩ : Shape).Idx) :
    storeIdx (F := F) f ![w] v m false h j = if (j 0).val = g.val then v (ix1 0) else f j := by
  have hinj : ∀ k k' : Fin 16, m (ix1 k) = 1 → m (ix1 k') = 1 →
      (![w] : Fin 1 → IVec S16 32) 0 (ix1 k) = (![w] : Fin 1 → IVec S16 32) 0 (ix1 k') → k = k' := by
    intro k k' hk hk' _
    rw [(hm k).1 hk, (hm k').1 hk']
  by_cases hj : (j 0).val = g.val
  · rw [if_pos hj, storeIdx_hit f ![w] v m false h hinj j 0 ((hm 0).2 rfl) (hw.trans hj.symm)]
    rfl
  · rw [if_neg hj, storeIdx_miss f ![w] v m false h hinj j]
    intro k hk hkj
    rw [(hm k).1 hk] at hkj
    exact hj (hkj.symm.trans hw)

theorem lane0 : ∀ x : Fin 16, k0_pay126 (iota .scVector S16 32 [0] (by decide)) (ix1 x) = 1 ↔ x = 0 := by
  have h : ∀ x : Fin 16, BitVec.ofBool (BitVec.ofNat 32 (0 * 16 + x.val) == 0#32) = 1#1 ↔ x = 0 := by decide
  exact h

/-- What holds after `t` chunks of the tables' pass. -/
structure I3 (D : Items F) (σ₀ : H F) (t : ℕ) (σ : H F) : Prop where
  keep : ∀ b, b ≠ cc0_scratch19 → b ≠ cc0_scratch20 → σ b = σ₀ b
  c : ∀ q : S64.Idx, (q 0).val < t → σ cc0_scratch19 q = tcA (srt D).sc q
  t : ∀ q : S64.Idx, (q 0).val < t → σ cc0_scratch20 q = ttA (srt D).sc (nbr D) q

set_option maxHeartbeats 1000000 in
theorem t3_step (a : BitVec 32) (b c : IVec S16 32) (D : Items F) (σ₀ : H F) (hR : Ready D σ₀)
    (t : Fin k0_t3_loop.trips) (σ : H F) (hI : I3 D σ₀ t σ) :
    pwp scr (t3B i sm rs h1 (iota .scVector S16 32 [0] (by decide)) a b c t ()) (fun _ => I3 D σ₀ (t + 1)) σ := by
  have ht : t.val < 64 := Nat.lt_of_lt_of_le t.isLt k0_t3_abs.2.1
  have hRσ := hR.of_frame hI.keep
  have hiv : (Scf.iv 0#32 1#32 t : BitVec 32).toNat = t.val := by
    show (0#32 + BitVec.ofNat 32 t.val * 1#32).toNat = _
    rw [BitVec.zero_add, BitVec.mul_one, BitVec.toNat_ofNat]
    exact Nat.mod_eq_of_lt (ht.trans (by norm_num))
  unfold t3B k0_t3_body
  refine pwp_seq (p := pr i) scr (R := fun r (σ' : H F) => σ' = σ ∧ r.1 = Scf.iv 0#32 1#32 t ∧ r.2.1 = k0_pay1 (chk (srt D).sc t) ∧
    r.2.2.1 = k0_pay2 (chk (srt D).sc t) (chk (nbr D) t)) ?_ fun r σ' ⟨h0, h2, h3, h4⟩ => ?_
  · rw [k0_part1_eq_skeleton]
    unfold k0_part1_skel
    refine step_load _ ?hB ?_; case hB => exact mem_scr _ rfl
    refine step_load _ ?hB ?_; case hB => exact mem_scr _ rfl
    refine step_pure _ ⟨rfl, rfl, ?_, ?_⟩
    · refine congrArg k0_pay1 (chk_ext _ _ ht _ fun x => ?_)
      rw [← hRσ.e9]
      exact rd_at cc0_scratch9 _ _ _ (σ cc0_scratch9) (ix1 x) (at16 t ht x) (lane_off _ (k0_off6_eq t) x _ rfl)
    · refine congrArg₂ k0_pay2 (chk_ext _ _ ht _ fun x => ?_) (chk_ext _ _ ht _ fun x => ?_)
      · rw [← hRσ.e9]
        exact rd_at cc0_scratch9 _ _ _ (σ cc0_scratch9) (ix1 x) (at16 t ht x) (lane_off _ (k0_off6_eq t) x _ rfl)
      · rw [← hRσ.e15]
        exact rd_at cc0_scratch15 _ _ _ (σ cc0_scratch15) (ix1 x) (at16 t ht x) (lane_off _ (k0_off6_eq t) x _ rfl)
  obtain ⟨r1, r2, r3, r4⟩ := r
  subst h0 h2 h3 h4
  have hp' : ∀ (a : Fin 1) x, ((![broadcast S16 (Scf.iv 0#32 1#32 t)] : Fin 1 → IVec S16 32) a x).toNat < S64.size a := by
    intro a x
    match a with | ⟨0, _⟩ => exact hiv.trans_lt ht
  refine step_assume _ ⟨fun _ => hp', fun _ => hp'⟩ ?_
  refine step_storeIdx _ ?hB fun σ1 (f1 : ∀ b, b ≠ cc0_scratch19 → σ1 b = σ' b) e1 => ?_; case hB => exact mem_scr _ rfl
  refine step_storeIdx _ ?hB fun σ2 (f2 : ∀ b, b ≠ cc0_scratch20 → σ2 b = σ1 b) e2 => ?_; case hB => exact mem_scr _ rfl
  refine step_pure _ ⟨?_, ?_, ?_⟩
  · intro b h19 h20
    exact ((f2 b h20).trans (f1 b h19)).trans (hI.keep b h19 h20)
  · intro q hq
    rw [f2 _ (by decide), e1.trans (whole_storeIdx cc0_scratch19 _ _ _ _ _ _)]
    refine (store1 (F := F) (e := .f32) (n := 64) (σ' cc0_scratch19) _ _ _ _ lane0 ⟨t.val, ht⟩ hiv q).trans ?_
    by_cases hqt : (q 0).val = t.val
    · rw [if_pos hqt]
      unfold tcA
      rw [hqt]
      rfl
    · rw [if_neg hqt]
      exact hI.c q (by omega)
  · intro q hq
    rw [e2.trans (whole_storeIdx cc0_scratch20 _ _ _ _ _ _)]
    refine (store1 (F := F) (e := .i32) (n := 64) (σ1 cc0_scratch20) _ _ _ _ lane0 ⟨t.val, ht⟩ hiv q).trans ?_
    by_cases hqt : (q 0).val = t.val
    · rw [if_pos hqt]
      unfold ttA
      rw [hqt]
      rfl
    · rw [if_neg hqt, f1 _ (by decide)]
      exact hI.t q (by omega)

/-- Reading sixteen entries of a table. -/
theorem rd_tab19 (σ : H F) (T : S64.Idx → F .f32) (h : σ cc0_scratch19 = T) (k n : ℕ) (hk : k < 4) (hn : n = 16 * k)
    (inb : ∀ a, (![n] : Fin 1 → ℕ) a + S16.size a ≤ S64.size a) :
    (Memref.whole cc0_scratch19 : Memref sig _ _ _ _).view.readAt (Elt F) (Rect.unit (s := S64) ![n] S16.size inb).toLoadRect
      (σ cc0_scratch19) = quarter T k := by
  subst h hn
  exact quarter_ext _ k hk _ fun x => rd_at cc0_scratch19 _ _ _ (σ cc0_scratch19) (ix1 x) (ix1 ⟨16 * k + x.val, by omega⟩) (lane_off _ rfl x _ rfl)

theorem rd_tab20 (σ : H F) (T : S64.Idx → BitVec 32) (h : σ cc0_scratch20 = T) (k n : ℕ) (hk : k < 4) (hn : n = 16 * k)
    (inb : ∀ a, (![n] : Fin 1 → ℕ) a + S16.size a ≤ S64.size a) :
    (Memref.whole cc0_scratch20 : Memref sig _ _ _ _).view.readAt (Elt F) (Rect.unit (s := S64) ![n] S16.size inb).toLoadRect
      (σ cc0_scratch20) = quarter T k := by
  subst h hn
  exact quarter_ext _ k hk _ fun x => rd_at cc0_scratch20 _ _ _ (σ cc0_scratch20) (ix1 x) (ix1 ⟨16 * k + x.val, by omega⟩) (lane_off _ rfl x _ rfl)

/-- The third stretch: the last block of bases, the items moved, the tables made and read. -/
theorem part18_spec (D : Items F) (hd : ∀ j, cl D.cl j < 96) (σ₀ σ : H F) (hG : Given D σ₀) (hM : Mid D.cl σ₀ 80 σ)
    (run : BitVec 32) (hrun : run = BitVec.ofNat 32 (base (cl D.cl) 1024 64)) (v : IVec S16 32)
    (hv : ∀ x : Fin 16, v (ix1 x) = BitVec.ofNat 32 (cnt (cl D.cl) 1024 (64 + x))) :
    pwp (p := pr i) scr (k0_part18 (F := F) i
      (Memref.whole main_v2_scv) (Memref.isWhole_whole _) (Memref.whole main_v7_scv) (Memref.isWhole_whole _) (Memref.whole
      main_v12_scv) (Memref.isWhole_whole _) (Memref.whole main_v17_scv) (Memref.isWhole_whole _) (Memref.whole main_v22_scv)
      (Memref.isWhole_whole _) (Memref.whole main_v26_scv) (Memref.isWhole_whole _) (Memref.whole main_v27_scv) (Memref.isWhole_whole _)
      (Memref.whole cc0_scratch0) (Memref.isWhole_whole _) (Memref.whole cc0_scratch1) (Memref.isWhole_whole _) (Memref.whole
      cc0_scratch2) (Memref.isWhole_whole _) (Memref.whole cc0_scratch3) (Memref.isWhole_whole _) (Memref.whole cc0_scratch4)
      (Memref.isWhole_whole _) (Memref.whole cc0_scratch5) (Memref.isWhole_whole _) (Memref.whole cc0_scratch6) (Memref.isWhole_whole _)
      (Memref.whole cc0_scratch7) (Memref.isWhole_whole _) (Memref.whole cc0_scratch8) (Memref.isWhole_whole _) (Memref.whole
      cc0_scratch9) (Memref.isWhole_whole _) (Memref.whole cc0_scratch10) (Memref.isWhole_whole _) (Memref.whole cc0_scratch11)
      (Memref.isWhole_whole _) (Memref.whole cc0_scratch12) (Memref.isWhole_whole _) (Memref.whole cc0_scratch13) (Memref.isWhole_whole
      _) (Memref.whole cc0_scratch14) (Memref.isWhole_whole _) (Memref.whole cc0_scratch15) (Memref.isWhole_whole _) (Memref.whole
      cc0_scratch16) (Memref.isWhole_whole _) (Memref.whole cc0_scratch17) (Memref.isWhole_whole _) (Memref.whole cc0_scratch18)
      (Memref.isWhole_whole _) (Memref.whole cc0_scratch19) (Memref.isWhole_whole _) (Memref.whole cc0_scratch20) (Memref.isWhole_whole
      _) (Memref.whole cc0_scratch21) (Memref.isWhole_whole _) sm rs h1 (iota .scVector S16 32 [0] (by decide)) run (scan .sum v)
      (broadcast S16 2147483648#32))
      (fun r σ' => Ready D σ' ∧ r.1 = quarter (tcA (srt D).sc) 0 ∧ r.2.1 = quarter (tcA (srt D).sc) 1 ∧
        r.2.2.1 = quarter (tcA (srt D).sc) 2 ∧ r.2.2.2.1 = quarter (tcA (srt D).sc) 3 ∧
        r.2.2.2.2.1 = quarter (ttA (srt D).sc (nbr D)) 0 ∧ r.2.2.2.2.2.1 = quarter (ttA (srt D).sc (nbr D)) 1 ∧
        r.2.2.2.2.2.2.1 = quarter (ttA (srt D).sc (nbr D)) 2 ∧ r.2.2.2.2.2.2.2.1 = quarter (ttA (srt D).sc (nbr D)) 3 ∧
        r.2.2.2.2.2.2.2.2.1 = k0_pay129 r.1 r.2.1 ∧ r.2.2.2.2.2.2.2.2.2 = k0_pay130 r.2.2.1 r.2.2.2.1) σ := by
  rw [k0_part18_eq_skeleton]
  unfold k0_part18_skel
  subst hrun
  refine step_load _ ?hB ?_; case hB => exact mem_scr _ rfl
  have hv1 := co_read D.cl σ hM.co 80 (by omega) inb_S96_S16_80
  generalize (Memref.whole cc0_scratch16 : Memref sig _ _ _ _).view.readAt (Elt F) (Rect.unit (s := S96) ![80] S16.size inb_S96_S16_80).toLoadRect (σ cc0_scratch16) = v1 at hv1
  have hr1 := blkNext_eq (cl D.cl) 1024 64 le_rfl v hv
  refine block i D.cl 80 (by omega) inb_S96_S16_80 _ ?_ hM.bs fun σ1 k1 b1 => ?_
  · intro x
    have := blkPay_at (cl D.cl) 1024 80 v1 hv1 x
    rw [← hr1] at this
    exact this
  have hM1 := hM.step k1 b1
  have hG1 : Given D σ1 := by
    have K := hM1.keep
    exact ⟨(K _ (by decide) (by decide) (by decide) (by decide) (by decide) (by decide)).trans hG.e0,
      (K _ (by decide) (by decide) (by decide) (by decide) (by decide) (by decide)).trans hG.e1,
      (K _ (by decide) (by decide) (by decide) (by decide) (by decide) (by decide)).trans hG.e2,
      (K _ (by decide) (by decide) (by decide) (by decide) (by decide) (by decide)).trans hG.e3,
      (K _ (by decide) (by decide) (by decide) (by decide) (by decide) (by decide)).trans hG.e4,
      (K _ (by decide) (by decide) (by decide) (by decide) (by decide) (by decide)).trans hG.e5⟩
  refine pwp_seq (p := pr i) scr (R := fun _ (σ' : H F) => I2 D σ1 64 σ') ?_ fun _ σ2 hI => ?_
  · have := pwp_loop scr k0_t2_loop (k0_t2_ok i h1) () (t2B (F := F) i sm rs h1 (iota .scVector S16 32 [0] (by decide)) (BitVec.ofNat 32 (base (cl D.cl) 1024 64)) (scan .sum v) (broadcast S16 2147483648#32)) (fun t _ σ' => I2 D σ1 t σ')
      (fun t a σ' h => t2_step i sm rs h1 _ _ _ D hd σ1 hG1 hM1.ranks t σ' h) (σ := σ1)
      ⟨fun _ _ _ _ _ _ _ _ _ => rfl, fun _ _ h => absurd h (Nat.not_lt_zero _), fun _ _ h => absurd h (Nat.not_lt_zero _),
        fun _ _ h => absurd h (Nat.not_lt_zero _), fun _ _ h => absurd h (Nat.not_lt_zero _), fun _ _ h => absurd h (Nat.not_lt_zero _),
        fun _ _ h => absurd h (Nat.not_lt_zero _), fun _ _ h => absurd h (Nat.not_lt_zero _), fun c => (b1 c c.isLt).2.trans rfl⟩
    rw [trips2] at this
    exact this
  have hRdy : Ready D σ2 := {
    e9 := put_all _ _ _ hI.p9
    e10 := put_all _ _ _ hI.p10
    e11 := put_all _ _ _ hI.p11
    e12 := put_all _ _ _ hI.p12
    e13 := put_all _ _ _ hI.p13
    e14 := put_all _ _ _ hI.p14
    e15 := put_all _ _ _ hI.p15
    cn := fun c => (congrFun (hI.keep cc0_scratch16 (by decide) (by decide) (by decide) (by decide) (by decide) (by decide) (by decide) (by decide)) _).trans (hM1.co c)
    bs := fun c => (congrFun (hI.keep cc0_scratch17 (by decide) (by decide) (by decide) (by decide) (by decide) (by decide) (by decide) (by decide)) _).trans (b1 c c.isLt).1 }
  refine pwp_seq (p := pr i) scr (R := fun _ (σ' : H F) => I3 D σ2 64 σ') ?_ fun _ σ3 hJ => ?_
  · have := pwp_loop scr k0_t3_loop (k0_t3_ok i h1) () (t3B (F := F) i sm rs h1 (iota .scVector S16 32 [0] (by decide)) (BitVec.ofNat 32 (base (cl D.cl) 1024 64)) (scan .sum v) (broadcast S16 2147483648#32)) (fun t _ σ' => I3 D σ2 t σ')
      (fun t a σ' h => t3_step i sm rs h1 _ _ _ D σ2 hRdy t σ' h) (σ := σ2)
      ⟨fun _ _ _ => rfl, fun _ h => absurd h (Nat.not_lt_zero _), fun _ h => absurd h (Nat.not_lt_zero _)⟩
    rw [trips3] at this
    exact this
  have e19 : σ3 cc0_scratch19 = tcA (srt D).sc := funext fun q => hJ.c q (q 0).isLt
  have e20 : σ3 cc0_scratch20 = ttA (srt D).sc (nbr D) := funext fun q => hJ.t q (q 0).isLt
  refine step_load _ ?hB ?_; case hB => exact mem_scr _ rfl
  refine step_load _ ?hB ?_; case hB => exact mem_scr _ rfl
  refine step_load _ ?hB ?_; case hB => exact mem_scr _ rfl
  refine step_load _ ?hB ?_; case hB => exact mem_scr _ rfl
  refine step_load _ ?hB ?_; case hB => exact mem_scr _ rfl
  refine step_load _ ?hB ?_; case hB => exact mem_scr _ rfl
  refine step_load _ ?hB ?_; case hB => exact mem_scr _ rfl
  refine step_load _ ?hB ?_; case hB => exact mem_scr _ rfl
  refine step_pure _ ⟨hRdy.of_frame hJ.keep, ?_, ?_, ?_, ?_, ?_, ?_, ?_, ?_, rfl, rfl⟩
  · exact rd_tab19 σ3 _ e19 0 0 (by omega) rfl _
  · exact rd_tab19 σ3 _ e19 1 16 (by omega) rfl _
  · exact rd_tab19 σ3 _ e19 2 32 (by omega) rfl _
  · exact rd_tab19 σ3 _ e19 3 48 (by omega) rfl _
  · exact rd_tab20 σ3 _ e20 0 0 (by omega) rfl _
  · exact rd_tab20 σ3 _ e20 1 16 (by omega) rfl _
  · exact rd_tab20 σ3 _ e20 2 32 (by omega) rfl _
  · exact rd_tab20 σ3 _ e20 3 48 (by omega) rfl _

end Cert.Proof.Sort
-- ==== Proof.Words.lean ====
/-
  The main loop's words in closed form: offsets, bounds and trip counts, as natural numbers.
-/
module

public import proofs.«01_k».proof.Proof.Sort4

@[expose] public section

noncomputable section

namespace Cert.Proof.Words

open Cert.KernelIdeal Cert.KernelIdeal.Gen
open Idealize.ShloMosaic Idealize.ShloMosaic.ValueIdx Idealize.SL.Sem
open Cert.Proof.Lanes Cert.Proof.Sort

/-- The first chunk of a class that begins at `a`, as a word. -/
abbrev firstW (a : BitVec 32) : BitVec 32 := Scalar.minsi 63#32 (Scalar.maxsi 0#32 (Scalar.divsi a 16#32))

/-- The chunk after the last of a class that ends at `b`, as a word. -/
abbrev lastW (b : BitVec 32) : BitVec 32 := Scalar.minsi 64#32 (Scalar.maxsi 0#32 (Scalar.divsi (Scalar.addi b 15#32) 16#32))

theorem firstW_eq (a : ℕ) (h : a < 1024) : firstW (BitVec.ofNat 32 a) = BitVec.ofNat 32 (a / 16) := by
  have H : ∀ a : Fin 1024, firstW (BitVec.ofNat 32 a.val) = BitVec.ofNat 32 (a.val / 16) := by decide +kernel
  exact H ⟨a, h⟩

theorem lastW_eq (b : ℕ) (h : b ≤ 1024) : lastW (BitVec.ofNat 32 b) = BitVec.ofNat 32 ((b + 15) / 16) := by
  have H : ∀ b : Fin 1025, lastW (BitVec.ofNat 32 b.val) = BitVec.ofNat 32 ((b.val + 15) / 16) := by decide +kernel
  exact H ⟨b, by omega⟩

theorem nextW_eq (q : ℕ) (h : q < 64) : Scalar.minsi (Scalar.addi (BitVec.ofNat 32 q) 1#32) 63#32 = BitVec.ofNat 32 (min (q + 1) 63) := by
  have H : ∀ q : Fin 64, Scalar.minsi (Scalar.addi (BitVec.ofNat 32 q.val) 1#32) 63#32 = BitVec.ofNat 32 (min (q.val + 1) 63) := by
    decide +kernel
  exact H ⟨q, h⟩

theorem off9_eq (a : ℕ) (h : a < 1024) : k0_off9 (BitVec.ofNat 32 a) = ![16 * (a / 16)] := by
  have H : ∀ a : Fin 1024, k0_off9 (BitVec.ofNat 32 a.val) = ![16 * (a.val / 16)] := by decide +kernel
  exact H ⟨a, h⟩

theorem off10_eq (a : ℕ) (h : a < 1024) : k0_off10 (BitVec.ofNat 32 a) = ![16 * min (a / 16 + 1) 63] := by
  have H : ∀ a : Fin 1024, k0_off10 (BitVec.ofNat 32 a.val) = ![16 * min (a.val / 16 + 1) 63] := by decide +kernel
  exact H ⟨a, h⟩

theorem off8_eq (k : ℕ) (h : k < 100) : k0_off8 (BitVec.ofNat 32 k) = ![16 * k] := by
  have H : ∀ k : Fin 100, k0_off8 (BitVec.ofNat 32 k.val) = ![16 * k.val] := by decide +kernel
  exact H ⟨k, h⟩

/-- The loop over a class's further chunks, from its first and its end. -/
abbrev midL (f l : BitVec 32) : Scf.Loop 32 :=
  ⟨Scalar.addi f 2#32, Scalar.addi (Scalar.addi f 2#32) (Scalar.muli (Scalar.divsi (Scalar.subi l (Scalar.addi f 2#32)) 1#32) 1#32), 1#32⟩

/-- What is left of that loop by its step, one. -/
abbrev restL (f l : BitVec 32) : Scf.Loop 32 :=
  ⟨Scalar.addi (Scalar.addi f 2#32) (Scalar.muli (Scalar.divsi (Scalar.subi l (Scalar.addi f 2#32)) 1#32) 1#32),
    Scalar.addi (Scalar.addi f 2#32) (Scalar.subi l (Scalar.addi f 2#32)), 1#32⟩

theorem mid_eq (f l : ℕ) (hf : f < 64) (hl : l < 65) :
    (midL (BitVec.ofNat 32 f) (BitVec.ofNat 32 l)).trips = l - (f + 2) ∧ (midL (BitVec.ofNat 32 f) (BitVec.ofNat 32 l)).OK ∧
    (restL (BitVec.ofNat 32 f) (BitVec.ofNat 32 l)).trips = 0 ∧ (restL (BitVec.ofNat 32 f) (BitVec.ofNat 32 l)).OK := by
  have H : ∀ (f : Fin 64) (l : Fin 65),
    (midL (BitVec.ofNat 32 f.val) (BitVec.ofNat 32 l.val)).trips = l.val - (f.val + 2) ∧ (midL (BitVec.ofNat 32 f.val) (BitVec.ofNat 32 l.val)).OK ∧
    (restL (BitVec.ofNat 32 f.val) (BitVec.ofNat 32 l.val)).trips = 0 ∧ (restL (BitVec.ofNat 32 f.val) (BitVec.ofNat 32 l.val)).OK := by
    decide +kernel
  exact H ⟨f, hf⟩ ⟨l, hl⟩

/-- The loops of a class, from its base and its size. -/
theorem loops_eq (a n : ℕ) (ha : a < 1024) (hn : a + n ≤ 1024) :
    (k0_t5_loop (BitVec.ofNat 32 a) (BitVec.ofNat 32 n)).trips = (a + n + 15) / 16 - (a / 16 + 2) ∧
    (k0_t5_loop (BitVec.ofNat 32 a) (BitVec.ofNat 32 n)).OK ∧
    (k0_t6_loop (BitVec.ofNat 32 a) (BitVec.ofNat 32 n)).trips = 0 ∧ (k0_t6_loop (BitVec.ofNat 32 a) (BitVec.ofNat 32 n)).OK := by
  have h5 : k0_t5_loop (BitVec.ofNat 32 a) (BitVec.ofNat 32 n) = midL (BitVec.ofNat 32 (a / 16)) (BitVec.ofNat 32 ((a + n + 15) / 16)) := by
    rw [← firstW_eq a ha, ← lastW_eq (a + n) hn, BitVec.ofNat_add]
    rfl
  have h6 : k0_t6_loop (BitVec.ofNat 32 a) (BitVec.ofNat 32 n) = restL (BitVec.ofNat 32 (a / 16)) (BitVec.ofNat 32 ((a + n + 15) / 16)) := by
    rw [← firstW_eq a ha, ← lastW_eq (a + n) hn, BitVec.ofNat_add]
    rfl
  rw [h5, h6]
  exact mid_eq _ _ (by omega) (by omega)

/-- The chunk of a trip of the loop over a class's further chunks. -/
theorem iv_eq (q t : ℕ) : Scf.iv (Scalar.addi (BitVec.ofNat 32 q) 2#32) 1#32 t = BitVec.ofNat 32 (q + 2 + t) := by
  show BitVec.ofNat 32 q + 2#32 + BitVec.ofNat 32 t * 1#32 = _
  rw [BitVec.mul_one, BitVec.ofNat_add, BitVec.ofNat_add]

theorem mul16 (q : ℕ) : Scalar.muli (BitVec.ofNat 32 q) 16#32 = BitVec.ofNat 32 (16 * q) := by
  show BitVec.ofNat 32 q * BitVec.ofNat 32 16 = _
  rw [← BitVec.ofNat_mul, mul_comm]

theorem toNat_small (n : ℕ) (h : n < 2 ^ 31) : (BitVec.ofNat 32 n).toNat = n := by
  rw [BitVec.toNat_ofNat]
  exact Nat.mod_eq_of_lt (h.trans (by norm_num))

theorem off11_eq (a n : ℕ) (ha : a < 1024) (t : Fin (k0_t5_loop (BitVec.ofNat 32 a) (BitVec.ofNat 32 n)).trips)
    (ht : a / 16 + 2 + t.val < 64) : k0_off11 (BitVec.ofNat 32 a) (BitVec.ofNat 32 n) t = ![16 * (a / 16 + 2 + t.val)] := by
  have h : k0_off11 (BitVec.ofNat 32 a) (BitVec.ofNat 32 n) t =
      ![(Scalar.muli (Scf.iv (Scalar.addi (firstW (BitVec.ofNat 32 a)) 2#32) 1#32 t) 16#32).toNat] := rfl
  rw [h, firstW_eq a ha, iv_eq, mul16, toNat_small _ (by omega)]

/-- A word brought between zero and 63. -/
abbrev clipW (w : BitVec 32) : BitVec 32 := Scalar.minsi 63#32 (Scalar.maxsi 0#32 w)

theorem clip_le (w : BitVec 32) : (clipW w).toNat ≤ 63 := by
  show (if (63#32).slt (if w.slt 0#32 then 0#32 else w) then 63#32 else (if w.slt 0#32 then 0#32 else w)).toNat ≤ 63
  split_ifs with h1 h2 h3
  · decide
  · decide
  · decide
  · simp only [BitVec.slt, decide_eq_true_eq] at h1 h3
    have h4 : w.toInt ≤ 63 := by
      have : (63#32 : BitVec 32).toInt = 63 := by decide
      omega
    have h5 : 0 ≤ w.toInt := by
      have : (0#32 : BitVec 32).toInt = 0 := by decide
      omega
    rw [BitVec.toInt_eq_toNat_cond] at h4 h5
    split at h4 <;> split at h5 <;> omega

theorem off7_eq (w : BitVec 32) : k0_off7 w = ![16 * (clipW w).toNat] := by
  have h : k0_off7 w = ![(Scalar.muli (clipW w) 16#32).toNat] := rfl
  rw [h]
  have hc := clip_le w
  generalize clipW w = c at hc
  have : Scalar.muli c 16#32 = BitVec.ofNat 32 (16 * c.toNat) := by
    have h2 : c = BitVec.ofNat 32 c.toNat := by rw [BitVec.ofNat_toNat, BitVec.setWidth_eq]
    conv_lhs => rw [h2]
    exact mul16 _
  rw [this, toNat_small _ (by omega)]

/-- The loop that clears the rows after the last. -/
theorem tail_eq (k : ℕ) (hk : k ≤ 100) :
    (k0_t7_loop (BitVec.ofNat 32 k)).trips = 100 - k ∧ (k0_t7_loop (BitVec.ofNat 32 k)).OK ∧
    (k0_t8_loop (BitVec.ofNat 32 k)).trips = 0 ∧ (k0_t8_loop (BitVec.ofNat 32 k)).OK := by
  have H : ∀ k : Fin 101,
    (k0_t7_loop (BitVec.ofNat 32 k.val)).trips = 100 - k.val ∧ (k0_t7_loop (BitVec.ofNat 32 k.val)).OK ∧
    (k0_t8_loop (BitVec.ofNat 32 k.val)).trips = 0 ∧ (k0_t8_loop (BitVec.ofNat 32 k.val)).OK := by decide +kernel
  exact H ⟨k, by omega⟩

theorem off13_eq (k : ℕ) (t : Fin (k0_t7_loop (BitVec.ofNat 32 k)).trips) (ht : k + t.val < 100) :
    k0_off13 (BitVec.ofNat 32 k) t = ![16 * (k + t.val)] := by
  have h : k0_off13 (BitVec.ofNat 32 k) t = ![(Scalar.muli (BitVec.ofNat 32 k + BitVec.ofNat 32 t.val * 1#32) 16#32).toNat] := rfl
  rw [h, BitVec.mul_one, ← BitVec.ofNat_add, mul16, toNat_small _ (by omega)]

theorem bit_and (x y : BitVec 1) : x &&& y = 1#1 ↔ x = 1#1 ∧ y = 1#1 := by
  revert x y; decide

theorem ofBool_one (b : Bool) : BitVec.ofBool b = 1#1 ↔ b = true := by cases b <;> decide

theorem slt_ofNat (a b : ℕ) (ha : a < 2 ^ 31) (hb : b < 2 ^ 31) : (BitVec.ofNat 32 a).slt (BitVec.ofNat 32 b) = true ↔ a < b := by
  simp only [BitVec.slt, decide_eq_true_eq]
  rw [BitVec.toInt_eq_toNat_cond, BitVec.toInt_eq_toNat_cond, toNat_small a ha, toNat_small b hb]
  split <;> split <;> omega

theorem sle_ofNat (a b : ℕ) (ha : a < 2 ^ 31) (hb : b < 2 ^ 31) : (BitVec.ofNat 32 a).sle (BitVec.ofNat 32 b) = true ↔ a ≤ b := by
  simp only [BitVec.sle, decide_eq_true_eq]
  rw [BitVec.toInt_eq_toNat_cond, BitVec.toInt_eq_toNat_cond, toNat_small a ha, toNat_small b hb]
  split <;> split <;> omega

theorem eq_ofNat (a b : ℕ) (ha : a < 2 ^ 31) (hb : b < 2 ^ 31) : BitVec.ofNat 32 a = BitVec.ofNat 32 b ↔ a = b := by
  constructor
  · intro h
    rw [← toNat_small a ha, ← toNat_small b hb, h]
  · exact fun h => h ▸ rfl

/-- The word that marks a lane whose score is taken away. -/
theorem mask_iff (gi a b g : ℕ) (hgi : gi < 2 ^ 31) (ha : a < 2 ^ 31) (hb : b < 2 ^ 31) (hg : g < 2 ^ 31) (c : BitVec 1) :
    IntOp.andi (IntOp.andi (IntOp.andi (IntOp.cmpi .sge (BitVec.ofNat 32 gi) (BitVec.ofNat 32 a))
      (IntOp.cmpi .slt (BitVec.ofNat 32 gi) (BitVec.ofNat 32 b))) (IntOp.cmpi .ne (BitVec.ofNat 32 gi) (BitVec.ofNat 32 g))) c = 1#1
      ↔ (a ≤ gi ∧ gi < b) ∧ gi ≠ g ∧ c = 1#1 := by
  unfold IntOp.andi IntOp.cmpi
  rw [bit_and, bit_and, bit_and, ofBool_one, ofBool_one, ofBool_one, sle_ofNat a gi ha hgi, slt_ofNat gi b hgi hb, bne_iff_ne, ne_eq,
    eq_ofNat gi g hgi hg]
  tauto

/-- Whether there is a further step: fewer than a hundred done, and something left. -/
theorem cond2_iff (k : ℕ) (hk : k ≤ 100) (c : BitVec 1) : k0_cond2 (BitVec.ofNat 32 k) c = 1#1 ↔ k < 100 ∧ c = 1#1 := by
  have H : ∀ (k : Fin 101) (c : BitVec 1), k0_cond2 (BitVec.ofNat 32 k.val) c = 1#1 ↔ k.val < 100 ∧ c = 1#1 := by decide +kernel
  exact H ⟨k, by omega⟩ c

end Cert.Proof.Words
-- ==== Proof.Step.lean ====
/-
  One step of the main loop: which place it picks, which places it takes away, and what that makes of the scores, of the
  chunks' tables and of the rows put out.
-/
module

public import proofs.«01_k».proof.Proof.Words

@[expose] public section

noncomputable section

namespace Cert.Proof.Step

open Cert.KernelIdeal Cert.KernelIdeal.Gen
open Idealize.ShloMosaic Idealize.ShloMosaic.ValueIdx Idealize.SL.Sem
open Cert.Proof.Pwp Cert.Proof.Lanes Cert.Proof.Counting Cert.Proof.Sort Cert.Proof.Words

variable {F : FTy → Type} [FloatOps F]

/-! ## The step -/

/-- The lanes' numbers. -/
abbrev lanes : IVec S16 32 := iota .scVector S16 32 [0] (by decide)

theorem lanes_at (x : Fin 16) : lanes (ix1 x) = BitVec.ofNat 32 x.val := by
  show BitVec.ofNat 32 (0 * 16 + x.val) = _
  rw [Nat.zero_mul, Nat.zero_add]

/-- The score of a place taken away. -/
abbrev neg1 : F .f32 := Scalar.ofBits .f32 0xBF800000#32

/-- The class of the item at a place. -/
def cp (D : Items F) (p : S1024.Idx) : ℕ := cl D.cl ((item (cl D.cl) p) 0).val

theorem seg (D : Items F) (p : S1024.Idx) (c : ℕ) :
    (base (cl D.cl) 1024 c ≤ (p 0).val ∧ (p 0).val < base (cl D.cl) 1024 c + cnt (cl D.cl) 1024 c) ↔ cp D p = c := by
  have h := pos_mem_iff (cl D.cl) (n := 1024) (j := ((item (cl D.cl) p) 0).val) ((item (cl D.cl) p) 0).isLt c
  rw [pos_item] at h
  exact h

/-- The picked place's box, moved by its class, in every lane. -/
abbrev gY1 (D : Items F) (g : S1024.Idx) : Vec F S16 .f32 := k0_pay21 (broadcast S16 ((srt D).y1 g)) (broadcast S16 ((srt D).cl g))
abbrev gX1 (D : Items F) (g : S1024.Idx) : Vec F S16 .f32 := k0_pay22 (broadcast S16 ((srt D).x1 g)) (broadcast S16 ((srt D).cl g))
abbrev gY2 (D : Items F) (g : S1024.Idx) : Vec F S16 .f32 := k0_pay23 (broadcast S16 ((srt D).y2 g)) (broadcast S16 ((srt D).cl g))
abbrev gX2 (D : Items F) (g : S1024.Idx) : Vec F S16 .f32 := k0_pay24 (broadcast S16 ((srt D).x2 g)) (broadcast S16 ((srt D).cl g))
abbrev gA (D : Items F) (g : S1024.Idx) : Vec F S16 .f32 :=
  k0_pay25 (broadcast S16 ((srt D).y1 g)) (broadcast S16 ((srt D).x1 g)) (broadcast S16 ((srt D).y2 g)) (broadcast S16 ((srt D).x2 g))
    (broadcast S16 ((srt D).cl g))

/-- Overlap over union, of the picked place and another. -/
def iouP (D : Items F) (g p : S1024.Idx) : F .f32 :=
  k0_pay33 (gY1 D g) (gX1 D g) (gY2 D g) (gX2 D g) (gA D g) (broadcast S16 ((srt D).cl p)) (broadcast S16 ((srt D).y1 p))
    (broadcast S16 ((srt D).x1 p)) (broadcast S16 ((srt D).y2 p)) (broadcast S16 ((srt D).x2 p)) (ix1 0)

/-- Whether they overlap too much, as a bit. -/
def over (D : Items F) (g p : S1024.Idx) : BitVec 1 := FloatOps.cmpf .ogt (iouP D g p) (Scalar.ofBits .f32 0x3E99999A#32)

/-- The scores once the picked place is taken away. -/
def off1 (g : S1024.Idx) (s : S1024.Idx → F .f32) (p : S1024.Idx) : F .f32 := if (p 0).val = (g 0).val then neg1 else s p

/-- The scores after the step. -/
def nxt (D : Items F) (g : S1024.Idx) (s : S1024.Idx → F .f32) (p : S1024.Idx) : F .f32 :=
  if (p 0).val = (g 0).val then neg1 else if cp D p = cp D g ∧ over D g p = 1#1 then neg1 else s p

/-- The scores when the chunks of `d` are done. -/
def mix (D : Items F) (g : S1024.Idx) (s : S1024.Idx → F .f32) (d : Finset ℕ) (p : S1024.Idx) : F .f32 :=
  if (p 0).val / 16 ∈ d then nxt D g s p else off1 g s p

/-- A table when the chunks of `d` are done. -/
def tabD {V : Type} (T T' : S64.Idx → V) (d : Finset ℕ) (j : S64.Idx) : V := if (j 0).val ∈ d then T' j else T j

theorem mix_empty (D : Items F) (g : S1024.Idx) (s : S1024.Idx → F .f32) : mix D g s ∅ = off1 g s := by
  funext p
  unfold mix
  rw [if_neg (Finset.notMem_empty _)]

theorem tabD_empty {V : Type} (T T' : S64.Idx → V) : tabD T T' ∅ = T := by
  funext p
  unfold tabD
  rw [if_neg (Finset.notMem_empty _)]

/-- A chunk done makes its lanes the next scores. -/
theorem mix_insert (D : Items F) (g : S1024.Idx) (s : S1024.Idx → F .f32) (d : Finset ℕ) (q : ℕ) (p : S1024.Idx) :
    mix D g s (insert q d) p = if (p 0).val / 16 = q then nxt D g s p else mix D g s d p := by
  unfold mix
  by_cases h : (p 0).val / 16 = q
  · rw [if_pos h, if_pos (by rw [h]; exact Finset.mem_insert_self _ _)]
  · rw [if_neg h]
    refine if_congr ?_ rfl rfl
    rw [Finset.mem_insert]
    exact ⟨fun h' => h'.resolve_left h, Or.inr⟩

theorem sel_one {V : Type} (m : BitVec 1) (a b : V) : Scalar.select m a b = if m = 1#1 then a else b := rfl

/-- One lane of a chunk as it is done. -/
theorem kill_lane (D : Items F) (g : S1024.Idx) (s : S1024.Idx → F .f32) (d : Finset ℕ) (p : S1024.Idx) (m : BitVec 1)
    (hm : m = 1#1 ↔ cp D p = cp D g ∧ (p 0).val ≠ (g 0).val ∧ over D g p = 1#1) :
    Scalar.select m neg1 (mix D g s d p) = nxt D g s p := by
  rw [sel_one]
  by_cases hg : (p 0).val = (g 0).val
  · have hm0 : ¬ m = 1#1 := fun h => ((hm.1 h).2.1) hg
    rw [if_neg hm0]
    unfold mix nxt off1
    rw [if_pos hg, if_pos hg, ite_self]
  · by_cases hk : cp D p = cp D g ∧ over D g p = 1#1
    · rw [if_pos (hm.2 ⟨hk.1, hg, hk.2⟩)]
      unfold nxt
      rw [if_neg hg, if_pos hk]
    · have hm0 : ¬ m = 1#1 := fun h => hk ⟨(hm.1 h).1, (hm.1 h).2.2⟩
      rw [if_neg hm0]
      unfold mix nxt off1
      rw [if_neg hg, if_neg hk, if_neg hg, ite_self]

/-- The lanes of a chunk as it is done: those taken away are marked, the others kept. -/
def killed (w a b gw : BitVec 32) (gy1 gx1 gy2 gx2 ga : Vec F S16 .f32) (old c y1 x1 y2 x2 : Vec F S16 .f32) : Vec F S16 .f32 :=
  k0_pay34 gw a b (addi (broadcast S16 w) lanes) old (k0_pay33 gy1 gx1 gy2 gx2 ga c y1 x1 y2 x2)

theorem killed_eq (D : Items F) (g : S1024.Idx) (s : S1024.Idx → F .f32) (d : Finset ℕ) (q : ℕ) (hq : q < 64) :
    killed (BitVec.ofNat 32 (16 * q)) (BitVec.ofNat 32 (base (cl D.cl) 1024 (cp D g)))
      (Scalar.addi (BitVec.ofNat 32 (base (cl D.cl) 1024 (cp D g))) (BitVec.ofNat 32 (cnt (cl D.cl) 1024 (cp D g))))
      (BitVec.ofNat 32 (g 0).val) (gY1 D g) (gX1 D g) (gY2 D g) (gX2 D g) (gA D g) (chk (mix D g s d) q) (chk (srt D).cl q)
      (chk (srt D).y1 q) (chk (srt D).x1 q) (chk (srt D).y2 q) (chk (srt D).x2 q) = chk (nxt D g s) q := by
  refine chk_ext _ q hq _ fun x => ?_
  have ha := base_le (cl D.cl) 1024 (cp D g)
  have hn := cnt_le (cl D.cl) 1024 (cp D g)
  have hg : (g 0).val < 1024 := (g 0).isLt
  have hab : Scalar.addi (BitVec.ofNat 32 (base (cl D.cl) 1024 (cp D g))) (BitVec.ofNat 32 (cnt (cl D.cl) 1024 (cp D g)))
      = BitVec.ofNat 32 (base (cl D.cl) 1024 (cp D g) + cnt (cl D.cl) 1024 (cp D g)) := (BitVec.ofNat_add _ _).symm
  rw [hab]
  have hl : BitVec.add (BitVec.ofNat 32 (16 * q)) (lanes (ix1 x)) = BitVec.ofNat 32 (16 * q + x.val) := by
    rw [lanes_at]
    exact (BitVec.ofNat_add _ _).symm
  have hov : FloatOps.cmpf .ogt (k0_pay33 (gY1 D g) (gX1 D g) (gY2 D g) (gX2 D g) (gA D g) (chk (srt D).cl q)
      (chk (srt D).y1 q) (chk (srt D).x1 q) (chk (srt D).y2 q) (chk (srt D).x2 q) (ix1 x)) (Scalar.ofBits .f32 0x3E99999A#32)
      = over D g (at16 q hq x) := by
    unfold over iouP
    refine congrArg (fun y => FloatOps.cmpf .ogt y (Scalar.ofBits .f32 0x3E99999A#32)) ?_
    rw [← chk_at (srt D).cl q hq x, ← chk_at (srt D).y1 q hq x, ← chk_at (srt D).x1 q hq x, ← chk_at (srt D).y2 q hq x,
      ← chk_at (srt D).x2 q hq x]
    rfl
  show Scalar.select (IntOp.andi (IntOp.andi (IntOp.andi
      (IntOp.cmpi .sge (BitVec.add (BitVec.ofNat 32 (16 * q)) (lanes (ix1 x))) (BitVec.ofNat 32 (base (cl D.cl) 1024 (cp D g))))
      (IntOp.cmpi .slt (BitVec.add (BitVec.ofNat 32 (16 * q)) (lanes (ix1 x)))
        (BitVec.ofNat 32 (base (cl D.cl) 1024 (cp D g) + cnt (cl D.cl) 1024 (cp D g)))))
      (IntOp.cmpi .ne (BitVec.add (BitVec.ofNat 32 (16 * q)) (lanes (ix1 x))) (BitVec.ofNat 32 (g 0).val)))
      (FloatOps.cmpf .ogt (k0_pay33 (gY1 D g) (gX1 D g) (gY2 D g) (gX2 D g) (gA D g) (chk (srt D).cl q)
      (chk (srt D).y1 q) (chk (srt D).x1 q) (chk (srt D).y2 q) (chk (srt D).x2 q) (ix1 x)) (Scalar.ofBits .f32 0x3E99999A#32)))
      neg1 (chk (mix D g s d) q (ix1 x)) = _
  rw [hl, hov, chk_at _ q hq x]
  refine kill_lane D g s d (at16 q hq x) _ ?_
  rw [mask_iff _ _ _ _ (by omega) (by omega) (by omega) (by omega), ← seg D (at16 q hq x) (cp D g)]

/-! ## The tables' registers -/

/-- A table with one entry new. -/
theorem quarter_new {V : Type} (T T' : S64.Idx → V) (d : Finset ℕ) (l q : ℕ) (hl : l < 4) (hq : q < 64) (v : V)
    (hv : v = T' (ix1 ⟨q, hq⟩)) (m : IVec S16 1) (hm : ∀ x : Fin 16, m (ix1 x) = 1#1 ↔ 16 * l + x.val = q) :
    (fun x => Scalar.select (m x) (broadcast S16 v x) (quarter (tabD T T' d) l x)) = quarter (tabD T T' (insert q d)) l := by
  refine quarter_ext _ l hl _ fun x => ?_
  have hx : quarter (tabD T T' d) l (ix1 x) = tabD T T' d (ix1 ⟨16 * l + x.val, by omega⟩) := by
    refine congrArg (tabD T T' d) (funext fun a => ?_)
    match a with
    | ⟨0, _⟩ => exact Fin.ext (Nat.mod_eq_of_lt (show 16 * l + x.val < 64 by omega))
  show Scalar.select (m (ix1 x)) v (quarter (tabD T T' d) l (ix1 x)) = _
  rw [hx]
  rw [sel_one]
  by_cases h : 16 * l + x.val = q
  · subst h
    rw [if_pos ((hm x).2 rfl), hv]
    unfold tabD
    rw [if_pos (Finset.mem_insert_self _ _)]
  · have hm0 : ¬ m (ix1 x) = 1#1 := fun h' => h ((hm x).1 h')
    rw [if_neg hm0]
    unfold tabD
    refine if_congr ?_ rfl rfl
    rw [Finset.mem_insert]
    exact ⟨Or.inr, fun h' => h'.resolve_left h⟩

/-- The registers hold a table of words and a table of numbers. -/
structure Regs (T : S64.Idx → F .f32) (U : S64.Idx → BitVec 32) (c0 c1 c2 c3 : Vec F S16 .f32) (t0 t1 t2 t3 : IVec S16 32) : Prop where
  c0 : c0 = quarter T 0
  c1 : c1 = quarter T 1
  c2 : c2 = quarter T 2
  c3 : c3 = quarter T 3
  t0 : t0 = quarter U 0
  t1 : t1 = quarter U 1
  t2 : t2 = quarter U 2
  t3 : t3 = quarter U 3

theorem cmpi_eq_iff (a b : BitVec 32) : IntOp.cmpi .eq a b = 1#1 ↔ a = b := by
  unfold IntOp.cmpi
  rw [ofBool_one]
  exact beq_iff_eq

theorem mk_iff (l q : ℕ) (hl : l < 4) (hq : q < 64) (x : Fin 16) (w : BitVec 32) (hw : w = BitVec.ofNat 32 (16 * l + x.val)) :
    IntOp.cmpi .eq w (BitVec.ofNat 32 q) = 1#1 ↔ 16 * l + x.val = q := by
  rw [cmpi_eq_iff, hw, eq_ofNat _ _ (by omega) (by omega)]

theorem mk0 (q : ℕ) (hq : q < 64) (x : Fin 16) : k0_pay42 lanes (BitVec.ofNat 32 q) (ix1 x) = 1#1 ↔ 16 * 0 + x.val = q := by
  refine mk_iff 0 q (by omega) hq x (lanes (ix1 x)) ?_
  rw [lanes_at, Nat.mul_zero, Nat.zero_add]

theorem mk1 (q : ℕ) (hq : q < 64) (x : Fin 16) : k0_pay43 lanes (BitVec.ofNat 32 q) (ix1 x) = 1#1 ↔ 16 * 1 + x.val = q := by
  refine mk_iff 1 q (by omega) hq x (BitVec.add (lanes (ix1 x)) 16#32) ?_
  rw [lanes_at, add_comm]
  exact (BitVec.ofNat_add _ _).symm

theorem mk2 (q : ℕ) (hq : q < 64) (x : Fin 16) : k0_pay44 lanes (BitVec.ofNat 32 q) (ix1 x) = 1#1 ↔ 16 * 2 + x.val = q := by
  refine mk_iff 2 q (by omega) hq x (BitVec.add (lanes (ix1 x)) 32#32) ?_
  rw [lanes_at, add_comm]
  exact (BitVec.ofNat_add _ _).symm

theorem mk3 (q : ℕ) (hq : q < 64) (x : Fin 16) : k0_pay45 lanes (BitVec.ofNat 32 q) (ix1 x) = 1#1 ↔ 16 * 3 + x.val = q := by
  refine mk_iff 3 q (by omega) hq x (BitVec.add (lanes (ix1 x)) 48#32) ?_
  rw [lanes_at, add_comm]
  exact (BitVec.ofNat_add _ _).symm

/-- A chunk done puts its new maximum, and the least number that holds it, into the registers. -/
theorem Regs.step {T T' : S64.Idx → F .f32} {U U' : S64.Idx → BitVec 32} {d : Finset ℕ} {c0 c1 c2 c3 : Vec F S16 .f32} {t0 t1 t2 t3 : IVec S16 32}
    (h : Regs (tabD T T' d) (tabD U U' d) c0 c1 c2 c3 t0 t1 t2 t3) (q : ℕ) (hq : q < 64) (v : F .f32) (hv : v = T' (ix1 ⟨q, hq⟩))
    (w : BitVec 32) (hw : w = U' (ix1 ⟨q, hq⟩)) :
    Regs (tabD T T' (insert q d)) (tabD U U' (insert q d))
      (k0_pay75 lanes c0 (BitVec.ofNat 32 q) v) (k0_pay76 lanes c1 (BitVec.ofNat 32 q) v) (k0_pay77 lanes c2 (BitVec.ofNat 32 q) v)
      (k0_pay78 lanes c3 (BitVec.ofNat 32 q) v)
      (select (k0_pay42 lanes (BitVec.ofNat 32 q)) (broadcast S16 w) t0) (select (k0_pay43 lanes (BitVec.ofNat 32 q)) (broadcast S16 w) t1)
      (select (k0_pay44 lanes (BitVec.ofNat 32 q)) (broadcast S16 w) t2) (select (k0_pay45 lanes (BitVec.ofNat 32 q)) (broadcast S16 w) t3) where
  c0 := by rw [h.c0]; exact quarter_new T T' d 0 q (by omega) hq v hv _ (mk0 q hq)
  c1 := by rw [h.c1]; exact quarter_new T T' d 1 q (by omega) hq v hv _ (mk1 q hq)
  c2 := by rw [h.c2]; exact quarter_new T T' d 2 q (by omega) hq v hv _ (mk2 q hq)
  c3 := by rw [h.c3]; exact quarter_new T T' d 3 q (by omega) hq v hv _ (mk3 q hq)
  t0 := by rw [h.t0]; exact quarter_new U U' d 0 q (by omega) hq w hw _ (mk0 q hq)
  t1 := by rw [h.t1]; exact quarter_new U U' d 1 q (by omega) hq w hw _ (mk1 q hq)
  t2 := by rw [h.t2]; exact quarter_new U U' d 2 q (by omega) hq w hw _ (mk2 q hq)
  t3 := by rw [h.t3]; exact quarter_new U U' d 3 q (by omega) hq w hw _ (mk3 q hq)

/-! ## The chunks done -/

/-- The chunks done after `t` trips of the loop over the further ones. -/
def done (a t : ℕ) : Finset ℕ := insert (min (a / 16 + 1) 63) (insert (a / 16) ∅) ∪ Finset.Ico (a / 16 + 2) (a / 16 + 2 + t)

theorem done_zero (a : ℕ) : done a 0 = insert (min (a / 16 + 1) 63) (insert (a / 16) ∅) := by
  unfold done
  rw [Nat.add_zero, Finset.Ico_self, Finset.union_empty]

theorem done_succ (a t : ℕ) : done a (t + 1) = insert (a / 16 + 2 + t) (done a t) := by
  ext q
  unfold done
  generalize min (a / 16 + 1) 63 = z
  simp only [Finset.mem_union, Finset.mem_insert, Finset.notMem_empty, Finset.mem_Ico, or_false]
  omega

theorem done_all (a n p : ℕ) (h1 : a ≤ p) (h2 : p < a + n) (h3 : p < 1024) : p / 16 ∈ done a ((a + n + 15) / 16 - (a / 16 + 2)) := by
  unfold done
  have hz : min (a / 16 + 1) 63 = a / 16 + 1 ∨ (63 ≤ a / 16 + 1 ∧ min (a / 16 + 1) 63 = 63) := by omega
  generalize min (a / 16 + 1) 63 = z at hz
  simp only [Finset.mem_union, Finset.mem_insert, Finset.notMem_empty, Finset.mem_Ico, or_false]
  omega

/-- Outside the class's chunks the step changes nothing. -/
theorem nxt_out (D : Items F) (g : S1024.Idx) (s : S1024.Idx → F .f32) (p : S1024.Idx) (h : cp D p ≠ cp D g) : nxt D g s p = s p := by
  have hg : ¬ (p 0).val = (g 0).val := fun h' => h (congrArg (cp D) (by rw [eq_ix1 p, eq_ix1 g]; exact congrArg ix1 (Fin.ext h')))
  unfold nxt
  rw [if_neg hg, if_neg fun h' => h h'.1]

theorem mem_done (D : Items F) (g p : S1024.Idx) (h : cp D p = cp D g) :
    (p 0).val / 16 ∈ done (base (cl D.cl) 1024 (cp D g)) ((base (cl D.cl) 1024 (cp D g) + cnt (cl D.cl) 1024 (cp D g) + 15) / 16 - (base (cl D.cl) 1024 (cp D g) / 16 + 2)) := by
  obtain ⟨h1, h2⟩ := (seg D p (cp D g)).2 h
  exact done_all _ _ _ h1 h2 (p 0).isLt

theorem mix_done (D : Items F) (g : S1024.Idx) (s : S1024.Idx → F .f32) (d : Finset ℕ) (hd : ∀ p : S1024.Idx, cp D p = cp D g → (p 0).val / 16 ∈ d) :
    mix D g s d = nxt D g s := by
  funext p
  unfold mix
  by_cases h : (p 0).val / 16 ∈ d
  · rw [if_pos h]
  · have hc : cp D p ≠ cp D g := fun h' => h (hd p h')
    rw [if_neg h, nxt_out D g s p hc]
    unfold off1
    rw [if_neg fun h' => hc (congrArg (cp D) (by rw [eq_ix1 p, eq_ix1 g]; exact congrArg ix1 (Fin.ext h')))]

theorem tab_done {V : Type} (D : Items F) (g : S1024.Idx) (s : S1024.Idx → F .f32) (d : Finset ℕ)
    (hd : ∀ p : S1024.Idx, cp D p = cp D g → (p 0).val / 16 ∈ d) (f : (S16.Idx → F .f32) → ℕ → V) :
    tabD (fun j => f (chk s (j 0).val) (j 0).val) (fun j => f (chk (nxt D g s) (j 0).val) (j 0).val) d
      = fun j => f (chk (nxt D g s) (j 0).val) (j 0).val := by
  funext j
  unfold tabD
  by_cases h : (j 0).val ∈ d
  · rw [if_pos h]
  · rw [if_neg h]
    have hj : (j 0).val < 64 := (j 0).isLt
    refine congrArg (fun v => f v (j 0).val) (chk_ext _ _ hj _ fun x => ?_)
    rw [chk_at _ _ hj]
    refine (nxt_out D g s _ fun h' => h ?_).symm
    have := hd _ h'
    have e : (at16 (j 0).val hj x 0).val / 16 = (j 0).val := by
      show (16 * (j 0).val + x.val) / 16 = _
      omega
    rwa [e] at this

/-! ## The pick -/

/-- The greatest score, from the chunks' maxima. -/
def gmx (s : S1024.Idx → F .f32) : F .f32 :=
  k0_pay131 (k0_pay129 (quarter (tcA s) 0) (quarter (tcA s) 1)) (k0_pay130 (quarter (tcA s) 2) (quarter (tcA s) 3))

/-- The least number among the places that hold it. -/
def tieG (D : Items F) (s : S1024.Idx → F .f32) : BitVec 32 :=
  extractAt ![15] (k0_pay14 (gmx s) (quarter (tcA s) 0) (quarter (tcA s) 1) (quarter (tcA s) 2) (quarter (tcA s) 3)
    (quarter (ttA s (nbr D)) 0) (quarter (ttA s (nbr D)) 1) (quarter (ttA s (nbr D)) 2) (quarter (ttA s (nbr D)) 3)) inpos_S16_p15

/-- Its chunk, as a word. -/
def pickQ (D : Items F) (s : S1024.Idx → F .f32) : BitVec 32 :=
  extractAt ![15] (k0_pay17
    (k0_pay15 lanes (gmx s) (quarter (tcA s) 0) (quarter (tcA s) 1) (quarter (tcA s) 2) (quarter (tcA s) 3)
      (quarter (ttA s (nbr D)) 0) (quarter (ttA s (nbr D)) 1) (quarter (ttA s (nbr D)) 2) (quarter (ttA s (nbr D)) 3))
    (k0_pay16 lanes (gmx s) (quarter (tcA s) 0) (quarter (tcA s) 1) (quarter (tcA s) 2) (quarter (tcA s) 3)
      (quarter (ttA s (nbr D)) 0) (quarter (ttA s (nbr D)) 1) (quarter (ttA s (nbr D)) 2) (quarter (ttA s (nbr D)) 3))) inpos_S16_p15

/-- Its chunk. -/
def pickC (D : Items F) (s : S1024.Idx → F .f32) : ℕ := (clipW (pickQ D s)).toNat

theorem pickC_lt (D : Items F) (s : S1024.Idx → F .f32) : pickC D s < 64 := by
  have := clip_le (pickQ D s)
  unfold pickC
  omega

/-- Its lane, as a word. -/
def pickL (D : Items F) (s : S1024.Idx → F .f32) : BitVec 32 :=
  extractAt ![15] (k0_pay18 lanes (gmx s) (tieG D s) (chk s (pickC D s)) (chk (nbr D) (pickC D s))) inpos_S16_p15

theorem min_last (w : IVec S16 32) (hw : ∀ x : Fin 16, (w (ix1 x)).toNat < 2 ^ 31) :
    ∃ x : Fin 16, extractAt ![15] (xori (scan .min (xori w (broadcast S16 2147483648#32))) (broadcast S16 2147483648#32)) inpos_S16_p15
      = w (ix1 x) ∧ ∀ y : Fin 16, (w (ix1 x)).toNat ≤ (w (ix1 y)).toNat := by
  have hw' : ∀ x, (w x).toNat < 2 ^ 31 := by
    intro x
    exact (congrArg (fun y => (w y).toNat) (eq_ix1 x)).trans_lt (hw (x 0))
  obtain ⟨x, hx, hy⟩ := min15 w hw'
  have hidx : (fun a => ⟨(![15] : Fin 1 → ℕ) a, inpos_S16_p15 a⟩ : S16.Idx) = ix1 15 := eq_ix1 _
  refine ⟨x, ?_, hy⟩
  unfold extractAt
  rw [hidx]
  exact hx

theorem pickL_le (D : Items F) (s : S1024.Idx → F .f32) : (pickL D s).toNat < 16 := by
  have hw : ∀ x : Fin 16, ((select (andi (cmpf .oeq (chk s (pickC D s)) (broadcast S16 (gmx s)))
      (cmpi .eq (chk (nbr D) (pickC D s)) (broadcast S16 (tieG D s)))) lanes (broadcast S16 15#32) : IVec S16 32) (ix1 x)).toNat < 16 := by
    intro x
    show (Scalar.select _ (lanes (ix1 x)) 15#32).toNat < 16
    unfold Scalar.select
    split_ifs
    · rw [lanes_at, toNat_small _ (by omega)]
      exact x.isLt
    · decide
  obtain ⟨x, hx, -⟩ := min_last _ fun x => (hw x).trans (by norm_num)
  exact (congrArg BitVec.toNat hx).trans_lt (hw x)

/-- The place picked. -/
def pick (D : Items F) (s : S1024.Idx → F .f32) : S1024.Idx :=
  ix1 ⟨16 * pickC D s + (pickL D s).toNat, by have := pickC_lt D s; have := pickL_le D s; omega⟩

/-- The row put out. -/
def rowV (D : Items F) (s : S1024.Idx → F .f32) : Vec F S16 .f32 :=
  k0_pay27 lanes (gmx s) (broadcast S16 ((srt D).y1 (pick D s))) (broadcast S16 ((srt D).x1 (pick D s))) (broadcast S16 ((srt D).y2 (pick D s)))
    (broadcast S16 ((srt D).x2 (pick D s))) (broadcast S16 ((srt D).cl (pick D s))) (k0_pay26 lanes)

/-- The rows with one row new. -/
def putRow (k : ℕ) (r : Vec F S16 .f32) (o : S1600.Idx → F .f32) (y : S1600.Idx) : F .f32 :=
  if (y 0).val / 16 = k then r (ix1 ⟨(y 0).val % 16, Nat.mod_lt _ (by omega)⟩) else o y

/-! ## The state -/

/-- What the main loop's buffers hold: the arrays in class order with the scores `s`, and the rows `o`. -/
structure At (D : Items F) (s : S1024.Idx → F .f32) (o : S1600.Idx → F .f32) (σ : H F) : Prop where
  e9 : σ cc0_scratch9 = s
  e10 : σ cc0_scratch10 = (srt D).y1
  e11 : σ cc0_scratch11 = (srt D).x1
  e12 : σ cc0_scratch12 = (srt D).y2
  e13 : σ cc0_scratch13 = (srt D).x2
  e14 : σ cc0_scratch14 = (srt D).cl
  e15 : σ cc0_scratch15 = nbr D
  cn : ∀ c : Fin 96, σ cc0_scratch16 (ix1 c) = BitVec.ofNat 32 (cnt (cl D.cl) 1024 c)
  bs : ∀ c : Fin 96, σ cc0_scratch17 (ix1 c) = BitVec.ofNat 32 (base (cl D.cl) 1024 c)
  o : σ cc0_scratch21 = o

theorem At.sc {D : Items F} {s s' : S1024.Idx → F .f32} {o : S1600.Idx → F .f32} {σ σ' : H F} (h : At D s o σ)
    (k : ∀ b, b ≠ cc0_scratch9 → σ' b = σ b) (e : σ' cc0_scratch9 = s') : At D s' o σ' where
  e9 := e
  e10 := (k _ (by decide)).trans h.e10
  e11 := (k _ (by decide)).trans h.e11
  e12 := (k _ (by decide)).trans h.e12
  e13 := (k _ (by decide)).trans h.e13
  e14 := (k _ (by decide)).trans h.e14
  e15 := (k _ (by decide)).trans h.e15
  cn c := (congrFun (k cc0_scratch16 (by decide)) _).trans (h.cn c)
  bs c := (congrFun (k cc0_scratch17 (by decide)) _).trans (h.bs c)
  o := (k _ (by decide)).trans h.o

theorem At.rows {D : Items F} {s : S1024.Idx → F .f32} {o o' : S1600.Idx → F .f32} {σ σ' : H F} (h : At D s o σ)
    (k : ∀ b, b ≠ cc0_scratch21 → σ' b = σ b) (e : σ' cc0_scratch21 = o') : At D s o' σ' where
  e9 := (k _ (by decide)).trans h.e9
  e10 := (k _ (by decide)).trans h.e10
  e11 := (k _ (by decide)).trans h.e11
  e12 := (k _ (by decide)).trans h.e12
  e13 := (k _ (by decide)).trans h.e13
  e14 := (k _ (by decide)).trans h.e14
  e15 := (k _ (by decide)).trans h.e15
  cn c := (congrFun (k cc0_scratch16 (by decide)) _).trans (h.cn c)
  bs c := (congrFun (k cc0_scratch17 (by decide)) _).trans (h.bs c)
  o := e

section Acc

variable (i : grid0.Coords) {α : Type} {Q : α → H F → Prop} {σ : H F}

theorem ld9 (f : S1024.Idx → F .f32) (hf : σ cc0_scratch9 = f) (q : ℕ) (hq : q < 64) (off : Fin 1 → ℕ) (ho : off = ![16 * q])
    {inb : ∀ a, off a + S16.size a ≤ S1024.size a}
    {h : (Memref.whole cc0_scratch9 : Memref sig .scVector _ _ _).view.LoadsAt (Rect.unit (s := S1024) off S16.size inb).toLoadRect}
    {k : ((Rect.unit (s := S1024) off S16.size inb).toLoadRect.shape.Idx → Elt F .f32) → Prog (TpuEff nD τ sig (Elt F) Λ₀ (pr i)) α}
    (hk : pwp scr (k (chk f q)) Q σ) :
    pwp (p := pr i) scr (Prog.lift (.load (Memref.whole cc0_scratch9) (Rect.unit (s := S1024) off S16.size inb).toLoadRect h) >>= k) Q σ := by
  refine step_load _ (mem_scr _ rfl) ?_
  have e : (Memref.whole cc0_scratch9 : Memref sig .scVector _ _ _).view.readAt (Elt F) (Rect.unit (s := S1024) off S16.size inb).toLoadRect
      (σ cc0_scratch9) = chk f q :=
    chk_ext _ q hq _ fun x => (rd_at cc0_scratch9 _ _ _ (σ cc0_scratch9) (ix1 x) (at16 q hq x) (lane_off _ ho x _ rfl)).trans (congrFun hf _)
  exact e ▸ hk

theorem ld10 (f : S1024.Idx → F .f32) (hf : σ cc0_scratch10 = f) (q : ℕ) (hq : q < 64) (off : Fin 1 → ℕ) (ho : off = ![16 * q])
    {inb : ∀ a, off a + S16.size a ≤ S1024.size a}
    {h : (Memref.whole cc0_scratch10 : Memref sig .scVector _ _ _).view.LoadsAt (Rect.unit (s := S1024) off S16.size inb).toLoadRect}
    {k : ((Rect.unit (s := S1024) off S16.size inb).toLoadRect.shape.Idx → Elt F .f32) → Prog (TpuEff nD τ sig (Elt F) Λ₀ (pr i)) α}
    (hk : pwp scr (k (chk f q)) Q σ) :
    pwp (p := pr i) scr (Prog.lift (.load (Memref.whole cc0_scratch10) (Rect.unit (s := S1024) off S16.size inb).toLoadRect h) >>= k) Q σ := by
  refine step_load _ (mem_scr _ rfl) ?_
  have e : (Memref.whole cc0_scratch10 : Memref sig .scVector _ _ _).view.readAt (Elt F) (Rect.unit (s := S1024) off S16.size inb).toLoadRect
      (σ cc0_scratch10) = chk f q :=
    chk_ext _ q hq _ fun x => (rd_at cc0_scratch10 _ _ _ (σ cc0_scratch10) (ix1 x) (at16 q hq x) (lane_off _ ho x _ rfl)).trans (congrFun hf _)
  exact e ▸ hk

theorem ld11 (f : S1024.Idx → F .f32) (hf : σ cc0_scratch11 = f) (q : ℕ) (hq : q < 64) (off : Fin 1 → ℕ) (ho : off = ![16 * q])
    {inb : ∀ a, off a + S16.size a ≤ S1024.size a}
    {h : (Memref.whole cc0_scratch11 : Memref sig .scVector _ _ _).view.LoadsAt (Rect.unit (s := S1024) off S16.size inb).toLoadRect}
    {k : ((Rect.unit (s := S1024) off S16.size inb).toLoadRect.shape.Idx → Elt F .f32) → Prog (TpuEff nD τ sig (Elt F) Λ₀ (pr i)) α}
    (hk : pwp scr (k (chk f q)) Q σ) :
    pwp (p := pr i) scr (Prog.lift (.load (Memref.whole cc0_scratch11) (Rect.unit (s := S1024) off S16.size inb).toLoadRect h) >>= k) Q σ := by
  refine step_load _ (mem_scr _ rfl) ?_
  have e : (Memref.whole cc0_scratch11 : Memref sig .scVector _ _ _).view.readAt (Elt F) (Rect.unit (s := S1024) off S16.size inb).toLoadRect
      (σ cc0_scratch11) = chk f q :=
    chk_ext _ q hq _ fun x => (rd_at cc0_scratch11 _ _ _ (σ cc0_scratch11) (ix1 x) (at16 q hq x) (lane_off _ ho x _ rfl)).trans (congrFun hf _)
  exact e ▸ hk

theorem ld12 (f : S1024.Idx → F .f32) (hf : σ cc0_scratch12 = f) (q : ℕ) (hq : q < 64) (off : Fin 1 → ℕ) (ho : off = ![16 * q])
    {inb : ∀ a, off a + S16.size a ≤ S1024.size a}
    {h : (Memref.whole cc0_scratch12 : Memref sig .scVector _ _ _).view.LoadsAt (Rect.unit (s := S1024) off S16.size inb).toLoadRect}
    {k : ((Rect.unit (s := S1024) off S16.size inb).toLoadRect.shape.Idx → Elt F .f32) → Prog (TpuEff nD τ sig (Elt F) Λ₀ (pr i)) α}
    (hk : pwp scr (k (chk f q)) Q σ) :
    pwp (p := pr i) scr (Prog.lift (.load (Memref.whole cc0_scratch12) (Rect.unit (s := S1024) off S16.size inb).toLoadRect h) >>= k) Q σ := by
  refine step_load _ (mem_scr _ rfl) ?_
  have e : (Memref.whole cc0_scratch12 : Memref sig .scVector _ _ _).view.readAt (Elt F) (Rect.unit (s := S1024) off S16.size inb).toLoadRect
      (σ cc0_scratch12) = chk f q :=
    chk_ext _ q hq _ fun x => (rd_at cc0_scratch12 _ _ _ (σ cc0_scratch12) (ix1 x) (at16 q hq x) (lane_off _ ho x _ rfl)).trans (congrFun hf _)
  exact e ▸ hk

theorem ld13 (f : S1024.Idx → F .f32) (hf : σ cc0_scratch13 = f) (q : ℕ) (hq : q < 64) (off : Fin 1 → ℕ) (ho : off = ![16 * q])
    {inb : ∀ a, off a + S16.size a ≤ S1024.size a}
    {h : (Memref.whole cc0_scratch13 : Memref sig .scVector _ _ _).view.LoadsAt (Rect.unit (s := S1024) off S16.size inb).toLoadRect}
    {k : ((Rect.unit (s := S1024) off S16.size inb).toLoadRect.shape.Idx → Elt F .f32) → Prog (TpuEff nD τ sig (Elt F) Λ₀ (pr i)) α}
    (hk : pwp scr (k (chk f q)) Q σ) :
    pwp (p := pr i) scr (Prog.lift (.load (Memref.whole cc0_scratch13) (Rect.unit (s := S1024) off S16.size inb).toLoadRect h) >>= k) Q σ := by
  refine step_load _ (mem_scr _ rfl) ?_
  have e : (Memref.whole cc0_scratch13 : Memref sig .scVector _ _ _).view.readAt (Elt F) (Rect.unit (s := S1024) off S16.size inb).toLoadRect
      (σ cc0_scratch13) = chk f q :=
    chk_ext _ q hq _ fun x => (rd_at cc0_scratch13 _ _ _ (σ cc0_scratch13) (ix1 x) (at16 q hq x) (lane_off _ ho x _ rfl)).trans (congrFun hf _)
  exact e ▸ hk

theorem ld14 (f : S1024.Idx → F .f32) (hf : σ cc0_scratch14 = f) (q : ℕ) (hq : q < 64) (off : Fin 1 → ℕ) (ho : off = ![16 * q])
    {inb : ∀ a, off a + S16.size a ≤ S1024.size a}
    {h : (Memref.whole cc0_scratch14 : Memref sig .scVector _ _ _).view.LoadsAt (Rect.unit (s := S1024) off S16.size inb).toLoadRect}
    {k : ((Rect.unit (s := S1024) off S16.size inb).toLoadRect.shape.Idx → Elt F .f32) → Prog (TpuEff nD τ sig (Elt F) Λ₀ (pr i)) α}
    (hk : pwp scr (k (chk f q)) Q σ) :
    pwp (p := pr i) scr (Prog.lift (.load (Memref.whole cc0_scratch14) (Rect.unit (s := S1024) off S16.size inb).toLoadRect h) >>= k) Q σ := by
  refine step_load _ (mem_scr _ rfl) ?_
  have e : (Memref.whole cc0_scratch14 : Memref sig .scVector _ _ _).view.readAt (Elt F) (Rect.unit (s := S1024) off S16.size inb).toLoadRect
      (σ cc0_scratch14) = chk f q :=
    chk_ext _ q hq _ fun x => (rd_at cc0_scratch14 _ _ _ (σ cc0_scratch14) (ix1 x) (at16 q hq x) (lane_off _ ho x _ rfl)).trans (congrFun hf _)
  exact e ▸ hk

theorem ld15 (f : S1024.Idx → BitVec 32) (hf : σ cc0_scratch15 = f) (q : ℕ) (hq : q < 64) (off : Fin 1 → ℕ) (ho : off = ![16 * q])
    {inb : ∀ a, off a + S16.size a ≤ S1024.size a}
    {h : (Memref.whole cc0_scratch15 : Memref sig .scVector _ _ _).view.LoadsAt (Rect.unit (s := S1024) off S16.size inb).toLoadRect}
    {k : ((Rect.unit (s := S1024) off S16.size inb).toLoadRect.shape.Idx → Elt F .i32) → Prog (TpuEff nD τ sig (Elt F) Λ₀ (pr i)) α}
    (hk : pwp scr (k (chk f q)) Q σ) :
    pwp (p := pr i) scr (Prog.lift (.load (Memref.whole cc0_scratch15) (Rect.unit (s := S1024) off S16.size inb).toLoadRect h) >>= k) Q σ := by
  refine step_load _ (mem_scr _ rfl) ?_
  have e : (Memref.whole cc0_scratch15 : Memref sig .scVector _ _ _).view.readAt (Elt F) (Rect.unit (s := S1024) off S16.size inb).toLoadRect
      (σ cc0_scratch15) = chk f q :=
    chk_ext _ q hq _ fun x => (rd_at cc0_scratch15 _ _ _ (σ cc0_scratch15) (ix1 x) (at16 q hq x) (lane_off _ ho x _ rfl)).trans (congrFun hf _)
  exact e ▸ hk

theorem lx10 (f : S1024.Idx → F .f32) (hf : σ cc0_scratch10 = f) (w : BitVec 32) (g : S1024.Idx) (hw : w.toNat = (g 0).val)
    {h : ∀ a x, ((![broadcast S16 w] : Fin 1 → IVec S16 32) a x).toNat < S1024.size a} {hl : (Memref.whole cc0_scratch10 : Memref sig .scVector _ _ _).view.Loads}
    {k : Vec F S16 .f32 → Prog (TpuEff nD τ sig (Elt F) Λ₀ (pr i)) α} (hk : pwp scr (k (broadcast S16 (f g))) Q σ) :
    pwp (p := pr i) scr (SparseCore.vectorLoadIdx (Memref.whole cc0_scratch10) ![broadcast S16 w] h hl >>= k) Q σ := by
  refine step_loadIdx _ (mem_scr _ rfl) ?_
  have e : loadIdx ((Memref.whole cc0_scratch10 : Memref sig .scVector _ _ _).view.readAt (Elt F) (LoadRect.whole _) (σ cc0_scratch10))
      ![broadcast S16 w] h = broadcast S16 (f g) := by
    funext x
    refine (gat cc0_scratch10 (σ cc0_scratch10) _ h x g fun a => ?_).trans (congrFun hf g)
    match a with | ⟨0, _⟩ => exact hw.symm
  exact e ▸ hk

theorem lx11 (f : S1024.Idx → F .f32) (hf : σ cc0_scratch11 = f) (w : BitVec 32) (g : S1024.Idx) (hw : w.toNat = (g 0).val)
    {h : ∀ a x, ((![broadcast S16 w] : Fin 1 → IVec S16 32) a x).toNat < S1024.size a} {hl : (Memref.whole cc0_scratch11 : Memref sig .scVector _ _ _).view.Loads}
    {k : Vec F S16 .f32 → Prog (TpuEff nD τ sig (Elt F) Λ₀ (pr i)) α} (hk : pwp scr (k (broadcast S16 (f g))) Q σ) :
    pwp (p := pr i) scr (SparseCore.vectorLoadIdx (Memref.whole cc0_scratch11) ![broadcast S16 w] h hl >>= k) Q σ := by
  refine step_loadIdx _ (mem_scr _ rfl) ?_
  have e : loadIdx ((Memref.whole cc0_scratch11 : Memref sig .scVector _ _ _).view.readAt (Elt F) (LoadRect.whole _) (σ cc0_scratch11))
      ![broadcast S16 w] h = broadcast S16 (f g) := by
    funext x
    refine (gat cc0_scratch11 (σ cc0_scratch11) _ h x g fun a => ?_).trans (congrFun hf g)
    match a with | ⟨0, _⟩ => exact hw.symm
  exact e ▸ hk

theorem lx12 (f : S1024.Idx → F .f32) (hf : σ cc0_scratch12 = f) (w : BitVec 32) (g : S1024.Idx) (hw : w.toNat = (g 0).val)
    {h : ∀ a x, ((![broadcast S16 w] : Fin 1 → IVec S16 32) a x).toNat < S1024.size a} {hl : (Memref.whole cc0_scratch12 : Memref sig .scVector _ _ _).view.Loads}
    {k : Vec F S16 .f32 → Prog (TpuEff nD τ sig (Elt F) Λ₀ (pr i)) α} (hk : pwp scr (k (broadcast S16 (f g))) Q σ) :
    pwp (p := pr i) scr (SparseCore.vectorLoadIdx (Memref.whole cc0_scratch12) ![broadcast S16 w] h hl >>= k) Q σ := by
  refine step_loadIdx _ (mem_scr _ rfl) ?_
  have e : loadIdx ((Memref.whole cc0_scratch12 : Memref sig .scVector _ _ _).view.readAt (Elt F) (LoadRect.whole _) (σ cc0_scratch12))
      ![broadcast S16 w] h = broadcast S16 (f g) := by
    funext x
    refine (gat cc0_scratch12 (σ cc0_scratch12) _ h x g fun a => ?_).trans (congrFun hf g)
    match a with | ⟨0, _⟩ => exact hw.symm
  exact e ▸ hk

theorem lx13 (f : S1024.Idx → F .f32) (hf : σ cc0_scratch13 = f) (w : BitVec 32) (g : S1024.Idx) (hw : w.toNat = (g 0).val)
    {h : ∀ a x, ((![broadcast S16 w] : Fin 1 → IVec S16 32) a x).toNat < S1024.size a} {hl : (Memref.whole cc0_scratch13 : Memref sig .scVector _ _ _).view.Loads}
    {k : Vec F S16 .f32 → Prog (TpuEff nD τ sig (Elt F) Λ₀ (pr i)) α} (hk : pwp scr (k (broadcast S16 (f g))) Q σ) :
    pwp (p := pr i) scr (SparseCore.vectorLoadIdx (Memref.whole cc0_scratch13) ![broadcast S16 w] h hl >>= k) Q σ := by
  refine step_loadIdx _ (mem_scr _ rfl) ?_
  have e : loadIdx ((Memref.whole cc0_scratch13 : Memref sig .scVector _ _ _).view.readAt (Elt F) (LoadRect.whole _) (σ cc0_scratch13))
      ![broadcast S16 w] h = broadcast S16 (f g) := by
    funext x
    refine (gat cc0_scratch13 (σ cc0_scratch13) _ h x g fun a => ?_).trans (congrFun hf g)
    match a with | ⟨0, _⟩ => exact hw.symm
  exact e ▸ hk

theorem lx14 (f : S1024.Idx → F .f32) (hf : σ cc0_scratch14 = f) (w : BitVec 32) (g : S1024.Idx) (hw : w.toNat = (g 0).val)
    {h : ∀ a x, ((![broadcast S16 w] : Fin 1 → IVec S16 32) a x).toNat < S1024.size a} {hl : (Memref.whole cc0_scratch14 : Memref sig .scVector _ _ _).view.Loads}
    {k : Vec F S16 .f32 → Prog (TpuEff nD τ sig (Elt F) Λ₀ (pr i)) α} (hk : pwp scr (k (broadcast S16 (f g))) Q σ) :
    pwp (p := pr i) scr (SparseCore.vectorLoadIdx (Memref.whole cc0_scratch14) ![broadcast S16 w] h hl >>= k) Q σ := by
  refine step_loadIdx _ (mem_scr _ rfl) ?_
  have e : loadIdx ((Memref.whole cc0_scratch14 : Memref sig .scVector _ _ _).view.readAt (Elt F) (LoadRect.whole _) (σ cc0_scratch14))
      ![broadcast S16 w] h = broadcast S16 (f g) := by
    funext x
    refine (gat cc0_scratch14 (σ cc0_scratch14) _ h x g fun a => ?_).trans (congrFun hf g)
    match a with | ⟨0, _⟩ => exact hw.symm
  exact e ▸ hk

theorem lx16 (N : ℕ) (c : Fin 96) (hf : σ cc0_scratch16 (ix1 c) = BitVec.ofNat 32 N) (v : IVec S16 32) (hv : ∀ x, v x = BitVec.ofNat 32 c.val)
    {h : ∀ a x, ((![v] : Fin 1 → IVec S16 32) a x).toNat < S96.size a} {hl : (Memref.whole cc0_scratch16 : Memref sig .scVector _ _ _).view.Loads}
    {k : Vec F S16 .i32 → Prog (TpuEff nD τ sig (Elt F) Λ₀ (pr i)) α} (hk : pwp scr (k (broadcast S16 (BitVec.ofNat 32 N))) Q σ) :
    pwp (p := pr i) scr (SparseCore.vectorLoadIdx (Memref.whole cc0_scratch16) ![v] h hl >>= k) Q σ := by
  refine step_loadIdx _ (mem_scr _ rfl) ?_
  have e : loadIdx ((Memref.whole cc0_scratch16 : Memref sig .scVector _ _ _).view.readAt (Elt F) (LoadRect.whole _) (σ cc0_scratch16))
      ![v] h = broadcast S16 (BitVec.ofNat 32 N) := by
    funext x
    refine (gat cc0_scratch16 (σ cc0_scratch16) _ h x (ix1 c) fun a => ?_).trans hf
    match a with
    | ⟨0, _⟩ =>
      show c.val = (v x).toNat
      rw [hv x, toNat_small _ (by omega)]
  exact e ▸ hk

theorem lx17 (N : ℕ) (c : Fin 96) (hf : σ cc0_scratch17 (ix1 c) = BitVec.ofNat 32 N) (v : IVec S16 32) (hv : ∀ x, v x = BitVec.ofNat 32 c.val)
    {h : ∀ a x, ((![v] : Fin 1 → IVec S16 32) a x).toNat < S96.size a} {hl : (Memref.whole cc0_scratch17 : Memref sig .scVector _ _ _).view.Loads}
    {k : Vec F S16 .i32 → Prog (TpuEff nD τ sig (Elt F) Λ₀ (pr i)) α} (hk : pwp scr (k (broadcast S16 (BitVec.ofNat 32 N))) Q σ) :
    pwp (p := pr i) scr (SparseCore.vectorLoadIdx (Memref.whole cc0_scratch17) ![v] h hl >>= k) Q σ := by
  refine step_loadIdx _ (mem_scr _ rfl) ?_
  have e : loadIdx ((Memref.whole cc0_scratch17 : Memref sig .scVector _ _ _).view.readAt (Elt F) (LoadRect.whole _) (σ cc0_scratch17))
      ![v] h = broadcast S16 (BitVec.ofNat 32 N) := by
    funext x
    refine (gat cc0_scratch17 (σ cc0_scratch17) _ h x (ix1 c) fun a => ?_).trans hf
    match a with
    | ⟨0, _⟩ =>
      show c.val = (v x).toNat
      rw [hv x, toNat_small _ (by omega)]
  exact e ▸ hk

/-- A chunk's scores stored. -/
theorem st9 {D : Items F} {s s' : S1024.Idx → F .f32} {o : S1600.Idx → F .f32} (hA : At D s o σ) (q : ℕ) (hq : q < 64) (off : Fin 1 → ℕ)
    (ho : off = ![16 * q]) {inb : ∀ a, off a + S16.size a ≤ S1024.size a} {w : S16.Idx → F .f32}
    {h : ((Memref.whole cc0_scratch9 : Memref sig .scVector _ _ _).access (Rect.unit (s := S1024) off S16.size inb)).Stores Finset.univ}
    {hm : (Finset.univ : Finset (Rect.unit (s := S1024) off S16.size inb).shape.Idx) = Finset.univ ∨
      ∀ a, (Rect.unit (s := S1024) off S16.size inb).stride a = 1}
    {k : PUnit → Prog (TpuEff nD τ sig (Elt F) Λ₀ (pr i)) α} (hw : ∀ x : Fin 16, s' (at16 q hq x) = w (ix1 x))
    (hs : ∀ p : S1024.Idx, (p 0).val / 16 ≠ q → s' p = s p) (hk : ∀ σ', At D s' o σ' → pwp scr (k ⟨⟩) Q σ') :
    pwp (p := pr i) scr (Prog.lift (.store (Memref.whole cc0_scratch9) (Rect.unit (s := S1024) off S16.size inb) w Finset.univ h hm) >>= k) Q σ := by
  refine step_store _ (mem_scr _ rfl) fun σ1 (f1 : ∀ b, b ≠ cc0_scratch9 → σ1 b = σ b) e1 => hk σ1 (hA.sc f1 (e1.trans ?_))
  funext p
  obtain ⟨t, ht, x, hp, hpv⟩ := eq_at16 p
  by_cases hc : (p 0).val / 16 = q
  · have htq : t = q := by omega
    subst htq
    rw [hp, hw x]
    exact wr_hit cc0_scratch9 _ _ _ (σ cc0_scratch9) _ (ix1 x) (at16 t ht x) (lane_off _ ho x _ rfl)
  · rw [hs p hc, ← hA.e9]
    exact wr_miss cc0_scratch9 _ _ _ (σ cc0_scratch9) _ p (lane_out _ ho p (by omega))

/-- A row stored. -/
theorem st21 {D : Items F} {s : S1024.Idx → F .f32} {o : S1600.Idx → F .f32} (hA : At D s o σ) (q : ℕ) (off : Fin 1 → ℕ)
    (ho : off = ![16 * q]) {inb : ∀ a, off a + S16.size a ≤ S1600.size a} {w : S16.Idx → F .f32}
    {h : ((Memref.whole cc0_scratch21 : Memref sig .scVector _ _ _).access (Rect.unit (s := S1600) off S16.size inb)).Stores Finset.univ}
    {hm : (Finset.univ : Finset (Rect.unit (s := S1600) off S16.size inb).shape.Idx) = Finset.univ ∨
      ∀ a, (Rect.unit (s := S1600) off S16.size inb).stride a = 1}
    {k : PUnit → Prog (TpuEff nD τ sig (Elt F) Λ₀ (pr i)) α} (hk : ∀ σ', At D s (putRow q w o) σ' → pwp scr (k ⟨⟩) Q σ') :
    pwp (p := pr i) scr (Prog.lift (.store (Memref.whole cc0_scratch21) (Rect.unit (s := S1600) off S16.size inb) w Finset.univ h hm) >>= k) Q σ := by
  refine step_store _ (mem_scr _ rfl) fun σ1 (f1 : ∀ b, b ≠ cc0_scratch21 → σ1 b = σ b) e1 => hk σ1 (hA.rows f1 (e1.trans ?_))
  funext y
  unfold putRow
  by_cases hc : (y 0).val / 16 = q
  · rw [if_pos hc]
    exact wr_hit cc0_scratch21 _ _ _ (σ cc0_scratch21) _ (ix1 ⟨(y 0).val % 16, Nat.mod_lt _ (by omega)⟩) y
      (lane_off _ ho _ _ (by show (y 0).val = 16 * q + (y 0).val % 16; omega))
  · rw [if_neg hc, ← hA.o]
    exact wr_miss cc0_scratch21 _ _ _ (σ cc0_scratch21) _ y (lane_out _ ho y (by omega))

end Acc

end Cert.Proof.Step
-- ==== Proof.Loop.lean ====
/-
  The main loop's step, stretch by stretch.
-/
module

public import proofs.«01_k».proof.Proof.Step

@[expose] public section

noncomputable section

namespace Cert.Proof.Loop

open Cert.KernelIdeal Cert.KernelIdeal.Gen
open Idealize.ShloMosaic Idealize.ShloMosaic.ValueIdx Idealize.SL.Sem
open Cert.Proof.Pwp Cert.Proof.Lanes Cert.Proof.Counting Cert.Proof.Sort Cert.Proof.Words Cert.Proof.Step

variable {F : FTy → Type} [FloatOps F]
variable (i : grid0.Coords) (sm rs : DmaSems sig S_) (h1 : k0_cond1 i = 1#1)
variable (D : Items F) (kw : BitVec 32) (v198 : BitVec 1) (h2 : k0_cond2 kw v198 = 1#1)
variable (s : S1024.Idx → F .f32) (o : S1600.Idx → F .f32) {σ : H F}

theorem inb16 {m q : ℕ} (off : Fin 1 → ℕ) (ho : off = ![16 * q]) (h : 16 * q + 16 ≤ m) :
    ∀ a, off a + S16.size a ≤ (⟨1, ![m]⟩ : Shape).size a := by
  intro a
  match a with | ⟨0, _⟩ => rw [ho]; exact h

/-- The pick's word. -/
theorem pick_word : Scalar.addi (Scalar.muli (clipW (pickQ D s)) 16#32) (pickL D s) = BitVec.ofNat 32 ((pick D s) 0).val := by
  have e1 : clipW (pickQ D s) = BitVec.ofNat 32 (pickC D s) := by
    unfold pickC
    rw [BitVec.ofNat_toNat, BitVec.setWidth_eq]
  have e2 : pickL D s = BitVec.ofNat 32 (pickL D s).toNat := by
    rw [BitVec.ofNat_toNat, BitVec.setWidth_eq]
  rw [e1, mul16]
  conv_lhs => rw [e2]
  exact (BitVec.ofNat_add _ _).symm

theorem part6_k {Q : (Σ' (_ : BitVec 32) (_ : IVec S16 32), IVec S16 32) → H F → Prop}
    (hk : Q ⟨tieG D s, k0_pay15 lanes (gmx s) (quarter (tcA s) 0) (quarter (tcA s) 1) (quarter (tcA s) 2) (quarter (tcA s) 3)
      (quarter (ttA s (nbr D)) 0) (quarter (ttA s (nbr D)) 1) (quarter (ttA s (nbr D)) 2) (quarter (ttA s (nbr D)) 3),
      k0_pay16 lanes (gmx s) (quarter (tcA s) 0) (quarter (tcA s) 1) (quarter (tcA s) 2) (quarter (tcA s) 3)
      (quarter (ttA s (nbr D)) 0) (quarter (ttA s (nbr D)) 1) (quarter (ttA s (nbr D)) 2) (quarter (ttA s (nbr D)) 3)⟩ σ) :
    pwp (p := pr i) scr (k0_part6 (F := F) i
      (Memref.whole main_v2_scv) (Memref.isWhole_whole _) (Memref.whole main_v7_scv) (Memref.isWhole_whole _) (Memref.whole
      main_v12_scv) (Memref.isWhole_whole _) (Memref.whole main_v17_scv) (Memref.isWhole_whole _) (Memref.whole main_v22_scv)
      (Memref.isWhole_whole _) (Memref.whole main_v26_scv) (Memref.isWhole_whole _) (Memref.whole main_v27_scv) (Memref.isWhole_whole _)
      (Memref.whole cc0_scratch0) (Memref.isWhole_whole _) (Memref.whole cc0_scratch1) (Memref.isWhole_whole _) (Memref.whole
      cc0_scratch2) (Memref.isWhole_whole _) (Memref.whole cc0_scratch3) (Memref.isWhole_whole _) (Memref.whole cc0_scratch4)
      (Memref.isWhole_whole _) (Memref.whole cc0_scratch5) (Memref.isWhole_whole _) (Memref.whole cc0_scratch6) (Memref.isWhole_whole _)
      (Memref.whole cc0_scratch7) (Memref.isWhole_whole _) (Memref.whole cc0_scratch8) (Memref.isWhole_whole _) (Memref.whole
      cc0_scratch9) (Memref.isWhole_whole _) (Memref.whole cc0_scratch10) (Memref.isWhole_whole _) (Memref.whole cc0_scratch11)
      (Memref.isWhole_whole _) (Memref.whole cc0_scratch12) (Memref.isWhole_whole _) (Memref.whole cc0_scratch13) (Memref.isWhole_whole
      _) (Memref.whole cc0_scratch14) (Memref.isWhole_whole _) (Memref.whole cc0_scratch15) (Memref.isWhole_whole _) (Memref.whole
      cc0_scratch16) (Memref.isWhole_whole _) (Memref.whole cc0_scratch17) (Memref.isWhole_whole _) (Memref.whole cc0_scratch18)
      (Memref.isWhole_whole _) (Memref.whole cc0_scratch19) (Memref.isWhole_whole _) (Memref.whole cc0_scratch20) (Memref.isWhole_whole
      _) (Memref.whole cc0_scratch21) (Memref.isWhole_whole _) sm rs lanes (gmx s) (quarter (tcA s) 0) (quarter (tcA s) 1) (quarter (tcA
      s) 2) (quarter (tcA s) 3) (quarter (ttA s (nbr D)) 0) (quarter (ttA s (nbr D)) 1) (quarter (ttA s (nbr D)) 2) (quarter (ttA s (nbr
      D)) 3)) Q σ := by
  rw [k0_part6_eq_skeleton]
  unfold k0_part6_skel
  exact step_pure _ hk

set_option maxHeartbeats 1000000 in
theorem part7_k (hA : At D s o σ) {Q : _ → H F → Prop}
    (hk : ∀ w, w = BitVec.ofNat 32 ((pick D s) 0).val → ∀ hw6,
      Q ⟨w, broadcast S16 w, hw6, k0_pay19 lanes, broadcast S16 ((srt D).y1 (pick D s)), broadcast S16 ((srt D).x1 (pick D s)),
        broadcast S16 ((srt D).y2 (pick D s)), broadcast S16 ((srt D).x2 (pick D s)), broadcast S16 ((srt D).cl (pick D s)),
        gY1 D (pick D s), gX1 D (pick D s), gY2 D (pick D s), gX2 D (pick D s), gA D (pick D s), k0_pay26 lanes⟩ σ) :
    pwp (p := pr i) scr (k0_part7 (F := F) i
      (Memref.whole main_v2_scv) (Memref.isWhole_whole _) (Memref.whole main_v7_scv) (Memref.isWhole_whole _) (Memref.whole
      main_v12_scv) (Memref.isWhole_whole _) (Memref.whole main_v17_scv) (Memref.isWhole_whole _) (Memref.whole main_v22_scv)
      (Memref.isWhole_whole _) (Memref.whole main_v26_scv) (Memref.isWhole_whole _) (Memref.whole main_v27_scv) (Memref.isWhole_whole _)
      (Memref.whole cc0_scratch0) (Memref.isWhole_whole _) (Memref.whole cc0_scratch1) (Memref.isWhole_whole _) (Memref.whole
      cc0_scratch2) (Memref.isWhole_whole _) (Memref.whole cc0_scratch3) (Memref.isWhole_whole _) (Memref.whole cc0_scratch4)
      (Memref.isWhole_whole _) (Memref.whole cc0_scratch5) (Memref.isWhole_whole _) (Memref.whole cc0_scratch6) (Memref.isWhole_whole _)
      (Memref.whole cc0_scratch7) (Memref.isWhole_whole _) (Memref.whole cc0_scratch8) (Memref.isWhole_whole _) (Memref.whole
      cc0_scratch9) (Memref.isWhole_whole _) (Memref.whole cc0_scratch10) (Memref.isWhole_whole _) (Memref.whole cc0_scratch11)
      (Memref.isWhole_whole _) (Memref.whole cc0_scratch12) (Memref.isWhole_whole _) (Memref.whole cc0_scratch13) (Memref.isWhole_whole
      _) (Memref.whole cc0_scratch14) (Memref.isWhole_whole _) (Memref.whole cc0_scratch15) (Memref.isWhole_whole _) (Memref.whole
      cc0_scratch16) (Memref.isWhole_whole _) (Memref.whole cc0_scratch17) (Memref.isWhole_whole _) (Memref.whole cc0_scratch18)
      (Memref.isWhole_whole _) (Memref.whole cc0_scratch19) (Memref.isWhole_whole _) (Memref.whole cc0_scratch20) (Memref.isWhole_whole
      _) (Memref.whole cc0_scratch21) (Memref.isWhole_whole _) sm rs h1 lanes kw (gmx s) v198 h2 (tieG D s)
      (k0_pay15 lanes (gmx s) (quarter (tcA s) 0) (quarter (tcA s) 1) (quarter (tcA s) 2) (quarter (tcA s) 3)
      (quarter (ttA s (nbr D)) 0) (quarter (ttA s (nbr D)) 1) (quarter (ttA s (nbr D)) 2) (quarter (ttA s (nbr D)) 3))
      (k0_pay16 lanes (gmx s) (quarter (tcA s) 0) (quarter (tcA s) 1) (quarter (tcA s) 2) (quarter (tcA s) 3)
      (quarter (ttA s (nbr D)) 0) (quarter (ttA s (nbr D)) 1) (quarter (ttA s (nbr D)) 2) (quarter (ttA s (nbr D)) 3))) Q σ := by
  rw [k0_part7_eq_skeleton]
  unfold k0_part7_skel
  have hc := pickC_lt D s
  refine step_assume _ (fun _ _ => inb16 _ (off7_eq _) (by have := clip_le (pickQ D s); unfold pickQ at this; omega)) ?_
  refine ld9 i s hA.e9 (pickC D s) hc _ (off7_eq _) ?_
  refine ld15 i (nbr D) hA.e15 (pickC D s) hc _ (off7_eq _) ?_
  have hw := pick_word D s
  have hg : ((pick D s) 0).val < 1024 := ((pick D s) 0).isLt
  have hn : (Scalar.addi (Scalar.muli (clipW (pickQ D s)) 16#32) (pickL D s)).toNat = ((pick D s) 0).val := by
    rw [hw, toNat_small _ (by omega)]
  have hlt : ∀ a x, ((![broadcast S16 (Scalar.addi (Scalar.muli (clipW (pickQ D s)) 16#32) (pickL D s))] : Fin 1 → IVec S16 32) a x).toNat
      < S1024.size a := by
    intro a x
    match a with | ⟨0, _⟩ => exact hn.trans_lt hg
  refine step_assume _ ⟨fun _ _ => hlt, fun _ _ => hlt, fun _ _ => hlt, fun _ _ => hlt, fun _ _ => hlt, fun _ _ => hlt⟩ ?_
  refine lx10 i _ hA.e10 _ (pick D s) hn ?_
  refine lx11 i _ hA.e11 _ (pick D s) hn ?_
  refine lx12 i _ hA.e12 _ (pick D s) hn ?_
  refine lx13 i _ hA.e13 _ (pick D s) hn ?_
  refine lx14 i _ hA.e14 _ (pick D s) hn ?_
  exact step_pure _ (hk _ hw _)

theorem class_word (hd : ∀ j, cl D.cl j < 96) (g : S1024.Idx) (x : S16.Idx) :
    k0_pay28 (F := F) (broadcast S16 ((srt D).cl g)) x = BitVec.ofNat 32 (cp D g) := by
  have H : ∀ c : Fin 96, IntOp.minsi 95#32 (IntOp.maxsi 0#32 (BitVec.ofNat 32 c.val)) = BitVec.ofNat 32 c.val := by decide
  have e : FloatOps.fptosi 32 ((srt D).cl g) = BitVec.ofNat 32 (cp D g) := by
    have e1 : BitVec.ofNat 32 (cp D g) = cw D.cl ((item (cl D.cl) g) 0).val := by
      show BitVec.ofNat 32 (cw D.cl ((item (cl D.cl) g) 0).val).toNat = _
      rw [BitVec.ofNat_toNat, BitVec.setWidth_eq]
    rw [e1]
    unfold cw
    rw [dif_pos (show ((item (cl D.cl) g) 0).val < 1024 from ((item (cl D.cl) g) 0).isLt)]
    exact congrArg (fun y => FloatOps.fptosi 32 (D.cl y)) (eq_ix1 (item (cl D.cl) g))
  show IntOp.minsi 95#32 (IntOp.maxsi 0#32 (FloatOps.fptosi 32 ((srt D).cl g))) = _
  rw [e]
  exact H ⟨cp D g, hd _⟩

/-- A class's bounds. -/
theorem base_lt (g : S1024.Idx) : base (cl D.cl) 1024 (cp D g) < 1024 := by
  have h := (seg D g (cp D g)).2 rfl
  have hg : (g 0).val < 1024 := (g 0).isLt
  omega

theorem end_le (g : S1024.Idx) : base (cl D.cl) 1024 (cp D g) + cnt (cl D.cl) 1024 (cp D g) ≤ 1024 := by
  have := base_le (cl D.cl) 1024 (cp D g + 1)
  rwa [base_succ] at this

theorem max_same (n : ℕ) (hn : n ≤ 1024) :
    extractAt ![15] (xori (scan .max (xori (broadcast S16 (BitVec.ofNat 32 n)) (broadcast S16 2147483648#32))) (broadcast S16 2147483648#32))
      inpos_S16_p15 = BitVec.ofNat 32 n :=
  max_last _ (fun _ => n) (fun _ => rfl) (fun _ _ => hn) (fun _ _ => le_rfl)

set_option maxHeartbeats 1000000 in
theorem part8_k (hd : ∀ j, cl D.cl j < 96) (hA : At D s o σ) (k : ℕ) (hkw : kw = BitVec.ofNat 32 k) (hk100 : k < 100) (hw7) {Q : _ → H F → Prop}
    (hk : ∀ σ', At D s (putRow k (rowV D s) o) σ' → ∀ a, a = BitVec.ofNat 32 (base (cl D.cl) 1024 (cp D (pick D s))) → ∀ hw9 n,
      n = BitVec.ofNat 32 (cnt (cl D.cl) 1024 (cp D (pick D s))) → ∀ hw10, Q ⟨a, hw9, n, hw10, Scalar.addi a n, k0_pay31⟩ σ') :
    pwp (p := pr i) scr (k0_part8 (F := F) i
      (Memref.whole main_v2_scv) (Memref.isWhole_whole _) (Memref.whole main_v7_scv) (Memref.isWhole_whole _) (Memref.whole
      main_v12_scv) (Memref.isWhole_whole _) (Memref.whole main_v17_scv) (Memref.isWhole_whole _) (Memref.whole main_v22_scv)
      (Memref.isWhole_whole _) (Memref.whole main_v26_scv) (Memref.isWhole_whole _) (Memref.whole main_v27_scv) (Memref.isWhole_whole _)
      (Memref.whole cc0_scratch0) (Memref.isWhole_whole _) (Memref.whole cc0_scratch1) (Memref.isWhole_whole _) (Memref.whole
      cc0_scratch2) (Memref.isWhole_whole _) (Memref.whole cc0_scratch3) (Memref.isWhole_whole _) (Memref.whole cc0_scratch4)
      (Memref.isWhole_whole _) (Memref.whole cc0_scratch5) (Memref.isWhole_whole _) (Memref.whole cc0_scratch6) (Memref.isWhole_whole _)
      (Memref.whole cc0_scratch7) (Memref.isWhole_whole _) (Memref.whole cc0_scratch8) (Memref.isWhole_whole _) (Memref.whole
      cc0_scratch9) (Memref.isWhole_whole _) (Memref.whole cc0_scratch10) (Memref.isWhole_whole _) (Memref.whole cc0_scratch11)
      (Memref.isWhole_whole _) (Memref.whole cc0_scratch12) (Memref.isWhole_whole _) (Memref.whole cc0_scratch13) (Memref.isWhole_whole
      _) (Memref.whole cc0_scratch14) (Memref.isWhole_whole _) (Memref.whole cc0_scratch15) (Memref.isWhole_whole _) (Memref.whole
      cc0_scratch16) (Memref.isWhole_whole _) (Memref.whole cc0_scratch17) (Memref.isWhole_whole _) (Memref.whole cc0_scratch18)
      (Memref.isWhole_whole _) (Memref.whole cc0_scratch19) (Memref.isWhole_whole _) (Memref.whole cc0_scratch20) (Memref.isWhole_whole
      _) (Memref.whole cc0_scratch21) (Memref.isWhole_whole _) sm rs h1 lanes kw (gmx s) v198 hw7 h2
      (broadcast S16 ((srt D).y1 (pick D s))) (broadcast S16 ((srt D).x1 (pick D s)))
      (broadcast S16 ((srt D).y2 (pick D s))) (broadcast S16 ((srt D).x2 (pick D s))) (broadcast S16 ((srt D).cl (pick D s)))
      (k0_pay26 lanes)) Q σ := by
  rw [k0_part8_eq_skeleton]
  unfold k0_part8_skel
  have hb := base_lt D (pick D s)
  have he := end_le D (pick D s)
  have hcl : ∀ x, k0_pay28 (F := F) (broadcast S16 ((srt D).cl (pick D s))) x = BitVec.ofNat 32 (cp D (pick D s)) := class_word D hd (pick D s)
  have ho8 : k0_off8 kw = ![16 * k] := by rw [hkw]; exact off8_eq k hk100
  refine step_load _ ?hB ?_; case hB => exact mem_scr _ rfl
  refine st21 i hA k _ ho8 fun σ1 hA1 => ?_
  have hlt : ∀ a x, ((![k0_pay28 (F := F) (broadcast S16 ((srt D).cl (pick D s)))] : Fin 1 → IVec S16 32) a x).toNat < S96.size a := by
    intro a x
    match a with
    | ⟨0, _⟩ =>
      refine (congrArg BitVec.toNat (hcl x)).trans_lt ?_
      have := hd (((item (cl D.cl) (pick D s)) 0).val)
      rw [toNat_small _ (by unfold cp; omega)]
      exact this
  refine step_assume _ ⟨fun _ _ => hlt, fun _ _ => hlt⟩ ?_
  refine lx17 i _ ⟨cp D (pick D s), hd _⟩ (hA1.bs _) _ hcl ?_
  have ha := max_same _ hb.le
  have hn := max_same (cnt (cl D.cl) 1024 (cp D (pick D s))) (by omega)
  have hqa : k0_off9 (BitVec.ofNat 32 (base (cl D.cl) 1024 (cp D (pick D s)))) = ![16 * (base (cl D.cl) 1024 (cp D (pick D s)) / 16)] := off9_eq _ hb
  have hqb : k0_off10 (BitVec.ofNat 32 (base (cl D.cl) 1024 (cp D (pick D s)))) = ![16 * min (base (cl D.cl) 1024 (cp D (pick D s)) / 16 + 1) 63] := off10_eq _ hb
  refine step_assume _ ⟨fun _ _ => inb16 _ ((congrArg k0_off9 ha).trans hqa) (by omega), fun _ _ => inb16 _ ((congrArg k0_off10 ha).trans hqb) (by omega)⟩ ?_
  refine lx16 i _ ⟨cp D (pick D s), hd _⟩ (hA1.cn _) _ hcl ?_
  have hall : ∀ a n, a = BitVec.ofNat 32 (base (cl D.cl) 1024 (cp D (pick D s))) → n = BitVec.ofNat 32 (cnt (cl D.cl) 1024 (cp D (pick D s))) →
      k0_chk10 i kw v198 a n := by
    intro a n ea en
    subst ea en
    obtain ⟨e5, o5, e6, o6⟩ := loops_eq _ _ hb he
    refine ⟨fun _ _ => o5, fun t _ _ => ?_, fun _ _ => o6, fun t _ _ => ?_⟩
    · have htl := t.isLt
      refine inb16 _ (off11_eq _ _ hb t ?_) ?_ <;> omega
    · exact absurd t.isLt (by omega)
  refine step_assume _ (hall _ _ ha hn) ?_
  exact step_pure _ (hk σ1 hA1 _ ha _ _ hn _)

end Cert.Proof.Loop
-- ==== Proof.Loop2.lean ====
/-
  The main loop's step, stretch by stretch: the picked class's chunks.
-/
module

public import proofs.«01_k».proof.Proof.Loop

@[expose] public section

noncomputable section

namespace Cert.Proof.Loop

open Cert.KernelIdeal Cert.KernelIdeal.Gen
open Idealize.ShloMosaic Idealize.ShloMosaic.ValueIdx Idealize.SL.Sem
open Cert.Proof.Pwp Cert.Proof.Lanes Cert.Proof.Counting Cert.Proof.Sort Cert.Proof.Words Cert.Proof.Step

variable {F : FTy → Type} [FloatOps F]
variable (i : grid0.Coords) (sm rs : DmaSems sig S_) (h1 : k0_cond1 i = 1#1)
variable (D : Items F) (kw : BitVec 32) (v198 : BitVec 1) (h2 : k0_cond2 kw v198 = 1#1)
variable (g : S1024.Idx) (s : S1024.Idx → F .f32) (o : S1600.Idx → F .f32) {σ : H F}

theorem qa_lt : (base (cl D.cl) 1024 (cp D g) / 16) < 64 := by
  have := base_lt D g
  omega

theorem qb_lt : (min (base (cl D.cl) 1024 (cp D g) / 16 + 1) 63) < 64 := by omega

theorem mask19 : ∀ x : Fin 16, k0_pay19 lanes (ix1 x) = 1 ↔ x = 0 := lane0

set_option maxHeartbeats 1000000 in
/-- The picked place is taken away and its class's first chunk is read. -/
theorem part9_k (hA : At D s o σ) (hw6 hw9) {Q : _ → H F → Prop}
    (hk : ∀ σ', At D (mix D g s ∅) o σ' → Q ⟨firstW (BitVec.ofNat 32 (base (cl D.cl) 1024 (cp D g))), lastW (BitVec.add (BitVec.ofNat 32 (base (cl D.cl) 1024 (cp D g))) (BitVec.ofNat 32 (cnt (cl D.cl) 1024 (cp D g)))), Scalar.muli (firstW (BitVec.ofNat 32 (base (cl D.cl) 1024 (cp D g)))) 16#32, k0_pay32 lanes (BitVec.ofNat 32 (base (cl D.cl) 1024 (cp D g))), chk (mix D g s ∅) (base (cl D.cl) 1024 (cp D g) / 16),
      k0_pay33 (gY1 D g) (gX1 D g) (gY2 D g) (gX2 D g) (gA D g) (chk (srt D).cl (base (cl D.cl) 1024 (cp D g) / 16)) (chk (srt D).y1 (base (cl D.cl) 1024 (cp D g) / 16)) (chk (srt D).x1 (base (cl D.cl) 1024 (cp D g) / 16)) (chk (srt D).y2 (base (cl D.cl) 1024 (cp D g) / 16)) (chk (srt D).x2 (base (cl D.cl) 1024 (cp D g) / 16))⟩ σ') :
    pwp (p := pr i) scr (k0_part9 (F := F) i
      (Memref.whole main_v2_scv) (Memref.isWhole_whole _) (Memref.whole main_v7_scv) (Memref.isWhole_whole _) (Memref.whole
      main_v12_scv) (Memref.isWhole_whole _) (Memref.whole main_v17_scv) (Memref.isWhole_whole _) (Memref.whole main_v22_scv)
      (Memref.isWhole_whole _) (Memref.whole main_v26_scv) (Memref.isWhole_whole _) (Memref.whole main_v27_scv) (Memref.isWhole_whole _)
      (Memref.whole cc0_scratch0) (Memref.isWhole_whole _) (Memref.whole cc0_scratch1) (Memref.isWhole_whole _) (Memref.whole
      cc0_scratch2) (Memref.isWhole_whole _) (Memref.whole cc0_scratch3) (Memref.isWhole_whole _) (Memref.whole cc0_scratch4)
      (Memref.isWhole_whole _) (Memref.whole cc0_scratch5) (Memref.isWhole_whole _) (Memref.whole cc0_scratch6) (Memref.isWhole_whole _)
      (Memref.whole cc0_scratch7) (Memref.isWhole_whole _) (Memref.whole cc0_scratch8) (Memref.isWhole_whole _) (Memref.whole
      cc0_scratch9) (Memref.isWhole_whole _) (Memref.whole cc0_scratch10) (Memref.isWhole_whole _) (Memref.whole cc0_scratch11)
      (Memref.isWhole_whole _) (Memref.whole cc0_scratch12) (Memref.isWhole_whole _) (Memref.whole cc0_scratch13) (Memref.isWhole_whole
      _) (Memref.whole cc0_scratch14) (Memref.isWhole_whole _) (Memref.whole cc0_scratch15) (Memref.isWhole_whole _) (Memref.whole
      cc0_scratch16) (Memref.isWhole_whole _) (Memref.whole cc0_scratch17) (Memref.isWhole_whole _) (Memref.whole cc0_scratch18)
      (Memref.isWhole_whole _) (Memref.whole cc0_scratch19) (Memref.isWhole_whole _) (Memref.whole cc0_scratch20) (Memref.isWhole_whole
      _) (Memref.whole cc0_scratch21) (Memref.isWhole_whole _) sm rs h1 lanes kw v198 h2 (broadcast S16 (BitVec.ofNat 32 (g 0).val)) hw6
      (k0_pay19 lanes) (gY1 D g) (gX1 D g) (gY2 D g) (gX2 D g) (gA D g) (BitVec.ofNat 32 (base (cl D.cl) 1024 (cp D g))) hw9
      (Scalar.addi (BitVec.ofNat 32 (base (cl D.cl) 1024 (cp D g))) (BitVec.ofNat 32 (cnt (cl D.cl) 1024 (cp D g)))) k0_pay31) Q σ := by
  rw [k0_part9_eq_skeleton]
  unfold k0_part9_skel
  have hb := base_lt D g
  have ho := off9_eq _ hb
  have hq := qa_lt D g
  have hg : (g 0).val < 1024 := (g 0).isLt
  refine step_storeIdx _ ?hB fun σ1 (f1 : ∀ b, b ≠ cc0_scratch9 → σ1 b = σ b) e1 => ?_; case hB => exact mem_scr _ rfl
  have hA1 : At D (mix D g s ∅) o σ1 := by
    refine hA.sc f1 ?_
    rw [mix_empty]
    refine (e1.trans (whole_storeIdx cc0_scratch9 _ _ _ _ _ _)).trans (funext fun p => ?_)
    refine (store1 (F := F) (e := .f32) (n := 1024) (σ cc0_scratch9) _ _ _ _ mask19 ⟨(g 0).val, hg⟩ (toNat_small _ (by omega)) p).trans ?_
    unfold off1
    rw [hA.e9]
    rfl
  refine ld9 i _ hA1.e9 _ hq _ ho ?_
  refine ld14 i _ hA1.e14 _ hq _ ho ?_
  refine ld10 i _ hA1.e10 _ hq _ ho ?_
  refine ld11 i _ hA1.e11 _ hq _ ho ?_
  refine ld12 i _ hA1.e12 _ hq _ ho ?_
  refine ld13 i _ hA1.e13 _ hq _ ho ?_
  exact step_pure _ (hk σ1 hA1)

theorem pay34_eq : k0_pay34 (BitVec.ofNat 32 (g 0).val) (BitVec.ofNat 32 (base (cl D.cl) 1024 (cp D g))) (Scalar.addi (BitVec.ofNat 32 (base (cl D.cl) 1024 (cp D g))) (BitVec.ofNat 32 (cnt (cl D.cl) 1024 (cp D g)))) (k0_pay32 lanes (BitVec.ofNat 32 (base (cl D.cl) 1024 (cp D g)))) (chk (mix D g s ∅) (base (cl D.cl) 1024 (cp D g) / 16))
      (k0_pay33 (gY1 D g) (gX1 D g) (gY2 D g) (gX2 D g) (gA D g) (chk (srt D).cl (base (cl D.cl) 1024 (cp D g) / 16)) (chk (srt D).y1 (base (cl D.cl) 1024 (cp D g) / 16)) (chk (srt D).x1 (base (cl D.cl) 1024 (cp D g) / 16))
        (chk (srt D).y2 (base (cl D.cl) 1024 (cp D g) / 16)) (chk (srt D).x2 (base (cl D.cl) 1024 (cp D g) / 16))) = chk (nxt D g s) (base (cl D.cl) 1024 (cp D g) / 16) := by
  have h := killed_eq D g s ∅ _ (qa_lt D g)
  rw [← mul16, ← firstW_eq _ (base_lt D g)] at h
  exact h

/-- A chunk stored as done. -/
theorem mix_lane (d : Finset ℕ) (q : ℕ) (hq : q < 64) (x : Fin 16) : mix D g s (insert q d) (at16 q hq x) = chk (nxt D g s) q (ix1 x) := by
  rw [chk_at _ q hq, mix_insert, if_pos]
  show (16 * q + x.val) / 16 = q
  omega

theorem mix_other (d : Finset ℕ) (q : ℕ) (p : S1024.Idx) (h : (p 0).val / 16 ≠ q) : mix D g s (insert q d) p = mix D g s d p := by
  rw [mix_insert, if_neg h]

theorem part10_k (hA : At D (mix D g s ∅) o σ) (hw9) {Q : _ → H F → Prop}
    (hk : ∀ σ', At D (mix D g s (insert (base (cl D.cl) 1024 (cp D g) / 16) ∅)) o σ' → ∀ V, V = chk (nxt D g s) (base (cl D.cl) 1024 (cp D g) / 16) → ∀ m0 m1 m2 m3 m4 m5, k0_pay41 m0 m1 m2 m3 m4 m5 = k0_pay1 V →
      Q ⟨V, m0, m1, m2, m3, m4, m5⟩ σ') :
    pwp (p := pr i) scr (k0_part10 (F := F) i
      (Memref.whole main_v2_scv) (Memref.isWhole_whole _) (Memref.whole main_v7_scv) (Memref.isWhole_whole _) (Memref.whole
      main_v12_scv) (Memref.isWhole_whole _) (Memref.whole main_v17_scv) (Memref.isWhole_whole _) (Memref.whole main_v22_scv)
      (Memref.isWhole_whole _) (Memref.whole main_v26_scv) (Memref.isWhole_whole _) (Memref.whole main_v27_scv) (Memref.isWhole_whole _)
      (Memref.whole cc0_scratch0) (Memref.isWhole_whole _) (Memref.whole cc0_scratch1) (Memref.isWhole_whole _) (Memref.whole
      cc0_scratch2) (Memref.isWhole_whole _) (Memref.whole cc0_scratch3) (Memref.isWhole_whole _) (Memref.whole cc0_scratch4)
      (Memref.isWhole_whole _) (Memref.whole cc0_scratch5) (Memref.isWhole_whole _) (Memref.whole cc0_scratch6) (Memref.isWhole_whole _)
      (Memref.whole cc0_scratch7) (Memref.isWhole_whole _) (Memref.whole cc0_scratch8) (Memref.isWhole_whole _) (Memref.whole
      cc0_scratch9) (Memref.isWhole_whole _) (Memref.whole cc0_scratch10) (Memref.isWhole_whole _) (Memref.whole cc0_scratch11)
      (Memref.isWhole_whole _) (Memref.whole cc0_scratch12) (Memref.isWhole_whole _) (Memref.whole cc0_scratch13) (Memref.isWhole_whole
      _) (Memref.whole cc0_scratch14) (Memref.isWhole_whole _) (Memref.whole cc0_scratch15) (Memref.isWhole_whole _) (Memref.whole
      cc0_scratch16) (Memref.isWhole_whole _) (Memref.whole cc0_scratch17) (Memref.isWhole_whole _) (Memref.whole cc0_scratch18)
      (Memref.isWhole_whole _) (Memref.whole cc0_scratch19) (Memref.isWhole_whole _) (Memref.whole cc0_scratch20) (Memref.isWhole_whole
      _) (Memref.whole cc0_scratch21) (Memref.isWhole_whole _) sm rs h1 kw v198 h2 (BitVec.ofNat 32 (g 0).val) (BitVec.ofNat 32 (base
      (cl D.cl) 1024 (cp D g))) hw9 (Scalar.addi (BitVec.ofNat 32 (base (cl D.cl) 1024 (cp D g))) (BitVec.ofNat 32 (cnt (cl D.cl) 1024
      (cp D g)))) (Scalar.muli (firstW (BitVec.ofNat 32 (base (cl D.cl) 1024 (cp D g)))) 16#32) (k0_pay32 lanes (BitVec.ofNat 32 (base
      (cl D.cl) 1024 (cp D g)))) (chk (mix D g s ∅) (base (cl D.cl) 1024 (cp D g) / 16)) (k0_pay33 (gY1 D g) (gX1 D g) (gY2 D g) (gX2 D
      g) (gA D g) (chk (srt D).cl (base (cl D.cl) 1024 (cp D g) / 16)) (chk (srt D).y1 (base (cl D.cl) 1024 (cp D g) / 16)) (chk (srt
      D).x1 (base (cl D.cl) 1024 (cp D g) / 16)) (chk (srt D).y2 (base (cl D.cl) 1024 (cp D g) / 16)) (chk (srt D).x2 (base (cl D.cl)
      1024 (cp D g) / 16)))) Q σ := by
  rw [k0_part10_eq_skeleton]
  unfold k0_part10_skel
  have ho := off9_eq _ (base_lt D g)
  have hq := qa_lt D g
  refine ld9 i _ hA.e9 _ hq _ ho ?_
  refine st9 i hA _ hq _ ho (fun x => ?_) (mix_other D g s ∅ _) fun σ1 hA1 => ?_
  · rw [pay34_eq]
    exact mix_lane D g s ∅ _ hq x
  · exact step_pure _ (hk σ1 hA1 _ (pay34_eq D g s) _ _ _ _ _ _ rfl)

/-- The tables before and after the step. -/
abbrev tc (d : Finset ℕ) : S64.Idx → F .f32 := tabD (tcA s) (tcA (nxt D g s)) d
abbrev tt (d : Finset ℕ) : S64.Idx → BitVec 32 := tabD (ttA s (nbr D)) (ttA (nxt D g s) (nbr D)) d

set_option maxHeartbeats 1000000 in
theorem part11_k (hA : At D (mix D g s (insert (base (cl D.cl) 1024 (cp D g) / 16) ∅)) o σ) (hw9) (V : Vec F S16 .f32) (hV : V = chk (nxt D g s) (base (cl D.cl) 1024 (cp D g) / 16)) (m0 m1 m2 m3 m4 m5 : F .f32)
    (hm : k0_pay41 m0 m1 m2 m3 m4 m5 = k0_pay1 V) (v353 : BitVec 32) (c0 c1 c2 c3 : Vec F S16 .f32) (t0 t1 t2 t3 : IVec S16 32)
    (hR : Regs (tc D g s ∅) (tt D g s ∅) c0 c1 c2 c3 t0 t1 t2 t3) {Q : _ → H F → Prop}
    (hk : ∀ c0' c1' c2' c3' t0' t1' t2' t3', Regs (tc D g s (insert (base (cl D.cl) 1024 (cp D g) / 16) ∅)) (tt D g s (insert (base (cl D.cl) 1024 (cp D g) / 16) ∅)) c0' c1' c2' c3' t0' t1' t2' t3' →
      Q ⟨c0', c1', c2', c3', t0', t1', t2', t3', BitVec.ofNat 32 (min (base (cl D.cl) 1024 (cp D g) / 16 + 1) 63), Scalar.muli (BitVec.ofNat 32 (min (base (cl D.cl) 1024 (cp D g) / 16 + 1) 63)) 16#32,
        broadcast S16 (Scalar.muli (BitVec.ofNat 32 (min (base (cl D.cl) 1024 (cp D g) / 16 + 1) 63)) 16#32)⟩ σ) :
    pwp (p := pr i) scr (k0_part11 (F := F) i
      (Memref.whole main_v2_scv) (Memref.isWhole_whole _) (Memref.whole main_v7_scv) (Memref.isWhole_whole _) (Memref.whole
      main_v12_scv) (Memref.isWhole_whole _) (Memref.whole main_v17_scv) (Memref.isWhole_whole _) (Memref.whole main_v22_scv)
      (Memref.isWhole_whole _) (Memref.whole main_v26_scv) (Memref.isWhole_whole _) (Memref.whole main_v27_scv) (Memref.isWhole_whole _)
      (Memref.whole cc0_scratch0) (Memref.isWhole_whole _) (Memref.whole cc0_scratch1) (Memref.isWhole_whole _) (Memref.whole
      cc0_scratch2) (Memref.isWhole_whole _) (Memref.whole cc0_scratch3) (Memref.isWhole_whole _) (Memref.whole cc0_scratch4)
      (Memref.isWhole_whole _) (Memref.whole cc0_scratch5) (Memref.isWhole_whole _) (Memref.whole cc0_scratch6) (Memref.isWhole_whole _)
      (Memref.whole cc0_scratch7) (Memref.isWhole_whole _) (Memref.whole cc0_scratch8) (Memref.isWhole_whole _) (Memref.whole
      cc0_scratch9) (Memref.isWhole_whole _) (Memref.whole cc0_scratch10) (Memref.isWhole_whole _) (Memref.whole cc0_scratch11)
      (Memref.isWhole_whole _) (Memref.whole cc0_scratch12) (Memref.isWhole_whole _) (Memref.whole cc0_scratch13) (Memref.isWhole_whole
      _) (Memref.whole cc0_scratch14) (Memref.isWhole_whole _) (Memref.whole cc0_scratch15) (Memref.isWhole_whole _) (Memref.whole
      cc0_scratch16) (Memref.isWhole_whole _) (Memref.whole cc0_scratch17) (Memref.isWhole_whole _) (Memref.whole cc0_scratch18)
      (Memref.isWhole_whole _) (Memref.whole cc0_scratch19) (Memref.isWhole_whole _) (Memref.whole cc0_scratch20) (Memref.isWhole_whole
      _) (Memref.whole cc0_scratch21) (Memref.isWhole_whole _) sm rs h1 lanes kw c0 c1 c2 c3 t0 t1 t2 t3 v198 h2 (BitVec.ofNat 32 (base
      (cl D.cl) 1024 (cp D g))) hw9 (firstW (BitVec.ofNat 32 (base (cl D.cl) 1024 (cp D g)))) v353 V m0 m1 m2 m3 m4 m5) Q σ := by
  rw [k0_part11_eq_skeleton]
  unfold k0_part11_skel
  have ho := off9_eq _ (base_lt D g)
  have hq := qa_lt D g
  have hf := firstW_eq _ (base_lt D g)
  have hn : Scalar.minsi (Scalar.addi (firstW (BitVec.ofNat 32 (base (cl D.cl) 1024 (cp D g)))) 1#32) 63#32 = BitVec.ofNat 32 (min (base (cl D.cl) 1024 (cp D g) / 16 + 1) 63) := by
    rw [hf, nextW_eq _ hq]
  refine ld15 i _ hA.e15 _ hq _ ho ?_
  refine step_pure _ ?_
  have hR1 := hR.step (base (cl D.cl) 1024 (cp D g) / 16) hq (k0_pay1 V) (by rw [hV]; rfl) (tieW (k0_pay2 V (chk (nbr D) (base (cl D.cl) 1024 (cp D g) / 16)))) (by rw [hV]; rfl)
  rw [← hf, ← hm] at hR1
  have hR2 : Regs (tc D g s (insert (base (cl D.cl) 1024 (cp D g) / 16) ∅)) (tt D g s (insert (base (cl D.cl) 1024 (cp D g) / 16) ∅)) (k0_pay46 lanes c0 (firstW (BitVec.ofNat 32 (base (cl D.cl) 1024 (cp D g)))) m0 m1 m2 m3 m4 m5)
      (k0_pay47 lanes c1 (firstW (BitVec.ofNat 32 (base (cl D.cl) 1024 (cp D g)))) m0 m1 m2 m3 m4 m5) (k0_pay48 lanes c2 (firstW (BitVec.ofNat 32 (base (cl D.cl) 1024 (cp D g)))) m0 m1 m2 m3 m4 m5)
      (k0_pay49 lanes c3 (firstW (BitVec.ofNat 32 (base (cl D.cl) 1024 (cp D g)))) m0 m1 m2 m3 m4 m5)
      (k0_pay50 lanes t0 (firstW (BitVec.ofNat 32 (base (cl D.cl) 1024 (cp D g)))) V m0 m1 m2 m3 m4 m5 (chk (nbr D) (base (cl D.cl) 1024 (cp D g) / 16))) (k0_pay51 lanes t1 (firstW (BitVec.ofNat 32 (base (cl D.cl) 1024 (cp D g)))) V m0 m1 m2 m3 m4 m5 (chk (nbr D) (base (cl D.cl) 1024 (cp D g) / 16)))
      (k0_pay52 lanes t2 (firstW (BitVec.ofNat 32 (base (cl D.cl) 1024 (cp D g)))) V m0 m1 m2 m3 m4 m5 (chk (nbr D) (base (cl D.cl) 1024 (cp D g) / 16))) (k0_pay53 lanes t3 (firstW (BitVec.ofNat 32 (base (cl D.cl) 1024 (cp D g)))) V m0 m1 m2 m3 m4 m5 (chk (nbr D) (base (cl D.cl) 1024 (cp D g) / 16))) := by
    have hU : tieW (k0_pay2 V (chk (nbr D) (base (cl D.cl) 1024 (cp D g) / 16))) = tieW (select (cmpf .oeq V (broadcast S16 (k0_pay41 m0 m1 m2 m3 m4 m5))) (chk (nbr D) (base (cl D.cl) 1024 (cp D g) / 16)) (broadcast S16 1073741824#32)) := by
      rw [hm]
      rfl
    rw [hU] at hR1
    exact hR1
  have := hk _ _ _ _ _ _ _ _ hR2
  rw [← hn] at this
  exact this

set_option maxHeartbeats 1000000 in
theorem part12_k (hA : At D (mix D g s (insert (base (cl D.cl) 1024 (cp D g) / 16) ∅)) o σ) (hw9) {Q : _ → H F → Prop}
    (hk : ∀ σ', At D (mix D g s (insert (min (base (cl D.cl) 1024 (cp D g) / 16 + 1) 63) (insert (base (cl D.cl) 1024 (cp D g) / 16) ∅))) o σ' → Q (chk (nxt D g s) (min (base (cl D.cl) 1024 (cp D g) / 16 + 1) 63)) σ') :
    pwp (p := pr i) scr (k0_part12 (F := F) i
      (Memref.whole main_v2_scv) (Memref.isWhole_whole _) (Memref.whole main_v7_scv) (Memref.isWhole_whole _) (Memref.whole
      main_v12_scv) (Memref.isWhole_whole _) (Memref.whole main_v17_scv) (Memref.isWhole_whole _) (Memref.whole main_v22_scv)
      (Memref.isWhole_whole _) (Memref.whole main_v26_scv) (Memref.isWhole_whole _) (Memref.whole main_v27_scv) (Memref.isWhole_whole _)
      (Memref.whole cc0_scratch0) (Memref.isWhole_whole _) (Memref.whole cc0_scratch1) (Memref.isWhole_whole _) (Memref.whole
      cc0_scratch2) (Memref.isWhole_whole _) (Memref.whole cc0_scratch3) (Memref.isWhole_whole _) (Memref.whole cc0_scratch4)
      (Memref.isWhole_whole _) (Memref.whole cc0_scratch5) (Memref.isWhole_whole _) (Memref.whole cc0_scratch6) (Memref.isWhole_whole _)
      (Memref.whole cc0_scratch7) (Memref.isWhole_whole _) (Memref.whole cc0_scratch8) (Memref.isWhole_whole _) (Memref.whole
      cc0_scratch9) (Memref.isWhole_whole _) (Memref.whole cc0_scratch10) (Memref.isWhole_whole _) (Memref.whole cc0_scratch11)
      (Memref.isWhole_whole _) (Memref.whole cc0_scratch12) (Memref.isWhole_whole _) (Memref.whole cc0_scratch13) (Memref.isWhole_whole
      _) (Memref.whole cc0_scratch14) (Memref.isWhole_whole _) (Memref.whole cc0_scratch15) (Memref.isWhole_whole _) (Memref.whole
      cc0_scratch16) (Memref.isWhole_whole _) (Memref.whole cc0_scratch17) (Memref.isWhole_whole _) (Memref.whole cc0_scratch18)
      (Memref.isWhole_whole _) (Memref.whole cc0_scratch19) (Memref.isWhole_whole _) (Memref.whole cc0_scratch20) (Memref.isWhole_whole
      _) (Memref.whole cc0_scratch21) (Memref.isWhole_whole _) sm rs h1 lanes kw v198 h2 (BitVec.ofNat 32 (g 0).val) (gY1 D g) (gX1 D g)
      (gY2 D g) (gX2 D g) (gA D g) (BitVec.ofNat 32 (base (cl D.cl) 1024 (cp D g))) hw9 (Scalar.addi (BitVec.ofNat 32 (base (cl D.cl)
      1024 (cp D g))) (BitVec.ofNat 32 (cnt (cl D.cl) 1024 (cp D g)))) (Scalar.muli (BitVec.ofNat 32 (min (base (cl D.cl) 1024 (cp D g)
      / 16 + 1) 63)) 16#32) (broadcast S16 (Scalar.muli (BitVec.ofNat 32 (min (base (cl D.cl) 1024 (cp D g) / 16 + 1) 63)) 16#32))) Q σ
      := by
  rw [k0_part12_eq_skeleton]
  unfold k0_part12_skel
  have ho := off10_eq _ (base_lt D g)
  have hq := qb_lt D g
  have hv := killed_eq D g s (insert (base (cl D.cl) 1024 (cp D g) / 16) ∅) _ hq
  rw [← mul16] at hv
  refine ld9 i _ hA.e9 _ hq _ ho ?_
  refine ld14 i _ hA.e14 _ hq _ ho ?_
  refine ld10 i _ hA.e10 _ hq _ ho ?_
  refine ld11 i _ hA.e11 _ hq _ ho ?_
  refine ld12 i _ hA.e12 _ hq _ ho ?_
  refine ld13 i _ hA.e13 _ hq _ ho ?_
  refine ld9 i _ hA.e9 _ hq _ ho ?_
  refine st9 i hA _ hq _ ho (fun x => ?_) (mix_other D g s (insert (base (cl D.cl) 1024 (cp D g) / 16) ∅) _) fun σ1 hA1 => ?_
  · exact (mix_lane D g s (insert (base (cl D.cl) 1024 (cp D g) / 16) ∅) _ hq x).trans (congrFun hv (ix1 x)).symm
  · refine step_pure _ ?_
    have := hk σ1 hA1
    rw [← hv] at this
    exact this

theorem part13_k (hA : At D (mix D g s (insert (min (base (cl D.cl) 1024 (cp D g) / 16 + 1) 63) (insert (base (cl D.cl) 1024 (cp D g) / 16) ∅))) o σ) (hw9) (v499 : BitVec 32) {Q : _ → H F → Prop}
    (hk : Q ⟨k0_pay1 (chk (nxt D g s) (min (base (cl D.cl) 1024 (cp D g) / 16 + 1) 63)), k0_pay57, k0_pay58 (chk (nxt D g s) (min (base (cl D.cl) 1024 (cp D g) / 16 + 1) 63)) (chk (nbr D) (min (base (cl D.cl) 1024 (cp D g) / 16 + 1) 63))⟩ σ) :
    pwp (p := pr i) scr (k0_part13 (F := F) i
      (Memref.whole main_v2_scv) (Memref.isWhole_whole _) (Memref.whole main_v7_scv) (Memref.isWhole_whole _) (Memref.whole
      main_v12_scv) (Memref.isWhole_whole _) (Memref.whole main_v17_scv) (Memref.isWhole_whole _) (Memref.whole main_v22_scv)
      (Memref.isWhole_whole _) (Memref.whole main_v26_scv) (Memref.isWhole_whole _) (Memref.whole main_v27_scv) (Memref.isWhole_whole _)
      (Memref.whole cc0_scratch0) (Memref.isWhole_whole _) (Memref.whole cc0_scratch1) (Memref.isWhole_whole _) (Memref.whole
      cc0_scratch2) (Memref.isWhole_whole _) (Memref.whole cc0_scratch3) (Memref.isWhole_whole _) (Memref.whole cc0_scratch4)
      (Memref.isWhole_whole _) (Memref.whole cc0_scratch5) (Memref.isWhole_whole _) (Memref.whole cc0_scratch6) (Memref.isWhole_whole _)
      (Memref.whole cc0_scratch7) (Memref.isWhole_whole _) (Memref.whole cc0_scratch8) (Memref.isWhole_whole _) (Memref.whole
      cc0_scratch9) (Memref.isWhole_whole _) (Memref.whole cc0_scratch10) (Memref.isWhole_whole _) (Memref.whole cc0_scratch11)
      (Memref.isWhole_whole _) (Memref.whole cc0_scratch12) (Memref.isWhole_whole _) (Memref.whole cc0_scratch13) (Memref.isWhole_whole
      _) (Memref.whole cc0_scratch14) (Memref.isWhole_whole _) (Memref.whole cc0_scratch15) (Memref.isWhole_whole _) (Memref.whole
      cc0_scratch16) (Memref.isWhole_whole _) (Memref.whole cc0_scratch17) (Memref.isWhole_whole _) (Memref.whole cc0_scratch18)
      (Memref.isWhole_whole _) (Memref.whole cc0_scratch19) (Memref.isWhole_whole _) (Memref.whole cc0_scratch20) (Memref.isWhole_whole
      _) (Memref.whole cc0_scratch21) (Memref.isWhole_whole _) sm rs h1 kw v198 h2 (BitVec.ofNat 32 (base (cl D.cl) 1024 (cp D g))) hw9
      v499 (chk (nxt D g s) (min (base (cl D.cl) 1024 (cp D g) / 16 + 1) 63))) Q σ := by
  rw [k0_part13_eq_skeleton]
  unfold k0_part13_skel
  refine ld15 i _ hA.e15 _ (qb_lt D g) _ (off10_eq _ (base_lt D g)) ?_
  exact step_pure _ hk

end Cert.Proof.Loop
-- ==== Proof.Loop3.lean ====
/-
  The main loop's step, stretch by stretch: the picked class's further chunks.
-/
module

public import proofs.«01_k».proof.Proof.Loop2

@[expose] public section

noncomputable section

namespace Cert.Proof.Loop

open Cert.KernelIdeal Cert.KernelIdeal.Gen
open Idealize.ShloMosaic Idealize.ShloMosaic.ValueIdx Idealize.SL.Sem
open Cert.Proof.Pwp Cert.Proof.Lanes Cert.Proof.Counting Cert.Proof.Sort Cert.Proof.Words Cert.Proof.Step

variable {F : FTy → Type} [FloatOps F]
variable (i : grid0.Coords) (sm rs : DmaSems sig S_) (h1 : k0_cond1 i = 1#1)
variable (D : Items F) (kw : BitVec 32) (v198 : BitVec 1) (h2 : k0_cond2 kw v198 = 1#1)
variable (g : S1024.Idx) (s : S1024.Idx → F .f32) (o : S1600.Idx → F .f32) {σ : H F}

/-- The trips over the further chunks. -/
theorem trips5 : (k0_t5_loop (BitVec.ofNat 32 (base (cl D.cl) 1024 (cp D g))) (BitVec.ofNat 32 (cnt (cl D.cl) 1024 (cp D g)))).trips = ((base (cl D.cl) 1024 (cp D g)) + cnt (cl D.cl) 1024 (cp D g) + 15) / 16 - ((base (cl D.cl) 1024 (cp D g)) / 16 + 2) := (loops_eq _ _ (base_lt D g) (end_le D g)).1

theorem q5_lt (t : Fin (k0_t5_loop (BitVec.ofNat 32 (base (cl D.cl) 1024 (cp D g))) (BitVec.ofNat 32 (cnt (cl D.cl) 1024 (cp D g)))).trips) : (base (cl D.cl) 1024 (cp D g)) / 16 + 2 + t.val < 64 := by
  have h := t.isLt
  have h1 := trips5 D g
  have := end_le D g
  omega

set_option maxHeartbeats 1000000 in
theorem part2_k (t : Fin (k0_t5_loop (BitVec.ofNat 32 (base (cl D.cl) 1024 (cp D g))) (BitVec.ofNat 32 (cnt (cl D.cl) 1024 (cp D g)))).trips) (d : Finset ℕ) (hA : At D (mix D g s d) o σ) (hw10) {Q : _ → H F → Prop}
    (hk : ∀ m : IVec S16 1, k0_pay5 (chk (mix D g s d) ((base (cl D.cl) 1024 (cp D g)) / 16 + 2 + t.val)) m k0_pay4 = chk (nxt D g s) ((base (cl D.cl) 1024 (cp D g)) / 16 + 2 + t.val) → ∀ w,
      Q ⟨BitVec.ofNat 32 ((base (cl D.cl) 1024 (cp D g)) / 16 + 2 + t.val), w, chk (mix D g s d) ((base (cl D.cl) 1024 (cp D g)) / 16 + 2 + t.val), m, k0_pay4⟩ σ) :
    pwp (p := pr i) scr (k0_part2 (F := F) i
      (Memref.whole main_v2_scv) (Memref.isWhole_whole _) (Memref.whole main_v7_scv) (Memref.isWhole_whole _) (Memref.whole
      main_v12_scv) (Memref.isWhole_whole _) (Memref.whole main_v17_scv) (Memref.isWhole_whole _) (Memref.whole main_v22_scv)
      (Memref.isWhole_whole _) (Memref.whole main_v26_scv) (Memref.isWhole_whole _) (Memref.whole main_v27_scv) (Memref.isWhole_whole _)
      (Memref.whole cc0_scratch0) (Memref.isWhole_whole _) (Memref.whole cc0_scratch1) (Memref.isWhole_whole _) (Memref.whole
      cc0_scratch2) (Memref.isWhole_whole _) (Memref.whole cc0_scratch3) (Memref.isWhole_whole _) (Memref.whole cc0_scratch4)
      (Memref.isWhole_whole _) (Memref.whole cc0_scratch5) (Memref.isWhole_whole _) (Memref.whole cc0_scratch6) (Memref.isWhole_whole _)
      (Memref.whole cc0_scratch7) (Memref.isWhole_whole _) (Memref.whole cc0_scratch8) (Memref.isWhole_whole _) (Memref.whole
      cc0_scratch9) (Memref.isWhole_whole _) (Memref.whole cc0_scratch10) (Memref.isWhole_whole _) (Memref.whole cc0_scratch11)
      (Memref.isWhole_whole _) (Memref.whole cc0_scratch12) (Memref.isWhole_whole _) (Memref.whole cc0_scratch13) (Memref.isWhole_whole
      _) (Memref.whole cc0_scratch14) (Memref.isWhole_whole _) (Memref.whole cc0_scratch15) (Memref.isWhole_whole _) (Memref.whole
      cc0_scratch16) (Memref.isWhole_whole _) (Memref.whole cc0_scratch17) (Memref.isWhole_whole _) (Memref.whole cc0_scratch18)
      (Memref.isWhole_whole _) (Memref.whole cc0_scratch19) (Memref.isWhole_whole _) (Memref.whole cc0_scratch20) (Memref.isWhole_whole
      _) (Memref.whole cc0_scratch21) (Memref.isWhole_whole _) sm rs h1 lanes kw v198 h2 (BitVec.ofNat 32 (g 0).val) (gY1 D g) (gX1 D g)
      (gY2 D g) (gX2 D g) (gA D g) (BitVec.ofNat 32 (base (cl D.cl) 1024 (cp D g))) (BitVec.ofNat 32 (cnt (cl D.cl) 1024 (cp D g))) hw10
      (Scalar.addi (BitVec.ofNat 32 (base (cl D.cl) 1024 (cp D g))) (BitVec.ofNat 32 (cnt (cl D.cl) 1024 (cp D g)))) (Scalar.addi
      (firstW (BitVec.ofNat 32 (base (cl D.cl) 1024 (cp D g)))) 2#32) 1#32 t) Q σ := by
  rw [k0_part2_eq_skeleton]
  unfold k0_part2_skel
  have hq := q5_lt D g t
  have ho := off11_eq _ _ (base_lt D g) t hq
  have hv := killed_eq D g s d _ hq
  have hi : Scf.iv (Scalar.addi (firstW (BitVec.ofNat 32 (base (cl D.cl) 1024 (cp D g)))) 2#32) 1#32 t = BitVec.ofNat 32 ((base (cl D.cl) 1024 (cp D g)) / 16 + 2 + t.val) := by
    rw [firstW_eq _ (base_lt D g), iv_eq]
  rw [← mul16, ← hi] at hv
  refine ld9 i _ hA.e9 _ hq _ ho ?_
  refine ld14 i _ hA.e14 _ hq _ ho ?_
  refine ld10 i _ hA.e10 _ hq _ ho ?_
  refine ld11 i _ hA.e11 _ hq _ ho ?_
  refine ld12 i _ hA.e12 _ hq _ ho ?_
  refine ld13 i _ hA.e13 _ hq _ ho ?_
  refine step_pure _ ?_
  have := hk (k0_pay3 lanes (BitVec.ofNat 32 (g 0).val) (gY1 D g) (gX1 D g) (gY2 D g) (gX2 D g) (gA D g) (BitVec.ofNat 32 (base (cl D.cl) 1024 (cp D g))) (BitVec.ofNat 32 (cnt (cl D.cl) 1024 (cp D g))) (Scalar.addi (BitVec.ofNat 32 (base (cl D.cl) 1024 (cp D g))) (BitVec.ofNat 32 (cnt (cl D.cl) 1024 (cp D g)))) (Scalar.addi (firstW (BitVec.ofNat 32 (base (cl D.cl) 1024 (cp D g)))) 2#32) 1#32 t (chk (srt D).cl ((base (cl D.cl) 1024 (cp D g)) / 16 + 2 + t.val)) (chk (srt D).y1 ((base (cl D.cl) 1024 (cp D g)) / 16 + 2 + t.val)) (chk (srt D).x1 ((base (cl D.cl) 1024 (cp D g)) / 16 + 2 + t.val)) (chk (srt D).y2 ((base (cl D.cl) 1024 (cp D g)) / 16 + 2 + t.val)) (chk (srt D).x2 ((base (cl D.cl) 1024 (cp D g)) / 16 + 2 + t.val))) hv (Scalar.muli (Scf.iv (Scalar.addi (firstW (BitVec.ofNat 32 (base (cl D.cl) 1024 (cp D g)))) 2#32) 1#32 t) 16#32)
  rw [← hi] at this
  exact this

theorem part3_k (t : Fin (k0_t5_loop (BitVec.ofNat 32 (base (cl D.cl) 1024 (cp D g))) (BitVec.ofNat 32 (cnt (cl D.cl) 1024 (cp D g)))).trips) (d : Finset ℕ) (hA : At D (mix D g s d) o σ) (hw10) (w : BitVec 32) (m : IVec S16 1)
    (hm : k0_pay5 (chk (mix D g s d) ((base (cl D.cl) 1024 (cp D g)) / 16 + 2 + t.val)) m k0_pay4 = chk (nxt D g s) ((base (cl D.cl) 1024 (cp D g)) / 16 + 2 + t.val)) {Q : _ → H F → Prop}
    (hk : ∀ σ', At D (mix D g s (insert ((base (cl D.cl) 1024 (cp D g)) / 16 + 2 + t.val) d)) o σ' → Q ⟨k0_pay1 (chk (nxt D g s) ((base (cl D.cl) 1024 (cp D g)) / 16 + 2 + t.val)),
      k0_pay2 (chk (nxt D g s) ((base (cl D.cl) 1024 (cp D g)) / 16 + 2 + t.val)) (chk (nbr D) ((base (cl D.cl) 1024 (cp D g)) / 16 + 2 + t.val))⟩ σ') :
    pwp (p := pr i) scr (k0_part3 (F := F) i
      (Memref.whole main_v2_scv) (Memref.isWhole_whole _) (Memref.whole main_v7_scv) (Memref.isWhole_whole _) (Memref.whole
      main_v12_scv) (Memref.isWhole_whole _) (Memref.whole main_v17_scv) (Memref.isWhole_whole _) (Memref.whole main_v22_scv)
      (Memref.isWhole_whole _) (Memref.whole main_v26_scv) (Memref.isWhole_whole _) (Memref.whole main_v27_scv) (Memref.isWhole_whole _)
      (Memref.whole cc0_scratch0) (Memref.isWhole_whole _) (Memref.whole cc0_scratch1) (Memref.isWhole_whole _) (Memref.whole
      cc0_scratch2) (Memref.isWhole_whole _) (Memref.whole cc0_scratch3) (Memref.isWhole_whole _) (Memref.whole cc0_scratch4)
      (Memref.isWhole_whole _) (Memref.whole cc0_scratch5) (Memref.isWhole_whole _) (Memref.whole cc0_scratch6) (Memref.isWhole_whole _)
      (Memref.whole cc0_scratch7) (Memref.isWhole_whole _) (Memref.whole cc0_scratch8) (Memref.isWhole_whole _) (Memref.whole
      cc0_scratch9) (Memref.isWhole_whole _) (Memref.whole cc0_scratch10) (Memref.isWhole_whole _) (Memref.whole cc0_scratch11)
      (Memref.isWhole_whole _) (Memref.whole cc0_scratch12) (Memref.isWhole_whole _) (Memref.whole cc0_scratch13) (Memref.isWhole_whole
      _) (Memref.whole cc0_scratch14) (Memref.isWhole_whole _) (Memref.whole cc0_scratch15) (Memref.isWhole_whole _) (Memref.whole
      cc0_scratch16) (Memref.isWhole_whole _) (Memref.whole cc0_scratch17) (Memref.isWhole_whole _) (Memref.whole cc0_scratch18)
      (Memref.isWhole_whole _) (Memref.whole cc0_scratch19) (Memref.isWhole_whole _) (Memref.whole cc0_scratch20) (Memref.isWhole_whole
      _) (Memref.whole cc0_scratch21) (Memref.isWhole_whole _) sm rs h1 kw v198 h2 (BitVec.ofNat 32 (base (cl D.cl) 1024 (cp D g)))
      (BitVec.ofNat 32 (cnt (cl D.cl) 1024 (cp D g))) hw10 t w (chk (mix D g s d) ((base (cl D.cl) 1024 (cp D g)) / 16 + 2 + t.val)) m
      k0_pay4) Q σ := by
  rw [k0_part3_eq_skeleton]
  unfold k0_part3_skel
  have hq := q5_lt D g t
  have ho := off11_eq _ _ (base_lt D g) t hq
  refine ld9 i _ hA.e9 _ hq _ ho ?_
  refine st9 i hA _ hq _ ho (fun x => ?_) (mix_other D g s d _) fun σ1 hA1 => ?_
  · exact (mix_lane D g s d _ hq x).trans (congrFun hm (ix1 x)).symm
  refine ld15 i _ hA1.e15 _ hq _ ho ?_
  refine step_pure _ ?_
  have := hk σ1 hA1
  rw [← hm] at this
  exact this

/-- What holds after `t` trips over the further chunks. -/
def I5 (t : ℕ) (r : (FVec F S16 .f32 × FVec F S16 .f32 × FVec F S16 .f32 × FVec F S16 .f32 × IVec S16 32 × IVec S16 32 × IVec S16 32 × IVec S16 32)) (σ : H F) : Prop :=
  At D (mix D g s (done (base (cl D.cl) 1024 (cp D g)) t)) o σ ∧
    Regs (tc D g s (done (base (cl D.cl) 1024 (cp D g)) t)) (tt D g s (done (base (cl D.cl) 1024 (cp D g)) t)) r.1 r.2.1 r.2.2.1 r.2.2.2.1 r.2.2.2.2.1 r.2.2.2.2.2.1 r.2.2.2.2.2.2.1 r.2.2.2.2.2.2.2

set_option maxHeartbeats 1000000 in
theorem t5_k (hw10) (v348 v352 v498 : BitVec 32) (e1 e2 e3 e4 : FVec F S16 .f32) (e5 e6 e7 e8 : IVec S16 32) (v600 : F .f32) (v608 v610 : IVec S16 32)
    (t : Fin (k0_t5_loop (BitVec.ofNat 32 (base (cl D.cl) 1024 (cp D g))) (BitVec.ofNat 32 (cnt (cl D.cl) 1024 (cp D g)))).trips) (r : (FVec F S16 .f32 × FVec F S16 .f32 × FVec F S16 .f32 × FVec F S16 .f32 × IVec S16 32 × IVec S16 32 × IVec S16 32 × IVec S16 32)) (hI : I5 D g s o t r σ) :
    pwp (p := pr i) scr (k0_t5_body (F := F) i
      (Memref.whole main_v2_scv) (Memref.isWhole_whole _) (Memref.whole main_v7_scv) (Memref.isWhole_whole _) (Memref.whole
      main_v12_scv) (Memref.isWhole_whole _) (Memref.whole main_v17_scv) (Memref.isWhole_whole _) (Memref.whole main_v22_scv)
      (Memref.isWhole_whole _) (Memref.whole main_v26_scv) (Memref.isWhole_whole _) (Memref.whole main_v27_scv) (Memref.isWhole_whole _)
      (Memref.whole cc0_scratch0) (Memref.isWhole_whole _) (Memref.whole cc0_scratch1) (Memref.isWhole_whole _) (Memref.whole
      cc0_scratch2) (Memref.isWhole_whole _) (Memref.whole cc0_scratch3) (Memref.isWhole_whole _) (Memref.whole cc0_scratch4)
      (Memref.isWhole_whole _) (Memref.whole cc0_scratch5) (Memref.isWhole_whole _) (Memref.whole cc0_scratch6) (Memref.isWhole_whole _)
      (Memref.whole cc0_scratch7) (Memref.isWhole_whole _) (Memref.whole cc0_scratch8) (Memref.isWhole_whole _) (Memref.whole
      cc0_scratch9) (Memref.isWhole_whole _) (Memref.whole cc0_scratch10) (Memref.isWhole_whole _) (Memref.whole cc0_scratch11)
      (Memref.isWhole_whole _) (Memref.whole cc0_scratch12) (Memref.isWhole_whole _) (Memref.whole cc0_scratch13) (Memref.isWhole_whole
      _) (Memref.whole cc0_scratch14) (Memref.isWhole_whole _) (Memref.whole cc0_scratch15) (Memref.isWhole_whole _) (Memref.whole
      cc0_scratch16) (Memref.isWhole_whole _) (Memref.whole cc0_scratch17) (Memref.isWhole_whole _) (Memref.whole cc0_scratch18)
      (Memref.isWhole_whole _) (Memref.whole cc0_scratch19) (Memref.isWhole_whole _) (Memref.whole cc0_scratch20) (Memref.isWhole_whole
      _) (Memref.whole cc0_scratch21) (Memref.isWhole_whole _) sm rs h1 lanes kw v198 h2 (BitVec.ofNat 32 (g 0).val) (gY1 D g) (gX1 D g)
      (gY2 D g) (gX2 D g) (gA D g) (BitVec.ofNat 32 (base (cl D.cl) 1024 (cp D g))) (BitVec.ofNat 32 (cnt (cl D.cl) 1024 (cp D g))) hw10
      (Scalar.addi (BitVec.ofNat 32 (base (cl D.cl) 1024 (cp D g))) (BitVec.ofNat 32 (cnt (cl D.cl) 1024 (cp D g)))) v348 v352 e1 e2 e3
      e4 e5 e6 e7 e8 v498 v600 v608 v610 (Scalar.addi (firstW (BitVec.ofNat 32 (base (cl D.cl) 1024 (cp D g)))) 2#32) t r) (I5 D g s o
      (t + 1)) σ := by
  unfold k0_t5_body
  obtain ⟨c0, c1, c2, c3, t0, t1, t2, t3⟩ := r
  obtain ⟨hA, hR⟩ := hI
  have hq := q5_lt D g t
  refine pwp_bind (p := pr i) scr _ _ ?_
  refine part2_k i sm rs h1 D kw v198 h2 g s o t _ hA _ fun m hm w => ?_
  refine pwp_bind (p := pr i) scr _ _ ?_
  refine part3_k i sm rs h1 D kw v198 h2 g s o t _ hA _ w m hm fun σ1 hA1 => ?_
  refine step_pure _ ?_
  unfold I5
  rw [done_succ]
  exact ⟨hA1, hR.step _ hq _ rfl _ rfl⟩

/-- What a step makes of the loop's words. -/
abbrev Out (k : ℕ) (s' : S1024.Idx → F .f32) : BitVec 32 × F .f32 × (FVec F S16 .f32 × FVec F S16 .f32 × FVec F S16 .f32 × FVec F S16 .f32 × IVec S16 32 × IVec S16 32 × IVec S16 32 × IVec S16 32) :=
  (BitVec.ofNat 32 k, gmx s', quarter (tcA s') 0, quarter (tcA s') 1, quarter (tcA s') 2, quarter (tcA s') 3,
    quarter (ttA s' (nbr D)) 0, quarter (ttA s' (nbr D)) 1, quarter (ttA s' (nbr D)) 2, quarter (ttA s' (nbr D)) 3)

set_option maxHeartbeats 2000000 in
theorem part14_k (hA : At D (mix D g s (insert (min (base (cl D.cl) 1024 (cp D g) / 16 + 1) 63) (insert (base (cl D.cl) 1024 (cp D g) / 16) ∅))) o σ) (hw10) (e1 e2 e3 e4 : FVec F S16 .f32) (e5 e6 e7 e8 : IVec S16 32)
    (hR : Regs (tc D g s (insert (base (cl D.cl) 1024 (cp D g) / 16) ∅)) (tt D g s (insert (base (cl D.cl) 1024 (cp D g) / 16) ∅)) e1 e2 e3 e4 e5 e6 e7 e8) {Q : _ → H F → Prop}
    (hk : ∀ σ', At D (nxt D g s) o σ' → ∀ c0 c1 c2 c3 t0 t1 t2 t3, Regs (tcA (nxt D g s)) (ttA (nxt D g s) (nbr D)) c0 c1 c2 c3 t0 t1 t2 t3 →
      Q ⟨c0, c1, c2, c3, t0, t1, t2, t3, Scalar.addi kw 1#32, k0_pay95 c0 c1 c2 c3, k0_pay96 c0 c1 c2 c3, k0_pay97 c0 c1 c2 c3, k0_pay98 c0 c1 c2 c3, k0_pay99 c0 c1 c2 c3⟩ σ') :
    pwp (p := pr i) scr (k0_part14 (F := F) i
      (Memref.whole main_v2_scv) (Memref.isWhole_whole _) (Memref.whole main_v7_scv) (Memref.isWhole_whole _) (Memref.whole
      main_v12_scv) (Memref.isWhole_whole _) (Memref.whole main_v17_scv) (Memref.isWhole_whole _) (Memref.whole main_v22_scv)
      (Memref.isWhole_whole _) (Memref.whole main_v26_scv) (Memref.isWhole_whole _) (Memref.whole main_v27_scv) (Memref.isWhole_whole _)
      (Memref.whole cc0_scratch0) (Memref.isWhole_whole _) (Memref.whole cc0_scratch1) (Memref.isWhole_whole _) (Memref.whole
      cc0_scratch2) (Memref.isWhole_whole _) (Memref.whole cc0_scratch3) (Memref.isWhole_whole _) (Memref.whole cc0_scratch4)
      (Memref.isWhole_whole _) (Memref.whole cc0_scratch5) (Memref.isWhole_whole _) (Memref.whole cc0_scratch6) (Memref.isWhole_whole _)
      (Memref.whole cc0_scratch7) (Memref.isWhole_whole _) (Memref.whole cc0_scratch8) (Memref.isWhole_whole _) (Memref.whole
      cc0_scratch9) (Memref.isWhole_whole _) (Memref.whole cc0_scratch10) (Memref.isWhole_whole _) (Memref.whole cc0_scratch11)
      (Memref.isWhole_whole _) (Memref.whole cc0_scratch12) (Memref.isWhole_whole _) (Memref.whole cc0_scratch13) (Memref.isWhole_whole
      _) (Memref.whole cc0_scratch14) (Memref.isWhole_whole _) (Memref.whole cc0_scratch15) (Memref.isWhole_whole _) (Memref.whole
      cc0_scratch16) (Memref.isWhole_whole _) (Memref.whole cc0_scratch17) (Memref.isWhole_whole _) (Memref.whole cc0_scratch18)
      (Memref.isWhole_whole _) (Memref.whole cc0_scratch19) (Memref.isWhole_whole _) (Memref.whole cc0_scratch20) (Memref.isWhole_whole
      _) (Memref.whole cc0_scratch21) (Memref.isWhole_whole _) sm rs h1 lanes kw v198 h2 (BitVec.ofNat 32 (g 0).val) (gY1 D g) (gX1 D g)
      (gY2 D g) (gX2 D g) (gA D g) (BitVec.ofNat 32 (base (cl D.cl) 1024 (cp D g))) (BitVec.ofNat 32 (cnt (cl D.cl) 1024 (cp D g))) hw10
      (Scalar.addi (BitVec.ofNat 32 (base (cl D.cl) 1024 (cp D g))) (BitVec.ofNat 32 (cnt (cl D.cl) 1024 (cp D g)))) (firstW
      (BitVec.ofNat 32 (base (cl D.cl) 1024 (cp D g)))) (lastW (BitVec.add (BitVec.ofNat 32 (base (cl D.cl) 1024 (cp D g)))
      (BitVec.ofNat 32 (cnt (cl D.cl) 1024 (cp D g))))) e1 e2 e3 e4 e5 e6 e7 e8 (BitVec.ofNat 32 (min (base (cl D.cl) 1024 (cp D g) / 16
      + 1) 63)) (k0_pay1 (chk (nxt D g s) (min (base (cl D.cl) 1024 (cp D g) / 16 + 1) 63))) k0_pay57 (k0_pay58 (chk (nxt D g s) (min
      (base (cl D.cl) 1024 (cp D g) / 16 + 1) 63)) (chk (nbr D) (min (base (cl D.cl) 1024 (cp D g) / 16 + 1) 63)))) Q σ := by
  rw [k0_part14_eq_skeleton]
  unfold k0_part14_skel
  have hq := qb_lt D g
  have h0 : I5 D g s o 0 (k0_pay63 lanes e1 (BitVec.ofNat 32 (min (base (cl D.cl) 1024 (cp D g) / 16 + 1) 63)) (k0_pay1 (chk (nxt D g s) (min (base (cl D.cl) 1024 (cp D g) / 16 + 1) 63))), k0_pay64 lanes e2 (BitVec.ofNat 32 (min (base (cl D.cl) 1024 (cp D g) / 16 + 1) 63)) (k0_pay1 (chk (nxt D g s) (min (base (cl D.cl) 1024 (cp D g) / 16 + 1) 63))),
      k0_pay65 lanes e3 (BitVec.ofNat 32 (min (base (cl D.cl) 1024 (cp D g) / 16 + 1) 63)) (k0_pay1 (chk (nxt D g s) (min (base (cl D.cl) 1024 (cp D g) / 16 + 1) 63))), k0_pay66 lanes e4 (BitVec.ofNat 32 (min (base (cl D.cl) 1024 (cp D g) / 16 + 1) 63)) (k0_pay1 (chk (nxt D g s) (min (base (cl D.cl) 1024 (cp D g) / 16 + 1) 63))),
      k0_pay67 lanes e5 (BitVec.ofNat 32 (min (base (cl D.cl) 1024 (cp D g) / 16 + 1) 63)) k0_pay57 (k0_pay58 (chk (nxt D g s) (min (base (cl D.cl) 1024 (cp D g) / 16 + 1) 63)) (chk (nbr D) (min (base (cl D.cl) 1024 (cp D g) / 16 + 1) 63))),
      k0_pay68 lanes e6 (BitVec.ofNat 32 (min (base (cl D.cl) 1024 (cp D g) / 16 + 1) 63)) k0_pay57 (k0_pay58 (chk (nxt D g s) (min (base (cl D.cl) 1024 (cp D g) / 16 + 1) 63)) (chk (nbr D) (min (base (cl D.cl) 1024 (cp D g) / 16 + 1) 63))),
      k0_pay69 lanes e7 (BitVec.ofNat 32 (min (base (cl D.cl) 1024 (cp D g) / 16 + 1) 63)) k0_pay57 (k0_pay58 (chk (nxt D g s) (min (base (cl D.cl) 1024 (cp D g) / 16 + 1) 63)) (chk (nbr D) (min (base (cl D.cl) 1024 (cp D g) / 16 + 1) 63))),
      k0_pay70 lanes e8 (BitVec.ofNat 32 (min (base (cl D.cl) 1024 (cp D g) / 16 + 1) 63)) k0_pay57 (k0_pay58 (chk (nxt D g s) (min (base (cl D.cl) 1024 (cp D g) / 16 + 1) 63)) (chk (nbr D) (min (base (cl D.cl) 1024 (cp D g) / 16 + 1) 63)))) σ := by
    unfold I5
    rw [done_zero]
    exact ⟨hA, hR.step (min (base (cl D.cl) 1024 (cp D g) / 16 + 1) 63) hq _ rfl (tieW (k0_pay2 (chk (nxt D g s) (min (base (cl D.cl) 1024 (cp D g) / 16 + 1) 63)) (chk (nbr D) (min (base (cl D.cl) 1024 (cp D g) / 16 + 1) 63)))) rfl⟩
  refine pwp_seq (p := pr i) scr (R := I5 D g s o (k0_t5_loop (BitVec.ofNat 32 (base (cl D.cl) 1024 (cp D g))) (BitVec.ofNat 32 (cnt (cl D.cl) 1024 (cp D g)))).trips) ?_ fun r σ1 hI => ?_
  · refine pwp_loop (p := pr i) scr (k0_t5_loop (BitVec.ofNat 32 (base (cl D.cl) 1024 (cp D g))) (BitVec.ofNat 32 (cnt (cl D.cl) 1024 (cp D g)))) _ _ _ (I5 D g s o) (fun t r σ' h => ?_) ?_
    · exact t5_k i sm rs h1 D kw v198 h2 g s o hw10 _ _ _ _ _ _ _ _ _ _ _ _ _ _ t r h
    · exact h0
  obtain ⟨c0, c1, c2, c3, t0, t1, t2, t3⟩ := r
  have h6 : (k0_t6_loop (BitVec.ofNat 32 (base (cl D.cl) 1024 (cp D g))) (BitVec.ofNat 32 (cnt (cl D.cl) 1024 (cp D g)))).trips = 0 := (loops_eq _ _ (base_lt D g) (end_le D g)).2.2.1
  refine pwp_seq (p := pr i) scr (R := fun r σ' => r = (c0, c1, c2, c3, t0, t1, t2, t3) ∧ σ' = σ1) ?_ fun r σ2 ⟨er, es⟩ => ?_
  · exact pwp_loop (p := pr i) scr (k0_t6_loop (BitVec.ofNat 32 (base (cl D.cl) 1024 (cp D g))) (BitVec.ofNat 32 (cnt (cl D.cl) 1024 (cp D g)))) _ _ _ (fun _ r σ' => r = (c0, c1, c2, c3, t0, t1, t2, t3) ∧ σ' = σ1) (fun t => absurd t.isLt (by omega)) ⟨rfl, rfl⟩
  subst er es
  obtain ⟨hA1, hR1⟩ := hI
  have hd : ∀ p : S1024.Idx, cp D p = cp D g → (p 0).val / 16 ∈ done (base (cl D.cl) 1024 (cp D g)) (k0_t5_loop (BitVec.ofNat 32 (base (cl D.cl) 1024 (cp D g))) (BitVec.ofNat 32 (cnt (cl D.cl) 1024 (cp D g)))).trips := by
    intro p hp
    rw [trips5]
    exact mem_done D g p hp
  rw [mix_done D g s _ hd] at hA1
  have e1 : tc D g s (done (base (cl D.cl) 1024 (cp D g)) (k0_t5_loop (BitVec.ofNat 32 (base (cl D.cl) 1024 (cp D g))) (BitVec.ofNat 32 (cnt (cl D.cl) 1024 (cp D g)))).trips) = tcA (nxt D g s) := tab_done D g s _ hd fun v _ => k0_pay1 v
  have e2 : tt D g s (done (base (cl D.cl) 1024 (cp D g)) (k0_t5_loop (BitVec.ofNat 32 (base (cl D.cl) 1024 (cp D g))) (BitVec.ofNat 32 (cnt (cl D.cl) 1024 (cp D g)))).trips) = ttA (nxt D g s) (nbr D) := tab_done D g s _ hd fun v q => tieW (k0_pay2 v (chk (nbr D) q))
  rw [e1, e2] at hR1
  exact step_pure _ (hk σ2 hA1 _ _ _ _ _ _ _ _ hR1)

end Cert.Proof.Loop
-- ==== Proof.Loop4.lean ====
/-
  The main loop: its step, its runs, and the rows left empty after it.
-/
module

public import proofs.«01_k».proof.Proof.Loop3

@[expose] public section

noncomputable section

namespace Cert.Proof.Loop

open Cert.KernelIdeal Cert.KernelIdeal.Gen
open Idealize.ShloMosaic Idealize.ShloMosaic.ValueIdx Idealize.SL.Sem
open Cert.Proof.Pwp Cert.Proof.Lanes Cert.Proof.Counting Cert.Proof.Sort Cert.Proof.Words Cert.Proof.Step

variable {F : FTy → Type} [FloatOps F]
variable (i : grid0.Coords) (sm rs : DmaSems sig S_) (h1 : k0_cond1 i = 1#1)
variable (D : Items F) (s : S1024.Idx → F .f32) (o : S1600.Idx → F .f32) {σ : H F}

/-- The scores after `n` picks. -/
def scores : ℕ → S1024.Idx → F .f32
  | 0 => (srt D).sc
  | n + 1 => nxt D (pick D (scores n)) (scores n)

/-- A live place is left. -/
def live (s : S1024.Idx → F .f32) : Prop := Scalar.cmpf .ogt (gmx s) (Scalar.ofBits .f32 0x00000000#32) = 1#1

/-- Row `r` of the result. -/
def outRow (r : ℕ) (x : Fin 16) : F .f32 :=
  open Classical in if ∀ j ≤ r, live (scores D j) then rowV D (scores D r) (ix1 x) else Scalar.ofBits .f32 0x00000000#32

/-- The loop's words at a row count and scores. -/
def Good (k : ℕ) (s : S1024.Idx → F .f32) (r : (BitVec 32 × F .f32 × FVec F S16 .f32 × FVec F S16 .f32 × FVec F S16 .f32 × FVec F S16 .f32 × IVec S16 32 × IVec S16 32 × IVec S16 32 × IVec S16 32)) : Prop :=
  r.1 = BitVec.ofNat 32 k ∧ r.2.1 = gmx s ∧
    Regs (tcA s) (ttA s (nbr D)) r.2.2.1 r.2.2.2.1 r.2.2.2.2.1 r.2.2.2.2.2.1 r.2.2.2.2.2.2.1 r.2.2.2.2.2.2.2.1 r.2.2.2.2.2.2.2.2.1 r.2.2.2.2.2.2.2.2.2

/-- What holds after `t` trips of the main loop: `k` rows out, and the loop stopped early only where no place is live. -/
def I4 (t : ℕ) (r : (BitVec 32 × F .f32 × FVec F S16 .f32 × FVec F S16 .f32 × FVec F S16 .f32 × FVec F S16 .f32 × IVec S16 32 × IVec S16 32 × IVec S16 32 × IVec S16 32)) (σ : H F) : Prop :=
  ∃ k ≤ t, (k < t → ¬ live (scores D k)) ∧ (∀ j < k, live (scores D j)) ∧ Good D k (scores D k) r ∧
    ∃ o, At D (scores D k) o σ ∧ ∀ y : S1600.Idx, (y 0).val / 16 < k → o y = outRow D ((y 0).val / 16) ⟨(y 0).val % 16, Nat.mod_lt _ (by omega)⟩

set_option maxHeartbeats 4000000 in
/-- One pick. -/
theorem step_k (hd : ∀ j, cl D.cl j < 96) (v132 v133 v134 v135 v140 v141 : FVec F S16 .f32) (v136 v137 v138 v139 : IVec S16 32) (t : Fin k0_t4_loop.trips)
    (r : (BitVec 32 × F .f32 × FVec F S16 .f32 × FVec F S16 .f32 × FVec F S16 .f32 × FVec F S16 .f32 × IVec S16 32 × IVec S16 32 × IVec S16 32 × IVec S16 32)) (k : ℕ) (hk100 : k ≤ 100) (hG : Good D k s r) (hA : At D s o σ) {Q : _ → H F → Prop}
    (hyes : k < 100 → live s → ∀ r' σ', Good D (k + 1) (nxt D (pick D s) s) r' → At D (nxt D (pick D s) s) (putRow k (rowV D s) o) σ' → Q r' σ')
    (hno : ¬ (k < 100 ∧ live s) → Q r σ) :
    pwp (p := pr i) scr (k0_t4_body (F := F) i
      (Memref.whole main_v2_scv) (Memref.isWhole_whole _) (Memref.whole main_v7_scv) (Memref.isWhole_whole _) (Memref.whole
      main_v12_scv) (Memref.isWhole_whole _) (Memref.whole main_v17_scv) (Memref.isWhole_whole _) (Memref.whole main_v22_scv)
      (Memref.isWhole_whole _) (Memref.whole main_v26_scv) (Memref.isWhole_whole _) (Memref.whole main_v27_scv) (Memref.isWhole_whole _)
      (Memref.whole cc0_scratch0) (Memref.isWhole_whole _) (Memref.whole cc0_scratch1) (Memref.isWhole_whole _) (Memref.whole
      cc0_scratch2) (Memref.isWhole_whole _) (Memref.whole cc0_scratch3) (Memref.isWhole_whole _) (Memref.whole cc0_scratch4)
      (Memref.isWhole_whole _) (Memref.whole cc0_scratch5) (Memref.isWhole_whole _) (Memref.whole cc0_scratch6) (Memref.isWhole_whole _)
      (Memref.whole cc0_scratch7) (Memref.isWhole_whole _) (Memref.whole cc0_scratch8) (Memref.isWhole_whole _) (Memref.whole
      cc0_scratch9) (Memref.isWhole_whole _) (Memref.whole cc0_scratch10) (Memref.isWhole_whole _) (Memref.whole cc0_scratch11)
      (Memref.isWhole_whole _) (Memref.whole cc0_scratch12) (Memref.isWhole_whole _) (Memref.whole cc0_scratch13) (Memref.isWhole_whole
      _) (Memref.whole cc0_scratch14) (Memref.isWhole_whole _) (Memref.whole cc0_scratch15) (Memref.isWhole_whole _) (Memref.whole
      cc0_scratch16) (Memref.isWhole_whole _) (Memref.whole cc0_scratch17) (Memref.isWhole_whole _) (Memref.whole cc0_scratch18)
      (Memref.isWhole_whole _) (Memref.whole cc0_scratch19) (Memref.isWhole_whole _) (Memref.whole cc0_scratch20) (Memref.isWhole_whole
      _) (Memref.whole cc0_scratch21) (Memref.isWhole_whole _) sm rs h1 lanes v132 v133 v134 v135 v136 v137 v138 v139 v140 v141 t r) Q σ
      := by
  unfold k0_t4_body
  obtain ⟨kw, m, c0, c1, c2, c3, t0, t1, t2, t3⟩ := r
  obtain ⟨hkw, hm, hR⟩ := hG
  obtain ⟨rfl, rfl, rfl, rfl, rfl, rfl, rfl, rfl⟩ := hR
  change kw = _ at hkw
  change m = _ at hm
  subst hkw hm
  have h7 : k0_chk7 i (BitVec.ofNat 32 k) (Scalar.cmpf .ogt (gmx s) (Scalar.ofBits .f32 0x00000000#32)) := by
    intro _ h2
    have h := ((cond2_iff k hk100 _).mp h2).1
    exact inb16 _ (off8_eq k h) (by omega)
  refine step_assume (p := pr i) scr h7 ?_
  by_cases h2 : k0_cond2 (BitVec.ofNat 32 k) (Scalar.cmpf .ogt (gmx s) (Scalar.ofBits .f32 0x00000000#32)) = 1#1
  · rw [dif_pos h2]
    obtain ⟨hk, hl⟩ := (cond2_iff k hk100 _).mp h2
    refine pwp_bind (p := pr i) scr _ _ ?_
    refine part6_k i sm rs D s ?_
    refine pwp_bind (p := pr i) scr _ _ ?_
    refine part7_k i sm rs h1 D _ _ h2 s o hA fun w hw hw6 => ?_
    subst hw
    refine pwp_bind (p := pr i) scr _ _ ?_
    refine part8_k i sm rs h1 D _ _ h2 s o hd hA k rfl hk _ fun σ1 hA1 a ha hw9 n hn hw10 => ?_
    subst ha hn
    refine pwp_bind (p := pr i) scr _ _ ?_
    refine part9_k i sm rs h1 D _ _ h2 (pick D s) s _ hA1 _ hw9 fun σ2 hA2 => ?_
    refine pwp_bind (p := pr i) scr _ _ ?_
    refine part10_k i sm rs h1 D _ _ h2 (pick D s) s _ hA2 hw9 fun σ3 hA3 V hV m0 m1 m2 m3 m4 m5 hm => ?_
    refine pwp_bind (p := pr i) scr _ _ ?_
    have hR0 : Regs (tc D (pick D s) s ∅) (tt D (pick D s) s ∅) (quarter (tcA s) 0) (quarter (tcA s) 1) (quarter (tcA s) 2) (quarter (tcA s) 3)
        (quarter (ttA s (nbr D)) 0) (quarter (ttA s (nbr D)) 1) (quarter (ttA s (nbr D)) 2) (quarter (ttA s (nbr D)) 3) := by
      unfold tc tt
      rw [tabD_empty, tabD_empty]
      exact ⟨rfl, rfl, rfl, rfl, rfl, rfl, rfl, rfl⟩
    refine part11_k i sm rs h1 D _ _ h2 (pick D s) s _ hA3 hw9 V hV m0 m1 m2 m3 m4 m5 hm _ _ _ _ _ _ _ _ _ hR0 fun c0 c1 c2 c3 t0 t1 t2 t3 hR1 => ?_
    refine pwp_bind (p := pr i) scr _ _ ?_
    refine part12_k i sm rs h1 D _ _ h2 (pick D s) s _ hA3 hw9 fun σ4 hA4 => ?_
    refine pwp_bind (p := pr i) scr _ _ ?_
    refine part13_k i sm rs h1 D _ _ h2 (pick D s) s _ hA4 hw9 _ ?_
    refine pwp_bind (p := pr i) scr _ _ ?_
    refine part14_k i sm rs h1 D _ _ h2 (pick D s) s _ hA4 hw10 _ _ _ _ _ _ _ _ hR1 fun σ5 hA5 c0 c1 c2 c3 t0 t1 t2 t3 hR2 => ?_
    refine (hyes hk hl (_, _, c0, c1, c2, c3, t0, t1, t2, t3) σ5 ⟨(BitVec.ofNat_add k 1).symm, ?_, hR2⟩ hA5)
    obtain ⟨rfl, rfl, rfl, rfl, rfl, rfl, rfl, rfl⟩ := hR2
    rfl
  · rw [dif_neg h2]
    exact (hno fun h => h2 ((cond2_iff k hk100 _).mpr h))

theorem trips4 : k0_t4_loop.trips = 100 := by decide +kernel

/-- A row put out is the result's. -/
theorem put_row (k : ℕ) (hl : ∀ j < k, live (scores D j)) (h : live (scores D k)) (ho : ∀ y : S1600.Idx, (y 0).val / 16 < k → o y = outRow D ((y 0).val / 16) ⟨(y 0).val % 16, Nat.mod_lt _ (by omega)⟩)
    (y : S1600.Idx) (hy : (y 0).val / 16 < k + 1) : putRow k (rowV D (scores D k)) o y = outRow D ((y 0).val / 16) ⟨(y 0).val % 16, Nat.mod_lt _ (by omega)⟩ := by
  unfold putRow
  by_cases hc : (y 0).val / 16 = k
  · rw [if_pos hc]
    unfold outRow
    rw [hc, if_pos]
    intro j hj
    rcases Nat.lt_or_eq_of_le hj with h' | rfl
    · exact hl j h'
    · exact h
  · rw [if_neg hc]
    exact ho y (by omega)

/-- One trip of the main loop. -/
theorem t4_k (hd : ∀ j, cl D.cl j < 96) (v132 v133 v134 v135 v140 v141 : FVec F S16 .f32) (v136 v137 v138 v139 : IVec S16 32) (t : Fin k0_t4_loop.trips)
    (r : (BitVec 32 × F .f32 × FVec F S16 .f32 × FVec F S16 .f32 × FVec F S16 .f32 × FVec F S16 .f32 × IVec S16 32 × IVec S16 32 × IVec S16 32 × IVec S16 32)) (hI : I4 D t r σ) :
    pwp (p := pr i) scr (k0_t4_body (F := F) i
      (Memref.whole main_v2_scv) (Memref.isWhole_whole _) (Memref.whole main_v7_scv) (Memref.isWhole_whole _) (Memref.whole
      main_v12_scv) (Memref.isWhole_whole _) (Memref.whole main_v17_scv) (Memref.isWhole_whole _) (Memref.whole main_v22_scv)
      (Memref.isWhole_whole _) (Memref.whole main_v26_scv) (Memref.isWhole_whole _) (Memref.whole main_v27_scv) (Memref.isWhole_whole _)
      (Memref.whole cc0_scratch0) (Memref.isWhole_whole _) (Memref.whole cc0_scratch1) (Memref.isWhole_whole _) (Memref.whole
      cc0_scratch2) (Memref.isWhole_whole _) (Memref.whole cc0_scratch3) (Memref.isWhole_whole _) (Memref.whole cc0_scratch4)
      (Memref.isWhole_whole _) (Memref.whole cc0_scratch5) (Memref.isWhole_whole _) (Memref.whole cc0_scratch6) (Memref.isWhole_whole _)
      (Memref.whole cc0_scratch7) (Memref.isWhole_whole _) (Memref.whole cc0_scratch8) (Memref.isWhole_whole _) (Memref.whole
      cc0_scratch9) (Memref.isWhole_whole _) (Memref.whole cc0_scratch10) (Memref.isWhole_whole _) (Memref.whole cc0_scratch11)
      (Memref.isWhole_whole _) (Memref.whole cc0_scratch12) (Memref.isWhole_whole _) (Memref.whole cc0_scratch13) (Memref.isWhole_whole
      _) (Memref.whole cc0_scratch14) (Memref.isWhole_whole _) (Memref.whole cc0_scratch15) (Memref.isWhole_whole _) (Memref.whole
      cc0_scratch16) (Memref.isWhole_whole _) (Memref.whole cc0_scratch17) (Memref.isWhole_whole _) (Memref.whole cc0_scratch18)
      (Memref.isWhole_whole _) (Memref.whole cc0_scratch19) (Memref.isWhole_whole _) (Memref.whole cc0_scratch20) (Memref.isWhole_whole
      _) (Memref.whole cc0_scratch21) (Memref.isWhole_whole _) sm rs h1 lanes v132 v133 v134 v135 v136 v137 v138 v139 v140 v141 t r) (I4
      D (t + 1)) σ := by
  obtain ⟨k, hkt, hstop, hl, hG, o, hA, ho⟩ := hI
  have ht : t.val < 100 := lt_of_lt_of_eq t.isLt trips4
  refine step_k i sm rs h1 D _ o hd v132 v133 v134 v135 v140 v141 v136 v137 v138 v139 t r k (by omega) hG hA
    (fun _ h r' σ' hG' hA' => ⟨k + 1, ?_, ?_, ?_, hG', _, hA', put_row D o k hl h ho⟩) fun h => ⟨k, by omega, fun _ h' => h ⟨by omega, h'⟩, hl, hG, o, hA, ho⟩
  · have : ¬ k < t.val := fun h' => hstop h' h
    omega
  · intro h'
    have : ¬ k < t.val := fun h' => hstop h' h
    omega
  · intro j hj
    rcases Nat.lt_or_eq_of_le (Nat.le_of_lt_succ hj) with h' | rfl
    · exact hl j h'
    · exact h

/-- What holds when the main loop is over. -/
def After (k : ℕ) (o : S1600.Idx → F .f32) : Prop :=
  k ≤ 100 ∧ (k < 100 → ¬ live (scores D k)) ∧ ∀ y : S1600.Idx, (y 0).val / 16 < k → o y = outRow D ((y 0).val / 16) ⟨(y 0).val % 16, Nat.mod_lt _ (by omega)⟩

set_option maxHeartbeats 1000000 in
theorem part19_k (hd : ∀ j, cl D.cl j < 96) (hR : Ready D σ) {Q : _ → H F → Prop}
    (hk : ∀ k o σ', After D k o → σ' cc0_scratch21 = o → ∀ hw, Q ⟨BitVec.ofNat 32 k, hw, Scalar.subi 100#32 (BitVec.ofNat 32 k)⟩ σ') :
    pwp (p := pr i) scr (k0_part19 (F := F) i
      (Memref.whole main_v2_scv) (Memref.isWhole_whole _) (Memref.whole main_v7_scv) (Memref.isWhole_whole _) (Memref.whole
      main_v12_scv) (Memref.isWhole_whole _) (Memref.whole main_v17_scv) (Memref.isWhole_whole _) (Memref.whole main_v22_scv)
      (Memref.isWhole_whole _) (Memref.whole main_v26_scv) (Memref.isWhole_whole _) (Memref.whole main_v27_scv) (Memref.isWhole_whole _)
      (Memref.whole cc0_scratch0) (Memref.isWhole_whole _) (Memref.whole cc0_scratch1) (Memref.isWhole_whole _) (Memref.whole
      cc0_scratch2) (Memref.isWhole_whole _) (Memref.whole cc0_scratch3) (Memref.isWhole_whole _) (Memref.whole cc0_scratch4)
      (Memref.isWhole_whole _) (Memref.whole cc0_scratch5) (Memref.isWhole_whole _) (Memref.whole cc0_scratch6) (Memref.isWhole_whole _)
      (Memref.whole cc0_scratch7) (Memref.isWhole_whole _) (Memref.whole cc0_scratch8) (Memref.isWhole_whole _) (Memref.whole
      cc0_scratch9) (Memref.isWhole_whole _) (Memref.whole cc0_scratch10) (Memref.isWhole_whole _) (Memref.whole cc0_scratch11)
      (Memref.isWhole_whole _) (Memref.whole cc0_scratch12) (Memref.isWhole_whole _) (Memref.whole cc0_scratch13) (Memref.isWhole_whole
      _) (Memref.whole cc0_scratch14) (Memref.isWhole_whole _) (Memref.whole cc0_scratch15) (Memref.isWhole_whole _) (Memref.whole
      cc0_scratch16) (Memref.isWhole_whole _) (Memref.whole cc0_scratch17) (Memref.isWhole_whole _) (Memref.whole cc0_scratch18)
      (Memref.isWhole_whole _) (Memref.whole cc0_scratch19) (Memref.isWhole_whole _) (Memref.whole cc0_scratch20) (Memref.isWhole_whole
      _) (Memref.whole cc0_scratch21) (Memref.isWhole_whole _) sm rs h1 lanes (quarter (tcA (srt D).sc) 0) (quarter (tcA (srt D).sc) 1)
      (quarter (tcA (srt D).sc) 2) (quarter (tcA (srt D).sc) 3)
      (quarter (ttA (srt D).sc (nbr D)) 0) (quarter (ttA (srt D).sc (nbr D)) 1) (quarter (ttA (srt D).sc (nbr D)) 2) (quarter (ttA (srt D).sc (nbr D)) 3)
      (k0_pay129 (quarter (tcA (srt D).sc) 0) (quarter (tcA (srt D).sc) 1)) (k0_pay130 (quarter (tcA (srt D).sc) 2) (quarter (tcA (srt D).sc) 3))) Q σ := by
  rw [k0_part19_eq_skeleton]
  unfold k0_part19_skel
  refine pwp_seq (p := pr i) scr (R := I4 D k0_t4_loop.trips) ?_ fun r σ1 hI => ?_
  · refine pwp_loop (p := pr i) scr k0_t4_loop _ _ _ (I4 D) (fun t r σ' h => ?_) ?_
    · exact t4_k i sm rs h1 D hd _ _ _ _ _ _ _ _ _ _ t r h
    · exact ⟨0, le_refl _, fun h => absurd h (lt_irrefl _), fun j h => absurd h (Nat.not_lt_zero _), ⟨rfl, rfl, rfl, rfl, rfl, rfl, rfl, rfl, rfl, rfl⟩,
        σ cc0_scratch21, ⟨hR.e9, hR.e10, hR.e11, hR.e12, hR.e13, hR.e14, hR.e15, hR.cn, hR.bs, rfl⟩, fun y h => absurd h (Nat.not_lt_zero _)⟩
  obtain ⟨kw, m, c0, c1, c2, c3, t0, t1, t2, t3⟩ := r
  obtain ⟨k, hkt, hstop, hl, ⟨hkw, -, -⟩, o, hA, ho⟩ := hI
  change kw = _ at hkw
  subst hkw
  rw [trips4] at hkt hstop
  obtain ⟨e1, e2, e3, e4⟩ := tail_eq k hkt
  have h11 : k0_chk11 i (BitVec.ofNat 32 k) := by
    refine ⟨fun _ => e2, fun t _ => ?_, fun _ => e4, fun t => absurd t.isLt (by omega)⟩
    have := t.isLt
    exact inb16 _ (off13_eq k t (by omega)) (by omega)
  refine step_assume (p := pr i) scr h11 ?_
  exact step_pure _ (hk k o σ1 ⟨hkt, hstop, ho⟩ hA.o h11)

/-- The rows after `t` trips of the loop that empties the rest. -/
def I7 (k t : ℕ) (σ : H F) : Prop := ∀ y : S1600.Idx, (y 0).val / 16 < k + t → σ cc0_scratch21 y = outRow D ((y 0).val / 16) ⟨(y 0).val % 16, Nat.mod_lt _ (by omega)⟩

theorem t7_k (k : ℕ) (hk : k ≤ 100) (hs : k < 100 → ¬ live (scores D k)) (hw) (t : Fin (k0_t7_loop (BitVec.ofNat 32 k)).trips) (hI : I7 D k t σ) :
    pwp (p := pr i) scr (k0_t7_body (F := F) i
      (Memref.whole main_v2_scv) (Memref.isWhole_whole _) (Memref.whole main_v7_scv) (Memref.isWhole_whole _) (Memref.whole
      main_v12_scv) (Memref.isWhole_whole _) (Memref.whole main_v17_scv) (Memref.isWhole_whole _) (Memref.whole main_v22_scv)
      (Memref.isWhole_whole _) (Memref.whole main_v26_scv) (Memref.isWhole_whole _) (Memref.whole main_v27_scv) (Memref.isWhole_whole _)
      (Memref.whole cc0_scratch0) (Memref.isWhole_whole _) (Memref.whole cc0_scratch1) (Memref.isWhole_whole _) (Memref.whole
      cc0_scratch2) (Memref.isWhole_whole _) (Memref.whole cc0_scratch3) (Memref.isWhole_whole _) (Memref.whole cc0_scratch4)
      (Memref.isWhole_whole _) (Memref.whole cc0_scratch5) (Memref.isWhole_whole _) (Memref.whole cc0_scratch6) (Memref.isWhole_whole _)
      (Memref.whole cc0_scratch7) (Memref.isWhole_whole _) (Memref.whole cc0_scratch8) (Memref.isWhole_whole _) (Memref.whole
      cc0_scratch9) (Memref.isWhole_whole _) (Memref.whole cc0_scratch10) (Memref.isWhole_whole _) (Memref.whole cc0_scratch11)
      (Memref.isWhole_whole _) (Memref.whole cc0_scratch12) (Memref.isWhole_whole _) (Memref.whole cc0_scratch13) (Memref.isWhole_whole
      _) (Memref.whole cc0_scratch14) (Memref.isWhole_whole _) (Memref.whole cc0_scratch15) (Memref.isWhole_whole _) (Memref.whole
      cc0_scratch16) (Memref.isWhole_whole _) (Memref.whole cc0_scratch17) (Memref.isWhole_whole _) (Memref.whole cc0_scratch18)
      (Memref.isWhole_whole _) (Memref.whole cc0_scratch19) (Memref.isWhole_whole _) (Memref.whole cc0_scratch20) (Memref.isWhole_whole
      _) (Memref.whole cc0_scratch21) (Memref.isWhole_whole _) sm rs h1 k0_pay101 (BitVec.ofNat 32 k) hw t ⟨⟩) (fun _ => I7 D k (t + 1))
      σ := by
  unfold k0_t7_body
  have ht : t.val < 100 - k := lt_of_lt_of_eq t.isLt (tail_eq k hk).1
  have ho := off13_eq k t (by omega)
  refine step_load _ (mem_scr _ rfl) ?_
  refine step_store _ (mem_scr _ rfl) fun σ1 (f1 : ∀ b, b ≠ cc0_scratch21 → σ1 b = σ b) e1 => step_pure _ fun y hy => ?_
  rw [e1]
  by_cases hc : (y 0).val / 16 = k + t.val
  · refine (wr_hit cc0_scratch21 _ _ _ (σ cc0_scratch21) _ (ix1 ⟨(y 0).val % 16, Nat.mod_lt _ (by omega)⟩) y
      (lane_off _ ho _ _ (by show (y 0).val = 16 * (k + t.val) + (y 0).val % 16; omega))).trans ?_
    unfold outRow
    rw [if_neg]
    · rfl
    · exact fun h => hs (by omega) (h k (by omega))
  · exact (wr_miss cc0_scratch21 _ _ _ (σ cc0_scratch21) _ y (lane_out _ ho y (by omega))).trans (hI y (by omega))

end Cert.Proof.Loop
-- ==== Proof.Body.lean ====
/-
  The whole task, between what it fetches and what it puts out: from a subcore's items to its rows.
-/
module

public import proofs.«01_k».proof.Proof.Loop4

@[expose] public section

noncomputable section

namespace Cert.Proof.Body

open Cert.KernelIdeal Cert.KernelIdeal.Gen
open Idealize.ShloMosaic Idealize.ShloMosaic.ValueIdx Idealize.SL.Sem
open Cert.Proof.Pwp Cert.Proof.Lanes Cert.Proof.Counting Cert.Proof.Sort Cert.Proof.Words Cert.Proof.Step Cert.Proof.Loop

variable {F : FTy → Type} [FloatOps F]
variable (i : grid0.Coords) (sm rs : DmaSems sig S_) (h1 : k0_cond1 i = 1#1)

/-- The six arrays brought in. -/
def fetch : Prog (TpuEff nD τ sig (Elt F) Λ₀ (.scVector ((i 0).castLE hcore0) ((i 1).castLE hsub0))) PUnit := do
  let v7 : Memref sig .scVector .hbm S1024 .f32 := (Memref.whole main_v2_scv).slice (Rect.unit (s := S8192) (k0_off1 i) S1024.size
    (k0_off1_inb i h1)) (fun _ => rfl)
  Prog.lift (.enqueueDma v7 (.here (Memref.whole cc0_scratch0)) (.dma sm.sem) (View.wordExact_bits rfl) (Memref.isWhole_whole
    cc0_scratch0).wordExact ⟨Or.inl rfl, trivial⟩)
  let v9 : Memref sig .scVector .hbm S1024 .f32 := (Memref.whole main_v7_scv).slice (Rect.unit (s := S8192) (k0_off1 i) S1024.size
    (k0_off1_inb i h1)) (fun _ => rfl)
  Prog.lift (.enqueueDma v9 (.here (Memref.whole cc0_scratch1)) (.dma sm.sem) (View.wordExact_bits rfl) (Memref.isWhole_whole
    cc0_scratch1).wordExact ⟨Or.inl rfl, trivial⟩)
  let v11 : Memref sig .scVector .hbm S1024 .f32 := (Memref.whole main_v12_scv).slice (Rect.unit (s := S8192) (k0_off1 i) S1024.size
    (k0_off1_inb i h1)) (fun _ => rfl)
  Prog.lift (.enqueueDma v11 (.here (Memref.whole cc0_scratch2)) (.dma sm.sem) (View.wordExact_bits rfl) (Memref.isWhole_whole
    cc0_scratch2).wordExact ⟨Or.inl rfl, trivial⟩)
  let v13 : Memref sig .scVector .hbm S1024 .f32 := (Memref.whole main_v17_scv).slice (Rect.unit (s := S8192) (k0_off1 i) S1024.size
    (k0_off1_inb i h1)) (fun _ => rfl)
  Prog.lift (.enqueueDma v13 (.here (Memref.whole cc0_scratch3)) (.dma sm.sem) (View.wordExact_bits rfl) (Memref.isWhole_whole
    cc0_scratch3).wordExact ⟨Or.inl rfl, trivial⟩)
  let v15 : Memref sig .scVector .hbm S1024 .f32 := (Memref.whole main_v22_scv).slice (Rect.unit (s := S8192) (k0_off1 i) S1024.size
    (k0_off1_inb i h1)) (fun _ => rfl)
  Prog.lift (.enqueueDma v15 (.here (Memref.whole cc0_scratch4)) (.dma sm.sem) (View.wordExact_bits rfl) (Memref.isWhole_whole
    cc0_scratch4).wordExact ⟨Or.inl rfl, trivial⟩)
  let v17 : Memref sig .scVector .hbm S1024 .f32 := (Memref.whole main_v26_scv).slice (Rect.unit (s := S8192) (k0_off1 i) S1024.size
    (k0_off1_inb i h1)) (fun _ => rfl)
  Prog.lift (.enqueueDma v17 (.here (Memref.whole cc0_scratch5)) (.dma sm.sem) (View.wordExact_bits rfl) (Memref.isWhole_whole
    cc0_scratch5).wordExact ⟨Or.inl rfl, trivial⟩)
  let v19 : Memref sig .scVector .hbm S1024 .f32 := (Memref.whole main_v2_scv).slice (Rect.unit (s := S8192) (k0_off1 i) S1024.size
    (k0_off1_inb i h1)) (fun _ => rfl)
  Prog.lift (.waitDma2 sm.sem v19 (Memref.whole cc0_scratch0) (View.wordExact_bits rfl) (Memref.isWhole_whole cc0_scratch0).wordExact)
  let v21 : Memref sig .scVector .hbm S1024 .f32 := (Memref.whole main_v7_scv).slice (Rect.unit (s := S8192) (k0_off1 i) S1024.size
    (k0_off1_inb i h1)) (fun _ => rfl)
  Prog.lift (.waitDma2 sm.sem v21 (Memref.whole cc0_scratch1) (View.wordExact_bits rfl) (Memref.isWhole_whole cc0_scratch1).wordExact)
  let v23 : Memref sig .scVector .hbm S1024 .f32 := (Memref.whole main_v12_scv).slice (Rect.unit (s := S8192) (k0_off1 i) S1024.size
    (k0_off1_inb i h1)) (fun _ => rfl)
  Prog.lift (.waitDma2 sm.sem v23 (Memref.whole cc0_scratch2) (View.wordExact_bits rfl) (Memref.isWhole_whole cc0_scratch2).wordExact)
  let v25 : Memref sig .scVector .hbm S1024 .f32 := (Memref.whole main_v17_scv).slice (Rect.unit (s := S8192) (k0_off1 i) S1024.size
    (k0_off1_inb i h1)) (fun _ => rfl)
  Prog.lift (.waitDma2 sm.sem v25 (Memref.whole cc0_scratch3) (View.wordExact_bits rfl) (Memref.isWhole_whole cc0_scratch3).wordExact)
  let v27 : Memref sig .scVector .hbm S1024 .f32 := (Memref.whole main_v22_scv).slice (Rect.unit (s := S8192) (k0_off1 i) S1024.size
    (k0_off1_inb i h1)) (fun _ => rfl)
  Prog.lift (.waitDma2 sm.sem v27 (Memref.whole cc0_scratch4) (View.wordExact_bits rfl) (Memref.isWhole_whole cc0_scratch4).wordExact)
  let v29 : Memref sig .scVector .hbm S1024 .f32 := (Memref.whole main_v26_scv).slice (Rect.unit (s := S8192) (k0_off1 i) S1024.size
    (k0_off1_inb i h1)) (fun _ => rfl)
  Prog.lift (.waitDma2 sm.sem v29 (Memref.whole cc0_scratch5) (View.wordExact_bits rfl) (Memref.isWhole_whole cc0_scratch5).wordExact)

/-- The counts set to zero. -/
def zeros : Prog (TpuEff nD τ sig (Elt F) Λ₀ (.scVector ((i 0).castLE hcore0) ((i 1).castLE hsub0))) (Σ' (_ : IVec S16 32) (_ : IVec S16 32), FVec F S16 .f32) := do
  have v30 : IVec S16 32 := iota .scVector S16 32 [0] iota_S16_d0_w32_scVector
  let v33 : Vec F S16 .i32 ← Prog.lift (.load (Memref.whole cc0_scratch16) (Rect.unit (s := S96) ![0] S16.size inb_S96_S16_0).toLoadRect
    (View.loadsAt_vmem h_S16))
  Prog.lift (.store (Memref.whole cc0_scratch16) (Rect.unit (s := S96) ![0] S16.size inb_S96_S16_0) k0_pay100 Finset.univ
    (View.stores_vmem_bits_univ h_S16 rfl) (.inl rfl))
  let v34 : Vec F S16 .i32 ← Prog.lift (.load (Memref.whole cc0_scratch16) (Rect.unit (s := S96) ![16] S16.size inb_S96_S16_16).toLoadRect
    (View.loadsAt_vmem h_S16))
  Prog.lift (.store (Memref.whole cc0_scratch16) (Rect.unit (s := S96) ![16] S16.size inb_S96_S16_16) k0_pay100 Finset.univ
    (View.stores_vmem_bits_univ h_S16 rfl) (.inl rfl))
  let v35 : Vec F S16 .i32 ← Prog.lift (.load (Memref.whole cc0_scratch16) (Rect.unit (s := S96) ![32] S16.size inb_S96_S16_32).toLoadRect
    (View.loadsAt_vmem h_S16))
  Prog.lift (.store (Memref.whole cc0_scratch16) (Rect.unit (s := S96) ![32] S16.size inb_S96_S16_32) k0_pay100 Finset.univ
    (View.stores_vmem_bits_univ h_S16 rfl) (.inl rfl))
  let v36 : Vec F S16 .i32 ← Prog.lift (.load (Memref.whole cc0_scratch16) (Rect.unit (s := S96) ![48] S16.size inb_S96_S16_48).toLoadRect
    (View.loadsAt_vmem h_S16))
  Prog.lift (.store (Memref.whole cc0_scratch16) (Rect.unit (s := S96) ![48] S16.size inb_S96_S16_48) k0_pay100 Finset.univ
    (View.stores_vmem_bits_univ h_S16 rfl) (.inl rfl))
  let v37 : Vec F S16 .i32 ← Prog.lift (.load (Memref.whole cc0_scratch16) (Rect.unit (s := S96) ![64] S16.size inb_S96_S16_64).toLoadRect
    (View.loadsAt_vmem h_S16))
  Prog.lift (.store (Memref.whole cc0_scratch16) (Rect.unit (s := S96) ![64] S16.size inb_S96_S16_64) k0_pay100 Finset.univ
    (View.stores_vmem_bits_univ h_S16 rfl) (.inl rfl))
  let v38 : Vec F S16 .i32 ← Prog.lift (.load (Memref.whole cc0_scratch16) (Rect.unit (s := S96) ![80] S16.size inb_S96_S16_80).toLoadRect
    (View.loadsAt_vmem h_S16))
  pure ⟨v30, k0_pay100, k0_pay101 (F := F)⟩
  set_option maxRecDepth 65536 in

/-- The rows put out. -/
def wout : Prog (TpuEff nD τ sig (Elt F) Λ₀ (.scVector ((i 0).castLE hcore0) ((i 1).castLE hsub0))) PUnit := do
  let v200_r0 : Memref sig .scVector .hbm S1x1600 .f32 := (Memref.whole main_v27_scv).slice (Rect.unit (s := S8x1600) (k0_off15 i)
    S1x1600.size (k0_off15_inb i h1)) (fun _ => rfl)
  let v201_r0 : Memref sig .scVector .hbm S1600 .f32 := v200_r0.squeeze S1600 squeezes_S1x1600_S1600
  Prog.lift (.enqueueDma (Memref.whole cc0_scratch21) (.here v201_r0) (.dma rs.sem) (Memref.isWhole_whole cc0_scratch21).wordExact
    ((View.wordExact_bits rfl).reshape _ _) ⟨Or.inl rfl, trivial⟩)
  let v204_r0 : Memref sig .scVector .hbm S1x1600 .f32 := (Memref.whole main_v27_scv).slice (Rect.unit (s := S8x1600) (k0_off15 i)
    S1x1600.size (k0_off15_inb i h1)) (fun _ => rfl)
  let v205_r0 : Memref sig .scVector .hbm S1600 .f32 := v204_r0.squeeze S1600 squeezes_S1x1600_S1600
  Prog.lift (.waitDma2 rs.sem (Memref.whole cc0_scratch21) v205_r0 (Memref.isWhole_whole cc0_scratch21).wordExact ((View.wordExact_bits
    rfl).reshape _ _))

/-- The task from the counts to the rows, and what follows it. -/
def computeK (q : Prog (TpuEff nD τ sig (Elt F) Λ₀ (.scVector ((i 0).castLE hcore0) ((i 1).castLE hsub0))) PUnit) : Prog (TpuEff nD τ sig (Elt F) Λ₀ (.scVector ((i 0).castLE hcore0) ((i 1).castLE hsub0))) PUnit := do
  let ⟨v30, v31, v32⟩ ← zeros i
  let ⟨v69, v70⟩ ← k0_part16 i
    (Memref.whole main_v2_scv) (Memref.isWhole_whole _) (Memref.whole main_v7_scv) (Memref.isWhole_whole _) (Memref.whole main_v12_scv)
    (Memref.isWhole_whole _) (Memref.whole main_v17_scv) (Memref.isWhole_whole _) (Memref.whole main_v22_scv) (Memref.isWhole_whole _)
    (Memref.whole main_v26_scv) (Memref.isWhole_whole _) (Memref.whole main_v27_scv) (Memref.isWhole_whole _) (Memref.whole
    cc0_scratch0) (Memref.isWhole_whole _) (Memref.whole cc0_scratch1) (Memref.isWhole_whole _) (Memref.whole cc0_scratch2)
    (Memref.isWhole_whole _) (Memref.whole cc0_scratch3) (Memref.isWhole_whole _) (Memref.whole cc0_scratch4) (Memref.isWhole_whole _)
    (Memref.whole cc0_scratch5) (Memref.isWhole_whole _) (Memref.whole cc0_scratch6) (Memref.isWhole_whole _) (Memref.whole
    cc0_scratch7) (Memref.isWhole_whole _) (Memref.whole cc0_scratch8) (Memref.isWhole_whole _) (Memref.whole cc0_scratch9)
    (Memref.isWhole_whole _) (Memref.whole cc0_scratch10) (Memref.isWhole_whole _) (Memref.whole cc0_scratch11) (Memref.isWhole_whole _)
    (Memref.whole cc0_scratch12) (Memref.isWhole_whole _) (Memref.whole cc0_scratch13) (Memref.isWhole_whole _) (Memref.whole
    cc0_scratch14) (Memref.isWhole_whole _) (Memref.whole cc0_scratch15) (Memref.isWhole_whole _) (Memref.whole cc0_scratch16)
    (Memref.isWhole_whole _) (Memref.whole cc0_scratch17) (Memref.isWhole_whole _) (Memref.whole cc0_scratch18) (Memref.isWhole_whole _)
    (Memref.whole cc0_scratch19) (Memref.isWhole_whole _) (Memref.whole cc0_scratch20) (Memref.isWhole_whole _) (Memref.whole
    cc0_scratch21) (Memref.isWhole_whole _) sm rs h1 v31
  let ⟨v99, v102, v109⟩ ← k0_part17 i
    (Memref.whole main_v2_scv) (Memref.isWhole_whole _) (Memref.whole main_v7_scv) (Memref.isWhole_whole _) (Memref.whole main_v12_scv)
    (Memref.isWhole_whole _) (Memref.whole main_v17_scv) (Memref.isWhole_whole _) (Memref.whole main_v22_scv) (Memref.isWhole_whole _)
    (Memref.whole main_v26_scv) (Memref.isWhole_whole _) (Memref.whole main_v27_scv) (Memref.isWhole_whole _) (Memref.whole
    cc0_scratch0) (Memref.isWhole_whole _) (Memref.whole cc0_scratch1) (Memref.isWhole_whole _) (Memref.whole cc0_scratch2)
    (Memref.isWhole_whole _) (Memref.whole cc0_scratch3) (Memref.isWhole_whole _) (Memref.whole cc0_scratch4) (Memref.isWhole_whole _)
    (Memref.whole cc0_scratch5) (Memref.isWhole_whole _) (Memref.whole cc0_scratch6) (Memref.isWhole_whole _) (Memref.whole
    cc0_scratch7) (Memref.isWhole_whole _) (Memref.whole cc0_scratch8) (Memref.isWhole_whole _) (Memref.whole cc0_scratch9)
    (Memref.isWhole_whole _) (Memref.whole cc0_scratch10) (Memref.isWhole_whole _) (Memref.whole cc0_scratch11) (Memref.isWhole_whole _)
    (Memref.whole cc0_scratch12) (Memref.isWhole_whole _) (Memref.whole cc0_scratch13) (Memref.isWhole_whole _) (Memref.whole
    cc0_scratch14) (Memref.isWhole_whole _) (Memref.whole cc0_scratch15) (Memref.isWhole_whole _) (Memref.whole cc0_scratch16)
    (Memref.isWhole_whole _) (Memref.whole cc0_scratch17) (Memref.isWhole_whole _) (Memref.whole cc0_scratch18) (Memref.isWhole_whole _)
    (Memref.whole cc0_scratch19) (Memref.isWhole_whole _) (Memref.whole cc0_scratch20) (Memref.isWhole_whole _) (Memref.whole
    cc0_scratch21) (Memref.isWhole_whole _) sm rs v69 v70
  let ⟨v132, v133, v134, v135, v136, v137, v138, v139, v140, v141⟩ ← k0_part18 i
    (Memref.whole main_v2_scv) (Memref.isWhole_whole _) (Memref.whole main_v7_scv) (Memref.isWhole_whole _) (Memref.whole main_v12_scv)
    (Memref.isWhole_whole _) (Memref.whole main_v17_scv) (Memref.isWhole_whole _) (Memref.whole main_v22_scv) (Memref.isWhole_whole _)
    (Memref.whole main_v26_scv) (Memref.isWhole_whole _) (Memref.whole main_v27_scv) (Memref.isWhole_whole _) (Memref.whole
    cc0_scratch0) (Memref.isWhole_whole _) (Memref.whole cc0_scratch1) (Memref.isWhole_whole _) (Memref.whole cc0_scratch2)
    (Memref.isWhole_whole _) (Memref.whole cc0_scratch3) (Memref.isWhole_whole _) (Memref.whole cc0_scratch4) (Memref.isWhole_whole _)
    (Memref.whole cc0_scratch5) (Memref.isWhole_whole _) (Memref.whole cc0_scratch6) (Memref.isWhole_whole _) (Memref.whole
    cc0_scratch7) (Memref.isWhole_whole _) (Memref.whole cc0_scratch8) (Memref.isWhole_whole _) (Memref.whole cc0_scratch9)
    (Memref.isWhole_whole _) (Memref.whole cc0_scratch10) (Memref.isWhole_whole _) (Memref.whole cc0_scratch11) (Memref.isWhole_whole _)
    (Memref.whole cc0_scratch12) (Memref.isWhole_whole _) (Memref.whole cc0_scratch13) (Memref.isWhole_whole _) (Memref.whole
    cc0_scratch14) (Memref.isWhole_whole _) (Memref.whole cc0_scratch15) (Memref.isWhole_whole _) (Memref.whole cc0_scratch16)
    (Memref.isWhole_whole _) (Memref.whole cc0_scratch17) (Memref.isWhole_whole _) (Memref.whole cc0_scratch18) (Memref.isWhole_whole _)
    (Memref.whole cc0_scratch19) (Memref.isWhole_whole _) (Memref.whole cc0_scratch20) (Memref.isWhole_whole _) (Memref.whole
    cc0_scratch21) (Memref.isWhole_whole _) sm rs h1 v30 v99 v102 v109
  let ⟨v191_0, hw, _⟩ ← k0_part19 i
    (Memref.whole main_v2_scv) (Memref.isWhole_whole _) (Memref.whole main_v7_scv) (Memref.isWhole_whole _) (Memref.whole main_v12_scv)
    (Memref.isWhole_whole _) (Memref.whole main_v17_scv) (Memref.isWhole_whole _) (Memref.whole main_v22_scv) (Memref.isWhole_whole _)
    (Memref.whole main_v26_scv) (Memref.isWhole_whole _) (Memref.whole main_v27_scv) (Memref.isWhole_whole _) (Memref.whole
    cc0_scratch0) (Memref.isWhole_whole _) (Memref.whole cc0_scratch1) (Memref.isWhole_whole _) (Memref.whole cc0_scratch2)
    (Memref.isWhole_whole _) (Memref.whole cc0_scratch3) (Memref.isWhole_whole _) (Memref.whole cc0_scratch4) (Memref.isWhole_whole _)
    (Memref.whole cc0_scratch5) (Memref.isWhole_whole _) (Memref.whole cc0_scratch6) (Memref.isWhole_whole _) (Memref.whole
    cc0_scratch7) (Memref.isWhole_whole _) (Memref.whole cc0_scratch8) (Memref.isWhole_whole _) (Memref.whole cc0_scratch9)
    (Memref.isWhole_whole _) (Memref.whole cc0_scratch10) (Memref.isWhole_whole _) (Memref.whole cc0_scratch11) (Memref.isWhole_whole _)
    (Memref.whole cc0_scratch12) (Memref.isWhole_whole _) (Memref.whole cc0_scratch13) (Memref.isWhole_whole _) (Memref.whole
    cc0_scratch14) (Memref.isWhole_whole _) (Memref.whole cc0_scratch15) (Memref.isWhole_whole _) (Memref.whole cc0_scratch16)
    (Memref.isWhole_whole _) (Memref.whole cc0_scratch17) (Memref.isWhole_whole _) (Memref.whole cc0_scratch18) (Memref.isWhole_whole _)
    (Memref.whole cc0_scratch19) (Memref.isWhole_whole _) (Memref.whole cc0_scratch20) (Memref.isWhole_whole _) (Memref.whole
    cc0_scratch21) (Memref.isWhole_whole _) sm rs h1 v30 v132 v133 v134 v135 v136 v137 v138 v139 v140 v141
  Scf.Loop.for (k0_t7_loop v191_0) (k0_t7_ok i v191_0 hw h1) ⟨⟩ (k0_t7_body i
    (Memref.whole main_v2_scv) (Memref.isWhole_whole _) (Memref.whole main_v7_scv) (Memref.isWhole_whole _) (Memref.whole main_v12_scv)
    (Memref.isWhole_whole _) (Memref.whole main_v17_scv) (Memref.isWhole_whole _) (Memref.whole main_v22_scv) (Memref.isWhole_whole _)
    (Memref.whole main_v26_scv) (Memref.isWhole_whole _) (Memref.whole main_v27_scv) (Memref.isWhole_whole _) (Memref.whole
    cc0_scratch0) (Memref.isWhole_whole _) (Memref.whole cc0_scratch1) (Memref.isWhole_whole _) (Memref.whole cc0_scratch2)
    (Memref.isWhole_whole _) (Memref.whole cc0_scratch3) (Memref.isWhole_whole _) (Memref.whole cc0_scratch4) (Memref.isWhole_whole _)
    (Memref.whole cc0_scratch5) (Memref.isWhole_whole _) (Memref.whole cc0_scratch6) (Memref.isWhole_whole _) (Memref.whole
    cc0_scratch7) (Memref.isWhole_whole _) (Memref.whole cc0_scratch8) (Memref.isWhole_whole _) (Memref.whole cc0_scratch9)
    (Memref.isWhole_whole _) (Memref.whole cc0_scratch10) (Memref.isWhole_whole _) (Memref.whole cc0_scratch11) (Memref.isWhole_whole _)
    (Memref.whole cc0_scratch12) (Memref.isWhole_whole _) (Memref.whole cc0_scratch13) (Memref.isWhole_whole _) (Memref.whole
    cc0_scratch14) (Memref.isWhole_whole _) (Memref.whole cc0_scratch15) (Memref.isWhole_whole _) (Memref.whole cc0_scratch16)
    (Memref.isWhole_whole _) (Memref.whole cc0_scratch17) (Memref.isWhole_whole _) (Memref.whole cc0_scratch18) (Memref.isWhole_whole _)
    (Memref.whole cc0_scratch19) (Memref.isWhole_whole _) (Memref.whole cc0_scratch20) (Memref.isWhole_whole _) (Memref.whole
    cc0_scratch21) (Memref.isWhole_whole _) sm rs h1 v32 v191_0 hw)
  Scf.Loop.for (k0_t8_loop v191_0) (k0_t8_ok i v191_0 hw h1) ⟨⟩ (k0_t8_body i
    (Memref.whole main_v2_scv) (Memref.isWhole_whole _) (Memref.whole main_v7_scv) (Memref.isWhole_whole _) (Memref.whole main_v12_scv)
    (Memref.isWhole_whole _) (Memref.whole main_v17_scv) (Memref.isWhole_whole _) (Memref.whole main_v22_scv) (Memref.isWhole_whole _)
    (Memref.whole main_v26_scv) (Memref.isWhole_whole _) (Memref.whole main_v27_scv) (Memref.isWhole_whole _) (Memref.whole
    cc0_scratch0) (Memref.isWhole_whole _) (Memref.whole cc0_scratch1) (Memref.isWhole_whole _) (Memref.whole cc0_scratch2)
    (Memref.isWhole_whole _) (Memref.whole cc0_scratch3) (Memref.isWhole_whole _) (Memref.whole cc0_scratch4) (Memref.isWhole_whole _)
    (Memref.whole cc0_scratch5) (Memref.isWhole_whole _) (Memref.whole cc0_scratch6) (Memref.isWhole_whole _) (Memref.whole
    cc0_scratch7) (Memref.isWhole_whole _) (Memref.whole cc0_scratch8) (Memref.isWhole_whole _) (Memref.whole cc0_scratch9)
    (Memref.isWhole_whole _) (Memref.whole cc0_scratch10) (Memref.isWhole_whole _) (Memref.whole cc0_scratch11) (Memref.isWhole_whole _)
    (Memref.whole cc0_scratch12) (Memref.isWhole_whole _) (Memref.whole cc0_scratch13) (Memref.isWhole_whole _) (Memref.whole
    cc0_scratch14) (Memref.isWhole_whole _) (Memref.whole cc0_scratch15) (Memref.isWhole_whole _) (Memref.whole cc0_scratch16)
    (Memref.isWhole_whole _) (Memref.whole cc0_scratch17) (Memref.isWhole_whole _) (Memref.whole cc0_scratch18) (Memref.isWhole_whole _)
    (Memref.whole cc0_scratch19) (Memref.isWhole_whole _) (Memref.whole cc0_scratch20) (Memref.isWhole_whole _) (Memref.whole
    cc0_scratch21) (Memref.isWhole_whole _) sm rs h1 v32 v191_0 hw)
  q

/-- The task from the counts to the rows. -/
def compute : Prog (TpuEff nD τ sig (Elt F) Λ₀ (.scVector ((i 0).castLE hcore0) ((i 1).castLE hsub0))) PUnit := computeK i sm rs h1 (pure ⟨⟩)

/-- A program's tail is followed by another. -/
theorem through {α β γ : Type} {q : Prog (TpuEff nD τ sig (Elt F) Λ₀ (pr i)) α} {k : α → Prog (TpuEff nD τ sig (Elt F) Λ₀ (pr i)) β}
    {f : α → Prog (TpuEff nD τ sig (Elt F) Λ₀ (pr i)) γ} {g : γ → Prog (TpuEff nD τ sig (Elt F) Λ₀ (pr i)) β}
    (h : ∀ x, k x = f x >>= g) : q >>= k = (q >>= f) >>= g := by
  rw [bind_assoc]
  exact congrArg _ (funext h)

theorem computeK_eq (q : Prog (TpuEff nD τ sig (Elt F) Λ₀ (.scVector ((i 0).castLE hcore0) ((i 1).castLE hsub0))) PUnit) : computeK i sm rs h1 q = compute i sm rs h1 >>= fun _ => q := by
  unfold compute computeK
  refine through i fun ⟨v30, v31, v32⟩ => ?_
  refine through i fun ⟨v69, v70⟩ => ?_
  refine through i fun ⟨v99, v102, v109⟩ => ?_
  refine through i fun ⟨v132, v133, v134, v135, v136, v137, v138, v139, v140, v141⟩ => ?_
  refine through i fun ⟨v191_0, hw, _⟩ => ?_
  refine through i fun _ => ?_
  exact through i fun _ => rfl

set_option maxRecDepth 65536 in
/-- The task is the three in turn. -/
theorem body_eq : cc0__sc_nms_body (F := F) i
      (Memref.whole main_v2_scv) (Memref.isWhole_whole _) (Memref.whole main_v7_scv) (Memref.isWhole_whole _) (Memref.whole
      main_v12_scv) (Memref.isWhole_whole _) (Memref.whole main_v17_scv) (Memref.isWhole_whole _) (Memref.whole main_v22_scv)
      (Memref.isWhole_whole _) (Memref.whole main_v26_scv) (Memref.isWhole_whole _) (Memref.whole main_v27_scv) (Memref.isWhole_whole _)
      (Memref.whole cc0_scratch0) (Memref.isWhole_whole _) (Memref.whole cc0_scratch1) (Memref.isWhole_whole _) (Memref.whole
      cc0_scratch2) (Memref.isWhole_whole _) (Memref.whole cc0_scratch3) (Memref.isWhole_whole _) (Memref.whole cc0_scratch4)
      (Memref.isWhole_whole _) (Memref.whole cc0_scratch5) (Memref.isWhole_whole _) (Memref.whole cc0_scratch6) (Memref.isWhole_whole _)
      (Memref.whole cc0_scratch7) (Memref.isWhole_whole _) (Memref.whole cc0_scratch8) (Memref.isWhole_whole _) (Memref.whole
      cc0_scratch9) (Memref.isWhole_whole _) (Memref.whole cc0_scratch10) (Memref.isWhole_whole _) (Memref.whole cc0_scratch11)
      (Memref.isWhole_whole _) (Memref.whole cc0_scratch12) (Memref.isWhole_whole _) (Memref.whole cc0_scratch13) (Memref.isWhole_whole
      _) (Memref.whole cc0_scratch14) (Memref.isWhole_whole _) (Memref.whole cc0_scratch15) (Memref.isWhole_whole _) (Memref.whole
      cc0_scratch16) (Memref.isWhole_whole _) (Memref.whole cc0_scratch17) (Memref.isWhole_whole _) (Memref.whole cc0_scratch18)
      (Memref.isWhole_whole _) (Memref.whole cc0_scratch19) (Memref.isWhole_whole _) (Memref.whole cc0_scratch20) (Memref.isWhole_whole
      _) (Memref.whole cc0_scratch21) (Memref.isWhole_whole _) sm rs
    = if h1 : k0_cond1 i = 1#1 then (fetch i sm h1 >>= fun _ => computeK i sm rs h1 (wout i rs h1)) else pure ⟨⟩ := by
  rw [cc0__sc_nms_body_eq_skeleton]
  unfold cc0__sc_nms_body_skel
  by_cases h1 : k0_cond1 i = 1#1
  · rw [dif_pos h1, dif_pos h1, k0_part15_eq_skeleton]
    rfl
  · rw [dif_neg h1, dif_neg h1]

theorem pay100_at (x : S16.Idx) : k0_pay100 x = 0#32 := rfl

/-- The counts after `n` of the five blocks. -/
theorem zeros_k (D : Items F) {σ : H F} (hG : Given D σ) {Q : _ → H F → Prop}
    (hk : ∀ σ' : H F, (∀ b, b ≠ cc0_scratch16 → σ' b = σ b) → (∀ c : Fin 96, c.val < 80 → σ' cc0_scratch16 (ix1 c) = 0#32) →
      Q ⟨lanes, k0_pay100, k0_pay101⟩ σ') : pwp (p := pr i) scr (zeros i) Q σ := by
  unfold zeros
  refine step_load _ (mem_scr _ rfl) ?_
  refine step_store _ (mem_scr _ rfl) fun σ1 (f1 : ∀ b, b ≠ cc0_scratch16 → σ1 b = σ b) e1 => ?_
  have z1 : ∀ c : Fin 96, c.val < 16 → σ1 cc0_scratch16 (ix1 c) = 0#32 := by
    intro c hc
    by_cases h : 0 ≤ c.val
    · exact (congrFun e1 _).trans (wr_hit cc0_scratch16 _ _ _ _ _ (ix1 ⟨c.val - 0, by omega⟩) _
        (lane_off _ rfl _ _ (by show c.val = 0 + (c.val - 0); omega)))
    · exact ((congrFun e1 _).trans (wr_miss cc0_scratch16 _ _ _ _ _ _ (lane_out _ rfl (ix1 c) (.inl (Nat.lt_of_not_le h))))).trans (absurd (Nat.zero_le _) h)
  refine step_load _ (mem_scr _ rfl) ?_
  refine step_store _ (mem_scr _ rfl) fun σ2 (f2 : ∀ b, b ≠ cc0_scratch16 → σ2 b = σ1 b) e2 => ?_
  have z2 : ∀ c : Fin 96, c.val < 32 → σ2 cc0_scratch16 (ix1 c) = 0#32 := by
    intro c hc
    by_cases h : 16 ≤ c.val
    · exact (congrFun e2 _).trans (wr_hit cc0_scratch16 _ _ _ _ _ (ix1 ⟨c.val - 16, by omega⟩) _
        (lane_off _ rfl _ _ (by show c.val = 16 + (c.val - 16); omega)))
    · exact ((congrFun e2 _).trans (wr_miss cc0_scratch16 _ _ _ _ _ _ (lane_out _ rfl (ix1 c) (.inl (Nat.lt_of_not_le h))))).trans (z1 c (by omega))
  refine step_load _ (mem_scr _ rfl) ?_
  refine step_store _ (mem_scr _ rfl) fun σ3 (f3 : ∀ b, b ≠ cc0_scratch16 → σ3 b = σ2 b) e3 => ?_
  have z3 : ∀ c : Fin 96, c.val < 48 → σ3 cc0_scratch16 (ix1 c) = 0#32 := by
    intro c hc
    by_cases h : 32 ≤ c.val
    · exact (congrFun e3 _).trans (wr_hit cc0_scratch16 _ _ _ _ _ (ix1 ⟨c.val - 32, by omega⟩) _
        (lane_off _ rfl _ _ (by show c.val = 32 + (c.val - 32); omega)))
    · exact ((congrFun e3 _).trans (wr_miss cc0_scratch16 _ _ _ _ _ _ (lane_out _ rfl (ix1 c) (.inl (Nat.lt_of_not_le h))))).trans (z2 c (by omega))
  refine step_load _ (mem_scr _ rfl) ?_
  refine step_store _ (mem_scr _ rfl) fun σ4 (f4 : ∀ b, b ≠ cc0_scratch16 → σ4 b = σ3 b) e4 => ?_
  have z4 : ∀ c : Fin 96, c.val < 64 → σ4 cc0_scratch16 (ix1 c) = 0#32 := by
    intro c hc
    by_cases h : 48 ≤ c.val
    · exact (congrFun e4 _).trans (wr_hit cc0_scratch16 _ _ _ _ _ (ix1 ⟨c.val - 48, by omega⟩) _
        (lane_off _ rfl _ _ (by show c.val = 48 + (c.val - 48); omega)))
    · exact ((congrFun e4 _).trans (wr_miss cc0_scratch16 _ _ _ _ _ _ (lane_out _ rfl (ix1 c) (.inl (Nat.lt_of_not_le h))))).trans (z3 c (by omega))
  refine step_load _ (mem_scr _ rfl) ?_
  refine step_store _ (mem_scr _ rfl) fun σ5 (f5 : ∀ b, b ≠ cc0_scratch16 → σ5 b = σ4 b) e5 => ?_
  have z5 : ∀ c : Fin 96, c.val < 80 → σ5 cc0_scratch16 (ix1 c) = 0#32 := by
    intro c hc
    by_cases h : 64 ≤ c.val
    · exact (congrFun e5 _).trans (wr_hit cc0_scratch16 _ _ _ _ _ (ix1 ⟨c.val - 64, by omega⟩) _
        (lane_off _ rfl _ _ (by show c.val = 64 + (c.val - 64); omega)))
    · exact ((congrFun e5 _).trans (wr_miss cc0_scratch16 _ _ _ _ _ _ (lane_out _ rfl (ix1 c) (.inl (Nat.lt_of_not_le h))))).trans (z4 c (by omega))
  refine step_load _ (mem_scr _ rfl) ?_
  exact step_pure _ (hk σ5 (fun b hb => (f5 b hb).trans ((f4 b hb).trans ((f3 b hb).trans ((f2 b hb).trans (f1 b hb))))) z5)

/-- The task's rows. -/
theorem compute_spec (D : Items F) (hd : ∀ j, cl D.cl j < 96) {σ : H F} (hG : Given D σ) :
    pwp (p := pr i) scr (compute i sm rs h1)
      (fun _ σ' => ∀ y : S1600.Idx, σ' cc0_scratch21 y = outRow D ((y 0).val / 16) ⟨(y 0).val % 16, Nat.mod_lt _ (by omega)⟩) σ := by
  unfold compute computeK
  refine pwp_bind (p := pr i) scr _ _ ?_
  refine zeros_k i D hG fun σ1 hk1 hz => ?_
  refine pwp_seq (p := pr i) scr (part16_spec i sm rs h1 k0_pay100 (fun _ => rfl) D.cl hd σ σ1 ((hk1 _ (by decide)).trans hG.e5) hz hk1) ?_
  rintro ⟨run, v⟩ σ2 ⟨hM, hrun, hv⟩
  refine pwp_seq (p := pr i) scr (part17_spec i sm rs D.cl σ σ2 hM run hrun v hv) ?_
  rintro ⟨run', v', v''⟩ σ3 ⟨hM3, hrun3, hb, w, hw, hw'⟩
  dsimp only at hb hw hrun3
  subst hb hw
  refine pwp_seq (p := pr i) scr (part18_spec i sm rs h1 D hd σ σ3 hG hM3 run' hrun3 w hw') ?_
  rintro ⟨a0, a1, a2, a3, b0, b1, b2, b3, p, q⟩ σ4 ⟨hR, r0, r1, r2, r3, s0, s1, s2, s3, hp, hq⟩
  dsimp only at r0 r1 r2 r3 s0 s1 s2 s3 hp hq
  subst hp hq r0 r1 r2 r3 s0 s1 s2 s3
  refine pwp_bind (p := pr i) scr _ _ ?_
  refine part19_k i sm rs h1 D hd hR fun k o σ5 hA ho hw => ?_
  obtain ⟨hk, hl, hrow⟩ := hA
  obtain ⟨t1, -, t3, -⟩ := tail_eq k hk
  refine pwp_seq (p := pr i) scr (R := fun _ => I7 D k (k0_t7_loop (BitVec.ofNat 32 k)).trips) ?_ fun _ σ6 h7 => ?_
  · refine pwp_loop (p := pr i) scr (k0_t7_loop (BitVec.ofNat 32 k)) _ _ _ (fun t _ => I7 D k t) (fun t r σ' h => t7_k i sm rs h1 D k hk hl hw t h) ?_
    intro y hy
    rw [ho]
    exact hrow y hy
  · refine pwp_seq (p := pr i) scr (R := fun _ (σ' : H F) => ∀ y : S1600.Idx, σ' cc0_scratch21 y = outRow D ((y 0).val / 16) ⟨(y 0).val % 16, Nat.mod_lt _ (by omega)⟩)
      ?_ fun _ σ7 h8 => h8
    refine pwp_loop (p := pr i) scr (k0_t8_loop (BitVec.ofNat 32 k)) _ _ _
      (fun _ _ (σ' : H F) => ∀ y : S1600.Idx, σ' cc0_scratch21 y = outRow D ((y 0).val / 16) ⟨(y 0).val % 16, Nat.mod_lt _ (by omega)⟩)
      (fun t => absurd t.isLt (by omega)) ?_
    intro y
    refine h7 y ?_
    have : (y 0).val < 1600 := (y 0).isLt
    omega

end Cert.Proof.Body
-- ==== Proof.Tile.lean ====
/-
  One task on its subcore: what it is handed, what it fetches, what it computes, what it brings back.
-/
module

public import proofs.«01_k».proof.Proof.Body
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic

@[expose] public section

noncomputable section

namespace Cert.Proof.Tile

open Cert.KernelIdeal Cert.KernelIdeal.Gen
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Pwp Cert.Proof.Lanes Cert.Proof.Counting Cert.Proof.Sort Cert.Proof.Step Cert.Proof.Loop Cert.Proof.Body

variable {F : FTy → Type}

abbrev ΛP : Labels := Pipeline.Sig Λ₀ (Fin 0) fun p => (pcfgs (F := F) p).Adm
abbrev K : SparseCore.Cfg τ sig (ΛP (F := F)) 1 := sc (F := F)
abbrev 𝒱₀ : Variants := Variants.none

abbrev UH : Type := URounds (GSem nD τ sig) ℕ
abbrev UU : Type := UH × Counters

local notation "𝕄" => MT nD τ sig (HIx 1) (Elt F) ℕ UU ℕ

/-! ## The arrays and a task's part of them -/

/-- The six arrays the tasks read: scores, corners, classes. -/
structure Arrs (F : FTy → Type) where
  /-- array 0 -/
  a0 : S8192.Idx → F .f32
  /-- array 1 -/
  a1 : S8192.Idx → F .f32
  /-- array 2 -/
  a2 : S8192.Idx → F .f32
  /-- array 3 -/
  a3 : S8192.Idx → F .f32
  /-- array 4 -/
  a4 : S8192.Idx → F .f32
  /-- array 5 -/
  a5 : S8192.Idx → F .f32

/-- Problem `w`'s items. -/
def itemsOf (A : Arrs F) (w : Fin 8) : Items F where
  sc := fun j => A.a0 (ix1 ⟨1024 * w.val + (j 0).val, by have h : (j 0).val < 1024 := (j 0).isLt; have := w.isLt; omega⟩)
  y1 := fun j => A.a1 (ix1 ⟨1024 * w.val + (j 0).val, by have h : (j 0).val < 1024 := (j 0).isLt; have := w.isLt; omega⟩)
  x1 := fun j => A.a2 (ix1 ⟨1024 * w.val + (j 0).val, by have h : (j 0).val < 1024 := (j 0).isLt; have := w.isLt; omega⟩)
  y2 := fun j => A.a3 (ix1 ⟨1024 * w.val + (j 0).val, by have h : (j 0).val < 1024 := (j 0).isLt; have := w.isLt; omega⟩)
  x2 := fun j => A.a4 (ix1 ⟨1024 * w.val + (j 0).val, by have h : (j 0).val < 1024 := (j 0).isLt; have := w.isLt; omega⟩)
  cl := fun j => A.a5 (ix1 ⟨1024 * w.val + (j 0).val, by have h : (j 0).val < 1024 := (j 0).isLt; have := w.isLt; omega⟩)

variable [FloatOps F]

/-- The result array. -/
def OUT (A : Arrs F) : S8x1600.Idx → F .f32 := fun p =>
  outRow (itemsOf A (p 0)) ((p 1).val / 16) ⟨(p 1).val % 16, Nat.mod_lt _ (by omega)⟩

/-- Problem `w`'s part of an input array. -/
def inSet (w : ℕ) : Finset S8192.Idx := Finset.univ.filter fun j => (j 0).val / 1024 = w
/-- Problem `w`'s row of the result array. -/
def outSet (w : ℕ) : Finset S8x1600.Idx := Finset.univ.filter fun p => (p 0).val = w

abbrev loc0 (d : Dev nD) : Loc nD τ sig := (SparseCore.T d).loc main_v2
abbrev loc1 (d : Dev nD) : Loc nD τ sig := (SparseCore.T d).loc main_v7
abbrev loc2 (d : Dev nD) : Loc nD τ sig := (SparseCore.T d).loc main_v12
abbrev loc3 (d : Dev nD) : Loc nD τ sig := (SparseCore.T d).loc main_v17
abbrev loc4 (d : Dev nD) : Loc nD τ sig := (SparseCore.T d).loc main_v22
abbrev loc5 (d : Dev nD) : Loc nD τ sig := (SparseCore.T d).loc main_v26
abbrev locO (d : Dev nD) : Loc nD τ sig := (SparseCore.T d).loc main_v27

/-- Problem `w`'s parts of the six arrays. -/
abbrev inPts (A : Arrs F) (d : Dev nD) (w : ℕ) : sProp 𝕄 :=
  iprop((loc0 d ↦[inSet w]{fullShare} A.a0) ∗ (loc1 d ↦[inSet w]{fullShare} A.a1) ∗ (loc2 d ↦[inSet w]{fullShare} A.a2) ∗ (loc3 d ↦[inSet w]{fullShare} A.a3) ∗ (loc4 d ↦[inSet w]{fullShare} A.a4) ∗ (loc5 d ↦[inSet w]{fullShare} A.a5))
/-- Problem `w`'s row of the result array, at a contents. -/
abbrev outPts (d : Dev nD) (w : ℕ) (f : S8x1600.Idx → F .f32) : sProp 𝕄 := locO d ↦[outSet w]{fullShare} f

variable (d : Dev nD) (L : grid0.Coords)

abbrev cV (L : grid0.Coords) : Fin τ.nSC := (L 0).castLE hcore0
abbrev jV (L : grid0.Coords) : Fin τ.nSub := (L 1).castLE hsub0
/-- The problem of the task at a point of the grid. -/
abbrev wid (L : grid0.Coords) : ℕ := 2 * (L 1).val + (L 0).val

theorem cond1_iff : ∀ i : grid0.Coords, k0_cond1 i = 1#1 ↔ 2 * (i 1).val + (i 0).val < 8 := by decide +kernel

abbrev src0 (h1 : k0_cond1 L = 1#1) : Memref sig .scVector .hbm S1024 .f32 :=
  (Memref.whole main_v2_scv).slice (Rect.unit (s := S8192) (k0_off1 L) S1024.size (k0_off1_inb L h1)) (fun _ => rfl)
abbrev src1 (h1 : k0_cond1 L = 1#1) : Memref sig .scVector .hbm S1024 .f32 :=
  (Memref.whole main_v7_scv).slice (Rect.unit (s := S8192) (k0_off1 L) S1024.size (k0_off1_inb L h1)) (fun _ => rfl)
abbrev src2 (h1 : k0_cond1 L = 1#1) : Memref sig .scVector .hbm S1024 .f32 :=
  (Memref.whole main_v12_scv).slice (Rect.unit (s := S8192) (k0_off1 L) S1024.size (k0_off1_inb L h1)) (fun _ => rfl)
abbrev src3 (h1 : k0_cond1 L = 1#1) : Memref sig .scVector .hbm S1024 .f32 :=
  (Memref.whole main_v17_scv).slice (Rect.unit (s := S8192) (k0_off1 L) S1024.size (k0_off1_inb L h1)) (fun _ => rfl)
abbrev src4 (h1 : k0_cond1 L = 1#1) : Memref sig .scVector .hbm S1024 .f32 :=
  (Memref.whole main_v22_scv).slice (Rect.unit (s := S8192) (k0_off1 L) S1024.size (k0_off1_inb L h1)) (fun _ => rfl)
abbrev src5 (h1 : k0_cond1 L = 1#1) : Memref sig .scVector .hbm S1024 .f32 :=
  (Memref.whole main_v26_scv).slice (Rect.unit (s := S8192) (k0_off1 L) S1024.size (k0_off1_inb L h1)) (fun _ => rfl)
abbrev dstO (h1 : k0_cond1 L = 1#1) : Memref sig .scVector .hbm S1600 .f32 :=
  ((Memref.whole main_v27_scv).slice (Rect.unit (s := S8x1600) (k0_off15 L) S1x1600.size (k0_off15_inb L h1)) (fun _ => rfl)).squeeze S1600 squeezes_S1x1600_S1600

theorem inRect (h1 : k0_cond1 L = 1#1) : (Rect.unit (s := S8192) (k0_off1 L) S1024.size (k0_off1_inb L h1)).set = inSet (wid L) := by
  ext j
  rw [Rect.mem_set_unit, inSet, Finset.mem_filter, k0_off1_eq]
  have hj : (j 0).val < 8192 := (j 0).isLt
  constructor
  · intro h
    have h0 := h 0
    change 2048 * (L 1).val + 1024 * (L 0).val ≤ (j 0).val ∧ (j 0).val < 2048 * (L 1).val + 1024 * (L 0).val + 1024 at h0
    exact ⟨Finset.mem_univ _, by unfold wid; omega⟩
  · rintro ⟨-, h⟩ a
    match a with
    | 0 =>
      show 2048 * (L 1).val + 1024 * (L 0).val ≤ (j 0).val ∧ (j 0).val < 2048 * (L 1).val + 1024 * (L 0).val + 1024
      unfold wid at h
      omega

theorem outRect (h1 : k0_cond1 L = 1#1) : (Rect.unit (s := S8x1600) (k0_off15 L) S1x1600.size (k0_off15_inb L h1)).set = outSet (wid L) := by
  ext p
  rw [Rect.mem_set_unit, outSet, Finset.mem_filter, k0_off15_eq]
  have hp : (p 1).val < 1600 := (p 1).isLt
  constructor
  · intro h
    have h0 := h 0
    change 2 * (L 1).val + (L 0).val ≤ (p 0).val ∧ (p 0).val < 2 * (L 1).val + (L 0).val + 1 at h0
    exact ⟨Finset.mem_univ _, by unfold wid; omega⟩
  · rintro ⟨-, h⟩ a
    match a with
    | 0 =>
      show 2 * (L 1).val + (L 0).val ≤ (p 0).val ∧ (p 0).val < 2 * (L 1).val + (L 0).val + 1
      unfold wid at h
      omega
    | 1 =>
      show 0 ≤ (p 1).val ∧ (p 1).val < 0 + 1600
      omega

theorem pts0 (h1 : k0_cond1 L = 1#1) (f : S8192.Idx → F .f32) :
    ((src0 L h1).view.loc (V d (cV L) (jV L)) ↦[(src0 L h1).view.set]{fullShare} f : sProp 𝕄) = loc0 d ↦[inSet (wid L)]{fullShare} f := by
  rw [← inRect L h1, show (src0 L h1).view.set = _ from View.set_slice _ _]
  exact congrArg (fun s => (loc0 d ↦[s]{fullShare} f : sProp 𝕄)) Finset.map_refl
theorem pts1 (h1 : k0_cond1 L = 1#1) (f : S8192.Idx → F .f32) :
    ((src1 L h1).view.loc (V d (cV L) (jV L)) ↦[(src1 L h1).view.set]{fullShare} f : sProp 𝕄) = loc1 d ↦[inSet (wid L)]{fullShare} f := by
  rw [← inRect L h1, show (src1 L h1).view.set = _ from View.set_slice _ _]
  exact congrArg (fun s => (loc1 d ↦[s]{fullShare} f : sProp 𝕄)) Finset.map_refl
theorem pts2 (h1 : k0_cond1 L = 1#1) (f : S8192.Idx → F .f32) :
    ((src2 L h1).view.loc (V d (cV L) (jV L)) ↦[(src2 L h1).view.set]{fullShare} f : sProp 𝕄) = loc2 d ↦[inSet (wid L)]{fullShare} f := by
  rw [← inRect L h1, show (src2 L h1).view.set = _ from View.set_slice _ _]
  exact congrArg (fun s => (loc2 d ↦[s]{fullShare} f : sProp 𝕄)) Finset.map_refl
theorem pts3 (h1 : k0_cond1 L = 1#1) (f : S8192.Idx → F .f32) :
    ((src3 L h1).view.loc (V d (cV L) (jV L)) ↦[(src3 L h1).view.set]{fullShare} f : sProp 𝕄) = loc3 d ↦[inSet (wid L)]{fullShare} f := by
  rw [← inRect L h1, show (src3 L h1).view.set = _ from View.set_slice _ _]
  exact congrArg (fun s => (loc3 d ↦[s]{fullShare} f : sProp 𝕄)) Finset.map_refl
theorem pts4 (h1 : k0_cond1 L = 1#1) (f : S8192.Idx → F .f32) :
    ((src4 L h1).view.loc (V d (cV L) (jV L)) ↦[(src4 L h1).view.set]{fullShare} f : sProp 𝕄) = loc4 d ↦[inSet (wid L)]{fullShare} f := by
  rw [← inRect L h1, show (src4 L h1).view.set = _ from View.set_slice _ _]
  exact congrArg (fun s => (loc4 d ↦[s]{fullShare} f : sProp 𝕄)) Finset.map_refl
theorem pts5 (h1 : k0_cond1 L = 1#1) (f : S8192.Idx → F .f32) :
    ((src5 L h1).view.loc (V d (cV L) (jV L)) ↦[(src5 L h1).view.set]{fullShare} f : sProp 𝕄) = loc5 d ↦[inSet (wid L)]{fullShare} f := by
  rw [← inRect L h1, show (src5 L h1).view.set = _ from View.set_slice _ _]
  exact congrArg (fun s => (loc5 d ↦[s]{fullShare} f : sProp 𝕄)) Finset.map_refl
theorem ptsO (h1 : k0_cond1 L = 1#1) (f : S8x1600.Idx → F .f32) :
    ((dstO L h1).view.loc (V d (cV L) (jV L)) ↦[(dstO L h1).view.set]{fullShare} f : sProp 𝕄) = locO d ↦[outSet (wid L)]{fullShare} f := by
  rw [← outRect L h1, show (dstO L h1).view.set = _ from (View.set_reshape _ _).trans (View.set_slice _ _)]
  exact congrArg (fun s => (locO d ↦[s]{fullShare} f : sProp 𝕄)) Finset.map_refl

end Cert.Proof.Tile
-- ==== Proof.Tile2.lean ====
/-
  One task's run: the fetch, the computation, the rows put out.
-/
module

public import proofs.«01_k».proof.Proof.Tile
public import Idealize.ShloMosaic.Lib.Pipeline.ValueKit.Geometry

@[expose] public section

noncomputable section

namespace Cert.Proof.Tile

open Cert.KernelIdeal Cert.KernelIdeal.Gen
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Pwp Cert.Proof.Lanes Cert.Proof.Counting Cert.Proof.Sort Cert.Proof.Step Cert.Proof.Loop Cert.Proof.Body

variable {F : FTy → Type} [FloatOps F]

local notation "𝕄" => MT nD τ sig (HIx 1) (Elt F) ℕ UU ℕ

variable (d : Dev nD) (L : grid0.Coords)

abbrev me (d : Dev nD) (L : grid0.Coords) : Thread nD τ := V d (cV L) (jV L)

/-! ## The subcore's buffers and semaphores -/

abbrev devEmb (L : grid0.Coords) : Ref sig .scVector ↪ DevRef τ sig := ⟨(Proc.scVector (cV L) (jV L)).devRef, Proc.devRef_injective _⟩

theorem scr_own : scr.map (devEmb L) ⊆ ownRefs (τ := τ) (sig := sig) (.scVector (cV L) (jV L)) := by
  have h : ∀ b ∈ scr, ((Proc.scVector (cV L) (jV L)).devRef b).owner = .proc (.scVector (cV L) (jV L)) := by
    intro b hb
    simp only [scr, Finset.mem_insert, Finset.mem_singleton] at hb
    rcases hb with rfl | rfl | rfl | rfl | rfl | rfl | rfl | rfl | rfl | rfl | rfl | rfl | rfl | rfl | rfl | rfl | rfl | rfl | rfl | rfl | rfl | rfl <;> rfl
  intro x hx
  obtain ⟨b, hb, rfl⟩ := Finset.mem_map.mp hx
  exact SparseCore.Cfg.mem_ownRefs_of_owner (p := Proc.scVector (cV L) (jV L)) (h b hb)

/-- The buffers a task does not name. -/
abbrev others : sProp 𝕄 := bigSep (ownRefs (τ := τ) (sig := sig) (.scVector (cV L) (jV L)) \ scr.map (devEmb L)) fun b => iprop(∃ f, ((d, b) : Loc nD τ sig) ↦{fullShare} f)

theorem ownBufs_scr : (ownBufs (me d L) : sProp 𝕄)
    = iprop((bigSep scr fun b => iprop(∃ f, (me d L).loc b ↦{fullShare} f)) ∗ others d L) := by
  unfold SparseCore.Cfg.ownBufs
  refine (BI.bigSep_sdiff_split (scr_own L)).trans ?_
  rw [BI.bigSep_map]
  rfl

theorem scr_some [∀ e, Nonempty (Elt F e)] : (bigSep scr fun b => iprop(∃ f, (me d L).loc b ↦{fullShare} f) : sProp 𝕄)
    ⊢ iprop(∃ σ : H F, own (me d L) scr σ) :=
  bigSep_exists_pi scr fun b (f : Buf (Elt F) ((me d L).loc b)) => ((me d L).loc b ↦{fullShare} f : sProp 𝕄)

theorem some_scr (σ : H F) : (own (me d L) scr σ : sProp 𝕄) ⊢ bigSep scr fun b => iprop(∃ f, (me d L).loc b ↦{fullShare} f) :=
  BI.bigSep_mono fun b _ => exists_intro (Φ := fun f : Buf (Elt F) ((me d L).loc b) => ((me d L).loc b ↦{fullShare} f : sProp 𝕄)) (σ b)

abbrev cellA (d : Dev nD) (L : grid0.Coords) : GSem nD τ sig := (me d L, .dma cc0_scratch22.sem)
abbrev cellB (d : Dev nD) (L : grid0.Coords) : GSem nD τ sig := (me d L, .dma cc0_scoped0.sem)

/-- The semaphores a task does not name. -/
abbrev otherSems : sProp 𝕄 := bigSep (((ownCells (me d L)).erase (cellA d L)).erase (cellB d L)) fun g => semVal g 0

theorem ownSems0_two : (ownSems0 (me d L) : sProp 𝕄)
    = iprop(semVal (cellA d L) 0 ∗ semVal (cellB d L) 0 ∗ otherSems d L) := by
  unfold SparseCore.Cfg.ownSems0
  rw [SparseCore.bigSep_erase' ((mem_ownCells (g := cellA d L)).mpr ⟨rfl, by
      show (SemLoc.dma cc0_scratch22.sem : SemLoc sig).isScoped .scVector = true; decide⟩),
    SparseCore.bigSep_erase' (Finset.mem_erase.mpr ⟨by simp [cellA, cellB]; decide, (mem_ownCells (g := cellB d L)).mpr ⟨rfl, by
      show (SemLoc.dma cc0_scoped0.sem : SemLoc sig).isScoped .scVector = true; decide⟩⟩)]

/-! ## The computation -/

/-- What a subcore's rows are when its task is done. -/
def Rows (D : Items F) (σ : H F) : Prop :=
  ∀ y : S1600.Idx, σ cc0_scratch21 y = outRow D ((y 0).val / 16) ⟨(y 0).val % 16, Nat.mod_lt _ (by omega)⟩

theorem compute_wp (h1 : k0_cond1 L = 1#1) (D : Items F) (hd : ∀ j, cl D.cl j < 96) (σ : H F) (hG : Given D σ) (R : sProp 𝕄) (Q : PUnit → sProp 𝕄)
    (q : Prog (TpuEff nD τ sig (Elt F) Λ₀ (pr L)) PUnit)
    (h : ∀ σ', Rows D σ' → iprop(own (me d L) scr σ' ∗ R) ⊢ wp frame (wpE (defs₀ (F := F)) 𝒱₀ (me d L) none) Set.univ q Q) :
    iprop(own (me d L) scr σ ∗ R)
      ⊢ wp frame (wpE (defs₀ (F := F)) 𝒱₀ (me d L) none) Set.univ (computeK L cc0_scratch22 cc0_scoped0 h1 q) Q := by
  rw [computeK_eq, wp_bind]
  refine (sep_mono_left (pwp_sound (defs := defs₀ (F := F)) (Γ := .empty) 𝒱₀ (me d L) none Set.univ scr (compute L cc0_scratch22 cc0_scoped0 h1) (fun _ σ' => Rows D σ') σ
    (compute_spec L cc0_scratch22 cc0_scoped0 h1 D hd hG))).trans ?_
  refine (wp_frame_r frame _ _).trans (wp_mono frame _ _ fun _ => ?_)
  iintro ⟨⟨%σ', %hr, H⟩, HR⟩
  iapply (h σ' hr)
  isplitl [H]
  · iexact H
  · iexact HR

/-! ## The rows put out -/

/-- The row written is the result's. -/
theorem out_eq (h1 : k0_cond1 L = 1#1) (A : Arrs F) (hw : wid L < 8) (σ : H F) (hr : Rows (itemsOf A ⟨wid L, hw⟩) σ) (o : S8x1600.Idx → F .f32) (pay : S1600.Idx → F .f32)
    (hpay : pay = (Memref.whole cc0_scratch21).view.read (Elt F) (σ cc0_scratch21)) (p : S8x1600.Idx) (hp : p ∈ outSet (wid L)) :
    (dstO L h1).view.writes (Elt F) o [⟨Rect.whole S1600, pay⟩] p = OUT A p := by
  have hs : (dstO L h1).view.set = outSet (wid L) := by
    rw [← outRect L h1, show (dstO L h1).view.set = _ from (View.set_reshape _ _).trans (View.set_slice _ _)]
    exact Finset.map_refl
  have hp0 : (p 0).val = wid L := (Finset.mem_filter.mp hp).2
  rw [← hs] at hp
  obtain ⟨y, -, rfl⟩ := Finset.mem_map.mp hp
  have e1 : ((dstO L h1).view.emb y 1).val = (y 0).val := by
    show (((View.whole main_v27_scv).slice (Rect.unit (s := S8x1600) (k0_off15 L) S1x1600.size (k0_off15_inb L h1))).emb
      (Shape.reshapeEquiv squeezes_S1x1600_S1600.numel_eq y) 1).val = _
    rw [ValueKit.view_emb_slice_whole_unit_val, show Shape.reshapeEquiv squeezes_S1x1600_S1600.numel_eq y = _ from Shape.reshapeEquiv_cons_one _ y,
      show k0_off15 L (1 : Fin 2) = 0 from congrFun (k0_off15_eq L) 1]
    exact Nat.zero_add _
  have hrd := congrFun (View.read_writes_whole (Val := Elt F) (dstO L h1).view o pay) y
  rw [View.read_apply, cast_eq] at hrd
  refine hrd.trans ?_
  rw [hpay]
  refine (View.read_apply _ _).trans ((cast_eq _ _).trans ((hr y).trans ?_))
  unfold OUT
  have e0 : (⟨wid L, hw⟩ : Fin 8) = (dstO L h1).view.emb y 0 := Fin.ext hp0.symm
  rw [e0]
  have e2 : (⟨(y 0).val % 16, Nat.mod_lt _ (by omega)⟩ : Fin 16) = ⟨((dstO L h1).view.emb y 1).val % 16, Nat.mod_lt _ (by omega)⟩ := Fin.ext (congrArg (· % 16) e1.symm)
  rw [e2]
  exact congrArg (fun n => outRow _ n _) (congrArg (· / 16) e1.symm)

theorem out_pts (h1 : k0_cond1 L = 1#1) (A : Arrs F) (hw : wid L < 8) (σ : H F) (hr : Rows (itemsOf A ⟨wid L, hw⟩) σ) (o : S8x1600.Idx → F .f32) (pay : S1600.Idx → F .f32)
    (hpay : pay = (Memref.whole cc0_scratch21).view.read (Elt F) (σ cc0_scratch21)) :
    ((dstO L h1).view.loc (V d (cV L) (jV L)) ↦[(dstO L h1).view.set]{fullShare} (dstO L h1).view.writes (Elt F) o [⟨Rect.whole S1600, pay⟩] : sProp 𝕄)
      = outPts d (wid L) (OUT A) :=
  (ptsO d L h1 _).trans (pointsTo_congr (ℓ := locO d) (q := fullShare) (out_eq L h1 A hw σ hr o pay hpay))

set_option maxHeartbeats 1000000 in
theorem wout_wp (hF : (K (F := F)).Facts) (h1 : k0_cond1 L = 1#1) (A : Arrs F) (hw : wid L < 8) (o : S8x1600.Idx → F .f32) (O : CellTallies nD τ sig (HIx 1)) (W W' : Waits sig (HIx 1))
    (hO : ∀ g, O g none = 0) (hW : ∀ p ∈ W', p ∈ W ∨ p.2 = none) (σ : H F) (hr : Rows (itemsOf A ⟨wid L, hw⟩) σ) :
    iprop(own (me d L) scr σ ∗ levAts (K (F := F)).L (K (F := F)).lev ∗ inPts A d (wid L) ∗ outPts d (wid L) o ∗ others d L
        ∗ semVal (cellA d L) 0 ∗ semVal (cellB d L) 0 ∗ otherSems d L ∗ owes (me d L) O W')
      ⊢ wp frame (wpE (defs₀ (F := F)) 𝒱₀ (me d L) none) Set.univ (wout L cc0_scoped0 h1)
          fun _ => iprop((inPts A d (wid L) ∗ outPts d (wid L) (OUT A)) ∗ scopedBufs (me d L) ∗ scopedSems0 (me d L)
            ∗ ∃ W', ⌜∀ p ∈ W', p ∈ W ∨ p.2 = none⌝ ∗ owes (me d L) O W') := by
  rw [(K (F := F)).scopedBufs_V hF d (cV L) (jV L), SparseCore.Cfg.scopedSems0_V (Val := Elt F) d (cV L) (jV L), ownSems0_two, ownBufs_scr,
    own_take (me d L) scr (b := cc0_scratch21) (mem_scr _ rfl) σ]
  unfold wout
  iintro ⟨⟨Hs, Hr⟩, #Hlv, Hin, Ho, Hoth, HA, HB, Hsems, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Ho' := (Entails.of_eq (ptsO (F := F) d L h1 _).symm) $$ Ho
  ihave Hs' := (Entails.of_eq (show ((me d L).loc cc0_scratch21 ↦{fullShare} σ cc0_scratch21 : sProp 𝕄)
    = (Memref.whole cc0_scratch21).view.loc (V d (cV L) (jV L)) ↦{fullShare} σ cc0_scratch21 from rfl)) $$ Hs
  sl_exec
  sl_step
  isplitl [Hin Ho']
  · isplitl [Hin]; · iexact Hin
    ihave Ho := (Entails.of_eq (out_pts d L h1 A hw σ hr o (wout_wp.sl.dma0 σ) rfl)) $$ Ho'
    iexact Ho
  isplitl [Hs' Hr Hoth]
  · isplitl [Hs' Hr]
    · iapply (some_scr d L σ)
      rw [own_take (me d L) scr (b := cc0_scratch21) (mem_scr _ rfl) σ]
      isplitl [Hs']; · iexact Hs'
      iexact Hr
    iexact Hoth
  isplitl [HA HB Hsems]
  · isplitl [HA]; · iexact HA
    isplitl [HB]; · iexact HB
    iexact Hsems
  iexists _; isplitr
  swap; · iexact HO
  ipureintro; intro p hp
  rcases Finset.mem_insert.mp hp with hp | hp; · exact .inr (hp ▸ rfl)
  exact hW p hp

end Cert.Proof.Tile
-- ==== Proof.Tile3.lean ====
/-
  A task of the grid, start to end: from its parts of the arrays to its row of the result.
-/
module

public import proofs.«01_k».proof.Proof.Tile2

@[expose] public section

noncomputable section

namespace Cert.Proof.Tile

open Cert.KernelIdeal Cert.KernelIdeal.Gen
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Pwp Cert.Proof.Lanes Cert.Proof.Counting Cert.Proof.Sort Cert.Proof.Step Cert.Proof.Loop Cert.Proof.Body

variable {F : FTy → Type} [FloatOps F]

local notation "𝕄" => MT nD τ sig (HIx 1) (Elt F) ℕ UU ℕ

variable (d : Dev nD) (L : grid0.Coords)

/-- The scratch a task fetches nothing into. -/
abbrev scr' : Finset (Ref sig .scVector) := ((((((scr.erase cc0_scratch0).erase cc0_scratch1).erase cc0_scratch2).erase cc0_scratch3).erase cc0_scratch4).erase cc0_scratch5)

theorem own_six (σ : H F) : (own (me d L) scr σ : sProp 𝕄) = iprop(((me d L).loc cc0_scratch0 ↦{fullShare} σ cc0_scratch0) ∗ ((me d L).loc cc0_scratch1 ↦{fullShare} σ cc0_scratch1) ∗ ((me d L).loc cc0_scratch2 ↦{fullShare} σ cc0_scratch2) ∗ ((me d L).loc cc0_scratch3 ↦{fullShare} σ cc0_scratch3) ∗ ((me d L).loc cc0_scratch4 ↦{fullShare} σ cc0_scratch4) ∗ ((me d L).loc cc0_scratch5 ↦{fullShare} σ cc0_scratch5) ∗ own (me d L) scr' σ) := by
  rw [own_take (me d L) scr (b := cc0_scratch0) (mem_scr _ rfl) σ, show (bigSep (scr.erase cc0_scratch0) fun b => ((me d L).loc b ↦{fullShare} σ b : sProp 𝕄)) = own (me d L) (scr.erase cc0_scratch0) σ from rfl]
  rw [own_take (me d L) (scr.erase cc0_scratch0) (b := cc0_scratch1) (Finset.mem_erase.mpr ⟨(by decide : (cc0_scratch1 : Ref sig .scVector) ≠ cc0_scratch0), (mem_scr _ rfl)⟩) σ, show (bigSep ((scr.erase cc0_scratch0).erase cc0_scratch1) fun b => ((me d L).loc b ↦{fullShare} σ b : sProp 𝕄)) = own (me d L) ((scr.erase cc0_scratch0).erase cc0_scratch1) σ from rfl]
  rw [own_take (me d L) ((scr.erase cc0_scratch0).erase cc0_scratch1) (b := cc0_scratch2) (Finset.mem_erase.mpr ⟨(by decide : (cc0_scratch2 : Ref sig .scVector) ≠ cc0_scratch1), (Finset.mem_erase.mpr ⟨(by decide : (cc0_scratch2 : Ref sig .scVector) ≠ cc0_scratch0), (mem_scr _ rfl)⟩)⟩) σ, show (bigSep (((scr.erase cc0_scratch0).erase cc0_scratch1).erase cc0_scratch2) fun b => ((me d L).loc b ↦{fullShare} σ b : sProp 𝕄)) = own (me d L) (((scr.erase cc0_scratch0).erase cc0_scratch1).erase cc0_scratch2) σ from rfl]
  rw [own_take (me d L) (((scr.erase cc0_scratch0).erase cc0_scratch1).erase cc0_scratch2) (b := cc0_scratch3) (Finset.mem_erase.mpr ⟨(by decide : (cc0_scratch3 : Ref sig .scVector) ≠ cc0_scratch2), (Finset.mem_erase.mpr ⟨(by decide : (cc0_scratch3 : Ref sig .scVector) ≠ cc0_scratch1), (Finset.mem_erase.mpr ⟨(by decide : (cc0_scratch3 : Ref sig .scVector) ≠ cc0_scratch0), (mem_scr _ rfl)⟩)⟩)⟩) σ, show (bigSep ((((scr.erase cc0_scratch0).erase cc0_scratch1).erase cc0_scratch2).erase cc0_scratch3) fun b => ((me d L).loc b ↦{fullShare} σ b : sProp 𝕄)) = own (me d L) ((((scr.erase cc0_scratch0).erase cc0_scratch1).erase cc0_scratch2).erase cc0_scratch3) σ from rfl]
  rw [own_take (me d L) ((((scr.erase cc0_scratch0).erase cc0_scratch1).erase cc0_scratch2).erase cc0_scratch3) (b := cc0_scratch4) (Finset.mem_erase.mpr ⟨(by decide : (cc0_scratch4 : Ref sig .scVector) ≠ cc0_scratch3), (Finset.mem_erase.mpr ⟨(by decide : (cc0_scratch4 : Ref sig .scVector) ≠ cc0_scratch2), (Finset.mem_erase.mpr ⟨(by decide : (cc0_scratch4 : Ref sig .scVector) ≠ cc0_scratch1), (Finset.mem_erase.mpr ⟨(by decide : (cc0_scratch4 : Ref sig .scVector) ≠ cc0_scratch0), (mem_scr _ rfl)⟩)⟩)⟩)⟩) σ, show (bigSep (((((scr.erase cc0_scratch0).erase cc0_scratch1).erase cc0_scratch2).erase cc0_scratch3).erase cc0_scratch4) fun b => ((me d L).loc b ↦{fullShare} σ b : sProp 𝕄)) = own (me d L) (((((scr.erase cc0_scratch0).erase cc0_scratch1).erase cc0_scratch2).erase cc0_scratch3).erase cc0_scratch4) σ from rfl]
  rw [own_take (me d L) (((((scr.erase cc0_scratch0).erase cc0_scratch1).erase cc0_scratch2).erase cc0_scratch3).erase cc0_scratch4) (b := cc0_scratch5) (Finset.mem_erase.mpr ⟨(by decide : (cc0_scratch5 : Ref sig .scVector) ≠ cc0_scratch4), (Finset.mem_erase.mpr ⟨(by decide : (cc0_scratch5 : Ref sig .scVector) ≠ cc0_scratch3), (Finset.mem_erase.mpr ⟨(by decide : (cc0_scratch5 : Ref sig .scVector) ≠ cc0_scratch2), (Finset.mem_erase.mpr ⟨(by decide : (cc0_scratch5 : Ref sig .scVector) ≠ cc0_scratch1), (Finset.mem_erase.mpr ⟨(by decide : (cc0_scratch5 : Ref sig .scVector) ≠ cc0_scratch0), (mem_scr _ rfl)⟩)⟩)⟩)⟩)⟩) σ, show (bigSep ((((((scr.erase cc0_scratch0).erase cc0_scratch1).erase cc0_scratch2).erase cc0_scratch3).erase cc0_scratch4).erase cc0_scratch5) fun b => ((me d L).loc b ↦{fullShare} σ b : sProp 𝕄)) = own (me d L) ((((((scr.erase cc0_scratch0).erase cc0_scratch1).erase cc0_scratch2).erase cc0_scratch3).erase cc0_scratch4).erase cc0_scratch5) σ from rfl]

theorem own_congr {B : Finset (Ref sig .scVector)} {σ σ' : H F} (h : ∀ b ∈ B, σ b = σ' b) : (own (me d L) B σ : sProp 𝕄) = own (me d L) B σ' :=
  bigSep_congr fun b hb => by rw [h b hb]

theorem put_six (σ : H F) (f0 f1 f2 f3 f4 f5 : S1024.Idx → F .f32) :
    iprop(((me d L).loc cc0_scratch0 ↦{fullShare} f0) ∗ ((me d L).loc cc0_scratch1 ↦{fullShare} f1) ∗ ((me d L).loc cc0_scratch2 ↦{fullShare} f2) ∗ ((me d L).loc cc0_scratch3 ↦{fullShare} f3) ∗ ((me d L).loc cc0_scratch4 ↦{fullShare} f4) ∗ ((me d L).loc cc0_scratch5 ↦{fullShare} f5) ∗ own (me d L) scr' σ)
      ⊢ (iprop(∃ σ' : H F, ⌜σ' cc0_scratch0 = f0 ∧ σ' cc0_scratch1 = f1 ∧ σ' cc0_scratch2 = f2 ∧ σ' cc0_scratch3 = f3 ∧ σ' cc0_scratch4 = f4 ∧ σ' cc0_scratch5 = f5⌝ ∗ own (me d L) scr σ') : sProp 𝕄) := by
  have key : ∀ σ' : H F, σ' cc0_scratch0 = f0 → σ' cc0_scratch1 = f1 → σ' cc0_scratch2 = f2 → σ' cc0_scratch3 = f3 → σ' cc0_scratch4 = f4 → σ' cc0_scratch5 = f5 → (∀ b ∈ scr', σ b = σ' b) →
      iprop(((me d L).loc cc0_scratch0 ↦{fullShare} f0) ∗ ((me d L).loc cc0_scratch1 ↦{fullShare} f1) ∗ ((me d L).loc cc0_scratch2 ↦{fullShare} f2) ∗ ((me d L).loc cc0_scratch3 ↦{fullShare} f3) ∗ ((me d L).loc cc0_scratch4 ↦{fullShare} f4) ∗ ((me d L).loc cc0_scratch5 ↦{fullShare} f5) ∗ own (me d L) scr' σ) ⊢ (iprop(∃ σ' : H F, ⌜σ' cc0_scratch0 = f0 ∧ σ' cc0_scratch1 = f1 ∧ σ' cc0_scratch2 = f2 ∧ σ' cc0_scratch3 = f3 ∧ σ' cc0_scratch4 = f4 ∧ σ' cc0_scratch5 = f5⌝ ∗ own (me d L) scr σ') : sProp 𝕄) := by
    intro σ' h0 h1 h2 h3 h4 h5 h
    rw [own_congr d L h, ← h0, ← h1, ← h2, ← h3, ← h4, ← h5, ← own_six d L σ']
    iintro H
    iexists σ'
    isplitr
    · ipureintro; exact ⟨rfl, rfl, rfl, rfl, rfl, rfl⟩
    · iexact H
  refine key (Function.update (Function.update (Function.update (Function.update (Function.update (Function.update σ cc0_scratch5 f5) cc0_scratch4 f4) cc0_scratch3 f3) cc0_scratch2 f2) cc0_scratch1 f1) cc0_scratch0 f0) ?_ ?_ ?_ ?_ ?_ ?_ ?_
  · rw [Function.update_self]
  · rw [Function.update_of_ne (show (cc0_scratch1 : Ref sig .scVector) ≠ cc0_scratch0 by decide), Function.update_self]
  · rw [Function.update_of_ne (show (cc0_scratch2 : Ref sig .scVector) ≠ cc0_scratch0 by decide), Function.update_of_ne (show (cc0_scratch2 : Ref sig .scVector) ≠ cc0_scratch1 by decide), Function.update_self]
  · rw [Function.update_of_ne (show (cc0_scratch3 : Ref sig .scVector) ≠ cc0_scratch0 by decide), Function.update_of_ne (show (cc0_scratch3 : Ref sig .scVector) ≠ cc0_scratch1 by decide), Function.update_of_ne (show (cc0_scratch3 : Ref sig .scVector) ≠ cc0_scratch2 by decide), Function.update_self]
  · rw [Function.update_of_ne (show (cc0_scratch4 : Ref sig .scVector) ≠ cc0_scratch0 by decide), Function.update_of_ne (show (cc0_scratch4 : Ref sig .scVector) ≠ cc0_scratch1 by decide), Function.update_of_ne (show (cc0_scratch4 : Ref sig .scVector) ≠ cc0_scratch2 by decide), Function.update_of_ne (show (cc0_scratch4 : Ref sig .scVector) ≠ cc0_scratch3 by decide), Function.update_self]
  · rw [Function.update_of_ne (show (cc0_scratch5 : Ref sig .scVector) ≠ cc0_scratch0 by decide), Function.update_of_ne (show (cc0_scratch5 : Ref sig .scVector) ≠ cc0_scratch1 by decide), Function.update_of_ne (show (cc0_scratch5 : Ref sig .scVector) ≠ cc0_scratch2 by decide), Function.update_of_ne (show (cc0_scratch5 : Ref sig .scVector) ≠ cc0_scratch3 by decide), Function.update_of_ne (show (cc0_scratch5 : Ref sig .scVector) ≠ cc0_scratch4 by decide), Function.update_self]
  · intro b hb
    obtain ⟨n5, hb⟩ := Finset.mem_erase.mp hb
    obtain ⟨n4, hb⟩ := Finset.mem_erase.mp hb
    obtain ⟨n3, hb⟩ := Finset.mem_erase.mp hb
    obtain ⟨n2, hb⟩ := Finset.mem_erase.mp hb
    obtain ⟨n1, hb⟩ := Finset.mem_erase.mp hb
    obtain ⟨n0, hb⟩ := Finset.mem_erase.mp hb
    rw [Function.update_of_ne n0, Function.update_of_ne n1, Function.update_of_ne n2, Function.update_of_ne n3, Function.update_of_ne n4, Function.update_of_ne n5]

theorem got0 (h1 : k0_cond1 L = 1#1) (A : Arrs F) (hw : wid L < 8) (g : S1024.Idx → F .f32) (pay : S1024.Idx → F .f32)
    (hpay : pay = (src0 L h1).view.read (Elt F) A.a0) :
    View.write (Elt F) (Memref.whole cc0_scratch0).view g pay Finset.univ = (itemsOf A ⟨wid L, hw⟩).sc := by
  rw [View.write_whole_univ, hpay]
  funext j
  refine (View.read_apply _ _).trans ((cast_eq _ _).trans ?_)
  refine congrArg A.a0 (funext fun a => Fin.ext ?_)
  match a with
  | 0 =>
    show (((View.whole main_v2_scv).slice (Rect.unit (s := S8192) (k0_off1 L) S1024.size (k0_off1_inb L h1))).emb j (0 : Fin 1)).val = 1024 * (2 * (L 1).val + (L 0).val) + (j 0).val
    have hk : k0_off1 L (0 : Fin 1) = 2048 * (L 1).val + 1024 * (L 0).val := congrFun (k0_off1_eq L) 0
    rw [ValueKit.view_emb_slice_whole_unit_val]
    omega

theorem got1 (h1 : k0_cond1 L = 1#1) (A : Arrs F) (hw : wid L < 8) (g : S1024.Idx → F .f32) (pay : S1024.Idx → F .f32)
    (hpay : pay = (src1 L h1).view.read (Elt F) A.a1) :
    View.write (Elt F) (Memref.whole cc0_scratch1).view g pay Finset.univ = (itemsOf A ⟨wid L, hw⟩).y1 := by
  rw [View.write_whole_univ, hpay]
  funext j
  refine (View.read_apply _ _).trans ((cast_eq _ _).trans ?_)
  refine congrArg A.a1 (funext fun a => Fin.ext ?_)
  match a with
  | 0 =>
    show (((View.whole main_v7_scv).slice (Rect.unit (s := S8192) (k0_off1 L) S1024.size (k0_off1_inb L h1))).emb j (0 : Fin 1)).val = 1024 * (2 * (L 1).val + (L 0).val) + (j 0).val
    have hk : k0_off1 L (0 : Fin 1) = 2048 * (L 1).val + 1024 * (L 0).val := congrFun (k0_off1_eq L) 0
    rw [ValueKit.view_emb_slice_whole_unit_val]
    omega

theorem got2 (h1 : k0_cond1 L = 1#1) (A : Arrs F) (hw : wid L < 8) (g : S1024.Idx → F .f32) (pay : S1024.Idx → F .f32)
    (hpay : pay = (src2 L h1).view.read (Elt F) A.a2) :
    View.write (Elt F) (Memref.whole cc0_scratch2).view g pay Finset.univ = (itemsOf A ⟨wid L, hw⟩).x1 := by
  rw [View.write_whole_univ, hpay]
  funext j
  refine (View.read_apply _ _).trans ((cast_eq _ _).trans ?_)
  refine congrArg A.a2 (funext fun a => Fin.ext ?_)
  match a with
  | 0 =>
    show (((View.whole main_v12_scv).slice (Rect.unit (s := S8192) (k0_off1 L) S1024.size (k0_off1_inb L h1))).emb j (0 : Fin 1)).val = 1024 * (2 * (L 1).val + (L 0).val) + (j 0).val
    have hk : k0_off1 L (0 : Fin 1) = 2048 * (L 1).val + 1024 * (L 0).val := congrFun (k0_off1_eq L) 0
    rw [ValueKit.view_emb_slice_whole_unit_val]
    omega

theorem got3 (h1 : k0_cond1 L = 1#1) (A : Arrs F) (hw : wid L < 8) (g : S1024.Idx → F .f32) (pay : S1024.Idx → F .f32)
    (hpay : pay = (src3 L h1).view.read (Elt F) A.a3) :
    View.write (Elt F) (Memref.whole cc0_scratch3).view g pay Finset.univ = (itemsOf A ⟨wid L, hw⟩).y2 := by
  rw [View.write_whole_univ, hpay]
  funext j
  refine (View.read_apply _ _).trans ((cast_eq _ _).trans ?_)
  refine congrArg A.a3 (funext fun a => Fin.ext ?_)
  match a with
  | 0 =>
    show (((View.whole main_v17_scv).slice (Rect.unit (s := S8192) (k0_off1 L) S1024.size (k0_off1_inb L h1))).emb j (0 : Fin 1)).val = 1024 * (2 * (L 1).val + (L 0).val) + (j 0).val
    have hk : k0_off1 L (0 : Fin 1) = 2048 * (L 1).val + 1024 * (L 0).val := congrFun (k0_off1_eq L) 0
    rw [ValueKit.view_emb_slice_whole_unit_val]
    omega

theorem got4 (h1 : k0_cond1 L = 1#1) (A : Arrs F) (hw : wid L < 8) (g : S1024.Idx → F .f32) (pay : S1024.Idx → F .f32)
    (hpay : pay = (src4 L h1).view.read (Elt F) A.a4) :
    View.write (Elt F) (Memref.whole cc0_scratch4).view g pay Finset.univ = (itemsOf A ⟨wid L, hw⟩).x2 := by
  rw [View.write_whole_univ, hpay]
  funext j
  refine (View.read_apply _ _).trans ((cast_eq _ _).trans ?_)
  refine congrArg A.a4 (funext fun a => Fin.ext ?_)
  match a with
  | 0 =>
    show (((View.whole main_v22_scv).slice (Rect.unit (s := S8192) (k0_off1 L) S1024.size (k0_off1_inb L h1))).emb j (0 : Fin 1)).val = 1024 * (2 * (L 1).val + (L 0).val) + (j 0).val
    have hk : k0_off1 L (0 : Fin 1) = 2048 * (L 1).val + 1024 * (L 0).val := congrFun (k0_off1_eq L) 0
    rw [ValueKit.view_emb_slice_whole_unit_val]
    omega

theorem got5 (h1 : k0_cond1 L = 1#1) (A : Arrs F) (hw : wid L < 8) (g : S1024.Idx → F .f32) (pay : S1024.Idx → F .f32)
    (hpay : pay = (src5 L h1).view.read (Elt F) A.a5) :
    View.write (Elt F) (Memref.whole cc0_scratch5).view g pay Finset.univ = (itemsOf A ⟨wid L, hw⟩).cl := by
  rw [View.write_whole_univ, hpay]
  funext j
  refine (View.read_apply _ _).trans ((cast_eq _ _).trans ?_)
  refine congrArg A.a5 (funext fun a => Fin.ext ?_)
  match a with
  | 0 =>
    show (((View.whole main_v26_scv).slice (Rect.unit (s := S8192) (k0_off1 L) S1024.size (k0_off1_inb L h1))).emb j (0 : Fin 1)).val = 1024 * (2 * (L 1).val + (L 0).val) + (j 0).val
    have hk : k0_off1 L (0 : Fin 1) = 2048 * (L 1).val + 1024 * (L 0).val := congrFun (k0_off1_eq L) 0
    rw [ValueKit.view_emb_slice_whole_unit_val]
    omega

/-- The fetch brings the problem's items into the scratch. -/
theorem fetch_wp (h1 : k0_cond1 L = 1#1) (A : Arrs F) (hw : wid L < 8) (σ : H F)
    (O : CellTallies nD τ sig (HIx 1)) (W : Waits sig (HIx 1)) (hO : ∀ g, O g none = 0) :
    iprop(levAts (K (F := F)).L (K (F := F)).lev ∗ inPts A d (wid L) ∗ own (me d L) scr σ ∗ semVal (cellA d L) 0 ∗ owes (me d L) O W)
      ⊢ wp frame (wpE (defs₀ (F := F)) 𝒱₀ (me d L) none) Set.univ (fetch L cc0_scratch22 h1)
          fun _ => iprop(∃ σ' : H F, ⌜Given (itemsOf A ⟨wid L, hw⟩) σ'⌝ ∗ own (me d L) scr σ' ∗ inPts A d (wid L) ∗ semVal (cellA d L) 0
            ∗ ∃ W', ⌜∀ p ∈ W', p ∈ W ∨ p.2 = none⌝ ∗ owes (me d L) O W') := by
  have _plan : Transfers.BatchOf (V d (cV L) (jV L)) (.dma cc0_scratch22.sem) 6 := trivial
  unfold fetch
  iintro ⟨#Hlv, ⟨H0, H1, H2, H3, H4, H5⟩, Hσ, HA, HO⟩
  ihave Hσ' := (Entails.of_eq (own_six d L σ)) $$ Hσ
  icases Hσ' with ⟨Hs0, Hs1, Hs2, Hs3, Hs4, Hs5, Hrest⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hi0 := (Entails.of_eq (pts0 (F := F) d L h1 _).symm) $$ H0
  ihave Hz0 := (Entails.of_eq (show ((me d L).loc cc0_scratch0 ↦{fullShare} σ cc0_scratch0 : sProp 𝕄)
    = (Memref.whole cc0_scratch0).view.loc (V d (cV L) (jV L)) ↦{fullShare} σ cc0_scratch0 from rfl)) $$ Hs0
  ihave Hi1 := (Entails.of_eq (pts1 (F := F) d L h1 _).symm) $$ H1
  ihave Hz1 := (Entails.of_eq (show ((me d L).loc cc0_scratch1 ↦{fullShare} σ cc0_scratch1 : sProp 𝕄)
    = (Memref.whole cc0_scratch1).view.loc (V d (cV L) (jV L)) ↦{fullShare} σ cc0_scratch1 from rfl)) $$ Hs1
  ihave Hi2 := (Entails.of_eq (pts2 (F := F) d L h1 _).symm) $$ H2
  ihave Hz2 := (Entails.of_eq (show ((me d L).loc cc0_scratch2 ↦{fullShare} σ cc0_scratch2 : sProp 𝕄)
    = (Memref.whole cc0_scratch2).view.loc (V d (cV L) (jV L)) ↦{fullShare} σ cc0_scratch2 from rfl)) $$ Hs2
  ihave Hi3 := (Entails.of_eq (pts3 (F := F) d L h1 _).symm) $$ H3
  ihave Hz3 := (Entails.of_eq (show ((me d L).loc cc0_scratch3 ↦{fullShare} σ cc0_scratch3 : sProp 𝕄)
    = (Memref.whole cc0_scratch3).view.loc (V d (cV L) (jV L)) ↦{fullShare} σ cc0_scratch3 from rfl)) $$ Hs3
  ihave Hi4 := (Entails.of_eq (pts4 (F := F) d L h1 _).symm) $$ H4
  ihave Hz4 := (Entails.of_eq (show ((me d L).loc cc0_scratch4 ↦{fullShare} σ cc0_scratch4 : sProp 𝕄)
    = (Memref.whole cc0_scratch4).view.loc (V d (cV L) (jV L)) ↦{fullShare} σ cc0_scratch4 from rfl)) $$ Hs4
  ihave Hi5 := (Entails.of_eq (pts5 (F := F) d L h1 _).symm) $$ H5
  ihave Hz5 := (Entails.of_eq (show ((me d L).loc cc0_scratch5 ↦{fullShare} σ cc0_scratch5 : sProp 𝕄)
    = (Memref.whole cc0_scratch5).view.loc (V d (cV L) (jV L)) ↦{fullShare} σ cc0_scratch5 from rfl)) $$ Hs5
  sl_exec
  ihave Hn0 := (Entails.of_eq (congrArg (fun g : S1024.Idx → F .f32 => ((me d L).loc cc0_scratch0 ↦{fullShare} g : sProp 𝕄)) (got0 L h1 A hw _ (fetch_wp.sl.dma0 L h1 A) rfl))) $$ Hz0
  ihave Hn1 := (Entails.of_eq (congrArg (fun g : S1024.Idx → F .f32 => ((me d L).loc cc0_scratch1 ↦{fullShare} g : sProp 𝕄)) (got1 L h1 A hw _ (fetch_wp.sl.dma1 L h1 A) rfl))) $$ Hz1
  ihave Hn2 := (Entails.of_eq (congrArg (fun g : S1024.Idx → F .f32 => ((me d L).loc cc0_scratch2 ↦{fullShare} g : sProp 𝕄)) (got2 L h1 A hw _ (fetch_wp.sl.dma2 L h1 A) rfl))) $$ Hz2
  ihave Hn3 := (Entails.of_eq (congrArg (fun g : S1024.Idx → F .f32 => ((me d L).loc cc0_scratch3 ↦{fullShare} g : sProp 𝕄)) (got3 L h1 A hw _ (fetch_wp.sl.dma3 L h1 A) rfl))) $$ Hz3
  ihave Hn4 := (Entails.of_eq (congrArg (fun g : S1024.Idx → F .f32 => ((me d L).loc cc0_scratch4 ↦{fullShare} g : sProp 𝕄)) (got4 L h1 A hw _ (fetch_wp.sl.dma4 L h1 A) rfl))) $$ Hz4
  ihave Hn5 := (Entails.of_eq (congrArg (fun g : S1024.Idx → F .f32 => ((me d L).loc cc0_scratch5 ↦{fullShare} g : sProp 𝕄)) (got5 L h1 A hw _ (fetch_wp.sl.dma5 L h1 A) rfl))) $$ Hz5
  ihave Hput := (put_six d L σ _ _ _ _ _ _) $$ [Hn0 Hn1 Hn2 Hn3 Hn4 Hn5 Hrest]
  · isplitl [Hn0]; · iexact Hn0
    isplitl [Hn1]; · iexact Hn1
    isplitl [Hn2]; · iexact Hn2
    isplitl [Hn3]; · iexact Hn3
    isplitl [Hn4]; · iexact Hn4
    isplitl [Hn5]; · iexact Hn5
    iexact Hrest
  icases Hput with ⟨%σ', %hσ, Hown⟩
  obtain ⟨g0, g1, g2, g3, g4, g5⟩ := hσ
  sl_step
  iexists σ'
  isplitr; · ipureintro; exact ⟨g0, g1, g2, g3, g4, g5⟩
  isplitl [Hown]; · iexact Hown
  isplitl [Hi0 Hi1 Hi2 Hi3 Hi4 Hi5]
  · isplitl [Hi0]; · iapply (Entails.of_eq (pts0 (F := F) d L h1 _)); iexact Hi0
    isplitl [Hi1]; · iapply (Entails.of_eq (pts1 (F := F) d L h1 _)); iexact Hi1
    isplitl [Hi2]; · iapply (Entails.of_eq (pts2 (F := F) d L h1 _)); iexact Hi2
    isplitl [Hi3]; · iapply (Entails.of_eq (pts3 (F := F) d L h1 _)); iexact Hi3
    isplitl [Hi4]; · iapply (Entails.of_eq (pts4 (F := F) d L h1 _)); iexact Hi4
    iapply (Entails.of_eq (pts5 (F := F) d L h1 _)); iexact Hi5
  isplitl [HA]; · iexact HA
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

/-- A task with a problem to do. -/
theorem tile_on [∀ e, Nonempty (Elt F e)] (hF : (K (F := F)).Facts) (h1 : k0_cond1 L = 1#1) (A : Arrs F) (hw : wid L < 8) (hd : ∀ j, cl (itemsOf A ⟨wid L, hw⟩).cl j < 96)
    (o : S8x1600.Idx → F .f32) (O : CellTallies nD τ sig (HIx 1)) (W : Waits sig (HIx 1)) (hO : ∀ g, O g none = 0) :
    iprop(levAts (K (F := F)).L (K (F := F)).lev ∗ emp ∗ (inPts A d (wid L) ∗ outPts d (wid L) o)
        ∗ scopedBufs (me d L) ∗ scopedSems0 (me d L) ∗ owes (me d L) O W)
      ⊢ wp frame (wpE (defs₀ (F := F)) 𝒱₀ (me d L) none) Set.univ
          (fetch L cc0_scratch22 h1 >>= fun _ => computeK L cc0_scratch22 cc0_scoped0 h1 (wout L cc0_scoped0 h1))
          fun _ => iprop((inPts A d (wid L) ∗ outPts d (wid L) (OUT A)) ∗ scopedBufs (me d L) ∗ scopedSems0 (me d L)
            ∗ ∃ W', ⌜∀ p ∈ W', p ∈ W ∨ p.2 = none⌝ ∗ owes (me d L) O W') := by
  have hc := fun (W' : Waits sig (HIx 1)) (hW : ∀ p ∈ W', p ∈ W ∨ p.2 = none) (σ : H F) (hG : Given (itemsOf A ⟨wid L, hw⟩) σ) =>
    compute_wp d L h1 (itemsOf A ⟨wid L, hw⟩) hd σ hG
      iprop(levAts (K (F := F)).L (K (F := F)).lev ∗ inPts A d (wid L) ∗ outPts d (wid L) o ∗ others d L
        ∗ semVal (cellA d L) 0 ∗ semVal (cellB d L) 0 ∗ otherSems d L ∗ owes (me d L) O W')
      _ (wout L cc0_scoped0 h1) (fun σ' hr => wout_wp d L hF h1 A hw o O W W' hO hW σ' hr)
  rw [wp_bind]
  rw [(K (F := F)).scopedBufs_V hF d (cV L) (jV L), SparseCore.Cfg.scopedSems0_V (Val := Elt F) d (cV L) (jV L), ownSems0_two, ownBufs_scr] at hc ⊢
  iintro ⟨#Hlv, -, ⟨Hin, Ho⟩, ⟨Hbufs, Hoth⟩, ⟨HA, HB, Hsems⟩, HO⟩
  ihave Hbufs' := (scr_some (F := F) d L) $$ Hbufs
  icases Hbufs' with ⟨%σ, Hσ⟩
  iapply (show iprop((levAts (K (F := F)).L (K (F := F)).lev ∗ inPts A d (wid L) ∗ own (me d L) scr σ ∗ semVal (cellA d L) 0 ∗ owes (me d L) O W)
      ∗ (levAts (K (F := F)).L (K (F := F)).lev ∗ outPts d (wid L) o ∗ others d L ∗ semVal (cellB d L) 0 ∗ otherSems d L)) ⊢ _ from
    ((sep_mono_left (fetch_wp d L h1 A hw σ O W hO)).trans (wp_frame_r frame _ _)).trans (wp_mono frame _ _ fun _ => ?_)) $$ [Hin Ho Hσ Hoth HA HB Hsems HO]
  · iintro ⟨⟨%σ', %hG, Hσ, Hin, HA, %W', %hW, HO⟩, Hlv, Ho, Hoth, HB, Hsems⟩
    iapply (hc W' hW σ' hG)
    isplitl [Hσ]; · iexact Hσ
    isplitl [Hlv]; · iexact Hlv
    isplitl [Hin]; · iexact Hin
    isplitl [Ho]; · iexact Ho
    isplitl [Hoth]; · iexact Hoth
    isplitl [HA]; · iexact HA
    isplitl [HB]; · iexact HB
    isplitl [Hsems]; · iexact Hsems
    iexact HO
  · isplitl [Hin Hσ HA HO]
    · isplitr; · iexact Hlv
      isplitl [Hin]; · iexact Hin
      isplitl [Hσ]; · iexact Hσ
      isplitl [HA]; · iexact HA
      iexact HO
    · isplitr; · iexact Hlv
      isplitl [Ho]; · iexact Ho
      isplitl [Hoth]; · iexact Hoth
      isplitl [HB]; · iexact HB
      iexact Hsems

/-- A problem beyond the eighth has no part of the arrays. -/
theorem off_out (w : ℕ) (hw : ¬ w < 8) (f g : S8x1600.Idx → F .f32) : (outPts d w f : sProp 𝕄) = outPts d w g :=
  pointsTo_congr (ℓ := locO d) fun p hp => absurd ((Finset.mem_filter.mp hp).2 ▸ (p 0).isLt) hw

/-- A task of the grid. -/
theorem tile_body [∀ e, Nonempty (Elt F e)] (hF : (K (F := F)).Facts) (A : Arrs F) (hd : ∀ w j, cl (itemsOf A w).cl j < 96)
    (o : S8x1600.Idx → F .f32) (O : CellTallies nD τ sig (HIx 1)) (W : Waits sig (HIx 1)) (hO : ∀ g, O g none = 0) :
    iprop(levAts (K (F := F)).L (K (F := F)).lev ∗ emp ∗ (inPts A d (wid L) ∗ outPts d (wid L) o)
        ∗ scopedBufs (me d L) ∗ scopedSems0 (me d L) ∗ owes (me d L) O W)
      ⊢ wp frame (wpE (defs₀ (F := F)) 𝒱₀ (me d L) none) Set.univ
          (cc0__sc_nms_body L
(Memref.whole main_v2_scv) (Memref.isWhole_whole _) (Memref.whole main_v7_scv) (Memref.isWhole_whole _) (Memref.whole main_v12_scv)
(Memref.isWhole_whole _) (Memref.whole main_v17_scv) (Memref.isWhole_whole _) (Memref.whole main_v22_scv) (Memref.isWhole_whole _)
(Memref.whole main_v26_scv) (Memref.isWhole_whole _) (Memref.whole main_v27_scv) (Memref.isWhole_whole _) (Memref.whole cc0_scratch0)
(Memref.isWhole_whole _) (Memref.whole cc0_scratch1) (Memref.isWhole_whole _) (Memref.whole cc0_scratch2) (Memref.isWhole_whole _)
(Memref.whole cc0_scratch3) (Memref.isWhole_whole _) (Memref.whole cc0_scratch4) (Memref.isWhole_whole _) (Memref.whole cc0_scratch5)
(Memref.isWhole_whole _) (Memref.whole cc0_scratch6) (Memref.isWhole_whole _) (Memref.whole cc0_scratch7) (Memref.isWhole_whole _)
(Memref.whole cc0_scratch8) (Memref.isWhole_whole _) (Memref.whole cc0_scratch9) (Memref.isWhole_whole _) (Memref.whole cc0_scratch10)
(Memref.isWhole_whole _) (Memref.whole cc0_scratch11) (Memref.isWhole_whole _) (Memref.whole cc0_scratch12) (Memref.isWhole_whole _)
(Memref.whole cc0_scratch13) (Memref.isWhole_whole _) (Memref.whole cc0_scratch14) (Memref.isWhole_whole _) (Memref.whole cc0_scratch15)
(Memref.isWhole_whole _) (Memref.whole cc0_scratch16) (Memref.isWhole_whole _) (Memref.whole cc0_scratch17) (Memref.isWhole_whole _)
(Memref.whole cc0_scratch18) (Memref.isWhole_whole _) (Memref.whole cc0_scratch19) (Memref.isWhole_whole _) (Memref.whole cc0_scratch20)
(Memref.isWhole_whole _) (Memref.whole cc0_scratch21) (Memref.isWhole_whole _)
            cc0_scratch22 cc0_scoped0)
          fun _ => iprop((inPts A d (wid L) ∗ outPts d (wid L) (OUT A)) ∗ scopedBufs (me d L) ∗ scopedSems0 (me d L)
            ∗ ∃ W', ⌜∀ p ∈ W', p ∈ W ∨ p.2 = none⌝ ∗ owes (me d L) O W') := by
  rw [body_eq]
  by_cases h1 : k0_cond1 L = 1#1
  · rw [dif_pos h1]
    have hw : wid L < 8 := (cond1_iff L).mp h1
    exact tile_on d L hF h1 A hw (hd _) o O W hO
  · rw [dif_neg h1, off_out d (wid L) (fun h => h1 ((cond1_iff L).mpr h)) (OUT A) o]
    iintro ⟨-, -, Hio, Hb, Hs, HO⟩
    sl_step
    isplitl [Hio]; · iexact Hio
    isplitl [Hb]; · iexact Hb
    isplitl [Hs]; · iexact Hs
    iexists W; isplitr
    · ipureintro; exact fun p hp => .inl hp
    · iexact HO

end Cert.Proof.Tile
-- ==== Proof.Launch.lean ====
/-
  The whole run: the host's layout work, the tasks on their subcores, the host's cut of the result.
-/
module

public import proofs.«01_k».proof.Proof.Tile3

@[expose] public section

noncomputable section

namespace Cert.Proof.Launch

open Cert.KernelIdeal Cert.KernelIdeal.Gen Cert.KernelIdeal.Facts
open Idealize.ShloMosaic Idealize.ShloMosaic.ValueIdx Idealize.ShloMosaic.StableHlo
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Pwp Cert.Proof.Sort Cert.Proof.Body Cert.Proof.Tile

variable {F : FTy → Type} [FloatOps F]

local notation "𝕄" => MT nD τ sig (HIx 1) (Elt F) ℕ UU ℕ

abbrev D : Defs nD τ sig (Elt F) (ΛP (F := F)) := Pipeline.defs pcfgs defs₀
abbrev 𝒱 : Variants := 𝒱₀.lift
abbrev v₀ : 𝒱.V := Sum.inl none
abbrev EH : Emb UH 𝕄 := embL

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The host's operations -/

/-- The layout work before the call. -/
def opsA : List (HloOp τ sig (Elt F)) :=
  [StableHlo.nullary main_cst (constant S_ .f32 0xBF800000#32),
   StableHlo.unary main_cst main_v0 (broadcastInDim S8x24 ![] bcast_S_S8x24 : (⟨S_, .f32⟩ : BufTy).Contents (Elt F) → (⟨S8x24, .f32⟩ : BufTy).Contents (Elt F)),
   StableHlo.binary main_arg0 main_v0 main_v1 ((fun a b => concatenate S8x1024 1 [⟨S8x1000, a⟩, ⟨S8x24, b⟩] concatenates_S8x1000_S8x24_S8x1024_d1) : (⟨S8x1000, .f32⟩ : BufTy).Contents (Elt F) → (⟨S8x24, .f32⟩ : BufTy).Contents (Elt F) → (⟨S8x1024, .f32⟩ : BufTy).Contents (Elt F)),
   StableHlo.reshape main_v1 main_v2 (rfl : (.f32 : EltTy) = .f32) shapeCasts_S8x1024_S8192,
   StableHlo.unary main_arg1 main_v3 ((extractStridedSlice S8x1000x1 ![0, 0, 0] · slices_S8x1000x4_S8x1000x1_0_0_0) : (⟨S8x1000x4, .f32⟩ : BufTy).Contents (Elt F) → (⟨S8x1000x1, .f32⟩ : BufTy).Contents (Elt F)),
   StableHlo.reshape main_v3 main_v4 (rfl : (.f32 : EltTy) = .f32) shapeCasts_S8x1000x1_S8x1000,
   StableHlo.nullary main_cst_0 (constant S_ .f32 0x00000000#32),
   StableHlo.unary main_cst_0 main_v5 (broadcastInDim S8x24 ![] bcast_S_S8x24 : (⟨S_, .f32⟩ : BufTy).Contents (Elt F) → (⟨S8x24, .f32⟩ : BufTy).Contents (Elt F)),
   StableHlo.binary main_v4 main_v5 main_v6 ((fun a b => concatenate S8x1024 1 [⟨S8x1000, a⟩, ⟨S8x24, b⟩] concatenates_S8x1000_S8x24_S8x1024_d1) : (⟨S8x1000, .f32⟩ : BufTy).Contents (Elt F) → (⟨S8x24, .f32⟩ : BufTy).Contents (Elt F) → (⟨S8x1024, .f32⟩ : BufTy).Contents (Elt F)),
   StableHlo.reshape main_v6 main_v7 (rfl : (.f32 : EltTy) = .f32) shapeCasts_S8x1024_S8192,
   StableHlo.unary main_arg1 main_v8 ((extractStridedSlice S8x1000x1 ![0, 0, 1] · slices_S8x1000x4_S8x1000x1_0_0_1) : (⟨S8x1000x4, .f32⟩ : BufTy).Contents (Elt F) → (⟨S8x1000x1, .f32⟩ : BufTy).Contents (Elt F)),
   StableHlo.reshape main_v8 main_v9 (rfl : (.f32 : EltTy) = .f32) shapeCasts_S8x1000x1_S8x1000,
   StableHlo.nullary main_cst_1 (constant S_ .f32 0x00000000#32),
   StableHlo.unary main_cst_1 main_v10 (broadcastInDim S8x24 ![] bcast_S_S8x24 : (⟨S_, .f32⟩ : BufTy).Contents (Elt F) → (⟨S8x24, .f32⟩ : BufTy).Contents (Elt F)),
   StableHlo.binary main_v9 main_v10 main_v11 ((fun a b => concatenate S8x1024 1 [⟨S8x1000, a⟩, ⟨S8x24, b⟩] concatenates_S8x1000_S8x24_S8x1024_d1) : (⟨S8x1000, .f32⟩ : BufTy).Contents (Elt F) → (⟨S8x24, .f32⟩ : BufTy).Contents (Elt F) → (⟨S8x1024, .f32⟩ : BufTy).Contents (Elt F)),
   StableHlo.reshape main_v11 main_v12 (rfl : (.f32 : EltTy) = .f32) shapeCasts_S8x1024_S8192,
   StableHlo.unary main_arg1 main_v13 ((extractStridedSlice S8x1000x1 ![0, 0, 2] · slices_S8x1000x4_S8x1000x1_0_0_2) : (⟨S8x1000x4, .f32⟩ : BufTy).Contents (Elt F) → (⟨S8x1000x1, .f32⟩ : BufTy).Contents (Elt F)),
   StableHlo.reshape main_v13 main_v14 (rfl : (.f32 : EltTy) = .f32) shapeCasts_S8x1000x1_S8x1000,
   StableHlo.nullary main_cst_2 (constant S_ .f32 0x00000000#32),
   StableHlo.unary main_cst_2 main_v15 (broadcastInDim S8x24 ![] bcast_S_S8x24 : (⟨S_, .f32⟩ : BufTy).Contents (Elt F) → (⟨S8x24, .f32⟩ : BufTy).Contents (Elt F)),
   StableHlo.binary main_v14 main_v15 main_v16 ((fun a b => concatenate S8x1024 1 [⟨S8x1000, a⟩, ⟨S8x24, b⟩] concatenates_S8x1000_S8x24_S8x1024_d1) : (⟨S8x1000, .f32⟩ : BufTy).Contents (Elt F) → (⟨S8x24, .f32⟩ : BufTy).Contents (Elt F) → (⟨S8x1024, .f32⟩ : BufTy).Contents (Elt F)),
   StableHlo.reshape main_v16 main_v17 (rfl : (.f32 : EltTy) = .f32) shapeCasts_S8x1024_S8192,
   StableHlo.unary main_arg1 main_v18 ((extractStridedSlice S8x1000x1 ![0, 0, 3] · slices_S8x1000x4_S8x1000x1_0_0_3) : (⟨S8x1000x4, .f32⟩ : BufTy).Contents (Elt F) → (⟨S8x1000x1, .f32⟩ : BufTy).Contents (Elt F)),
   StableHlo.reshape main_v18 main_v19 (rfl : (.f32 : EltTy) = .f32) shapeCasts_S8x1000x1_S8x1000,
   StableHlo.nullary main_cst_3 (constant S_ .f32 0x00000000#32),
   StableHlo.unary main_cst_3 main_v20 (broadcastInDim S8x24 ![] bcast_S_S8x24 : (⟨S_, .f32⟩ : BufTy).Contents (Elt F) → (⟨S8x24, .f32⟩ : BufTy).Contents (Elt F)),
   StableHlo.binary main_v19 main_v20 main_v21 ((fun a b => concatenate S8x1024 1 [⟨S8x1000, a⟩, ⟨S8x24, b⟩] concatenates_S8x1000_S8x24_S8x1024_d1) : (⟨S8x1000, .f32⟩ : BufTy).Contents (Elt F) → (⟨S8x24, .f32⟩ : BufTy).Contents (Elt F) → (⟨S8x1024, .f32⟩ : BufTy).Contents (Elt F)),
   StableHlo.reshape main_v21 main_v22 (rfl : (.f32 : EltTy) = .f32) shapeCasts_S8x1024_S8192,
   StableHlo.unary main_arg2 main_v23 (sitofp .f32 : (⟨S8x1000, .i32⟩ : BufTy).Contents (Elt F) → (⟨S8x1000, .f32⟩ : BufTy).Contents (Elt F)),
   StableHlo.nullary main_cst_4 (constant S_ .f32 0x00000000#32),
   StableHlo.unary main_cst_4 main_v24 (broadcastInDim S8x24 ![] bcast_S_S8x24 : (⟨S_, .f32⟩ : BufTy).Contents (Elt F) → (⟨S8x24, .f32⟩ : BufTy).Contents (Elt F)),
   StableHlo.binary main_v23 main_v24 main_v25 ((fun a b => concatenate S8x1024 1 [⟨S8x1000, a⟩, ⟨S8x24, b⟩] concatenates_S8x1000_S8x24_S8x1024_d1) : (⟨S8x1000, .f32⟩ : BufTy).Contents (Elt F) → (⟨S8x24, .f32⟩ : BufTy).Contents (Elt F) → (⟨S8x1024, .f32⟩ : BufTy).Contents (Elt F)),
   StableHlo.reshape main_v25 main_v26 (rfl : (.f32 : EltTy) = .f32) shapeCasts_S8x1024_S8192]

/-- The cut of the result after it. -/
def opsB : List (HloOp τ sig (Elt F)) :=
  [StableHlo.reshape main_v27 main_v28 (rfl : (.f32 : EltTy) = .f32) shapeCasts_S8x1600_S8x100x16,
   StableHlo.unary main_v28 main_v29 ((extractStridedSlice S8x100x6 ![0, 0, 0] · slices_S8x100x16_S8x100x6_0_0_0) : (⟨S8x100x16, .f32⟩ : BufTy).Contents (Elt F) → (⟨S8x100x6, .f32⟩ : BufTy).Contents (Elt F))]

theorem main_eq (d : Dev nD) : (main d : Prog (TpuEff nD τ sig (Elt F) _ .tc) PUnit)
    = seq opsA >>= fun _ => (sc (F := F)).run d 0 >>= fun _ => seq opsB >>= fun _ => pure ⟨⟩ := rfl

/-- The device's buffers. -/
abbrev SA : Finset (DevRef τ sig) := tcRefs τ sig

theorem all_unscoped : ∀ b : Ref sig .tc, ¬ b.isScoped := by decide

theorem opsA_bufs : ∀ op ∈ (opsA : List (HloOp τ sig (Elt F))), op.bufs ⊆ SA := by
  unfold opsA
  simp
theorem opsB_bufs : ∀ op ∈ (opsB : List (HloOp τ sig (Elt F))), op.bufs ⊆ SA := by
  unfold opsB
  simp
theorem opsA_fresh : ∀ op ∈ (opsA : List (HloOp τ sig (Elt F))), op.fresh = ∅ := by
  unfold opsA
  simp only [List.forall_mem_cons]
  exact ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, fun _ h => nomatch h⟩
theorem opsB_fresh : ∀ op ∈ (opsB : List (HloOp τ sig (Elt F))), op.fresh = ∅ := by
  unfold opsB
  simp only [List.forall_mem_cons]
  exact ⟨rfl, rfl, fun _ h => nomatch h⟩

variable (m : (ℓ : Loc nD τ sig) → Buf (Elt F) ℓ) (ρ : Dev nD → PrngReg)

abbrev dr (b : Ref sig .tc) : DevRef τ sig := Proc.devRef .tc b

/-- The buffers at the launch; before the call. -/
def V0 (d : Dev nD) : Valuation τ sig (Elt F) := fun b => m (d, b)
def V1 (d : Dev nD) : Valuation τ sig (Elt F) := after opsA (V0 m d)
theorem unscoped_V0 (d : Dev nD) : (unscopedBufs d (fun b => m ((SparseCore.T d).loc b)) : sProp 𝕄) = held (SparseCore.T d) SA (V0 m d) := by
  unfold unscopedBufs held SA tcRefs
  rw [Finset.filter_true_of_mem fun b _ => all_unscoped b, BI.bigSep_map]
  rfl
/-- The arrays the tasks read. -/
def AA (d : Dev nD) : Arrs F := ⟨V1 m d (dr main_v2), V1 m d (dr main_v7), V1 m d (dr main_v12), V1 m d (dr main_v17), V1 m d (dr main_v22), V1 m d (dr main_v26)⟩
abbrev o0 (d : Dev nD) : S8x1600.Idx → F .f32 := V1 m d (dr main_v27)
/-- After the call; at the end. -/
def V2 (d : Dev nD) : Valuation τ sig (Elt F) := Function.update (V1 m d) (dr main_v27) (OUT (AA m d))
def V3 (d : Dev nD) : Valuation τ sig (Elt F) := after opsB (V2 m d)
/-- The result. -/
def RES (d : Dev nD) : S8x100x6.Idx → F .f32 :=
  extractStridedSlice S8x100x6 ![0, 0, 0] (fun i => OUT (AA m d) (Shape.reshapeEquiv shapeCasts_S8x1600_S8x100x16 i)) slices_S8x100x16_S8x100x6_0_0_0

/-! ## What the call's parts carry -/

def P : (K (F := F)).Pay (nD := nD) (Val := Elt F) (Name := ℕ) (U := UU) where
  st := fun q d c => match q with
    | 0 => bigSep Finset.univ fun i : Fin ((K (F := F)).nSub 0) => iprop(inPts (AA m d) d (2 * i.val + c.val) ∗ outPts d (2 * i.val + c.val) (o0 m d))
  dn := fun q d c => match q with
    | 0 => bigSep Finset.univ fun i : Fin ((K (F := F)).nSub 0) => iprop(inPts (AA m d) d (2 * i.val + c.val) ∗ outPts d (2 * i.val + c.val) (OUT (AA m d)))
  go := fun q d c i => match q with
    | 0 => iprop(inPts (AA m d) d (2 * i.val + c.val) ∗ outPts d (2 * i.val + c.val) (o0 m d))
  td := fun q d c i => match q with
    | 0 => iprop(inPts (AA m d) d (2 * i.val + c.val) ∗ outPts d (2 * i.val + c.val) (OUT (AA m d)))
  x := fun _ _ => iprop(emp)

instance P_storable : (P (F := F) m).IsStorable where
  st q d c := match q with
    | 0 => (inferInstance : BI.Storable (upEmb : UEmb _ 𝕄)
      (bigSep Finset.univ fun i : Fin ((K (F := F)).nSub 0) => iprop(inPts (AA m d) d (2 * i.val + c.val) ∗ outPts d (2 * i.val + c.val) (o0 m d))))
  dn q d c := match q with
    | 0 => (inferInstance : BI.Storable (upEmb : UEmb _ 𝕄)
      (bigSep Finset.univ fun i : Fin ((K (F := F)).nSub 0) => iprop(inPts (AA m d) d (2 * i.val + c.val) ∗ outPts d (2 * i.val + c.val) (OUT (AA m d)))))
  go q d c i := match q with
    | 0 => (inferInstance : BI.Storable (upEmb : UEmb _ 𝕄) iprop(inPts (AA m d) d (2 * i.val + c.val) ∗ outPts d (2 * i.val + c.val) (o0 m d)))
  td q d c i := match q with
    | 0 => (inferInstance : BI.Storable (upEmb : UEmb _ 𝕄) iprop(inPts (AA m d) d (2 * i.val + c.val) ∗ outPts d (2 * i.val + c.val) (OUT (AA m d))))

/-- The classes are in the counters' range, all problems. -/
def InRange : Prop := ∀ (d : Dev nD) (w : Fin 8) (j : ℕ), Cert.Proof.Sort.cl (itemsOf (AA m d) w).cl j < 96

/-! ## The tasks -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__sc_nms_body (coordsV c s)
(Memref.whole main_v2_scv) (Memref.isWhole_whole _) (Memref.whole main_v7_scv) (Memref.isWhole_whole _) (Memref.whole main_v12_scv)
(Memref.isWhole_whole _) (Memref.whole main_v17_scv) (Memref.isWhole_whole _) (Memref.whole main_v22_scv) (Memref.isWhole_whole _)
(Memref.whole main_v26_scv) (Memref.isWhole_whole _) (Memref.whole main_v27_scv) (Memref.isWhole_whole _) (Memref.whole cc0_scratch0)
(Memref.isWhole_whole _) (Memref.whole cc0_scratch1) (Memref.isWhole_whole _) (Memref.whole cc0_scratch2) (Memref.isWhole_whole _)
(Memref.whole cc0_scratch3) (Memref.isWhole_whole _) (Memref.whole cc0_scratch4) (Memref.isWhole_whole _) (Memref.whole cc0_scratch5)
(Memref.isWhole_whole _) (Memref.whole cc0_scratch6) (Memref.isWhole_whole _) (Memref.whole cc0_scratch7) (Memref.isWhole_whole _)
(Memref.whole cc0_scratch8) (Memref.isWhole_whole _) (Memref.whole cc0_scratch9) (Memref.isWhole_whole _) (Memref.whole cc0_scratch10)
(Memref.isWhole_whole _) (Memref.whole cc0_scratch11) (Memref.isWhole_whole _) (Memref.whole cc0_scratch12) (Memref.isWhole_whole _)
(Memref.whole cc0_scratch13) (Memref.isWhole_whole _) (Memref.whole cc0_scratch14) (Memref.isWhole_whole _) (Memref.whole cc0_scratch15)
(Memref.isWhole_whole _) (Memref.whole cc0_scratch16) (Memref.isWhole_whole _) (Memref.whole cc0_scratch17) (Memref.isWhole_whole _)
(Memref.whole cc0_scratch18) (Memref.isWhole_whole _) (Memref.whole cc0_scratch19) (Memref.isWhole_whole _) (Memref.whole cc0_scratch20)
(Memref.isWhole_whole _) (Memref.whole cc0_scratch21) (Memref.isWhole_whole _)
        cc0_scratch22 cc0_scoped0) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl [∀ e, Nonempty (Elt F e)] (hF : (K (F := F)).Facts) (hpre : InRange m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, _root_.and_self, ↓reduceDIte]
  exact (tile_body d (coordsV ⟨_, hci.1⟩ ⟨_, hci.2⟩) hF (AA m d) (hpre d) (o0 m d) O W hO).trans (wp_mono frame _ _ fun _ => obl_post)

theorem vecSplit : (K (F := F)).VecSplit' (P m) 0 := by
  intro d c
  show (bigSep Finset.univ fun i : Fin ((K (F := F)).nSub 0) => iprop(inPts (AA m d) d (2 * i.val + c.val) ∗ outPts d (2 * i.val + c.val) (o0 m d)))
    ⊢ |={Set.univ}=> iprop((bigSep Finset.univ fun i : Fin ((K (F := F)).nSub 0) => iprop(inPts (AA m d) d (2 * i.val + c.val) ∗ outPts d (2 * i.val + c.val) (o0 m d)))
      ∗ ((bigSep Finset.univ fun i : Fin ((K (F := F)).nSub 0) => iprop(inPts (AA m d) d (2 * i.val + c.val) ∗ outPts d (2 * i.val + c.val) (OUT (AA m d))))
        -∗ bigSep Finset.univ fun i : Fin ((K (F := F)).nSub 0) => iprop(inPts (AA m d) d (2 * i.val + c.val) ∗ outPts d (2 * i.val + c.val) (OUT (AA m d)))))
  iintro H; imodintro
  isplitl [H]; · iexact H
  iintro H; iexact H

/-! ## The arrays whole, and in parts -/

abbrev TT : Type := Fin 2 × Fin 16

theorem in_disj : ∀ p ∈ (Finset.univ : Finset TT), ∀ q ∈ (Finset.univ : Finset TT), p ≠ q → Disjoint (inSet (2 * p.2.val + p.1.val)) (inSet (2 * q.2.val + q.1.val)) := by
  intro p _ q _ h
  rw [Finset.disjoint_left]
  intro x hx hy
  have e := (Finset.mem_filter.mp hx).2.symm.trans (Finset.mem_filter.mp hy).2
  exact h (Prod.ext (Fin.ext (by have := p.1.isLt; have := q.1.isLt; omega)) (Fin.ext (by have := p.1.isLt; have := q.1.isLt; omega)))
theorem out_disj : ∀ p ∈ (Finset.univ : Finset TT), ∀ q ∈ (Finset.univ : Finset TT), p ≠ q → Disjoint (outSet (2 * p.2.val + p.1.val)) (outSet (2 * q.2.val + q.1.val)) := by
  intro p _ q _ h
  rw [Finset.disjoint_left]
  intro x hx hy
  have e := (Finset.mem_filter.mp hx).2.symm.trans (Finset.mem_filter.mp hy).2
  exact h (Prod.ext (Fin.ext (by have := p.1.isLt; have := q.1.isLt; omega)) (Fin.ext (by have := p.1.isLt; have := q.1.isLt; omega)))
theorem in_cover : ((Finset.univ : Finset TT).biUnion fun p => inSet (2 * p.2.val + p.1.val)) = Finset.univ := by
  refine Finset.eq_univ_of_forall fun j => Finset.mem_biUnion.mpr ?_
  have hj : (j 0).val < 8192 := (j 0).isLt
  refine ⟨(⟨(j 0).val / 1024 % 2, by omega⟩, ⟨(j 0).val / 1024 / 2, by omega⟩), Finset.mem_univ _, Finset.mem_filter.mpr ⟨Finset.mem_univ _, ?_⟩⟩
  show (j 0).val / 1024 = 2 * ((j 0).val / 1024 / 2) + (j 0).val / 1024 % 2
  omega
theorem out_cover : ((Finset.univ : Finset TT).biUnion fun p => outSet (2 * p.2.val + p.1.val)) = Finset.univ := by
  refine Finset.eq_univ_of_forall fun j => Finset.mem_biUnion.mpr ?_
  have hj : (j 0).val < 8 := (j 0).isLt
  refine ⟨(⟨(j 0).val % 2, by omega⟩, ⟨(j 0).val / 2, by omega⟩), Finset.mem_univ _, Finset.mem_filter.mpr ⟨Finset.mem_univ _, ?_⟩⟩
  show (j 0).val = 2 * ((j 0).val / 2) + (j 0).val % 2
  omega

theorem whole0 (d : Dev nD) (f : S8192.Idx → F .f32) :
    (loc0 d ↦{fullShare} f : sProp 𝕄) = bigSep Finset.univ fun p : TT => loc0 d ↦[inSet (2 * p.2.val + p.1.val)]{fullShare} f := by
  rw [← pointsTo_biUnion Finset.univ (ℓ := loc0 d) (fun p : TT => inSet (2 * p.2.val + p.1.val)) in_disj, in_cover]
theorem whole1 (d : Dev nD) (f : S8192.Idx → F .f32) :
    (loc1 d ↦{fullShare} f : sProp 𝕄) = bigSep Finset.univ fun p : TT => loc1 d ↦[inSet (2 * p.2.val + p.1.val)]{fullShare} f := by
  rw [← pointsTo_biUnion Finset.univ (ℓ := loc1 d) (fun p : TT => inSet (2 * p.2.val + p.1.val)) in_disj, in_cover]
theorem whole2 (d : Dev nD) (f : S8192.Idx → F .f32) :
    (loc2 d ↦{fullShare} f : sProp 𝕄) = bigSep Finset.univ fun p : TT => loc2 d ↦[inSet (2 * p.2.val + p.1.val)]{fullShare} f := by
  rw [← pointsTo_biUnion Finset.univ (ℓ := loc2 d) (fun p : TT => inSet (2 * p.2.val + p.1.val)) in_disj, in_cover]
theorem whole3 (d : Dev nD) (f : S8192.Idx → F .f32) :
    (loc3 d ↦{fullShare} f : sProp 𝕄) = bigSep Finset.univ fun p : TT => loc3 d ↦[inSet (2 * p.2.val + p.1.val)]{fullShare} f := by
  rw [← pointsTo_biUnion Finset.univ (ℓ := loc3 d) (fun p : TT => inSet (2 * p.2.val + p.1.val)) in_disj, in_cover]
theorem whole4 (d : Dev nD) (f : S8192.Idx → F .f32) :
    (loc4 d ↦{fullShare} f : sProp 𝕄) = bigSep Finset.univ fun p : TT => loc4 d ↦[inSet (2 * p.2.val + p.1.val)]{fullShare} f := by
  rw [← pointsTo_biUnion Finset.univ (ℓ := loc4 d) (fun p : TT => inSet (2 * p.2.val + p.1.val)) in_disj, in_cover]
theorem whole5 (d : Dev nD) (f : S8192.Idx → F .f32) :
    (loc5 d ↦{fullShare} f : sProp 𝕄) = bigSep Finset.univ fun p : TT => loc5 d ↦[inSet (2 * p.2.val + p.1.val)]{fullShare} f := by
  rw [← pointsTo_biUnion Finset.univ (ℓ := loc5 d) (fun p : TT => inSet (2 * p.2.val + p.1.val)) in_disj, in_cover]
theorem wholeO (d : Dev nD) (f : S8x1600.Idx → F .f32) :
    (locO d ↦{fullShare} f : sProp 𝕄) = bigSep Finset.univ fun p : TT => locO d ↦[outSet (2 * p.2.val + p.1.val)]{fullShare} f := by
  rw [← pointsTo_biUnion Finset.univ (ℓ := locO d) (fun p : TT => outSet (2 * p.2.val + p.1.val)) out_disj, out_cover]

theorem assoc7 (P Q R : sProp 𝕄) : iprop((P ∗ Q) ∗ R) = iprop(P ∗ Q ∗ R) := BI.Entails.antisymm Idealize.SL.BI.sep_assoc Idealize.SL.BI.sep_assoc'

theorem parts (d : Dev nD) (A : Arrs F) (f : S8x1600.Idx → F .f32) :
    (bigSep Finset.univ fun c : Fin ((K (F := F)).nCore 0) => bigSep Finset.univ fun i : Fin ((K (F := F)).nSub 0) =>
        iprop(inPts A d (2 * i.val + c.val) ∗ outPts d (2 * i.val + c.val) f))
      = (iprop(((loc0 d ↦{fullShare} A.a0) ∗ (loc1 d ↦{fullShare} A.a1) ∗ (loc2 d ↦{fullShare} A.a2) ∗ (loc3 d ↦{fullShare} A.a3) ∗ (loc4 d ↦{fullShare} A.a4) ∗ (loc5 d ↦{fullShare} A.a5)) ∗ (locO d ↦{fullShare} f)) : sProp 𝕄) := by
  rw [whole0, whole1, whole2, whole3, whole4, whole5, wholeO]
  rw [← bigSep_sep', ← bigSep_sep', ← bigSep_sep', ← bigSep_sep', ← bigSep_sep', ← bigSep_sep']
  exact (bigSep_univ_prod (fun p : TT => iprop(inPts A d (2 * p.2.val + p.1.val) ∗ outPts d (2 * p.2.val + p.1.val) f))).symm

/-! ## The launch element of the certificate's ghost state -/

def u₀ : UU := (initOf (K (F := F)).hsCells (K (F := F)).hsToks, 1)

theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## The host's program -/

/-- The call's arrays. -/
abbrev S7 : Finset (DevRef τ sig) := {dr main_v2, dr main_v7, dr main_v12, dr main_v17, dr main_v22, dr main_v26, dr main_v27}
/-- The arguments and the result. -/
abbrev S4 : Finset (DevRef τ sig) := {dr main_arg0, dr main_arg1, dr main_arg2, dr main_v29}

theorem S7_sub : S7 ⊆ SA := by
  intro b hb
  simp only [S7, Finset.mem_insert, Finset.mem_singleton] at hb
  rcases hb with rfl | rfl | rfl | rfl | rfl | rfl | rfl <;> exact devRef_mem_tcRefs _
theorem S4_sub : S4 ⊆ SA := by
  intro b hb
  simp only [S4, Finset.mem_insert, Finset.mem_singleton] at hb
  rcases hb with rfl | rfl | rfl | rfl <;> exact devRef_mem_tcRefs _

theorem held_S7 (d : Dev nD) (W : Valuation τ sig (Elt F)) :
    (held (SparseCore.T d) S7 W : sProp 𝕄) = iprop((loc0 d ↦{fullShare} W (dr main_v2)) ∗ (loc1 d ↦{fullShare} W (dr main_v7)) ∗ (loc2 d ↦{fullShare} W (dr main_v12)) ∗ (loc3 d ↦{fullShare} W (dr main_v17)) ∗ (loc4 d ↦{fullShare} W (dr main_v22)) ∗ (loc5 d ↦{fullShare} W (dr main_v26)) ∗ (locO d ↦{fullShare} W (dr main_v27))) := by
  unfold held S7
  rw [SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

abbrev argPts (d : Dev nD) (b : Ref sig .tc) (f : Buf (Elt F) ((SparseCore.T d : Thread nD τ).loc b)) : sProp 𝕄 := (SparseCore.T d).loc b ↦{fullShare} f

theorem held_S4 (d : Dev nD) (W : Valuation τ sig (Elt F)) :
    (held (SparseCore.T d) S4 W : sProp 𝕄) = iprop(argPts d main_arg0 (W (dr main_arg0)) ∗ argPts d main_arg1 (W (dr main_arg1)) ∗ argPts d main_arg2 (W (dr main_arg2)) ∗ argPts d main_v29 (W (dr main_v29))) := by
  unfold held S4
  rw [SparseCore.bigSep_insert' (by decide), SparseCore.bigSep_insert' (by decide), SparseCore.bigSep_insert' (by decide), bigSep_singleton]

theorem V2_ne (d : Dev nD) (b : DevRef τ sig) (h : b ≠ dr main_v27) : V2 m d b = V1 m d b := Function.update_of_ne h _ _
theorem V2_out (d : Dev nD) : V2 m d (dr main_v27) = OUT (AA m d) := Function.update_self _ _ _

theorem V3_arg0 (d : Dev nD) : V3 m d (dr main_arg0) = m ((SparseCore.T d).loc main_arg0) := by
  unfold V3
  rw [show after opsB (V2 m d) (dr main_arg0) = V2 m d (dr main_arg0) by unfold opsB; after_results_simp, V2_ne m d _ (by decide)]
  unfold V1
  rw [show after opsA (V0 m d) (dr main_arg0) = V0 m d (dr main_arg0) by unfold opsA; after_results_simp]
  rfl
theorem V3_arg1 (d : Dev nD) : V3 m d (dr main_arg1) = m ((SparseCore.T d).loc main_arg1) := by
  unfold V3
  rw [show after opsB (V2 m d) (dr main_arg1) = V2 m d (dr main_arg1) by unfold opsB; after_results_simp, V2_ne m d _ (by decide)]
  unfold V1
  rw [show after opsA (V0 m d) (dr main_arg1) = V0 m d (dr main_arg1) by unfold opsA; after_results_simp]
  rfl
theorem V3_arg2 (d : Dev nD) : V3 m d (dr main_arg2) = m ((SparseCore.T d).loc main_arg2) := by
  unfold V3
  rw [show after opsB (V2 m d) (dr main_arg2) = V2 m d (dr main_arg2) by unfold opsB; after_results_simp, V2_ne m d _ (by decide)]
  unfold V1
  rw [show after opsA (V0 m d) (dr main_arg2) = V0 m d (dr main_arg2) by unfold opsA; after_results_simp]
  rfl
theorem V3_res (d : Dev nD) : V3 m d (dr main_v29) = RES m d := by
  unfold V3 RES
  rw [← V2_out m d]
  unfold opsB
  after_results_simp
  rfl

/-- What the host's program leaves. -/
abbrev FIN (d : Dev nD) : sProp 𝕄 := iprop(argPts d main_arg0 (m ((SparseCore.T d).loc main_arg0)) ∗ argPts d main_arg1 (m ((SparseCore.T d).loc main_arg1))
  ∗ argPts d main_arg2 (m ((SparseCore.T d).loc main_arg2)) ∗ argPts d main_v29 (RES m d))

theorem rest_same (d : Dev nD) : (held (SparseCore.T d) (SA \ S7) (V1 m d) : sProp 𝕄) = held (SparseCore.T d) (SA \ S7) (V2 m d) :=
  held_congr _ fun b hb => (V2_ne m d b fun e => (Finset.mem_sdiff.mp hb).2 (by
    rw [e]; simp only [S7, Finset.mem_insert, Finset.mem_singleton]; tauto)).symm

/-- Out of the host's buffers, the call's parts. -/
theorem give (d : Dev nD) : (held (SparseCore.T d) SA (V1 m d) : sProp 𝕄)
    = iprop((bigSep Finset.univ fun c : Fin ((K (F := F)).nCore 0) => (P m).st 0 d c) ∗ held (SparseCore.T d) (SA \ S7) (V2 m d)) := by
  rw [held_sub_split (SparseCore.T d) S7_sub, rest_same, held_S7]
  refine congrArg (fun X : sProp 𝕄 => iprop(X ∗ held (SparseCore.T d) (SA \ S7) (V2 m d))) ?_
  refine Eq.trans ?_ (parts d (AA m d) (o0 m d)).symm
  simp only [assoc7]
  rfl
theorem back (d : Dev nD) : (held (SparseCore.T d) SA (V2 m d) : sProp 𝕄)
    = iprop((bigSep Finset.univ fun c : Fin ((K (F := F)).nCore 0) => (P m).dn 0 d c) ∗ held (SparseCore.T d) (SA \ S7) (V2 m d)) := by
  rw [held_sub_split (SparseCore.T d) S7_sub, held_S7]
  refine congrArg (fun X : sProp 𝕄 => iprop(X ∗ held (SparseCore.T d) (SA \ S7) (V2 m d))) ?_
  refine Eq.trans ?_ (parts d (AA m d) (OUT (AA m d))).symm
  rw [V2_out, V2_ne m d (dr main_v2) (by decide), V2_ne m d (dr main_v7) (by decide), V2_ne m d (dr main_v12) (by decide), V2_ne m d (dr main_v17) (by decide), V2_ne m d (dr main_v22) (by decide), V2_ne m d (dr main_v26) (by decide)]
  simp only [assoc7]
  rfl

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_V0]
  rw [main_eq]
  iintro ⟨#Hctx, Hst, ⟨Hb, Hheld, Hts, -⟩, -⟩
  iapply (wp_seq 𝒱 none Set.univ d SA _ opsA opsA_bufs opsA_fresh (V0 m d)) $$ [Hb Hheld]
  · isplitl [Hb]; · iexact Hb
    iexact Hheld
  iintro ⟨Hb, Hheld⟩
  rw [wp_bind]
  ihave Hh := (Entails.of_eq (show (held (d.tc : Thread nD τ) SA (after opsA (V0 m d)) : sProp 𝕄) = _ from give m d)) $$ Hheld
  icases Hh with ⟨Hgo, Hrest⟩
  iapply ((K (F := F)).wp_run (D (F := F)) 𝒱 (EH := EH) (P := P m) κ d 0) $$ [Hst Hgo Hb Hrest Hts]
  isplitr; · iexact Hctx
  isplitl [Hst]; · iexact Hst
  isplitl [Hgo]; · iexact Hgo
  iintro ⟨Hst, Hdn⟩
  iapply (wp_seq 𝒱 none Set.univ d SA _ opsB opsB_bufs opsB_fresh (V2 m d)) $$ [Hb Hdn Hrest]
  · isplitl [Hb]; · iexact Hb
    iapply (Entails.of_eq (back m d).symm)
    isplitl [Hdn]; · iexact Hdn
    iexact Hrest
  iintro ⟨Hb, Hheld⟩
  ihave Hh := (Entails.of_eq (show (held (d.tc : Thread nD τ) SA (after opsB (V2 m d)) : sProp 𝕄) = iprop(FIN m d ∗ held (SparseCore.T d) (SA \ S4) (V3 m d)) from
    (held_sub_split (SparseCore.T d) S4_sub (V3 m d)).trans (by rw [held_S4, V3_arg0, V3_arg1, V3_arg2, V3_res]))) $$ Hheld
  icases Hh with ⟨Hfin, -⟩
  rw [wp_pure]; imodintro
  isplitl [Hst]; · iexact Hst
  isplitl [Hfin]; · iexact Hfin
  isplitl [Hb] <;> iassumption

/-- What the claims read of a device's final state. -/
def fq (d : Dev nD) (s' : Phys nD τ sig (Elt F)) : Prop :=
  s'.mem.mem ((SparseCore.T d).loc main_arg0) = m ((SparseCore.T d).loc main_arg0) ∧ s'.mem.mem ((SparseCore.T d).loc main_arg1) = m ((SparseCore.T d).loc main_arg1)
    ∧ s'.mem.mem ((SparseCore.T d).loc main_arg2) = m ((SparseCore.T d).loc main_arg2) ∧ s'.mem.mem ((SparseCore.T d).loc main_v29) = RES m d

set_option maxRecDepth 16384 in
theorem hfin (d : Dev nD) (s' : Phys nD τ sig (Elt F)) : iprop(FIN m d ∗ SI s') ⊢ (⌜fq m d s'⌝ : sProp 𝕄) := by
  iintro ⟨⟨H0, H1, H2, H3⟩, HSI⟩
  ihave H := (persistent_entails_right (SI_pointsTo_agree (st := s') (ℓ := (SparseCore.T d).loc main_arg0) (I := Finset.univ) (q := fullShare) (f := m ((SparseCore.T d).loc main_arg0)))) $$ [HSI H0]
  · isplitl [HSI] <;> iassumption
  icases H with ⟨%h0, HSI, -⟩
  ihave H := (persistent_entails_right (SI_pointsTo_agree (st := s') (ℓ := (SparseCore.T d).loc main_arg1) (I := Finset.univ) (q := fullShare) (f := m ((SparseCore.T d).loc main_arg1)))) $$ [HSI H1]
  · isplitl [HSI] <;> iassumption
  icases H with ⟨%h1, HSI, -⟩
  ihave H := (persistent_entails_right (SI_pointsTo_agree (st := s') (ℓ := (SparseCore.T d).loc main_arg2) (I := Finset.univ) (q := fullShare) (f := m ((SparseCore.T d).loc main_arg2)))) $$ [HSI H2]
  · isplitl [HSI] <;> iassumption
  icases H with ⟨%h2, HSI, -⟩
  ihave H := (SI_pointsTo_agree (st := s') (ℓ := (SparseCore.T d).loc main_v29) (I := Finset.univ) (q := fullShare) (f := RES m d)) $$ [HSI H3]
  · isplitl [HSI] <;> iassumption
  icases H with %h3
  ipureintro
  exact ⟨funext fun i => h0 i (Finset.mem_univ i), funext fun i => h1 i (Finset.mem_univ i), funext fun i => h2 i (Finset.mem_univ i), funext fun i => h3 i (Finset.mem_univ i)⟩

/-- The end of a run. -/
def QC : PUnit × MemSt nD τ sig (Elt F) → Prop := fun r =>
  (∀ c : Dev nD, r.2.mem ((SparseCore.T c).loc main_arg0) = m ((SparseCore.T c).loc main_arg0) ∧ r.2.mem ((SparseCore.T c).loc main_arg1) = m ((SparseCore.T c).loc main_arg1)
    ∧ r.2.mem ((SparseCore.T c).loc main_arg2) = m ((SparseCore.T c).loc main_arg2) ∧ r.2.mem ((SparseCore.T c).loc main_v29) = RES m c) ∧ r.2.sem = fun _ => 0

theorem run_main [∀ e, Nonempty (Elt F e)] (hpre : InRange m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts hpre)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof.Launch
-- ==== Proof.Host.lean ====
/-
  The arrays the tasks read, in terms of the program's arguments.
-/
module

public import proofs.«01_k».proof.Proof.Launch
public import Idealize.ShloMosaic.Lib.Pipeline.Value
public import Idealize.ShloMosaic.Lib.Pointwise.Reshape

@[expose] public section

noncomputable section

namespace Cert.Proof.Host

open Cert.KernelIdeal Cert.KernelIdeal.Gen Cert.KernelIdeal.Facts
open Idealize.ShloMosaic hiding ix1 ix2 ix3 eq_ix1 eq_ix2 eq_ix3
open Idealize.ShloMosaic.ValueIdx Idealize.ShloMosaic.StableHlo
open Idealize.SL.Sem
open Cert.Proof.Sort Cert.Proof.Tile Cert.Proof.Launch

variable {F : FTy → Type} [FloatOps F]

/-- Rows of a thousand values, each padded to 1024 by `p`, one after another. -/
theorem padded_at (x : S8x1000.Idx → F .f32) (p : BitVec 32) (w : Fin 8) (j : ℕ) (hj : j < 1024) :
    shapeCast S8192 (concatenate S8x1024 1 [⟨S8x1000, x⟩, ⟨S8x24, broadcastInDim S8x24 ![] bcast_S_S8x24 (constant S_ .f32 p : S_.Idx → F .f32)⟩]
        concatenates_S8x1000_S8x24_S8x1024_d1) shapeCasts_S8x1024_S8192 (ix1 ⟨1024 * w + j, by omega⟩)
      = if h : j < 1000 then x (ix2 w ⟨j, h⟩) else FloatOps.ofBits .f32 p := by
  have e : Shape.reshapeEquiv shapeCasts_S8x1024_S8192 (ix1 ⟨1024 * w + j, by omega⟩) = ix2 w ⟨j, hj⟩ :=
    Shape.reshapeEquiv_eq_of_vals _ _ _ _ _ (rowMajor_val2 _ 1024 rfl) (rowMajor_val1 _) (by
      show w.val * 1024 + j = 1024 * w.val + j; omega)
  show concatenate S8x1024 1 _ _ (Shape.reshapeEquiv shapeCasts_S8x1024_S8192 _) = _
  rw [e]
  by_cases h : j < 1000
  · rw [dif_pos h]
    exact concatenate_pair_apply_left (s₁ := S8x1000) (s₂ := S8x24) (t := S8x1024) 1 x
      (broadcastInDim S8x24 ![] bcast_S_S8x24 (constant S_ .f32 p : S_.Idx → F .f32)) _ (ix2 w ⟨j, hj⟩) rfl (ix2 w ⟨j, h⟩)
      (fun b => by fin_cases b <;> rfl)
  · rw [dif_neg h]
    refine (concatenate_pair_apply_right (s₁ := S8x1000) (s₂ := S8x24) (t := S8x1024) 1 x
      (broadcastInDim S8x24 ![] bcast_S_S8x24 (constant S_ .f32 p : S_.Idx → F .f32)) _ (ix2 w ⟨j, hj⟩) rfl rfl
      (ix2 w (⟨j - 1000, by omega⟩ : Fin 24)) (fun b hb => ?_) ?_).trans rfl
    · fin_cases b
      · rfl
      · exact absurd rfl hb
    · show j - 1000 + 1000 = j; omega

theorem column_at (x : S8x1000x4.Idx → F .f32) (c : Fin 4) (hs) (w : Fin 8) (j : Fin 1000) :
    shapeCast S8x1000 (extractStridedSlice S8x1000x1 ![0, 0, c.val] x hs) shapeCasts_S8x1000x1_S8x1000 (ix2 w j) = x (ix3 w j c) := by
  have e : Shape.reshapeEquiv shapeCasts_S8x1000x1_S8x1000 (ix2 w j) = ix3 w j 0 :=
    Shape.reshapeEquiv_eq_of_vals _ _ _ _ _ (rowMajor_val3 _ 1000 1 rfl rfl) (rowMajor_val2 _ 1000 rfl) (by
      show w.val * 1000 + j.val * 1 + 0 = w.val * 1000 + j.val; omega)
  show extractStridedSlice S8x1000x1 _ x hs (Shape.reshapeEquiv shapeCasts_S8x1000x1_S8x1000 _) = _
  rw [e]
  exact congrArg x (funext fun a => Fin.ext (by
    fin_cases a <;> simp [ix3]))

variable (m : (ℓ : Loc nD τ sig) → Buf (Elt F) ℓ)

/-- The arguments. -/
def g0 (d : Dev nD) : S8x1000.Idx → F .f32 := m (d, dr main_arg0)
def g1 (d : Dev nD) : S8x1000x4.Idx → F .f32 := m (d, dr main_arg1)
def g2 (d : Dev nD) : S8x1000.Idx → BitVec 32 := m (d, dr main_arg2)

theorem sc_at (d : Dev nD) (w : Fin 8) (j : ℕ) (hj : j < 1024) :
    (itemsOf (AA m d) w).sc (ix1 ⟨j, hj⟩) = if h : j < 1000 then g0 m d (ix2 w ⟨j, h⟩) else FloatOps.ofBits .f32 0xBF800000#32 := by
  refine Eq.trans ?_ (padded_at (g0 m d) 0xBF800000#32 w j hj)
  show V1 m d (dr main_v2) _ = _
  refine congrFun ?_ _
  unfold V1 opsA
  after_results_simp
  rfl

theorem cl_at (d : Dev nD) (w : Fin 8) (j : ℕ) (hj : j < 1024) :
    (itemsOf (AA m d) w).cl (ix1 ⟨j, hj⟩)
      = if h : j < 1000 then FloatOps.sitofp .f32 (g2 m d (ix2 w ⟨j, h⟩)) else FloatOps.ofBits .f32 0x00000000#32 := by
  refine Eq.trans ?_ (padded_at (fun i => FloatOps.sitofp .f32 (g2 m d i)) 0x00000000#32 w j hj)
  show V1 m d (dr main_v26) _ = _
  refine congrFun ?_ _
  unfold V1 opsA
  after_results_simp
  rfl

theorem y1_at (d : Dev nD) (w : Fin 8) (j : ℕ) (hj : j < 1024) :
    (itemsOf (AA m d) w).y1 (ix1 ⟨j, hj⟩)
      = if h : j < 1000 then g1 m d (ix3 w ⟨j, h⟩ 0) else FloatOps.ofBits .f32 0x00000000#32 := by
  refine Eq.trans (Eq.trans ?_ (padded_at (shapeCast S8x1000 (extractStridedSlice S8x1000x1 ![0, 0, 0] (g1 m d) slices_S8x1000x4_S8x1000x1_0_0_0) shapeCasts_S8x1000x1_S8x1000) 0x00000000#32 w j hj)) ?_
  · show V1 m d (dr main_v7) _ = _
    refine congrFun ?_ _
    unfold V1 opsA
    after_results_simp
    rfl
  · split
    · exact column_at (g1 m d) 0 _ w _
    · rfl

theorem x1_at (d : Dev nD) (w : Fin 8) (j : ℕ) (hj : j < 1024) :
    (itemsOf (AA m d) w).x1 (ix1 ⟨j, hj⟩)
      = if h : j < 1000 then g1 m d (ix3 w ⟨j, h⟩ 1) else FloatOps.ofBits .f32 0x00000000#32 := by
  refine Eq.trans (Eq.trans ?_ (padded_at (shapeCast S8x1000 (extractStridedSlice S8x1000x1 ![0, 0, 1] (g1 m d) slices_S8x1000x4_S8x1000x1_0_0_1) shapeCasts_S8x1000x1_S8x1000) 0x00000000#32 w j hj)) ?_
  · show V1 m d (dr main_v12) _ = _
    refine congrFun ?_ _
    unfold V1 opsA
    after_results_simp
    rfl
  · split
    · exact column_at (g1 m d) 1 _ w _
    · rfl

theorem y2_at (d : Dev nD) (w : Fin 8) (j : ℕ) (hj : j < 1024) :
    (itemsOf (AA m d) w).y2 (ix1 ⟨j, hj⟩)
      = if h : j < 1000 then g1 m d (ix3 w ⟨j, h⟩ 2) else FloatOps.ofBits .f32 0x00000000#32 := by
  refine Eq.trans (Eq.trans ?_ (padded_at (shapeCast S8x1000 (extractStridedSlice S8x1000x1 ![0, 0, 2] (g1 m d) slices_S8x1000x4_S8x1000x1_0_0_2) shapeCasts_S8x1000x1_S8x1000) 0x00000000#32 w j hj)) ?_
  · show V1 m d (dr main_v17) _ = _
    refine congrFun ?_ _
    unfold V1 opsA
    after_results_simp
    rfl
  · split
    · exact column_at (g1 m d) 2 _ w _
    · rfl

theorem x2_at (d : Dev nD) (w : Fin 8) (j : ℕ) (hj : j < 1024) :
    (itemsOf (AA m d) w).x2 (ix1 ⟨j, hj⟩)
      = if h : j < 1000 then g1 m d (ix3 w ⟨j, h⟩ 3) else FloatOps.ofBits .f32 0x00000000#32 := by
  refine Eq.trans (Eq.trans ?_ (padded_at (shapeCast S8x1000 (extractStridedSlice S8x1000x1 ![0, 0, 3] (g1 m d) slices_S8x1000x4_S8x1000x1_0_0_3) shapeCasts_S8x1000x1_S8x1000) 0x00000000#32 w j hj)) ?_
  · show V1 m d (dr main_v22) _ = _
    refine congrFun ?_ _
    unfold V1 opsA
    after_results_simp
    rfl
  · split
    · exact column_at (g1 m d) 3 _ w _
    · rfl

/-- The classes count within the counters when converting a small class to a float and back is the identity. -/
theorem inRange (hz : FloatOps.fptosi (F := F) (φ := .f32) 32 (FloatOps.ofBits .f32 0x00000000#32) = 0#32)
    (hc : ∀ v : BitVec 32, v.toNat < 81 → FloatOps.fptosi (F := F) (φ := .f32) 32 (FloatOps.sitofp .f32 v) = v)
    (h : ∀ d i, (g2 m d i).toNat < 81) : InRange m := by
  intro d w j
  unfold cl cw
  split
  · next hj =>
    rw [cl_at m d w j hj]
    split
    · rw [hc _ (h d _)]; exact (h d _).trans (by decide)
    · rw [hz]; decide
  · decide

end Cert.Proof.Host

end
-- ==== Proof.RefFrame.lean ====
/-
  The reference's run: it ends, its arguments as they were.
-/
module

public import proofs.«01_k».proof.Proof.Gen.ReferenceIdeal.Run
public import Idealize.ShloMosaic.Lib.Quiescent

@[expose] public section

set_option maxRecDepth 100000

noncomputable section

namespace Cert.Proof.RefFrame

open Cert.ReferenceIdeal Cert.ReferenceIdeal.Gen Cert.ReferenceIdeal.Value
open Idealize.ShloMosaic Idealize.ShloMosaic.StableHlo
open Idealize.SL.Sem

variable {F : FTy → Type} [FloatOps F]
variable (m : (ℓ : Loc nD τ sig) → Buf (Elt F) ℓ) (ρ : Dev nD → PrngReg)

/-- A buffer the loop does not write is, at the loop's end, what it was at its entry. -/
theorem loop_keeps (c : Dev nD) (b : Ref sig .tc) (h₁ : b ∉ condOps_W) (h₂ : b ∉ while0Ops0_W) (k : ℕ) :
    atK m k c (Proc.devRef .tc b) = entryContents preI m c (Proc.devRef .tc b) := by
  induction k with
  | zero => rfl
  | succ k ih =>
    show after while0Ops0 (after condOps (atK m k c)) _ = _
    rw [after_of_writes_sub while0Ops0 _ while0Ops0_writes h₂, after_of_writes_sub condOps _ condOps_writes h₁, ih]

theorem end_keeps (c : Dev nD) (b : Ref sig .tc) (h₁ : b ∉ condOps_W) (h₂ : b ∉ while0Ops0_W) :
    after condOps (atTrip condOps bodyI (entryContents preI m) 1000 c) (Proc.devRef .tc b) = entryContents preI m c (Proc.devRef .tc b) := by
  rw [after_of_writes_sub condOps _ condOps_writes h₁]
  exact loop_keeps m c b h₁ h₂ 1000

theorem arg0_kept (c : Dev nD) :
    finalContents condOps preI bodyI postI 1000 m c (Proc.devRef .tc main_arg0) = m ((c.tc : Thread nD τ).loc main_arg0) := by
  simp only [finalContents, afterL_cons, afterL_nil]
  generalize hV : after condOps (atTrip condOps bodyI (entryContents preI m) 1000 c) = V
  after_reads_simp
  subst hV
  rw [end_keeps m c _ (by decide) (by decide)]
  simp only [entryContents, afterL_cons, afterL_nil]
  after_reads_simp

theorem arg1_kept (c : Dev nD) :
    finalContents condOps preI bodyI postI 1000 m c (Proc.devRef .tc main_arg1) = m ((c.tc : Thread nD τ).loc main_arg1) := by
  simp only [finalContents, afterL_cons, afterL_nil]
  generalize hV : after condOps (atTrip condOps bodyI (entryContents preI m) 1000 c) = V
  after_reads_simp
  subst hV
  rw [end_keeps m c _ (by decide) (by decide)]
  simp only [entryContents, afterL_cons, afterL_nil]
  after_reads_simp

theorem arg2_kept (c : Dev nD) :
    finalContents condOps preI bodyI postI 1000 m c (Proc.devRef .tc main_arg2) = m ((c.tc : Thread nD τ).loc main_arg2) := by
  simp only [finalContents, afterL_cons, afterL_nil]
  generalize hV : after condOps (atTrip condOps bodyI (entryContents preI m) 1000 c) = V
  after_reads_simp
  subst hV
  rw [end_keeps m c _ (by decide) (by decide)]
  simp only [entryContents, afterL_cons, afterL_nil]
  after_reads_simp

/-- What the run's end says. -/
def Ends (r : MemSt nD τ sig (Elt F)) : Prop :=
  (∀ c : Dev nD, r.mem ((c.tc : Thread nD τ).loc main_v75) = finalContents condOps preI bodyI postI 1000 m c (Proc.devRef .tc main_v75)
    ∧ r.mem ((c.tc : Thread nD τ).loc main_arg0) = m ((c.tc : Thread nD τ).loc main_arg0)
    ∧ r.mem ((c.tc : Thread nD τ).loc main_arg1) = m ((c.tc : Thread nD τ).loc main_arg1)
    ∧ r.mem ((c.tc : Thread nD τ).loc main_arg2) = m ((c.tc : Thread nD τ).loc main_arg2))
  ∧ r.sem = fun _ => 0

theorem run_ref [∀ e, Nonempty (Elt F e)] : θ_run (defs (F := F)) (onTc (τ := τ) (main (F := F))) ⟨m, fun _ => 0, ρ⟩ (fun r => Ends m r.2) :=
  (θ_run (defs (F := F)) _ _).mono
    (fun r h => ⟨fun c => ⟨h c main_v75 (by decide), (h c main_arg0 (by decide)).trans (arg0_kept m c), (h c main_arg1 (by decide)).trans (arg1_kept m c),
      (h c main_arg2 (by decide)).trans (arg2_kept m c)⟩, sem_eq_zero_of_no_sems rfl r.2⟩)
    (run_fold m ρ)

end Cert.Proof.RefFrame

end
-- ==== Proof.Conv.lean ====
/-
  The preconditions read: small classes, boxes in the unit square; and a small class survives the two conversions.
-/
module

public import proofs.«01_k».proof.Defs
public import proofs.«01_k».proof.Proof.Gen.Pre_ids
public import proofs.«01_k».proof.Proof.Gen.Pre_pre
public import proofs.«01_k».proof.Proof.Host
public import proofs.«01_k».proof.Proof.RefFrame
public import Idealize.ShloMosaic.Lib.ReduceAll
public import Idealize.ShloMosaic.Lib.NatWords
public import Idealize.ShloMosaic.Lib.NatWordsOrder
public import proofs.«01_k».proof.Proof.Gen.Kernel
public import Idealize.ShloMosaic.PureOps.Ideal

@[expose] public section

noncomputable section

namespace Cert.Proof.Conv

open Idealize.ShloMosaic
open Idealize.SL.Sem
open Cert.Proof.Launch Cert.Proof.Host

/-! ## Conversions -/

theorem bits_zero : FloatOps.fptosi (F := Bits) (φ := .f32) 32 (FloatOps.ofBits .f32 0x00000000#32) = 0#32 := by
  show Bits.fptosi32 32 (Bits.ofBits .f32 0x00000000#32) = 0#32
  rw [← Bits.f32OfNat_zero, Bits.fptosi32_nat 0 (by omega)]

theorem ideal_conv (v : BitVec 32) (h : v.toNat < 81) : FloatOps.fptosi (F := Ideal) (φ := .f32) 32 (FloatOps.sitofp .f32 v) = v := by
  have hv : v.toInt = (v.toNat : ℤ) := by rw [BitVec.toInt_eq_toNat_cond]; split <;> omega
  show Ideal.fptosi 32 (((v.toInt : ℝ) : EReal)) = v
  unfold Ideal.fptosi
  rw [Ideal.toIntClamped_coe, hv]
  have h0 : (0 : ℝ) ≤ ((v.toNat : ℤ) : ℝ) := by exact_mod_cast Nat.zero_le _
  rw [if_pos h0, Int.floor_intCast]
  apply BitVec.eq_of_toNat_eq
  rw [show max (-((2 ^ (32 - 1) : ℕ) : ℤ)) (min (((2 ^ (32 - 1) : ℕ) : ℤ) - 1) (v.toNat : ℤ)) = (v.toNat : ℤ) by
    norm_num; omega]
  simp

theorem ideal_zero : FloatOps.fptosi (F := Ideal) (φ := .f32) 32 (FloatOps.ofBits .f32 0x00000000#32) = 0#32 := by
  have e : (FloatOps.ofBits .f32 0x00000000#32 : Ideal .f32) = FloatOps.sitofp .f32 (0#32 : BitVec 32) := by
    show Ideal.ofBits .f32 0x00000000#32 = (((0#32 : BitVec 32).toInt : ℝ) : EReal)
    simp [Ideal.ofBits, Ideal.ieee]
  rw [e]; exact ideal_conv 0#32 (by decide)

theorem bits_conv (v : BitVec 32) (h : v.toNat < 81) : FloatOps.fptosi (F := Bits) (φ := .f32) 32 (FloatOps.sitofp .f32 v) = v := by
  show Bits.fptosi32 32 (Bits.sitofp32 v) = v
  have e : v = BitVec.ofNat 32 v.toNat := by simp
  rw [e, Bits.sitofp32_ofNat (by omega), Bits.fptosi32_nat _ (by omega)]

/-! ## The preconditions -/

variable {F : FTy → Type} [FloatOps F]

theorem andi_one (p q : BitVec 1) (h : IntOp.andi p q = 1#1) : p = 1#1 ∧ q = 1#1 := by
  revert p q; decide

theorem class_key (v : BitVec 32) (e : IntOp.andi (IntOp.cmpi .sge v 0#32) (IntOp.cmpi .slt v 81#32) = 1#1) : v.toNat < 81 := by
  obtain ⟨h₁, h₂⟩ := andi_one _ _ e
  have ofBool_one : ∀ p : Bool, BitVec.ofBool p = 1#1 → p = true := by decide
  have h₁ := ofBool_one _ h₁
  have h₂ := ofBool_one _ h₂
  simp only [BitVec.sle_eq_decide, BitVec.slt_eq_decide, decide_eq_true_eq, BitVec.toInt_eq_toNat_cond, BitVec.toNat_ofNat,
    Nat.reducePow, Nat.reduceMod] at h₁ h₂
  omega

instance : Subsingleton Cert.Pre_pre.S_.Idx := ⟨fun a b => funext fun x => x.elim0⟩

instance : Subsingleton Cert.Pre_ids.S_.Idx := ⟨fun a b => funext fun x => x.elim0⟩

/-- The frames' precondition: every class number is below 81. -/
theorem small_of_ids (a0 : FVec F Cert.Pre_ids.S8x1000 .f32) (a1 : FVec F Cert.Pre_ids.S8x1000x4 .f32) (a2 : IVec Cert.Pre_ids.S8x1000 32)
    (h : Cert.Pre_ids.fn a0 a1 a2 = fun _ => 1#1) (i) : (a2 i).toNat < 81 :=
  class_key _ (Host.reduce_andi_all _ _ _ _ _ (congrFun h (fun a => a.elim0)) i)

/-- The equality's precondition: besides, every box coordinate lies between 0 and 1. -/
theorem small_of_pre (a0 : FVec F Cert.Pre_pre.S8x1000 .f32) (a1 : FVec F Cert.Pre_pre.S8x1000x4 .f32) (a2 : IVec Cert.Pre_pre.S8x1000 32)
    (h : Cert.Pre_pre.fn a0 a1 a2 = fun _ => 1#1) :
    (∀ i, (a2 i).toNat < 81) ∧ ∀ i, FloatOps.cmpf .oge (a1 i) (FloatOps.ofBits .f32 0x00000000#32) = 1#1
      ∧ FloatOps.cmpf .ole (a1 i) (FloatOps.ofBits .f32 0x3F800000#32) = 1#1 := by
  have e := congrFun h (fun a => a.elim0)
  obtain ⟨e₁, e₂⟩ := andi_one _ _ e
  refine ⟨fun i => class_key _ (Host.reduce_andi_all _ _ _ _ _ e₁ i), fun i => andi_one _ _ (Host.reduce_andi_all _ _ _ _ _ e₂ i)⟩

/-! ## The frames -/

theorem inRange_bits (m) (h : Cert.Pre_Kernel m) : InRange (F := Bits) m :=
  inRange m bits_zero bits_conv fun d i => small_of_ids _ _ _ (h d) i

theorem inRange_ideal (m) (h : Cert.Pre_KernelIdeal m) : InRange (F := Ideal) m :=
  inRange m ideal_zero ideal_conv fun d i => small_of_ids _ _ _ (h d) i

theorem inRange_pre (m) (h : Cert.Pre_KernelIdeal_pre m) : InRange (F := Ideal) m :=
  inRange m ideal_zero ideal_conv fun d i => (small_of_pre _ _ _ (h d)).1 i

theorem frame_kernel : Cert.quiescent_Kernel (hKernel := Cert.Kernel.Gen.facts) (hPre_ids := Cert.Pre_ids.Gen.facts) := fun m ρ h =>
  (θ_run Cert.KernelIdeal.defs _ _).mono (fun _ h => ⟨fun c => ⟨(h.1 c).1, (h.1 c).2.1, (h.1 c).2.2.1⟩, h.2⟩)
    (run_main (F := Bits) m ρ (inRange_bits m h))

theorem frame_kernelIdeal : Cert.quiescent_KernelIdeal (hKernelIdeal := Cert.KernelIdeal.Gen.facts) (hPre_ids := Cert.Pre_ids.Gen.facts) := fun m ρ h =>
  (θ_run Cert.KernelIdeal.defs _ _).mono (fun _ h => ⟨fun c => ⟨(h.1 c).1, (h.1 c).2.1, (h.1 c).2.2.1⟩, h.2⟩)
    (run_main (F := Ideal) m ρ (inRange_ideal m h))

theorem frame_kernelIdeal_pre : Cert.quiescent_KernelIdeal_pre_pre (hKernelIdeal := Cert.KernelIdeal.Gen.facts) (hPre_pre := Cert.Pre_pre.Gen.facts) := fun m ρ h =>
  (θ_run Cert.KernelIdeal.defs _ _).mono (fun _ h => ⟨fun c => ⟨(h.1 c).1, (h.1 c).2.1, (h.1 c).2.2.1⟩, h.2⟩)
    (run_main (F := Ideal) m ρ (inRange_pre m h))

theorem frame_referenceIdeal : Cert.quiescent_ReferenceIdeal (hReferenceIdeal := Cert.ReferenceIdeal.Gen.facts) := fun m ρ _ =>
  (θ_run Cert.ReferenceIdeal.defs _ _).mono (fun _ h => ⟨fun c => (h.1 c).2, h.2⟩) (Cert.Proof.RefFrame.run_ref (F := Ideal) m ρ)

end Cert.Proof.Conv

end
-- ==== Proof.Take.lean ====
/-
  Reading along an axis: where every index is in range, the program's guarded gather is the plain reading.
-/
module

public import proofs.«01_k».proof.Proof.Gen.ReferenceIdeal.Run
public import proofs.«01_k».proof.Proof.Words
public import Idealize.ShloMosaic.Lib.ReduceAll
public import Idealize.ShloMosaic.Lib.NatWords
public import Idealize.ShloMosaic.Lib.NatWordsOrder
public import Idealize.ShloMosaic.Lib.ValueIdxCore
public import Idealize.ShloMosaic.Lib.Pointwise.Reshape

@[expose] public section

set_option maxRecDepth 100000

noncomputable section

namespace Cert.Proof.Take

open Cert.ReferenceIdeal Cert.ReferenceIdeal.Gen Cert.ReferenceIdeal.Value
open Idealize.ShloMosaic hiding ix1 ix2 ix3 eq_ix1 eq_ix2 eq_ix3
open Idealize.ShloMosaic.ValueIdx Idealize.ShloMosaic.StableHlo
open Idealize.SL.Sem

section Gather

variable {α : Type} {N : ℕ}

/-- Which operand row and column a result index reads: the batch's row, at the index word. -/
def dimsS (N : ℕ) (wf : GatherDims.WF ⟨2, ![8, 1000]⟩ ⟨3, ![8, N, 1]⟩ ⟨2, ![8, N]⟩ [] [1] [0] [1] [0] 2 ![1, 1]) :
    GatherDims ⟨2, ![8, 1000]⟩ ⟨3, ![8, N, 1]⟩ ⟨2, ![8, N]⟩ where
  offsetDims := []
  collapsedSliceDims := [1]
  operandBatchingDims := [0]
  startIndicesBatchingDims := [0]
  startIndexMap := [1]
  indexVectorDim := 2
  sliceSizes := ![1, 1]
  wf := wf

theorem word_at (w : BitVec 32) (h : w.toNat < 1000) : min w.toInt.toNat (1000 - 1) = w.toNat := by
  rw [BitVec.toInt_eq_toNat_cond, if_pos (by omega)]
  omega

theorem gatherS_at (wf) (x : (⟨2, ![8, 1000]⟩ : Shape).Idx → α) (idx : IVec ⟨3, ![8, N, 1]⟩ 32) (b : Fin 8) (i : Fin N)
    (h : (idx (ix3 b i 0)).toNat < 1000) :
    Host.gather (dimsS N wf) x idx (ix2 b i) = x (ix2 b ⟨(idx (ix3 b i 0)).toNat, h⟩) := by
  unfold Host.gather
  refine congrArg x (funext fun a => Fin.ext ?_)
  show (dimsS N wf).start (ix2 b i) idx a + (dimsS N wf).batchCoord (ix2 b i) a + (dimsS N wf).offCoord (ix2 b i) a = _
  match a with
  | ⟨0, _⟩ =>
    rw [GatherDims.start_batching _ _ _ _ (List.mem_singleton.mpr rfl),
      GatherDims.offCoord_eq_zero _ _ _ (fun h => ((GatherDims.mem_sKept _ _).mp h).2 (List.mem_singleton.mpr rfl)), Nat.zero_add, Nat.add_zero]
    unfold GatherDims.batchCoord
    refine (dif_pos (List.mem_singleton.mpr rfl)).trans ?_
    rfl
  | ⟨1, _⟩ =>
    rw [GatherDims.batchCoord_eq_zero _ _ _ (fun h => by simp [dimsS] at h),
      GatherDims.offCoord_eq_zero _ _ _ (fun h => ((GatherDims.mem_sKept _ _).mp h).1 (List.mem_singleton.mpr rfl)), Nat.add_zero]
    unfold GatherDims.start
    refine (dif_pos (show (1 : Fin 2) ∈ (dimsS N wf).startIndexMap from List.mem_singleton.mpr rfl)).trans ?_
    have hsi : (dimsS N wf).siIdx (ix2 b i) ⟨List.idxOf (1 : Fin 2) (dimsS N wf).startIndexMap,
        List.idxOf_lt_length_iff.2 (List.mem_singleton.mpr rfl)⟩ = ix3 b i 0 := by
      funext k; refine Fin.ext ?_
      match k with
      | ⟨0, _⟩ => rfl
      | ⟨1, _⟩ => rfl
      | ⟨2, _⟩ => rfl
    exact (congrArg (fun k => min (idx k).toInt.toNat (1000 - 1)) hsi).trans (word_at _ h)

/-- The same for rows of four. -/
def dimsB (N : ℕ) (wf : GatherDims.WF ⟨3, ![8, 1000, 4]⟩ ⟨3, ![8, N, 1]⟩ ⟨3, ![8, N, 4]⟩ [2] [1] [0] [1] [0] 2 ![1, 1, 4]) :
    GatherDims ⟨3, ![8, 1000, 4]⟩ ⟨3, ![8, N, 1]⟩ ⟨3, ![8, N, 4]⟩ where
  offsetDims := [2]
  collapsedSliceDims := [1]
  operandBatchingDims := [0]
  startIndicesBatchingDims := [0]
  startIndexMap := [1]
  indexVectorDim := 2
  sliceSizes := ![1, 1, 4]
  wf := wf

theorem gatherB_at (wf) (x : (⟨3, ![8, 1000, 4]⟩ : Shape).Idx → α) (idx : IVec ⟨3, ![8, N, 1]⟩ 32) (b : Fin 8) (i : Fin N) (c : Fin 4)
    (h : (idx (ix3 b i 0)).toNat < 1000) :
    Host.gather (dimsB N wf) x idx (ix3 b i c) = x (ix3 b ⟨(idx (ix3 b i 0)).toNat, h⟩ c) := by
  unfold Host.gather
  refine congrArg x (funext fun a => Fin.ext ?_)
  show (dimsB N wf).start (ix3 b i c) idx a + (dimsB N wf).batchCoord (ix3 b i c) a + (dimsB N wf).offCoord (ix3 b i c) a = _
  match a with
  | ⟨0, _⟩ =>
    rw [GatherDims.start_batching _ _ _ _ (List.mem_singleton.mpr rfl),
      GatherDims.offCoord_eq_zero _ _ _ (fun h => ((GatherDims.mem_sKept _ _).mp h).2 (List.mem_singleton.mpr rfl)), Nat.zero_add, Nat.add_zero]
    unfold GatherDims.batchCoord
    refine (dif_pos (List.mem_singleton.mpr rfl)).trans ?_
    rfl
  | ⟨1, _⟩ =>
    rw [GatherDims.batchCoord_eq_zero _ _ _ (fun h => by simp [dimsB] at h),
      GatherDims.offCoord_eq_zero _ _ _ (fun h => ((GatherDims.mem_sKept _ _).mp h).1 (List.mem_singleton.mpr rfl)), Nat.add_zero]
    unfold GatherDims.start
    refine (dif_pos (show (1 : Fin 3) ∈ (dimsB N wf).startIndexMap from List.mem_singleton.mpr rfl)).trans ?_
    have hsi : (dimsB N wf).siIdx (ix3 b i c) ⟨List.idxOf (1 : Fin 3) (dimsB N wf).startIndexMap,
        List.idxOf_lt_length_iff.2 (List.mem_singleton.mpr rfl)⟩ = ix3 b i 0 := by
      funext k; refine Fin.ext ?_
      match k with
      | ⟨0, _⟩ => rfl
      | ⟨1, _⟩ => rfl
      | ⟨2, _⟩ => rfl
    exact (congrArg (fun k => min (idx k).toInt.toNat (1000 - 1)) hsi).trans (word_at _ h)
  | ⟨2, _⟩ =>
    rw [GatherDims.batchCoord_eq_zero _ _ _ (fun h => by simp [dimsB] at h), Nat.add_zero]
    unfold GatherDims.start GatherDims.offCoord
    rw [dif_neg (fun h => by simp [dimsB] at h), dif_pos ((GatherDims.mem_sKept _ _).mpr ⟨fun h => by simp [dimsB] at h, fun h => by simp [dimsB] at h⟩), Nat.zero_add]
    rfl

end Gather

section Guard

variable {s : Shape}

theorem fix_small (idx z n : IVec s 32) (hz : z = fun _ => 0#32) (h : ∀ j, (idx j).toNat < 1000) : select (cmpi .slt idx z) n idx = idx := by
  subst hz
  funext j
  show Scalar.select (IntOp.cmpi .slt (idx j) 0#32) (n j) (idx j) = idx j
  have e := Words.slt_ofNat (idx j).toNat 0 (by have := h j; omega) (by omega)
  rw [BitVec.ofNat_toNat, BitVec.setWidth_eq] at e
  have e' : (idx j).slt 0#32 = false := Bool.eq_false_iff.2 fun hc => absurd (e.1 hc) (by omega)
  have : IntOp.cmpi .slt (idx j) 0#32 = 0#1 := by
    show BitVec.ofBool ((idx j).slt 0#32) = 0#1
    rw [e']
    rfl
  rw [this]
  rfl

theorem guard_one (idx z u : IVec s 32) (hz : z = fun _ => 0#32) (hu : u = fun _ => 999#32) (h : ∀ j, (idx j).toNat < 1000) (j : s.Idx) :
    andi (cmpi .sge idx z) (cmpi .sle idx u) j = 1#1 := by
  subst hz hu
  show BitVec.ofBool ((0#32).sle (idx j)) &&& BitVec.ofBool ((idx j).sle 999#32) = 1#1
  have h1 := (Words.sle_ofNat 0 (idx j).toNat (by omega) (by have := h j; omega)).2 (by omega)
  have h2 := (Words.sle_ofNat (idx j).toNat 999 (by have := h j; omega) (by omega)).2 (by have := h j; omega)
  rw [BitVec.ofNat_toNat, BitVec.setWidth_eq] at h1 h2
  rw [h1, h2]
  rfl

theorem select_one {α : Type} (c : IVec s 1) (x y : s.Idx → α) (j : s.Idx) (h : c j = 1#1) : select c x y j = x j := by
  show Scalar.select (c j) (x j) (y j) = x j
  rw [h]
  rfl

end Guard

/-- The program's guarded reading of one word per index, 1000 of them a batch. -/
def takeS {α : Type} (x : S8x1000.Idx → α) (raw : IVec S8x1000 32) (fill : S8x1000.Idx → α) : S8x1000.Idx → α :=
  select (Host.reduce IntOp.andi (andi
      (cmpi .sge (shapeCast S8x1000x1 (select (cmpi .slt raw (broadcastInDim S8x1000 ![] bcast_S_S8x1000 (constantI S_ 32 0#32))) (addi raw (broadcastInDim S8x1000 ![] bcast_S_S8x1000 (constantI S_ 32 1000#32))) raw) shapeCasts_S8x1000_S8x1000x1)
        (broadcastInDim S8x1000x1 ![] bcast_S_S8x1000x1 (constantI S_ 32 0#32)))
      (cmpi .sle (shapeCast S8x1000x1 (select (cmpi .slt raw (broadcastInDim S8x1000 ![] bcast_S_S8x1000 (constantI S_ 32 0#32))) (addi raw (broadcastInDim S8x1000 ![] bcast_S_S8x1000 (constantI S_ 32 1000#32))) raw) shapeCasts_S8x1000_S8x1000x1)
        (broadcastInDim S8x1000x1 ![0, 1, 2] bcast_S1x1x1_S8x1000x1_0_1_2 (broadcastInDim S1x1x1 ![2] bcast_S1_S1x1x1_2 (constantI S1 32 999#32)))))
      (constantI S_ 1 1#1) reducesTo_S8x1000x1_S8x1000_d2 h_S_)
    (Host.gather gather_S8x1000_S8x1000x1_S8x1000_n_1_0_0_1_2_11 x
      (shapeCast S8x1000x1 (select (cmpi .slt raw (broadcastInDim S8x1000 ![] bcast_S_S8x1000 (constantI S_ 32 0#32))) (addi raw (broadcastInDim S8x1000 ![] bcast_S_S8x1000 (constantI S_ 32 1000#32))) raw) shapeCasts_S8x1000_S8x1000x1))
    fill

theorem takeS_at {α : Type} (x : S8x1000.Idx → α) (raw : IVec S8x1000 32) (fill : S8x1000.Idx → α) (h : ∀ j, (raw j).toNat < 1000) (b : Fin 8) (i : Fin 1000) :
    takeS x raw fill (ix2 b i) = x (ix2 b ⟨(raw (ix2 b i)).toNat, h _⟩) := by
  unfold takeS
  rw [fix_small raw (broadcastInDim S8x1000 ![] bcast_S_S8x1000 (constantI S_ 32 0#32)) _ rfl h]
  have hs : ∀ j, (shapeCast S8x1000x1 raw shapeCasts_S8x1000_S8x1000x1 j).toNat < 1000 := fun j => h _
  have he : shapeCast S8x1000x1 raw shapeCasts_S8x1000_S8x1000x1 (ix3 b i 0) = raw (ix2 b i) := by
    unfold shapeCast
    exact congrArg raw (Shape.reshapeEquiv_eq_of_vals _ _ _ _ _ (rowMajor_val2 _ 1000 rfl) (rowMajor_val3 _ 1000 1 rfl rfl) (by
      show b.val * 1000 + i.val = b.val * 1000 + i.val * 1 + 0
      omega))
  refine (select_one _ _ _ _ ?_).trans ?_
  · exact Host.reduce_andi_one _ _ _ _ _ rfl fun j => guard_one _ _ _ rfl rfl hs j
  refine (gatherS_at _ x _ b i (hs _)).trans (congrArg x (congrArg (ix2 b) (Fin.ext ?_)))
  exact congrArg BitVec.toNat he

/-- The program's guarded reading of one word per index, 100 of them a batch. -/
def takeT {α : Type} (x : S8x1000.Idx → α) (raw : IVec S8x100 32) (fill : S8x100.Idx → α) : S8x100.Idx → α :=
  select (Host.reduce IntOp.andi (andi
      (cmpi .sge (shapeCast S8x100x1 (select (cmpi .slt raw (broadcastInDim S8x100 ![] bcast_S_S8x100 (constantI S_ 32 0#32))) (addi raw (broadcastInDim S8x100 ![] bcast_S_S8x100 (constantI S_ 32 1000#32))) raw) shapeCasts_S8x100_S8x100x1)
        (broadcastInDim S8x100x1 ![] bcast_S_S8x100x1 (constantI S_ 32 0#32)))
      (cmpi .sle (shapeCast S8x100x1 (select (cmpi .slt raw (broadcastInDim S8x100 ![] bcast_S_S8x100 (constantI S_ 32 0#32))) (addi raw (broadcastInDim S8x100 ![] bcast_S_S8x100 (constantI S_ 32 1000#32))) raw) shapeCasts_S8x100_S8x100x1)
        (broadcastInDim S8x100x1 ![0, 1, 2] bcast_S1x1x1_S8x100x1_0_1_2 (broadcastInDim S1x1x1 ![2] bcast_S1_S1x1x1_2 (constantI S1 32 999#32)))))
      (constantI S_ 1 1#1) reducesTo_S8x100x1_S8x100_d2 h_S_)
    (Host.gather gather_S8x1000_S8x100x1_S8x100_n_1_0_0_1_2_11 x
      (shapeCast S8x100x1 (select (cmpi .slt raw (broadcastInDim S8x100 ![] bcast_S_S8x100 (constantI S_ 32 0#32))) (addi raw (broadcastInDim S8x100 ![] bcast_S_S8x100 (constantI S_ 32 1000#32))) raw) shapeCasts_S8x100_S8x100x1))
    fill

theorem takeT_at {α : Type} (x : S8x1000.Idx → α) (raw : IVec S8x100 32) (fill : S8x100.Idx → α) (h : ∀ j, (raw j).toNat < 1000) (b : Fin 8) (i : Fin 100) :
    takeT x raw fill (ix2 b i) = x (ix2 b ⟨(raw (ix2 b i)).toNat, h _⟩) := by
  unfold takeT
  rw [fix_small raw (broadcastInDim S8x100 ![] bcast_S_S8x100 (constantI S_ 32 0#32)) _ rfl h]
  have hs : ∀ j, (shapeCast S8x100x1 raw shapeCasts_S8x100_S8x100x1 j).toNat < 1000 := fun j => h _
  have he : shapeCast S8x100x1 raw shapeCasts_S8x100_S8x100x1 (ix3 b i 0) = raw (ix2 b i) := by
    unfold shapeCast
    exact congrArg raw (Shape.reshapeEquiv_eq_of_vals _ _ _ _ _ (rowMajor_val2 _ 100 rfl) (rowMajor_val3 _ 100 1 rfl rfl) (by
      show b.val * 100 + i.val = b.val * 100 + i.val * 1 + 0
      omega))
  refine (select_one _ _ _ _ ?_).trans ?_
  · exact Host.reduce_andi_one _ _ _ _ _ rfl fun j => guard_one _ _ _ rfl rfl hs j
  refine (gatherS_at _ x _ b i (hs _)).trans (congrArg x (congrArg (ix2 b) (Fin.ext ?_)))
  exact congrArg BitVec.toNat he

/-- The program's guarded reading of rows of four, 1000 of them a batch. -/
def takeB {α : Type} (x : S8x1000x4.Idx → α) (raw : IVec S8x1000x1 32) (fill : S8x1000x4.Idx → α) : S8x1000x4.Idx → α :=
  select (broadcastInDim S8x1000x4 ![0, 1] bcast_S8x1000_S8x1000x4_0_1 (Host.reduce IntOp.andi (andi
      (cmpi .sge (select (cmpi .slt raw (broadcastInDim S8x1000x1 ![] bcast_S_S8x1000x1 (constantI S_ 32 0#32))) (addi raw (broadcastInDim S8x1000x1 ![] bcast_S_S8x1000x1 (constantI S_ 32 1000#32))) raw)
        (broadcastInDim S8x1000x1 ![] bcast_S_S8x1000x1 (constantI S_ 32 0#32)))
      (cmpi .sle (select (cmpi .slt raw (broadcastInDim S8x1000x1 ![] bcast_S_S8x1000x1 (constantI S_ 32 0#32))) (addi raw (broadcastInDim S8x1000x1 ![] bcast_S_S8x1000x1 (constantI S_ 32 1000#32))) raw)
        (broadcastInDim S8x1000x1 ![0, 1, 2] bcast_S1x1x1_S8x1000x1_0_1_2 (broadcastInDim S1x1x1 ![2] bcast_S1_S1x1x1_2 (constantI S1 32 999#32)))))
      (constantI S_ 1 1#1) reducesTo_S8x1000x1_S8x1000_d2 h_S_))
    (Host.gather gather_S8x1000x4_S8x1000x1_S8x1000x4_2_1_0_0_1_2_114 x
      (select (cmpi .slt raw (broadcastInDim S8x1000x1 ![] bcast_S_S8x1000x1 (constantI S_ 32 0#32))) (addi raw (broadcastInDim S8x1000x1 ![] bcast_S_S8x1000x1 (constantI S_ 32 1000#32))) raw))
    fill

theorem takeB_at {α : Type} (x : S8x1000x4.Idx → α) (raw : IVec S8x1000x1 32) (fill : S8x1000x4.Idx → α) (h : ∀ j, (raw j).toNat < 1000) (b : Fin 8) (i : Fin 1000) (c : Fin 4) :
    takeB x raw fill (ix3 b i c) = x (ix3 b ⟨(raw (ix3 b i 0)).toNat, h _⟩ c) := by
  unfold takeB
  rw [fix_small raw (broadcastInDim S8x1000x1 ![] bcast_S_S8x1000x1 (constantI S_ 32 0#32)) _ rfl h]
  refine (select_one _ _ _ _ ?_).trans ?_
  · exact Host.reduce_andi_one _ _ _ _ _ rfl fun j => guard_one _ _ _ rfl rfl h j
  exact gatherB_at _ x _ b i c (h _)

/-- The program's guarded reading of rows of four, 100 of them a batch. -/
def takeC {α : Type} (x : S8x1000x4.Idx → α) (raw : IVec S8x100x1 32) (fill : S8x100x4.Idx → α) : S8x100x4.Idx → α :=
  select (broadcastInDim S8x100x4 ![0, 1] bcast_S8x100_S8x100x4_0_1 (Host.reduce IntOp.andi (andi
      (cmpi .sge (select (cmpi .slt raw (broadcastInDim S8x100x1 ![] bcast_S_S8x100x1 (constantI S_ 32 0#32))) (addi raw (broadcastInDim S8x100x1 ![] bcast_S_S8x100x1 (constantI S_ 32 1000#32))) raw)
        (broadcastInDim S8x100x1 ![] bcast_S_S8x100x1 (constantI S_ 32 0#32)))
      (cmpi .sle (select (cmpi .slt raw (broadcastInDim S8x100x1 ![] bcast_S_S8x100x1 (constantI S_ 32 0#32))) (addi raw (broadcastInDim S8x100x1 ![] bcast_S_S8x100x1 (constantI S_ 32 1000#32))) raw)
        (broadcastInDim S8x100x1 ![0, 1, 2] bcast_S1x1x1_S8x100x1_0_1_2 (broadcastInDim S1x1x1 ![2] bcast_S1_S1x1x1_2 (constantI S1 32 999#32)))))
      (constantI S_ 1 1#1) reducesTo_S8x100x1_S8x100_d2 h_S_))
    (Host.gather gather_S8x1000x4_S8x100x1_S8x100x4_2_1_0_0_1_2_114 x
      (select (cmpi .slt raw (broadcastInDim S8x100x1 ![] bcast_S_S8x100x1 (constantI S_ 32 0#32))) (addi raw (broadcastInDim S8x100x1 ![] bcast_S_S8x100x1 (constantI S_ 32 1000#32))) raw))
    fill

theorem takeC_at {α : Type} (x : S8x1000x4.Idx → α) (raw : IVec S8x100x1 32) (fill : S8x100x4.Idx → α) (h : ∀ j, (raw j).toNat < 1000) (b : Fin 8) (i : Fin 100) (c : Fin 4) :
    takeC x raw fill (ix3 b i c) = x (ix3 b ⟨(raw (ix3 b i 0)).toNat, h _⟩ c) := by
  unfold takeC
  rw [fix_small raw (broadcastInDim S8x100x1 ![] bcast_S_S8x100x1 (constantI S_ 32 0#32)) _ rfl h]
  refine (select_one _ _ _ _ ?_).trans ?_
  · exact Host.reduce_andi_one _ _ _ _ _ rfl fun j => guard_one _ _ _ rfl rfl h j
  exact gatherB_at _ x _ b i c (h _)

variable {F : FTy → Type} [FloatOps F] (V : Valuation τ sig (Elt F))

theorem v3_eq : after hostOps0_3 V (Proc.devRef .tc main_v3)
    = takeB (V (Proc.devRef .tc main_arg1)) (V (Proc.devRef .tc main_v2)) (broadcastInDim S8x1000x4 ![] bcast_S_S8x1000x4 (constant S_ .f32 0x7FC00000#32 : S_.Idx → F .f32)) := by
  after_reads_simp
  rfl

theorem v4_eq : after hostOps0_4 V (Proc.devRef .tc main_v4)
    = takeS (V (Proc.devRef .tc main_arg0)) (V (Proc.devRef .tc main_v1)) (broadcastInDim S8x1000 ![] bcast_S_S8x1000 (constant S_ .f32 0x7FC00000#32 : S_.Idx → F .f32)) := by
  after_reads_simp
  rfl

theorem v5_eq : after hostOps0_5 V (Proc.devRef .tc main_v5)
    = takeS (V (Proc.devRef .tc main_arg2)) (V (Proc.devRef .tc main_v1)) (broadcastInDim S8x1000 ![] bcast_S_S8x1000 (constantI S_ 32 2147483648#32)) := by
  after_reads_simp
  rfl

theorem v65_eq : after hostOps0_10 V (Proc.devRef .tc main_v65)
    = takeC (V (Proc.devRef .tc main_v3)) (V (Proc.devRef .tc main_v64)) (broadcastInDim S8x100x4 ![] bcast_S_S8x100x4 (constant S_ .f32 0x7FC00000#32 : S_.Idx → F .f32)) := by
  after_reads_simp
  rfl

theorem v66_eq : after hostOps0_11 V (Proc.devRef .tc main_v66)
    = takeT (V (Proc.devRef .tc main_v5)) (V (Proc.devRef .tc main_indices)) (broadcastInDim S8x100 ![] bcast_S_S8x100 (constantI S_ 32 2147483648#32)) := by
  after_reads_simp
  rfl

theorem v68_eq : after hostOps0_13 V (Proc.devRef .tc main_v68)
    = takeT (V (Proc.devRef .tc main_v4)) (V (Proc.devRef .tc main_indices)) (broadcastInDim S8x100 ![] bcast_S_S8x100 (constant S_ .f32 0x7FC00000#32 : S_.Idx → F .f32)) := by
  after_reads_simp
  rfl

end Cert.Proof.Take

end
-- ==== Proof.RefLoop.lean ====
/-
  The reference's loop, element by element: which items it keeps.
-/
module

public import proofs.«01_k».proof.Proof.Take
public import proofs.«01_k».proof.Proof.RefFrame
public import Idealize.ShloMosaic.Lib.DynamicIndex

@[expose] public section

set_option maxRecDepth 100000

noncomputable section

namespace Cert.Proof.RefLoop

open Cert.ReferenceIdeal Cert.ReferenceIdeal.Gen Cert.ReferenceIdeal.Value
open Idealize.ShloMosaic hiding ix1 ix2 ix3 eq_ix1 eq_ix2 eq_ix3
open Idealize.ShloMosaic.ValueIdx Idealize.ShloMosaic.StableHlo
open Idealize.SL.Sem

variable {F : FTy → Type} [FloatOps F] (V : Valuation τ sig (Elt F))

section Slices

variable {α : Type}

/-- The start of a slice: 0 on the batch axis, `k` on the next. -/
theorem start_word (w : IVec S_ 32) (n : BitVec 32) (k : ℕ) (hk : k < 1000) (hw : w = fun _ => BitVec.ofNat 32 k) (z : S_.Idx) :
    (select (cmpi .slt w (constantI S_ 32 0#32)) (addi w (constantI S_ 32 n)) w z).toInt = k := by
  have hs : ∀ j, (w j).toNat < 1000 := fun j => by rw [hw, Words.toNat_small _ (by omega)]; exact hk
  rw [Take.fix_small w (constantI S_ 32 0#32) _ rfl hs, hw]
  show (BitVec.ofNat 32 k).toInt = k
  rw [BitVec.toInt_eq_toNat_cond, Words.toNat_small _ (by omega), if_pos (by omega)]

theorem row_at (x : S8x1000x1000.Idx → α) (start : Fin 3 → Int) (k : Fin 1000) (hs : start = ![0, (k.val : Int), 0]) (b : Fin 8) (j : Fin 1000) :
    shapeCast S8x1000 (Host.dynamicSlice S8x1x1000 x start sliceFits_S8x1000x1000_S8x1x1000) shapeCasts_S8x1x1000_S8x1000 (ix2 b j) = x (ix3 b k j) := by
  have e : Shape.reshapeEquiv shapeCasts_S8x1x1000_S8x1000 (ix2 b j) = ix3 b 0 j :=
    Shape.reshapeEquiv_eq_of_vals _ _ _ _ _ (rowMajor_val3 _ 1000 1000 rfl rfl) (rowMajor_val2 _ 1000 rfl) (by
      show b.val * 1000 + 0 * 1000 + j.val = b.val * 1000 + j.val; omega)
  show Host.dynamicSlice S8x1x1000 x start _ (Shape.reshapeEquiv shapeCasts_S8x1x1000_S8x1000 (ix2 b j)) = _
  rw [e]
  subst hs
  unfold Host.dynamicSlice extractStridedSlice
  refine congrArg x (funext fun a => Fin.ext ?_)
  match a with
  | ⟨0, _⟩ => show 0 + b.val = b.val; omega
  | ⟨1, _⟩ => show (min (max (k.val : Int) 0) ((1000 - 1 : ℕ) : Int)).toNat + 0 = k.val; omega
  | ⟨2, _⟩ => show 0 + j.val = j.val; omega

theorem flag_at (x : S8x1000.Idx → α) (start : Fin 2 → Int) (k : Fin 1000) (hs : start = ![0, (k.val : Int)]) (b : Fin 8) :
    shapeCast S8 (Host.dynamicSlice S8x1 x start sliceFits_S8x1000_S8x1) shapeCasts_S8x1_S8 (ix1 b) = x (ix2 b k) := by
  have e : Shape.reshapeEquiv shapeCasts_S8x1_S8 (ix1 b) = ix2 b 0 :=
    Shape.reshapeEquiv_eq_of_vals _ _ _ _ _ (rowMajor_val2 _ 1 rfl) (rowMajor_val1 _) (by
      show b.val * 1 + 0 = b.val; omega)
  show Host.dynamicSlice S8x1 x start _ (Shape.reshapeEquiv shapeCasts_S8x1_S8 (ix1 b)) = _
  rw [e]
  subst hs
  unfold Host.dynamicSlice extractStridedSlice
  refine congrArg x (funext fun a => Fin.ext ?_)
  match a with
  | ⟨0, _⟩ => show 0 + b.val = b.val; omega
  | ⟨1, _⟩ => show (min (max (k.val : Int) 0) ((1000 - 1 : ℕ) : Int)).toNat + 0 = k.val; omega

theorem spread_at (x : S8.Idx → α) (b : Fin 8) (j : Fin 1000) :
    broadcastInDim S8x1000 ![0, 1] bcast_S8x1_S8x1000_0_1 (broadcastInDim S8x1 ![0] bcast_S8_S8x1_0 x) (ix2 b j) = x (ix1 b) := by
  unfold broadcastInDim
  refine congrArg x (funext fun a => ?_)
  match a with
  | ⟨0, _⟩ => rfl

theorem over_at (x : S1000.Idx → α) (b : Fin 8) (j : Fin 1000) :
    broadcastInDim S8x1000 ![0, 1] bcast_S1x1000_S8x1000_0_1 (broadcastInDim S1x1000 ![1] bcast_S1000_S1x1000_1 x) (ix2 b j) = x (ix1 j) := by
  unfold broadcastInDim
  refine congrArg x (funext fun a => ?_)
  match a with
  | ⟨0, _⟩ => rfl

end Slices

/-- Whether the reference takes `j` away where it keeps `i`. -/
def far (V : Valuation τ sig (Elt F)) (b : Fin 8) (i j : Fin 1000) : Prop :=
  FloatOps.cmpf (F := F) (φ := .f32) .ogt (V (Proc.devRef .tc main_v62_0) (ix3 b i j)) (FloatOps.ofBits .f32 0x3E99999A#32) = 1#1

theorem not_and (a c d e : BitVec 1) : a &&& ~~~(c &&& d &&& e) = 1#1 ↔ a = 1#1 ∧ ¬ (c = 1#1 ∧ d = 1#1 ∧ e = 1#1) := by
  revert a c d e
  decide

theorem keep_step (k : Fin 1000) (hk : V (Proc.devRef .tc main_v62_3) = fun _ => BitVec.ofNat 32 k.val)
    (hi : V (Proc.devRef .tc main_v62_1) = iotaInDim S1000 32 0) (b : Fin 8) (j : Fin 1000) :
    step_main_v62_4 V (ix2 b j) = 1#1 ↔ V (Proc.devRef .tc main_v62_4) (ix2 b j) = 1#1
      ∧ ¬ (far V b k j ∧ V (Proc.devRef .tc main_v62_4) (ix2 b k) = 1#1 ∧ k < j) := by
  have h1 : ∀ z, (select (cmpi .slt (res_main_while0b_v77 V) (constantI S_ 32 0#32)) (addi (res_main_while0b_v77 V) (constantI S_ 32 1000#32)) (res_main_while0b_v77 V) z).toInt = k.val :=
    start_word (res_main_while0b_v77 V) _ _ k.isLt hk
  have h2 : ∀ z, (select (cmpi .slt (res_main_while0b_v91 V) (constantI S_ 32 0#32)) (addi (res_main_while0b_v91 V) (constantI S_ 32 1000#32)) (res_main_while0b_v91 V) z).toInt = k.val :=
    start_word (res_main_while0b_v91 V) _ _ k.isLt hk
  unfold step_main_v62_4
  refine (not_and _ _ _ _).trans (and_congr Iff.rfl (not_congr (and_congr ?_ (and_congr ?_ ?_))))
  · unfold far
    refine Iff.of_eq (congrArg (fun z => FloatOps.cmpf (F := F) (φ := .f32) .ogt z _ = 1#1) (row_at _ _ k ?_ b j))
    funext a
    match a with
    | ⟨0, _⟩ => rfl
    | ⟨1, _⟩ => exact h1 _
    | ⟨2, _⟩ => rfl
  · refine Iff.of_eq (congrArg (fun z => z = 1#1) ((spread_at _ b j).trans (flag_at _ _ k ?_ b)))
    funext a
    match a with
    | ⟨0, _⟩ => rfl
    | ⟨1, _⟩ => exact h2 _
  · rw [over_at, hi, hk]
    show BitVec.ofBool ((BitVec.ofNat 32 k.val).slt (BitVec.ofNat 32 j.val)) = 1#1 ↔ _
    rw [Words.ofBool_one, Words.slt_ofNat _ _ (by omega) (by omega)]
    exact Iff.rfl

variable (m : (ℓ : Loc nD τ sig) → Buf (Elt F) ℓ) (c : Dev nD)

/-- The contents at the loop's entry. -/
abbrev E : Valuation τ sig (Elt F) := entryContents preI m c

/-- After `k` trips: the carried values. -/
theorem atK_carried (h1 : E m c (Proc.devRef .tc main_v62_1) = iotaInDim S1000 32 0) (h3 : E m c (Proc.devRef .tc main_v62_3) = fun _ => 0#32) (k : ℕ) :
    STEP^[k] (E m c) (Proc.devRef .tc main_v62_0) = E m c (Proc.devRef .tc main_v62_0)
    ∧ STEP^[k] (E m c) (Proc.devRef .tc main_v62_1) = iotaInDim S1000 32 0
    ∧ STEP^[k] (E m c) (Proc.devRef .tc main_v62_3) = fun _ => BitVec.ofNat 32 k := by
  induction k with
  | zero => exact ⟨rfl, h1, h3⟩
  | succ k ih =>
    rw [Function.iterate_succ_apply', STEP_main_v62_0, STEP_main_v62_1, STEP_main_v62_3]
    refine ⟨ih.1, ih.2.1, ?_⟩
    unfold step_main_v62_3
    rw [ih.2.2]
    funext z
    show BitVec.ofNat 32 k + 1#32 = _
    rw [BitVec.ofNat_add]

/-- Whether item `j` is still kept after `k` trips. -/
def kept (k : ℕ) (b : Fin 8) (j : Fin 1000) : Prop := STEP^[k] (E m c) (Proc.devRef .tc main_v62_4) (ix2 b j) = 1#1

theorem kept_step (h1 : E m c (Proc.devRef .tc main_v62_1) = iotaInDim S1000 32 0) (h3 : E m c (Proc.devRef .tc main_v62_3) = fun _ => 0#32)
    (k : Fin 1000) (b : Fin 8) (j : Fin 1000) :
    kept m c (k.val + 1) b j ↔ kept m c k.val b j ∧ ¬ (far (E m c) b k j ∧ kept m c k.val b k ∧ k < j) := by
  obtain ⟨e0, e1, e3⟩ := atK_carried m c h1 h3 k.val
  unfold kept
  rw [Function.iterate_succ_apply', STEP_main_v62_4, keep_step _ k e3 e1]
  unfold far
  rw [e0]

/-- After `k` trips an item is kept where it was positive and no kept item before it, of the first `k`, is near it. -/
theorem kept_iff (h1 : E m c (Proc.devRef .tc main_v62_1) = iotaInDim S1000 32 0) (h3 : E m c (Proc.devRef .tc main_v62_3) = fun _ => 0#32)
    (b : Fin 8) (k : ℕ) (hk : k ≤ 1000) (j : Fin 1000) :
    kept m c k b j ↔ kept m c 0 b j ∧ ∀ i : Fin 1000, i.val < k → i < j → kept m c 1000 b i → ¬ far (E m c) b i j := by
  have stay : ∀ (i : Fin 1000) (n : ℕ), i.val ≤ n → n ≤ 1000 → (kept m c n b i ↔ kept m c i.val b i) := by
    intro i n hn hn'
    induction n with
    | zero => rw [Nat.le_zero.1 hn]
    | succ n ih =>
      rcases Nat.lt_or_ge i.val (n + 1) with h | h
      · rw [kept_step m c h1 h3 ⟨n, by omega⟩ b i, ← ih (by omega) (by omega)]
        exact and_iff_left fun hc => absurd (Fin.lt_def.1 hc.2.2) (by show ¬ n < i.val; omega)
      · have : i.val = n + 1 := by omega
        rw [this]
  induction k with
  | zero => exact ⟨fun h => ⟨h, fun i hi => absurd hi (Nat.not_lt_zero _)⟩, fun h => h.1⟩
  | succ k ih =>
    have ih' := ih (by omega)
    refine (kept_step m c h1 h3 ⟨k, by omega⟩ b j).trans ((and_congr ih' Iff.rfl).trans ?_)
    have hs := stay ⟨k, by omega⟩ 1000 (by show k ≤ 1000; omega) le_rfl
    constructor
    · rintro ⟨⟨h0, hall⟩, hk'⟩
      refine ⟨h0, fun i hi hij hi' hf => ?_⟩
      rcases Nat.lt_or_ge i.val k with h | h
      · exact hall i h hij hi' hf
      · have hik : (⟨k, hk⟩ : Fin 1000) = i := Fin.ext (by show k = i.val; omega)
        rw [hik] at hk' hs
        exact hk' ⟨hf, hs.1 hi', hij⟩
    · rintro ⟨h0, hall⟩
      refine ⟨⟨h0, fun i hi => hall i (by omega)⟩, fun hc => ?_⟩
      exact hall ⟨k, by omega⟩ (Nat.lt_succ_self k) hc.2.2 (hs.2 hc.2.1) hc.1

end Cert.Proof.RefLoop

end
-- ==== Proof.RefIou.lean ====
/-
  The reference's overlap table, element by element.
-/
module

public import proofs.«01_k».proof.Proof.RefLoop

@[expose] public section

set_option maxRecDepth 100000

noncomputable section

namespace Cert.Proof.RefIou

open Cert.ReferenceIdeal Cert.ReferenceIdeal.Gen Cert.ReferenceIdeal.Value
open Idealize.ShloMosaic hiding ix1 ix2 ix3 eq_ix1 eq_ix2 eq_ix3
open Idealize.ShloMosaic.ValueIdx Idealize.ShloMosaic.StableHlo
open Idealize.SL.Sem

variable {F : FTy → Type} [FloatOps F] (V : Valuation τ sig (Elt F))

/-- All boxes, each moved by ten times its class number. -/
def moved (box : S8x1000x4.Idx → F .f32) (cls : IVec S8x1000 32) : S8x1000x4.Idx → F .f32 :=
  addf box (broadcastInDim S8x1000x4 ![0, 1, 2] bcast_S8x1000x1_S8x1000x4_0_1_2
    (mulf (broadcastInDim S8x1000x1 ![0, 1] bcast_S8x1000_S8x1000x1_0_1 (sitofp .f32 cls))
      (broadcastInDim S8x1000x1 ![] bcast_S_S8x1000x1 (constant S_ .f32 0x41200000#32))))

/-- A value of every item, along the table's rows. -/
def rows (x : S8x1000.Idx → F .f32) : S8x1000x1000.Idx → F .f32 :=
  broadcastInDim S8x1000x1000 ![0, 1, 2] bcast_S8x1000x1_S8x1000x1000_0_1_2 (broadcastInDim S8x1000x1 ![0, 1] bcast_S8x1000_S8x1000x1_0_1 x)

/-- A value of every item, along the table's columns. -/
def cols (x : S8x1000.Idx → F .f32) : S8x1000x1000.Idx → F .f32 :=
  broadcastInDim S8x1000x1000 ![0, 1, 2] bcast_S8x1x1000_S8x1000x1000_0_1_2 (broadcastInDim S8x1x1000 ![0, 2] bcast_S8x1000_S8x1x1000_0_2 x)

/-- One number everywhere in the table. -/
def fill (w : BitVec 32) : S8x1000x1000.Idx → F .f32 := broadcastInDim S8x1000x1000 ![] bcast_S_S8x1000x1000 (constant S_ .f32 w)

/-- The table of overlaps over the four edges. -/
def table (a b c d : S8x1000.Idx → F .f32) : S8x1000x1000.Idx → F .f32 :=
  let area := mulf (subf c a) (subf d b)
  let inter := mulf (maximumf (subf (minimumf (rows c) (cols c)) (maximumf (rows a) (cols a))) (fill 0x00000000#32))
    (maximumf (subf (minimumf (rows d) (cols d)) (maximumf (rows b) (cols b))) (fill 0x00000000#32))
  Host.divf inter (maximumf (subf (addf (rows area) (cols area)) inter) (fill 0x322BCC77#32))

/-- Edge `0`, `1`, `2`, `3` of every box. -/
def edge0 (x : S8x1000x4.Idx → F .f32) : S8x1000.Idx → F .f32 := shapeCast S8x1000 (extractStridedSlice S8x1000x1 ![0, 0, 0] x slices_S8x1000x4_S8x1000x1_0_0_0) shapeCasts_S8x1000x1_S8x1000
def edge1 (x : S8x1000x4.Idx → F .f32) : S8x1000.Idx → F .f32 := shapeCast S8x1000 (extractStridedSlice S8x1000x1 ![0, 0, 1] x slices_S8x1000x4_S8x1000x1_0_0_1) shapeCasts_S8x1000x1_S8x1000
def edge2 (x : S8x1000x4.Idx → F .f32) : S8x1000.Idx → F .f32 := shapeCast S8x1000 (extractStridedSlice S8x1000x1 ![0, 0, 2] x slices_S8x1000x4_S8x1000x1_0_0_2) shapeCasts_S8x1000x1_S8x1000
def edge3 (x : S8x1000x4.Idx → F .f32) : S8x1000.Idx → F .f32 := shapeCast S8x1000 (extractStridedSlice S8x1000x1 ![0, 0, 3] x slices_S8x1000x4_S8x1000x1_0_0_3) shapeCasts_S8x1000x1_S8x1000

set_option maxHeartbeats 40000000 in  -- a long straight stretch of operations
theorem table_eq : after hostOps0_6 V (Proc.devRef .tc main_v62_0)
    = (let x := moved (V (Proc.devRef .tc main_v3)) (V (Proc.devRef .tc main_v5))
       table (edge0 x) (edge1 x) (edge2 x) (edge3 x)) := by
  after_reads_simp
  rfl

theorem places_eq : after hostOps0_6 V (Proc.devRef .tc main_v62_1) = iotaInDim S1000 32 0 := by
  after_reads_simp
  rfl

theorem trip_eq : after hostOps0_6 V (Proc.devRef .tc main_v62_3) = fun _ => 0#32 := by
  after_reads_simp
  rfl

theorem start_eq : after hostOps0_6 V (Proc.devRef .tc main_v62_4) = cmpf .ogt (V (Proc.devRef .tc main_v4)) (broadcastInDim S8x1000 ![] bcast_S_S8x1000 (constant S_ .f32 0x00000000#32)) := by
  after_reads_simp
  rfl

theorem rows_at (x : S8x1000.Idx → F .f32) (b : Fin 8) (i j : Fin 1000) : rows x (ix3 b i j) = x (ix2 b i) := by
  unfold rows broadcastInDim
  refine congrArg x (funext fun a => ?_)
  match a with
  | ⟨0, _⟩ => rfl
  | ⟨1, _⟩ => rfl

theorem cols_at (x : S8x1000.Idx → F .f32) (b : Fin 8) (i j : Fin 1000) : cols x (ix3 b i j) = x (ix2 b j) := by
  unfold cols broadcastInDim
  refine congrArg x (funext fun a => ?_)
  match a with
  | ⟨0, _⟩ => rfl
  | ⟨1, _⟩ => rfl

theorem edge_at (x : S8x1000x4.Idx → F .f32) (c : Fin 4) (hs : S8x1000x4.Slices ![0, 0, c.val] S8x1000x1) (b : Fin 8) (j : Fin 1000) :
    shapeCast S8x1000 (extractStridedSlice S8x1000x1 ![0, 0, c.val] x hs) shapeCasts_S8x1000x1_S8x1000 (ix2 b j) = x (ix3 b j c) := by
  have e : Shape.reshapeEquiv shapeCasts_S8x1000x1_S8x1000 (ix2 b j) = ix3 b j 0 :=
    Shape.reshapeEquiv_eq_of_vals _ _ _ _ _ (rowMajor_val3 _ 1000 1 rfl rfl) (rowMajor_val2 _ 1000 rfl) (by
      show b.val * 1000 + j.val * 1 + 0 = b.val * 1000 + j.val; omega)
  show extractStridedSlice S8x1000x1 ![0, 0, c.val] x hs (Shape.reshapeEquiv shapeCasts_S8x1000x1_S8x1000 (ix2 b j)) = _
  rw [e]
  unfold extractStridedSlice
  refine congrArg x (funext fun a => Fin.ext ?_)
  match a with
  | ⟨0, _⟩ => show 0 + b.val = b.val; omega
  | ⟨1, _⟩ => show 0 + j.val = j.val; omega
  | ⟨2, _⟩ => rfl

/-- One edge of one moved box. -/
def bx (box : S8x1000x4.Idx → F .f32) (cls : IVec S8x1000 32) (b : Fin 8) (j : Fin 1000) (c : Fin 4) : F .f32 :=
  FloatOps.addf (box (ix3 b j c)) (FloatOps.mulf (FloatOps.sitofp .f32 (cls (ix2 b j))) (FloatOps.ofBits .f32 0x41200000#32))

theorem moved_at (box : S8x1000x4.Idx → F .f32) (cls : IVec S8x1000 32) (b : Fin 8) (j : Fin 1000) (c : Fin 4) :
    moved box cls (ix3 b j c) = bx box cls b j c := by
  unfold moved bx
  refine congrArg (fun z => FloatOps.addf (box (ix3 b j c)) (FloatOps.mulf z (FloatOps.ofBits .f32 0x41200000#32))) ?_
  unfold broadcastInDim
  refine congrArg (fun z => FloatOps.sitofp .f32 (cls z)) (funext fun a => ?_)
  match a with
  | ⟨0, _⟩ => rfl
  | ⟨1, _⟩ => rfl

/-- The overlap of two boxes, over their edges. -/
def overlap (u v : Fin 4 → F .f32) : F .f32 :=
  let area (z : Fin 4 → F .f32) := FloatOps.mulf (FloatOps.subf (z 2) (z 0)) (FloatOps.subf (z 3) (z 1))
  let inter := FloatOps.mulf
    (FloatOps.maximumf (FloatOps.subf (FloatOps.minimumf (u 2) (v 2)) (FloatOps.maximumf (u 0) (v 0))) (FloatOps.ofBits .f32 0x00000000#32))
    (FloatOps.maximumf (FloatOps.subf (FloatOps.minimumf (u 3) (v 3)) (FloatOps.maximumf (u 1) (v 1))) (FloatOps.ofBits .f32 0x00000000#32))
  FloatOps.hostDivf inter (FloatOps.maximumf (FloatOps.subf (FloatOps.addf (area u) (area v)) inter) (FloatOps.ofBits .f32 0x322BCC77#32))

theorem table_at (b : Fin 8) (i j : Fin 1000) : after hostOps0_6 V (Proc.devRef .tc main_v62_0) (ix3 b i j)
    = overlap (bx (V (Proc.devRef .tc main_v3)) (V (Proc.devRef .tc main_v5)) b i) (bx (V (Proc.devRef .tc main_v3)) (V (Proc.devRef .tc main_v5)) b j) := by
  rw [table_eq]
  generalize hx : moved (V (Proc.devRef .tc main_v3)) (V (Proc.devRef .tc main_v5)) = x
  have hat : ∀ k c, x (ix3 b k c) = bx (V (Proc.devRef .tc main_v3)) (V (Proc.devRef .tc main_v5)) b k c := fun k c => by rw [← hx, moved_at]
  have e0 : ∀ k, edge0 x (ix2 b k) = x (ix3 b k 0) := fun k => edge_at x 0 _ b k
  have e1 : ∀ k, edge1 x (ix2 b k) = x (ix3 b k 1) := fun k => edge_at x 1 _ b k
  have e2 : ∀ k, edge2 x (ix2 b k) = x (ix3 b k 2) := fun k => edge_at x 2 _ b k
  have e3 : ∀ k, edge3 x (ix2 b k) = x (ix3 b k 3) := fun k => edge_at x 3 _ b k
  simp only [table, Host.divf, mulf, maximumf, minimumf, subf, addf, rows_at, cols_at, e0, e1, e2, e3, hat]
  rfl

end Cert.Proof.RefIou

end
-- ==== Proof.RefSort.lean ====
/-
  The reference's two sorts over the extended reals, and the rows it writes at the end.
-/
module

public import proofs.«01_k».proof.Proof.RefIou
public import Idealize.ShloMosaic.PureOps.Ideal
public import Idealize.ShloMosaic.Lib.SortFacts
public import Idealize.ShloMosaic.Lib.Pipeline.Value

@[expose] public section

set_option maxRecDepth 100000

noncomputable section

namespace Cert.Proof.RefSort

open Cert.ReferenceIdeal Cert.ReferenceIdeal.Gen Cert.ReferenceIdeal.Value
open Idealize.ShloMosaic hiding ix1 ix2 ix3 eq_ix1 eq_ix2 eq_ix3
open Idealize.ShloMosaic.ValueIdx Idealize.ShloMosaic.StableHlo
open Idealize.SL.Sem

/-- The positions in descending order of their keys, equal keys in order of position. -/
def sigma (key : Fin 1000 → EReal) : Fin 1000 → Fin 1000 := sortedFrom fun a b => decide (key b < key a)

theorem along_at (b : Fin 8) (i k : Fin 1000) : Shape.Idx.along (ix2 b i : S8x1000.Idx) 1 k = ix2 b k := by
  funext a
  match a with
  | ⟨0, _⟩ => rfl
  | ⟨1, _⟩ => rfl

theorem sort_any {α : Type} (cmp : α × BitVec 32 → α × BitVec 32 → BitVec 1) (x : S8x1000.Idx → α) (y : IVec S8x1000 32) (key : Fin 8 → Fin 1000 → EReal)
    (hc : ∀ b k k' w w', cmp (x (ix2 b k), w) (x (ix2 b k'), w') = 1#1 ↔ key b k' < key b k) (b : Fin 8) (i : Fin 1000) :
    (Host.sort2 S8x1000 1 cmp x y).2 (ix2 b i) = y (ix2 b (sigma (key b) i)) ∧ (Host.sort2 S8x1000 1 cmp x y).1 (ix2 b i) = x (ix2 b (sigma (key b) i)) := by
  have hb : (fun k k' : Fin 1000 => cmp (x (Shape.Idx.along (ix2 b i : S8x1000.Idx) 1 k), y (Shape.Idx.along (ix2 b i : S8x1000.Idx) 1 k))
      (x (Shape.Idx.along (ix2 b i : S8x1000.Idx) 1 k'), y (Shape.Idx.along (ix2 b i : S8x1000.Idx) 1 k')) == 1#1) = fun a a' => decide (key b a' < key b a) := by
    funext k k'
    rw [along_at, along_at]
    by_cases h : key b k' < key b k
    · rw [(hc b k k' _ _).2 h, decide_eq_true h]; rfl
    · rw [decide_eq_false h, beq_eq_false_iff_ne]
      exact fun h' => h ((hc b k k' _ _).1 h')
  have hs : sortedFrom (n := 1000) (fun k k' : Fin 1000 => cmp (x (Shape.Idx.along (ix2 b i : S8x1000.Idx) 1 k), y (Shape.Idx.along (ix2 b i : S8x1000.Idx) 1 k))
      (x (Shape.Idx.along (ix2 b i : S8x1000.Idx) 1 k'), y (Shape.Idx.along (ix2 b i : S8x1000.Idx) 1 k')) == 1#1) i = sigma (key b) i := by
    rw [hb]; rfl
  generalize sigma (key b) i = t at hs
  have ha := along_at b i t
  rw [← hs] at ha
  refine ⟨?_, ?_⟩
  · rw [← hs]
    exact congrArg y ha
  · rw [← hs]
    exact congrArg x ha

theorem sort_at {α : Type} (cmp : α × BitVec 32 → α × BitVec 32 → BitVec 1) (x : S8x1000.Idx → α) (key : Fin 8 → Fin 1000 → EReal)
    (hc : ∀ b k k' w w', cmp (x (ix2 b k), w) (x (ix2 b k'), w') = 1#1 ↔ key b k' < key b k) (b : Fin 8) (i : Fin 1000) :
    (Host.sort2 S8x1000 1 cmp x (iotaInDim S8x1000 32 1)).2 (ix2 b i) = BitVec.ofNat 32 (sigma (key b) i).val
    ∧ (Host.sort2 S8x1000 1 cmp x (iotaInDim S8x1000 32 1)).1 (ix2 b i) = x (ix2 b (sigma (key b) i)) :=
  sort_any cmp x (iotaInDim S8x1000 32 1) key hc b i

theorem gt_iff (a b : EReal) : FloatOps.cmpf (F := Ideal) (φ := .f32) .ogt a b = 1#1 ↔ b < a := by
  show BitVec.ofBool _ = 1#1 ↔ _
  rw [Words.ofBool_one, decide_eq_true_iff]

theorem zero_eq : FloatOps.ofBits (F := Ideal) .f32 0x00000000#32 = (0 : EReal) := by
  show Ideal.ofBits .f32 0x00000000#32 = 0
  simp [Ideal.ofBits, Ideal.ieee]

/-- A key as the comparator rewrites it: unchanged. -/
theorem key_same (a : EReal) : (Scalar.select (FloatOps.cmpf (F := Ideal) (φ := .f32) .une a a) (FloatOps.ofBits (F := Ideal) .f32 0x7FC00000#32)
    (Scalar.select (FloatOps.cmpf (F := Ideal) (φ := .f32) .oeq a (FloatOps.ofBits .f32 0x00000000#32)) (FloatOps.ofBits (F := Ideal) .f32 0x00000000#32) a)) = a := by
  have h1 : FloatOps.cmpf (F := Ideal) (φ := .f32) .une a a = 0#1 := by
    show BitVec.ofBool _ = 0#1
    rw [decide_eq_false (fun h : a ≠ a => h rfl)]
    rfl
  have h2 : Scalar.select (FloatOps.cmpf (F := Ideal) (φ := .f32) .oeq a (0 : EReal)) (0 : EReal) a = a := by
    unfold Scalar.select
    split
    · rename_i h
      have h' : BitVec.ofBool (decide (a = (0 : EReal))) = 1#1 := h
      rw [Words.ofBool_one, decide_eq_true_iff] at h'
      exact h'.symm
    · rfl
  rw [h1, zero_eq]
  exact h2

theorem comparator_iff (a a' : EReal) (w w' : BitVec 32) :
    comparator_f32_i32_d1 (F := Ideal) (FloatOps.hostNegf (F := Ideal) (φ := .f32) a, w) (FloatOps.hostNegf (F := Ideal) (φ := .f32) a', w') = 1#1 ↔ a' < a := by
  unfold comparator_f32_i32_d1
  dsimp only
  rw [key_same, key_same]
  show BitVec.ofBool (decide (-a < -a')) = 1#1 ↔ _
  rw [Words.ofBool_one, decide_eq_true_iff, EReal.neg_lt_neg_iff]

/-- The order the reference sorts the items into. -/
theorem order_at (x : S8x1000.Idx → EReal) (b : Fin 8) (i : Fin 1000) :
    (Host.sort2 S8x1000 1 (comparator_f32_i32_d1 (F := Ideal)) (Host.negf (F := Ideal) (φ := .f32) x) (iotaInDim S8x1000 32 1)).2 (ix2 b i)
      = BitVec.ofNat 32 (sigma (fun j => x (ix2 b j)) i).val :=
  (sort_at _ _ (fun b j => x (ix2 b j)) (fun b k k' w w' => comparator_iff (x (ix2 b k)) (x (ix2 b k')) w w') b i).1

/-- Position `r` of the first hundred. -/
def up (r : Fin 100) : Fin 1000 := ⟨r.val, by omega⟩

theorem top_at (x : S8x1000.Idx → EReal) (b : Fin 8) (r : Fin 100) :
    (Host.topK S8x100 1 (FloatOps.cmpfTotal (F := Ideal) (φ := .f32) .gt) x sliceFits_S8x1000_S8x100).2 (ix2 b r) = BitVec.ofNat 32 (sigma (fun j => x (ix2 b j)) (up r)).val
    ∧ (Host.topK S8x100 1 (FloatOps.cmpfTotal (F := Ideal) (φ := .f32) .gt) x sliceFits_S8x1000_S8x100).1 (ix2 b r) = x (ix2 b (sigma (fun j => x (ix2 b j)) (up r))) := by
  have h := sort_at (fun l r => FloatOps.cmpfTotal (F := Ideal) (φ := .f32) .gt l.1 r.1) x (fun b j => x (ix2 b j))
    (fun b k k' w w' => gt_iff (x (ix2 b k)) (x (ix2 b k'))) b (up r)
  have e : ∀ (γ : Type) (z : S8x1000.Idx → γ), extractStridedSlice S8x100 (fun _ => 0) z sliceFits_S8x1000_S8x100 (ix2 b r) = z (ix2 b (up r)) := by
    intro γ z
    unfold extractStridedSlice
    refine congrArg z (funext fun a => Fin.ext ?_)
    match a with
    | ⟨0, _⟩ => show 0 + b.val = b.val; omega
    | ⟨1, _⟩ => show 0 + r.val = r.val; omega
  exact ⟨(e _ _).trans h.1, (e _ _).trans h.2⟩

end Cert.Proof.RefSort

end
-- ==== Proof.RefEnd.lean ====
/-
  The rows the reference writes at the end, from what its loop left.
-/
module

public import proofs.«01_k».proof.Proof.RefSort

@[expose] public section

set_option maxRecDepth 100000

noncomputable section

namespace Cert.Proof.RefEnd

open Cert.ReferenceIdeal Cert.ReferenceIdeal.Gen Cert.ReferenceIdeal.Value
open Idealize.ShloMosaic hiding ix1 ix2 ix3 eq_ix1 eq_ix2 eq_ix3
open Idealize.ShloMosaic.ValueIdx Idealize.ShloMosaic.StableHlo
open Idealize.SL.Sem
open Cert.Proof.RefSort

section Stages

variable {F : FTy → Type} [FloatOps F] (V : Valuation τ sig (Elt F))

theorem v63_eq : after hostOps0_8 (after hostOps0_7 V) (Proc.devRef .tc main_v63)
    = select (V (Proc.devRef .tc main_v62_4)) (V (Proc.devRef .tc main_v4)) (broadcastInDim S8x1000 ![] bcast_S_S8x1000 (constant S_ .f32 0xBF800000#32 : S_.Idx → F .f32)) := by
  after_reads_simp
  rfl

theorem top_eq : after hostOps0_9 V (Proc.devRef .tc main_values) = (Host.topK S8x100 1 (FloatOps.cmpfTotal (F := F) (φ := .f32) .gt) (V (Proc.devRef .tc main_v63)) sliceFits_S8x1000_S8x100).1
    ∧ after hostOps0_9 V (Proc.devRef .tc main_indices) = (Host.topK S8x100 1 (FloatOps.cmpfTotal (F := F) (φ := .f32) .gt) (V (Proc.devRef .tc main_v63)) sliceFits_S8x1000_S8x100).2
    ∧ after hostOps0_9 V (Proc.devRef .tc main_v64) = broadcastInDim S8x100x1 ![0, 1] bcast_S8x100_S8x100x1_0_1
        ((Host.topK S8x100 1 (FloatOps.cmpfTotal (F := F) (φ := .f32) .gt) (V (Proc.devRef .tc main_v63)) sliceFits_S8x1000_S8x100).2) := by
  refine ⟨?_, ?_, ?_⟩ <;> after_reads_simp

theorem v67_eq : after hostOps0_12 V (Proc.devRef .tc main_v67) = sitofp .f32 (V (Proc.devRef .tc main_v66)) := by
  after_reads_simp

theorem v75_eq : after hostOps0_15 (after hostOps0_14 V) (Proc.devRef .tc main_v75)
    = select (broadcastInDim S8x100x6 ![0, 1, 2] bcast_S8x100x1_S8x100x6_0_1_2 (broadcastInDim S8x100x1 ![0, 1] bcast_S8x100_S8x100x1_0_1
        (cmpf .ogt (V (Proc.devRef .tc main_values)) (broadcastInDim S8x100 ![] bcast_S_S8x100 (constant S_ .f32 0x00000000#32)))))
      (concatenate S8x100x6 2 [⟨S8x100x4, V (Proc.devRef .tc main_v65)⟩,
        ⟨S8x100x1, broadcastInDim S8x100x1 ![0, 1] bcast_S8x100_S8x100x1_0_1 (V (Proc.devRef .tc main_v67))⟩,
        ⟨S8x100x1, broadcastInDim S8x100x1 ![0, 1] bcast_S8x100_S8x100x1_0_1 (V (Proc.devRef .tc main_v68))⟩] concatenates_S8x100x4_S8x100x1_S8x100x1_S8x100x6_d2)
      (broadcastInDim S8x100x6 ![] bcast_S_S8x100x6 (constant S_ .f32 0x00000000#32 : S_.Idx → F .f32)) := by
  after_reads_simp
  rfl

end Stages

section Pointwise

variable {α : Type}

theorem join_at (x : S8x100x4.Idx → α) (y z : S8x100x1.Idx → α) (b : Fin 8) (r : Fin 100) (c : Fin 6) :
    concatenate S8x100x6 2 [⟨S8x100x4, x⟩, ⟨S8x100x1, y⟩, ⟨S8x100x1, z⟩] concatenates_S8x100x4_S8x100x1_S8x100x1_S8x100x6_d2 (ix3 b r c)
      = if h : c.val < 4 then x (ix3 b r ⟨c.val, h⟩) else if c.val = 4 then y (ix3 b r 0) else z (ix3 b r 0) := by
  split
  · rename_i h
    refine concatenate_apply_piece (t := S8x100x6) 2 [⟨S8x100x4, x⟩, ⟨S8x100x1, y⟩, ⟨S8x100x1, z⟩] concatenates_S8x100x4_S8x100x1_S8x100x1_S8x100x6_d2 (ix3 b r c) 0 (Nat.zero_lt_succ _) S8x100x4 x rfl rfl 0 rfl _ (fun a ha => ?_) ?_
    · match a with
      | ⟨0, _⟩ => rfl
      | ⟨1, _⟩ => rfl
      | ⟨2, _⟩ => exact absurd rfl ha
    · show 0 + c.val = c.val; omega
  · split
    · rename_i h h4
      refine concatenate_apply_piece (t := S8x100x6) 2 [⟨S8x100x4, x⟩, ⟨S8x100x1, y⟩, ⟨S8x100x1, z⟩] concatenates_S8x100x4_S8x100x1_S8x100x1_S8x100x6_d2 (ix3 b r c) 1 (by show 1 < 3; omega) S8x100x1 y rfl rfl 4 rfl _ (fun a ha => ?_) ?_
      · match a with
        | ⟨0, _⟩ => rfl
        | ⟨1, _⟩ => rfl
        | ⟨2, _⟩ => exact absurd rfl ha
      · show 4 + 0 = c.val; omega
    · rename_i h h4
      refine concatenate_apply_piece (t := S8x100x6) 2 [⟨S8x100x4, x⟩, ⟨S8x100x1, y⟩, ⟨S8x100x1, z⟩] concatenates_S8x100x4_S8x100x1_S8x100x1_S8x100x6_d2 (ix3 b r c) 2 (by show 2 < 3; omega) S8x100x1 z rfl rfl 5 rfl _ (fun a ha => ?_) ?_
      · match a with
        | ⟨0, _⟩ => rfl
        | ⟨1, _⟩ => rfl
        | ⟨2, _⟩ => exact absurd rfl ha
      · show 5 + 0 = c.val; omega

theorem unit_at (x : S8x100.Idx → α) (b : Fin 8) (r : Fin 100) (z : Fin 1) :
    broadcastInDim S8x100x1 ![0, 1] bcast_S8x100_S8x100x1_0_1 x (ix3 b r z) = x (ix2 b r) := by
  unfold broadcastInDim
  refine congrArg x (funext fun a => ?_)
  match a with
  | ⟨0, _⟩ => rfl
  | ⟨1, _⟩ => rfl

theorem six_at (x : S8x100x1.Idx → α) (b : Fin 8) (r : Fin 100) (c : Fin 6) :
    broadcastInDim S8x100x6 ![0, 1, 2] bcast_S8x100x1_S8x100x6_0_1_2 x (ix3 b r c) = x (ix3 b r 0) := by
  unfold broadcastInDim
  refine congrArg x (funext fun a => ?_)
  match a with
  | ⟨0, _⟩ => rfl
  | ⟨1, _⟩ => rfl
  | ⟨2, _⟩ => rfl

end Pointwise

variable (V : Valuation τ sig (Elt Ideal))

/-- An item's score where it is kept, and minus one elsewhere. -/
def final (b : Fin 8) (j : Fin 1000) : EReal :=
  if V (Proc.devRef .tc main_v62_4) (ix2 b j) = 1#1 then V (Proc.devRef .tc main_v4) (ix2 b j) else FloatOps.ofBits (F := Ideal) .f32 0xBF800000#32

/-- What the post-loop operations leave. -/
abbrev P : Valuation τ sig (Elt Ideal) :=
  after hostOps0_15 (after hostOps0_14 (after hostOps0_13 (after hostOps0_12 (after hostOps0_11 (after hostOps0_10 (after hostOps0_9 (after hostOps0_8 (after hostOps0_7 V))))))))

theorem end_at (b : Fin 8) (r : Fin 100) (c : Fin 6) :
    P V (Proc.devRef .tc main_v75) (ix3 b r c)
      = if 0 < final V b (sigma (final V b) (up r)) then
          (if h : c.val < 4 then V (Proc.devRef .tc main_v3) (ix3 b (sigma (final V b) (up r)) ⟨c.val, h⟩)
            else if c.val = 4 then FloatOps.sitofp (F := Ideal) .f32 (V (Proc.devRef .tc main_v5) (ix2 b (sigma (final V b) (up r))))
            else V (Proc.devRef .tc main_v4) (ix2 b (sigma (final V b) (up r))))
        else (0 : EReal) := by
  unfold P
  rw [v75_eq]
  have h63 := v63_eq V
  have k3 : after hostOps0_8 (after hostOps0_7 V) (Proc.devRef .tc main_v3) = V (Proc.devRef .tc main_v3) := by after_reads_simp
  have k4 : after hostOps0_8 (after hostOps0_7 V) (Proc.devRef .tc main_v4) = V (Proc.devRef .tc main_v4) := by after_reads_simp
  have k5 : after hostOps0_8 (after hostOps0_7 V) (Proc.devRef .tc main_v5) = V (Proc.devRef .tc main_v5) := by after_reads_simp
  generalize after hostOps0_8 (after hostOps0_7 V) = W at h63 k3 k4 k5 ⊢
  obtain ⟨hv, hi, h64⟩ := top_eq W
  have t3 : after hostOps0_9 W (Proc.devRef .tc main_v3) = V (Proc.devRef .tc main_v3) := by
    rw [← k3]; after_reads_simp
  have t4 : after hostOps0_9 W (Proc.devRef .tc main_v4) = V (Proc.devRef .tc main_v4) := by
    rw [← k4]; after_reads_simp
  have t5 : after hostOps0_9 W (Proc.devRef .tc main_v5) = V (Proc.devRef .tc main_v5) := by
    rw [← k5]; after_reads_simp
  generalize after hostOps0_9 W = X at hv hi h64 t3 t4 t5 ⊢
  have hf : ∀ b, (fun j : Fin 1000 => W (Proc.devRef .tc main_v63) (ix2 b j)) = final V b := by
    intro b
    funext j
    rw [h63]
    rfl
  have htop := fun b r => top_at (W (Proc.devRef .tc main_v63)) b r
  rw [← hi, ← hv] at htop
  rw [← hi] at h64
  have e : ∀ b r, X (Proc.devRef .tc main_indices) (ix2 b r) = BitVec.ofNat 32 (sigma (final V b) (up r)).val := fun b r => by rw [← hf]; exact (htop b r).1
  have ev : X (Proc.devRef .tc main_values) (ix2 b r) = final V b (sigma (final V b) (up r)) := by
    rw [← hf]; exact (htop b r).2
  have en : ∀ b r, (X (Proc.devRef .tc main_indices) (ix2 b r)).toNat = (sigma (final V b) (up r)).val := fun b r => by
    rw [e, Words.toNat_small _ (by omega)]
  have hlt : ∀ j : S8x100.Idx, (X (Proc.devRef .tc main_indices) j).toNat < 1000 := fun j => by
    obtain ⟨b, r, rfl⟩ : ∃ b r, j = ix2 b r := ⟨j 0, j 1, eq_ix2 j⟩
    rw [en]
    exact (sigma (final V b) (up r)).isLt
  have hlt1 : ∀ j : S8x100x1.Idx, (X (Proc.devRef .tc main_v64) j).toNat < 1000 := fun j => by
    obtain ⟨b, r, z, rfl⟩ : ∃ b r z, j = ix3 b r z := ⟨j 0, j 1, j 2, eq_ix3 j⟩
    rw [h64, unit_at]
    exact hlt _
  have h65 := Take.v65_eq X
  have h66 := Take.v66_eq (after hostOps0_10 X)
  have h68 := Take.v68_eq (after hostOps0_12 (after hostOps0_11 (after hostOps0_10 X)))
  have h67 := v67_eq (after hostOps0_11 (after hostOps0_10 X))
  have p65 : after hostOps0_13 (after hostOps0_12 (after hostOps0_11 (after hostOps0_10 X))) (Proc.devRef .tc main_v65) = after hostOps0_10 X (Proc.devRef .tc main_v65) := by
    generalize after hostOps0_10 X = Y
    after_reads_simp
  have p67 : after hostOps0_13 (after hostOps0_12 (after hostOps0_11 (after hostOps0_10 X))) (Proc.devRef .tc main_v67) = after hostOps0_12 (after hostOps0_11 (after hostOps0_10 X)) (Proc.devRef .tc main_v67) := by
    generalize after hostOps0_12 (after hostOps0_11 (after hostOps0_10 X)) = Y
    after_reads_simp
  have pv : after hostOps0_13 (after hostOps0_12 (after hostOps0_11 (after hostOps0_10 X))) (Proc.devRef .tc main_values) = X (Proc.devRef .tc main_values) := by
    after_reads_simp
  have p5 : after hostOps0_10 X (Proc.devRef .tc main_v5) = X (Proc.devRef .tc main_v5) := by after_reads_simp
  have pi : after hostOps0_10 X (Proc.devRef .tc main_indices) = X (Proc.devRef .tc main_indices) := by after_reads_simp
  have p4 : after hostOps0_12 (after hostOps0_11 (after hostOps0_10 X)) (Proc.devRef .tc main_v4) = X (Proc.devRef .tc main_v4) := by after_reads_simp
  have pj : after hostOps0_12 (after hostOps0_11 (after hostOps0_10 X)) (Proc.devRef .tc main_indices) = X (Proc.devRef .tc main_indices) := by after_reads_simp
  rw [p5, pi] at h66
  rw [p4, pj] at h68
  rw [p65, p67, pv, h65, h67, h66, h68]
  have a65 : ∀ c, Take.takeC (X (Proc.devRef .tc main_v3)) (X (Proc.devRef .tc main_v64)) (broadcastInDim S8x100x4 ![] bcast_S_S8x100x4 (constant S_ .f32 0x7FC00000#32 : S_.Idx → Ideal .f32)) (ix3 b r c)
      = V (Proc.devRef .tc main_v3) (ix3 b (sigma (final V b) (up r)) c) := fun c => by
    rw [Take.takeC_at _ _ _ hlt1, t3]
    refine congrArg (fun k => V (Proc.devRef .tc main_v3) (ix3 b k c)) (Fin.ext ?_)
    show (X (Proc.devRef .tc main_v64) (ix3 b r 0)).toNat = _
    rw [h64, unit_at, en]
  have a66 : Take.takeT (X (Proc.devRef .tc main_v5)) (X (Proc.devRef .tc main_indices)) (broadcastInDim S8x100 ![] bcast_S_S8x100 (constantI S_ 32 2147483648#32)) (ix2 b r)
      = V (Proc.devRef .tc main_v5) (ix2 b (sigma (final V b) (up r))) := by
    rw [Take.takeT_at _ _ _ hlt, t5]
    exact congrArg (fun k => V (Proc.devRef .tc main_v5) (ix2 b k)) (Fin.ext (en b r))
  have a68 : Take.takeT (X (Proc.devRef .tc main_v4)) (X (Proc.devRef .tc main_indices)) (broadcastInDim S8x100 ![] bcast_S_S8x100 (constant S_ .f32 0x7FC00000#32 : S_.Idx → Ideal .f32)) (ix2 b r)
      = V (Proc.devRef .tc main_v4) (ix2 b (sigma (final V b) (up r))) := by
    rw [Take.takeT_at _ _ _ hlt, t4]
    exact congrArg (fun k => V (Proc.devRef .tc main_v4) (ix2 b k)) (Fin.ext (en b r))
  unfold select
  rw [six_at, unit_at, join_at, unit_at, unit_at]
  have hc : cmpf (F := Ideal) (φ := .f32) .ogt (X (Proc.devRef .tc main_values)) (broadcastInDim S8x100 ![] bcast_S_S8x100 (constant S_ .f32 0x00000000#32)) (ix2 b r) = 1#1
      ↔ 0 < final V b (sigma (final V b) (up r)) := by
    show FloatOps.cmpf (F := Ideal) (φ := .f32) .ogt (X (Proc.devRef .tc main_values) (ix2 b r)) (FloatOps.ofBits .f32 0x00000000#32) = 1#1 ↔ _
    rw [gt_iff, ev, zero_eq]
  refine (if_congr hc ?_ ?_)
  · simp only [a65]
    rw [a68]
    refine congrArg (fun z => dite _ _ fun _ => ite _ z _) ?_
    exact congrArg (FloatOps.sitofp (F := Ideal) .f32) a66
  · exact zero_eq

end Cert.Proof.RefEnd

end
-- ==== Proof.RefSpec.lean ====
/-
  The reference's result, stated over its arguments.
-/
module

public import proofs.«01_k».proof.Proof.RefEnd

@[expose] public section

set_option maxRecDepth 100000

noncomputable section

namespace Cert.Proof.RefSpec

open Cert.ReferenceIdeal Cert.ReferenceIdeal.Gen Cert.ReferenceIdeal.Value
open Idealize.ShloMosaic hiding ix1 ix2 ix3 eq_ix1 eq_ix2 eq_ix3
open Idealize.ShloMosaic.ValueIdx Idealize.ShloMosaic.StableHlo
open Idealize.SL.Sem
open Cert.Proof.RefSort

/-- Where the reference puts item `i` of image `b` in its descending order. -/
abbrev ordered (x : S8x1000.Idx → EReal) (b : Fin 8) : Fin 1000 → Fin 1000 := sigma fun j => x (ix2 b j)

theorem v1_eq (V : Valuation τ sig (Elt Ideal)) : after hostOps0_1 (after hostOps0 V) (Proc.devRef .tc main_v1)
    = (Host.sort2 S8x1000 1 (comparator_f32_i32_d1 (F := Ideal)) (Host.negf (F := Ideal) (φ := .f32) (V (Proc.devRef .tc main_arg0))) (iotaInDim S8x1000 32 1)).2 := by
  after_reads_simp
  rfl

theorem v2_eq (V : Valuation τ sig (Elt Ideal)) : after hostOps0_2 V (Proc.devRef .tc main_v2) = broadcastInDim S8x1000x1 ![0, 1] bcast_S8x1000_S8x1000x1_0_1 (V (Proc.devRef .tc main_v1)) := by
  after_reads_simp

theorem one_at {α : Type} (x : S8x1000.Idx → α) (b : Fin 8) (r : Fin 1000) (z : Fin 1) :
    broadcastInDim S8x1000x1 ![0, 1] bcast_S8x1000_S8x1000x1_0_1 x (ix3 b r z) = x (ix2 b r) := by
  unfold broadcastInDim
  refine congrArg x (funext fun a => ?_)
  match a with
  | ⟨0, _⟩ => rfl
  | ⟨1, _⟩ => rfl

section Entry

variable (V : Valuation τ sig (Elt Ideal))

/-- The items in the reference's order. -/
theorem sorted_at :
    (∀ b i c, after hostOps0_5 (after hostOps0_4 (after hostOps0_3 (after hostOps0_2 (after hostOps0_1 (after hostOps0 V))))) (Proc.devRef .tc main_v3) (ix3 b i c)
      = V (Proc.devRef .tc main_arg1) (ix3 b (ordered (V (Proc.devRef .tc main_arg0)) b i) c))
    ∧ (∀ b i, after hostOps0_5 (after hostOps0_4 (after hostOps0_3 (after hostOps0_2 (after hostOps0_1 (after hostOps0 V))))) (Proc.devRef .tc main_v4) (ix2 b i)
      = V (Proc.devRef .tc main_arg0) (ix2 b (ordered (V (Proc.devRef .tc main_arg0)) b i)))
    ∧ (∀ b i, after hostOps0_5 (after hostOps0_4 (after hostOps0_3 (after hostOps0_2 (after hostOps0_1 (after hostOps0 V))))) (Proc.devRef .tc main_v5) (ix2 b i)
      = V (Proc.devRef .tc main_arg2) (ix2 b (ordered (V (Proc.devRef .tc main_arg0)) b i))) := by
  have h1 := v1_eq V
  have k0 : after hostOps0_1 (after hostOps0 V) (Proc.devRef .tc main_arg0) = V (Proc.devRef .tc main_arg0) := by after_reads_simp
  have k1 : after hostOps0_1 (after hostOps0 V) (Proc.devRef .tc main_arg1) = V (Proc.devRef .tc main_arg1) := by after_reads_simp
  have k2 : after hostOps0_1 (after hostOps0 V) (Proc.devRef .tc main_arg2) = V (Proc.devRef .tc main_arg2) := by after_reads_simp
  generalize after hostOps0_1 (after hostOps0 V) = W at h1 k0 k1 k2 ⊢
  have e : ∀ b i, W (Proc.devRef .tc main_v1) (ix2 b i) = BitVec.ofNat 32 (ordered (V (Proc.devRef .tc main_arg0)) b i).val := fun b i => by
    rw [h1]; exact order_at _ b i
  have en : ∀ b i, (W (Proc.devRef .tc main_v1) (ix2 b i)).toNat = (ordered (V (Proc.devRef .tc main_arg0)) b i).val := fun b i => by
    rw [e, Words.toNat_small _ (by omega)]
  have hlt : ∀ j : S8x1000.Idx, (W (Proc.devRef .tc main_v1) j).toNat < 1000 := fun j => by
    obtain ⟨b, r, rfl⟩ : ∃ b r, j = ix2 b r := ⟨j 0, j 1, eq_ix2 j⟩
    rw [en]
    exact (ordered (V (Proc.devRef .tc main_arg0)) b r).isLt
  have h2 := v2_eq W
  have h3 := Take.v3_eq (after hostOps0_2 W)
  have h4 := Take.v4_eq (after hostOps0_3 (after hostOps0_2 W))
  have h5 := Take.v5_eq (after hostOps0_4 (after hostOps0_3 (after hostOps0_2 W)))
  have p3 : after hostOps0_5 (after hostOps0_4 (after hostOps0_3 (after hostOps0_2 W))) (Proc.devRef .tc main_v3) = after hostOps0_3 (after hostOps0_2 W) (Proc.devRef .tc main_v3) := by
    generalize after hostOps0_3 (after hostOps0_2 W) = Y
    after_reads_simp
  have p4 : after hostOps0_5 (after hostOps0_4 (after hostOps0_3 (after hostOps0_2 W))) (Proc.devRef .tc main_v4) = after hostOps0_4 (after hostOps0_3 (after hostOps0_2 W)) (Proc.devRef .tc main_v4) := by
    generalize after hostOps0_4 (after hostOps0_3 (after hostOps0_2 W)) = Y
    after_reads_simp
  have q1 : after hostOps0_2 W (Proc.devRef .tc main_arg1) = W (Proc.devRef .tc main_arg1) := by after_reads_simp
  have q0 : after hostOps0_3 (after hostOps0_2 W) (Proc.devRef .tc main_arg0) = W (Proc.devRef .tc main_arg0) := by after_reads_simp
  have q0' : after hostOps0_3 (after hostOps0_2 W) (Proc.devRef .tc main_v1) = W (Proc.devRef .tc main_v1) := by after_reads_simp
  have q2 : after hostOps0_4 (after hostOps0_3 (after hostOps0_2 W)) (Proc.devRef .tc main_arg2) = W (Proc.devRef .tc main_arg2) := by after_reads_simp
  have q2' : after hostOps0_4 (after hostOps0_3 (after hostOps0_2 W)) (Proc.devRef .tc main_v1) = W (Proc.devRef .tc main_v1) := by after_reads_simp
  rw [q1, h2, k1] at h3
  rw [q0, q0', k0] at h4
  rw [q2, q2', k2] at h5
  have hlt1 : ∀ j : S8x1000x1.Idx, (broadcastInDim S8x1000x1 ![0, 1] bcast_S8x1000_S8x1000x1_0_1 (W (Proc.devRef .tc main_v1)) j).toNat < 1000 := fun j => by
    obtain ⟨b, r, z, rfl⟩ : ∃ b r z, j = ix3 b r z := ⟨j 0, j 1, j 2, eq_ix3 j⟩
    rw [one_at]
    exact hlt _
  refine ⟨fun b i c => ?_, fun b i => ?_, fun b i => ?_⟩
  · rw [p3, h3, Take.takeB_at _ _ _ hlt1]
    refine congrArg (fun k => V (Proc.devRef .tc main_arg1) (ix3 b k c)) (Fin.ext ?_)
    show (broadcastInDim S8x1000x1 ![0, 1] bcast_S8x1000_S8x1000x1_0_1 (W (Proc.devRef .tc main_v1)) (ix3 b i 0)).toNat = _
    rw [one_at, en]
  · rw [p4, h4, Take.takeS_at _ _ _ hlt]
    exact congrArg (fun k => V (Proc.devRef .tc main_arg0) (ix2 b k)) (Fin.ext (en b i))
  · rw [h5, Take.takeS_at _ _ _ hlt]
    exact congrArg (fun k => V (Proc.devRef .tc main_arg2) (ix2 b k)) (Fin.ext (en b i))

end Entry

section Whole

variable (m : (ℓ : Loc nD τ sig) → Buf (Elt Ideal) ℓ) (c : Dev nD)

/-- The arguments: scores, boxes, class numbers. -/
abbrev a0 : S8x1000.Idx → EReal := m ((c.tc : Thread nD τ).loc main_arg0)
abbrev a1 : S8x1000x4.Idx → EReal := m ((c.tc : Thread nD τ).loc main_arg1)
abbrev a2 : IVec S8x1000 32 := m ((c.tc : Thread nD τ).loc main_arg2)

/-- Whether the reference counts items `p` and `q` of image `b` as overlapping. -/
def near (b : Fin 8) (p q : Fin 1000) : Prop :=
  FloatOps.ofBits (F := Ideal) .f32 0x3E99999A#32 < RefIou.overlap (F := Ideal) (RefIou.bx (F := Ideal) (a1 m c) (a2 m c) b p) (RefIou.bx (F := Ideal) (a1 m c) (a2 m c) b q)

/-- Whether the reference keeps the item at place `j` of its order. -/
def keep (b : Fin 8) (j : Fin 1000) : Prop := RefLoop.kept (F := Ideal) m c 1000 b j

theorem entry_eq : RefLoop.E (F := Ideal) m c = after hostOps0_6 (after hostOps0_5 (after hostOps0_4 (after hostOps0_3 (after hostOps0_2 (after hostOps0_1 (after hostOps0 (launchContents m c))))))) := by
  unfold RefLoop.E
  simp only [entryContents, afterL_cons, afterL_nil]

/-- The items as the loop finds them. -/
theorem entry_at :
    (∀ b i k, RefLoop.E (F := Ideal) m c (Proc.devRef .tc main_v3) (ix3 b i k) = a1 m c (ix3 b (ordered (a0 m c) b i) k))
    ∧ (∀ b i, RefLoop.E (F := Ideal) m c (Proc.devRef .tc main_v4) (ix2 b i) = a0 m c (ix2 b (ordered (a0 m c) b i)))
    ∧ (∀ b i, RefLoop.E (F := Ideal) m c (Proc.devRef .tc main_v5) (ix2 b i) = a2 m c (ix2 b (ordered (a0 m c) b i))) := by
  rw [entry_eq]
  obtain ⟨h3, h4, h5⟩ := sorted_at (launchContents m c)
  refine ⟨fun b i k => ?_, fun b i => ?_, fun b i => ?_⟩
  · rw [after_of_writes_sub hostOps0_6 _ hostOps0_6_writes (by decide)]; exact h3 b i k
  · rw [after_of_writes_sub hostOps0_6 _ hostOps0_6_writes (by decide)]; exact h4 b i
  · rw [after_of_writes_sub hostOps0_6 _ hostOps0_6_writes (by decide)]; exact h5 b i

theorem far_iff (b : Fin 8) (i j : Fin 1000) :
    RefLoop.far (RefLoop.E (F := Ideal) m c) b i j ↔ near m c b (ordered (a0 m c) b i) (ordered (a0 m c) b j) := by
  unfold RefLoop.far near
  rw [gt_iff, entry_eq, RefIou.table_at]
  obtain ⟨h3, -, h5⟩ := sorted_at (launchContents m c)
  have hb : ∀ i, RefIou.bx (F := Ideal) (after hostOps0_5 (after hostOps0_4 (after hostOps0_3 (after hostOps0_2 (after hostOps0_1 (after hostOps0 (launchContents m c)))))) (Proc.devRef .tc main_v3))
      (after hostOps0_5 (after hostOps0_4 (after hostOps0_3 (after hostOps0_2 (after hostOps0_1 (after hostOps0 (launchContents m c)))))) (Proc.devRef .tc main_v5)) b i
      = RefIou.bx (F := Ideal) (a1 m c) (a2 m c) b (ordered (a0 m c) b i) := fun i => by
    funext k
    unfold RefIou.bx
    rw [h3, h5]
  rw [hb, hb]

/-- What is kept: a positive item that no kept item before it overlaps. -/
theorem keep_iff (b : Fin 8) (j : Fin 1000) :
    keep m c b j ↔ 0 < a0 m c (ix2 b (ordered (a0 m c) b j))
      ∧ ∀ i < j, keep m c b i → ¬ near m c b (ordered (a0 m c) b i) (ordered (a0 m c) b j) := by
  have h1 : RefLoop.E (F := Ideal) m c (Proc.devRef .tc main_v62_1) = iotaInDim S1000 32 0 := by rw [entry_eq]; exact RefIou.places_eq _
  have h3 : RefLoop.E (F := Ideal) m c (Proc.devRef .tc main_v62_3) = fun _ => 0#32 := by rw [entry_eq]; exact RefIou.trip_eq _
  have h4 : ∀ j, RefLoop.kept (F := Ideal) m c 0 b j ↔ 0 < a0 m c (ix2 b (ordered (a0 m c) b j)) := fun j => by
    rw [← (entry_at m c).2.1]
    have hk : RefLoop.E (F := Ideal) m c (Proc.devRef .tc main_v4) = after hostOps0_5 (after hostOps0_4 (after hostOps0_3 (after hostOps0_2 (after hostOps0_1 (after hostOps0 (launchContents m c)))))) (Proc.devRef .tc main_v4) := by
      rw [entry_eq, after_of_writes_sub hostOps0_6 _ hostOps0_6_writes (by decide)]
    rw [hk]
    unfold RefLoop.kept
    rw [Function.iterate_zero, id_eq, entry_eq, RefIou.start_eq]
    refine (gt_iff _ _).trans ?_
    show FloatOps.ofBits (F := Ideal) .f32 0x00000000#32 < _ ↔ _
    rw [zero_eq]
  unfold keep
  rw [RefLoop.kept_iff m c h1 h3 b 1000 le_rfl j, h4]
  refine and_congr Iff.rfl (forall_congr' fun i => ?_)
  rw [far_iff]
  exact ⟨fun h hij => h i.isLt hij, fun h _ => h⟩

/-- An item's score where it is kept, and minus one elsewhere. -/
def left (b : Fin 8) (j : Fin 1000) : EReal :=
  open Classical in if keep m c b j then a0 m c (ix2 b (ordered (a0 m c) b j)) else FloatOps.ofBits (F := Ideal) .f32 0xBF800000#32

/-- The reference's result. -/
theorem result_at (b : Fin 8) (r : Fin 100) (x : Fin 6) :
    finalContents condOps preI bodyI postI 1000 m c (Proc.devRef .tc main_v75) (ix3 b r x)
      = if 0 < left m c b (sigma (left m c b) (up r)) then
          (if h : x.val < 4 then a1 m c (ix3 b (ordered (a0 m c) b (sigma (left m c b) (up r))) ⟨x.val, h⟩)
            else if x.val = 4 then FloatOps.sitofp (F := Ideal) .f32 (a2 m c (ix2 b (ordered (a0 m c) b (sigma (left m c b) (up r)))))
            else a0 m c (ix2 b (ordered (a0 m c) b (sigma (left m c b) (up r)))))
        else (0 : EReal) := by
  obtain ⟨e3, e4, e5⟩ := entry_at m c
  have w3 : after condOps (atTrip condOps bodyI (entryContents preI m) 1000 c) (Proc.devRef .tc main_v3) = RefLoop.E (F := Ideal) m c (Proc.devRef .tc main_v3) :=
    RefFrame.end_keeps m c _ (by decide) (by decide)
  have w4 : after condOps (atTrip condOps bodyI (entryContents preI m) 1000 c) (Proc.devRef .tc main_v4) = RefLoop.E (F := Ideal) m c (Proc.devRef .tc main_v4) :=
    RefFrame.end_keeps m c _ (by decide) (by decide)
  have w5 : after condOps (atTrip condOps bodyI (entryContents preI m) 1000 c) (Proc.devRef .tc main_v5) = RefLoop.E (F := Ideal) m c (Proc.devRef .tc main_v5) :=
    RefFrame.end_keeps m c _ (by decide) (by decide)
  have wk : after condOps (atTrip condOps bodyI (entryContents preI m) 1000 c) (Proc.devRef .tc main_v62_4) = STEP^[1000] (RefLoop.E (F := Ideal) m c) (Proc.devRef .tc main_v62_4) :=
    (cond_keeps _ main_v62_4 (by decide)).trans (atK_agree m c 1000 main_v62_4 (by decide))
  simp only [finalContents, afterL_cons, afterL_nil]
  generalize after condOps (atTrip condOps bodyI (entryContents preI m) 1000 c) = V at w3 w4 w5 wk ⊢
  have hf : RefEnd.final V b = left m c b := by
    funext j
    unfold RefEnd.final left keep RefLoop.kept
    rw [wk, w4, e4]
    split <;> rfl
  refine (RefEnd.end_at V b r x).trans ?_
  rw [hf, w3, w4, w5]
  simp only [e3, e4, e5]

end Whole

end Cert.Proof.RefSpec

end
-- ==== Proof.Pick.lean ====
/-
  What a pick is over the extended reals: a place of the greatest score, of the least number among those.
-/
module

public import proofs.«01_k».proof.Proof.Loop4
public import Idealize.ShloMosaic.PureOps.Ideal

@[expose] public section

noncomputable section

namespace Cert.Proof.Pick

open Cert.KernelIdeal Cert.KernelIdeal.Gen
open Idealize.ShloMosaic Idealize.ShloMosaic.ValueIdx
open Cert.Proof.Lanes Cert.Proof.Counting Cert.Proof.Sort Cert.Proof.Words Cert.Proof.Step Cert.Proof.Loop

/-- The greatest of sixteen, taken one after the other. -/
def max16 (a : Fin 16 → EReal) : EReal :=
  max (max (max (max (max (max (max (max (max (max (max (max (max (max (max (a 0) (a 1)) (a 2)) (a 3)) (a 4)) (a 5)) (a 6)) (a 7)) (a 8)) (a 9))
    (a 10)) (a 11)) (a 12)) (a 13)) (a 14)) (a 15)

theorem max16_le (a : Fin 16 → EReal) (x : Fin 16) : a x ≤ max16 a := by
  have h : ∀ c, max16 a ≤ c → ∀ x, a x ≤ c := by
    intro c hc
    unfold max16 at hc
    simp only [max_le_iff] at hc
    obtain ⟨⟨⟨⟨⟨⟨⟨⟨⟨⟨⟨⟨⟨⟨⟨h0, h1⟩, h2⟩, h3⟩, h4⟩, h5⟩, h6⟩, h7⟩, h8⟩, h9⟩, h10⟩, h11⟩, h12⟩, h13⟩, h14⟩, h15⟩ := hc
    intro x
    fin_cases x <;> assumption
  exact h _ le_rfl x

theorem max16_mem (a : Fin 16 → EReal) : ∃ x, a x = max16 a := by
  by_contra h
  have hlt : ∀ x, a x < max16 a := fun x => lt_of_le_of_ne (max16_le a x) fun e => h ⟨x, e⟩
  have : ∀ c, (∀ x, a x < c) → max16 a < c := by
    intro c hc
    unfold max16
    simp only [max_lt_iff, hc, _root_.and_self]
  exact lt_irrefl _ (this _ hlt)

theorem lane_ex (v : Vec Ideal S16 .f32) (k : ℕ) (hk : k < 16) (h) :
    extractAt ![0] (extractStridedSlice S1 ![k] v h) inpos_S1_p0 = v (ix1 ⟨k, hk⟩) := by
  unfold extractAt extractStridedSlice
  refine congrArg v (funext fun a => ?_)
  match a with
  | ⟨0, _⟩ => exact Fin.ext (Nat.add_zero _)

theorem pay1_eq (v : Vec Ideal S16 .f32) : k0_pay1 v = max16 fun x => v (ix1 x) := by
  unfold k0_pay1
  simp only [lane_ex v 0 (by omega), lane_ex v 1 (by omega), lane_ex v 2 (by omega), lane_ex v 3 (by omega), lane_ex v 4 (by omega),
    lane_ex v 5 (by omega), lane_ex v 6 (by omega), lane_ex v 7 (by omega), lane_ex v 8 (by omega), lane_ex v 9 (by omega),
    lane_ex v 10 (by omega), lane_ex v 11 (by omega), lane_ex v 12 (by omega), lane_ex v 13 (by omega), lane_ex v 14 (by omega),
    lane_ex v 15 (by omega)]
  rfl

theorem quarter_at {V : Type} (f : S64.Idx → V) (k : ℕ) (hk : k < 4) (x : Fin 16) : quarter f k (ix1 x) = f (ix1 ⟨16 * k + x.val, by omega⟩) := by
  unfold quarter
  refine congrArg f (funext fun a => ?_)
  match a with
  | ⟨0, _⟩ => exact Fin.ext (Nat.mod_eq_of_lt (show 16 * k + x.val < 64 by omega))

theorem four (q : Fin 64) : ∃ (k : Fin 4) (x : Fin 16), q.val = 16 * k.val + x.val :=
  ⟨⟨q.val / 16, by omega⟩, ⟨q.val % 16, Nat.mod_lt _ (by omega)⟩, by simp only []; omega⟩

variable (s : S1024.Idx → EReal)

/-- Chunk `q`'s maximum. -/
abbrev T (q : Fin 64) : EReal := tcA (F := Ideal) s (ix1 q)

theorem T_le (q : Fin 64) (x : Fin 16) : s (at16 q.val q.isLt x) ≤ T s q := by
  have h := max16_le (fun x => chk s q.val (ix1 x)) x
  rw [← pay1_eq (chk s q.val), chk_at s q.val q.isLt] at h
  exact h

theorem T_mem (q : Fin 64) : ∃ x, s (at16 q.val q.isLt x) = T s q := by
  obtain ⟨x, h⟩ := max16_mem (fun x => chk s q.val (ix1 x))
  rw [← pay1_eq (chk s q.val), chk_at s q.val q.isLt] at h
  exact ⟨x, h⟩

theorem gmx_eq : gmx (F := Ideal) s = max16 fun x => max (max (T s ⟨x.val, by omega⟩) (T s ⟨16 + x.val, by omega⟩)) (max (T s ⟨32 + x.val, by omega⟩) (T s ⟨48 + x.val, by omega⟩)) := by
  have e : gmx (F := Ideal) s = k0_pay1 (F := Ideal) (fun x => max (max (quarter (tcA (F := Ideal) s) 0 x) (quarter (tcA (F := Ideal) s) 1 x)) (max (quarter (tcA (F := Ideal) s) 2 x) (quarter (tcA (F := Ideal) s) 3 x))) := rfl
  rw [e, pay1_eq]
  congr 1
  funext x
  simp only [quarter_at _ _ (show 0 < 4 by omega), quarter_at _ _ (show 1 < 4 by omega), quarter_at _ _ (show 2 < 4 by omega), quarter_at _ _ (show 3 < 4 by omega), Nat.mul_zero,
    Nat.zero_add, Nat.mul_one, Nat.reduceMul]

theorem T_le_gmx (q : Fin 64) : T s q ≤ gmx (F := Ideal) s := by
  rw [gmx_eq]
  obtain ⟨k, x, h⟩ := four q
  refine le_trans ?_ (max16_le _ x)
  have hq : ∀ (n : ℕ) (hn : n < 64), q.val = n → T s q = T s ⟨n, hn⟩ := fun n hn e => congrArg (T s) (Fin.ext e)
  match k with
  | ⟨0, _⟩ => exact (hq _ _ (by simpa using h)).le.trans ((le_max_left _ _).trans (le_max_left _ _))
  | ⟨1, _⟩ => exact (hq _ _ (by simpa using h)).le.trans ((le_max_right _ _).trans (le_max_left _ _))
  | ⟨2, _⟩ => exact (hq _ _ (by simpa using h)).le.trans ((le_max_left _ _).trans (le_max_right _ _))
  | ⟨3, _⟩ => exact (hq _ _ (by simpa using h)).le.trans ((le_max_right _ _).trans (le_max_right _ _))

theorem gmx_T : ∃ q, T s q = gmx (F := Ideal) s := by
  rw [gmx_eq]
  obtain ⟨x, h⟩ := max16_mem fun x : Fin 16 => max (max (T s ⟨x.val, by omega⟩) (T s ⟨16 + x.val, by omega⟩)) (max (T s ⟨32 + x.val, by omega⟩) (T s ⟨48 + x.val, by omega⟩))
  rw [← h]
  rcases max_choice (max (T s ⟨x.val, by omega⟩) (T s ⟨16 + x.val, by omega⟩)) (max (T s ⟨32 + x.val, by omega⟩) (T s ⟨48 + x.val, by omega⟩)) with e | e <;> rw [e]
  · rcases max_choice (T s ⟨x.val, by omega⟩) (T s ⟨16 + x.val, by omega⟩) with e | e <;> rw [e] <;> exact ⟨_, rfl⟩
  · rcases max_choice (T s ⟨32 + x.val, by omega⟩) (T s ⟨48 + x.val, by omega⟩) with e | e <;> rw [e] <;> exact ⟨_, rfl⟩

theorem le_gmx (p : S1024.Idx) : s p ≤ gmx (F := Ideal) s := by
  obtain ⟨t, ht, x, rfl, -⟩ := eq_at16 p
  exact (T_le s ⟨t, ht⟩ x).trans (T_le_gmx s _)

theorem gmx_mem : ∃ p, s p = gmx (F := Ideal) s := by
  obtain ⟨q, hq⟩ := gmx_T s
  obtain ⟨x, hx⟩ := T_mem s q
  exact ⟨_, hx.trans hq⟩

/-! ## The least word of sixty-four -/

theorem minsi_cases (a b : BitVec 32) (ha : a.toNat < 2 ^ 31) (hb : b.toNat < 2 ^ 31) :
    (IntOp.minsi a b = a ∧ a.toNat ≤ b.toNat) ∨ (IntOp.minsi a b = b ∧ b.toNat ≤ a.toNat) := by
  have e := sle_ofNat a.toNat b.toNat ha hb
  have e' := slt_ofNat a.toNat b.toNat ha hb
  rw [BitVec.ofNat_toNat, BitVec.ofNat_toNat, BitVec.setWidth_eq, BitVec.setWidth_eq] at e e'
  unfold IntOp.minsi
  split_ifs with h <;> simp_all <;> omega

theorem min64 (a : Fin 64 → BitVec 32) (ha : ∀ q, (a q).toNat < 2 ^ 31) (w : IVec S16 32)
    (hw : ∀ x : Fin 16, w (ix1 x) = IntOp.minsi (IntOp.minsi (a ⟨x.val, by omega⟩) (a ⟨16 + x.val, by omega⟩))
      (IntOp.minsi (a ⟨32 + x.val, by omega⟩) (a ⟨48 + x.val, by omega⟩))) :
    ∃ q, extractAt ![15] (xori (scan .min (xori w (broadcast S16 2147483648#32))) (broadcast S16 2147483648#32)) inpos_S16_p15 = a q
      ∧ ∀ q', (a q).toNat ≤ (a q').toNat := by
  have key : ∀ x : Fin 16, (∃ q, w (ix1 x) = a q) ∧ (w (ix1 x)).toNat ≤ (a ⟨x.val, by omega⟩).toNat ∧ (w (ix1 x)).toNat ≤ (a ⟨16 + x.val, by omega⟩).toNat
      ∧ (w (ix1 x)).toNat ≤ (a ⟨32 + x.val, by omega⟩).toNat ∧ (w (ix1 x)).toNat ≤ (a ⟨48 + x.val, by omega⟩).toNat := by
    intro x
    rw [hw x]
    have h0 := ha ⟨x.val, by omega⟩
    have h1 := ha ⟨16 + x.val, by omega⟩
    have h2 := ha ⟨32 + x.val, by omega⟩
    have h3 := ha ⟨48 + x.val, by omega⟩
    rcases minsi_cases _ _ h0 h1 with ⟨e1, l1⟩ | ⟨e1, l1⟩ <;> rcases minsi_cases _ _ h2 h3 with ⟨e2, l2⟩ | ⟨e2, l2⟩ <;> rw [e1, e2]
    · rcases minsi_cases _ _ h0 h2 with ⟨e3, l3⟩ | ⟨e3, l3⟩ <;> rw [e3] <;> exact ⟨⟨_, rfl⟩, by omega, by omega, by omega, by omega⟩
    · rcases minsi_cases _ _ h0 h3 with ⟨e3, l3⟩ | ⟨e3, l3⟩ <;> rw [e3] <;> exact ⟨⟨_, rfl⟩, by omega, by omega, by omega, by omega⟩
    · rcases minsi_cases _ _ h1 h2 with ⟨e3, l3⟩ | ⟨e3, l3⟩ <;> rw [e3] <;> exact ⟨⟨_, rfl⟩, by omega, by omega, by omega, by omega⟩
    · rcases minsi_cases _ _ h1 h3 with ⟨e3, l3⟩ | ⟨e3, l3⟩ <;> rw [e3] <;> exact ⟨⟨_, rfl⟩, by omega, by omega, by omega, by omega⟩
  obtain ⟨x, hx, hmin⟩ := min_last w fun x => by
    obtain ⟨q, hq⟩ := (key x).1
    rw [hq]
    exact ha q
  obtain ⟨q, hq⟩ := (key x).1
  refine ⟨q, hx.trans hq, fun q' => ?_⟩
  rw [← hq]
  obtain ⟨k, y, h⟩ := four q'
  refine (hmin y).trans ?_
  obtain ⟨-, k0, k1, k2, k3⟩ := key y
  have e : ∀ (n : ℕ) (hn : n < 64), q'.val = n → a q' = a ⟨n, hn⟩ := fun n hn e => congrArg a (Fin.ext e)
  match k with
  | ⟨0, _⟩ => rwa [e _ _ (by simpa using h)]
  | ⟨1, _⟩ => rwa [e _ _ (by simpa using h)]
  | ⟨2, _⟩ => rwa [e _ _ (by simpa using h)]
  | ⟨3, _⟩ => rwa [e _ _ (by simpa using h)]

/-! ## The pick -/

theorem cmp_eq (a b : EReal) : FloatOps.cmpf (F := Ideal) (φ := .f32) .oeq a b = 1#1 ↔ a = b := by
  show BitVec.ofBool (decide (a = b)) = 1#1 ↔ _
  rw [ofBool_one, decide_eq_true_eq]

variable (D : Items Ideal)

theorem nbr_toNat (p : S1024.Idx) : (nbr D p).toNat = ((item (cl D.cl) p) 0).val :=
  toNat_small _ (lt_trans ((item (cl D.cl) p) 0).isLt (by norm_num))

theorem nbr_lt (p : S1024.Idx) : (nbr D p).toNat < 1024 := by
  rw [nbr_toNat]
  exact ((item (cl D.cl) p) 0).isLt

/-- The least number among chunk `q`'s maxima. -/
abbrev U (q : Fin 64) : BitVec 32 := ttA (F := Ideal) s (nbr D) (ix1 q)

theorem U_spec (q : Fin 64) : (∃ x, s (at16 q.val q.isLt x) = T s q ∧ U s D q = nbr D (at16 q.val q.isLt x)) ∧
    ∀ x, s (at16 q.val q.isLt x) = T s q → (U s D q).toNat ≤ (nbr D (at16 q.val q.isLt x)).toNat := by
  have hw : ∀ x : Fin 16, k0_pay2 (F := Ideal) (chk s q.val) (chk (nbr D) q.val) (ix1 x)
      = if s (at16 q.val q.isLt x) = T s q then nbr D (at16 q.val q.isLt x) else 1073741824#32 := by
    intro x
    show Scalar.select (FloatOps.cmpf (F := Ideal) (φ := .f32) .oeq (chk s q.val (ix1 x)) (T s q)) (chk (nbr D) q.val (ix1 x)) 1073741824#32 = _
    rw [chk_at s q.val q.isLt, chk_at (nbr D) q.val q.isLt, sel_one]
    simp only [cmp_eq]
  obtain ⟨x, hx, hmin⟩ := min_last (k0_pay2 (F := Ideal) (chk s q.val) (chk (nbr D) q.val)) fun x => by
    rw [hw]
    split_ifs
    · exact (nbr_lt D _).trans (by norm_num)
    · decide
  have hU : U s D q = k0_pay2 (F := Ideal) (chk s q.val) (chk (nbr D) q.val) (ix1 x) := hx
  obtain ⟨x0, h0⟩ := T_mem s q
  have hx0 := hmin x0
  have hn := nbr_lt D (at16 q.val q.isLt x0)
  rw [hw x0, if_pos h0] at hx0
  have hsx : s (at16 q.val q.isLt x) = T s q := by
    by_contra hne
    rw [hw x, if_neg hne] at hx0
    have : (1073741824#32 : BitVec 32).toNat = 1073741824 := rfl
    omega
  refine ⟨⟨x, hsx, ?_⟩, fun y hy => ?_⟩
  · rw [hU, hw x, if_pos hsx]
  · have := hmin y
    rw [hw y, if_pos hy, ← hU] at this
    exact this

theorem U_lt (q : Fin 64) : (U s D q).toNat < 1024 := by
  obtain ⟨x, -, h⟩ := (U_spec s D q).1
  rw [h]
  exact nbr_lt D _

theorem tie_spec : (∃ q, T s q = gmx (F := Ideal) s ∧ tieG D s = U s D q) ∧
    ∀ q, T s q = gmx (F := Ideal) s → (tieG D s).toNat ≤ (U s D q).toNat := by
  obtain ⟨q, hq, hmin⟩ := min64 (fun q => if T s q = gmx (F := Ideal) s then U s D q else 1073741824#32) (fun q => by
      split_ifs
      · exact (U_lt s D _).trans (by norm_num)
      · decide)
    (fun x => IntOp.minsi (IntOp.minsi
        (Scalar.select (FloatOps.cmpf (F := Ideal) (φ := .f32) .oeq (quarter (tcA (F := Ideal) s) 0 x) (gmx (F := Ideal) s)) (quarter (ttA (F := Ideal) s (nbr D)) 0 x) 1073741824#32)
        (Scalar.select (FloatOps.cmpf (F := Ideal) (φ := .f32) .oeq (quarter (tcA (F := Ideal) s) 1 x) (gmx (F := Ideal) s)) (quarter (ttA (F := Ideal) s (nbr D)) 1 x) 1073741824#32))
      (IntOp.minsi
        (Scalar.select (FloatOps.cmpf (F := Ideal) (φ := .f32) .oeq (quarter (tcA (F := Ideal) s) 2 x) (gmx (F := Ideal) s)) (quarter (ttA (F := Ideal) s (nbr D)) 2 x) 1073741824#32)
        (Scalar.select (FloatOps.cmpf (F := Ideal) (φ := .f32) .oeq (quarter (tcA (F := Ideal) s) 3 x) (gmx (F := Ideal) s)) (quarter (ttA (F := Ideal) s (nbr D)) 3 x) 1073741824#32)))
    (fun x => by
      simp only [quarter_at _ _ (show 0 < 4 by omega), quarter_at _ _ (show 1 < 4 by omega), quarter_at _ _ (show 2 < 4 by omega),
        quarter_at _ _ (show 3 < 4 by omega), Nat.mul_zero, Nat.zero_add, Nat.mul_one, Nat.reduceMul, sel_one, cmp_eq])
  obtain ⟨q0, h0⟩ := gmx_T s
  have hT : tieG D s = if T s q = gmx (F := Ideal) s then U s D q else 1073741824#32 := hq
  have hm0 := hmin q0
  have hlt := U_lt s D q0
  simp only [if_pos h0] at hm0
  have hTq : T s q = gmx (F := Ideal) s := by
    by_contra hne
    rw [if_neg hne] at hm0
    have : (1073741824#32 : BitVec 32).toNat = 1073741824 := rfl
    omega
  rw [if_pos hTq] at hT
  refine ⟨⟨q, hTq, hT⟩, fun q' h' => ?_⟩
  have := hmin q'
  simp only [if_pos h', if_pos hTq] at this
  rw [hT]
  exact this

theorem clip_small (q : ℕ) (h : q < 64) : (clipW (BitVec.ofNat 32 q)).toNat = q := by
  have key : ∀ q : Fin 64, (clipW (BitVec.ofNat 32 q.val)).toNat = q.val := by decide
  exact key ⟨q, h⟩

theorem chunk_spec : ∃ q : Fin 64, pickC D s = q.val ∧ T s q = gmx (F := Ideal) s ∧ tieG D s = U s D q := by
  obtain ⟨q, hq, hmin⟩ := min64 (fun q => if T s q = gmx (F := Ideal) s ∧ U s D q = tieG D s then BitVec.ofNat 32 q.val else 1073741824#32) (fun q => by
      split_ifs
      · rw [toNat_small _ (by omega)]
        omega
      · decide)
    (fun x => IntOp.minsi (IntOp.minsi
        (Scalar.select (FloatOps.cmpf (F := Ideal) (φ := .f32) .oeq (quarter (tcA (F := Ideal) s) 0 x) (gmx (F := Ideal) s) &&& IntOp.cmpi .eq (quarter (ttA (F := Ideal) s (nbr D)) 0 x) (tieG D s)) (lanes x) 1073741824#32)
        (Scalar.select (FloatOps.cmpf (F := Ideal) (φ := .f32) .oeq (quarter (tcA (F := Ideal) s) 1 x) (gmx (F := Ideal) s) &&& IntOp.cmpi .eq (quarter (ttA (F := Ideal) s (nbr D)) 1 x) (tieG D s)) (lanes x + 16#32) 1073741824#32))
      (IntOp.minsi
        (Scalar.select (FloatOps.cmpf (F := Ideal) (φ := .f32) .oeq (quarter (tcA (F := Ideal) s) 2 x) (gmx (F := Ideal) s) &&& IntOp.cmpi .eq (quarter (ttA (F := Ideal) s (nbr D)) 2 x) (tieG D s)) (lanes x + 32#32) 1073741824#32)
        (Scalar.select (FloatOps.cmpf (F := Ideal) (φ := .f32) .oeq (quarter (tcA (F := Ideal) s) 3 x) (gmx (F := Ideal) s) &&& IntOp.cmpi .eq (quarter (ttA (F := Ideal) s (nbr D)) 3 x) (tieG D s)) (lanes x + 48#32) 1073741824#32)))
    (fun x => by
      have e : ∀ n : ℕ, BitVec.ofNat 32 x.val + BitVec.ofNat 32 n = BitVec.ofNat 32 (n + x.val) := fun n => by
        rw [← BitVec.ofNat_add, add_comm]
      simp only [quarter_at _ _ (show 0 < 4 by omega), quarter_at _ _ (show 1 < 4 by omega), quarter_at _ _ (show 2 < 4 by omega),
        quarter_at _ _ (show 3 < 4 by omega), Nat.mul_zero, Nat.zero_add, Nat.mul_one, Nat.reduceMul, sel_one, bit_and, cmp_eq, cmpi_eq_iff, lanes_at]
      rw [e 16, e 32, e 48])
  have hT : pickQ D s = if T s q = gmx (F := Ideal) s ∧ U s D q = tieG D s then BitVec.ofNat 32 q.val else 1073741824#32 := hq
  obtain ⟨q0, h0, h0'⟩ := (tie_spec s D).1
  have hm0 := hmin q0
  simp only [if_pos (And.intro h0 h0'.symm)] at hm0
  rw [toNat_small _ (by omega)] at hm0
  have hc : T s q = gmx (F := Ideal) s ∧ U s D q = tieG D s := by
    by_contra hne
    rw [if_neg hne] at hm0
    have : (1073741824#32 : BitVec 32).toNat = 1073741824 := rfl
    omega
  rw [if_pos hc] at hT
  refine ⟨q, ?_, hc.1, hc.2.symm⟩
  unfold pickC
  rw [hT]
  exact clip_small _ q.isLt

/-- The place picked holds the greatest score, and the least number among those that do. -/
theorem pick_spec : s (pick D s) = gmx (F := Ideal) s ∧
    ∀ p, s p = gmx (F := Ideal) s → ((item (cl D.cl) (pick D s)) 0).val ≤ ((item (cl D.cl) p) 0).val := by
  obtain ⟨q, hq, hT, hU⟩ := chunk_spec s D
  have hw : ∀ x : Fin 16, (select (andi (cmpf (F := Ideal) .oeq (chk s (pickC D s)) (broadcast S16 (gmx (F := Ideal) s)))
      (cmpi .eq (chk (nbr D) (pickC D s)) (broadcast S16 (tieG D s)))) lanes (broadcast S16 15#32) : IVec S16 32) (ix1 x)
      = if s (at16 q.val q.isLt x) = gmx (F := Ideal) s ∧ nbr D (at16 q.val q.isLt x) = tieG D s then BitVec.ofNat 32 x.val else 15#32 := by
    intro x
    show Scalar.select (FloatOps.cmpf (F := Ideal) (φ := .f32) .oeq (chk s (pickC D s) (ix1 x)) (gmx (F := Ideal) s)
      &&& IntOp.cmpi .eq (chk (nbr D) (pickC D s) (ix1 x)) (tieG D s)) (lanes (ix1 x)) 15#32 = _
    rw [hq, chk_at s q.val q.isLt, chk_at (nbr D) q.val q.isLt, sel_one]
    simp only [bit_and, cmp_eq, cmpi_eq_iff, lanes_at]
  obtain ⟨x, hx, hmin⟩ := min_last (select (andi (cmpf (F := Ideal) .oeq (chk s (pickC D s)) (broadcast S16 (gmx (F := Ideal) s)))
      (cmpi .eq (chk (nbr D) (pickC D s)) (broadcast S16 (tieG D s)))) lanes (broadcast S16 15#32) : IVec S16 32) fun x => by
    rw [hw]
    split_ifs
    · rw [toNat_small _ (by omega)]
      omega
    · decide
  have hL : pickL D s = if s (at16 q.val q.isLt x) = gmx (F := Ideal) s ∧ nbr D (at16 q.val q.isLt x) = tieG D s then BitVec.ofNat 32 x.val else 15#32 :=
    Eq.trans hx (hw x)
  obtain ⟨x0, h0, h0'⟩ := (U_spec s D q).1
  have hc0 : s (at16 q.val q.isLt x0) = gmx (F := Ideal) s ∧ nbr D (at16 q.val q.isLt x0) = tieG D s := ⟨h0.trans hT, (hU.trans h0').symm⟩
  have hm0 := hmin x0
  rw [hw x, hw x0, if_pos hc0, toNat_small _ (by omega)] at hm0
  have hgood : ∃ y : Fin 16, (pickL D s).toNat = y.val ∧ s (at16 q.val q.isLt y) = gmx (F := Ideal) s ∧ nbr D (at16 q.val q.isLt y) = tieG D s := by
    by_cases hc : s (at16 q.val q.isLt x) = gmx (F := Ideal) s ∧ nbr D (at16 q.val q.isLt x) = tieG D s
    · rw [if_pos hc] at hL
      exact ⟨x, by rw [hL, toNat_small _ (by omega)], hc⟩
    · rw [if_neg hc] at hL hm0
      have e15 : (15#32 : BitVec 32).toNat = 15 := rfl
      refine ⟨x0, ?_, hc0⟩
      rw [hL]
      omega
  obtain ⟨y, hy, hs, hn⟩ := hgood
  have hp : pick D s = at16 q.val q.isLt y := by
    unfold pick
    refine congrArg ix1 (Fin.ext ?_)
    show 16 * pickC D s + (pickL D s).toNat = 16 * q.val + y.val
    rw [hq, hy]
  rw [hp]
  refine ⟨hs, fun p hps => ?_⟩
  rw [← nbr_toNat, ← nbr_toNat, hn]
  obtain ⟨t, ht, z, rfl, -⟩ := eq_at16 p
  have hTt : T s ⟨t, ht⟩ = gmx (F := Ideal) s := le_antisymm (T_le_gmx s _) (hps ▸ T_le s ⟨t, ht⟩ z)
  exact ((tie_spec s D).2 _ hTt).trans ((U_spec s D ⟨t, ht⟩).2 z (hps.trans hTt.symm))

/-- A place is live where the greatest score is above 0. -/
theorem live_iff : live (F := Ideal) s ↔ (0 : EReal) < gmx (F := Ideal) s := by
  unfold live
  show BitVec.ofBool (decide (Ideal.ofBits .f32 0x00000000#32 < gmx (F := Ideal) s)) = 1#1 ↔ _
  rw [ofBool_one, decide_eq_true_eq]
  have : Ideal.ofBits .f32 0x00000000#32 = 0 := by simp [Ideal.ofBits, Ideal.ieee]
  rw [this]

end Cert.Proof.Pick

end
-- ==== Proof.Near.lean ====
/-
  The kernel's overlap is the reference's; boxes of different classes do not overlap.
-/
module

public import proofs.«01_k».proof.Proof.RefSpec
public import proofs.«01_k».proof.Proof.Pick

@[expose] public section

noncomputable section

namespace Cert.Proof.Near

open Cert.KernelIdeal Cert.KernelIdeal.Gen
open Idealize.ShloMosaic hiding ix1 ix2 ix3 eq_ix1 eq_ix2 eq_ix3
open Idealize.ShloMosaic.ValueIdx
open Cert.Proof.Lanes Cert.Proof.Counting Cert.Proof.Sort Cert.Proof.Step Cert.Proof.Loop

/-- The edges of the item at a place, moved by ten times its class. -/
def edges (D : Items Ideal) (p : S1024.Idx) (c : Fin 4) : EReal :=
  (![(srt D).y1 p, (srt D).x1 p, (srt D).y2 p, (srt D).x2 p] : Fin 4 → EReal) c + (srt D).cl p * Ideal.ofBits .f32 0x41200000#32

/-- The overlap of two boxes with the second one's edges first. -/
def overlap' (u v : Fin 4 → EReal) : EReal :=
  let area (z : Fin 4 → EReal) := (z 2 - z 0) * (z 3 - z 1)
  let inter := max (min (v 2) (u 2) - max (v 0) (u 0)) (Ideal.ofBits .f32 0x00000000#32) * max (min (v 3) (u 3) - max (v 1) (u 1)) (Ideal.ofBits .f32 0x00000000#32)
  Ideal.div inter (max (area u + area v - inter) (Ideal.ofBits .f32 0x322BCC77#32))

theorem overlap_comm (u v : Fin 4 → EReal) : overlap' u v = RefIou.overlap (F := Ideal) u v := by
  unfold overlap'
  rw [min_comm (v 2), max_comm (v 0), min_comm (v 3), max_comm (v 1)]
  rfl

theorem iouP_eq (D : Items Ideal) (g p : S1024.Idx) : iouP D g p = RefIou.overlap (F := Ideal) (edges D g) (edges D p) := by
  rw [← overlap_comm]
  rfl

theorem tiny_pos : 0 < Ideal.ofBits .f32 0x322BCC77#32 := by
  simp [Ideal.ofBits, Ideal.ieee, -EReal.coe_mul]
  try norm_num

theorem third_pos : 0 ≤ Ideal.ofBits .f32 0x3E99999A#32 := by
  simp [Ideal.ofBits, Ideal.ieee, -EReal.coe_mul]
  try norm_num

theorem ten_eq : Ideal.ofBits .f32 0x41200000#32 = ((10 : ℝ) : EReal) := by
  simp [Ideal.ofBits, Ideal.ieee, -EReal.coe_mul]
  try norm_num

theorem one_eq : Ideal.ofBits .f32 0x3F800000#32 = ((1 : ℝ) : EReal) := by
  simp [Ideal.ofBits, Ideal.ieee, -EReal.coe_mul]
  try norm_num

theorem neg_lt : Ideal.ofBits .f32 0xBF800000#32 < 0 := by
  simp [Ideal.ofBits, Ideal.ieee, -EReal.coe_mul]
  try norm_num

/-- Boxes one above the other do not overlap. -/
theorem apart (u v : Fin 4 → EReal) (h : u 2 ≤ v 0 ∨ v 2 ≤ u 0) : ¬ Ideal.ofBits .f32 0x3E99999A#32 < RefIou.overlap (F := Ideal) u v := by
  rw [← overlap_comm]
  unfold overlap'
  have hle : min (v 2) (u 2) ≤ max (v 0) (u 0) := by
    rcases h with h | h
    · exact (min_le_right _ _).trans (h.trans (le_max_left _ _))
    · exact (min_le_left _ _).trans (h.trans (le_max_right _ _))
  have h0 : max (min (v 2) (u 2) - max (v 0) (u 0)) (Ideal.ofBits .f32 0x00000000#32) = 0 := by
    have hz : Ideal.ofBits .f32 0x00000000#32 = 0 := RefSort.zero_eq
    rw [hz]
    exact max_eq_right (EReal.sub_nonpos.2 hle)
  dsimp only
  rw [h0, zero_mul]
  have hd : ∀ y : EReal, 0 < y → Ideal.div 0 y = 0 := fun y hy => by
    unfold Ideal.div
    rw [if_neg hy.ne', zero_mul]
  rw [hd _ (lt_of_lt_of_le tiny_pos (le_max_right _ _))]
  exact not_lt.2 third_pos

/-- A number between nought and one, moved up by more, is above another moved up by less. -/
theorem step_le (a b : EReal) (ha0 : 0 ≤ a) (ha : a ≤ 1) (hb0 : 0 ≤ b) (hb : b ≤ 1) (k l : ℤ) (h : k < l) :
    a + ((k : ℝ) : EReal) * ((10 : ℝ) : EReal) ≤ b + ((l : ℝ) : EReal) * ((10 : ℝ) : EReal) := by
  lift a to ℝ using ⟨(lt_of_le_of_lt ha (EReal.coe_lt_top 1)).ne, (lt_of_lt_of_le (EReal.bot_lt_coe 0) ha0).ne'⟩
  lift b to ℝ using ⟨(lt_of_le_of_lt hb (EReal.coe_lt_top 1)).ne, (lt_of_lt_of_le (EReal.bot_lt_coe 0) hb0).ne'⟩
  have ha' : a ≤ 1 := by exact_mod_cast ha
  have hb' : 0 ≤ b := by exact_mod_cast hb0
  have hkl : (k : ℝ) + 1 ≤ (l : ℝ) := by exact_mod_cast h
  rw [← EReal.coe_mul, ← EReal.coe_mul, ← EReal.coe_add, ← EReal.coe_add, EReal.coe_le_coe_iff]
  linarith

/-- Items the reference counts as overlapping have one class number. -/
theorem same_class (box : Cert.ReferenceIdeal.S8x1000x4.Idx → EReal) (cls : IVec Cert.ReferenceIdeal.S8x1000 32) (hc : ∀ i, (cls i).toNat < 81)
    (hb : ∀ i, 0 ≤ box i ∧ box i ≤ 1) (b : Fin 8) (p q : Fin 1000)
    (h : Ideal.ofBits .f32 0x3E99999A#32 < RefIou.overlap (F := Ideal) (RefIou.bx (F := Ideal) box cls b p) (RefIou.bx (F := Ideal) box cls b q)) :
    cls (ix2 b p) = cls (ix2 b q) := by
  have hv : ∀ j, (cls j).toInt = ((cls j).toNat : ℤ) := fun j => by have := hc j; rw [BitVec.toInt_eq_toNat_cond]; split <;> omega
  have hx : ∀ (j : Fin 1000) c, RefIou.bx (F := Ideal) box cls b j c = box (ix3 b j c) + ((((cls (ix2 b j)).toInt : ℤ) : ℝ) : EReal) * ((10 : ℝ) : EReal) := fun j c => by
    rw [← ten_eq]; rfl
  by_contra hne
  refine apart _ _ ?_ h
  rw [hx, hx, hx, hx]
  have hne' : (cls (ix2 b p)).toInt ≠ (cls (ix2 b q)).toInt := fun e => hne (BitVec.eq_of_toInt_eq e)
  rcases lt_or_gt_of_ne hne' with hlt | hlt
  · exact Or.inl (step_le _ _ (hb _).1 (hb _).2 (hb _).1 (hb _).2 _ _ hlt)
  · exact Or.inr (step_le _ _ (hb _).1 (hb _).2 (hb _).1 (hb _).2 _ _ hlt)

end Cert.Proof.Near

end
-- ==== Proof.Rank.lean ====
/-
  A stable sort by descending keys, greedy choices in the sorted order, and the ranks of what is kept.
-/
module

public import proofs.«01_k».proof.Proof.Counting
public import Idealize.ShloMosaic.Lib.SortFacts

@[expose] public section

noncomputable section

namespace Cert.Proof.Rank

open Idealize.ShloMosaic

variable {n : ℕ} {K : Type} [LinearOrder K]

/-- `a` comes ahead of `b`: a greater key, or an equal one at an earlier position. -/
def Ahead (key : Fin n → K) (a b : Fin n) : Prop := key b < key a ∨ key a = key b ∧ a < b

theorem ahead_insert (key : Fin n → K) (before : Fin n → Fin n → Bool) (hb : ∀ a b, before a b = true ↔ key b < key a) (a : Fin n)
    (l : List (Fin n)) (ha : ∀ b ∈ l, a < b) (hl : l.Pairwise (Ahead key)) : (insertBefore before a l).Pairwise (Ahead key) := by
  induction l with
  | nil => exact List.pairwise_singleton _ _
  | cons b l ih =>
    rw [List.pairwise_cons] at hl
    unfold insertBefore
    split
    · rename_i h
      refine List.pairwise_cons.2 ⟨fun c hc => ?_, ih (fun c hc => ha c (List.mem_cons_of_mem _ hc)) hl.2⟩
      rcases List.mem_cons.1 ((perm_insertBefore before a l).mem_iff.1 hc) with rfl | hc
      · exact Or.inl ((hb _ _).1 h)
      · exact hl.1 c hc
    · rename_i h
      have hle : key b ≤ key a := not_lt.1 fun h' => h ((hb _ _).2 h')
      refine List.pairwise_cons.2 ⟨fun c hc => ?_, List.pairwise_cons.2 hl⟩
      have hac := ha c hc
      have hcb : key c ≤ key b := by
        rcases List.mem_cons.1 hc with rfl | hc
        · exact le_rfl
        · rcases hl.1 c hc with h' | h'
          · exact h'.le
          · exact h'.1.ge
      rcases lt_or_eq_of_le (hcb.trans hle) with h' | h'
      · exact Or.inl h'
      · exact Or.inr ⟨h'.symm, hac⟩

theorem ahead_sort (key : Fin n → K) (before : Fin n → Fin n → Bool) (hb : ∀ a b, before a b = true ↔ key b < key a)
    (l : List (Fin n)) (hl : l.Pairwise (· < ·)) : (stableSort before l).Pairwise (Ahead key) := by
  induction l with
  | nil => exact List.Pairwise.nil
  | cons a l ih =>
    rw [List.pairwise_cons] at hl
    exact ahead_insert key before hb a _ (fun b h => hl.1 b ((perm_stableSort before l).mem_iff.1 h)) (ih hl.2)

/-- A stable sort by descending keys puts the positions in order. -/
theorem ahead_from (key : Fin n → K) (before : Fin n → Fin n → Bool) (hb : ∀ a b, before a b = true ↔ key b < key a)
    (i j : Fin n) (h : i < j) : Ahead key (sortedFrom before i) (sortedFrom before j) := by
  have hp := ahead_sort key before hb (List.finRange n) (List.pairwise_lt_finRange n)
  rw [List.pairwise_iff_get] at hp
  exact hp (i.cast (length_sortPositions n before).symm) (j.cast (length_sortPositions n before).symm) h

section rank

variable (keep : Fin n → Prop)

open Classical in
/-- How many kept positions come before position `b`. -/
def below (b : ℕ) : ℕ := (Finset.univ.filter fun i : Fin n => keep i ∧ i.val < b).card

theorem below_zero : below keep 0 = 0 := by
  classical
  unfold below
  rw [Finset.card_eq_zero, Finset.filter_eq_empty_iff]
  exact fun i _ h => absurd h.2 (Nat.not_lt_zero _)

theorem below_lt (b : ℕ) (g : Fin n) (hg : keep g) (h : g.val < b) : below keep g.val < below keep b := by
  classical
  unfold below
  refine Finset.card_lt_card ⟨fun i hi => ?_, fun hs => ?_⟩
  · have := (Finset.mem_filter.1 hi).2
    exact Finset.mem_filter.2 ⟨Finset.mem_univ _, this.1, this.2.trans h⟩
  · exact absurd (Finset.mem_filter.1 (hs (Finset.mem_filter.2 ⟨Finset.mem_univ _, hg, h⟩))).2.2 (lt_irrefl _)

theorem below_congr (a b : ℕ) (h : ∀ i : Fin n, keep i → (i.val < a ↔ i.val < b)) : below keep a = below keep b := by
  classical
  unfold below
  congr 1
  ext i
  simp only [Finset.mem_filter, Finset.mem_univ, true_and]
  exact and_congr_right fun hi => h i hi

theorem below_succ (g : Fin n) (hg : keep g) : below keep (g.val + 1) = below keep g.val + 1 := by
  classical
  unfold below
  have e : (Finset.univ.filter fun i : Fin n => keep i ∧ i.val < g.val + 1) = insert g (Finset.univ.filter fun i : Fin n => keep i ∧ i.val < g.val) := by
    ext i
    simp only [Finset.mem_filter, Finset.mem_univ, true_and, Finset.mem_insert]
    constructor
    · rintro ⟨h1, h2⟩
      rcases Nat.lt_succ_iff_lt_or_eq.1 h2 with h | h
      · exact Or.inr ⟨h1, h⟩
      · exact Or.inl (Fin.ext h)
    · rintro (rfl | ⟨h1, h2⟩)
      · exact ⟨hg, Nat.lt_succ_self _⟩
      · exact ⟨h1, h2.trans (Nat.lt_succ_self _)⟩
  rw [e, Finset.card_insert_of_notMem]
  simp

/-- Kept positions stand among the sorted at their ranks. -/
theorem rank_sorted (f : Fin n → K) (τ : Fin n → Fin n) (hτ : ∀ i j, i < j → Ahead f (τ i) (τ j)) (hs : Function.Surjective τ)
    (hv : ∀ i j, keep i → keep j → i < j → f j ≤ f i) (hw : ∀ i j, keep i → ¬ keep j → f j < f i) (r : Fin n) (hr : keep (τ r)) :
    below keep (τ r).val = r.val := by
  classical
  have hi : Function.Injective τ := Finite.injective_iff_surjective.2 hs
  have asymm : ∀ a b, Ahead f a b → ¬ Ahead f b a := by
    rintro a b (h | h) (h' | h')
    · exact lt_asymm h h'
    · exact absurd h'.1 h.ne
    · exact absurd h.1 h'.ne
    · exact lt_asymm h.2 h'.2
  have hiff : ∀ k, k < r ↔ Ahead f (τ k) (τ r) := by
    intro k
    refine ⟨hτ k r, fun h => ?_⟩
    rcases lt_trichotomy k r with h' | rfl | h'
    · exact h'
    · exact absurd h (asymm _ _ h)
    · exact absurd h (asymm _ _ (hτ r k h'))
  have hA : ∀ i, (keep i ∧ i.val < (τ r).val) ↔ Ahead f i (τ r) := by
    intro i
    constructor
    · rintro ⟨h1, h2⟩
      rcases lt_or_eq_of_le (hv i (τ r) h1 hr h2) with h | h
      · exact Or.inl h
      · exact Or.inr ⟨h.symm, h2⟩
    · intro h
      have hk : keep i := by
        by_contra hk
        have := hw _ _ hr hk
        rcases h with h | h
        · exact lt_asymm h this
        · exact absurd h.1 this.ne
      refine ⟨hk, ?_⟩
      by_contra hlt
      rcases lt_or_eq_of_le (not_lt.1 hlt) with h' | h'
      · refine asymm _ _ h ?_
        rcases lt_or_eq_of_le (hv (τ r) i hr hk h') with h'' | h''
        · exact Or.inl h''
        · exact Or.inr ⟨h''.symm, h'⟩
      · have : τ r = i := Fin.ext h'
        subst this
        exact asymm _ _ h h
  unfold below
  have e : (Finset.univ.filter fun i : Fin n => keep i ∧ i.val < (τ r).val) = (Finset.Iio r).image τ := by
    ext i
    simp only [Finset.mem_filter, Finset.mem_univ, true_and, Finset.mem_image, Finset.mem_Iio]
    rw [hA]
    obtain ⟨k, rfl⟩ := hs i
    rw [← hiff]
    exact ⟨fun h => ⟨k, h, rfl⟩, fun ⟨k', h, e⟩ => hi e ▸ h⟩
  rw [e, Finset.card_image_of_injective _ hi, Fin.card_Iio]

variable (over : Fin n → Fin n → Prop) (pos : Fin n → Prop)

/-- Greedy choices: after `k` of them, `k` kept positions lie below a bound, and those left are the positive ones at or
    past it that none of these suppresses. -/
theorem greedy (hkeep : ∀ j, keep j ↔ pos j ∧ ∀ i < j, keep i → ¬ over i j) (A : ℕ → Set (Fin n)) (pk : ℕ → Fin n) (h0 : A 0 = {j | pos j})
    (hpk : ∀ k, (A k).Nonempty → pk k ∈ A k ∧ ∀ j ∈ A k, pk k ≤ j)
    (hA : ∀ k, (A k).Nonempty → A (k + 1) = {j | j ∈ A k ∧ j ≠ pk k ∧ ¬ over (pk k) j}) (k : ℕ) (hk : ∀ i < k, (A i).Nonempty) :
    ∃ b, below keep b = k ∧ A k = {j | b ≤ j.val ∧ pos j ∧ ∀ i, i.val < b → keep i → ¬ over i j} := by
  induction k with
  | zero =>
    refine ⟨0, below_zero keep, ?_⟩
    rw [h0]
    ext j
    exact ⟨fun h => ⟨Nat.zero_le _, h, fun i hi => absurd hi (Nat.not_lt_zero _)⟩, fun h => h.2.1⟩
  | succ k ih =>
    obtain ⟨b, hb, hAk⟩ := ih fun i hi => hk i (hi.trans (Nat.lt_succ_self _))
    have hne := hk k (Nat.lt_succ_self _)
    obtain ⟨hg, hmin⟩ := hpk k hne
    rw [hA k hne]
    have hg' := hg
    rw [hAk] at hg'
    obtain ⟨hbg, hpos, hno⟩ := hg'
    have hgap : ∀ i, keep i → i < pk k → i.val < b := by
      intro i hi hlt
      by_contra hge
      have : i ∈ A k := by
        rw [hAk]
        exact ⟨not_lt.1 hge, ((hkeep i).1 hi).1, fun i' h' hk' => ((hkeep i).1 hi).2 i' (Fin.lt_def.2 (by omega)) hk'⟩
      exact absurd (hmin i this) (not_le.2 hlt)
    have hkg : keep (pk k) := (hkeep _).2 ⟨hpos, fun i hi hki => hno i (hgap i hki hi) hki⟩
    refine ⟨(pk k).val + 1, ?_, ?_⟩
    · rw [below_succ keep _ hkg, below_congr keep _ b fun i hi => ⟨fun h => hgap i hi h, fun h => h.trans_le hbg⟩, hb]
    · ext j
      rw [Set.mem_setOf_eq, Set.mem_setOf_eq]
      constructor
      · rintro ⟨hj, hne', ho⟩
        have hle := hmin j hj
        rw [hAk] at hj
        refine ⟨Fin.lt_def.1 (lt_of_le_of_ne hle (fun h => hne' h.symm)), hj.2.1, fun i hi hki => ?_⟩
        rcases Nat.lt_succ_iff_lt_or_eq.1 hi with h | h
        · exact hj.2.2 i (hgap i hki h) hki
        · have : i = pk k := Fin.ext h
          rw [this]
          exact ho
      · rintro ⟨h1, h2, h3⟩
        refine ⟨?_, fun h => ?_, h3 _ (Nat.lt_succ_self _) hkg⟩
        · rw [hAk]
          exact ⟨by omega, h2, fun i hi => h3 i (by omega)⟩
        · rw [h] at h1
          exact absurd h1 (Nat.not_succ_le_self _)

/-- Choice `k` is the kept position of rank `k`. -/
theorem greedy_rank (hkeep : ∀ j, keep j ↔ pos j ∧ ∀ i < j, keep i → ¬ over i j) (A : ℕ → Set (Fin n)) (pk : ℕ → Fin n) (h0 : A 0 = {j | pos j})
    (hpk : ∀ k, (A k).Nonempty → pk k ∈ A k ∧ ∀ j ∈ A k, pk k ≤ j)
    (hA : ∀ k, (A k).Nonempty → A (k + 1) = {j | j ∈ A k ∧ j ≠ pk k ∧ ¬ over (pk k) j}) (k : ℕ) (hk : ∀ i ≤ k, (A i).Nonempty) :
    keep (pk k) ∧ below keep (pk k).val = k := by
  obtain ⟨b, hb, hAk⟩ := greedy keep over pos hkeep A pk h0 hpk hA k fun i hi => hk i hi.le
  obtain ⟨hg, hmin⟩ := hpk k (hk k le_rfl)
  have hg' := hg
  rw [hAk] at hg'
  obtain ⟨hbg, hpos, hno⟩ := hg'
  have hgap : ∀ i, keep i → i < pk k → i.val < b := by
    intro i hi hlt
    by_contra hge
    have : i ∈ A k := by
      rw [hAk]
      exact ⟨not_lt.1 hge, ((hkeep i).1 hi).1, fun i' h' hk' => ((hkeep i).1 hi).2 i' (Fin.lt_def.2 (by omega)) hk'⟩
    exact absurd (hmin i this) (not_le.2 hlt)
  refine ⟨(hkeep _).2 ⟨hpos, fun i hi hki => hno i (hgap i hki hi) hki⟩, ?_⟩
  rw [below_congr keep _ b fun i hi => ⟨fun h => hgap i hi h, fun h => h.trans_le hbg⟩, hb]

/-- Once none is left, no kept position has rank `k`. -/
theorem greedy_end (hkeep : ∀ j, keep j ↔ pos j ∧ ∀ i < j, keep i → ¬ over i j) (A : ℕ → Set (Fin n)) (pk : ℕ → Fin n) (h0 : A 0 = {j | pos j})
    (hpk : ∀ k, (A k).Nonempty → pk k ∈ A k ∧ ∀ j ∈ A k, pk k ≤ j)
    (hA : ∀ k, (A k).Nonempty → A (k + 1) = {j | j ∈ A k ∧ j ≠ pk k ∧ ¬ over (pk k) j}) (k : ℕ) (hk : ¬ ∀ i ≤ k, (A i).Nonempty)
    (g : Fin n) (hg : keep g) : below keep g.val ≠ k := by
  classical
  have hex : ∃ i, ¬ (A i).Nonempty := by
    by_contra h
    exact hk fun i _ => by_contra fun h' => h ⟨i, h'⟩
  have hmin : ∀ i < Nat.find hex, (A i).Nonempty := fun i hi => not_not.1 (Nat.find_min hex hi)
  have hle : Nat.find hex ≤ k := by
    by_contra h
    exact hk fun i hi => hmin i (by omega)
  obtain ⟨b, hb, hAk⟩ := greedy keep over pos hkeep A pk h0 hpk hA (Nat.find hex) hmin
  have hgb : g.val < b := by
    by_contra h
    refine Nat.find_spec hex ⟨g, ?_⟩
    rw [hAk]
    exact ⟨not_lt.1 h, ((hkeep g).1 hg).1, fun i hi hki => ((hkeep g).1 hg).2 i (Fin.lt_def.2 (by omega)) hki⟩
  have := below_lt keep b g hg hgb
  omega

end rank

end Cert.Proof.Rank

end
-- ==== Proof.Greedy.lean ====
/-
  The kernel's picks, in the reference's order: the rows it writes are those of the kept items of the greatest scores.
-/
module

public import proofs.«01_k».proof.Proof.Near
public import proofs.«01_k».proof.Proof.Rank
public import proofs.«01_k».proof.Proof.Conv

@[expose] public section

noncomputable section

namespace Cert.Proof.Greedy

open Cert.KernelIdeal Cert.KernelIdeal.Gen
open Idealize.ShloMosaic hiding ix1 ix2 ix3 eq_ix1 eq_ix2 eq_ix3
open Idealize.ShloMosaic.ValueIdx
open Cert.Proof.Lanes Cert.Proof.Counting Cert.Proof.Sort Cert.Proof.Step Cert.Proof.Loop
open Cert.Proof.RefSort (sigma)

/-! ## Places and items -/

theorem item_surj (c : ℕ → ℕ) : Function.Surjective (item c) := by
  refine Finite.injective_iff_surjective.1 fun p q h => ?_
  have e : (p 0).val = (q 0).val := by rw [← pos_item c p, ← pos_item c q, h]
  rw [eq_ix1 p, eq_ix1 q]
  exact congrArg ix1 (Fin.ext e)

/-- Number `i` among the items. -/
abbrev num (i : Fin 1000) : S1024.Idx := ix1 ⟨i.val, lt_trans i.isLt (by norm_num)⟩

/-- Where item `i` lies in class order. -/
def place (D : Items Ideal) (i : Fin 1000) : S1024.Idx := (item_surj (cl D.cl) (num i)).choose

theorem item_place (D : Items Ideal) (i : Fin 1000) : item (cl D.cl) (place D i) = num i := (item_surj (cl D.cl) (num i)).choose_spec

theorem place_of (D : Items Ideal) (p : S1024.Idx) (i : Fin 1000) (h : item (cl D.cl) p = num i) : p = place D i := by
  have e : (p 0).val = (place D i 0).val := by rw [← pos_item (cl D.cl) p, ← pos_item (cl D.cl) (place D i), h, item_place]
  rw [eq_ix1 p, eq_ix1 (place D i)]
  exact congrArg ix1 (Fin.ext e)

theorem place_inj (D : Items Ideal) (i j : Fin 1000) (h : (place D i 0).val = (place D j 0).val) : i = j := by
  have e : place D i = place D j := by
    rw [eq_ix1 (place D i), eq_ix1 (place D j)]
    exact congrArg ix1 (Fin.ext h)
  have e' : num i = num j := by rw [← item_place D i, ← item_place D j, e]
  exact Fin.ext (congrArg (fun p : S1024.Idx => (p 0).val) e')

/-- What an image's items are: scores, boxes and class numbers, and nothing after the thousandth. -/
structure Holds (D : Items Ideal) (S : Fin 1000 → EReal) (B : Fin 1000 → Fin 4 → EReal) (C : Fin 1000 → BitVec 32) : Prop where
  sc : ∀ i, D.sc (num i) = S i
  pad : ∀ p : S1024.Idx, ¬ (p 0).val < 1000 → D.sc p < 0
  y1 : ∀ i, D.y1 (num i) = B i 0
  x1 : ∀ i, D.x1 (num i) = B i 1
  y2 : ∀ i, D.y2 (num i) = B i 2
  x2 : ∀ i, D.x2 (num i) = B i 3
  cl : ∀ i, D.cl (num i) = FloatOps.sitofp (F := Ideal) .f32 (C i)
  small : ∀ i, (C i).toNat < 81

variable {D : Items Ideal} {S : Fin 1000 → EReal} {B : Fin 1000 → Fin 4 → EReal} {C : Fin 1000 → BitVec 32} (H : Holds D S B C)
include H

/-- The moved edges of an item. -/
abbrev moved (B : Fin 1000 → Fin 4 → EReal) (C : Fin 1000 → BitVec 32) (i : Fin 1000) (c : Fin 4) : EReal :=
  B i c + FloatOps.sitofp (F := Ideal) .f32 (C i) * Ideal.ofBits .f32 0x41200000#32

theorem sc_place (i : Fin 1000) : (srt D).sc (place D i) = S i := (congrArg D.sc (item_place D i)).trans (H.sc i)

theorem edges_place (i : Fin 1000) : Near.edges D (place D i) = moved B C i := by
  funext c
  have e1 : (srt D).y1 (place D i) = B i 0 := (congrArg D.y1 (item_place D i)).trans (H.y1 i)
  have e2 : (srt D).x1 (place D i) = B i 1 := (congrArg D.x1 (item_place D i)).trans (H.x1 i)
  have e3 : (srt D).y2 (place D i) = B i 2 := (congrArg D.y2 (item_place D i)).trans (H.y2 i)
  have e4 : (srt D).x2 (place D i) = B i 3 := (congrArg D.x2 (item_place D i)).trans (H.x2 i)
  have e5 : (srt D).cl (place D i) = FloatOps.sitofp (F := Ideal) .f32 (C i) := (congrArg D.cl (item_place D i)).trans (H.cl i)
  unfold Near.edges
  rw [e1, e2, e3, e4, e5]
  refine congrArg (· + _) ?_
  match c with
  | 0 => rfl
  | 1 => rfl
  | 2 => rfl
  | 3 => rfl

theorem class_place (i : Fin 1000) : cp D (place D i) = (C i).toNat := by
  unfold cp
  rw [item_place]
  unfold Sort.cl cw
  rw [dif_pos (lt_trans i.isLt (by norm_num))]
  have e : D.cl (ix1 ⟨((num i) 0).val, lt_trans i.isLt (by norm_num)⟩) = FloatOps.sitofp (F := Ideal) .f32 (C i) := H.cl i
  rw [e, Conv.ideal_conv _ (H.small i)]

theorem over_place (i j : Fin 1000) : over D (place D i) (place D j) = 1#1
    ↔ Ideal.ofBits .f32 0x3E99999A#32 < RefIou.overlap (F := Ideal) (moved B C i) (moved B C j) := by
  unfold over
  rw [Near.iouP_eq, edges_place H, edges_place H]
  exact RefSort.gt_iff _ _

/-! ## The scores -/

omit H in
theorem scores_cases (k : ℕ) (p : S1024.Idx) : scores D k p = (srt D).sc p ∨ scores D k p = neg1 := by
  induction k with
  | zero => exact Or.inl rfl
  | succ k ih =>
    show nxt D _ (scores D k) p = _ ∨ nxt D _ (scores D k) p = _
    unfold nxt
    split
    · exact Or.inr rfl
    · split
      · exact Or.inr rfl
      · exact ih

omit H in
theorem neg1_lt : (neg1 (F := Ideal) : EReal) < 0 := Near.neg_lt

/-- A place with a positive score is an item's, and the score is the item's. -/
theorem positive (k : ℕ) (p : S1024.Idx) (h : 0 < (scores D k p : EReal)) : ∃ i, p = place D i ∧ scores D k p = S i := by
  rcases scores_cases (D := D) k p with e | e
  · by_cases hp : ((item (cl D.cl) p) 0).val < 1000
    · have hi : item (cl D.cl) p = num ⟨_, hp⟩ := eq_ix1 _
      have := place_of D p ⟨_, hp⟩ hi
      refine ⟨_, this, ?_⟩
      rw [e]
      exact (congrArg (srt D).sc this).trans (sc_place H _)
    · have := H.pad _ hp
      rw [e] at h
      exact absurd (h.trans this) (lt_irrefl _)
  · rw [e] at h
    exact absurd (h.trans neg1_lt) (lt_irrefl _)

/-- Which items are still live after `k` picks, by their places in the descending order. -/
def alive (D : Items Ideal) (S : Fin 1000 → EReal) (k : ℕ) : Set (Fin 1000) := {i | 0 < (scores D k (place D (sigma S i)) : EReal)}

omit H in
theorem sigma_surj (key : Fin 1000 → EReal) : Function.Surjective (sigma key) := sortedFrom_surjective _

omit H in
theorem sigma_ahead (key : Fin 1000 → EReal) (i j : Fin 1000) (h : i < j) : Rank.Ahead key (sigma key i) (sigma key j) :=
  Rank.ahead_from key _ (fun _ _ => decide_eq_true_iff) i j h

theorem live_alive (k : ℕ) : live (scores D k) ↔ (alive D S k).Nonempty := by
  rw [Pick.live_iff]
  constructor
  · intro h
    obtain ⟨p, hp⟩ := Pick.gmx_mem (scores D k)
    obtain ⟨i, rfl, -⟩ := positive H k p (by rw [hp]; exact h)
    obtain ⟨j, rfl⟩ := sigma_surj S i
    exact ⟨j, by show 0 < (scores D k _ : EReal); rw [hp]; exact h⟩
  · rintro ⟨i, hi⟩
    exact lt_of_lt_of_le hi (Pick.le_gmx (scores D k) _)

theorem pick_ex (k : ℕ) (h : (alive D S k).Nonempty) : ∃ i, pick D (scores D k) = place D (sigma S i) := by
  have hl := (Pick.live_iff _).1 ((live_alive H k).2 h)
  obtain ⟨i, hi, -⟩ := positive H k (pick D (scores D k)) (by rw [(Pick.pick_spec (scores D k) D).1]; exact hl)
  obtain ⟨j, rfl⟩ := sigma_surj S i
  exact ⟨j, hi⟩

open Classical in
omit H in
/-- The pick after `k` picks, by its place in the descending order. -/
def pk (D : Items Ideal) (S : Fin 1000 → EReal) (k : ℕ) : Fin 1000 :=
  if h : ∃ i, pick D (scores D k) = place D (sigma S i) then h.choose else 0

theorem pk_place (k : ℕ) (h : (alive D S k).Nonempty) : pick D (scores D k) = place D (sigma S (pk D S k)) := by
  unfold pk
  rw [dif_pos (pick_ex H k h)]
  exact (pick_ex H k h).choose_spec

/-- The score of the pick. -/
theorem pk_score (k : ℕ) (h : (alive D S k).Nonempty) : gmx (F := Ideal) (scores D k) = S (sigma S (pk D S k)) ∧ 0 < S (sigma S (pk D S k)) := by
  have hl := (Pick.live_iff _).1 ((live_alive H k).2 h)
  have hs := (Pick.pick_spec (scores D k) D).1
  obtain ⟨i, hi, he⟩ := positive H k (pick D (scores D k)) (by rw [hs]; exact hl)
  have hij : i = sigma S (pk D S k) :=
    place_inj D i (sigma S (pk D S k)) (congrArg (fun p : S1024.Idx => (p 0).val) (hi.symm.trans (pk_place H k h)))
  rw [hs, hij] at he
  rw [he] at hl
  exact ⟨he, hl⟩

theorem pk_first (k : ℕ) (h : (alive D S k).Nonempty) : pk D S k ∈ alive D S k ∧ ∀ j ∈ alive D S k, pk D S k ≤ j := by
  obtain ⟨hg, hg0⟩ := pk_score H k h
  have hs := Pick.pick_spec (scores D k) D
  rw [pk_place H k h] at hs
  refine ⟨?_, fun j hj => not_lt.1 fun hlt => ?_⟩
  · show 0 < (scores D k _ : EReal)
    rw [hs.1, hg]
    exact hg0
  · obtain ⟨i, hi, he⟩ := positive H k _ hj
    have hij : sigma S j = i := place_inj D (sigma S j) i (congrArg (fun p : S1024.Idx => (p 0).val) hi)
    rw [← hij] at he
    have hle : S (sigma S j) ≤ S (sigma S (pk D S k)) := by
      rw [← he, ← hg]
      exact Pick.le_gmx (scores D k) _
    rcases sigma_ahead S j (pk D S k) hlt with h1 | ⟨h1, h2⟩
    · exact absurd hle (not_le.2 h1)
    · have := hs.2 (place D (sigma S j)) (by rw [he, hg, h1])
      rw [item_place, item_place] at this
      generalize sigma S j = a at h2 this
      generalize sigma S (pk D S k) = b at h2 this
      have h3 : b.val ≤ a.val := this
      exact absurd h2 (not_lt.2 (Fin.le_def.2 h3))

/-- Two items, by their places in the descending order, overlap. -/
def near (S : Fin 1000 → EReal) (B : Fin 1000 → Fin 4 → EReal) (C : Fin 1000 → BitVec 32) (i j : Fin 1000) : Prop :=
  Ideal.ofBits .f32 0x3E99999A#32 < RefIou.overlap (F := Ideal) (moved B C (sigma S i)) (moved B C (sigma S j))

theorem alive_next (hN : ∀ i j, near S B C i j → C (sigma S i) = C (sigma S j)) (k : ℕ) (h : (alive D S k).Nonempty) :
    alive D S (k + 1) = {j | j ∈ alive D S k ∧ j ≠ pk D S k ∧ ¬ near S B C (pk D S k) j} := by
  ext j
  show 0 < (nxt D (pick D (scores D k)) (scores D k) (place D (sigma S j)) : EReal) ↔ _
  rw [pk_place H k h]
  unfold nxt
  have inj : Function.Injective (sigma S) := Finite.injective_iff_surjective.2 (sigma_surj S)
  by_cases h1 : j = pk D S k
  · rw [if_pos (by rw [h1])]
    exact ⟨fun h' => absurd (h'.trans neg1_lt) (lt_irrefl _), fun h' => absurd h1 h'.2.1⟩
  · rw [if_neg fun e => h1 (inj (place_inj D (sigma S j) (sigma S (pk D S k)) e))]
    by_cases h2 : near S B C (pk D S k) j
    · rw [if_pos ⟨by rw [class_place H, class_place H, hN _ _ h2], (over_place H _ _).2 h2⟩]
      exact ⟨fun h' => absurd (h'.trans neg1_lt) (lt_irrefl _), fun h' => absurd h2 h'.2.2⟩
    · rw [if_neg fun e => h2 ((over_place H _ _).1 e.2)]
      exact ⟨fun h' => ⟨h', h1, h2⟩, fun h' => h'.1⟩

theorem alive_zero : alive D S 0 = {j | 0 < S (sigma S j)} := by
  ext j
  show 0 < ((srt D).sc (place D (sigma S j)) : EReal) ↔ _
  rw [sc_place H]
  exact Iff.rfl

/-! ## The rows -/

omit H in
theorem row_lanes (m y1 x1 y2 x2 c : EReal) (x : Fin 6) :
    k0_pay27 (F := Ideal) lanes m (broadcast S16 y1) (broadcast S16 x1) (broadcast S16 y2) (broadcast S16 x2) (broadcast S16 c) (k0_pay26 lanes) (ix1 ⟨x.val, by omega⟩)
      = if h : x.val < 4 then (![y1, x1, y2, x2] : Fin 4 → EReal) ⟨x.val, h⟩ else if x.val = 4 then c else m := by
  match x with
  | 0 => rfl
  | 1 => rfl
  | 2 => rfl
  | 3 => rfl
  | 4 => rfl
  | 5 => rfl

theorem row_at (k : ℕ) (h : (alive D S k).Nonempty) (x : Fin 6) :
    rowV D (scores D k) (ix1 ⟨x.val, by omega⟩)
      = if h : x.val < 4 then B (sigma S (pk D S k)) ⟨x.val, h⟩ else if x.val = 4 then FloatOps.sitofp (F := Ideal) .f32 (C (sigma S (pk D S k))) else S (sigma S (pk D S k)) := by
  unfold rowV
  refine (row_lanes _ _ _ _ _ _ x).trans ?_
  rw [pk_place H k h, (pk_score H k h).1]
  generalize sigma S (pk D S k) = i
  have e1 : (srt D).y1 (place D i) = B i 0 := (congrArg D.y1 (item_place D i)).trans (H.y1 i)
  have e2 : (srt D).x1 (place D i) = B i 1 := (congrArg D.x1 (item_place D i)).trans (H.x1 i)
  have e3 : (srt D).y2 (place D i) = B i 2 := (congrArg D.y2 (item_place D i)).trans (H.y2 i)
  have e4 : (srt D).x2 (place D i) = B i 3 := (congrArg D.x2 (item_place D i)).trans (H.x2 i)
  have e5 : (srt D).cl (place D i) = FloatOps.sitofp (F := Ideal) .f32 (C i) := (congrArg D.cl (item_place D i)).trans (H.cl i)
  rw [e1, e2, e3, e4, e5]
  have ev : ∀ c : Fin 4, (![B i 0, B i 1, B i 2, B i 3] : Fin 4 → EReal) c = B i c := fun c => by
    match c with
    | 0 => rfl
    | 1 => rfl
    | 2 => rfl
    | 3 => rfl
  simp only [ev]

variable (keep : Fin 1000 → Prop)

open Classical in
omit H in
/-- An item's score where it is kept, and minus one elsewhere. -/
def left (S : Fin 1000 → EReal) (keep : Fin 1000 → Prop) (j : Fin 1000) : EReal := if keep j then S (sigma S j) else Ideal.ofBits .f32 0xBF800000#32

omit H in
theorem left_pos (S : Fin 1000 → EReal) (j : Fin 1000) (h : keep j) : left S keep j = S (sigma S j) := if_pos h

omit H in
theorem left_neg (S : Fin 1000 → EReal) (j : Fin 1000) (h : ¬ keep j) : left S keep j = Ideal.ofBits .f32 0xBF800000#32 := if_neg h

/-- Row `r` of the kernel's result is the kept item of rank `r`, where there is one, and nought elsewhere. -/
theorem rows_eq (hN : ∀ i j, near S B C i j → C (sigma S i) = C (sigma S j))
    (hkeep : ∀ j, keep j ↔ 0 < S (sigma S j) ∧ ∀ i < j, keep i → ¬ near S B C i j) (r : Fin 100) (x : Fin 6) :
    outRow D r.val ⟨x.val, by omega⟩
      = if 0 < left S keep (sigma (left S keep) (RefSort.up r)) then
          (if h : x.val < 4 then B (sigma S (sigma (left S keep) (RefSort.up r))) ⟨x.val, h⟩
            else if x.val = 4 then FloatOps.sitofp (F := Ideal) .f32 (C (sigma S (sigma (left S keep) (RefSort.up r))))
            else S (sigma S (sigma (left S keep) (RefSort.up r))))
        else (0 : EReal) := by
  classical
  have hv : ∀ i j, keep i → keep j → i < j → left S keep j ≤ left S keep i := fun i j hi hj hij => by
    rw [left_pos keep S i hi, left_pos keep S j hj]
    rcases sigma_ahead S i j hij with h | h
    · exact h.le
    · exact h.1.ge
  have hw : ∀ i j, keep i → ¬ keep j → left S keep j < left S keep i := fun i j hi hj => by
    rw [left_pos keep S i hi, left_neg keep S j hj]
    exact Near.neg_lt.trans ((hkeep i).1 hi).1
  have hrank := fun t => Rank.rank_sorted keep (left S keep) (sigma (left S keep)) (fun i j h => sigma_ahead _ i j h) (sigma_surj _) hv hw t
  have hnext := fun k h => alive_next H hN k h
  have hfirst := fun k h => pk_first H k h
  unfold outRow
  by_cases hall : ∀ k ≤ r.val, (alive D S k).Nonempty
  · rw [if_pos fun k hk => (live_alive H k).2 (hall k hk)]
    obtain ⟨hk, hb⟩ := Rank.greedy_rank keep (near S B C) (fun j => 0 < S (sigma S j)) hkeep (alive D S) (pk D S) (alive_zero H) hfirst hnext r.val hall
    obtain ⟨t, ht⟩ := sigma_surj (left S keep) (pk D S r.val)
    have hrt := hrank t (by rw [ht]; exact hk)
    rw [ht, hb] at hrt
    have htr : t = RefSort.up r := Fin.ext hrt.symm
    rw [← htr, ht]
    have hpos : 0 < left S keep (pk D S r.val) := by
      rw [left_pos keep S _ hk]
      exact ((hkeep _).1 hk).1
    rw [if_pos hpos]
    exact row_at H r.val (hall _ le_rfl) x
  · rw [if_neg fun h => hall fun k hk => (live_alive H k).1 (h k hk)]
    have hno : ¬ keep (sigma (left S keep) (RefSort.up r)) := fun hg =>
      Rank.greedy_end keep (near S B C) (fun j => 0 < S (sigma S j)) hkeep (alive D S) (pk D S) (alive_zero H) hfirst hnext r.val hall _ hg (hrank _ hg)
    have hneg : ¬ 0 < left S keep (sigma (left S keep) (RefSort.up r)) := by
      rw [left_neg keep S _ hno]
      exact not_lt.2 Near.neg_lt.le
    rw [if_neg hneg]
    exact RefSort.zero_eq

end Cert.Proof.Greedy

end
-- ==== Proof.Equal.lean ====
/-
  The kernel's ideal program and the reference leave the same result.
-/
module

public import proofs.«01_k».proof.Proof.Greedy
public import proofs.«01_k».proof.Proof.Conv

@[expose] public section

set_option maxRecDepth 100000

noncomputable section

namespace Cert.Proof.Equal

open Cert.KernelIdeal Cert.KernelIdeal.Gen
open Idealize.ShloMosaic hiding ix1 ix2 ix3 eq_ix1 eq_ix2 eq_ix3
open Idealize.ShloMosaic.ValueIdx
open Idealize.SL.Sem
open Cert.Proof.Tile Cert.Proof.Launch Cert.Proof.Host Cert.Proof.Loop

variable (m : (ℓ : Loc nD τ sig) → Buf (Elt Ideal) ℓ)

/-- An image's items are its arguments. -/
theorem holds (d : Dev nD) (hc : ∀ i, (g2 m d i).toNat < 81) (w : Fin 8) :
    Greedy.Holds (itemsOf (AA m d) w) (fun j => g0 m d (ix2 w j)) (fun j c => g1 m d (ix3 w j c)) (fun j => g2 m d (ix2 w j)) where
  sc i := (sc_at m d w i.val (lt_trans i.isLt (by norm_num))).trans (dif_pos i.isLt)
  pad p hp := by
    have hlt : (p 0).val < 1024 := (p 0).isLt
    have e : (itemsOf (AA m d) w).sc p = FloatOps.ofBits .f32 0xBF800000#32 :=
      (congrArg (itemsOf (AA m d) w).sc (eq_ix1 p)).trans ((sc_at m d w (p 0).val hlt).trans (dif_neg hp))
    rw [e]
    exact Near.neg_lt
  y1 i := (y1_at m d w i.val (lt_trans i.isLt (by norm_num))).trans (dif_pos i.isLt)
  x1 i := (x1_at m d w i.val (lt_trans i.isLt (by norm_num))).trans (dif_pos i.isLt)
  y2 i := (y2_at m d w i.val (lt_trans i.isLt (by norm_num))).trans (dif_pos i.isLt)
  x2 i := (x2_at m d w i.val (lt_trans i.isLt (by norm_num))).trans (dif_pos i.isLt)
  cl i := (cl_at m d w i.val (lt_trans i.isLt (by norm_num))).trans (dif_pos i.isLt)
  small i := hc _

/-- An entry of the kernel's result. -/
theorem res_at (d : Dev nD) (b : Fin 8) (r : Fin 100) (x : Fin 6) :
    RES m d (ix3 b r x) = outRow (itemsOf (AA m d) b) r.val ⟨x.val, by omega⟩ := by
  have e : Shape.reshapeEquiv shapeCasts_S8x1600_S8x100x16 (ix3 b r ⟨x.val, by omega⟩) = ix2 b ⟨16 * r.val + x.val, by omega⟩ :=
    Shape.reshapeEquiv_eq_of_vals _ _ _ _ _ (rowMajor_val2 _ 1600 rfl) (rowMajor_val3 _ 1600 16 rfl rfl) (by
      show b.val * 1600 + (16 * r.val + x.val) = b.val * 1600 + r.val * 16 + x.val; omega)
  have e' : RES m d (ix3 b r x) = OUT (AA m d) (Shape.reshapeEquiv shapeCasts_S8x1600_S8x100x16 (ix3 b r ⟨x.val, by omega⟩)) := by
    unfold RES extractStridedSlice
    refine congrArg (fun i => OUT (AA m d) (Shape.reshapeEquiv shapeCasts_S8x1600_S8x100x16 i)) (funext fun a => Fin.ext ?_)
    match a with
    | ⟨0, _⟩ => show 0 + b.val = b.val; omega
    | ⟨1, _⟩ => show 0 + r.val = r.val; omega
    | ⟨2, _⟩ => show 0 + x.val = x.val; omega
  rw [e', e]
  have h1 : (16 * r.val + x.val) / 16 = r.val := by omega
  have h2 : (16 * r.val + x.val) % 16 = x.val := by omega
  show outRow (itemsOf (AA m d) b) ((16 * r.val + x.val) / 16) ⟨(16 * r.val + x.val) % 16, _⟩ = _
  simp only [h1, h2]

variable (m' : (ℓ : Loc Cert.ReferenceIdeal.nD Cert.ReferenceIdeal.τ Cert.ReferenceIdeal.sig) → Buf (Elt Ideal) ℓ)

/-- The two results are one. -/
theorem result_eq (d : Dev nD) (hc : ∀ i, (g2 m d i).toNat < 81) (hb : ∀ i, 0 ≤ (g1 m d i : EReal) ∧ (g1 m d i : EReal) ≤ 1)
    (h0 : RefSpec.a0 m' d = g0 m d) (h1 : RefSpec.a1 m' d = g1 m d) (h2 : RefSpec.a2 m' d = g2 m d) :
    StableHlo.finalContents Cert.ReferenceIdeal.Value.condOps Cert.ReferenceIdeal.Value.preI Cert.ReferenceIdeal.Value.bodyI
      Cert.ReferenceIdeal.Value.postI 1000 m' d (Proc.devRef .tc Cert.ReferenceIdeal.main_v75) = RES m d := by
  funext i
  obtain ⟨b, r, x, rfl⟩ : ∃ (b : Fin 8) (r : Fin 100) (x : Fin 6), i = ix3 b r x := ⟨i 0, i 1, i 2, eq_ix3 i⟩
  have hnear : ∀ p q, RefSpec.near m' d b (RefSort.sigma (fun j => g0 m d (ix2 b j)) p) (RefSort.sigma (fun j => g0 m d (ix2 b j)) q)
      ↔ Greedy.near (fun j => g0 m d (ix2 b j)) (fun j c => g1 m d (ix3 b j c)) (fun j => g2 m d (ix2 b j)) p q := fun p q => by
    unfold RefSpec.near
    rw [h1, h2]
    exact Iff.rfl
  have hN : ∀ p q, Greedy.near (fun j => g0 m d (ix2 b j)) (fun j c => g1 m d (ix3 b j c)) (fun j => g2 m d (ix2 b j)) p q →
      g2 m d (ix2 b (RefSort.sigma (fun j => g0 m d (ix2 b j)) p)) = g2 m d (ix2 b (RefSort.sigma (fun j => g0 m d (ix2 b j)) q)) := fun p q h =>
    Near.same_class (g1 m d) (g2 m d) hc hb b _ _ h
  have hkeep := RefSpec.keep_iff m' d b
  rw [h0] at hkeep
  have hk : ∀ j, RefSpec.keep m' d b j ↔ 0 < (g0 m d (ix2 b (RefSort.sigma (fun j => g0 m d (ix2 b j)) j)) : EReal)
      ∧ ∀ i < j, RefSpec.keep m' d b i → ¬ Greedy.near (fun j => g0 m d (ix2 b j)) (fun j c => g1 m d (ix3 b j c)) (fun j => g2 m d (ix2 b j)) i j := fun j =>
    (hkeep j).trans (and_congr Iff.rfl (forall_congr' fun i => forall_congr' fun _ => forall_congr' fun _ => not_congr (hnear i j)))
  have hrow := Greedy.rows_eq (holds m d hc b) (RefSpec.keep m' d b) hN hk r x
  have hleft : RefSpec.left m' d b = Greedy.left (fun j => g0 m d (ix2 b j)) (RefSpec.keep m' d b) := by
    funext j
    unfold RefSpec.left
    rw [h0]
    rfl
  rw [RefSpec.result_at, hleft, h0, h1, h2]
  refine Eq.trans ?_ (hrow.symm.trans (res_at m d b r x).symm)
  rfl

/-- Where the boxes lie in the unit square, both programs run and leave the same result. -/
theorem algebraic : Cert.algebraic_KernelIdeal_ReferenceIdeal_pre_pre (hKernelIdeal := Cert.KernelIdeal.Gen.facts)
    (hReferenceIdeal := Cert.ReferenceIdeal.Gen.facts) (hPre_pre := Cert.Pre_pre.Gen.facts) := fun m g m' g' hpre hargs => by
  refine ⟨fun c => RES m c, ?_, ?_⟩
  · exact (θ_run Cert.KernelIdeal.defs _ _).mono (fun _ h c => ⟨(h.1 c).2.2.2, (h.1 c).1, (h.1 c).2.1, (h.1 c).2.2.1⟩)
      (run_main (F := Ideal) m g (Conv.inRange_pre m hpre))
  · refine (θ_run Cert.ReferenceIdeal.defs _ _).mono (fun _ h c => ⟨(h.1 c).1.trans ?_, (h.1 c).2⟩) (RefFrame.run_ref (F := Ideal) m' g')
    have hp := Conv.small_of_pre _ _ _ (hpre c)
    refine result_eq m m' c (fun i => hp.1 i) (fun i => ?_) (hargs c).1 (hargs c).2.1 (hargs c).2.2
    obtain ⟨hlo, hhi⟩ := hp.2 i
    have le_of : ∀ a b : EReal, BitVec.ofBool (decide (a ≤ b)) = 1#1 → a ≤ b := fun a b h => by
      rw [Words.ofBool_one, decide_eq_true_iff] at h
      exact h
    have h1 := le_of _ _ hlo
    have h2 := le_of _ _ hhi
    have e0 : FloatOps.ofBits (F := Ideal) .f32 0x00000000#32 = (0 : EReal) := RefSort.zero_eq
    have e1 : FloatOps.ofBits (F := Ideal) .f32 0x3F800000#32 = (1 : EReal) := Near.one_eq
    rw [e0] at h1
    rw [e1] at h2
    exact ⟨h1, h2⟩

/-- The reference's frame, at the arguments the claim admits. -/
theorem frame_reference_pre : Cert.quiescent_ReferenceIdeal_pre_pre (hReferenceIdeal := Cert.ReferenceIdeal.Gen.facts) (hPre_pre := Cert.Pre_pre.Gen.facts) := fun m ρ _ =>
  (θ_run Cert.ReferenceIdeal.defs _ _).mono (fun _ h => ⟨fun c => (h.1 c).2, h.2⟩) (RefFrame.run_ref (F := Ideal) m ρ)

end Cert.Proof.Equal

end
-- ==== Proof.DenseRow.lean ====
/-
  The dense call's outputs: eight slices, one for each image, each the same function of the image's blocks.
-/
module

public import proofs.«01_k».proof.Proof.Gen.DenseIdeal.Value

@[expose] public section

set_option maxRecDepth 100000

noncomputable section

namespace Cert.Proof.DenseRow

open Cert.DenseIdeal Cert.DenseIdeal.Gen
open Idealize.ShloMosaic

variable {F : FTy → Type} [FloatOps F]

section Inputs

variable (x0 : Vec F S8x4x1000 .f32) (x1 : Vec F S81x8x1000 .f32) (x2 : Vec F S8x81x4x1000 .f32)

/-- An image's boxes, class scores and deltas, as the kernel loads them. -/
def in0 (b : Fin 8) : Vec F S1x4x1000 .f32 := match b with
  | 0 => View.ld x0 r0_0
  | 1 => View.ld x0 r0_4
  | 2 => View.ld x0 r0_8
  | 3 => View.ld x0 r0_12
  | 4 => View.ld x0 r0_16
  | 5 => View.ld x0 r0_20
  | 6 => View.ld x0 r0_24
  | 7 => View.ld x0 r0_28

def in1 (b : Fin 8) : Vec F S81x1x1000 .f32 := match b with
  | 0 => View.ld x1 r0_1
  | 1 => View.ld x1 r0_5
  | 2 => View.ld x1 r0_9
  | 3 => View.ld x1 r0_13
  | 4 => View.ld x1 r0_17
  | 5 => View.ld x1 r0_21
  | 6 => View.ld x1 r0_25
  | 7 => View.ld x1 r0_29

def in2 (b : Fin 8) : Vec F S1x81x4x1000 .f32 := match b with
  | 0 => View.ld x2 r0_2
  | 1 => View.ld x2 r0_6
  | 2 => View.ld x2 r0_10
  | 3 => View.ld x2 r0_14
  | 4 => View.ld x2 r0_18
  | 5 => View.ld x2 r0_22
  | 6 => View.ld x2 r0_26
  | 7 => View.ld x2 r0_30

end Inputs

/-- Eight slices, one for each image, as the kernel stores them. -/
abbrev pieces (p : Fin 8 → FVec F S1024 .f32) : List (View.Piece (Elt F) S8192 .f32) :=
  [⟨r0_31, p 7⟩, ⟨r0_27, p 6⟩, ⟨r0_23, p 5⟩, ⟨r0_19, p 4⟩, ⟨r0_15, p 3⟩, ⟨r0_11, p 2⟩, ⟨r0_7, p 1⟩, ⟨r0_3, p 0⟩]

/-- An image's slice of the scores, from its class scores. -/
def rowScore (v2 : Vec F S81x1x1000 .f32) : FVec F S1024 .f32 :=
  k0_pay23 (k0_pay7 v2) (k0_pay8 v2)

/-- An image's slice of the class numbers. -/
def rowClass (v2 : Vec F S81x1x1000 .f32) : FVec F S1024 .f32 :=
  k0_pay28 (k0_pay21 (F := F) (k0_pay8 v2)) (k0_pay22 (F := F))

/-- An image's slice of the top edges. -/
def rowTop (v0 : Vec F S1x4x1000 .f32) (v2 : Vec F S81x1x1000 .f32) (v4 : Vec F S1x81x4x1000 .f32) : FVec F S1024 .f32 :=
  k0_pay24 (k0_pay19 (k0_pay5 v0) (k0_pay9 v2 v4))

/-- An image's slice of the left edges. -/
def rowLeft (v0 : Vec F S1x4x1000 .f32) (v2 : Vec F S81x1x1000 .f32) (v4 : Vec F S1x81x4x1000 .f32) : FVec F S1024 .f32 :=
  k0_pay25 (Scalar.ofBits .f32 0x3F800000#32) (k0_pay20 (k0_pay5 v0) (k0_pay9 v2 v4))

/-- An image's slice of the bottom edges. -/
def rowBottom (v0 : Vec F S1x4x1000 .f32) (v2 : Vec F S81x1x1000 .f32) (v4 : Vec F S1x81x4x1000 .f32) : FVec F S1024 .f32 :=
  k0_pay26 (k0_pay15 (k0_pay5 v0) (k0_pay9 v2 v4)) (k0_pay17 (k0_pay5 v0) (k0_pay9 v2 v4))

/-- An image's slice of the right edges. -/
def rowRight (v0 : Vec F S1x4x1000 .f32) (v2 : Vec F S81x1x1000 .f32) (v4 : Vec F S1x81x4x1000 .f32) : FVec F S1024 .f32 :=
  k0_pay27 (k0_pay16 (k0_pay5 v0) (k0_pay9 v2 v4)) (k0_pay18 (k0_pay5 v0) (k0_pay9 v2 v4))

variable (x0 : Vec F S8x4x1000 .f32) (x1 : Vec F S81x8x1000 .f32) (x2 : Vec F S8x81x4x1000 .f32)

theorem out_score : out0_3 x0 x1 x2 = View.canon (pieces fun b => rowScore (in1 x1 b)) := rfl
theorem out_class : out0_8 x0 x1 x2 = View.canon (pieces fun b => rowClass (in1 x1 b)) := rfl
theorem out_top : out0_4 x0 x1 x2 = View.canon (pieces fun b => rowTop (in0 x0 b) (in1 x1 b) (in2 x2 b)) := rfl
theorem out_left : out0_5 x0 x1 x2 = View.canon (pieces fun b => rowLeft (in0 x0 b) (in1 x1 b) (in2 x2 b)) := rfl
theorem out_bottom : out0_6 x0 x1 x2 = View.canon (pieces fun b => rowBottom (in0 x0 b) (in1 x1 b) (in2 x2 b)) := rfl
theorem out_right : out0_7 x0 x1 x2 = View.canon (pieces fun b => rowRight (in0 x0 b) (in1 x1 b) (in2 x2 b)) := rfl

end Cert.Proof.DenseRow

end
-- ==== Proof.DensePick.lean ====
/-
  The class of the greatest score: the first one where several are as great. Both texts pick it.
-/
module

public import proofs.«01_k».proof.Proof.Gen.DenseReferenceIdeal
public import proofs.«01_k».proof.Proof.Words
public import Idealize.ShloMosaic.PureOps.Ideal.Laws
public import Idealize.ShloMosaic.PureOps.Reduce
public import Idealize.ShloMosaic.Lib.ValueIdxCore
public import Idealize.ShloMosaic.Lib.Pointwise.Reshape

@[expose] public section

set_option maxRecDepth 100000

noncomputable section

namespace Cert.Proof.DensePick

open Cert.DenseReferenceIdeal Cert.DenseReferenceIdeal.Gen
open Idealize.ShloMosaic hiding ix1 ix2 ix3 eq_ix1 eq_ix2 eq_ix3
open Idealize.ShloMosaic.ValueIdx

/-- Class `c` is the first of the greatest score. -/
def First (p : Fin 81 → EReal) (c : Fin 81) : Prop := ∀ d, p d < p c ∨ (p d = p c ∧ c ≤ d)

theorem first_unique {p : Fin 81 → EReal} {c d : Fin 81} (hc : First p c) (hd : First p d) : c = d := by
  rcases hc d with h | ⟨h, h'⟩ <;> rcases hd c with g | ⟨g, g'⟩
  · exact absurd (h.trans g) (lt_irrefl _)
  · exact absurd (g ▸ h) (lt_irrefl _)
  · exact absurd (h ▸ g) (lt_irrefl _)
  · exact le_antisymm h' g'

theorem first_exists (p : Fin 81 → EReal) : ∃ c, First p c := by
  obtain ⟨c, hc⟩ := Finite.exists_max p
  have hne : (Finset.univ.filter fun d => p d = p c).Nonempty := ⟨c, by simp⟩
  refine ⟨(Finset.univ.filter fun d => p d = p c).min' hne, fun d => ?_⟩
  have hm := Finset.min'_mem _ hne
  rw [Finset.mem_filter] at hm
  rw [hm.2]
  rcases lt_or_eq_of_le (hc d) with h | h
  · exact Or.inl h
  · exact Or.inr ⟨h, Finset.min'_le _ _ (by simp [h])⟩

/-- The first class of the greatest score. -/
def best (p : Fin 81 → EReal) : Fin 81 := (first_exists p).choose

theorem best_first (p : Fin 81 → EReal) : First p (best p) := (first_exists p).choose_spec

theorem best_max (p : Fin 81 → EReal) (d : Fin 81) : p d ≤ p (best p) := (best_first p d).elim le_of_lt fun h => le_of_eq h.1

/-- A fold which keeps one of its two arguments, and the one that precedes, ends at an element that precedes all. -/
theorem foldl_picks {β ι : Type} (f : β → β → β) (le : β → β → Prop) (hr : ∀ a, le a a) (ht : ∀ a b c, le a b → le b c → le a c)
    (hf : ∀ a b, (f a b = a ∨ f a b = b) ∧ le (f a b) a ∧ le (f a b) b) (x : ι → β) (l : List ι) (init : β) :
    (l.foldl (fun r i => f r (x i)) init = init ∨ ∃ i ∈ l, l.foldl (fun r i => f r (x i)) init = x i)
    ∧ le (l.foldl (fun r i => f r (x i)) init) init ∧ ∀ i ∈ l, le (l.foldl (fun r i => f r (x i)) init) (x i) := by
  induction l generalizing init with
  | nil => exact ⟨Or.inl rfl, hr _, fun i h => absurd h List.not_mem_nil⟩
  | cons a l ih =>
    obtain ⟨h1, h2, h3⟩ := ih (f init (x a))
    obtain ⟨g1, g2, g3⟩ := hf init (x a)
    rw [List.foldl_cons]
    refine ⟨?_, ht _ _ _ h2 g2, fun i hi => ?_⟩
    · rcases h1 with h1 | ⟨i, hi, h1⟩
      · rcases g1 with g1 | g1
        · exact Or.inl (h1.trans g1)
        · exact Or.inr ⟨a, List.mem_cons_self, h1.trans g1⟩
      · exact Or.inr ⟨i, List.mem_cons_of_mem _ hi, h1⟩
    · rcases List.mem_cons.mp hi with rfl | hi
      · exact ht _ _ _ h2 g3
      · exact h3 i hi

theorem toInt_ofNat (k : ℕ) (h : k < 1000) : (BitVec.ofNat 32 k).toInt = k := by
  rw [BitVec.toInt_eq_toNat_cond, BitVec.toNat_ofNat, Nat.mod_eq_of_lt (by omega), if_pos (by omega)]

section Column

variable {h : (⟨2, ![81, 1000]⟩ : Shape).Reduces [0] ⟨1, ![1000]⟩}

theorem drop_col (c : Fin 81) (n : Fin 1000) : h.drop (ix2 c n) = ix1 n := by
  funext a
  match a with
  | ⟨0, _⟩ => rfl

theorem col_of_drop (i : (⟨2, ![81, 1000]⟩ : Shape).Idx) (n : Fin 1000) (e : h.drop i = ix1 n) : i = ix2 (i 0) n := by
  rw [eq_ix2 i] at e ⊢
  have := congrFun ((drop_col (h := h) (i 0) (i 1)).symm.trans e) 0
  exact congrArg (ix2 (i 0)) this

variable {α : Type}

theorem fold_col (f : α → α → α) (le : α → α → Prop) (hr : ∀ a, le a a) (ht : ∀ a b c, le a b → le b c → le a c)
    (hf : ∀ a b, (f a b = a ∨ f a b = b) ∧ le (f a b) a ∧ le (f a b) b) (init : α) (x : (⟨2, ![81, 1000]⟩ : Shape).Idx → α) (n : Fin 1000) :
    (reduceFold h f init x (ix1 n) = init ∨ ∃ c, reduceFold h f init x (ix1 n) = x (ix2 c n))
    ∧ ∀ c, le (reduceFold h f init x (ix1 n)) (x (ix2 c n)) := by
  obtain ⟨h1, _, h3⟩ := foldl_picks f le hr ht hf (fun k => x ((⟨2, ![81, 1000]⟩ : Shape).rowMajor.symm k))
    ((List.finRange (⟨2, ![81, 1000]⟩ : Shape).numel).filter fun k => h.drop ((⟨2, ![81, 1000]⟩ : Shape).rowMajor.symm k) = ix1 n) init
  refine ⟨h1.imp id fun ⟨k, hk, e⟩ => ⟨_, e.trans (congrArg x (col_of_drop (h := h) _ n (of_decide_eq_true (List.mem_filter.mp hk).2)))⟩, fun c => ?_⟩
  have := h3 ((⟨2, ![81, 1000]⟩ : Shape).rowMajor (ix2 c n)) (List.mem_filter.mpr ⟨List.mem_finRange _, by
    rw [Equiv.symm_apply_apply]; exact decide_eq_true (drop_col c n)⟩)
  rwa [Equiv.symm_apply_apply] at this

theorem max_col (x : (⟨2, ![81, 1000]⟩ : Shape).Idx → EReal) (hφ hacc) (n : Fin 1000) :
    multiReduction (F := Ideal) (φ := .f32) .maximumf [0] ⟨1, ![1000]⟩ x 0xFF800000#32 h hφ hacc (ix1 n) = x (ix2 (best fun c => x (ix2 c n)) n) := by
  obtain ⟨h1, h2⟩ := fold_col (h := h) (FloatOps.maximumf (F := Ideal) (φ := .f32)) (fun a b : EReal => b ≤ a) (fun _ => le_rfl) (fun _ _ _ h h' => h'.trans h)
    (fun a b => ⟨max_choice a b, le_max_left a b, le_max_right a b⟩) (FloatOps.ofBits (F := Ideal) .f32 0xFF800000#32) x n
  have hb := best_max fun c => x (ix2 c n)
  refine le_antisymm ?_ (h2 _)
  rcases h1 with h1 | ⟨c, h1⟩
  · refine (le_of_eq h1).trans ?_
    have : FloatOps.ofBits (F := Ideal) .f32 0xFF800000#32 = (⊥ : EReal) := by
      show Ideal.ofBits .f32 0xFF800000#32 = ⊥
      simp [Ideal.ofBits, Ideal.ieee]
    rw [this]
    exact bot_le
  · exact (le_of_eq h1).trans (hb c)

theorem min_col (w : (⟨2, ![81, 1000]⟩ : Shape).Idx → BitVec 32) (hacc) (n : Fin 1000) (p : Fin 81 → EReal)
    (hw : ∀ c, w (ix2 c n) = if p c = p (best p) then BitVec.ofNat 32 c.val else 81#32) :
    multiReductionI .minsi [0] ⟨1, ![1000]⟩ w 2147483647#32 h hacc (ix1 n) = BitVec.ofNat 32 (best p).val := by
  obtain ⟨h1, h2⟩ := fold_col (h := h) IntOp.minsi (fun a b : BitVec 32 => a.toInt ≤ b.toInt) (fun _ => le_rfl) (fun _ _ _ h h' => h.trans h')
    (fun a b => by
      unfold IntOp.minsi
      by_cases hab : a.slt b = true
      · rw [if_pos hab]; exact ⟨Or.inl rfl, le_rfl, (BitVec.slt_iff_toInt_lt.mp hab).le⟩
      · rw [if_neg hab]; exact ⟨Or.inr rfl, not_lt.mp fun h => hab (BitVec.slt_iff_toInt_lt.mpr h), le_rfl⟩) 2147483647#32 w n
  have hk := h2 (best p)
  rw [hw, if_pos rfl, toInt_ofNat _ (by omega)] at hk
  rcases h1 with h1 | ⟨c, h1⟩
  · rw [h1] at hk
    exact absurd hk (by have := (best p).isLt; show ¬ ((2147483647 : ℤ) ≤ _); omega)
  · rw [h1] at hk
    rw [hw] at h1 hk
    by_cases hc : p c = p (best p)
    · rw [if_pos hc] at h1 hk
      rw [toInt_ofNat _ (by omega)] at hk
      refine h1.trans (congrArg _ ?_)
      rcases best_first p c with g | ⟨_, g⟩
      · exact absurd (hc ▸ g) (lt_irrefl _)
      · have : (best p).val ≤ c.val := g
        omega
    · rw [if_neg hc] at hk
      exact absurd hk (by have := (best p).isLt; show ¬ ((81 : ℤ) ≤ _); omega)

end Column

section Host

/-- One score and its class precede another: the greater, or the first of two as great. -/
def Before (a b : EReal × BitVec 32) : Prop := b.1 < a.1 ∨ (a.1 = b.1 ∧ a.2.toInt ≤ b.2.toInt)

theorem before_trans (a b c : EReal × BitVec 32) (h : Before a b) (g : Before b c) : Before a c := by
  rcases h with h | ⟨h, h'⟩ <;> rcases g with g | ⟨g, g'⟩
  · exact Or.inl (g.trans h)
  · exact Or.inl (g ▸ h)
  · exact Or.inl (h ▸ g)
  · exact Or.inr ⟨h.trans g, h'.trans g'⟩

theorem reducer_eq (a b : EReal × BitVec 32) :
    reducer_argmax_f32_i32 (F := Ideal) a b = if b.1 < a.1 ∨ (a.1 = b.1 ∧ a.2.toInt < b.2.toInt) then a else b := by
  have hn : FloatOps.cmpf (F := Ideal) (φ := .f32) .une a.1 a.1 = 0#1 := by
    show BitVec.ofBool _ = 0#1
    rw [decide_eq_false (fun h : a.1 ≠ a.1 => h rfl)]
    rfl
  unfold reducer_argmax_f32_i32
  dsimp only
  rw [hn]
  have h2 : FloatOps.cmpf (F := Ideal) (φ := .f32) .ogt a.1 b.1 = BitVec.ofBool (decide (b.1 < a.1)) := rfl
  have h5 : FloatOps.cmpf (F := Ideal) (φ := .f32) .oeq a.1 b.1 = BitVec.ofBool (decide (a.1 = b.1)) := rfl
  have h6 : IntOp.cmpi .slt a.2 b.2 = BitVec.ofBool (decide (a.2.toInt < b.2.toInt)) := rfl
  rw [h2, h5, h6]
  by_cases hl : b.1 < a.1
  · rw [if_pos (Or.inl hl), decide_eq_true hl, decide_eq_false (ne_of_gt hl)]
    cases decide (a.2.toInt < b.2.toInt) <;> rfl
  · by_cases he : a.1 = b.1
    · by_cases hs : a.2.toInt < b.2.toInt
      · rw [if_pos (Or.inr ⟨he, hs⟩), decide_eq_false hl, decide_eq_true he, decide_eq_true hs]
        exact Prod.ext he.symm rfl
      · rw [if_neg (by rintro (h | h); exacts [hl h, hs h.2]), decide_eq_false hl, decide_eq_true he, decide_eq_false hs]
        rfl
    · rw [if_neg (by rintro (h | h); exacts [hl h, he h.1]), decide_eq_false hl, decide_eq_false he]
      cases decide (a.2.toInt < b.2.toInt) <;> rfl

theorem reducer_picks (a b : EReal × BitVec 32) :
    (reducer_argmax_f32_i32 (F := Ideal) a b = a ∨ reducer_argmax_f32_i32 (F := Ideal) a b = b)
    ∧ Before (reducer_argmax_f32_i32 (F := Ideal) a b) a ∧ Before (reducer_argmax_f32_i32 (F := Ideal) a b) b := by
  rw [reducer_eq]
  split
  · rename_i h
    exact ⟨Or.inl rfl, Or.inr ⟨rfl, le_rfl⟩, h.imp id fun h => ⟨h.1, h.2.le⟩⟩
  · rename_i h
    rw [not_or, not_and, not_lt] at h
    refine ⟨Or.inr rfl, ?_, Or.inr ⟨rfl, le_rfl⟩⟩
    rcases lt_or_eq_of_le h.1 with g | g
    · exact Or.inl g
    · exact Or.inr ⟨g.symm, not_lt.mp (h.2 g)⟩

variable {h : (⟨3, ![8, 1000, 81]⟩ : Shape).ReducesTo [2] ⟨2, ![8, 1000]⟩}

theorem drop_row (b : Fin 8) (n : Fin 1000) (c : Fin 81) : h.drop (ix3 b n c) = ix2 b n := by
  funext a
  match a with
  | ⟨0, _⟩ => rfl
  | ⟨1, _⟩ => rfl

theorem row_of_drop (i : (⟨3, ![8, 1000, 81]⟩ : Shape).Idx) (b : Fin 8) (n : Fin 1000) (e : h.drop i = ix2 b n) : i = ix3 b n (i 2) := by
  rw [eq_ix3 i] at e ⊢
  have e' := (drop_row (h := h) (i 0) (i 1) (i 2)).symm.trans e
  have e0 : i 0 = b := congrFun e' 0
  have e1 : i 1 = n := congrFun e' 1
  rw [e0, e1]
  rfl

/-- The reference's class of the greatest score. -/
theorem argmax_at (x : (⟨3, ![8, 1000, 81]⟩ : Shape).Idx → EReal) (ix : (⟨0, ![]⟩ : Shape).Idx → EReal) (hu) (hix : ∀ j, ix j = ⊥) (b : Fin 8) (n : Fin 1000) :
    (Host.argReduce (F := Ideal) (φ := .f32) (reducer_argmax_f32_i32 (F := Ideal)) x (iotaInDim ⟨3, ![8, 1000, 81]⟩ 32 2) ix (constantI ⟨0, ![]⟩ 32 0#32) h hu (ix2 b n)).2
      = BitVec.ofNat 32 (best fun c => x (ix3 b n c)).val := by
  rw [Ideal.argReduce_eq_reduce2, Host.reduce2_eq_foldl_fiber, Host.argReduceFiber, List.foldl_map]
  obtain ⟨h1, h2, h3⟩ := foldl_picks (reducer_argmax_f32_i32 (F := Ideal)) Before (fun _ => Or.inr ⟨rfl, le_rfl⟩) before_trans reducer_picks
    (fun k => (x ((⟨3, ![8, 1000, 81]⟩ : Shape).rowMajor.symm k), iotaInDim ⟨3, ![8, 1000, 81]⟩ 32 2 ((⟨3, ![8, 1000, 81]⟩ : Shape).rowMajor.symm k)))
    ((List.finRange (⟨3, ![8, 1000, 81]⟩ : Shape).numel).filter fun k => h.drop ((⟨3, ![8, 1000, 81]⟩ : Shape).rowMajor.symm k) = ix2 b n)
    (ix (Shape.Idx.first hu), constantI ⟨0, ![]⟩ 32 0#32 (Shape.Idx.first hu))
  generalize List.foldl _ _ _ = r at h1 h2 h3 ⊢
  have key : ∀ c : Fin 81, Before r (x (ix3 b n c), BitVec.ofNat 32 c.val) := fun c => by
    have := h3 ((⟨3, ![8, 1000, 81]⟩ : Shape).rowMajor (ix3 b n c)) (List.mem_filter.mpr ⟨List.mem_finRange _, by
      rw [Equiv.symm_apply_apply]; exact decide_eq_true (drop_row b n c)⟩)
    rw [Equiv.symm_apply_apply] at this
    exact this
  have ex : ∃ c : Fin 81, r = (x (ix3 b n c), BitVec.ofNat 32 c.val) := by
    rcases h1 with h1 | ⟨k, hk, h1⟩
    · refine ⟨0, ?_⟩
      rw [hix] at h1
      rcases key 0 with g | ⟨g, _⟩
      · rw [h1] at g
        exact absurd g not_lt_bot
      · exact Prod.ext g ((congrArg Prod.snd h1).trans rfl)
    · have e := row_of_drop (h := h) _ b n (of_decide_eq_true (List.mem_filter.mp hk).2)
      rw [e] at h1
      exact ⟨_, h1⟩
  obtain ⟨c, rfl⟩ := ex
  have hF : First (fun c => x (ix3 b n c)) c := fun d => by
    rcases key d with g | ⟨g, g'⟩
    · exact Or.inl g
    · refine Or.inr ⟨g.symm, ?_⟩
      have g'' : (BitVec.ofNat 32 c.val).toInt ≤ (BitVec.ofNat 32 d.val).toInt := g'
      rw [toInt_ofNat _ (by omega), toInt_ofNat _ (by omega)] at g''
      show c.val ≤ d.val
      omega
  exact congrArg (fun c : Fin 81 => BitVec.ofNat 32 c.val) (first_unique hF (best_first _))

end Host

end Cert.Proof.DensePick

end
-- ==== Proof.DenseSpec.lean ====
/-
  What the dense call computes for one proposal: its first best class, that class's masked score, and the four edges of
  its box, moved and scaled by that class's deltas and clipped to the unit square.
-/
module

public import proofs.«01_k».proof.Proof.DensePick

@[expose] public section

noncomputable section

namespace Cert.Proof.DenseSpec

open Idealize.ShloMosaic hiding ix1 ix2 ix3 ix4 eq_ix1 eq_ix2 eq_ix3 eq_ix4
open Idealize.ShloMosaic.ValueIdx
open Cert.Proof.DensePick

abbrev lit (w : BitVec 32) : EReal := FloatOps.ofBits (F := Ideal) .f32 w

/-- The centre of the box along one axis, moved. -/
def mid (lo hi d : EReal) : EReal := (lo + lit 0x3F000000#32 * (hi - lo)) + (d * lit 0x3DCCCCCD#32) * (hi - lo)

/-- Its side along the axis, scaled. -/
def side (lo hi d : EReal) : EReal := (hi - lo) * FloatOps.exp (F := Ideal) (φ := .f32) (d * lit 0x3E4CCCCD#32)

/-- Clipped to the unit interval. -/
def clip (x : EReal) : EReal := min (lit 0x3F800000#32) (max (lit 0x00000000#32) x)

/-- The nearer edge along the axis. -/
def low (lo hi d e : EReal) : EReal := clip (mid lo hi d - lit 0x3F000000#32 * side lo hi e)

/-- The farther edge. -/
def high (lo hi d e : EReal) : EReal := clip (mid lo hi d + lit 0x3F000000#32 * side lo hi e)

/-- The best class's number, as a float. -/
def classOf (p : Fin 81 → EReal) : EReal := FloatOps.sitofp (F := Ideal) .f32 (BitVec.ofNat 32 (best p).val)

/-- The best class's score where it is not the background and the score is high enough, minus one elsewhere. -/
def scoreOf (p : Fin 81 → EReal) : EReal :=
  Scalar.select (IntOp.cmpi .sgt (BitVec.ofNat 32 (best p).val) 0#32 &&& FloatOps.cmpf (F := Ideal) (φ := .f32) .oge (p (best p)) (lit 0x3F333333#32))
    (p (best p)) (lit 0xBF800000#32)

/-- One value for each of the 8 x 1000 proposals, each image's thousand filled up to 1024 and the images end to end. -/
def laid (f : Fin 8 → Fin 1000 → EReal) (z : EReal) : (⟨1, ![8192]⟩ : Shape).Idx → EReal := fun y =>
  if h : (y 0).val % 1024 < 1000 then f ⟨(y 0).val / 1024, Nat.div_lt_of_lt_mul (y 0).isLt⟩ ⟨(y 0).val % 1024, h⟩ else z

abbrev Boxes := (⟨3, ![8, 1000, 4]⟩ : Shape).Idx → EReal
abbrev Probs := (⟨3, ![8, 1000, 81]⟩ : Shape).Idx → EReal
abbrev Deltas := (⟨4, ![8, 1000, 81, 4]⟩ : Shape).Idx → EReal

/-- A proposal's class scores. -/
def probs (A : Probs) (b : Fin 8) (n : Fin 1000) (c : Fin 81) : EReal := A (ix3 b n c)

/-- The best class's deltas. -/
def delta (A : Probs) (D : Deltas) (b : Fin 8) (n : Fin 1000) (i : Fin 4) : EReal := D (ix4 b n (best (probs A b n)) i)

def scores (A : Probs) := laid (fun b n => scoreOf (probs A b n)) (lit 0xBF800000#32)
def classes (A : Probs) := laid (fun b n => classOf (probs A b n)) (lit 0x00000000#32)
def tops (R : Boxes) (A : Probs) (D : Deltas) := laid (fun b n => low (R (ix3 b n 0)) (R (ix3 b n 2)) (delta A D b n 0) (delta A D b n 2)) (lit 0x00000000#32)
def lefts (R : Boxes) (A : Probs) (D : Deltas) := laid (fun b n => low (R (ix3 b n 1)) (R (ix3 b n 3)) (delta A D b n 1) (delta A D b n 3)) (lit 0x00000000#32)
def bottoms (R : Boxes) (A : Probs) (D : Deltas) := laid (fun b n => high (R (ix3 b n 0)) (R (ix3 b n 2)) (delta A D b n 0) (delta A D b n 2)) (lit 0x00000000#32)
def rights (R : Boxes) (A : Probs) (D : Deltas) := laid (fun b n => high (R (ix3 b n 1)) (R (ix3 b n 3)) (delta A D b n 1) (delta A D b n 3)) (lit 0x00000000#32)

end Cert.Proof.DenseSpec

end
-- ==== Proof.DenseKernel.lean ====
/-
  The dense call's slices, entry by entry.
-/
module

public import proofs.«01_k».proof.Proof.DenseRow
public import proofs.«01_k».proof.Proof.DenseSpec

@[expose] public section

set_option maxRecDepth 100000

noncomputable section

namespace Cert.Proof.DenseKernel

open Cert.DenseIdeal Cert.DenseIdeal.Gen Cert.Proof.DenseRow Cert.Proof.DensePick Cert.Proof.DenseSpec
open Idealize.ShloMosaic hiding ix1 ix2 ix3 ix4 eq_ix1 eq_ix2 eq_ix3 eq_ix4
open Idealize.ShloMosaic.ValueIdx

section Shapes

variable {α : Type}

theorem flat_at (x : S1x1000.Idx → α) (n : Fin 1000) : shapeCast S1000 x shapeCasts_S1x1000_S1000 (ix1 n) = x (ix2 0 n) := by
  unfold shapeCast
  exact congrArg x (Shape.reshapeEquiv_eq_of_vals _ _ _ _ _ (rowMajor_val2 _ 1000 rfl) (rowMajor_val1 _) (by
    show 0 * 1000 + n.val = n.val
    omega))

theorem row_at (x : S1000.Idx → α) (n : Fin 1000) : shapeCast S1x1000 x shapeCasts_S1000_S1x1000 (ix2 0 n) = x (ix1 n) := by
  unfold shapeCast
  exact congrArg x (Shape.reshapeEquiv_eq_of_vals _ _ _ _ _ (rowMajor_val1 _) (rowMajor_val2 _ 1000 rfl) (by
    show n.val = 0 * 1000 + n.val
    omega))

theorem score_at (x : S81x1x1000.Idx → α) (c : Fin 81) (n : Fin 1000) : shapeCast S81x1000 x shapeCasts_S81x1x1000_S81x1000 (ix2 c n) = x (ix3 c 0 n) := by
  unfold shapeCast
  exact congrArg x (Shape.reshapeEquiv_eq_of_vals _ _ _ _ _ (rowMajor_val3 _ 1000 1000 rfl rfl) (rowMajor_val2 _ 1000 rfl) (by
    show c.val * 1000 + 0 * 1000 + n.val = c.val * 1000 + n.val
    omega))

theorem mask_at (x : S81x1000.Idx → α) (c : Fin 81) (n : Fin 1000) : shapeCast S81x1x1000 x shapeCasts_S81x1000_S81x1x1000 (ix3 c 0 n) = x (ix2 c n) := by
  unfold shapeCast
  exact congrArg x (Shape.reshapeEquiv_eq_of_vals _ _ _ _ _ (rowMajor_val2 _ 1000 rfl) (rowMajor_val3 _ 1000 1000 rfl rfl) (by
    show c.val * 1000 + n.val = c.val * 1000 + 0 * 1000 + n.val
    omega))

theorem box_at (x : S1x4x1000.Idx → α) (i : Fin 4) (n : Fin 1000) : shapeCast S4x1000 x shapeCasts_S1x4x1000_S4x1000 (ix2 i n) = x (ix3 0 i n) := by
  unfold shapeCast
  exact congrArg x (Shape.reshapeEquiv_eq_of_vals _ _ _ _ _ (rowMajor_val3 _ 4000 1000 rfl rfl) (rowMajor_val2 _ 1000 rfl) (by
    show 0 * 4000 + i.val * 1000 + n.val = i.val * 1000 + n.val
    omega))

theorem delta_at (x : S1x81x4x1000.Idx → α) (c : Fin 81) (i : Fin 4) (n : Fin 1000) :
    shapeCast S81x4x1000 x shapeCasts_S1x81x4x1000_S81x4x1000 (ix3 c i n) = x (ix4 0 c i n) := by
  unfold shapeCast
  exact congrArg x (Shape.reshapeEquiv_eq_of_vals _ _ _ _ _ (rowMajor_val4 _ 324000 4000 1000 rfl rfl rfl) (rowMajor_val3 _ 4000 1000 rfl rfl) (by
    show 0 * 324000 + c.val * 4000 + i.val * 1000 + n.val = c.val * 4000 + i.val * 1000 + n.val
    omega))

theorem spread_at (x : S1x1000.Idx → α) (c : Fin 81) (n : Fin 1000) : broadcastTo S81x1000 x broadcasts_S1x1000_S81x1000 (ix2 c n) = x (ix2 0 n) := by
  unfold broadcastTo
  refine congrArg x (funext fun a => ?_)
  match a with
  | ⟨0, _⟩ => rfl
  | ⟨1, _⟩ => rfl

theorem over_at (x : S81x1x1000.Idx → α) (c : Fin 81) (i : Fin 4) (n : Fin 1000) :
    broadcastTo S81x4x1000 x broadcasts_S81x1x1000_S81x4x1000 (ix3 c i n) = x (ix3 c 0 n) := by
  unfold broadcastTo
  refine congrArg x (funext fun a => ?_)
  match a with
  | ⟨0, _⟩ => rfl
  | ⟨1, _⟩ => rfl
  | ⟨2, _⟩ => rfl

theorem slice_at {A B o : ℕ} (x : (⟨3, ![A, 4, 1000]⟩ : Shape).Idx → α) (h : (⟨3, ![A, 4, 1000]⟩ : Shape).Slices ![o, 0, 0] ⟨3, ![B, 4, 1000]⟩)
    (a : Fin B) (b : Fin A) (e : o + a.val = b.val) (i : Fin 4) (n : Fin 1000) :
    extractStridedSlice ⟨3, ![B, 4, 1000]⟩ ![o, 0, 0] x h (ix3 a i n) = x (ix3 b i n) := by
  unfold extractStridedSlice
  refine congrArg x (funext fun k => Fin.ext ?_)
  match k with
  | ⟨0, _⟩ => exact e
  | ⟨1, _⟩ => exact Nat.zero_add _
  | ⟨2, _⟩ => exact Nat.zero_add _

theorem line_at {o : ℕ} (x : S4x1000.Idx → α) (h : S4x1000.Slices ![o, 0] S1x1000) (i : Fin 4) (e : o = i.val) (n : Fin 1000) :
    extractStridedSlice S1x1000 ![o, 0] x h (ix2 0 n) = x (ix2 i n) := by
  unfold extractStridedSlice
  refine congrArg x (funext fun k => Fin.ext ?_)
  match k with
  | ⟨0, _⟩ => exact e
  | ⟨1, _⟩ => exact Nat.zero_add _

theorem join_first {B C : ℕ} (x : S1x4x1000.Idx → α) (y : (⟨3, ![B, 4, 1000]⟩ : Shape).Idx → α)
    (h : Shape.Concatenates [S1x4x1000, ⟨3, ![B, 4, 1000]⟩] ⟨3, ![C, 4, 1000]⟩ 0) (a : Fin C) (ha : a.val = 0) (i : Fin 4) (n : Fin 1000) :
    concatenate ⟨3, ![C, 4, 1000]⟩ 0 [⟨S1x4x1000, x⟩, ⟨⟨3, ![B, 4, 1000]⟩, y⟩] h (ix3 a i n) = x (ix3 0 i n) := by
  refine concatenate_apply_piece (t := ⟨3, ![C, 4, 1000]⟩) 0 [⟨S1x4x1000, x⟩, ⟨⟨3, ![B, 4, 1000]⟩, y⟩] h (ix3 a i n) 0 (Nat.zero_lt_succ _) S1x4x1000 x rfl rfl 0 rfl (ix3 0 i n) (fun b hb => ?_) ?_
  · match b with
    | ⟨0, _⟩ => exact absurd rfl hb
    | ⟨1, _⟩ => rfl
    | ⟨2, _⟩ => rfl
  · show 0 + 0 = a.val; omega

theorem join_rest {B C : ℕ} (x : S1x4x1000.Idx → α) (y : (⟨3, ![B, 4, 1000]⟩ : Shape).Idx → α)
    (h : Shape.Concatenates [S1x4x1000, ⟨3, ![B, 4, 1000]⟩] ⟨3, ![C, 4, 1000]⟩ 0) (a : Fin C) (b : Fin B) (ha : a.val = 1 + b.val) (i : Fin 4) (n : Fin 1000) :
    concatenate ⟨3, ![C, 4, 1000]⟩ 0 [⟨S1x4x1000, x⟩, ⟨⟨3, ![B, 4, 1000]⟩, y⟩] h (ix3 a i n) = y (ix3 b i n) := by
  refine concatenate_apply_piece (t := ⟨3, ![C, 4, 1000]⟩) 0 [⟨S1x4x1000, x⟩, ⟨⟨3, ![B, 4, 1000]⟩, y⟩] h (ix3 a i n) 1 (by show 1 < 2; omega) ⟨3, ![B, 4, 1000]⟩ y rfl rfl 1 rfl (ix3 b i n) (fun k hk => ?_) ?_
  · match k with
    | ⟨0, _⟩ => exact absurd rfl hk
    | ⟨1, _⟩ => rfl
    | ⟨2, _⟩ => rfl
  · show 1 + b.val = a.val; omega

/-- A slice: the thousand entries, then the fill. -/
theorem fill_at (x : S1x1000.Idx → α) (y : S24.Idx → α) (z : α) (hy : ∀ j, y j = z) (q : Fin 1024) :
    concatenate S1024 0 [⟨S1000, shapeCast S1000 x shapeCasts_S1x1000_S1000⟩, ⟨S24, y⟩] concatenates_S1000_S24_S1024_d0 (ix1 q)
      = if h : q.val < 1000 then x (ix2 0 ⟨q.val, h⟩) else z := by
  split
  · rename_i h
    refine (concatenate_apply_piece (t := S1024) 0 [⟨S1000, shapeCast S1000 x shapeCasts_S1x1000_S1000⟩, ⟨S24, y⟩] concatenates_S1000_S24_S1024_d0 (ix1 q) 0 (Nat.zero_lt_succ _)
      S1000 (shapeCast S1000 x shapeCasts_S1x1000_S1000) rfl rfl 0 rfl (ix1 ⟨q.val, h⟩) (fun b hb => ?_) ?_).trans (flat_at x _)
    · match b with
      | ⟨0, _⟩ => exact absurd rfl hb
    · show 0 + q.val = q.val; omega
  · rename_i h
    have hq : q.val - 1000 < 24 := by omega
    refine (concatenate_apply_piece (t := S1024) 0 [⟨S1000, shapeCast S1000 x shapeCasts_S1x1000_S1000⟩, ⟨S24, y⟩] concatenates_S1000_S24_S1024_d0 (ix1 q) 1 (by show 1 < 2; omega)
      S24 y rfl rfl 1000 rfl (ix1 ⟨q.val - 1000, hq⟩) (fun b hb => ?_) ?_).trans (hy _)
    · match b with
      | ⟨0, _⟩ => exact absurd rfl hb
    · show 1000 + (q.val - 1000) = q.val; omega

end Shapes

section Tree

/-- The order in which the kernel adds its 81 terms. -/
def tree40 (t : ℕ → EReal) (a : ℕ) : EReal := if a = 0 then (t 0 + t 40) + t 80 else t a + t (40 + a)
def tree20 (t : ℕ → EReal) (a : ℕ) : EReal := tree40 t a + tree40 t (20 + a)
def tree10 (t : ℕ → EReal) (a : ℕ) : EReal := tree20 t a + tree20 t (10 + a)
def tree5 (t : ℕ → EReal) (a : ℕ) : EReal := tree10 t a + tree10 t (5 + a)
def tree2 (t : ℕ → EReal) (a : ℕ) : EReal := tree5 t a + tree5 t (2 + a)
def tree1 (t : ℕ → EReal) : EReal := (tree2 t 0 + tree5 t 4) + tree2 t 1

theorem halve (f : ℕ → EReal) (n : ℕ) : ∑ a ∈ Finset.range n, (f a + f (n + a)) = ∑ a ∈ Finset.range (n + n), f a := by
  rw [Finset.sum_add_distrib, Finset.sum_range_add]

theorem tree_sum (t : ℕ → EReal) : tree1 t = ∑ a ∈ Finset.range 81, t a := by
  have h5 : tree1 t = ∑ a ∈ Finset.range 5, tree5 t a := by
    simp only [Finset.sum_range_succ, Finset.sum_range_zero, tree1, tree2]
    abel
  have h10 : ∑ a ∈ Finset.range 5, tree5 t a = ∑ a ∈ Finset.range 10, tree10 t a := halve _ 5
  have h20 : ∑ a ∈ Finset.range 10, tree10 t a = ∑ a ∈ Finset.range 20, tree20 t a := halve _ 10
  have h40 : ∑ a ∈ Finset.range 20, tree20 t a = ∑ a ∈ Finset.range 40, tree40 t a := halve _ 20
  have h80 : ∑ a ∈ Finset.range 40, (t a + t (40 + a)) = ∑ a ∈ Finset.range 80, t a := halve t 40
  rw [h5, h10, h20, h40, Finset.sum_range_succ t 80, ← h80, Finset.sum_range_succ' _ 39, Finset.sum_range_succ' _ 39]
  have : ∀ a ∈ Finset.range 39, tree40 t (a + 1) = t (a + 1) + t (40 + (a + 1)) := fun a _ => if_neg (by omega)
  rw [Finset.sum_congr rfl this, add_assoc _ (t 0 + t (40 + 0))]
  rfl

variable (T : FVec Ideal S81x4x1000 .f32)

/-- One entry's 81 terms. -/
def col (i : Fin 4) (n : Fin 1000) (c : ℕ) : EReal := if h : c < 81 then T (ix3 ⟨c, h⟩ i n) else 0

/-- The kernel's stages. -/
def st40' : FVec Ideal S40x4x1000 .f32 := addf (extractStridedSlice S40x4x1000 ![0, 0, 0] T slices_S81x4x1000_o0_0_0_S40x4x1000) (extractStridedSlice S40x4x1000 ![40, 0, 0] T slices_S81x4x1000_o40_0_0_S40x4x1000)
def st40 : FVec Ideal S40x4x1000 .f32 := concatenate S40x4x1000 0 [⟨S1x4x1000, addf (extractStridedSlice S1x4x1000 ![0, 0, 0] (st40' T) slices_S40x4x1000_o0_0_0_S1x4x1000) (extractStridedSlice S1x4x1000 ![80, 0, 0] T slices_S81x4x1000_o80_0_0_S1x4x1000)⟩,
  ⟨S39x4x1000, extractStridedSlice S39x4x1000 ![1, 0, 0] (st40' T) slices_S40x4x1000_o1_0_0_S39x4x1000⟩] concatenates_S1x4x1000_S39x4x1000_S40x4x1000_d0
def st20 : FVec Ideal S20x4x1000 .f32 := addf (extractStridedSlice S20x4x1000 ![0, 0, 0] (st40 T) slices_S40x4x1000_o0_0_0_S20x4x1000) (extractStridedSlice S20x4x1000 ![20, 0, 0] (st40 T) slices_S40x4x1000_o20_0_0_S20x4x1000)
def st10 : FVec Ideal S10x4x1000 .f32 := addf (extractStridedSlice S10x4x1000 ![0, 0, 0] (st20 T) slices_S20x4x1000_o0_0_0_S10x4x1000) (extractStridedSlice S10x4x1000 ![10, 0, 0] (st20 T) slices_S20x4x1000_o10_0_0_S10x4x1000)
def st5 : FVec Ideal S5x4x1000 .f32 := addf (extractStridedSlice S5x4x1000 ![0, 0, 0] (st10 T) slices_S10x4x1000_o0_0_0_S5x4x1000) (extractStridedSlice S5x4x1000 ![5, 0, 0] (st10 T) slices_S10x4x1000_o5_0_0_S5x4x1000)
def st2' : FVec Ideal S2x4x1000 .f32 := addf (extractStridedSlice S2x4x1000 ![0, 0, 0] (st5 T) slices_S5x4x1000_o0_0_0_S2x4x1000) (extractStridedSlice S2x4x1000 ![2, 0, 0] (st5 T) slices_S5x4x1000_o2_0_0_S2x4x1000)
def st2 : FVec Ideal S2x4x1000 .f32 := concatenate S2x4x1000 0 [⟨S1x4x1000, addf (extractStridedSlice S1x4x1000 ![0, 0, 0] (st2' T) slices_S2x4x1000_o0_0_0_S1x4x1000) (extractStridedSlice S1x4x1000 ![4, 0, 0] (st5 T) slices_S5x4x1000_o4_0_0_S1x4x1000)⟩,
  ⟨S1x4x1000, extractStridedSlice S1x4x1000 ![1, 0, 0] (st2' T) slices_S2x4x1000_o1_0_0_S1x4x1000⟩] concatenates_S1x4x1000_S1x4x1000_S2x4x1000_d0

variable (i : Fin 4) (n : Fin 1000)

theorem col_at (c : Fin 81) : col T i n c.val = T (ix3 c i n) := dif_pos c.isLt

theorem add_at {s : Shape} (x y : FVec Ideal s .f32) (j : s.Idx) (u v : EReal) (hx : x j = u) (hy : y j = v) : addf x y j = u + v := by
  show FloatOps.addf (x j) (y j) = _
  rw [hx, hy]
  rfl

theorem st40'_at (a : Fin 40) : st40' T (ix3 a i n) = col T i n a.val + col T i n (40 + a.val) :=
  add_at _ _ _ _ _ ((slice_at (o := 0) T _ a ⟨a.val, by omega⟩ (Nat.zero_add _) i n).trans (col_at T i n ⟨a.val, by omega⟩).symm)
    ((slice_at (o := 40) T _ a ⟨40 + a.val, by omega⟩ rfl i n).trans (col_at T i n ⟨40 + a.val, by omega⟩).symm)

theorem st40_at (a : Fin 40) : st40 T (ix3 a i n) = tree40 (col T i n) a.val := by
  unfold tree40
  split
  · rename_i h
    exact (join_first _ _ _ a h i n).trans (add_at _ _ _ _ _ ((slice_at (o := 0) _ _ 0 0 rfl i n).trans (st40'_at T i n 0))
      ((slice_at (o := 80) T _ 0 80 rfl i n).trans (col_at T i n 80).symm))
  · rename_i h
    exact (join_rest _ _ _ a ⟨a.val - 1, by omega⟩ (by show a.val = 1 + (a.val - 1); omega) i n).trans
      ((slice_at (o := 1) (st40' T) _ _ a (by show 1 + (a.val - 1) = a.val; omega) i n).trans (st40'_at T i n a))

theorem st20_at (a : Fin 20) : st20 T (ix3 a i n) = tree20 (col T i n) a.val :=
  add_at _ _ _ _ _ ((slice_at (o := 0) (st40 T) _ a ⟨a.val, by omega⟩ (Nat.zero_add _) i n).trans (st40_at T i n _))
    ((slice_at (o := 20) (st40 T) _ a ⟨20 + a.val, by omega⟩ rfl i n).trans (st40_at T i n _))

theorem st10_at (a : Fin 10) : st10 T (ix3 a i n) = tree10 (col T i n) a.val :=
  add_at _ _ _ _ _ ((slice_at (o := 0) (st20 T) _ a ⟨a.val, by omega⟩ (Nat.zero_add _) i n).trans (st20_at T i n _))
    ((slice_at (o := 10) (st20 T) _ a ⟨10 + a.val, by omega⟩ rfl i n).trans (st20_at T i n _))

theorem st5_at (a : Fin 5) : st5 T (ix3 a i n) = tree5 (col T i n) a.val :=
  add_at _ _ _ _ _ ((slice_at (o := 0) (st10 T) _ a ⟨a.val, by omega⟩ (Nat.zero_add _) i n).trans (st10_at T i n _))
    ((slice_at (o := 5) (st10 T) _ a ⟨5 + a.val, by omega⟩ rfl i n).trans (st10_at T i n _))

theorem st2'_at (a : Fin 2) : st2' T (ix3 a i n) = tree2 (col T i n) a.val :=
  add_at _ _ _ _ _ ((slice_at (o := 0) (st5 T) _ a ⟨a.val, by omega⟩ (Nat.zero_add _) i n).trans (st5_at T i n _))
    ((slice_at (o := 2) (st5 T) _ a ⟨2 + a.val, by omega⟩ rfl i n).trans (st5_at T i n _))

theorem sum_at : k0_pay10 (st2 T) (ix2 i n) = ∑ a ∈ Finset.range 81, col T i n a := by
  rw [← tree_sum]
  refine (box_at _ i n).trans (add_at _ _ _ _ _ ((slice_at (o := 0) (st2 T) _ 0 0 rfl i n).trans ?_) ((slice_at (o := 1) (st2 T) _ 0 1 rfl i n).trans ?_))
  · exact (join_first _ _ _ 0 rfl i n).trans (add_at _ _ _ _ _ ((slice_at (o := 0) (st2' T) _ 0 0 rfl i n).trans (st2'_at T i n 0))
      ((slice_at (o := 4) (st5 T) _ 0 4 rfl i n).trans (st5_at T i n 4)))
  · exact (join_rest _ _ _ 1 0 rfl i n).trans ((slice_at (o := 1) (st2' T) _ 0 1 rfl i n).trans (st2'_at T i n 1))

end Tree

section Rows

variable (v0 : Vec Ideal S1x4x1000 .f32) (v2 : Vec Ideal S81x1x1000 .f32) (v4 : Vec Ideal S1x81x4x1000 .f32) (n : Fin 1000)

/-- A proposal's class scores. -/
def prob (c : Fin 81) : EReal := v2 (ix3 c 0 n)

theorem probs_eq : (fun c => k0_pay6 v2 (ix2 c n)) = prob v2 n := funext fun c => score_at v2 c n

theorem pay7_at : k0_pay7 v2 (ix2 0 n) = prob v2 n (best (prob v2 n)) := by
  refine (row_at _ n).trans ((max_col (k0_pay6 v2) _ _ n).trans ?_)
  rw [probs_eq]
  exact score_at v2 _ n

theorem pay8_at : k0_pay8 v2 (ix2 0 n) = BitVec.ofNat 32 (best (prob v2 n)).val := by
  refine (row_at _ n).trans (min_col _ _ n (prob v2 n) fun c => ?_)
  show Scalar.select (FloatOps.cmpf (F := Ideal) (φ := .f32) .oeq (k0_pay6 v2 (ix2 c n)) (broadcastTo S81x1000 (k0_pay7 v2) broadcasts_S1x1000_S81x1000 (ix2 c n)))
    (BitVec.ofNat 32 (0 * 81 + c.val)) 81#32 = _
  rw [spread_at, pay7_at, show k0_pay6 v2 (ix2 c n) = prob v2 n c from score_at v2 c n]
  show Scalar.select (BitVec.ofBool (decide (prob v2 n c = prob v2 n (best (prob v2 n))))) _ _ = _
  rw [Nat.zero_mul, Nat.zero_add]
  split
  · rename_i h
    rw [decide_eq_true h]
    rfl
  · rename_i h
    rw [decide_eq_false h]
    rfl

/-- The deltas, every class's but the best one's made zero. -/
def masked : FVec Ideal S81x4x1000 .f32 :=
  mulf (shapeCast S81x4x1000 v4 shapeCasts_S1x81x4x1000_S81x4x1000) (broadcastTo S81x4x1000 (shapeCast S81x1x1000
    (sitofp .f32 (extui 32 (cmpi .eq (iota .tc S81x1000 32 [0] iota_S81x1000_d0_w32) (broadcastTo S81x1000 (k0_pay8 v2) broadcasts_S1x1000_S81x1000)) natLt_1_32))
    shapeCasts_S81x1000_S81x1x1000) broadcasts_S81x1x1000_S81x4x1000)

theorem pay9_eq : k0_pay9 v2 v4 = st2 (masked v2 v4) := rfl

theorem masked_at (c : Fin 81) (i : Fin 4) : masked v2 v4 (ix3 c i n) = if c = best (prob v2 n) then v4 (ix4 0 c i n) else 0 := by
  show FloatOps.mulf (F := Ideal) (φ := .f32) (shapeCast S81x4x1000 v4 shapeCasts_S1x81x4x1000_S81x4x1000 (ix3 c i n)) (broadcastTo S81x4x1000 (shapeCast S81x1x1000
    (sitofp (F := Ideal) .f32 (extui 32 (cmpi .eq (iota .tc S81x1000 32 [0] iota_S81x1000_d0_w32) (broadcastTo S81x1000 (k0_pay8 v2) broadcasts_S1x1000_S81x1000)) natLt_1_32))
    shapeCasts_S81x1000_S81x1x1000) broadcasts_S81x1x1000_S81x4x1000 (ix3 c i n)) = _
  rw [delta_at, over_at, mask_at]
  show v4 (ix4 0 c i n) * FloatOps.sitofp (F := Ideal) .f32 ((BitVec.ofBool (BitVec.ofNat 32 (0 * 81 + c.val) == broadcastTo S81x1000 (k0_pay8 v2) broadcasts_S1x1000_S81x1000 (ix2 c n))).setWidth 32) = _
  rw [spread_at, pay8_at, Nat.zero_mul, Nat.zero_add]
  split
  · rename_i h
    rw [h, beq_self_eq_true]
    have : FloatOps.sitofp (F := Ideal) .f32 ((BitVec.ofBool true).setWidth 32) = (1 : EReal) := by
      show (((((BitVec.ofBool true).setWidth 32).toInt : ℝ)) : EReal) = 1
      have : ((BitVec.ofBool true).setWidth 32).toInt = 1 := by decide
      rw [this]
      norm_num
    rw [this, mul_one]
  · rename_i h
    have hne : (BitVec.ofNat 32 c.val == BitVec.ofNat 32 (best (prob v2 n)).val) = false := by
      rw [beq_eq_false_iff_ne]
      intro e
      have e' := congrArg BitVec.toInt e
      rw [toInt_ofNat _ (by omega), toInt_ofNat _ (by omega)] at e'
      exact h (Fin.ext (by omega))
    rw [hne]
    have : FloatOps.sitofp (F := Ideal) .f32 ((BitVec.ofBool false).setWidth 32) = (0 : EReal) := by
      show (((((BitVec.ofBool false).setWidth 32).toInt : ℝ)) : EReal) = 0
      have : ((BitVec.ofBool false).setWidth 32).toInt = 0 := by decide
      rw [this]
      norm_num
    rw [this, mul_zero]

/-- The picked class's delta. -/
def delta (i : Fin 4) : EReal := v4 (ix4 0 (best (prob v2 n)) i n)

theorem pay10_at (i : Fin 4) : k0_pay10 (k0_pay9 v2 v4) (ix2 i n) = delta v2 v4 n i := by
  rw [pay9_eq, sum_at, Finset.sum_eq_single (best (prob v2 n)).val]
  · rw [col_at, masked_at, if_pos rfl]
    rfl
  · intro c _ hc
    unfold col
    split
    · rename_i h
      rw [masked_at, if_neg fun e => hc (congrArg Fin.val e)]
    · rfl
  · intro h
    exact absurd (Finset.mem_range.mpr (best (prob v2 n)).isLt) h

/-- A proposal's box. -/
def box (i : Fin 4) : EReal := v0 (ix3 0 i n)

theorem pay11_at : k0_pay11 (k0_pay5 v0) (ix2 0 n) = box v0 n 0 := (line_at (k0_pay5 v0) slices_S4x1000_o0_0_S1x1000 0 rfl n).trans (box_at v0 0 n)
theorem pay12_at : k0_pay12 (k0_pay5 v0) (ix2 0 n) = box v0 n 1 := (line_at (k0_pay5 v0) slices_S4x1000_o1_0_S1x1000 1 rfl n).trans (box_at v0 1 n)

theorem pay13_at : k0_pay13 (k0_pay5 v0) (ix2 0 n) = box v0 n 2 - box v0 n 0 := by
  show extractStridedSlice S1x1000 ![2, 0] (k0_pay5 v0) slices_S4x1000_o2_0_S1x1000 (ix2 0 n) - k0_pay11 (k0_pay5 v0) (ix2 0 n) = _
  rw [pay11_at, (line_at (k0_pay5 v0) slices_S4x1000_o2_0_S1x1000 2 rfl n).trans (box_at v0 2 n)]
  rfl

theorem pay14_at : k0_pay14 (k0_pay5 v0) (ix2 0 n) = box v0 n 3 - box v0 n 1 := by
  show extractStridedSlice S1x1000 ![3, 0] (k0_pay5 v0) slices_S4x1000_o3_0_S1x1000 (ix2 0 n) - k0_pay12 (k0_pay5 v0) (ix2 0 n) = _
  rw [pay12_at, (line_at (k0_pay5 v0) slices_S4x1000_o3_0_S1x1000 3 rfl n).trans (box_at v0 3 n)]
  rfl

theorem pay15_at : k0_pay15 (k0_pay5 v0) (k0_pay9 v2 v4) (ix2 0 n) = mid (box v0 n 0) (box v0 n 2) (delta v2 v4 n 0) := by
  show (k0_pay11 (k0_pay5 v0) (ix2 0 n) + lit 0x3F000000#32 * k0_pay13 (k0_pay5 v0) (ix2 0 n))
    + (extractStridedSlice S1x1000 ![0, 0] (k0_pay10 (k0_pay9 v2 v4)) slices_S4x1000_o0_0_S1x1000 (ix2 0 n) * lit 0x3DCCCCCD#32) * k0_pay13 (k0_pay5 v0) (ix2 0 n) = _
  rw [pay11_at, pay13_at, line_at (k0_pay10 (k0_pay9 v2 v4)) slices_S4x1000_o0_0_S1x1000 0 rfl n, pay10_at]
  rfl

theorem pay16_at : k0_pay16 (k0_pay5 v0) (k0_pay9 v2 v4) (ix2 0 n) = mid (box v0 n 1) (box v0 n 3) (delta v2 v4 n 1) := by
  show (k0_pay12 (k0_pay5 v0) (ix2 0 n) + lit 0x3F000000#32 * k0_pay14 (k0_pay5 v0) (ix2 0 n))
    + (extractStridedSlice S1x1000 ![1, 0] (k0_pay10 (k0_pay9 v2 v4)) slices_S4x1000_o1_0_S1x1000 (ix2 0 n) * lit 0x3DCCCCCD#32) * k0_pay14 (k0_pay5 v0) (ix2 0 n) = _
  rw [pay12_at, pay14_at, line_at (k0_pay10 (k0_pay9 v2 v4)) slices_S4x1000_o1_0_S1x1000 1 rfl n, pay10_at]
  rfl

theorem pay17_at : k0_pay17 (k0_pay5 v0) (k0_pay9 v2 v4) (ix2 0 n) = side (box v0 n 0) (box v0 n 2) (delta v2 v4 n 2) := by
  show k0_pay13 (k0_pay5 v0) (ix2 0 n) * FloatOps.exp (F := Ideal) (φ := .f32)
    (extractStridedSlice S1x1000 ![2, 0] (k0_pay10 (k0_pay9 v2 v4)) slices_S4x1000_o2_0_S1x1000 (ix2 0 n) * lit 0x3E4CCCCD#32) = _
  rw [pay13_at, line_at (k0_pay10 (k0_pay9 v2 v4)) slices_S4x1000_o2_0_S1x1000 2 rfl n, pay10_at]
  rfl

theorem pay18_at : k0_pay18 (k0_pay5 v0) (k0_pay9 v2 v4) (ix2 0 n) = side (box v0 n 1) (box v0 n 3) (delta v2 v4 n 3) := by
  show k0_pay14 (k0_pay5 v0) (ix2 0 n) * FloatOps.exp (F := Ideal) (φ := .f32)
    (extractStridedSlice S1x1000 ![3, 0] (k0_pay10 (k0_pay9 v2 v4)) slices_S4x1000_o3_0_S1x1000 (ix2 0 n) * lit 0x3E4CCCCD#32) = _
  rw [pay14_at, line_at (k0_pay10 (k0_pay9 v2 v4)) slices_S4x1000_o3_0_S1x1000 3 rfl n, pay10_at]
  rfl

variable (q : Fin 1024)

theorem rowScore_at : rowScore v2 (ix1 q) = if h : q.val < 1000 then scoreOf (prob v2 ⟨q.val, h⟩) else lit 0xBF800000#32 := by
  refine (fill_at _ _ (lit 0xBF800000#32) (fun _ => rfl) q).trans ?_
  split
  · rename_i h
    show Scalar.select (IntOp.cmpi .sgt (k0_pay8 v2 (ix2 0 ⟨q.val, h⟩)) 0#32 &&& FloatOps.cmpf (F := Ideal) (φ := .f32) .oge (k0_pay7 v2 (ix2 0 ⟨q.val, h⟩)) (lit 0x3F333333#32))
      (k0_pay7 v2 (ix2 0 ⟨q.val, h⟩)) (lit 0xBF800000#32) = _
    rw [pay7_at, pay8_at]
    rfl
  · rfl

theorem rowClass_at : rowClass v2 (ix1 q) = if h : q.val < 1000 then classOf (prob v2 ⟨q.val, h⟩) else lit 0x00000000#32 := by
  refine (fill_at _ _ (lit 0x00000000#32) (fun _ => rfl) q).trans ?_
  split
  · rename_i h
    show FloatOps.sitofp (F := Ideal) .f32 (k0_pay8 v2 (ix2 0 ⟨q.val, h⟩)) = _
    rw [pay8_at]
    rfl
  · rfl

theorem rowTop_at : rowTop v0 v2 v4 (ix1 q) = if h : q.val < 1000 then low (box v0 ⟨q.val, h⟩ 0) (box v0 ⟨q.val, h⟩ 2) (delta v2 v4 ⟨q.val, h⟩ 0) (delta v2 v4 ⟨q.val, h⟩ 2) else lit 0x00000000#32 := by
  refine (fill_at _ _ (lit 0x00000000#32) (fun _ => rfl) q).trans ?_
  split
  · rename_i h
    show clip (k0_pay15 (k0_pay5 v0) (k0_pay9 v2 v4) (ix2 0 ⟨q.val, h⟩) - lit 0x3F000000#32 * k0_pay17 (k0_pay5 v0) (k0_pay9 v2 v4) (ix2 0 ⟨q.val, h⟩)) = _
    rw [pay15_at, pay17_at]
    rfl
  · rfl

theorem rowLeft_at : rowLeft v0 v2 v4 (ix1 q) = if h : q.val < 1000 then low (box v0 ⟨q.val, h⟩ 1) (box v0 ⟨q.val, h⟩ 3) (delta v2 v4 ⟨q.val, h⟩ 1) (delta v2 v4 ⟨q.val, h⟩ 3) else lit 0x00000000#32 := by
  refine (fill_at _ _ (lit 0x00000000#32) (fun _ => rfl) q).trans ?_
  split
  · rename_i h
    show clip (k0_pay16 (k0_pay5 v0) (k0_pay9 v2 v4) (ix2 0 ⟨q.val, h⟩) - lit 0x3F000000#32 * k0_pay18 (k0_pay5 v0) (k0_pay9 v2 v4) (ix2 0 ⟨q.val, h⟩)) = _
    rw [pay16_at, pay18_at]
    rfl
  · rfl

theorem rowBottom_at : rowBottom v0 v2 v4 (ix1 q) = if h : q.val < 1000 then high (box v0 ⟨q.val, h⟩ 0) (box v0 ⟨q.val, h⟩ 2) (delta v2 v4 ⟨q.val, h⟩ 0) (delta v2 v4 ⟨q.val, h⟩ 2) else lit 0x00000000#32 := by
  refine (fill_at _ _ (lit 0x00000000#32) (fun _ => rfl) q).trans ?_
  split
  · rename_i h
    show clip (k0_pay15 (k0_pay5 v0) (k0_pay9 v2 v4) (ix2 0 ⟨q.val, h⟩) + lit 0x3F000000#32 * k0_pay17 (k0_pay5 v0) (k0_pay9 v2 v4) (ix2 0 ⟨q.val, h⟩)) = _
    rw [pay15_at, pay17_at]
    rfl
  · rfl

theorem rowRight_at : rowRight v0 v2 v4 (ix1 q) = if h : q.val < 1000 then high (box v0 ⟨q.val, h⟩ 1) (box v0 ⟨q.val, h⟩ 3) (delta v2 v4 ⟨q.val, h⟩ 1) (delta v2 v4 ⟨q.val, h⟩ 3) else lit 0x00000000#32 := by
  refine (fill_at _ _ (lit 0x00000000#32) (fun _ => rfl) q).trans ?_
  split
  · rename_i h
    show clip (k0_pay16 (k0_pay5 v0) (k0_pay9 v2 v4) (ix2 0 ⟨q.val, h⟩) + lit 0x3F000000#32 * k0_pay18 (k0_pay5 v0) (k0_pay9 v2 v4) (ix2 0 ⟨q.val, h⟩)) = _
    rw [pay16_at, pay18_at]
    rfl
  · rfl

end Rows

end Cert.Proof.DenseKernel

end
-- ==== Proof.DenseArray.lean ====
/-
  The dense call's six results, as arrays of the arguments.
-/
module

public import proofs.«01_k».proof.Proof.DenseKernel
public import Idealize.ShloMosaic.Lib.Pipeline.ValueKit.Geometry
public import Idealize.ShloMosaic.Lib.StableHlo.RunRead

@[expose] public section

set_option maxRecDepth 100000

noncomputable section

namespace Cert.Proof.DenseArray

open Cert.DenseIdeal Cert.DenseIdeal.Gen Cert.Proof.DenseRow Cert.Proof.DensePick Cert.Proof.DenseSpec Cert.Proof.DenseKernel
open Idealize.ShloMosaic hiding ix1 ix2 ix3 ix4 eq_ix1 eq_ix2 eq_ix3 eq_ix4
open Idealize.ShloMosaic.ValueIdx Idealize.ShloMosaic.TcCoe
open Idealize.SL.Sem

section Pieces

variable (R : Fin 8 → FVec Ideal S1024 .f32)

/-- Eight slices laid end to end. -/
def ends : S8192.Idx → EReal := fun y => R ⟨(y 0).val / 1024, Nat.div_lt_of_lt_mul (y 0).isLt⟩ (ix1 ⟨(y 0).val % 1024, Nat.mod_lt _ (by omega)⟩)

theorem piece_at (b : Fin 8) (o : ℕ) (ho : o = 1024 * b.val) (inb : ∀ a, (![o] : Fin 1 → ℕ) a + S1024.size a ≤ S8192.size a) (x : S1024.Idx) :
    R b x = ends R ((Rect.unit (s := S8192) ![o] S1024.size inb).emb x) := by
  have hx : (x 0).val < 1024 := (x 0).isLt
  have he : ((Rect.unit (s := S8192) ![o] S1024.size inb).emb x 0).val = 1024 * b.val + (x 0).val := by
    subst ho
    exact congrArg (1024 * b.val + ·) (Nat.one_mul (x 0).val)
  unfold ends
  have hd : (⟨((Rect.unit (s := S8192) ![o] S1024.size inb).emb x 0).val / 1024, Nat.div_lt_of_lt_mul ((Rect.unit (s := S8192) ![o] S1024.size inb).emb x 0).isLt⟩ : Fin 8) = b :=
    Fin.ext (by show ((Rect.unit (s := S8192) ![o] S1024.size inb).emb x 0).val / 1024 = b.val; rw [he]; omega)
  have hm : (⟨((Rect.unit (s := S8192) ![o] S1024.size inb).emb x 0).val % 1024, Nat.mod_lt _ (by omega)⟩ : Fin 1024) = x 0 :=
    Fin.ext (by show ((Rect.unit (s := S8192) ![o] S1024.size inb).emb x 0).val % 1024 = (x 0).val; rw [he]; omega)
  rw [hd, hm]
  exact congrArg (R b) (eq_ix1 x)

theorem canon_ends (y : S8192.Idx) : View.canon (pieces R) y = ends R y := by
  refine View.canon_apply_of_pieces (Val := Elt Ideal) (ends R) _ (fun p hp x => ?_) y (cover0_3 _ _ _ _ _ _ _ _ y)
  simp only [List.mem_cons, List.not_mem_nil, or_false] at hp
  rcases hp with rfl | rfl | rfl | rfl | rfl | rfl | rfl | rfl
  · exact piece_at R 7 7168 rfl inb_S8192_S1024_7168 x
  · exact piece_at R 6 6144 rfl inb_S8192_S1024_6144 x
  · exact piece_at R 5 5120 rfl inb_S8192_S1024_5120 x
  · exact piece_at R 4 4096 rfl inb_S8192_S1024_4096 x
  · exact piece_at R 3 3072 rfl inb_S8192_S1024_3072 x
  · exact piece_at R 2 2048 rfl inb_S8192_S1024_2048 x
  · exact piece_at R 1 1024 rfl inb_S8192_S1024_1024 x
  · exact piece_at R 0 0 rfl inb_S8192_S1024_0 x

theorem ends_eq (f : Fin 8 → Fin 1000 → EReal) (z : EReal) (h : ∀ b q, R b (ix1 q) = if h : q.val < 1000 then f b ⟨q.val, h⟩ else z) (y : S8192.Idx) : ends R y = laid f z y :=
  h _ _

end Pieces

section Loads

variable (x0 : Vec Ideal S8x4x1000 .f32) (x1 : Vec Ideal S81x8x1000 .f32) (x2 : Vec Ideal S8x81x4x1000 .f32)

/-- Image `b`'s boxes, class scores and deltas. -/
def ld0 (b : Fin 8) : Vec Ideal S1x4x1000 .f32 := fun j => x0 (ix3 b (j 1) (j 2))
def ld1 (b : Fin 8) : Vec Ideal S81x1x1000 .f32 := fun j => x1 (ix3 (j 0) b (j 2))
def ld2 (b : Fin 8) : Vec Ideal S1x81x4x1000 .f32 := fun j => x2 (ix4 b (j 1) (j 2) (j 3))

theorem ld0_eq (b : Fin 8) (inb : ∀ a, (![b.val, 0, 0] : Fin 3 → ℕ) a + S1x4x1000.size a ≤ S8x4x1000.size a) :
    View.ld x0 (Rect.unit (s := S8x4x1000) ![b.val, 0, 0] S1x4x1000.size inb) = ld0 x0 b := by
  rw [View.ld_unit]
  funext j
  refine congrArg x0 (funext fun a => Fin.ext ?_)
  match a with
  | ⟨0, _⟩ =>
    have : (j 0).val < 1 := (j 0).isLt
    show b.val + (j 0).val = b.val
    omega
  | ⟨1, _⟩ => exact Nat.zero_add _
  | ⟨2, _⟩ => exact Nat.zero_add _

theorem ld1_eq (b : Fin 8) (inb : ∀ a, (![0, b.val, 0] : Fin 3 → ℕ) a + S81x1x1000.size a ≤ S81x8x1000.size a) :
    View.ld x1 (Rect.unit (s := S81x8x1000) ![0, b.val, 0] S81x1x1000.size inb) = ld1 x1 b := by
  rw [View.ld_unit]
  funext j
  refine congrArg x1 (funext fun a => Fin.ext ?_)
  match a with
  | ⟨0, _⟩ => exact Nat.zero_add _
  | ⟨1, _⟩ =>
    have : (j 1).val < 1 := (j 1).isLt
    show b.val + (j 1).val = b.val
    omega
  | ⟨2, _⟩ => exact Nat.zero_add _

theorem ld2_eq (b : Fin 8) (inb : ∀ a, (![b.val, 0, 0, 0] : Fin 4 → ℕ) a + S1x81x4x1000.size a ≤ S8x81x4x1000.size a) :
    View.ld x2 (Rect.unit (s := S8x81x4x1000) ![b.val, 0, 0, 0] S1x81x4x1000.size inb) = ld2 x2 b := by
  rw [View.ld_unit]
  funext j
  refine congrArg x2 (funext fun a => Fin.ext ?_)
  match a with
  | ⟨0, _⟩ =>
    have : (j 0).val < 1 := (j 0).isLt
    show b.val + (j 0).val = b.val
    omega
  | ⟨1, _⟩ => exact Nat.zero_add _
  | ⟨2, _⟩ => exact Nat.zero_add _
  | ⟨3, _⟩ => exact Nat.zero_add _

theorem in0_eq : in0 x0 = ld0 x0 := funext fun b => match b with
  | 0 => ld0_eq x0 0 _
  | 1 => ld0_eq x0 1 _
  | 2 => ld0_eq x0 2 _
  | 3 => ld0_eq x0 3 _
  | 4 => ld0_eq x0 4 _
  | 5 => ld0_eq x0 5 _
  | 6 => ld0_eq x0 6 _
  | 7 => ld0_eq x0 7 _

theorem in1_eq : in1 x1 = ld1 x1 := funext fun b => match b with
  | 0 => ld1_eq x1 0 _
  | 1 => ld1_eq x1 1 _
  | 2 => ld1_eq x1 2 _
  | 3 => ld1_eq x1 3 _
  | 4 => ld1_eq x1 4 _
  | 5 => ld1_eq x1 5 _
  | 6 => ld1_eq x1 6 _
  | 7 => ld1_eq x1 7 _

theorem in2_eq : in2 x2 = ld2 x2 := funext fun b => match b with
  | 0 => ld2_eq x2 0 _
  | 1 => ld2_eq x2 1 _
  | 2 => ld2_eq x2 2 _
  | 3 => ld2_eq x2 3 _
  | 4 => ld2_eq x2 4 _
  | 5 => ld2_eq x2 5 _
  | 6 => ld2_eq x2 6 _
  | 7 => ld2_eq x2 7 _

theorem score_ends (y : S8192.Idx) : out0_3 x0 x1 x2 y = ends (fun b => rowScore (ld1 x1 b)) y := by
  rw [out_score, in1_eq]
  exact canon_ends _ y

theorem class_ends (y : S8192.Idx) : out0_8 x0 x1 x2 y = ends (fun b => rowClass (ld1 x1 b)) y := by
  rw [out_class, in1_eq]
  exact canon_ends _ y

theorem top_ends (y : S8192.Idx) : out0_4 x0 x1 x2 y = ends (fun b => rowTop (ld0 x0 b) (ld1 x1 b) (ld2 x2 b)) y := by
  rw [out_top, in0_eq, in1_eq, in2_eq]
  exact canon_ends _ y

theorem left_ends (y : S8192.Idx) : out0_5 x0 x1 x2 y = ends (fun b => rowLeft (ld0 x0 b) (ld1 x1 b) (ld2 x2 b)) y := by
  rw [out_left, in0_eq, in1_eq, in2_eq]
  exact canon_ends _ y

theorem bottom_ends (y : S8192.Idx) : out0_6 x0 x1 x2 y = ends (fun b => rowBottom (ld0 x0 b) (ld1 x1 b) (ld2 x2 b)) y := by
  rw [out_bottom, in0_eq, in1_eq, in2_eq]
  exact canon_ends _ y

theorem right_ends (y : S8192.Idx) : out0_7 x0 x1 x2 y = ends (fun b => rowRight (ld0 x0 b) (ld1 x1 b) (ld2 x2 b)) y := by
  rw [out_right, in0_eq, in1_eq, in2_eq]
  exact canon_ends _ y

end Loads

section Arrays

variable (m : (ℓ : Loc nD τ sig) → Buf (Elt Ideal) ℓ) (c : Dev nD)

abbrev A0 : Boxes := m ((c : Thread nD τ).loc main_arg0)
abbrev A1 : Probs := m ((c : Thread nD τ).loc main_arg1)
abbrev A2 : Deltas := m ((c : Thread nD τ).loc main_arg2)

theorem v0_eq : V m c main_v0 = (transpose S8x4x1000 [0, 2, 1] (A0 m c) transposes_S8x1000x4_S8x4x1000_0_2_1 : S8x4x1000.Idx → EReal) := by
  show StableHlo.after hostOps0 _ _ = _
  after_reads_simp

theorem v1_eq : V m c main_v1 = (transpose S81x8x1000 [2, 0, 1] (A1 m c) transposes_S8x1000x81_S81x8x1000_2_0_1 : S81x8x1000.Idx → EReal) := by
  show StableHlo.after hostOps0 _ _ = _
  after_reads_simp

theorem v2_eq : V m c main_v2 = (transpose S8x81x4x1000 [0, 2, 3, 1] (A2 m c) transposes_S8x1000x81x4_S8x81x4x1000_0_2_3_1 : S8x81x4x1000.Idx → EReal) := by
  show StableHlo.after hostOps0 _ _ = _
  after_reads_simp

theorem blk0_at (t : Fin cfg0.N) (b : Fin 8) (i : Fin 4) (n : Fin 1000) : iblk m c 0 t (ix3 b i n) = A0 m c (ix3 b n i) := by
  have e : iblk m c 0 t (ix3 b i n) = V m c main_v0 (ix3 b i n) :=
    congrArg (V m c main_v0) (funext fun a => Fin.ext (Pipeline.Window.rect_emb_val_of_index_zero win0_0 t a rfl (ix3 b i n)))
  rw [e, v0_eq]
  refine congrArg (A0 m c) (funext fun a => ?_)
  match a with
  | ⟨0, _⟩ => rfl
  | ⟨1, _⟩ => rfl
  | ⟨2, _⟩ => rfl

theorem blk1_at (t : Fin cfg0.N) (b : Fin 8) (k : Fin 81) (n : Fin 1000) : iblk m c 1 t (ix3 k b n) = A1 m c (ix3 b n k) := by
  have e : iblk m c 1 t (ix3 k b n) = V m c main_v1 (ix3 k b n) :=
    congrArg (V m c main_v1) (funext fun a => Fin.ext (Pipeline.Window.rect_emb_val_of_index_zero win0_1 t a rfl (ix3 k b n)))
  rw [e, v1_eq]
  refine congrArg (A1 m c) (funext fun a => ?_)
  match a with
  | ⟨0, _⟩ => rfl
  | ⟨1, _⟩ => rfl
  | ⟨2, _⟩ => rfl

theorem blk2_at (t : Fin cfg0.N) (b : Fin 8) (k : Fin 81) (i : Fin 4) (n : Fin 1000) : iblk m c 2 t (ix4 b k i n) = A2 m c (ix4 b n k i) := by
  have e : iblk m c 2 t (ix4 b k i n) = V m c main_v2 (ix4 b k i n) :=
    congrArg (V m c main_v2) (funext fun a => Fin.ext (Pipeline.Window.rect_emb_val_of_index_zero win0_2 t a rfl (ix4 b k i n)))
  rw [e, v2_eq]
  refine congrArg (A2 m c) (funext fun a => ?_)
  match a with
  | ⟨0, _⟩ => rfl
  | ⟨1, _⟩ => rfl
  | ⟨2, _⟩ => rfl
  | ⟨3, _⟩ => rfl

theorem prob_eq (t : Fin cfg0.N) (b : Fin 8) (n : Fin 1000) : prob (ld1 (iblk m c 1 t) b) n = probs (A1 m c) b n := funext fun k => blk1_at m c t b k n

theorem box_eq (t : Fin cfg0.N) (b : Fin 8) (n : Fin 1000) (i : Fin 4) : box (ld0 (iblk m c 0 t) b) n i = A0 m c (ix3 b n i) := blk0_at m c t b i n

theorem delta_eq (t : Fin cfg0.N) (b : Fin 8) (n : Fin 1000) (i : Fin 4) :
    DenseKernel.delta (ld1 (iblk m c 1 t) b) (ld2 (iblk m c 2 t) b) n i = DenseSpec.delta (A1 m c) (A2 m c) b n i := by
  unfold DenseKernel.delta DenseSpec.delta
  rw [prob_eq]
  exact blk2_at m c t b _ i n

theorem one_point : 0 < cfg0.N := by decide

theorem final_score : (dats m 0 c).arrAt 3 cfg0.N = scores (A1 m c) := by
  refine Pipeline.Dat.arrAt_eq_of_after_last (dats m 0 c) 3 ⟨0, one_point⟩ (by decide +kernel) _ (fun j => ?_)
  show (dats m 0 c).after 3 ⟨0, one_point⟩ j = scores (A1 m c) j
  rw [after0_3, score_ends]
  refine ends_eq _ _ _ (fun b q => ?_) j
  rw [rowScore_at]
  split
  · rw [prob_eq]
  · rfl

theorem final_class : (dats m 0 c).arrAt 8 cfg0.N = classes (A1 m c) := by
  refine Pipeline.Dat.arrAt_eq_of_after_last (dats m 0 c) 8 ⟨0, one_point⟩ (by decide +kernel) _ (fun j => ?_)
  show (dats m 0 c).after 8 ⟨0, one_point⟩ j = classes (A1 m c) j
  rw [after0_8, class_ends]
  refine ends_eq _ _ _ (fun b q => ?_) j
  rw [rowClass_at]
  split
  · rw [prob_eq]
  · rfl

theorem final_top : (dats m 0 c).arrAt 4 cfg0.N = tops (A0 m c) (A1 m c) (A2 m c) := by
  refine Pipeline.Dat.arrAt_eq_of_after_last (dats m 0 c) 4 ⟨0, one_point⟩ (by decide +kernel) _ (fun j => ?_)
  show (dats m 0 c).after 4 ⟨0, one_point⟩ j = tops (A0 m c) (A1 m c) (A2 m c) j
  rw [after0_4, top_ends]
  refine ends_eq _ _ _ (fun b q => ?_) j
  rw [rowTop_at]
  split
  · rw [box_eq, box_eq, delta_eq, delta_eq]
  · rfl

theorem final_left : (dats m 0 c).arrAt 5 cfg0.N = lefts (A0 m c) (A1 m c) (A2 m c) := by
  refine Pipeline.Dat.arrAt_eq_of_after_last (dats m 0 c) 5 ⟨0, one_point⟩ (by decide +kernel) _ (fun j => ?_)
  show (dats m 0 c).after 5 ⟨0, one_point⟩ j = lefts (A0 m c) (A1 m c) (A2 m c) j
  rw [after0_5, left_ends]
  refine ends_eq _ _ _ (fun b q => ?_) j
  rw [rowLeft_at]
  split
  · rw [box_eq, box_eq, delta_eq, delta_eq]
  · rfl

theorem final_bottom : (dats m 0 c).arrAt 6 cfg0.N = bottoms (A0 m c) (A1 m c) (A2 m c) := by
  refine Pipeline.Dat.arrAt_eq_of_after_last (dats m 0 c) 6 ⟨0, one_point⟩ (by decide +kernel) _ (fun j => ?_)
  show (dats m 0 c).after 6 ⟨0, one_point⟩ j = bottoms (A0 m c) (A1 m c) (A2 m c) j
  rw [after0_6, bottom_ends]
  refine ends_eq _ _ _ (fun b q => ?_) j
  rw [rowBottom_at]
  split
  · rw [box_eq, box_eq, delta_eq, delta_eq]
  · rfl

theorem final_right : (dats m 0 c).arrAt 7 cfg0.N = rights (A0 m c) (A1 m c) (A2 m c) := by
  refine Pipeline.Dat.arrAt_eq_of_after_last (dats m 0 c) 7 ⟨0, one_point⟩ (by decide +kernel) _ (fun j => ?_)
  show (dats m 0 c).after 7 ⟨0, one_point⟩ j = rights (A0 m c) (A1 m c) (A2 m c) j
  rw [after0_7, right_ends]
  refine ends_eq _ _ _ (fun b q => ?_) j
  rw [rowRight_at]
  split
  · rw [box_eq, box_eq, delta_eq, delta_eq]
  · rfl

end Arrays

end Cert.Proof.DenseArray

end
-- ==== Proof.DenseRun.lean ====
/-
  The dense call's reference, run: a straight line of operations, in seven stretches.
-/
module

public import proofs.«01_k».proof.Proof.Gen.DenseReferenceIdeal
public import Idealize.ShloMosaic.Lib.StableHlo.Run
public import Idealize.ShloMosaic.Lib.StableHlo.RunRead
public import Idealize.ShloMosaic.Lib.Quiescent

@[expose] public section

set_option maxRecDepth 100000

noncomputable section

namespace Cert.Proof.DenseRun

open Cert.DenseReferenceIdeal Cert.DenseReferenceIdeal.Gen
open Idealize.ShloMosaic Idealize.ShloMosaic.StableHlo
open Idealize.SL.Sem

variable {F : FTy → Type} [FloatOps F]

/-- An array, and a buffer of it. -/
abbrev Arr (F : FTy → Type) (s : Shape) (e : EltTy) := (⟨s, e⟩ : BufTy).Contents (Elt F)
abbrev At (s : Shape) (e : EltTy) := StableHlo.TRef sig ⟨s, e⟩
abbrev R0 := At S_ .f32
abbrev RW := At S_ .i32
abbrev RA := At S8x1000 .f32
abbrev RI := At S8x1000x1x1 .i32

/-- Operations on one value a proposal, the cut of one column, and a constant spread. -/
abbrev Op2 (F : FTy → Type) := Arr F S8x1000 .f32 → Arr F S8x1000 .f32 → Arr F S8x1000 .f32
abbrev Cut (F : FTy → Type) := Arr F S8x1000x4 .f32 → Arr F S8x1000x1 .f32
abbrev Fill (F : FTy → Type) := Arr F S_ .f32 → Arr F S8x1000 .f32
abbrev spread {α : Type} (x : S_.Idx → α) : S8x1000.Idx → α := broadcastInDim S8x1000 ![] bcast_S_S8x1000 x
abbrev filled {α : Type} (x : S8x1000.Idx → α) (v : S_.Idx → α) : S8x1024.Idx → α := pad S8x1024 ![0, 0] ![0, 24] ![0, 0] x v pads_S8x1000_S8x1024_000_0240 h_S_
theorem same : (.f32 : EltTy) = .f32 := rfl

/-- The class of the greatest score. -/
abbrev pickOps : List (HloOp τ sig (Elt F)) :=
  [ nullary main_cst (fun i => FloatOps.ofBits .f32 (lit0 (S4.rowMajor i))),
    TRef.nullary (.of main_call0_v0 : At S8x1000x81 .i32) (iotaInDim S8x1000x81 32 2),
    TRef.nullary (.of main_call0_cst : R0) (constant S_ .f32 0xFF800000#32),
    TRef.nullary (.of main_call0_c : RW) (constantI S_ 32 0#32),
    TRef.quaternary (.of main_arg1 : At S8x1000x81 .f32) (.of main_call0_v0 : At S8x1000x81 .i32) (.of main_call0_cst : R0) (.of main_call0_c : RW) (.of main_call0_v1_0 : RA) (fun x y u v j => (Host.argReduce reducer_argmax_f32_i32 x y u v reducesTo_S8x1000x81_S8x1000_d2 h_S_ j).1),
    TRef.quaternary (.of main_arg1 : At S8x1000x81 .f32) (.of main_call0_v0 : At S8x1000x81 .i32) (.of main_call0_cst : R0) (.of main_call0_c : RW) (.of main_v0 : At S8x1000 .i32) (fun x y u v j => (Host.argReduce reducer_argmax_f32_i32 x y u v reducesTo_S8x1000x81_S8x1000_d2 h_S_ j).2) ]

/-- What they write. -/
abbrev pickOpsW : List (Ref sig .tc) := [main_cst, main_call0_v0, main_call0_cst, main_call0_c, main_call0_v1_0, main_v0]

/-- The picked class's score. -/
abbrev takeOps : List (HloOp τ sig (Elt F)) :=
  [ unary main_v0 main_v1 (broadcastInDim S8x1000x1 ![0, 1] bcast_S8x1000_S8x1000x1_0_1 : Arr F S8x1000 .i32 → Arr F S8x1000x1 .i32),
    TRef.nullary (.of main_call1_c : RW) (constantI S_ 32 0#32),
    TRef.unary (.of main_call1_c : RW) (.of main_call1_v0 : At S8x1000x1 .i32) (broadcastInDim S8x1000x1 ![] bcast_S_S8x1000x1),
    TRef.binary (.of main_v1 : At S8x1000x1 .i32) (.of main_call1_v0 : At S8x1000x1 .i32) (.of main_call1_v1 : At S8x1000x1 .i1) (cmpi .slt),
    TRef.nullary (.of main_call1_c_0 : RW) (constantI S_ 32 81#32),
    TRef.unary (.of main_call1_c_0 : RW) (.of main_call1_v2 : At S8x1000x1 .i32) (broadcastInDim S8x1000x1 ![] bcast_S_S8x1000x1),
    TRef.binary (.of main_v1 : At S8x1000x1 .i32) (.of main_call1_v2 : At S8x1000x1 .i32) (.of main_call1_v3 : At S8x1000x1 .i32) addi,
    TRef.ternary (.of main_call1_v1 : At S8x1000x1 .i1) (.of main_call1_v3 : At S8x1000x1 .i32) (.of main_v1 : At S8x1000x1 .i32) (.of main_call1_v4 : At S8x1000x1 .i32) select,
    TRef.reshape (.of main_call1_v4 : At S8x1000x1 .i32) (.of main_call1_v5 : RI) (rfl : (.i32 : EltTy) = .i32) shapeCasts_S8x1000x1_S8x1000x1x1,
    TRef.nullary (.of main_call1_c_1 : At S1 .i32) (constantI S1 32 80#32),
    TRef.nullary (.of main_call1_c_2 : RW) (constantI S_ 32 0#32),
    TRef.unary (.of main_call1_c_2 : RW) (.of main_call1_v6 : RI) (broadcastInDim S8x1000x1x1 ![] bcast_S_S8x1000x1x1),
    TRef.binary (.of main_call1_v5 : RI) (.of main_call1_v6 : RI) (.of main_call1_v7 : At S8x1000x1x1 .i1) (cmpi .sge),
    TRef.unary (.of main_call1_c_1 : At S1 .i32) (.of main_call1_v8 : At S1x1x1x1 .i32) (broadcastInDim S1x1x1x1 ![3] bcast_S1_S1x1x1x1_3),
    TRef.unary (.of main_call1_v8 : At S1x1x1x1 .i32) (.of main_call1_v9 : RI) (broadcastInDim S8x1000x1x1 ![0, 1, 2, 3] bcast_S1x1x1x1_S8x1000x1x1_0_1_2_3),
    TRef.binary (.of main_call1_v5 : RI) (.of main_call1_v9 : RI) (.of main_call1_v10 : At S8x1000x1x1 .i1) (cmpi .sle),
    TRef.binary (.of main_call1_v7 : At S8x1000x1x1 .i1) (.of main_call1_v10 : At S8x1000x1x1 .i1) (.of main_call1_v11 : At S8x1000x1x1 .i1) andi,
    TRef.nullary (.of main_call1_c_3 : At S_ .i1) (constantI S_ 1 1#1),
    TRef.binary (.of main_call1_v11 : At S8x1000x1x1 .i1) (.of main_call1_c_3 : At S_ .i1) (.of main_call1_v12 : At S8x1000x1 .i1) (fun x v => Host.reduce IntOp.andi x v reducesTo_S8x1000x1x1_S8x1000x1_d3 h_S_),
    TRef.binary (.of main_arg1 : At S8x1000x81 .f32) (.of main_call1_v5 : RI) (.of main_call1_v13 : At S8x1000x1 .f32) (fun x i => Host.gather gather_S8x1000x81_S8x1000x1x1_S8x1000x1_n_2_01_01_2_3_111 x i),
    TRef.nullary (.of main_call1_cst : R0) (constant S_ .f32 0x7FC00000#32),
    TRef.unary (.of main_call1_cst : R0) (.of main_call1_v14 : At S8x1000x1 .f32) (broadcastInDim S8x1000x1 ![] bcast_S_S8x1000x1),
    TRef.ternary (.of main_call1_v12 : At S8x1000x1 .i1) (.of main_call1_v13 : At S8x1000x1 .f32) (.of main_call1_v14 : At S8x1000x1 .f32) (.of main_v2 : At S8x1000x1 .f32) select ]

/-- What they write. -/
abbrev takeOpsW : List (Ref sig .tc) := [main_v1, main_call1_c, main_call1_v0, main_call1_v1, main_call1_c_0, main_call1_v2, main_call1_v3, main_call1_v4, main_call1_v5, main_call1_c_1, main_call1_c_2, main_call1_v6, main_call1_v7, main_call1_v8, main_call1_v9, main_call1_v10, main_call1_v11, main_call1_c_3, main_call1_v12, main_call1_v13, main_call1_cst, main_call1_v14, main_v2]

/-- The picked class's deltas. -/
abbrev deltaOps : List (HloOp τ sig (Elt F)) :=
  [ reshape main_v2 main_v3 same shapeCasts_S8x1000x1_S8x1000,
    unary main_v0 main_v4 (broadcastInDim S8x1000x1x1 ![0, 1] bcast_S8x1000_S8x1000x1x1_0_1 : Arr F S8x1000 .i32 → Arr F S8x1000x1x1 .i32),
    TRef.nullary (.of main_call2_c : RW) (constantI S_ 32 0#32),
    TRef.unary (.of main_call2_c : RW) (.of main_call2_v0 : RI) (broadcastInDim S8x1000x1x1 ![] bcast_S_S8x1000x1x1),
    TRef.binary (.of main_v4 : RI) (.of main_call2_v0 : RI) (.of main_call2_v1 : At S8x1000x1x1 .i1) (cmpi .slt),
    TRef.nullary (.of main_call2_c_0 : RW) (constantI S_ 32 81#32),
    TRef.unary (.of main_call2_c_0 : RW) (.of main_call2_v2 : RI) (broadcastInDim S8x1000x1x1 ![] bcast_S_S8x1000x1x1),
    TRef.binary (.of main_v4 : RI) (.of main_call2_v2 : RI) (.of main_call2_v3 : RI) addi,
    TRef.ternary (.of main_call2_v1 : At S8x1000x1x1 .i1) (.of main_call2_v3 : RI) (.of main_v4 : RI) (.of main_call2_v4 : RI) select,
    TRef.nullary (.of main_call2_c_1 : At S1 .i32) (constantI S1 32 80#32),
    TRef.nullary (.of main_call2_c_2 : RW) (constantI S_ 32 0#32),
    TRef.unary (.of main_call2_c_2 : RW) (.of main_call2_v5 : RI) (broadcastInDim S8x1000x1x1 ![] bcast_S_S8x1000x1x1),
    TRef.binary (.of main_call2_v4 : RI) (.of main_call2_v5 : RI) (.of main_call2_v6 : At S8x1000x1x1 .i1) (cmpi .sge),
    TRef.unary (.of main_call2_c_1 : At S1 .i32) (.of main_call2_v7 : At S1x1x1x1 .i32) (broadcastInDim S1x1x1x1 ![3] bcast_S1_S1x1x1x1_3),
    TRef.unary (.of main_call2_v7 : At S1x1x1x1 .i32) (.of main_call2_v8 : RI) (broadcastInDim S8x1000x1x1 ![0, 1, 2, 3] bcast_S1x1x1x1_S8x1000x1x1_0_1_2_3),
    TRef.binary (.of main_call2_v4 : RI) (.of main_call2_v8 : RI) (.of main_call2_v9 : At S8x1000x1x1 .i1) (cmpi .sle),
    TRef.binary (.of main_call2_v6 : At S8x1000x1x1 .i1) (.of main_call2_v9 : At S8x1000x1x1 .i1) (.of main_call2_v10 : At S8x1000x1x1 .i1) andi,
    TRef.nullary (.of main_call2_c_3 : At S_ .i1) (constantI S_ 1 1#1),
    TRef.binary (.of main_call2_v10 : At S8x1000x1x1 .i1) (.of main_call2_c_3 : At S_ .i1) (.of main_call2_v11 : At S8x1000x1 .i1) (fun x v => Host.reduce IntOp.andi x v reducesTo_S8x1000x1x1_S8x1000x1_d3 h_S_),
    TRef.binary (.of main_arg2 : At S8x1000x81x4 .f32) (.of main_call2_v4 : RI) (.of main_call2_v12 : At S8x1000x1x4 .f32) (fun x i => Host.gather gather_S8x1000x81x4_S8x1000x1x1_S8x1000x1x4_3_2_01_01_2_3_1114 x i),
    TRef.unary (.of main_call2_v11 : At S8x1000x1 .i1) (.of main_call2_v13 : At S8x1000x1x4 .i1) (broadcastInDim S8x1000x1x4 ![0, 1, 2] bcast_S8x1000x1_S8x1000x1x4_0_1_2),
    TRef.nullary (.of main_call2_cst : R0) (constant S_ .f32 0x7FC00000#32),
    TRef.unary (.of main_call2_cst : R0) (.of main_call2_v14 : At S8x1000x1x4 .f32) (broadcastInDim S8x1000x1x4 ![] bcast_S_S8x1000x1x4),
    TRef.ternary (.of main_call2_v13 : At S8x1000x1x4 .i1) (.of main_call2_v12 : At S8x1000x1x4 .f32) (.of main_call2_v14 : At S8x1000x1x4 .f32) (.of main_v5 : At S8x1000x1x4 .f32) select ]

/-- What they write. -/
abbrev deltaOpsW : List (Ref sig .tc) := [main_v3, main_v4, main_call2_c, main_call2_v0, main_call2_v1, main_call2_c_0, main_call2_v2, main_call2_v3, main_call2_v4, main_call2_c_1, main_call2_c_2, main_call2_v5, main_call2_v6, main_call2_v7, main_call2_v8, main_call2_v9, main_call2_v10, main_call2_c_3, main_call2_v11, main_call2_v12, main_call2_v13, main_call2_cst, main_call2_v14, main_v5]

/-- The boxes moved and scaled. -/
abbrev decodeOps : List (HloOp τ sig (Elt F)) :=
  [ reshape main_v5 main_v6 same shapeCasts_S8x1000x1x4_S8x1000x4,
    unary main_cst main_v7 (broadcastInDim S1x1x4 ![2] bcast_S4_S1x1x4_2 : Arr F S4 .f32 → Arr F S1x1x4 .f32),
    unary main_v7 main_v8 (broadcastInDim S8x1000x4 ![0, 1, 2] bcast_S1x1x4_S8x1000x4_0_1_2 : Arr F S1x1x4 .f32 → Arr F S8x1000x4 .f32),
    binary main_v6 main_v8 main_v9 (mulf : Arr F S8x1000x4 .f32 → Arr F S8x1000x4 .f32 → Arr F S8x1000x4 .f32),
    unary main_arg0 main_v10 ((extractStridedSlice S8x1000x1 ![0, 0, 2] · slices_S8x1000x4_S8x1000x1_0_0_2) : Cut F),
    reshape main_v10 main_v11 same shapeCasts_S8x1000x1_S8x1000,
    unary main_arg0 main_v12 ((extractStridedSlice S8x1000x1 ![0, 0, 0] · slices_S8x1000x4_S8x1000x1_0_0_0) : Cut F),
    reshape main_v12 main_v13 same shapeCasts_S8x1000x1_S8x1000,
    binary main_v11 main_v13 main_v14 (subf : Op2 F),
    unary main_arg0 main_v15 ((extractStridedSlice S8x1000x1 ![0, 0, 3] · slices_S8x1000x4_S8x1000x1_0_0_3) : Cut F),
    reshape main_v15 main_v16 same shapeCasts_S8x1000x1_S8x1000,
    unary main_arg0 main_v17 ((extractStridedSlice S8x1000x1 ![0, 0, 1] · slices_S8x1000x4_S8x1000x1_0_0_1) : Cut F),
    reshape main_v17 main_v18 same shapeCasts_S8x1000x1_S8x1000,
    binary main_v16 main_v18 main_v19 (subf : Op2 F),
    unary main_arg0 main_v20 ((extractStridedSlice S8x1000x1 ![0, 0, 0] · slices_S8x1000x4_S8x1000x1_0_0_0) : Cut F),
    reshape main_v20 main_v21 same shapeCasts_S8x1000x1_S8x1000,
    nullary main_cst_0 (constant S_ .f32 0x3F000000#32),
    unary main_cst_0 main_v22 (spread : Fill F),
    binary main_v22 main_v14 main_v23 (mulf : Op2 F),
    binary main_v21 main_v23 main_v24 (addf : Op2 F),
    unary main_arg0 main_v25 ((extractStridedSlice S8x1000x1 ![0, 0, 1] · slices_S8x1000x4_S8x1000x1_0_0_1) : Cut F),
    reshape main_v25 main_v26 same shapeCasts_S8x1000x1_S8x1000,
    nullary main_cst_1 (constant S_ .f32 0x3F000000#32),
    unary main_cst_1 main_v27 (spread : Fill F),
    binary main_v27 main_v19 main_v28 (mulf : Op2 F),
    binary main_v26 main_v28 main_v29 (addf : Op2 F),
    unary main_v9 main_v30 ((extractStridedSlice S8x1000x1 ![0, 0, 0] · slices_S8x1000x4_S8x1000x1_0_0_0) : Cut F),
    reshape main_v30 main_v31 same shapeCasts_S8x1000x1_S8x1000,
    binary main_v31 main_v14 main_v32 (mulf : Op2 F),
    binary main_v24 main_v32 main_v33 (addf : Op2 F),
    unary main_v9 main_v34 ((extractStridedSlice S8x1000x1 ![0, 0, 1] · slices_S8x1000x4_S8x1000x1_0_0_1) : Cut F),
    reshape main_v34 main_v35 same shapeCasts_S8x1000x1_S8x1000,
    binary main_v35 main_v19 main_v36 (mulf : Op2 F),
    binary main_v29 main_v36 main_v37 (addf : Op2 F),
    unary main_v9 main_v38 ((extractStridedSlice S8x1000x1 ![0, 0, 2] · slices_S8x1000x4_S8x1000x1_0_0_2) : Cut F),
    reshape main_v38 main_v39 same shapeCasts_S8x1000x1_S8x1000,
    unary main_v39 main_v40 (Host.exp : Arr F S8x1000 .f32 → Arr F S8x1000 .f32),
    binary main_v14 main_v40 main_v41 (mulf : Op2 F),
    unary main_v9 main_v42 ((extractStridedSlice S8x1000x1 ![0, 0, 3] · slices_S8x1000x4_S8x1000x1_0_0_3) : Cut F),
    reshape main_v42 main_v43 same shapeCasts_S8x1000x1_S8x1000,
    unary main_v43 main_v44 (Host.exp : Arr F S8x1000 .f32 → Arr F S8x1000 .f32),
    binary main_v19 main_v44 main_v45 (mulf : Op2 F),
    nullary main_cst_2 (constant S_ .f32 0x3F000000#32),
    unary main_cst_2 main_v46 (spread : Fill F),
    binary main_v46 main_v41 main_v47 (mulf : Op2 F),
    binary main_v33 main_v47 main_v48 (subf : Op2 F),
    nullary main_cst_3 (constant S_ .f32 0x3F000000#32),
    unary main_cst_3 main_v49 (spread : Fill F),
    binary main_v49 main_v45 main_v50 (mulf : Op2 F),
    binary main_v37 main_v50 main_v51 (subf : Op2 F),
    nullary main_cst_4 (constant S_ .f32 0x3F000000#32),
    unary main_cst_4 main_v52 (spread : Fill F),
    binary main_v52 main_v41 main_v53 (mulf : Op2 F),
    binary main_v33 main_v53 main_v54 (addf : Op2 F),
    nullary main_cst_5 (constant S_ .f32 0x3F000000#32),
    unary main_cst_5 main_v55 (spread : Fill F),
    binary main_v55 main_v45 main_v56 (mulf : Op2 F),
    binary main_v37 main_v56 main_v57 (addf : Op2 F),
    nullary main_cst_6 (constant S_ .f32 0x00000000#32),
    nullary main_cst_7 (constant S_ .f32 0x3F800000#32) ]

/-- What they write. -/
abbrev decodeOpsW : List (Ref sig .tc) := [main_v6, main_v7, main_v8, main_v9, main_v10, main_v11, main_v12, main_v13, main_v14, main_v15, main_v16, main_v17, main_v18, main_v19, main_v20, main_v21, main_cst_0, main_v22, main_v23, main_v24, main_v25, main_v26, main_cst_1, main_v27, main_v28, main_v29, main_v30, main_v31, main_v32, main_v33, main_v34, main_v35, main_v36, main_v37, main_v38, main_v39, main_v40, main_v41, main_v42, main_v43, main_v44, main_v45, main_cst_2, main_v46, main_v47, main_v48, main_cst_3, main_v49, main_v50, main_v51, main_cst_4, main_v52, main_v53, main_v54, main_cst_5, main_v55, main_v56, main_v57, main_cst_6, main_cst_7]

/-- The edges clipped to the unit square. -/
abbrev clipOps : List (HloOp τ sig (Elt F)) :=
  [ TRef.unary (.of main_cst_6 : R0) (.of main_call3_v0 : R0) id,
    TRef.unary (.of main_call3_v0 : R0) (.of main_call3_v1 : RA) spread,
    TRef.binary (.of main_call3_v1 : RA) (.of main_v48 : RA) (.of main_call3_v2 : RA) maximumf,
    TRef.unary (.of main_cst_7 : R0) (.of main_call3_v3 : R0) id,
    TRef.unary (.of main_call3_v3 : R0) (.of main_call3_v4 : RA) spread,
    TRef.binary (.of main_call3_v4 : RA) (.of main_call3_v2 : RA) (.of main_v58 : RA) minimumf,
    nullary main_cst_8 (constant S_ .f32 0x00000000#32),
    nullary main_cst_9 (constant S_ .f32 0x3F800000#32),
    TRef.unary (.of main_cst_8 : R0) (.of main_call4_v0 : R0) id,
    TRef.unary (.of main_call4_v0 : R0) (.of main_call4_v1 : RA) spread,
    TRef.binary (.of main_call4_v1 : RA) (.of main_v51 : RA) (.of main_call4_v2 : RA) maximumf,
    TRef.unary (.of main_cst_9 : R0) (.of main_call4_v3 : R0) id,
    TRef.unary (.of main_call4_v3 : R0) (.of main_call4_v4 : RA) spread,
    TRef.binary (.of main_call4_v4 : RA) (.of main_call4_v2 : RA) (.of main_v59 : RA) minimumf,
    nullary main_cst_10 (constant S_ .f32 0x00000000#32),
    nullary main_cst_11 (constant S_ .f32 0x3F800000#32),
    TRef.unary (.of main_cst_10 : R0) (.of main_call5_v0 : R0) id,
    TRef.unary (.of main_call5_v0 : R0) (.of main_call5_v1 : RA) spread,
    TRef.binary (.of main_call5_v1 : RA) (.of main_v54 : RA) (.of main_call5_v2 : RA) maximumf,
    TRef.unary (.of main_cst_11 : R0) (.of main_call5_v3 : R0) id,
    TRef.unary (.of main_call5_v3 : R0) (.of main_call5_v4 : RA) spread,
    TRef.binary (.of main_call5_v4 : RA) (.of main_call5_v2 : RA) (.of main_v60 : RA) minimumf,
    nullary main_cst_12 (constant S_ .f32 0x00000000#32),
    nullary main_cst_13 (constant S_ .f32 0x3F800000#32),
    TRef.unary (.of main_cst_12 : R0) (.of main_call6_v0 : R0) id,
    TRef.unary (.of main_call6_v0 : R0) (.of main_call6_v1 : RA) spread,
    TRef.binary (.of main_call6_v1 : RA) (.of main_v57 : RA) (.of main_call6_v2 : RA) maximumf,
    TRef.unary (.of main_cst_13 : R0) (.of main_call6_v3 : R0) id,
    TRef.unary (.of main_call6_v3 : R0) (.of main_call6_v4 : RA) spread,
    TRef.binary (.of main_call6_v4 : RA) (.of main_call6_v2 : RA) (.of main_v61 : RA) minimumf ]

/-- What they write. -/
abbrev clipOpsW : List (Ref sig .tc) := [main_call3_v0, main_call3_v1, main_call3_v2, main_call3_v3, main_call3_v4, main_v58, main_cst_8, main_cst_9, main_call4_v0, main_call4_v1, main_call4_v2, main_call4_v3, main_call4_v4, main_v59, main_cst_10, main_cst_11, main_call5_v0, main_call5_v1, main_call5_v2, main_call5_v3, main_call5_v4, main_v60, main_cst_12, main_cst_13, main_call6_v0, main_call6_v1, main_call6_v2, main_call6_v3, main_call6_v4, main_v61]

/-- The scores masked. -/
abbrev validOps : List (HloOp τ sig (Elt F)) :=
  [ nullary main_c (constantI S_ 32 0#32),
    unary main_c main_v62 (spread : Arr F S_ .i32 → Arr F S8x1000 .i32),
    binary main_v0 main_v62 main_v63 (cmpi .sgt : Arr F S8x1000 .i32 → Arr F S8x1000 .i32 → Arr F S8x1000 .i1),
    nullary main_cst_14 (constant S_ .f32 0x3F333333#32),
    unary main_cst_14 main_v64 (spread : Fill F),
    binary main_v3 main_v64 main_v65 (cmpf .oge : Arr F S8x1000 .f32 → Arr F S8x1000 .f32 → Arr F S8x1000 .i1),
    binary main_v63 main_v65 main_v66 (andi : Arr F S8x1000 .i1 → Arr F S8x1000 .i1 → Arr F S8x1000 .i1),
    nullary main_cst_15 (constant S_ .f32 0xBF800000#32),
    TRef.unary (.of main_cst_15 : R0) (.of main_call7_v0 : R0) id,
    TRef.unary (.of main_call7_v0 : R0) (.of main_call7_v1 : RA) spread,
    TRef.ternary (.of main_v66 : At S8x1000 .i1) (.of main_v3 : RA) (.of main_call7_v1 : RA) (.of main_v67 : RA) select ]

/-- What they write. -/
abbrev validOpsW : List (Ref sig .tc) := [main_c, main_v62, main_v63, main_cst_14, main_v64, main_v65, main_v66, main_cst_15, main_call7_v0, main_call7_v1, main_v67]

/-- Each result filled up and laid end to end. -/
abbrev padOps : List (HloOp τ sig (Elt F)) :=
  [ nullary main_cst_16 (constant S_ .f32 0x00000000#32),
    TRef.unary (.of main_cst_16 : R0) (.of main_call8_v0 : R0) id,
    TRef.binary (.of main_v58 : RA) (.of main_call8_v0 : R0) (.of main_v68 : At S8x1024 .f32) filled,
    reshape main_v68 main_v69 same shapeCasts_S8x1024_S8192,
    nullary main_cst_17 (constant S_ .f32 0x00000000#32),
    TRef.unary (.of main_cst_17 : R0) (.of main_call9_v0 : R0) id,
    TRef.binary (.of main_v59 : RA) (.of main_call9_v0 : R0) (.of main_v70 : At S8x1024 .f32) filled,
    reshape main_v70 main_v71 same shapeCasts_S8x1024_S8192,
    nullary main_cst_18 (constant S_ .f32 0x00000000#32),
    TRef.unary (.of main_cst_18 : R0) (.of main_call10_v0 : R0) id,
    TRef.binary (.of main_v60 : RA) (.of main_call10_v0 : R0) (.of main_v72 : At S8x1024 .f32) filled,
    reshape main_v72 main_v73 same shapeCasts_S8x1024_S8192,
    nullary main_cst_19 (constant S_ .f32 0x00000000#32),
    TRef.unary (.of main_cst_19 : R0) (.of main_call11_v0 : R0) id,
    TRef.binary (.of main_v61 : RA) (.of main_call11_v0 : R0) (.of main_v74 : At S8x1024 .f32) filled,
    reshape main_v74 main_v75 same shapeCasts_S8x1024_S8192,
    nullary main_cst_20 (constant S_ .f32 0xBF800000#32),
    TRef.unary (.of main_cst_20 : R0) (.of main_call12_v0 : R0) id,
    TRef.binary (.of main_v67 : RA) (.of main_call12_v0 : R0) (.of main_v76 : At S8x1024 .f32) filled,
    reshape main_v76 main_v77 same shapeCasts_S8x1024_S8192,
    unary main_v0 main_v78 (sitofp .f32 : Arr F S8x1000 .i32 → Arr F S8x1000 .f32),
    nullary main_cst_21 (constant S_ .f32 0x00000000#32),
    TRef.unary (.of main_cst_21 : R0) (.of main_call13_v0 : R0) id,
    TRef.binary (.of main_v78 : RA) (.of main_call13_v0 : R0) (.of main_v79 : At S8x1024 .f32) filled,
    reshape main_v79 main_v80 same shapeCasts_S8x1024_S8192 ]

/-- What they write. -/
abbrev padOpsW : List (Ref sig .tc) := [main_cst_16, main_call8_v0, main_v68, main_v69, main_cst_17, main_call9_v0, main_v70, main_v71, main_cst_18, main_call10_v0, main_v72, main_v73, main_cst_19, main_call11_v0, main_v74, main_v75, main_cst_20, main_call12_v0, main_v76, main_v77, main_v78, main_cst_21, main_call13_v0, main_v79, main_v80]

/-- All of them. -/
abbrev allOps : List (HloOp τ sig (Elt F)) := pickOps ++ (takeOps ++ (deltaOps ++ (decodeOps ++ (clipOps ++ (validOps ++ (padOps))))))

theorem main_eq (d : Dev nD) : main (F := F) d = seq allOps := rfl

/-- Each operation stays within the program's buffers. -/
def Within (l : List (HloOp τ sig (Elt F))) : Prop := l.Forall fun op => op.bufs ⊆ tcRefs τ sig

theorem ops_sub : Within (F := F) pickOps ∧ Within (F := F) takeOps ∧ Within (F := F) deltaOps ∧ Within (F := F) decodeOps ∧ Within (F := F) clipOps ∧ Within (F := F) validOps ∧ Within (F := F) padOps := by
  refine ⟨?_, ?_, ?_, ?_, ?_, ?_, ?_⟩ <;> simp only [Within, List.Forall] <;> repeat' apply And.intro
  all_goals with_reducible first | exact nullary_bufs_sub .. | exact unary_bufs_sub .. | exact binary_bufs_sub .. | exact ternary_bufs_sub .. | exact reshape_bufs_sub .. | exact quaternary_bufs_sub ..

theorem pickOps_fresh : (pickOps : List (HloOp τ sig (Elt F))).Forall fun op => op.fresh = ∅ :=
  forall_fresh_of_map rfl

theorem takeOps_fresh : (takeOps : List (HloOp τ sig (Elt F))).Forall fun op => op.fresh = ∅ :=
  forall_fresh_of_map rfl

theorem deltaOps_fresh : (deltaOps : List (HloOp τ sig (Elt F))).Forall fun op => op.fresh = ∅ :=
  forall_fresh_of_map rfl

theorem decodeOps_fresh : (decodeOps : List (HloOp τ sig (Elt F))).Forall fun op => op.fresh = ∅ :=
  forall_fresh_of_map rfl

theorem clipOps_fresh : (clipOps : List (HloOp τ sig (Elt F))).Forall fun op => op.fresh = ∅ :=
  forall_fresh_of_map rfl

theorem validOps_fresh : (validOps : List (HloOp τ sig (Elt F))).Forall fun op => op.fresh = ∅ :=
  forall_fresh_of_map rfl

theorem padOps_fresh : (padOps : List (HloOp τ sig (Elt F))).Forall fun op => op.fresh = ∅ :=
  forall_fresh_of_map rfl

end Cert.Proof.DenseRun

end
-- ==== Proof.DenseFrame.lean ====
/-
  The dense reference's run: it ends, its arguments as they were, every result the value its operations give.
-/
module

public import proofs.«01_k».proof.Proof.DenseRun
public import Idealize.ShloMosaic.Lib.Quiescent

@[expose] public section

set_option maxRecDepth 100000

noncomputable section

namespace Cert.Proof.DenseFrame

open Cert.DenseReferenceIdeal Cert.DenseReferenceIdeal.Gen Cert.Proof.DenseRun
open Idealize.ShloMosaic Idealize.ShloMosaic.StableHlo
open Idealize.SL.Sem

variable {F : FTy → Type} [FloatOps F]
variable (m : (ℓ : Loc nD τ sig) → Buf (Elt F) ℓ) (ρ : Dev nD → PrngReg)

theorem pickOps_writes : (pickOps : List (HloOp τ sig (Elt F))).Forall fun op => op.writes ⊆ (pickOpsW.map (Proc.devRef (τ := τ) .tc)).toFinset := forall_writes_sub_of_map rfl
theorem takeOps_writes : (takeOps : List (HloOp τ sig (Elt F))).Forall fun op => op.writes ⊆ (takeOpsW.map (Proc.devRef (τ := τ) .tc)).toFinset := forall_writes_sub_of_map rfl
theorem deltaOps_writes : (deltaOps : List (HloOp τ sig (Elt F))).Forall fun op => op.writes ⊆ (deltaOpsW.map (Proc.devRef (τ := τ) .tc)).toFinset := forall_writes_sub_of_map rfl
theorem decodeOps_writes : (decodeOps : List (HloOp τ sig (Elt F))).Forall fun op => op.writes ⊆ (decodeOpsW.map (Proc.devRef (τ := τ) .tc)).toFinset := forall_writes_sub_of_map rfl
theorem clipOps_writes : (clipOps : List (HloOp τ sig (Elt F))).Forall fun op => op.writes ⊆ (clipOpsW.map (Proc.devRef (τ := τ) .tc)).toFinset := forall_writes_sub_of_map rfl
theorem validOps_writes : (validOps : List (HloOp τ sig (Elt F))).Forall fun op => op.writes ⊆ (validOpsW.map (Proc.devRef (τ := τ) .tc)).toFinset := forall_writes_sub_of_map rfl
theorem padOps_writes : (padOps : List (HloOp τ sig (Elt F))).Forall fun op => op.writes ⊆ (padOpsW.map (Proc.devRef (τ := τ) .tc)).toFinset := forall_writes_sub_of_map rfl

/-- The contents after each stage of the program. -/
def atPick (d : Dev nD) := after (pickOps (F := F)) (launchContents m d)
def atTake (d : Dev nD) := after (takeOps (F := F)) (atPick m d)
def atDelta (d : Dev nD) := after (deltaOps (F := F)) (atTake m d)
def atDecode (d : Dev nD) := after (decodeOps (F := F)) (atDelta m d)
def atClip (d : Dev nD) := after (clipOps (F := F)) (atDecode m d)
def atValid (d : Dev nD) := after (validOps (F := F)) (atClip m d)
def atPad (d : Dev nD) := after (padOps (F := F)) (atValid m d)

theorem after_append (l₁ l₂ : List (HloOp τ sig (Elt F))) (V : Valuation τ sig (Elt F)) : after (l₁ ++ l₂) V = after l₂ (after l₁ V) := by
  induction l₁ generalizing V with
  | nil => rfl
  | cons a l ih => exact ih _

theorem after_all (d : Dev nD) : after (allOps (F := F)) (launchContents m d) = atPad m d := by
  unfold allOps atPad atValid atClip atDecode atDelta atTake atPick
  simp only [after_append]

theorem kept (d : Dev nD) (b : Ref sig .tc) (h₁ : b ∉ pickOpsW) (h₂ : b ∉ takeOpsW) (h₃ : b ∉ deltaOpsW) (h₄ : b ∉ decodeOpsW)
    (h₅ : b ∉ clipOpsW) (h₆ : b ∉ validOpsW) (h₇ : b ∉ padOpsW) : atPad m d (Proc.devRef .tc b) = m ((d.tc : Thread nD τ).loc b) := by
  unfold atPad atValid atClip atDecode atDelta atTake atPick
  rw [after_of_writes_sub padOps _ padOps_writes h₇, after_of_writes_sub validOps _ validOps_writes h₆, after_of_writes_sub clipOps _ clipOps_writes h₅,
    after_of_writes_sub decodeOps _ decodeOps_writes h₄, after_of_writes_sub deltaOps _ deltaOps_writes h₃, after_of_writes_sub takeOps _ takeOps_writes h₂,
    after_of_writes_sub pickOps _ pickOps_writes h₁]

theorem fresh_all (op : HloOp τ sig (Elt F)) (h : op ∈ allOps) : op.fresh = ∅ := by
  simp only [allOps, List.mem_append] at h
  rcases h with h | h | h | h | h | h | h
  · exact (List.forall_iff_forall_mem.mp pickOps_fresh) op h
  · exact (List.forall_iff_forall_mem.mp takeOps_fresh) op h
  · exact (List.forall_iff_forall_mem.mp deltaOps_fresh) op h
  · exact (List.forall_iff_forall_mem.mp decodeOps_fresh) op h
  · exact (List.forall_iff_forall_mem.mp clipOps_fresh) op h
  · exact (List.forall_iff_forall_mem.mp validOps_fresh) op h
  · exact (List.forall_iff_forall_mem.mp padOps_fresh) op h

theorem sub_all : (allOps : List (HloOp τ sig (Elt F))).Forall fun op => op.bufs ⊆ tcRefs τ sig := by
  rw [List.forall_iff_forall_mem]
  intro op h
  obtain ⟨h1, h2, h3, h4, h5, h6, h7⟩ := ops_sub (F := F)
  simp only [allOps, List.mem_append] at h
  rcases h with h | h | h | h | h | h | h
  exacts [List.forall_iff_forall_mem.mp h1 op h, List.forall_iff_forall_mem.mp h2 op h, List.forall_iff_forall_mem.mp h3 op h, List.forall_iff_forall_mem.mp h4 op h,
    List.forall_iff_forall_mem.mp h5 op h, List.forall_iff_forall_mem.mp h6 op h, List.forall_iff_forall_mem.mp h7 op h]

theorem run_ref : θ_run (defs (F := F)) (onTc (τ := τ) (main (F := F))) ⟨m, fun _ => 0, ρ⟩ (fun r =>
    ∀ (d : Dev nD) (b : Ref sig .tc), r.2.mem ((d.tc : Thread nD τ).loc b) = atPad m d (Proc.devRef .tc b)) :=
  (θ_run (defs (F := F)) _ _).mono (fun r h d b => (h d b).trans (congrFun (after_all m d) _))
    (StableHlo.run_seq (by decide) (by decide) defs main (fun _ => allOps) main_eq (fun _ => sub_all) m ρ (fun _ op h => fresh_all op h))

theorem frame : θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run (defs (F := F)) _ _).mono (fun r h => ⟨fun c => ⟨(h c main_arg0).trans (kept m c main_arg0 (by decide) (by decide) (by decide) (by decide) (by decide) (by decide) (by decide)),
      (h c main_arg1).trans (kept m c main_arg1 (by decide) (by decide) (by decide) (by decide) (by decide) (by decide) (by decide)),
      (h c main_arg2).trans (kept m c main_arg2 (by decide) (by decide) (by decide) (by decide) (by decide) (by decide) (by decide))⟩, sem_eq_zero_of_no_sems rfl r.2⟩)
    (run_ref m ρ)

end Cert.Proof.DenseFrame

end
-- ==== Proof.DenseTake.lean ====
/-
  Reading the picked class's score and deltas: the class is in range, so the guarded readings are the plain ones.
-/
module

public import proofs.«01_k».proof.Proof.Gen.DenseReferenceIdeal
public import proofs.«01_k».proof.Proof.Take

@[expose] public section

set_option maxRecDepth 100000

noncomputable section

namespace Cert.Proof.DenseTake

open Cert.DenseReferenceIdeal Cert.DenseReferenceIdeal.Gen
open Idealize.ShloMosaic hiding ix1 ix2 ix3 ix4 eq_ix1 eq_ix2 eq_ix3 eq_ix4
open Idealize.ShloMosaic.ValueIdx
open Cert.Proof.Take (fix_small select_one)

variable {α : Type}

theorem word_at (w : BitVec 32) (h : w.toNat < 81) : min w.toInt.toNat (81 - 1) = w.toNat := by
  rw [BitVec.toInt_eq_toNat_cond, if_pos (by omega)]
  omega

theorem gatherP_at (x : S8x1000x81.Idx → α) (idx : IVec S8x1000x1x1 32) (b : Fin 8) (n : Fin 1000) (h : (idx (ix4 b n 0 0)).toNat < 81) :
    Host.gather gather_S8x1000x81_S8x1000x1x1_S8x1000x1_n_2_01_01_2_3_111 x idx (ix3 b n 0) = x (ix3 b n ⟨(idx (ix4 b n 0 0)).toNat, h⟩) := by
  unfold Host.gather
  refine congrArg x (funext fun a => Fin.ext ?_)
  generalize hD : gather_S8x1000x81_S8x1000x1x1_S8x1000x1_n_2_01_01_2_3_111 = D
  show D.start (ix3 b n 0) idx a + D.batchCoord (ix3 b n 0) a + D.offCoord (ix3 b n 0) a = _
  subst hD
  match a with
  | ⟨0, _⟩ =>
    rw [GatherDims.start_batching _ _ _ _ (show (0 : Fin 3) ∈ [0, 1] by decide),
      GatherDims.offCoord_eq_zero _ _ _ (fun h => ((GatherDims.mem_sKept _ _).mp h).2 (show (0 : Fin 3) ∈ [0, 1] by decide)), Nat.zero_add, Nat.add_zero]
    unfold GatherDims.batchCoord
    refine (dif_pos (show (0 : Fin 3) ∈ [0, 1] by decide)).trans ?_
    rfl
  | ⟨1, _⟩ =>
    rw [GatherDims.start_batching _ _ _ _ (show (1 : Fin 3) ∈ [0, 1] by decide),
      GatherDims.offCoord_eq_zero _ _ _ (fun h => ((GatherDims.mem_sKept _ _).mp h).2 (show (1 : Fin 3) ∈ [0, 1] by decide)), Nat.zero_add, Nat.add_zero]
    unfold GatherDims.batchCoord
    refine (dif_pos (show (1 : Fin 3) ∈ [0, 1] by decide)).trans ?_
    rfl
  | ⟨2, _⟩ =>
    rw [GatherDims.batchCoord_eq_zero _ _ _ (fun h => absurd (show (2 : Fin 3) ∈ [0, 1] from h) (by decide)),
      GatherDims.offCoord_eq_zero _ _ _ (fun h => ((GatherDims.mem_sKept _ _).mp h).1 (show (2 : Fin 3) ∈ [2] by decide)), Nat.add_zero]
    unfold GatherDims.start
    refine (dif_pos (show (2 : Fin 3) ∈ [2] by decide)).trans ?_
    have hsi : gather_S8x1000x81_S8x1000x1x1_S8x1000x1_n_2_01_01_2_3_111.siIdx (ix3 b n 0) ⟨List.idxOf (2 : Fin 3) [2],
        List.idxOf_lt_length_iff.2 (List.mem_singleton.mpr rfl)⟩ = ix4 b n 0 0 := by
      funext k; refine Fin.ext ?_
      match k with
      | ⟨0, _⟩ => rfl
      | ⟨1, _⟩ => rfl
      | ⟨2, _⟩ => rfl
      | ⟨3, _⟩ => rfl
    exact (congrArg (fun k => min (idx k).toInt.toNat (81 - 1)) hsi).trans (word_at _ h)

theorem gatherD_at (x : S8x1000x81x4.Idx → α) (idx : IVec S8x1000x1x1 32) (b : Fin 8) (n : Fin 1000) (i : Fin 4) (h : (idx (ix4 b n 0 0)).toNat < 81) :
    Host.gather gather_S8x1000x81x4_S8x1000x1x1_S8x1000x1x4_3_2_01_01_2_3_1114 x idx (ix4 b n 0 i) = x (ix4 b n ⟨(idx (ix4 b n 0 0)).toNat, h⟩ i) := by
  unfold Host.gather
  refine congrArg x (funext fun a => Fin.ext ?_)
  generalize hD : gather_S8x1000x81x4_S8x1000x1x1_S8x1000x1x4_3_2_01_01_2_3_1114 = D
  show D.start (ix4 b n 0 i) idx a + D.batchCoord (ix4 b n 0 i) a + D.offCoord (ix4 b n 0 i) a = _
  subst hD
  match a with
  | ⟨0, _⟩ =>
    rw [GatherDims.start_batching _ _ _ _ (show (0 : Fin 4) ∈ [0, 1] by decide),
      GatherDims.offCoord_eq_zero _ _ _ (fun h => ((GatherDims.mem_sKept _ _).mp h).2 (show (0 : Fin 4) ∈ [0, 1] by decide)), Nat.zero_add, Nat.add_zero]
    unfold GatherDims.batchCoord
    refine (dif_pos (show (0 : Fin 4) ∈ [0, 1] by decide)).trans ?_
    rfl
  | ⟨1, _⟩ =>
    rw [GatherDims.start_batching _ _ _ _ (show (1 : Fin 4) ∈ [0, 1] by decide),
      GatherDims.offCoord_eq_zero _ _ _ (fun h => ((GatherDims.mem_sKept _ _).mp h).2 (show (1 : Fin 4) ∈ [0, 1] by decide)), Nat.zero_add, Nat.add_zero]
    unfold GatherDims.batchCoord
    refine (dif_pos (show (1 : Fin 4) ∈ [0, 1] by decide)).trans ?_
    rfl
  | ⟨2, _⟩ =>
    rw [GatherDims.batchCoord_eq_zero _ _ _ (fun h => absurd (show (2 : Fin 4) ∈ [0, 1] from h) (by decide)),
      GatherDims.offCoord_eq_zero _ _ _ (fun h => ((GatherDims.mem_sKept _ _).mp h).1 (show (2 : Fin 4) ∈ [2] by decide)), Nat.add_zero]
    unfold GatherDims.start
    refine (dif_pos (show (2 : Fin 4) ∈ [2] by decide)).trans ?_
    have hsi : gather_S8x1000x81x4_S8x1000x1x1_S8x1000x1x4_3_2_01_01_2_3_1114.siIdx (ix4 b n 0 i) ⟨List.idxOf (2 : Fin 4) [2],
        List.idxOf_lt_length_iff.2 (List.mem_singleton.mpr rfl)⟩ = ix4 b n 0 0 := by
      funext k; refine Fin.ext ?_
      match k with
      | ⟨0, _⟩ => rfl
      | ⟨1, _⟩ => rfl
      | ⟨2, _⟩ => rfl
      | ⟨3, _⟩ => rfl
    exact (congrArg (fun k => min (idx k).toInt.toNat (81 - 1)) hsi).trans (word_at _ h)
  | ⟨3, _⟩ =>
    rw [GatherDims.batchCoord_eq_zero _ _ _ (fun h => absurd (show (3 : Fin 4) ∈ [0, 1] from h) (by decide)), Nat.add_zero]
    unfold GatherDims.start GatherDims.offCoord
    refine (congrArg₂ (· + ·) (dif_neg (fun h => absurd (show (3 : Fin 4) ∈ [2] from h) (by decide)))
      (dif_pos ((GatherDims.mem_sKept _ _).mpr ⟨fun h => absurd (show (3 : Fin 4) ∈ [2] from h) (by decide), fun h => absurd (show (3 : Fin 4) ∈ [0, 1] from h) (by decide)⟩))).trans ?_
    exact Nat.zero_add _

theorem guard_one {s : Shape} (idx z u : IVec s 32) (hz : z = fun _ => 0#32) (hu : u = fun _ => 80#32) (h : ∀ j, (idx j).toNat < 81) (j : s.Idx) :
    andi (cmpi .sge idx z) (cmpi .sle idx u) j = 1#1 := by
  subst hz hu
  show BitVec.ofBool ((0#32).sle (idx j)) &&& BitVec.ofBool ((idx j).sle 80#32) = 1#1
  have h1 := (Words.sle_ofNat 0 (idx j).toNat (by omega) (by have := h j; omega)).2 (by omega)
  have h2 := (Words.sle_ofNat (idx j).toNat 80 (by have := h j; omega) (by omega)).2 (by have := h j; omega)
  rw [BitVec.ofNat_toNat, BitVec.setWidth_eq] at h1 h2
  rw [h1, h2]
  rfl

/-- The index words, a negative one counted from the end; and those of the scores, with one axis more. -/
abbrev fixed (w : IVec S8x1000x1x1 32) : IVec S8x1000x1x1 32 :=
  select (cmpi .slt w (broadcastInDim S8x1000x1x1 ![] bcast_S_S8x1000x1x1 (constantI S_ 32 0#32))) (addi w (broadcastInDim S8x1000x1x1 ![] bcast_S_S8x1000x1x1 (constantI S_ 32 81#32))) w
abbrev lifted (w : IVec S8x1000x1 32) : IVec S8x1000x1x1 32 :=
  shapeCast S8x1000x1x1 (select (cmpi .slt w (broadcastInDim S8x1000x1 ![] bcast_S_S8x1000x1 (constantI S_ 32 0#32))) (addi w (broadcastInDim S8x1000x1 ![] bcast_S_S8x1000x1 (constantI S_ 32 81#32))) w) shapeCasts_S8x1000x1_S8x1000x1x1

/-- The program's guarded reading of the picked class's score. -/
def takeP (x : S8x1000x81.Idx → α) (w : IVec S8x1000x1 32) (fill : S8x1000x1.Idx → α) : S8x1000x1.Idx → α :=
  select (Host.reduce IntOp.andi (andi
      (cmpi .sge (lifted w)
        (broadcastInDim S8x1000x1x1 ![] bcast_S_S8x1000x1x1 (constantI S_ 32 0#32)))
      (cmpi .sle (lifted w)
        (broadcastInDim S8x1000x1x1 ![0, 1, 2, 3] bcast_S1x1x1x1_S8x1000x1x1_0_1_2_3 (broadcastInDim S1x1x1x1 ![3] bcast_S1_S1x1x1x1_3 (constantI S1 32 80#32)))))
      (constantI S_ 1 1#1) reducesTo_S8x1000x1x1_S8x1000x1_d3 h_S_)
    (Host.gather gather_S8x1000x81_S8x1000x1x1_S8x1000x1_n_2_01_01_2_3_111 x
      (lifted w))
    fill

theorem takeP_of (x : S8x1000x81.Idx → α) (w : IVec S8x1000x1 32) (fill : S8x1000x1.Idx → α) (h : ∀ j, (w j).toNat < 81) (b : Fin 8) (n : Fin 1000) (k : Fin 81)
    (hk : (w (ix3 b n 0)).toNat = k.val) : takeP x w fill (ix3 b n 0) = x (ix3 b n k) := by
  unfold takeP lifted
  rw [fix_small w (broadcastInDim S8x1000x1 ![] bcast_S_S8x1000x1 (constantI S_ 32 0#32)) _ rfl fun j => (h j).trans (by omega)]
  have hs : ∀ j, (shapeCast S8x1000x1x1 w shapeCasts_S8x1000x1_S8x1000x1x1 j).toNat < 81 := fun j => h _
  have he : shapeCast S8x1000x1x1 w shapeCasts_S8x1000x1_S8x1000x1x1 (ix4 b n 0 0) = w (ix3 b n 0) := by
    unfold shapeCast
    exact congrArg w (Shape.reshapeEquiv_eq_of_vals _ _ _ _ _ (rowMajor_val3 _ 1000 1 rfl rfl) (rowMajor_val4 _ 1000 1 1 rfl rfl rfl) (by
      show b.val * 1000 + n.val * 1 + 0 = b.val * 1000 + n.val * 1 + 0 * 1 + 0
      omega))
  refine (select_one _ _ _ _ ?_).trans ?_
  · exact Host.reduce_andi_one _ _ _ _ _ rfl fun j => guard_one _ _ _ rfl rfl hs j
  refine (gatherP_at x _ b n (hs _)).trans (congrArg (fun k => x (ix3 b n k)) (Fin.ext ?_))
  exact (congrArg BitVec.toNat he).trans hk

/-- The program's guarded reading of the picked class's deltas. -/
def takeD (x : S8x1000x81x4.Idx → α) (w : IVec S8x1000x1x1 32) (fill : S8x1000x1x4.Idx → α) : S8x1000x1x4.Idx → α :=
  select (broadcastInDim S8x1000x1x4 ![0, 1, 2] bcast_S8x1000x1_S8x1000x1x4_0_1_2 (Host.reduce IntOp.andi (andi
      (cmpi .sge (fixed w)
        (broadcastInDim S8x1000x1x1 ![] bcast_S_S8x1000x1x1 (constantI S_ 32 0#32)))
      (cmpi .sle (fixed w)
        (broadcastInDim S8x1000x1x1 ![0, 1, 2, 3] bcast_S1x1x1x1_S8x1000x1x1_0_1_2_3 (broadcastInDim S1x1x1x1 ![3] bcast_S1_S1x1x1x1_3 (constantI S1 32 80#32)))))
      (constantI S_ 1 1#1) reducesTo_S8x1000x1x1_S8x1000x1_d3 h_S_))
    (Host.gather gather_S8x1000x81x4_S8x1000x1x1_S8x1000x1x4_3_2_01_01_2_3_1114 x
      (fixed w))
    fill

theorem takeD_of (x : S8x1000x81x4.Idx → α) (w : IVec S8x1000x1x1 32) (fill : S8x1000x1x4.Idx → α) (h : ∀ j, (w j).toNat < 81) (b : Fin 8) (n : Fin 1000) (i : Fin 4) (k : Fin 81)
    (hk : (w (ix4 b n 0 0)).toNat = k.val) : takeD x w fill (ix4 b n 0 i) = x (ix4 b n k i) := by
  unfold takeD fixed
  rw [fix_small w (broadcastInDim S8x1000x1x1 ![] bcast_S_S8x1000x1x1 (constantI S_ 32 0#32)) _ rfl fun j => (h j).trans (by omega)]
  refine (select_one _ _ _ _ ?_).trans ?_
  · exact Host.reduce_andi_one _ _ _ _ _ rfl fun j => guard_one _ _ _ rfl rfl h j
  exact (gatherD_at x w b n i (h _)).trans (congrArg (fun k => x (ix4 b n k i)) (Fin.ext hk))

end Cert.Proof.DenseTake

end
-- ==== Proof.DenseRef.lean ====
/-
  The dense reference's results, value by value: for each proposal its best class, that class's score and deltas, the
  moved, scaled and clipped edges, all laid end to end.
-/
module

public import proofs.«01_k».proof.Proof.DenseFrame
public import proofs.«01_k».proof.Proof.DenseTake
public import proofs.«01_k».proof.Proof.DenseSpec
public import Idealize.ShloMosaic.Lib.StableHlo.RunRead

@[expose] public section

set_option maxRecDepth 100000

noncomputable section

namespace Cert.Proof.DenseRef

open Cert.DenseReferenceIdeal Cert.DenseReferenceIdeal.Gen Cert.Proof.DenseRun
open Idealize.ShloMosaic hiding ix1 ix2 ix3 ix4 eq_ix1 eq_ix2 eq_ix3 eq_ix4
open Idealize.ShloMosaic.ValueIdx
open Idealize.ShloMosaic.StableHlo (after)
open Cert.Proof.DensePick Cert.Proof.DenseSpec Cert.Proof.DenseTake

/- Shapes. -/

section Shapes

variable {α : Type}

theorem flat_at (x : S8x1000x1.Idx → α) (b : Fin 8) (n : Fin 1000) : shapeCast S8x1000 x shapeCasts_S8x1000x1_S8x1000 (ix2 b n) = x (ix3 b n 0) := by
  unfold shapeCast
  exact congrArg x (Shape.reshapeEquiv_eq_of_vals _ _ _ _ _ (rowMajor_val3 _ 1000 1 rfl rfl) (rowMajor_val2 _ 1000 rfl) (by
    show b.val * 1000 + n.val * 1 + 0 = b.val * 1000 + n.val
    omega))

theorem four_at (x : S8x1000x1x4.Idx → α) (b : Fin 8) (n : Fin 1000) (i : Fin 4) : shapeCast S8x1000x4 x shapeCasts_S8x1000x1x4_S8x1000x4 (ix3 b n i) = x (ix4 b n 0 i) := by
  unfold shapeCast
  exact congrArg x (Shape.reshapeEquiv_eq_of_vals _ _ _ _ _ (rowMajor_val4 _ 4000 4 4 rfl rfl rfl) (rowMajor_val3 _ 4000 4 rfl rfl) (by
    show b.val * 4000 + n.val * 4 + 0 * 4 + i.val = b.val * 4000 + n.val * 4 + i.val
    omega))

theorem col_at (x : S8x1000x4.Idx → α) (k : Fin 4) (h : S8x1000x4.Slices ![0, 0, k.val] S8x1000x1) (b : Fin 8) (n : Fin 1000) :
    shapeCast S8x1000 (extractStridedSlice S8x1000x1 ![0, 0, k.val] x h) shapeCasts_S8x1000x1_S8x1000 (ix2 b n) = x (ix3 b n k) := by
  rw [flat_at]
  unfold extractStridedSlice
  refine congrArg x (funext fun a => Fin.ext ?_)
  match a with
  | ⟨0, _⟩ => exact Nat.zero_add _
  | ⟨1, _⟩ => exact Nat.zero_add _
  | ⟨2, _⟩ => exact Nat.add_zero _

theorem spread1_at (x : S8x1000.Idx → α) (b : Fin 8) (n : Fin 1000) : broadcastInDim S8x1000x1 ![0, 1] bcast_S8x1000_S8x1000x1_0_1 x (ix3 b n 0) = x (ix2 b n) := by
  unfold broadcastInDim
  refine congrArg x (funext fun a => ?_)
  match a with
  | ⟨0, _⟩ => rfl
  | ⟨1, _⟩ => rfl

theorem spread2_at (x : S8x1000.Idx → α) (b : Fin 8) (n : Fin 1000) : broadcastInDim S8x1000x1x1 ![0, 1] bcast_S8x1000_S8x1000x1x1_0_1 x (ix4 b n 0 0) = x (ix2 b n) := by
  unfold broadcastInDim
  refine congrArg x (funext fun a => ?_)
  match a with
  | ⟨0, _⟩ => rfl
  | ⟨1, _⟩ => rfl

/-- Filled up to 1024 and laid end to end. -/
def out (x : S8x1000.Idx → α) (v : S_.Idx → α) : S8192.Idx → α :=
  shapeCast S8192 (pad S8x1024 ![0, 0] ![0, 24] ![0, 0] x v pads_S8x1000_S8x1024_000_0240 h_S_) shapeCasts_S8x1024_S8192

theorem out_at (f : Fin 8 → Fin 1000 → EReal) (z : EReal) (x : S8x1000.Idx → EReal) (v : S_.Idx → EReal) (hx : ∀ b n, x (ix2 b n) = f b n) (hv : ∀ j, v j = z) :
    out x v = laid f z := by
  funext y
  have hy : (y 0).val < 8192 := (y 0).isLt
  unfold out shapeCast
  rw [show Shape.reshapeEquiv shapeCasts_S8x1024_S8192 y = ix2 ⟨(y 0).val / 1024, Nat.div_lt_of_lt_mul hy⟩ ⟨(y 0).val % 1024, Nat.mod_lt _ (by omega)⟩ from
    (Shape.reshapeEquiv_eq_of_vals _ _ _ _ _ (rowMajor_val2 _ 1024 rfl) (rowMajor_val1 _) (by
      show (y 0).val / 1024 * 1024 + (y 0).val % 1024 = (y 0).val
      omega))]
  unfold laid pad
  by_cases h : (y 0).val % 1024 < 1000
  · rw [dif_pos h, dif_pos]
    · rw [← hx]
      refine congrArg x (funext fun a => Fin.ext ?_)
      match a with
      | ⟨0, _⟩ => show ((y 0).val / 1024 - 0) / (0 + 1) = (y 0).val / 1024; omega
      | ⟨1, _⟩ => show ((y 0).val % 1024 - 0) / (0 + 1) = (y 0).val % 1024; omega
    · intro a
      match a with
      | ⟨0, _⟩ =>
        refine ⟨Nat.zero_le _, Nat.mod_one _, ?_⟩
        show ((y 0).val / 1024 - 0) / (0 + 1) < 8
        omega
      | ⟨1, _⟩ =>
        refine ⟨Nat.zero_le _, Nat.mod_one _, ?_⟩
        show ((y 0).val % 1024 - 0) / (0 + 1) < 1000
        omega
  · rw [dif_neg h, dif_neg]
    · exact hv _
    · intro hin
      have h1 := (hin 1).2.2
      have h2 : ((y 0).val % 1024 - 0) / (0 + 1) < 1000 := h1
      omega

end Shapes

/- The arithmetic of one axis. -/

abbrev V2 := FVec Ideal S8x1000 .f32

abbrev half : V2 := broadcastInDim S8x1000 ![] bcast_S_S8x1000 (constant S_ .f32 0x3F000000#32)

def sideV (lo hi : V2) : V2 := subf hi lo
def midV (lo hi d : V2) : V2 := addf (addf lo (mulf half (sideV lo hi))) (mulf d (sideV lo hi))
def newV (lo hi e : V2) : V2 := mulf (sideV lo hi) (Host.exp e)
def lowV (lo hi d e : V2) : V2 := subf (midV lo hi d) (mulf half (newV lo hi e))
def highV (lo hi d e : V2) : V2 := addf (midV lo hi d) (mulf half (newV lo hi e))
def clipV (z u : FVec Ideal S_ .f32) (x : V2) : V2 := minimumf (broadcastInDim S8x1000 ![] bcast_S_S8x1000 u) (maximumf (broadcastInDim S8x1000 ![] bcast_S_S8x1000 z) x)

theorem low_at (lo hi d e : V2) (z u : FVec Ideal S_ .f32) (hz : z = constant S_ .f32 0x00000000#32) (hu : u = constant S_ .f32 0x3F800000#32)
    (j : S8x1000.Idx) (d' e' : EReal) (hd : d j = FloatOps.mulf (F := Ideal) (φ := .f32) d' (lit 0x3DCCCCCD#32)) (he : e j = FloatOps.mulf (F := Ideal) (φ := .f32) e' (lit 0x3E4CCCCD#32)) :
    clipV z u (lowV lo hi d e) j = low (lo j) (hi j) d' e' := by
  subst hz hu
  unfold low clip mid side
  rw [show d' * lit 0x3DCCCCCD#32 = d j from hd.symm, show e' * lit 0x3E4CCCCD#32 = e j from he.symm]
  rfl

theorem high_at (lo hi d e : V2) (z u : FVec Ideal S_ .f32) (hz : z = constant S_ .f32 0x00000000#32) (hu : u = constant S_ .f32 0x3F800000#32)
    (j : S8x1000.Idx) (d' e' : EReal) (hd : d j = FloatOps.mulf (F := Ideal) (φ := .f32) d' (lit 0x3DCCCCCD#32)) (he : e j = FloatOps.mulf (F := Ideal) (φ := .f32) e' (lit 0x3E4CCCCD#32)) :
    clipV z u (highV lo hi d e) j = high (lo j) (hi j) d' e' := by
  subst hz hu
  unfold high clip mid side
  rw [show d' * lit 0x3DCCCCCD#32 = d j from hd.symm, show e' * lit 0x3E4CCCCD#32 = e j from he.symm]
  rfl

/- The columns the program reads. -/

abbrev V3 := FVec Ideal S8x1000x4 .f32

def col0 (x : V3) : V2 := shapeCast S8x1000 (extractStridedSlice S8x1000x1 ![0, 0, 0] x slices_S8x1000x4_S8x1000x1_0_0_0) shapeCasts_S8x1000x1_S8x1000
def col1 (x : V3) : V2 := shapeCast S8x1000 (extractStridedSlice S8x1000x1 ![0, 0, 1] x slices_S8x1000x4_S8x1000x1_0_0_1) shapeCasts_S8x1000x1_S8x1000
def col2 (x : V3) : V2 := shapeCast S8x1000 (extractStridedSlice S8x1000x1 ![0, 0, 2] x slices_S8x1000x4_S8x1000x1_0_0_2) shapeCasts_S8x1000x1_S8x1000
def col3 (x : V3) : V2 := shapeCast S8x1000 (extractStridedSlice S8x1000x1 ![0, 0, 3] x slices_S8x1000x4_S8x1000x1_0_0_3) shapeCasts_S8x1000x1_S8x1000

theorem col0_at (x : V3) (b n) : col0 x (ix2 b n) = x (ix3 b n 0) := col_at x 0 _ b n
theorem col1_at (x : V3) (b n) : col1 x (ix2 b n) = x (ix3 b n 1) := col_at x 1 _ b n
theorem col2_at (x : V3) (b n) : col2 x (ix2 b n) = x (ix3 b n 2) := col_at x 2 _ b n
theorem col3_at (x : V3) (b n) : col3 x (ix2 b n) = x (ix3 b n 3) := col_at x 3 _ b n

/-- The deltas, weighted. -/
def weighted (x : FVec Ideal S8x1000x1x4 .f32) (k : FVec Ideal S4 .f32) : V3 :=
  mulf (shapeCast S8x1000x4 x shapeCasts_S8x1000x1x4_S8x1000x4)
    (broadcastInDim S8x1000x4 ![0, 1, 2] bcast_S1x1x4_S8x1000x4_0_1_2 (broadcastInDim S1x1x4 ![2] bcast_S4_S1x1x4_2 k))

theorem weighted_at (x : FVec Ideal S8x1000x1x4 .f32) (k : FVec Ideal S4 .f32) (b : Fin 8) (n : Fin 1000) (i : Fin 4) :
    weighted x k (ix3 b n i) = FloatOps.mulf (F := Ideal) (φ := .f32) (x (ix4 b n 0 i)) (k (ix1 i)) := by
  refine congrArg₂ (FloatOps.mulf (F := Ideal) (φ := .f32)) (four_at x b n i) ?_
  unfold broadcastInDim
  refine congrArg k (funext fun a => ?_)
  match a with
  | ⟨0, _⟩ => rfl

/- What each stage leaves, from what it finds. -/

section Stages

variable (V : Valuation τ sig (Elt Ideal))

theorem pick_word : after pickOps V (Proc.devRef .tc main_v0) = (fun j => (Host.argReduce (F := Ideal) (φ := .f32) (reducer_argmax_f32_i32 (F := Ideal)) (V (Proc.devRef .tc main_arg1)) (iotaInDim S8x1000x81 32 2)
    (constant S_ .f32 0xFF800000#32) (constantI S_ 32 0#32) reducesTo_S8x1000x81_S8x1000_d2 h_S_ j).2 : IVec S8x1000 32) := by
  after_reads_simp
  rfl

theorem pick_cst : after pickOps V (Proc.devRef .tc main_cst) = (fun i => FloatOps.ofBits (F := Ideal) .f32 (lit0 (S4.rowMajor i)) : FVec Ideal S4 .f32) := by
  after_reads_simp
  rfl

theorem take_eq : after takeOps V (Proc.devRef .tc main_v2) = (takeP (V (Proc.devRef .tc main_arg1)) (broadcastInDim S8x1000x1 ![0, 1] bcast_S8x1000_S8x1000x1_0_1 (V (Proc.devRef .tc main_v0)))
    (broadcastInDim S8x1000x1 ![] bcast_S_S8x1000x1 (constant (F := Ideal) S_ .f32 0x7FC00000#32)) : FVec Ideal S8x1000x1 .f32) := by
  after_reads_simp
  rfl

theorem delta_score : after deltaOps V (Proc.devRef .tc main_v3) = (shapeCast S8x1000 (V (Proc.devRef .tc main_v2) : FVec Ideal S8x1000x1 .f32) shapeCasts_S8x1000x1_S8x1000 : FVec Ideal S8x1000 .f32) := by
  after_reads_simp
  rfl

theorem delta_eq : after deltaOps V (Proc.devRef .tc main_v5) = (takeD (V (Proc.devRef .tc main_arg2)) (broadcastInDim S8x1000x1x1 ![0, 1] bcast_S8x1000_S8x1000x1x1_0_1 (V (Proc.devRef .tc main_v0)))
    (broadcastInDim S8x1000x1x4 ![] bcast_S_S8x1000x1x4 (constant (F := Ideal) S_ .f32 0x7FC00000#32)) : FVec Ideal S8x1000x1x4 .f32) := by
  after_reads_simp
  rfl

/-- The boxes, and the weighted deltas, as the decoding finds them. -/
abbrev box : V3 := V (Proc.devRef .tc main_arg0)
abbrev wd : V3 := weighted (V (Proc.devRef .tc main_v5)) (V (Proc.devRef .tc main_cst))

theorem decode_top : after decodeOps V (Proc.devRef .tc main_v48) = lowV (col0 (box V)) (col2 (box V)) (col0 (wd V)) (col2 (wd V)) := by
  after_reads_simp
  rfl

theorem decode_left : after decodeOps V (Proc.devRef .tc main_v51) = lowV (col1 (box V)) (col3 (box V)) (col1 (wd V)) (col3 (wd V)) := by
  after_reads_simp
  rfl

theorem decode_bottom : after decodeOps V (Proc.devRef .tc main_v54) = highV (col0 (box V)) (col2 (box V)) (col0 (wd V)) (col2 (wd V)) := by
  after_reads_simp
  rfl

theorem decode_right : after decodeOps V (Proc.devRef .tc main_v57) = highV (col1 (box V)) (col3 (box V)) (col1 (wd V)) (col3 (wd V)) := by
  after_reads_simp
  rfl

theorem decode_zero : after decodeOps V (Proc.devRef .tc main_cst_6) = (constant S_ .f32 0x00000000#32 : FVec Ideal S_ .f32) := by
  after_reads_simp

theorem decode_unit : after decodeOps V (Proc.devRef .tc main_cst_7) = (constant S_ .f32 0x3F800000#32 : FVec Ideal S_ .f32) := by
  after_reads_simp

theorem clip_top : after clipOps V (Proc.devRef .tc main_v58) = clipV (V (Proc.devRef .tc main_cst_6)) (V (Proc.devRef .tc main_cst_7)) (V (Proc.devRef .tc main_v48)) := by
  after_reads_simp
  rfl

theorem clip_left : after clipOps V (Proc.devRef .tc main_v59) = clipV (constant S_ .f32 0x00000000#32) (constant S_ .f32 0x3F800000#32) (V (Proc.devRef .tc main_v51)) := by
  after_reads_simp
  rfl

theorem clip_bottom : after clipOps V (Proc.devRef .tc main_v60) = clipV (constant S_ .f32 0x00000000#32) (constant S_ .f32 0x3F800000#32) (V (Proc.devRef .tc main_v54)) := by
  after_reads_simp
  rfl

theorem clip_right : after clipOps V (Proc.devRef .tc main_v61) = clipV (constant S_ .f32 0x00000000#32) (constant S_ .f32 0x3F800000#32) (V (Proc.devRef .tc main_v57)) := by
  after_reads_simp
  rfl

/-- The score where the class is not the background and the score is high enough, minus one elsewhere. -/
def validV (w : IVec S8x1000 32) (p : V2) : V2 :=
  select (andi (cmpi .sgt w (broadcastInDim S8x1000 ![] bcast_S_S8x1000 (constantI S_ 32 0#32))) (cmpf .oge p (broadcastInDim S8x1000 ![] bcast_S_S8x1000 (constant S_ .f32 0x3F333333#32))))
    p (broadcastInDim S8x1000 ![] bcast_S_S8x1000 (constant S_ .f32 0xBF800000#32))

theorem valid_eq : after validOps V (Proc.devRef .tc main_v67) = validV (V (Proc.devRef .tc main_v0)) (V (Proc.devRef .tc main_v3)) := by
  after_reads_simp
  rfl

abbrev fillZ : FVec Ideal S_ .f32 := constant S_ .f32 0x00000000#32
abbrev fillM : FVec Ideal S_ .f32 := constant S_ .f32 0xBF800000#32

theorem pad_top : after padOps V (Proc.devRef .tc main_v69) = (out (V (Proc.devRef .tc main_v58) : V2) fillZ : FVec Ideal S8192 .f32) := by
  after_reads_simp
  rfl

theorem pad_left : after padOps V (Proc.devRef .tc main_v71) = (out (V (Proc.devRef .tc main_v59) : V2) fillZ : FVec Ideal S8192 .f32) := by
  after_reads_simp
  rfl

theorem pad_bottom : after padOps V (Proc.devRef .tc main_v73) = (out (V (Proc.devRef .tc main_v60) : V2) fillZ : FVec Ideal S8192 .f32) := by
  after_reads_simp
  rfl

theorem pad_right : after padOps V (Proc.devRef .tc main_v75) = (out (V (Proc.devRef .tc main_v61) : V2) fillZ : FVec Ideal S8192 .f32) := by
  after_reads_simp
  rfl

theorem pad_score : after padOps V (Proc.devRef .tc main_v77) = (out (V (Proc.devRef .tc main_v67) : V2) fillM : FVec Ideal S8192 .f32) := by
  after_reads_simp
  rfl

theorem pad_class : after padOps V (Proc.devRef .tc main_v80) = (out (sitofp .f32 (V (Proc.devRef .tc main_v0) : IVec S8x1000 32) : V2) fillZ : FVec Ideal S8192 .f32) := by
  after_reads_simp
  rfl

end Stages

/- The results, from the arguments. -/

section Results

open Cert.Proof.DenseFrame
open Idealize.ShloMosaic.StableHlo (launchContents after_of_writes_sub)

variable (m : (ℓ : Loc nD τ sig) → Buf (Elt Ideal) ℓ) (d : Dev nD)

abbrev B0 : Boxes := m ((d.tc : Thread nD τ).loc main_arg0)
abbrev B1 : Probs := m ((d.tc : Thread nD τ).loc main_arg1)
abbrev B2 : Deltas := m ((d.tc : Thread nD τ).loc main_arg2)

theorem low_word : ∀ j, (constant (F := Ideal) S_ .f32 0xFF800000#32 : S_.Idx → EReal) j = ⊥ := fun j => by
  show Ideal.ofBits .f32 0xFF800000#32 = ⊥
  simp [Ideal.ofBits, Ideal.ieee]

theorem word_of (b : Fin 8) (n : Fin 1000) : (atPick m d (Proc.devRef .tc main_v0) : IVec S8x1000 32) (ix2 b n) = BitVec.ofNat 32 (best (probs (B1 m d) b n)).val := by
  unfold atPick
  rw [pick_word]
  exact argmax_at (B1 m d) _ _ low_word b n

theorem ofNat_class (k : Fin 81) : (BitVec.ofNat 32 k.val).toNat = k.val := by
  have := k.isLt
  rw [BitVec.toNat_ofNat]
  omega

theorem lt_of_pairs (w : IVec S8x1000 32) (h : ∀ b n, (w (ix2 b n)).toNat < 81) (j : S8x1000.Idx) : (w j).toNat < 81 := by
  rw [eq_ix2 j]
  exact h _ _

theorem word_lt (j : S8x1000.Idx) : ((atPick m d (Proc.devRef .tc main_v0) : IVec S8x1000 32) j).toNat < 81 :=
  lt_of_pairs _ (fun b n => by rw [word_of, ofNat_class]; exact Fin.isLt _) j

theorem word_kept_take : atTake m d (Proc.devRef .tc main_v0) = atPick m d (Proc.devRef .tc main_v0) :=
  after_of_writes_sub takeOps _ takeOps_writes (by decide)

theorem word_kept_valid : atValid m d (Proc.devRef .tc main_v0) = atPick m d (Proc.devRef .tc main_v0) := by
  unfold atValid atClip atDecode atDelta
  rw [after_of_writes_sub validOps _ validOps_writes (by decide), after_of_writes_sub clipOps _ clipOps_writes (by decide),
    after_of_writes_sub decodeOps _ decodeOps_writes (by decide), after_of_writes_sub deltaOps _ deltaOps_writes (by decide), word_kept_take]

theorem word_kept_clip : atClip m d (Proc.devRef .tc main_v0) = atPick m d (Proc.devRef .tc main_v0) := by
  unfold atClip atDecode atDelta
  rw [after_of_writes_sub clipOps _ clipOps_writes (by decide),
    after_of_writes_sub decodeOps _ decodeOps_writes (by decide), after_of_writes_sub deltaOps _ deltaOps_writes (by decide), word_kept_take]

theorem spread1_lt (w : IVec S8x1000 32) (h : ∀ j, (w j).toNat < 81) (j : S8x1000x1.Idx) : (broadcastInDim S8x1000x1 ![0, 1] bcast_S8x1000_S8x1000x1_0_1 w j).toNat < 81 := h _
theorem spread2_lt (w : IVec S8x1000 32) (h : ∀ j, (w j).toNat < 81) (j : S8x1000x1x1.Idx) : (broadcastInDim S8x1000x1x1 ![0, 1] bcast_S8x1000_S8x1000x1x1_0_1 w j).toNat < 81 := h _

theorem prob_of (b : Fin 8) (n : Fin 1000) : (atDelta m d (Proc.devRef .tc main_v3) : V2) (ix2 b n) = probs (B1 m d) b n (best (probs (B1 m d) b n)) := by
  unfold atDelta
  rw [delta_score, flat_at]
  unfold atTake
  rw [take_eq]
  have ha : atPick m d (Proc.devRef .tc main_arg1) = B1 m d := after_of_writes_sub pickOps _ pickOps_writes (by decide)
  rw [ha]
  have hl := word_lt m d
  have hw := word_of m d b n
  generalize (atPick m d (Proc.devRef .tc main_v0) : IVec S8x1000 32) = w at hl hw ⊢
  refine takeP_of (B1 m d) _ _ (spread1_lt w hl) b n (best (probs (B1 m d) b n)) ?_
  rw [spread1_at, hw, ofNat_class]

theorem delta_of (b : Fin 8) (n : Fin 1000) (i : Fin 4) : (atDelta m d (Proc.devRef .tc main_v5) : FVec Ideal S8x1000x1x4 .f32) (ix4 b n 0 i) = delta (B1 m d) (B2 m d) b n i := by
  unfold atDelta
  rw [delta_eq]
  have ha : atTake m d (Proc.devRef .tc main_arg2) = B2 m d := (after_of_writes_sub takeOps _ takeOps_writes (by decide)).trans (after_of_writes_sub pickOps _ pickOps_writes (by decide))
  rw [ha, word_kept_take m d]
  have hl := word_lt m d
  have hw := word_of m d b n
  generalize (atPick m d (Proc.devRef .tc main_v0) : IVec S8x1000 32) = w at hl hw ⊢
  refine takeD_of (B2 m d) _ _ (spread2_lt w hl) b n i (best (probs (B1 m d) b n)) ?_
  rw [spread2_at, hw, ofNat_class]

theorem box_of : box (atDelta m d) = B0 m d :=
  (after_of_writes_sub deltaOps _ deltaOps_writes (by decide)).trans ((after_of_writes_sub takeOps _ takeOps_writes (by decide)).trans (after_of_writes_sub pickOps _ pickOps_writes (by decide)))

theorem weight_of (i : Fin 4) : (atDelta m d (Proc.devRef .tc main_cst) : FVec Ideal S4 .f32) (ix1 i) = FloatOps.ofBits (F := Ideal) .f32 (lit0 i) := by
  have h : atDelta m d (Proc.devRef .tc main_cst) = atPick m d (Proc.devRef .tc main_cst) :=
    (after_of_writes_sub deltaOps _ deltaOps_writes (by decide)).trans (after_of_writes_sub takeOps _ takeOps_writes (by decide))
  rw [h]
  unfold atPick
  rw [pick_cst]
  exact congrArg (fun k => FloatOps.ofBits (F := Ideal) .f32 (lit0 k)) (Fin.ext (rowMajor_val1 _))

theorem wd_of (b : Fin 8) (n : Fin 1000) (i : Fin 4) : wd (atDelta m d) (ix3 b n i) = FloatOps.mulf (F := Ideal) (φ := .f32) (delta (B1 m d) (B2 m d) b n i) (lit (lit0 i)) :=
  (weighted_at _ _ b n i).trans (congrArg₂ (FloatOps.mulf (F := Ideal) (φ := .f32)) (delta_of m d b n i) (weight_of m d i))

theorem top_of (b : Fin 8) (n : Fin 1000) : (atClip m d (Proc.devRef .tc main_v58) : V2) (ix2 b n)
    = low (B0 m d (ix3 b n 0)) (B0 m d (ix3 b n 2)) (delta (B1 m d) (B2 m d) b n 0) (delta (B1 m d) (B2 m d) b n 2) := by
  unfold atClip
  rw [clip_top]
  unfold atDecode
  rw [decode_top, decode_zero, decode_unit]
  refine (low_at _ _ _ _ _ _ rfl rfl (ix2 b n) _ _ ((col0_at _ b n).trans (wd_of m d b n 0)) ((col2_at _ b n).trans (wd_of m d b n 2))).trans ?_
  rw [col0_at, col2_at, box_of]

theorem left_of (b : Fin 8) (n : Fin 1000) : (atClip m d (Proc.devRef .tc main_v59) : V2) (ix2 b n)
    = low (B0 m d (ix3 b n 1)) (B0 m d (ix3 b n 3)) (delta (B1 m d) (B2 m d) b n 1) (delta (B1 m d) (B2 m d) b n 3) := by
  unfold atClip
  rw [clip_left]
  unfold atDecode
  rw [decode_left]
  refine (low_at _ _ _ _ _ _ rfl rfl (ix2 b n) _ _ ((col1_at _ b n).trans (wd_of m d b n 1)) ((col3_at _ b n).trans (wd_of m d b n 3))).trans ?_
  rw [col1_at, col3_at, box_of]

theorem bottom_of (b : Fin 8) (n : Fin 1000) : (atClip m d (Proc.devRef .tc main_v60) : V2) (ix2 b n)
    = high (B0 m d (ix3 b n 0)) (B0 m d (ix3 b n 2)) (delta (B1 m d) (B2 m d) b n 0) (delta (B1 m d) (B2 m d) b n 2) := by
  unfold atClip
  rw [clip_bottom]
  unfold atDecode
  rw [decode_bottom]
  refine (high_at _ _ _ _ _ _ rfl rfl (ix2 b n) _ _ ((col0_at _ b n).trans (wd_of m d b n 0)) ((col2_at _ b n).trans (wd_of m d b n 2))).trans ?_
  rw [col0_at, col2_at, box_of]

theorem right_of (b : Fin 8) (n : Fin 1000) : (atClip m d (Proc.devRef .tc main_v61) : V2) (ix2 b n)
    = high (B0 m d (ix3 b n 1)) (B0 m d (ix3 b n 3)) (delta (B1 m d) (B2 m d) b n 1) (delta (B1 m d) (B2 m d) b n 3) := by
  unfold atClip
  rw [clip_right]
  unfold atDecode
  rw [decode_right]
  refine (high_at _ _ _ _ _ _ rfl rfl (ix2 b n) _ _ ((col1_at _ b n).trans (wd_of m d b n 1)) ((col3_at _ b n).trans (wd_of m d b n 3))).trans ?_
  rw [col1_at, col3_at, box_of]

theorem score_of (b : Fin 8) (n : Fin 1000) : (atValid m d (Proc.devRef .tc main_v67) : V2) (ix2 b n) = scoreOf (probs (B1 m d) b n) := by
  unfold atValid
  rw [valid_eq, word_kept_clip]
  have hp : atClip m d (Proc.devRef .tc main_v3) = atDelta m d (Proc.devRef .tc main_v3) :=
    (after_of_writes_sub clipOps _ clipOps_writes (by decide)).trans (after_of_writes_sub decodeOps _ decodeOps_writes (by decide))
  rw [hp]
  have e : ∀ (w : IVec S8x1000 32) (p : V2), validV w p (ix2 b n)
      = Scalar.select (IntOp.cmpi .sgt (w (ix2 b n)) 0#32 &&& FloatOps.cmpf (F := Ideal) (φ := .f32) .oge (p (ix2 b n)) (lit 0x3F333333#32)) (p (ix2 b n)) (lit 0xBF800000#32) := fun _ _ => rfl
  rw [e, word_of, prob_of]
  rfl

theorem value_top : atPad m d (Proc.devRef .tc main_v69) = tops (B0 m d) (B1 m d) (B2 m d) := by
  unfold atPad
  rw [pad_top, show atValid m d (Proc.devRef .tc main_v58) = atClip m d (Proc.devRef .tc main_v58) from after_of_writes_sub validOps _ validOps_writes (by decide)]
  exact out_at _ _ _ _ (top_of m d) fun _ => rfl

theorem value_left : atPad m d (Proc.devRef .tc main_v71) = lefts (B0 m d) (B1 m d) (B2 m d) := by
  unfold atPad
  rw [pad_left, show atValid m d (Proc.devRef .tc main_v59) = atClip m d (Proc.devRef .tc main_v59) from after_of_writes_sub validOps _ validOps_writes (by decide)]
  exact out_at _ _ _ _ (left_of m d) fun _ => rfl

theorem value_bottom : atPad m d (Proc.devRef .tc main_v73) = bottoms (B0 m d) (B1 m d) (B2 m d) := by
  unfold atPad
  rw [pad_bottom, show atValid m d (Proc.devRef .tc main_v60) = atClip m d (Proc.devRef .tc main_v60) from after_of_writes_sub validOps _ validOps_writes (by decide)]
  exact out_at _ _ _ _ (bottom_of m d) fun _ => rfl

theorem value_right : atPad m d (Proc.devRef .tc main_v75) = rights (B0 m d) (B1 m d) (B2 m d) := by
  unfold atPad
  rw [pad_right, show atValid m d (Proc.devRef .tc main_v61) = atClip m d (Proc.devRef .tc main_v61) from after_of_writes_sub validOps _ validOps_writes (by decide)]
  exact out_at _ _ _ _ (right_of m d) fun _ => rfl

theorem value_score : atPad m d (Proc.devRef .tc main_v77) = scores (B1 m d) := by
  unfold atPad
  rw [pad_score]
  exact out_at _ _ _ _ (score_of m d) fun _ => rfl

theorem value_class : atPad m d (Proc.devRef .tc main_v80) = classes (B1 m d) := by
  unfold atPad
  rw [pad_class, word_kept_valid]
  refine out_at _ _ _ _ (fun b n => ?_) fun _ => rfl
  show FloatOps.sitofp (F := Ideal) .f32 ((atPick m d (Proc.devRef .tc main_v0) : IVec S8x1000 32) (ix2 b n)) = classOf (probs (B1 m d) b n)
  rw [word_of]
  rfl

end Results

end Cert.Proof.DenseRef

end
-- ==== Proof.DenseEqual.lean ====
/-
  The dense call and the dense reference give the same six results.
-/
module

public import proofs.«01_k».proof.Defs
public import proofs.«01_k».proof.Proof.DenseArray
public import proofs.«01_k».proof.Proof.DenseRef

@[expose] public section

set_option maxRecDepth 100000

noncomputable section

namespace Cert.Proof.DenseEqual

open Idealize.ShloMosaic Idealize.SL.Sem
open Cert.Proof.DenseSpec

theorem algebraic : Cert.algebraic_DenseIdeal_DenseReferenceIdeal (hDenseIdeal := Cert.DenseIdeal.Gen.facts)
    (hDenseReferenceIdeal := Cert.DenseReferenceIdeal.Gen.facts) := fun m g m' g' _ hargs => by
  have h0 : ∀ c, DenseRef.B0 m' c = DenseArray.A0 m c := fun c => (hargs c).1
  have h1 : ∀ c, DenseRef.B1 m' c = DenseArray.A1 m c := fun c => (hargs c).2.1
  have h2 : ∀ c, DenseRef.B2 m' c = DenseArray.A2 m c := fun c => (hargs c).2.2
  refine ⟨fun c => scores (DenseArray.A1 m c), fun c => tops (DenseArray.A0 m c) (DenseArray.A1 m c) (DenseArray.A2 m c),
    fun c => lefts (DenseArray.A0 m c) (DenseArray.A1 m c) (DenseArray.A2 m c), fun c => bottoms (DenseArray.A0 m c) (DenseArray.A1 m c) (DenseArray.A2 m c),
    fun c => rights (DenseArray.A0 m c) (DenseArray.A1 m c) (DenseArray.A2 m c), fun c => classes (DenseArray.A1 m c), ?_, ?_⟩
  · refine (θ_run Cert.DenseIdeal.defs _ _).mono (fun _ h c => ?_) (Cert.DenseIdeal.Value.run_blocks (F := Ideal) m g)
    obtain ⟨e0, e1, e2, e3, e4, e5, kept⟩ := h c
    exact ⟨e0.trans (DenseArray.final_score m c), e1.trans (DenseArray.final_top m c), e2.trans (DenseArray.final_left m c),
      e3.trans (DenseArray.final_bottom m c), e4.trans (DenseArray.final_right m c), e5.trans (DenseArray.final_class m c), kept⟩
  · refine (θ_run Cert.DenseReferenceIdeal.defs _ _).mono (fun _ h c => ?_) (DenseFrame.run_ref (F := Ideal) m' g')
    refine ⟨(h c _).trans ((DenseRef.value_score m' c).trans ?_), (h c _).trans ((DenseRef.value_top m' c).trans ?_), (h c _).trans ((DenseRef.value_left m' c).trans ?_),
      (h c _).trans ((DenseRef.value_bottom m' c).trans ?_), (h c _).trans ((DenseRef.value_right m' c).trans ?_), (h c _).trans ((DenseRef.value_class m' c).trans ?_),
      (h c _).trans (DenseFrame.kept m' c _ (by decide) (by decide) (by decide) (by decide) (by decide) (by decide) (by decide)),
      (h c _).trans (DenseFrame.kept m' c _ (by decide) (by decide) (by decide) (by decide) (by decide) (by decide) (by decide)),
      (h c _).trans (DenseFrame.kept m' c _ (by decide) (by decide) (by decide) (by decide) (by decide) (by decide) (by decide))⟩
    · rw [h1]
    · rw [h0, h1, h2]
    · rw [h0, h1, h2]
    · rw [h0, h1, h2]
    · rw [h0, h1, h2]
    · rw [h1]

end Cert.Proof.DenseEqual

end
-- ==== Proof.lean ====
/- The claims together, for the SparseCore call and for the dense call: the frames, the ideal readings, and the equalities with the references. -/
module

public import proofs.«01_k».proof.Defs
public import proofs.«01_k».proof.Proof.Gen.DenseIdeal.Value
public import proofs.«01_k».proof.Proof.Gen.Dense.Frame
public import proofs.«01_k».proof.Proof.Gen.DenseReferenceIdeal
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Conv
public import proofs.«01_k».proof.Proof.Equal
public import proofs.«01_k».proof.Proof.DenseEqual
public import proofs.«01_k».proof.Proof.Gen.Pre_ids
public import proofs.«01_k».proof.Proof.Gen.Pre_pre
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Dense.Gen.facts, Cert.DenseIdeal.Gen.facts, Cert.DenseReferenceIdeal.Gen.facts, Cert.Pre_ids.Gen.facts, Cert.Pre_pre.Gen.facts,
  Conv.frame_kernel, Conv.frame_kernelIdeal, Conv.frame_kernelIdeal_pre, Conv.frame_referenceIdeal, Equal.frame_reference_pre,
  fun m ρ _ => Cert.Dense.Gen.frame m ρ, fun m ρ _ => Cert.DenseIdeal.Gen.frame m ρ, fun m ρ _ => DenseFrame.frame m ρ,
  trivial, Equal.algebraic, trivial, DenseEqual.algebraic⟩

end Cert.Proof

end
